-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_bias_above_mask [hPre_bias_above_mask : Cert.Pre_bias_above_mask.Facts] (m : (ℓ : Loc Cert.SwaIdeal.nD Cert.SwaIdeal.τ Cert.SwaIdeal.sig) → Buf (Elt Ideal) ℓ) : Prop :=
  ∀ c : Dev Cert.SwaIdeal.nD,
    (Cert.Pre_bias_above_mask.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_bias_above_mask [hPre_bias_above_mask : Cert.Pre_bias_above_mask.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_bias_above_mask.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_OddS (m : (ℓ : Loc Cert.OddS.nD Cert.OddS.τ Cert.OddS.sig) → Buf (Elt Bits) ℓ) : Prop :=
  True

def Pre_OddSIdeal (m : (ℓ : Loc Cert.OddSIdeal.nD Cert.OddSIdeal.τ Cert.OddSIdeal.sig) → Buf (Elt Ideal) ℓ) : Prop :=
  True

def Pre_OddSRefIdeal (m : (ℓ : Loc Cert.OddSRefIdeal.nD Cert.OddSRefIdeal.τ Cert.OddSRefIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def Pre_FfnE (m : (ℓ : Loc Cert.FfnE.nD Cert.FfnE.τ Cert.FfnE.sig) → Buf (Elt Bits) ℓ) : Prop :=
  True

def Pre_FfnEIdeal (m : (ℓ : Loc Cert.FfnEIdeal.nD Cert.FfnEIdeal.τ Cert.FfnEIdeal.sig) → Buf (Elt Ideal) ℓ) : Prop :=
  True

def Pre_FfnERefIdeal (m : (ℓ : Loc Cert.FfnERefIdeal.nD Cert.FfnERefIdeal.τ Cert.FfnERefIdeal.sig) → Buf (Elt Ideal) ℓ) : Prop :=
  True

def Pre_FfnES (m : (ℓ : Loc Cert.FfnES.nD Cert.FfnES.τ Cert.FfnES.sig) → Buf (Elt Bits) ℓ) : Prop :=
  True

def Pre_FfnESIdeal (m : (ℓ : Loc Cert.FfnESIdeal.nD Cert.FfnESIdeal.τ Cert.FfnESIdeal.sig) → Buf (Elt Ideal) ℓ) : Prop :=
  True

def Pre_FfnESRefIdeal (m : (ℓ : Loc Cert.FfnESRefIdeal.nD Cert.FfnESRefIdeal.τ Cert.FfnESRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_heads [hPre_finite_heads : Cert.Pre_finite_heads.Facts] (m : (ℓ : Loc Cert.PostIdeal.nD Cert.PostIdeal.τ Cert.PostIdeal.sig) → Buf (Elt Ideal) ℓ) : Prop :=
  ∀ c : Dev Cert.PostIdeal.nD,
    (Cert.Pre_finite_heads.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_finite_heads [hPre_finite_heads : Cert.Pre_finite_heads.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_finite_heads.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7))) = (fun _ => 1#1)

def Pre_PostS (m : (ℓ : Loc Cert.PostS.nD Cert.PostS.τ Cert.PostS.sig) → Buf (Elt Bits) ℓ) : Prop :=
  True

def Pre_PostSIdeal (m : (ℓ : Loc Cert.PostSIdeal.nD Cert.PostSIdeal.τ Cert.PostSIdeal.sig) → Buf (Elt Ideal) ℓ) : Prop :=
  True

def Pre_PostSIdeal_finite_heads_sample [hPre_finite_heads_sample : Cert.Pre_finite_heads_sample.Facts] (m : (ℓ : Loc Cert.PostSIdeal.nD Cert.PostSIdeal.τ Cert.PostSIdeal.sig) → Buf (Elt Ideal) ℓ) : Prop :=
  ∀ c : Dev Cert.PostSIdeal.nD,
    (Cert.Pre_finite_heads_sample.fn (F := Ideal) (m ((c.tc : Thread Cert.PostSIdeal.nD Cert.PostSIdeal.τ).loc Cert.PostSIdeal.main_arg0)) (m ((c.tc : Thread Cert.PostSIdeal.nD Cert.PostSIdeal.τ).loc Cert.PostSIdeal.main_arg1)) (m ((c.tc : Thread Cert.PostSIdeal.nD Cert.PostSIdeal.τ).loc Cert.PostSIdeal.main_arg2)) (m ((c.tc : Thread Cert.PostSIdeal.nD Cert.PostSIdeal.τ).loc Cert.PostSIdeal.main_arg3)) (m ((c.tc : Thread Cert.PostSIdeal.nD Cert.PostSIdeal.τ).loc Cert.PostSIdeal.main_arg4)) (m ((c.tc : Thread Cert.PostSIdeal.nD Cert.PostSIdeal.τ).loc Cert.PostSIdeal.main_arg5)) (m ((c.tc : Thread Cert.PostSIdeal.nD Cert.PostSIdeal.τ).loc Cert.PostSIdeal.main_arg6)) (m ((c.tc : Thread Cert.PostSIdeal.nD Cert.PostSIdeal.τ).loc Cert.PostSIdeal.main_arg7))) = (fun _ => 1#1)

def Pre_PostSRefIdeal (m : (ℓ : Loc Cert.PostSRefIdeal.nD Cert.PostSRefIdeal.τ Cert.PostSRefIdeal.sig) → Buf (Elt Ideal) ℓ) : Prop :=
  True

def Pre_PostSRefIdeal_finite_heads_sample [hPre_finite_heads_sample : Cert.Pre_finite_heads_sample.Facts] (m : (ℓ : Loc Cert.PostSRefIdeal.nD Cert.PostSRefIdeal.τ Cert.PostSRefIdeal.sig) → Buf (Elt Ideal) ℓ) : Prop :=
  ∀ c : Dev Cert.PostSRefIdeal.nD,
    (Cert.Pre_finite_heads_sample.fn (F := Ideal) (m ((c.tc : Thread Cert.PostSRefIdeal.nD Cert.PostSRefIdeal.τ).loc Cert.PostSRefIdeal.main_arg0)) (m ((c.tc : Thread Cert.PostSRefIdeal.nD Cert.PostSRefIdeal.τ).loc Cert.PostSRefIdeal.main_arg1)) (m ((c.tc : Thread Cert.PostSRefIdeal.nD Cert.PostSRefIdeal.τ).loc Cert.PostSRefIdeal.main_arg2)) (m ((c.tc : Thread Cert.PostSRefIdeal.nD Cert.PostSRefIdeal.τ).loc Cert.PostSRefIdeal.main_arg3)) (m ((c.tc : Thread Cert.PostSRefIdeal.nD Cert.PostSRefIdeal.τ).loc Cert.PostSRefIdeal.main_arg4)) (m ((c.tc : Thread Cert.PostSRefIdeal.nD Cert.PostSRefIdeal.τ).loc Cert.PostSRefIdeal.main_arg5)) (m ((c.tc : Thread Cert.PostSRefIdeal.nD Cert.PostSRefIdeal.τ).loc Cert.PostSRefIdeal.main_arg6)) (m ((c.tc : Thread Cert.PostSRefIdeal.nD Cert.PostSRefIdeal.τ).loc Cert.PostSRefIdeal.main_arg7))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_prep [hPre_finite_prep : Cert.Pre_finite_prep.Facts] (m : (ℓ : Loc Cert.PrepIdeal.nD Cert.PrepIdeal.τ Cert.PrepIdeal.sig) → Buf (Elt Ideal) ℓ) : Prop :=
  ∀ c : Dev Cert.PrepIdeal.nD,
    (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9)) (m ((c.tc : Thread Cert.PrepIdeal.nD Cert.PrepIdeal.τ).loc Cert.PrepIdeal.main_arg10)) (m ((c.tc : Thread Cert.PrepIdeal.nD Cert.PrepIdeal.τ).loc Cert.PrepIdeal.main_arg11)) (m ((c.tc : Thread Cert.PrepIdeal.nD Cert.PrepIdeal.τ).loc Cert.PrepIdeal.main_arg12)) (m ((c.tc : Thread Cert.PrepIdeal.nD Cert.PrepIdeal.τ).loc Cert.PrepIdeal.main_arg13)) (m ((c.tc : Thread Cert.PrepIdeal.nD Cert.PrepIdeal.τ).loc Cert.PrepIdeal.main_arg14)) (m ((c.tc : Thread Cert.PrepIdeal.nD Cert.PrepIdeal.τ).loc Cert.PrepIdeal.main_arg15))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_prep [hPre_finite_prep : Cert.Pre_finite_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9)) (m ((c.tc : Thread Cert.PrepRefIdeal.nD Cert.PrepRefIdeal.τ).loc Cert.PrepRefIdeal.main_arg10)) (m ((c.tc : Thread Cert.PrepRefIdeal.nD Cert.PrepRefIdeal.τ).loc Cert.PrepRefIdeal.main_arg11)) (m ((c.tc : Thread Cert.PrepRefIdeal.nD Cert.PrepRefIdeal.τ).loc Cert.PrepRefIdeal.main_arg12)) (m ((c.tc : Thread Cert.PrepRefIdeal.nD Cert.PrepRefIdeal.τ).loc Cert.PrepRefIdeal.main_arg13)) (m ((c.tc : Thread Cert.PrepRefIdeal.nD Cert.PrepRefIdeal.τ).loc Cert.PrepRefIdeal.main_arg14)) (m ((c.tc : Thread Cert.PrepRefIdeal.nD Cert.PrepRefIdeal.τ).loc Cert.PrepRefIdeal.main_arg15))) = (fun _ => 1#1)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaIdeal_pre_bias_above_mask [hSwaIdeal : Cert.SwaIdeal.Facts] [hPre_bias_above_mask : Cert.Pre_bias_above_mask.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_bias_above_mask m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_bias_above_mask [hSwaRefIdeal : Cert.SwaRefIdeal.Facts] [hPre_bias_above_mask : Cert.Pre_bias_above_mask.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_bias_above_mask m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0)

def quiescent_OddS [hOddS : Cert.OddS.Facts] : Prop :=
  ∀ (m : (ℓ : Loc Cert.OddS.nD Cert.OddS.τ Cert.OddS.sig) → Buf (Elt Bits) ℓ) (g : Dev Cert.OddS.nD → PrngReg), Pre_OddS m →
    θ_run (Cert.OddS.defs (F := Bits)) (onTc (τ := Cert.OddS.τ) (Cert.OddS.main (F := Bits))) ⟨m, fun _ => 0, g⟩ (fun r => (∀ c : Dev Cert.OddS.nD,
      r.2.mem ((c.tc : Thread Cert.OddS.nD Cert.OddS.τ).loc Cert.OddS.main_arg0) = m ((c.tc : Thread Cert.OddS.nD Cert.OddS.τ).loc Cert.OddS.main_arg0)
      ∧ r.2.mem ((c.tc : Thread Cert.OddS.nD Cert.OddS.τ).loc Cert.OddS.main_arg1) = m ((c.tc : Thread Cert.OddS.nD Cert.OddS.τ).loc Cert.OddS.main_arg1)
      ∧ r.2.mem ((c.tc : Thread Cert.OddS.nD Cert.OddS.τ).loc Cert.OddS.main_arg2) = m ((c.tc : Thread Cert.OddS.nD Cert.OddS.τ).loc Cert.OddS.main_arg2))
      ∧ r.2.sem = fun _ => 0)

def quiescent_OddSIdeal [hOddSIdeal : Cert.OddSIdeal.Facts] : Prop :=
  ∀ (m : (ℓ : Loc Cert.OddSIdeal.nD Cert.OddSIdeal.τ Cert.OddSIdeal.sig) → Buf (Elt Ideal) ℓ) (g : Dev Cert.OddSIdeal.nD → PrngReg), Pre_OddSIdeal m →
    θ_run (Cert.OddSIdeal.defs (F := Ideal)) (onTc (τ := Cert.OddSIdeal.τ) (Cert.OddSIdeal.main (F := Ideal))) ⟨m, fun _ => 0, g⟩ (fun r => (∀ c : Dev Cert.OddSIdeal.nD,
      r.2.mem ((c.tc : Thread Cert.OddSIdeal.nD Cert.OddSIdeal.τ).loc Cert.OddSIdeal.main_arg0) = m ((c.tc : Thread Cert.OddSIdeal.nD Cert.OddSIdeal.τ).loc Cert.OddSIdeal.main_arg0)
      ∧ r.2.mem ((c.tc : Thread Cert.OddSIdeal.nD Cert.OddSIdeal.τ).loc Cert.OddSIdeal.main_arg1) = m ((c.tc : Thread Cert.OddSIdeal.nD Cert.OddSIdeal.τ).loc Cert.OddSIdeal.main_arg1)
      ∧ r.2.mem ((c.tc : Thread Cert.OddSIdeal.nD Cert.OddSIdeal.τ).loc Cert.OddSIdeal.main_arg2) = m ((c.tc : Thread Cert.OddSIdeal.nD Cert.OddSIdeal.τ).loc Cert.OddSIdeal.main_arg2))
      ∧ r.2.sem = fun _ => 0)

def quiescent_OddSRefIdeal [hOddSRefIdeal : Cert.OddSRefIdeal.Facts] : Prop :=
  ∀ (m : (ℓ : Loc Cert.OddSRefIdeal.nD Cert.OddSRefIdeal.τ Cert.OddSRefIdeal.sig) → Buf (Elt Ideal) ℓ) (g : Dev Cert.OddSRefIdeal.nD → PrngReg), Pre_OddSRefIdeal m →
    θ_run (Cert.OddSRefIdeal.defs (F := Ideal)) (onTc (τ := Cert.OddSRefIdeal.τ) (Cert.OddSRefIdeal.main (F := Ideal))) ⟨m, fun _ => 0, g⟩ (fun r => (∀ c : Dev Cert.OddSRefIdeal.nD,
      r.2.mem ((c.tc : Thread Cert.OddSRefIdeal.nD Cert.OddSRefIdeal.τ).loc Cert.OddSRefIdeal.main_arg0) = m ((c.tc : Thread Cert.OddSRefIdeal.nD Cert.OddSRefIdeal.τ).loc Cert.OddSRefIdeal.main_arg0)
      ∧ r.2.mem ((c.tc : Thread Cert.OddSRefIdeal.nD Cert.OddSRefIdeal.τ).loc Cert.OddSRefIdeal.main_arg1) = m ((c.tc : Thread Cert.OddSRefIdeal.nD Cert.OddSRefIdeal.τ).loc Cert.OddSRefIdeal.main_arg1)
      ∧ r.2.mem ((c.tc : Thread Cert.OddSRefIdeal.nD Cert.OddSRefIdeal.τ).loc Cert.OddSRefIdeal.main_arg2) = m ((c.tc : Thread Cert.OddSRefIdeal.nD Cert.OddSRefIdeal.τ).loc Cert.OddSRefIdeal.main_arg2))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2)
      ∧ r.2.mem ((c.tc : Thread Cert.OutS.nD Cert.OutS.τ).loc Cert.OutS.main_arg3) = m ((c.tc : Thread Cert.OutS.nD Cert.OutS.τ).loc Cert.OutS.main_arg3))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
      ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2)
      ∧ r.2.mem ((c.tc : Thread Cert.OutSRefIdeal.nD Cert.OutSRefIdeal.τ).loc Cert.OutSRefIdeal.main_arg3) = m ((c.tc : Thread Cert.OutSRefIdeal.nD Cert.OutSRefIdeal.τ).loc Cert.OutSRefIdeal.main_arg3))
      ∧ r.2.sem = fun _ => 0)

def quiescent_FfnE [hFfnE : Cert.FfnE.Facts] : Prop :=
  ∀ (m : (ℓ : Loc Cert.FfnE.nD Cert.FfnE.τ Cert.FfnE.sig) → Buf (Elt Bits) ℓ) (g : Dev Cert.FfnE.nD → PrngReg), Pre_FfnE m →
    θ_run (Cert.FfnE.defs (F := Bits)) (onTc (τ := Cert.FfnE.τ) (Cert.FfnE.main (F := Bits))) ⟨m, fun _ => 0, g⟩ (fun r => (∀ c : Dev Cert.FfnE.nD,
      r.2.mem ((c.tc : Thread Cert.FfnE.nD Cert.FfnE.τ).loc Cert.FfnE.main_arg0) = m ((c.tc : Thread Cert.FfnE.nD Cert.FfnE.τ).loc Cert.FfnE.main_arg0)
      ∧ r.2.mem ((c.tc : Thread Cert.FfnE.nD Cert.FfnE.τ).loc Cert.FfnE.main_arg1) = m ((c.tc : Thread Cert.FfnE.nD Cert.FfnE.τ).loc Cert.FfnE.main_arg1)
      ∧ r.2.mem ((c.tc : Thread Cert.FfnE.nD Cert.FfnE.τ).loc Cert.FfnE.main_arg2) = m ((c.tc : Thread Cert.FfnE.nD Cert.FfnE.τ).loc Cert.FfnE.main_arg2)
      ∧ r.2.mem ((c.tc : Thread Cert.FfnE.nD Cert.FfnE.τ).loc Cert.FfnE.main_arg3) = m ((c.tc : Thread Cert.FfnE.nD Cert.FfnE.τ).loc Cert.FfnE.main_arg3)
      ∧ r.2.mem ((c.tc : Thread Cert.FfnE.nD Cert.FfnE.τ).loc Cert.FfnE.main_arg4) = m ((c.tc : Thread Cert.FfnE.nD Cert.FfnE.τ).loc Cert.FfnE.main_arg4)
      ∧ r.2.mem ((c.tc : Thread Cert.FfnE.nD Cert.FfnE.τ).loc Cert.FfnE.main_arg5) = m ((c.tc : Thread Cert.FfnE.nD Cert.FfnE.τ).loc Cert.FfnE.main_arg5))
      ∧ r.2.sem = fun _ => 0)

def quiescent_FfnEIdeal [hFfnEIdeal : Cert.FfnEIdeal.Facts] : Prop :=
  ∀ (m : (ℓ : Loc Cert.FfnEIdeal.nD Cert.FfnEIdeal.τ Cert.FfnEIdeal.sig) → Buf (Elt Ideal) ℓ) (g : Dev Cert.FfnEIdeal.nD → PrngReg), Pre_FfnEIdeal m →
    θ_run (Cert.FfnEIdeal.defs (F := Ideal)) (onTc (τ := Cert.FfnEIdeal.τ) (Cert.FfnEIdeal.main (F := Ideal))) ⟨m, fun _ => 0, g⟩ (fun r => (∀ c : Dev Cert.FfnEIdeal.nD,
      r.2.mem ((c.tc : Thread Cert.FfnEIdeal.nD Cert.FfnEIdeal.τ).loc Cert.FfnEIdeal.main_arg0) = m ((c.tc : Thread Cert.FfnEIdeal.nD Cert.FfnEIdeal.τ).loc Cert.FfnEIdeal.main_arg0)
      ∧ r.2.mem ((c.tc : Thread Cert.FfnEIdeal.nD Cert.FfnEIdeal.τ).loc Cert.FfnEIdeal.main_arg1) = m ((c.tc : Thread Cert.FfnEIdeal.nD Cert.FfnEIdeal.τ).loc Cert.FfnEIdeal.main_arg1)
      ∧ r.2.mem ((c.tc : Thread Cert.FfnEIdeal.nD Cert.FfnEIdeal.τ).loc Cert.FfnEIdeal.main_arg2) = m ((c.tc : Thread Cert.FfnEIdeal.nD Cert.FfnEIdeal.τ).loc Cert.FfnEIdeal.main_arg2)
      ∧ r.2.mem ((c.tc : Thread Cert.FfnEIdeal.nD Cert.FfnEIdeal.τ).loc Cert.FfnEIdeal.main_arg3) = m ((c.tc : Thread Cert.FfnEIdeal.nD Cert.FfnEIdeal.τ).loc Cert.FfnEIdeal.main_arg3)
      ∧ r.2.mem ((c.tc : Thread Cert.FfnEIdeal.nD Cert.FfnEIdeal.τ).loc Cert.FfnEIdeal.main_arg4) = m ((c.tc : Thread Cert.FfnEIdeal.nD Cert.FfnEIdeal.τ).loc Cert.FfnEIdeal.main_arg4)
      ∧ r.2.mem ((c.tc : Thread Cert.FfnEIdeal.nD Cert.FfnEIdeal.τ).loc Cert.FfnEIdeal.main_arg5) = m ((c.tc : Thread Cert.FfnEIdeal.nD Cert.FfnEIdeal.τ).loc Cert.FfnEIdeal.main_arg5))
      ∧ r.2.sem = fun _ => 0)

def quiescent_FfnERefIdeal [hFfnERefIdeal : Cert.FfnERefIdeal.Facts] : Prop :=
  ∀ (m : (ℓ : Loc Cert.FfnERefIdeal.nD Cert.FfnERefIdeal.τ Cert.FfnERefIdeal.sig) → Buf (Elt Ideal) ℓ) (g : Dev Cert.FfnERefIdeal.nD → PrngReg), Pre_FfnERefIdeal m →
    θ_run (Cert.FfnERefIdeal.defs (F := Ideal)) (onTc (τ := Cert.FfnERefIdeal.τ) (Cert.FfnERefIdeal.main (F := Ideal))) ⟨m, fun _ => 0, g⟩ (fun r => (∀ c : Dev Cert.FfnERefIdeal.nD,
      r.2.mem ((c.tc : Thread Cert.FfnERefIdeal.nD Cert.FfnERefIdeal.τ).loc Cert.FfnERefIdeal.main_arg0) = m ((c.tc : Thread Cert.FfnERefIdeal.nD Cert.FfnERefIdeal.τ).loc Cert.FfnERefIdeal.main_arg0)
      ∧ r.2.mem ((c.tc : Thread Cert.FfnERefIdeal.nD Cert.FfnERefIdeal.τ).loc Cert.FfnERefIdeal.main_arg1) = m ((c.tc : Thread Cert.FfnERefIdeal.nD Cert.FfnERefIdeal.τ).loc Cert.FfnERefIdeal.main_arg1)
      ∧ r.2.mem ((c.tc : Thread Cert.FfnERefIdeal.nD Cert.FfnERefIdeal.τ).loc Cert.FfnERefIdeal.main_arg2) = m ((c.tc : Thread Cert.FfnERefIdeal.nD Cert.FfnERefIdeal.τ).loc Cert.FfnERefIdeal.main_arg2)
      ∧ r.2.mem ((c.tc : Thread Cert.FfnERefIdeal.nD Cert.FfnERefIdeal.τ).loc Cert.FfnERefIdeal.main_arg3) = m ((c.tc : Thread Cert.FfnERefIdeal.nD Cert.FfnERefIdeal.τ).loc Cert.FfnERefIdeal.main_arg3)
      ∧ r.2.mem ((c.tc : Thread Cert.FfnERefIdeal.nD Cert.FfnERefIdeal.τ).loc Cert.FfnERefIdeal.main_arg4) = m ((c.tc : Thread Cert.FfnERefIdeal.nD Cert.FfnERefIdeal.τ).loc Cert.FfnERefIdeal.main_arg4)
      ∧ r.2.mem ((c.tc : Thread Cert.FfnERefIdeal.nD Cert.FfnERefIdeal.τ).loc Cert.FfnERefIdeal.main_arg5) = m ((c.tc : Thread Cert.FfnERefIdeal.nD Cert.FfnERefIdeal.τ).loc Cert.FfnERefIdeal.main_arg5))
      ∧ r.2.sem = fun _ => 0)

def quiescent_FfnES [hFfnES : Cert.FfnES.Facts] : Prop :=
  ∀ (m : (ℓ : Loc Cert.FfnES.nD Cert.FfnES.τ Cert.FfnES.sig) → Buf (Elt Bits) ℓ) (g : Dev Cert.FfnES.nD → PrngReg), Pre_FfnES m →
    θ_run (Cert.FfnES.defs (F := Bits)) (onTc (τ := Cert.FfnES.τ) (Cert.FfnES.main (F := Bits))) ⟨m, fun _ => 0, g⟩ (fun r => (∀ c : Dev Cert.FfnES.nD,
      r.2.mem ((c.tc : Thread Cert.FfnES.nD Cert.FfnES.τ).loc Cert.FfnES.main_arg0) = m ((c.tc : Thread Cert.FfnES.nD Cert.FfnES.τ).loc Cert.FfnES.main_arg0)
      ∧ r.2.mem ((c.tc : Thread Cert.FfnES.nD Cert.FfnES.τ).loc Cert.FfnES.main_arg1) = m ((c.tc : Thread Cert.FfnES.nD Cert.FfnES.τ).loc Cert.FfnES.main_arg1)
      ∧ r.2.mem ((c.tc : Thread Cert.FfnES.nD Cert.FfnES.τ).loc Cert.FfnES.main_arg2) = m ((c.tc : Thread Cert.FfnES.nD Cert.FfnES.τ).loc Cert.FfnES.main_arg2)
      ∧ r.2.mem ((c.tc : Thread Cert.FfnES.nD Cert.FfnES.τ).loc Cert.FfnES.main_arg3) = m ((c.tc : Thread Cert.FfnES.nD Cert.FfnES.τ).loc Cert.FfnES.main_arg3)
      ∧ r.2.mem ((c.tc : Thread Cert.FfnES.nD Cert.FfnES.τ).loc Cert.FfnES.main_arg4) = m ((c.tc : Thread Cert.FfnES.nD Cert.FfnES.τ).loc Cert.FfnES.main_arg4)
      ∧ r.2.mem ((c.tc : Thread Cert.FfnES.nD Cert.FfnES.τ).loc Cert.FfnES.main_arg5) = m ((c.tc : Thread Cert.FfnES.nD Cert.FfnES.τ).loc Cert.FfnES.main_arg5))
      ∧ r.2.sem = fun _ => 0)

def quiescent_FfnESIdeal [hFfnESIdeal : Cert.FfnESIdeal.Facts] : Prop :=
  ∀ (m : (ℓ : Loc Cert.FfnESIdeal.nD Cert.FfnESIdeal.τ Cert.FfnESIdeal.sig) → Buf (Elt Ideal) ℓ) (g : Dev Cert.FfnESIdeal.nD → PrngReg), Pre_FfnESIdeal m →
    θ_run (Cert.FfnESIdeal.defs (F := Ideal)) (onTc (τ := Cert.FfnESIdeal.τ) (Cert.FfnESIdeal.main (F := Ideal))) ⟨m, fun _ => 0, g⟩ (fun r => (∀ c : Dev Cert.FfnESIdeal.nD,
      r.2.mem ((c.tc : Thread Cert.FfnESIdeal.nD Cert.FfnESIdeal.τ).loc Cert.FfnESIdeal.main_arg0) = m ((c.tc : Thread Cert.FfnESIdeal.nD Cert.FfnESIdeal.τ).loc Cert.FfnESIdeal.main_arg0)
      ∧ r.2.mem ((c.tc : Thread Cert.FfnESIdeal.nD Cert.FfnESIdeal.τ).loc Cert.FfnESIdeal.main_arg1) = m ((c.tc : Thread Cert.FfnESIdeal.nD Cert.FfnESIdeal.τ).loc Cert.FfnESIdeal.main_arg1)
      ∧ r.2.mem ((c.tc : Thread Cert.FfnESIdeal.nD Cert.FfnESIdeal.τ).loc Cert.FfnESIdeal.main_arg2) = m ((c.tc : Thread Cert.FfnESIdeal.nD Cert.FfnESIdeal.τ).loc Cert.FfnESIdeal.main_arg2)
      ∧ r.2.mem ((c.tc : Thread Cert.FfnESIdeal.nD Cert.FfnESIdeal.τ).loc Cert.FfnESIdeal.main_arg3) = m ((c.tc : Thread Cert.FfnESIdeal.nD Cert.FfnESIdeal.τ).loc Cert.FfnESIdeal.main_arg3)
      ∧ r.2.mem ((c.tc : Thread Cert.FfnESIdeal.nD Cert.FfnESIdeal.τ).loc Cert.FfnESIdeal.main_arg4) = m ((c.tc : Thread Cert.FfnESIdeal.nD Cert.FfnESIdeal.τ).loc Cert.FfnESIdeal.main_arg4)
      ∧ r.2.mem ((c.tc : Thread Cert.FfnESIdeal.nD Cert.FfnESIdeal.τ).loc Cert.FfnESIdeal.main_arg5) = m ((c.tc : Thread Cert.FfnESIdeal.nD Cert.FfnESIdeal.τ).loc Cert.FfnESIdeal.main_arg5))
      ∧ r.2.sem = fun _ => 0)

def quiescent_FfnESRefIdeal [hFfnESRefIdeal : Cert.FfnESRefIdeal.Facts] : Prop :=
  ∀ (m : (ℓ : Loc Cert.FfnESRefIdeal.nD Cert.FfnESRefIdeal.τ Cert.FfnESRefIdeal.sig) → Buf (Elt Ideal) ℓ) (g : Dev Cert.FfnESRefIdeal.nD → PrngReg), Pre_FfnESRefIdeal m →
    θ_run (Cert.FfnESRefIdeal.defs (F := Ideal)) (onTc (τ := Cert.FfnESRefIdeal.τ) (Cert.FfnESRefIdeal.main (F := Ideal))) ⟨m, fun _ => 0, g⟩ (fun r => (∀ c : Dev Cert.FfnESRefIdeal.nD,
      r.2.mem ((c.tc : Thread Cert.FfnESRefIdeal.nD Cert.FfnESRefIdeal.τ).loc Cert.FfnESRefIdeal.main_arg0) = m ((c.tc : Thread Cert.FfnESRefIdeal.nD Cert.FfnESRefIdeal.τ).loc Cert.FfnESRefIdeal.main_arg0)
      ∧ r.2.mem ((c.tc : Thread Cert.FfnESRefIdeal.nD Cert.FfnESRefIdeal.τ).loc Cert.FfnESRefIdeal.main_arg1) = m ((c.tc : Thread Cert.FfnESRefIdeal.nD Cert.FfnESRefIdeal.τ).loc Cert.FfnESRefIdeal.main_arg1)
      ∧ r.2.mem ((c.tc : Thread Cert.FfnESRefIdeal.nD Cert.FfnESRefIdeal.τ).loc Cert.FfnESRefIdeal.main_arg2) = m ((c.tc : Thread Cert.FfnESRefIdeal.nD Cert.FfnESRefIdeal.τ).loc Cert.FfnESRefIdeal.main_arg2)
      ∧ r.2.mem ((c.tc : Thread Cert.FfnESRefIdeal.nD Cert.FfnESRefIdeal.τ).loc Cert.FfnESRefIdeal.main_arg3) = m ((c.tc : Thread Cert.FfnESRefIdeal.nD Cert.FfnESRefIdeal.τ).loc Cert.FfnESRefIdeal.main_arg3)
      ∧ r.2.mem ((c.tc : Thread Cert.FfnESRefIdeal.nD Cert.FfnESRefIdeal.τ).loc Cert.FfnESRefIdeal.main_arg4) = m ((c.tc : Thread Cert.FfnESRefIdeal.nD Cert.FfnESRefIdeal.τ).loc Cert.FfnESRefIdeal.main_arg4)
      ∧ r.2.mem ((c.tc : Thread Cert.FfnESRefIdeal.nD Cert.FfnESRefIdeal.τ).loc Cert.FfnESRefIdeal.main_arg5) = m ((c.tc : Thread Cert.FfnESRefIdeal.nD Cert.FfnESRefIdeal.τ).loc Cert.FfnESRefIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostIdeal_pre_finite_heads [hPostIdeal : Cert.PostIdeal.Facts] [hPre_finite_heads : Cert.Pre_finite_heads.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_heads m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7))
      ∧ r.2.sem = fun _ => 0)

def quiescent_PostRefIdeal_pre_finite_heads [hPostRefIdeal : Cert.PostRefIdeal.Facts] [hPre_finite_heads : Cert.Pre_finite_heads.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_finite_heads m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7))
      ∧ r.2.sem = fun _ => 0)

def quiescent_PostS [hPostS : Cert.PostS.Facts] : Prop :=
  ∀ (m : (ℓ : Loc Cert.PostS.nD Cert.PostS.τ Cert.PostS.sig) → Buf (Elt Bits) ℓ) (g : Dev Cert.PostS.nD → PrngReg), Pre_PostS m →
    θ_run (Cert.PostS.defs (F := Bits)) (onTc (τ := Cert.PostS.τ) (Cert.PostS.main (F := Bits))) ⟨m, fun _ => 0, g⟩ (fun r => (∀ c : Dev Cert.PostS.nD,
      r.2.mem ((c.tc : Thread Cert.PostS.nD Cert.PostS.τ).loc Cert.PostS.main_arg0) = m ((c.tc : Thread Cert.PostS.nD Cert.PostS.τ).loc Cert.PostS.main_arg0)
      ∧ r.2.mem ((c.tc : Thread Cert.PostS.nD Cert.PostS.τ).loc Cert.PostS.main_arg1) = m ((c.tc : Thread Cert.PostS.nD Cert.PostS.τ).loc Cert.PostS.main_arg1)
      ∧ r.2.mem ((c.tc : Thread Cert.PostS.nD Cert.PostS.τ).loc Cert.PostS.main_arg2) = m ((c.tc : Thread Cert.PostS.nD Cert.PostS.τ).loc Cert.PostS.main_arg2)
      ∧ r.2.mem ((c.tc : Thread Cert.PostS.nD Cert.PostS.τ).loc Cert.PostS.main_arg3) = m ((c.tc : Thread Cert.PostS.nD Cert.PostS.τ).loc Cert.PostS.main_arg3)
      ∧ r.2.mem ((c.tc : Thread Cert.PostS.nD Cert.PostS.τ).loc Cert.PostS.main_arg4) = m ((c.tc : Thread Cert.PostS.nD Cert.PostS.τ).loc Cert.PostS.main_arg4)
      ∧ r.2.mem ((c.tc : Thread Cert.PostS.nD Cert.PostS.τ).loc Cert.PostS.main_arg5) = m ((c.tc : Thread Cert.PostS.nD Cert.PostS.τ).loc Cert.PostS.main_arg5)
      ∧ r.2.mem ((c.tc : Thread Cert.PostS.nD Cert.PostS.τ).loc Cert.PostS.main_arg6) = m ((c.tc : Thread Cert.PostS.nD Cert.PostS.τ).loc Cert.PostS.main_arg6)
      ∧ r.2.mem ((c.tc : Thread Cert.PostS.nD Cert.PostS.τ).loc Cert.PostS.main_arg7) = m ((c.tc : Thread Cert.PostS.nD Cert.PostS.τ).loc Cert.PostS.main_arg7))
      ∧ r.2.sem = fun _ => 0)

def quiescent_PostSIdeal [hPostSIdeal : Cert.PostSIdeal.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7))
      ∧ r.2.sem = fun _ => 0)

def quiescent_PostSIdeal_pre_finite_heads_sample [hPostSIdeal : Cert.PostSIdeal.Facts] [hPre_finite_heads_sample : Cert.Pre_finite_heads_sample.Facts] : Prop :=
  ∀ (m : (ℓ : Loc Cert.PostSIdeal.nD Cert.PostSIdeal.τ Cert.PostSIdeal.sig) → Buf (Elt Ideal) ℓ) (g : Dev Cert.PostSIdeal.nD → PrngReg), Pre_PostSIdeal_finite_heads_sample m →
    θ_run (Cert.PostSIdeal.defs (F := Ideal)) (onTc (τ := Cert.PostSIdeal.τ) (Cert.PostSIdeal.main (F := Ideal))) ⟨m, fun _ => 0, g⟩ (fun r => (∀ c : Dev Cert.PostSIdeal.nD,
      r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
      ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
      ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
      ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
      ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
      ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
      ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
      ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7))
      ∧ r.2.sem = fun _ => 0)

def quiescent_PostSRefIdeal [hPostSRefIdeal : Cert.PostSRefIdeal.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7))
      ∧ r.2.sem = fun _ => 0)

def quiescent_PostSRefIdeal_pre_finite_heads_sample [hPostSRefIdeal : Cert.PostSRefIdeal.Facts] [hPre_finite_heads_sample : Cert.Pre_finite_heads_sample.Facts] : Prop :=
  ∀ (m : (ℓ : Loc Cert.PostSRefIdeal.nD Cert.PostSRefIdeal.τ Cert.PostSRefIdeal.sig) → Buf (Elt Ideal) ℓ) (g : Dev Cert.PostSRefIdeal.nD → PrngReg), Pre_PostSRefIdeal_finite_heads_sample m →
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13)
      ∧ r.2.mem ((c.tc : Thread Cert.Prep.nD Cert.Prep.τ).loc Cert.Prep.main_arg14) = m ((c.tc : Thread Cert.Prep.nD Cert.Prep.τ).loc Cert.Prep.main_arg14)
      ∧ r.2.mem ((c.tc : Thread Cert.Prep.nD Cert.Prep.τ).loc Cert.Prep.main_arg15) = m ((c.tc : Thread Cert.Prep.nD Cert.Prep.τ).loc Cert.Prep.main_arg15))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
      ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
      ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15))
      ∧ r.2.sem = fun _ => 0)

def quiescent_PrepIdeal_pre_finite_prep [hPrepIdeal : Cert.PrepIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
      ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
      ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12)
      ∧ r.2.mem ((c.tc : Thread Cert.PrepRefIdeal.nD Cert.PrepRefIdeal.τ).loc Cert.PrepRefIdeal.main_arg13) = m ((c.tc : Thread Cert.PrepRefIdeal.nD Cert.PrepRefIdeal.τ).loc Cert.PrepRefIdeal.main_arg13)
      ∧ r.2.mem ((c.tc : Thread Cert.PrepRefIdeal.nD Cert.PrepRefIdeal.τ).loc Cert.PrepRefIdeal.main_arg14) = m ((c.tc : Thread Cert.PrepRefIdeal.nD Cert.PrepRefIdeal.τ).loc Cert.PrepRefIdeal.main_arg14)
      ∧ r.2.mem ((c.tc : Thread Cert.PrepRefIdeal.nD Cert.PrepRefIdeal.τ).loc Cert.PrepRefIdeal.main_arg15) = m ((c.tc : Thread Cert.PrepRefIdeal.nD Cert.PrepRefIdeal.τ).loc Cert.PrepRefIdeal.main_arg15))
      ∧ r.2.sem = fun _ => 0)

def quiescent_PrepRefIdeal_pre_finite_prep [hPrepRefIdeal : Cert.PrepRefIdeal.Facts] [hPre_finite_prep : Cert.Pre_finite_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12)
      ∧ r.2.mem ((c.tc : Thread Cert.PrepRefIdeal.nD Cert.PrepRefIdeal.τ).loc Cert.PrepRefIdeal.main_arg13) = m ((c.tc : Thread Cert.PrepRefIdeal.nD Cert.PrepRefIdeal.τ).loc Cert.PrepRefIdeal.main_arg13)
      ∧ r.2.mem ((c.tc : Thread Cert.PrepRefIdeal.nD Cert.PrepRefIdeal.τ).loc Cert.PrepRefIdeal.main_arg14) = m ((c.tc : Thread Cert.PrepRefIdeal.nD Cert.PrepRefIdeal.τ).loc Cert.PrepRefIdeal.main_arg14)
      ∧ r.2.mem ((c.tc : Thread Cert.PrepRefIdeal.nD Cert.PrepRefIdeal.τ).loc Cert.PrepRefIdeal.main_arg15) = m ((c.tc : Thread Cert.PrepRefIdeal.nD Cert.PrepRefIdeal.τ).loc Cert.PrepRefIdeal.main_arg15))
      ∧ r.2.sem = fun _ => 0)

def preserves_Swa_SwaIdeal : Prop :=
  True

def algebraic_SwaIdeal_SwaRefIdeal_pre_bias_above_mask [hSwaIdeal : Cert.SwaIdeal.Facts] [hSwaRefIdeal : Cert.SwaRefIdeal.Facts] [hPre_bias_above_mask : Cert.Pre_bias_above_mask.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_bias_above_mask m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v50)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v50) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v79) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v12_0)) (v1 : (c : Dev Cert.ProjIdeal.nD) → Buf (Elt Ideal) ((c.tc : Thread Cert.ProjIdeal.nD Cert.ProjIdeal.τ).loc Cert.ProjIdeal.main_v12_1)) (v2 : (c : Dev Cert.ProjIdeal.nD) → Buf (Elt Ideal) ((c.tc : Thread Cert.ProjIdeal.nD Cert.ProjIdeal.τ).loc Cert.ProjIdeal.main_v12_2)) (v3 : (c : Dev Cert.ProjIdeal.nD) → Buf (Elt Ideal) ((c.tc : Thread Cert.ProjIdeal.nD Cert.ProjIdeal.τ).loc Cert.ProjIdeal.main_v12_3)) (v4 : (c : Dev Cert.ProjIdeal.nD) → Buf (Elt Ideal) ((c.tc : Thread Cert.ProjIdeal.nD Cert.ProjIdeal.τ).loc Cert.ProjIdeal.main_v12_4)) (v5 : (c : Dev Cert.ProjIdeal.nD) → Buf (Elt Ideal) ((c.tc : Thread Cert.ProjIdeal.nD Cert.ProjIdeal.τ).loc Cert.ProjIdeal.main_v12_5)) (v6 : (c : Dev Cert.ProjIdeal.nD) → Buf (Elt Ideal) ((c.tc : Thread Cert.ProjIdeal.nD Cert.ProjIdeal.τ).loc Cert.ProjIdeal.main_v12_6)) (v7 : (c : Dev Cert.ProjIdeal.nD) → Buf (Elt Ideal) ((c.tc : Thread Cert.ProjIdeal.nD Cert.ProjIdeal.τ).loc Cert.ProjIdeal.main_v12_7)) (v8 : (c : Dev Cert.ProjIdeal.nD) → Buf (Elt Ideal) ((c.tc : Thread Cert.ProjIdeal.nD Cert.ProjIdeal.τ).loc Cert.ProjIdeal.main_v12_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v12_0) = v0 c
          ∧ r.2.mem ((c.tc : Thread Cert.ProjIdeal.nD Cert.ProjIdeal.τ).loc Cert.ProjIdeal.main_v12_1) = v1 c
          ∧ r.2.mem ((c.tc : Thread Cert.ProjIdeal.nD Cert.ProjIdeal.τ).loc Cert.ProjIdeal.main_v12_2) = v2 c
          ∧ r.2.mem ((c.tc : Thread Cert.ProjIdeal.nD Cert.ProjIdeal.τ).loc Cert.ProjIdeal.main_v12_3) = v3 c
          ∧ r.2.mem ((c.tc : Thread Cert.ProjIdeal.nD Cert.ProjIdeal.τ).loc Cert.ProjIdeal.main_v12_4) = v4 c
          ∧ r.2.mem ((c.tc : Thread Cert.ProjIdeal.nD Cert.ProjIdeal.τ).loc Cert.ProjIdeal.main_v12_5) = v5 c
          ∧ r.2.mem ((c.tc : Thread Cert.ProjIdeal.nD Cert.ProjIdeal.τ).loc Cert.ProjIdeal.main_v12_6) = v6 c
          ∧ r.2.mem ((c.tc : Thread Cert.ProjIdeal.nD Cert.ProjIdeal.τ).loc Cert.ProjIdeal.main_v12_7) = v7 c
          ∧ r.2.mem ((c.tc : Thread Cert.ProjIdeal.nD Cert.ProjIdeal.τ).loc Cert.ProjIdeal.main_v12_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v16) = v0 c
          ∧ r.2.mem ((c.tc : Thread Cert.ProjRefIdeal.nD Cert.ProjRefIdeal.τ).loc Cert.ProjRefIdeal.main_v17) = v1 c
          ∧ r.2.mem ((c.tc : Thread Cert.ProjRefIdeal.nD Cert.ProjRefIdeal.τ).loc Cert.ProjRefIdeal.main_v22) = v2 c
          ∧ r.2.mem ((c.tc : Thread Cert.ProjRefIdeal.nD Cert.ProjRefIdeal.τ).loc Cert.ProjRefIdeal.main_v18) = v3 c
          ∧ r.2.mem ((c.tc : Thread Cert.ProjRefIdeal.nD Cert.ProjRefIdeal.τ).loc Cert.ProjRefIdeal.main_v23) = v4 c
          ∧ r.2.mem ((c.tc : Thread Cert.ProjRefIdeal.nD Cert.ProjRefIdeal.τ).loc Cert.ProjRefIdeal.main_v20) = v5 c
          ∧ r.2.mem ((c.tc : Thread Cert.ProjRefIdeal.nD Cert.ProjRefIdeal.τ).loc Cert.ProjRefIdeal.main_v21) = v6 c
          ∧ r.2.mem ((c.tc : Thread Cert.ProjRefIdeal.nD Cert.ProjRefIdeal.τ).loc Cert.ProjRefIdeal.main_v24) = v7 c
          ∧ r.2.mem ((c.tc : Thread Cert.ProjRefIdeal.nD Cert.ProjRefIdeal.τ).loc Cert.ProjRefIdeal.main_v25) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Odd_OddIdeal : Prop :=
  True

def algebraic_OddIdeal_OddRefIdeal [hOddIdeal : Cert.OddIdeal.Facts] [hOddRefIdeal : Cert.OddRefIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddIdeal m →
    (∀ c : Dev Cert.OddIdeal.nD,
      m' ((c.tc : Thread Cert.OddRefIdeal.nD Cert.OddRefIdeal.τ).loc Cert.OddRefIdeal.main_arg0) = m ((c.tc : Thread Cert.OddIdeal.nD Cert.OddIdeal.τ).loc Cert.OddIdeal.main_arg0)
      ∧ m' ((c.tc : Thread Cert.OddRefIdeal.nD Cert.OddRefIdeal.τ).loc Cert.OddRefIdeal.main_arg1) = m ((c.tc : Thread Cert.OddIdeal.nD Cert.OddIdeal.τ).loc Cert.OddIdeal.main_arg1)
      ∧ m' ((c.tc : Thread Cert.OddRefIdeal.nD Cert.OddRefIdeal.τ).loc Cert.OddRefIdeal.main_arg2) = m ((c.tc : Thread Cert.OddIdeal.nD Cert.OddIdeal.τ).loc Cert.OddIdeal.main_arg2)) →
    ∃ (v0 : (c : Dev Cert.OddIdeal.nD) → Buf (Elt Ideal) ((c.tc : Thread Cert.OddIdeal.nD Cert.OddIdeal.τ).loc Cert.OddIdeal.main_v5_0)) (v1 : (c : Dev Cert.OddIdeal.nD) → Buf (Elt Ideal) ((c.tc : Thread Cert.OddIdeal.nD Cert.OddIdeal.τ).loc Cert.OddIdeal.main_v5_1)) (v2 : (c : Dev Cert.OddIdeal.nD) → Buf (Elt Ideal) ((c.tc : Thread Cert.OddIdeal.nD Cert.OddIdeal.τ).loc Cert.OddIdeal.main_v5_2)) (v3 : (c : Dev Cert.OddIdeal.nD) → Buf (Elt Ideal) ((c.tc : Thread Cert.OddIdeal.nD Cert.OddIdeal.τ).loc Cert.OddIdeal.main_v5_3)) (v4 : (c : Dev Cert.OddIdeal.nD) → Buf (Elt Ideal) ((c.tc : Thread Cert.OddIdeal.nD Cert.OddIdeal.τ).loc Cert.OddIdeal.main_v5_4)) (v5 : (c : Dev Cert.OddIdeal.nD) → Buf (Elt Ideal) ((c.tc : Thread Cert.OddIdeal.nD Cert.OddIdeal.τ).loc Cert.OddIdeal.main_v5_5)) (v6 : (c : Dev Cert.OddIdeal.nD) → Buf (Elt Ideal) ((c.tc : Thread Cert.OddIdeal.nD Cert.OddIdeal.τ).loc Cert.OddIdeal.main_v5_6)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v5_0) = v0 c
          ∧ r.2.mem ((c.tc : Thread Cert.OddIdeal.nD Cert.OddIdeal.τ).loc Cert.OddIdeal.main_v5_1) = v1 c
          ∧ r.2.mem ((c.tc : Thread Cert.OddIdeal.nD Cert.OddIdeal.τ).loc Cert.OddIdeal.main_v5_2) = v2 c
          ∧ r.2.mem ((c.tc : Thread Cert.OddIdeal.nD Cert.OddIdeal.τ).loc Cert.OddIdeal.main_v5_3) = v3 c
          ∧ r.2.mem ((c.tc : Thread Cert.OddIdeal.nD Cert.OddIdeal.τ).loc Cert.OddIdeal.main_v5_4) = v4 c
          ∧ r.2.mem ((c.tc : Thread Cert.OddIdeal.nD Cert.OddIdeal.τ).loc Cert.OddIdeal.main_v5_5) = v5 c
          ∧ r.2.mem ((c.tc : Thread Cert.OddIdeal.nD Cert.OddIdeal.τ).loc Cert.OddIdeal.main_v5_6) = v6 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v17) = v0 c
          ∧ r.2.mem ((c.tc : Thread Cert.OddRefIdeal.nD Cert.OddRefIdeal.τ).loc Cert.OddRefIdeal.main_v16) = v1 c
          ∧ r.2.mem ((c.tc : Thread Cert.OddRefIdeal.nD Cert.OddRefIdeal.τ).loc Cert.OddRefIdeal.main_v18) = v2 c
          ∧ r.2.mem ((c.tc : Thread Cert.OddRefIdeal.nD Cert.OddRefIdeal.τ).loc Cert.OddRefIdeal.main_v19) = v3 c
          ∧ r.2.mem ((c.tc : Thread Cert.OddRefIdeal.nD Cert.OddRefIdeal.τ).loc Cert.OddRefIdeal.main_v20) = v4 c
          ∧ r.2.mem ((c.tc : Thread Cert.OddRefIdeal.nD Cert.OddRefIdeal.τ).loc Cert.OddRefIdeal.main_v21) = v5 c
          ∧ r.2.mem ((c.tc : Thread Cert.OddRefIdeal.nD Cert.OddRefIdeal.τ).loc Cert.OddRefIdeal.main_v23) = v6 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v5)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v5) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v31) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v12_0)) (v1 : (c : Dev Cert.ProjSIdeal.nD) → Buf (Elt Ideal) ((c.tc : Thread Cert.ProjSIdeal.nD Cert.ProjSIdeal.τ).loc Cert.ProjSIdeal.main_v12_1)) (v2 : (c : Dev Cert.ProjSIdeal.nD) → Buf (Elt Ideal) ((c.tc : Thread Cert.ProjSIdeal.nD Cert.ProjSIdeal.τ).loc Cert.ProjSIdeal.main_v12_2)) (v3 : (c : Dev Cert.ProjSIdeal.nD) → Buf (Elt Ideal) ((c.tc : Thread Cert.ProjSIdeal.nD Cert.ProjSIdeal.τ).loc Cert.ProjSIdeal.main_v12_3)) (v4 : (c : Dev Cert.ProjSIdeal.nD) → Buf (Elt Ideal) ((c.tc : Thread Cert.ProjSIdeal.nD Cert.ProjSIdeal.τ).loc Cert.ProjSIdeal.main_v12_4)) (v5 : (c : Dev Cert.ProjSIdeal.nD) → Buf (Elt Ideal) ((c.tc : Thread Cert.ProjSIdeal.nD Cert.ProjSIdeal.τ).loc Cert.ProjSIdeal.main_v12_5)) (v6 : (c : Dev Cert.ProjSIdeal.nD) → Buf (Elt Ideal) ((c.tc : Thread Cert.ProjSIdeal.nD Cert.ProjSIdeal.τ).loc Cert.ProjSIdeal.main_v12_6)) (v7 : (c : Dev Cert.ProjSIdeal.nD) → Buf (Elt Ideal) ((c.tc : Thread Cert.ProjSIdeal.nD Cert.ProjSIdeal.τ).loc Cert.ProjSIdeal.main_v12_7)) (v8 : (c : Dev Cert.ProjSIdeal.nD) → Buf (Elt Ideal) ((c.tc : Thread Cert.ProjSIdeal.nD Cert.ProjSIdeal.τ).loc Cert.ProjSIdeal.main_v12_8)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v12_0) = v0 c
          ∧ r.2.mem ((c.tc : Thread Cert.ProjSIdeal.nD Cert.ProjSIdeal.τ).loc Cert.ProjSIdeal.main_v12_1) = v1 c
          ∧ r.2.mem ((c.tc : Thread Cert.ProjSIdeal.nD Cert.ProjSIdeal.τ).loc Cert.ProjSIdeal.main_v12_2) = v2 c
          ∧ r.2.mem ((c.tc : Thread Cert.ProjSIdeal.nD Cert.ProjSIdeal.τ).loc Cert.ProjSIdeal.main_v12_3) = v3 c
          ∧ r.2.mem ((c.tc : Thread Cert.ProjSIdeal.nD Cert.ProjSIdeal.τ).loc Cert.ProjSIdeal.main_v12_4) = v4 c
          ∧ r.2.mem ((c.tc : Thread Cert.ProjSIdeal.nD Cert.ProjSIdeal.τ).loc Cert.ProjSIdeal.main_v12_5) = v5 c
          ∧ r.2.mem ((c.tc : Thread Cert.ProjSIdeal.nD Cert.ProjSIdeal.τ).loc Cert.ProjSIdeal.main_v12_6) = v6 c
          ∧ r.2.mem ((c.tc : Thread Cert.ProjSIdeal.nD Cert.ProjSIdeal.τ).loc Cert.ProjSIdeal.main_v12_7) = v7 c
          ∧ r.2.mem ((c.tc : Thread Cert.ProjSIdeal.nD Cert.ProjSIdeal.τ).loc Cert.ProjSIdeal.main_v12_8) = v8 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v16) = v0 c
          ∧ r.2.mem ((c.tc : Thread Cert.ProjSRefIdeal.nD Cert.ProjSRefIdeal.τ).loc Cert.ProjSRefIdeal.main_v17) = v1 c
          ∧ r.2.mem ((c.tc : Thread Cert.ProjSRefIdeal.nD Cert.ProjSRefIdeal.τ).loc Cert.ProjSRefIdeal.main_v22) = v2 c
          ∧ r.2.mem ((c.tc : Thread Cert.ProjSRefIdeal.nD Cert.ProjSRefIdeal.τ).loc Cert.ProjSRefIdeal.main_v18) = v3 c
          ∧ r.2.mem ((c.tc : Thread Cert.ProjSRefIdeal.nD Cert.ProjSRefIdeal.τ).loc Cert.ProjSRefIdeal.main_v23) = v4 c
          ∧ r.2.mem ((c.tc : Thread Cert.ProjSRefIdeal.nD Cert.ProjSRefIdeal.τ).loc Cert.ProjSRefIdeal.main_v20) = v5 c
          ∧ r.2.mem ((c.tc : Thread Cert.ProjSRefIdeal.nD Cert.ProjSRefIdeal.τ).loc Cert.ProjSRefIdeal.main_v21) = v6 c
          ∧ r.2.mem ((c.tc : Thread Cert.ProjSRefIdeal.nD Cert.ProjSRefIdeal.τ).loc Cert.ProjSRefIdeal.main_v24) = v7 c
          ∧ r.2.mem ((c.tc : Thread Cert.ProjSRefIdeal.nD Cert.ProjSRefIdeal.τ).loc Cert.ProjSRefIdeal.main_v25) = v8 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2))

def preserves_OddS_OddSIdeal : Prop :=
  True

def algebraic_OddSIdeal_OddSRefIdeal [hOddSIdeal : Cert.OddSIdeal.Facts] [hOddSRefIdeal : Cert.OddSRefIdeal.Facts] : Prop :=
  ∀ (m : (ℓ : Loc Cert.OddSIdeal.nD Cert.OddSIdeal.τ Cert.OddSIdeal.sig) → Buf (Elt Ideal) ℓ) (g : Dev Cert.OddSIdeal.nD → PrngReg)
    (m' : (ℓ : Loc Cert.OddSRefIdeal.nD Cert.OddSRefIdeal.τ Cert.OddSRefIdeal.sig) → Buf (Elt Ideal) ℓ) (g' : Dev Cert.OddSRefIdeal.nD → PrngReg), Pre_OddSIdeal m →
    (∀ c : Dev Cert.OddSIdeal.nD,
      m' ((c.tc : Thread Cert.OddSRefIdeal.nD Cert.OddSRefIdeal.τ).loc Cert.OddSRefIdeal.main_arg0) = m ((c.tc : Thread Cert.OddSIdeal.nD Cert.OddSIdeal.τ).loc Cert.OddSIdeal.main_arg0)
      ∧ m' ((c.tc : Thread Cert.OddSRefIdeal.nD Cert.OddSRefIdeal.τ).loc Cert.OddSRefIdeal.main_arg1) = m ((c.tc : Thread Cert.OddSIdeal.nD Cert.OddSIdeal.τ).loc Cert.OddSIdeal.main_arg1)
      ∧ m' ((c.tc : Thread Cert.OddSRefIdeal.nD Cert.OddSRefIdeal.τ).loc Cert.OddSRefIdeal.main_arg2) = m ((c.tc : Thread Cert.OddSIdeal.nD Cert.OddSIdeal.τ).loc Cert.OddSIdeal.main_arg2)) →
    ∃ (v0 : (c : Dev Cert.OddSIdeal.nD) → Buf (Elt Ideal) ((c.tc : Thread Cert.OddSIdeal.nD Cert.OddSIdeal.τ).loc Cert.OddSIdeal.main_v5_0)) (v1 : (c : Dev Cert.OddSIdeal.nD) → Buf (Elt Ideal) ((c.tc : Thread Cert.OddSIdeal.nD Cert.OddSIdeal.τ).loc Cert.OddSIdeal.main_v5_1)) (v2 : (c : Dev Cert.OddSIdeal.nD) → Buf (Elt Ideal) ((c.tc : Thread Cert.OddSIdeal.nD Cert.OddSIdeal.τ).loc Cert.OddSIdeal.main_v5_2)) (v3 : (c : Dev Cert.OddSIdeal.nD) → Buf (Elt Ideal) ((c.tc : Thread Cert.OddSIdeal.nD Cert.OddSIdeal.τ).loc Cert.OddSIdeal.main_v5_3)) (v4 : (c : Dev Cert.OddSIdeal.nD) → Buf (Elt Ideal) ((c.tc : Thread Cert.OddSIdeal.nD Cert.OddSIdeal.τ).loc Cert.OddSIdeal.main_v5_4)) (v5 : (c : Dev Cert.OddSIdeal.nD) → Buf (Elt Ideal) ((c.tc : Thread Cert.OddSIdeal.nD Cert.OddSIdeal.τ).loc Cert.OddSIdeal.main_v5_5)) (v6 : (c : Dev Cert.OddSIdeal.nD) → Buf (Elt Ideal) ((c.tc : Thread Cert.OddSIdeal.nD Cert.OddSIdeal.τ).loc Cert.OddSIdeal.main_v5_6)),
      θ_run (Cert.OddSIdeal.defs (F := Ideal)) (onTc (τ := Cert.OddSIdeal.τ) (Cert.OddSIdeal.main (F := Ideal))) ⟨m, fun _ => 0, g⟩ (fun r => ∀ c : Dev Cert.OddSIdeal.nD,
          r.2.mem ((c.tc : Thread Cert.OddSIdeal.nD Cert.OddSIdeal.τ).loc Cert.OddSIdeal.main_v5_0) = v0 c
          ∧ r.2.mem ((c.tc : Thread Cert.OddSIdeal.nD Cert.OddSIdeal.τ).loc Cert.OddSIdeal.main_v5_1) = v1 c
          ∧ r.2.mem ((c.tc : Thread Cert.OddSIdeal.nD Cert.OddSIdeal.τ).loc Cert.OddSIdeal.main_v5_2) = v2 c
          ∧ r.2.mem ((c.tc : Thread Cert.OddSIdeal.nD Cert.OddSIdeal.τ).loc Cert.OddSIdeal.main_v5_3) = v3 c
          ∧ r.2.mem ((c.tc : Thread Cert.OddSIdeal.nD Cert.OddSIdeal.τ).loc Cert.OddSIdeal.main_v5_4) = v4 c
          ∧ r.2.mem ((c.tc : Thread Cert.OddSIdeal.nD Cert.OddSIdeal.τ).loc Cert.OddSIdeal.main_v5_5) = v5 c
          ∧ r.2.mem ((c.tc : Thread Cert.OddSIdeal.nD Cert.OddSIdeal.τ).loc Cert.OddSIdeal.main_v5_6) = v6 c
          ∧ r.2.mem ((c.tc : Thread Cert.OddSIdeal.nD Cert.OddSIdeal.τ).loc Cert.OddSIdeal.main_arg0) = m ((c.tc : Thread Cert.OddSIdeal.nD Cert.OddSIdeal.τ).loc Cert.OddSIdeal.main_arg0)
          ∧ r.2.mem ((c.tc : Thread Cert.OddSIdeal.nD Cert.OddSIdeal.τ).loc Cert.OddSIdeal.main_arg1) = m ((c.tc : Thread Cert.OddSIdeal.nD Cert.OddSIdeal.τ).loc Cert.OddSIdeal.main_arg1)
          ∧ r.2.mem ((c.tc : Thread Cert.OddSIdeal.nD Cert.OddSIdeal.τ).loc Cert.OddSIdeal.main_arg2) = m ((c.tc : Thread Cert.OddSIdeal.nD Cert.OddSIdeal.τ).loc Cert.OddSIdeal.main_arg2))
      ∧ θ_run (Cert.OddSRefIdeal.defs (F := Ideal)) (onTc (τ := Cert.OddSRefIdeal.τ) (Cert.OddSRefIdeal.main (F := Ideal))) ⟨m', fun _ => 0, g'⟩ (fun r => ∀ c : Dev Cert.OddSRefIdeal.nD,
          r.2.mem ((c.tc : Thread Cert.OddSRefIdeal.nD Cert.OddSRefIdeal.τ).loc Cert.OddSRefIdeal.main_v17) = v0 c
          ∧ r.2.mem ((c.tc : Thread Cert.OddSRefIdeal.nD Cert.OddSRefIdeal.τ).loc Cert.OddSRefIdeal.main_v16) = v1 c
          ∧ r.2.mem ((c.tc : Thread Cert.OddSRefIdeal.nD Cert.OddSRefIdeal.τ).loc Cert.OddSRefIdeal.main_v18) = v2 c
          ∧ r.2.mem ((c.tc : Thread Cert.OddSRefIdeal.nD Cert.OddSRefIdeal.τ).loc Cert.OddSRefIdeal.main_v19) = v3 c
          ∧ r.2.mem ((c.tc : Thread Cert.OddSRefIdeal.nD Cert.OddSRefIdeal.τ).loc Cert.OddSRefIdeal.main_v20) = v4 c
          ∧ r.2.mem ((c.tc : Thread Cert.OddSRefIdeal.nD Cert.OddSRefIdeal.τ).loc Cert.OddSRefIdeal.main_v21) = v5 c
          ∧ r.2.mem ((c.tc : Thread Cert.OddSRefIdeal.nD Cert.OddSRefIdeal.τ).loc Cert.OddSRefIdeal.main_v23) = v6 c
          ∧ r.2.mem ((c.tc : Thread Cert.OddSRefIdeal.nD Cert.OddSRefIdeal.τ).loc Cert.OddSRefIdeal.main_arg0) = m' ((c.tc : Thread Cert.OddSRefIdeal.nD Cert.OddSRefIdeal.τ).loc Cert.OddSRefIdeal.main_arg0)
          ∧ r.2.mem ((c.tc : Thread Cert.OddSRefIdeal.nD Cert.OddSRefIdeal.τ).loc Cert.OddSRefIdeal.main_arg1) = m' ((c.tc : Thread Cert.OddSRefIdeal.nD Cert.OddSRefIdeal.τ).loc Cert.OddSRefIdeal.main_arg1)
          ∧ r.2.mem ((c.tc : Thread Cert.OddSRefIdeal.nD Cert.OddSRefIdeal.τ).loc Cert.OddSRefIdeal.main_arg2) = m' ((c.tc : Thread Cert.OddSRefIdeal.nD Cert.OddSRefIdeal.τ).loc Cert.OddSRefIdeal.main_arg2))

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)
      ∧ m' ((c.tc : Thread Cert.OutSRefIdeal.nD Cert.OutSRefIdeal.τ).loc Cert.OutSRefIdeal.main_arg3) = m ((c.tc : Thread Cert.OutSIdeal.nD Cert.OutSIdeal.τ).loc Cert.OutSIdeal.main_arg3)) →
    ∃ (v0 : (c : Dev Cert.OutSIdeal.nD) → Buf (Elt Ideal) ((c.tc : Thread Cert.OutSIdeal.nD Cert.OutSIdeal.τ).loc Cert.OutSIdeal.main_v4)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v4) = v0 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
          ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v3) = v0 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2)
          ∧ r.2.mem ((c.tc : Thread Cert.OutSRefIdeal.nD Cert.OutSRefIdeal.τ).loc Cert.OutSRefIdeal.main_arg3) = m' ((c.tc : Thread Cert.OutSRefIdeal.nD Cert.OutSRefIdeal.τ).loc Cert.OutSRefIdeal.main_arg3))

def preserves_FfnE_FfnEIdeal : Prop :=
  True

def algebraic_FfnEIdeal_FfnERefIdeal [hFfnEIdeal : Cert.FfnEIdeal.Facts] [hFfnERefIdeal : Cert.FfnERefIdeal.Facts] : Prop :=
  ∀ (m : (ℓ : Loc Cert.FfnEIdeal.nD Cert.FfnEIdeal.τ Cert.FfnEIdeal.sig) → Buf (Elt Ideal) ℓ) (g : Dev Cert.FfnEIdeal.nD → PrngReg)
    (m' : (ℓ : Loc Cert.FfnERefIdeal.nD Cert.FfnERefIdeal.τ Cert.FfnERefIdeal.sig) → Buf (Elt Ideal) ℓ) (g' : Dev Cert.FfnERefIdeal.nD → PrngReg), Pre_FfnEIdeal m →
    (∀ c : Dev Cert.FfnEIdeal.nD,
      m' ((c.tc : Thread Cert.FfnERefIdeal.nD Cert.FfnERefIdeal.τ).loc Cert.FfnERefIdeal.main_arg0) = m ((c.tc : Thread Cert.FfnEIdeal.nD Cert.FfnEIdeal.τ).loc Cert.FfnEIdeal.main_arg0)
      ∧ m' ((c.tc : Thread Cert.FfnERefIdeal.nD Cert.FfnERefIdeal.τ).loc Cert.FfnERefIdeal.main_arg1) = m ((c.tc : Thread Cert.FfnEIdeal.nD Cert.FfnEIdeal.τ).loc Cert.FfnEIdeal.main_arg1)
      ∧ m' ((c.tc : Thread Cert.FfnERefIdeal.nD Cert.FfnERefIdeal.τ).loc Cert.FfnERefIdeal.main_arg2) = m ((c.tc : Thread Cert.FfnEIdeal.nD Cert.FfnEIdeal.τ).loc Cert.FfnEIdeal.main_arg2)
      ∧ m' ((c.tc : Thread Cert.FfnERefIdeal.nD Cert.FfnERefIdeal.τ).loc Cert.FfnERefIdeal.main_arg3) = m ((c.tc : Thread Cert.FfnEIdeal.nD Cert.FfnEIdeal.τ).loc Cert.FfnEIdeal.main_arg3)
      ∧ m' ((c.tc : Thread Cert.FfnERefIdeal.nD Cert.FfnERefIdeal.τ).loc Cert.FfnERefIdeal.main_arg4) = m ((c.tc : Thread Cert.FfnEIdeal.nD Cert.FfnEIdeal.τ).loc Cert.FfnEIdeal.main_arg4)
      ∧ m' ((c.tc : Thread Cert.FfnERefIdeal.nD Cert.FfnERefIdeal.τ).loc Cert.FfnERefIdeal.main_arg5) = m ((c.tc : Thread Cert.FfnEIdeal.nD Cert.FfnEIdeal.τ).loc Cert.FfnEIdeal.main_arg5)) →
    ∃ (v0 : (c : Dev Cert.FfnEIdeal.nD) → Buf (Elt Ideal) ((c.tc : Thread Cert.FfnEIdeal.nD Cert.FfnEIdeal.τ).loc Cert.FfnEIdeal.main_v5)),
      θ_run (Cert.FfnEIdeal.defs (F := Ideal)) (onTc (τ := Cert.FfnEIdeal.τ) (Cert.FfnEIdeal.main (F := Ideal))) ⟨m, fun _ => 0, g⟩ (fun r => ∀ c : Dev Cert.FfnEIdeal.nD,
          r.2.mem ((c.tc : Thread Cert.FfnEIdeal.nD Cert.FfnEIdeal.τ).loc Cert.FfnEIdeal.main_v5) = v0 c
          ∧ r.2.mem ((c.tc : Thread Cert.FfnEIdeal.nD Cert.FfnEIdeal.τ).loc Cert.FfnEIdeal.main_arg0) = m ((c.tc : Thread Cert.FfnEIdeal.nD Cert.FfnEIdeal.τ).loc Cert.FfnEIdeal.main_arg0)
          ∧ r.2.mem ((c.tc : Thread Cert.FfnEIdeal.nD Cert.FfnEIdeal.τ).loc Cert.FfnEIdeal.main_arg1) = m ((c.tc : Thread Cert.FfnEIdeal.nD Cert.FfnEIdeal.τ).loc Cert.FfnEIdeal.main_arg1)
          ∧ r.2.mem ((c.tc : Thread Cert.FfnEIdeal.nD Cert.FfnEIdeal.τ).loc Cert.FfnEIdeal.main_arg2) = m ((c.tc : Thread Cert.FfnEIdeal.nD Cert.FfnEIdeal.τ).loc Cert.FfnEIdeal.main_arg2)
          ∧ r.2.mem ((c.tc : Thread Cert.FfnEIdeal.nD Cert.FfnEIdeal.τ).loc Cert.FfnEIdeal.main_arg3) = m ((c.tc : Thread Cert.FfnEIdeal.nD Cert.FfnEIdeal.τ).loc Cert.FfnEIdeal.main_arg3)
          ∧ r.2.mem ((c.tc : Thread Cert.FfnEIdeal.nD Cert.FfnEIdeal.τ).loc Cert.FfnEIdeal.main_arg4) = m ((c.tc : Thread Cert.FfnEIdeal.nD Cert.FfnEIdeal.τ).loc Cert.FfnEIdeal.main_arg4)
          ∧ r.2.mem ((c.tc : Thread Cert.FfnEIdeal.nD Cert.FfnEIdeal.τ).loc Cert.FfnEIdeal.main_arg5) = m ((c.tc : Thread Cert.FfnEIdeal.nD Cert.FfnEIdeal.τ).loc Cert.FfnEIdeal.main_arg5))
      ∧ θ_run (Cert.FfnERefIdeal.defs (F := Ideal)) (onTc (τ := Cert.FfnERefIdeal.τ) (Cert.FfnERefIdeal.main (F := Ideal))) ⟨m', fun _ => 0, g'⟩ (fun r => ∀ c : Dev Cert.FfnERefIdeal.nD,
          r.2.mem ((c.tc : Thread Cert.FfnERefIdeal.nD Cert.FfnERefIdeal.τ).loc Cert.FfnERefIdeal.main_v18) = v0 c
          ∧ r.2.mem ((c.tc : Thread Cert.FfnERefIdeal.nD Cert.FfnERefIdeal.τ).loc Cert.FfnERefIdeal.main_arg0) = m' ((c.tc : Thread Cert.FfnERefIdeal.nD Cert.FfnERefIdeal.τ).loc Cert.FfnERefIdeal.main_arg0)
          ∧ r.2.mem ((c.tc : Thread Cert.FfnERefIdeal.nD Cert.FfnERefIdeal.τ).loc Cert.FfnERefIdeal.main_arg1) = m' ((c.tc : Thread Cert.FfnERefIdeal.nD Cert.FfnERefIdeal.τ).loc Cert.FfnERefIdeal.main_arg1)
          ∧ r.2.mem ((c.tc : Thread Cert.FfnERefIdeal.nD Cert.FfnERefIdeal.τ).loc Cert.FfnERefIdeal.main_arg2) = m' ((c.tc : Thread Cert.FfnERefIdeal.nD Cert.FfnERefIdeal.τ).loc Cert.FfnERefIdeal.main_arg2)
          ∧ r.2.mem ((c.tc : Thread Cert.FfnERefIdeal.nD Cert.FfnERefIdeal.τ).loc Cert.FfnERefIdeal.main_arg3) = m' ((c.tc : Thread Cert.FfnERefIdeal.nD Cert.FfnERefIdeal.τ).loc Cert.FfnERefIdeal.main_arg3)
          ∧ r.2.mem ((c.tc : Thread Cert.FfnERefIdeal.nD Cert.FfnERefIdeal.τ).loc Cert.FfnERefIdeal.main_arg4) = m' ((c.tc : Thread Cert.FfnERefIdeal.nD Cert.FfnERefIdeal.τ).loc Cert.FfnERefIdeal.main_arg4)
          ∧ r.2.mem ((c.tc : Thread Cert.FfnERefIdeal.nD Cert.FfnERefIdeal.τ).loc Cert.FfnERefIdeal.main_arg5) = m' ((c.tc : Thread Cert.FfnERefIdeal.nD Cert.FfnERefIdeal.τ).loc Cert.FfnERefIdeal.main_arg5))

def preserves_FfnES_FfnESIdeal : Prop :=
  True

def algebraic_FfnESIdeal_FfnESRefIdeal [hFfnESIdeal : Cert.FfnESIdeal.Facts] [hFfnESRefIdeal : Cert.FfnESRefIdeal.Facts] : Prop :=
  ∀ (m : (ℓ : Loc Cert.FfnESIdeal.nD Cert.FfnESIdeal.τ Cert.FfnESIdeal.sig) → Buf (Elt Ideal) ℓ) (g : Dev Cert.FfnESIdeal.nD → PrngReg)
    (m' : (ℓ : Loc Cert.FfnESRefIdeal.nD Cert.FfnESRefIdeal.τ Cert.FfnESRefIdeal.sig) → Buf (Elt Ideal) ℓ) (g' : Dev Cert.FfnESRefIdeal.nD → PrngReg), Pre_FfnESIdeal m →
    (∀ c : Dev Cert.FfnESIdeal.nD,
      m' ((c.tc : Thread Cert.FfnESRefIdeal.nD Cert.FfnESRefIdeal.τ).loc Cert.FfnESRefIdeal.main_arg0) = m ((c.tc : Thread Cert.FfnESIdeal.nD Cert.FfnESIdeal.τ).loc Cert.FfnESIdeal.main_arg0)
      ∧ m' ((c.tc : Thread Cert.FfnESRefIdeal.nD Cert.FfnESRefIdeal.τ).loc Cert.FfnESRefIdeal.main_arg1) = m ((c.tc : Thread Cert.FfnESIdeal.nD Cert.FfnESIdeal.τ).loc Cert.FfnESIdeal.main_arg1)
      ∧ m' ((c.tc : Thread Cert.FfnESRefIdeal.nD Cert.FfnESRefIdeal.τ).loc Cert.FfnESRefIdeal.main_arg2) = m ((c.tc : Thread Cert.FfnESIdeal.nD Cert.FfnESIdeal.τ).loc Cert.FfnESIdeal.main_arg2)
      ∧ m' ((c.tc : Thread Cert.FfnESRefIdeal.nD Cert.FfnESRefIdeal.τ).loc Cert.FfnESRefIdeal.main_arg3) = m ((c.tc : Thread Cert.FfnESIdeal.nD Cert.FfnESIdeal.τ).loc Cert.FfnESIdeal.main_arg3)
      ∧ m' ((c.tc : Thread Cert.FfnESRefIdeal.nD Cert.FfnESRefIdeal.τ).loc Cert.FfnESRefIdeal.main_arg4) = m ((c.tc : Thread Cert.FfnESIdeal.nD Cert.FfnESIdeal.τ).loc Cert.FfnESIdeal.main_arg4)
      ∧ m' ((c.tc : Thread Cert.FfnESRefIdeal.nD Cert.FfnESRefIdeal.τ).loc Cert.FfnESRefIdeal.main_arg5) = m ((c.tc : Thread Cert.FfnESIdeal.nD Cert.FfnESIdeal.τ).loc Cert.FfnESIdeal.main_arg5)) →
    ∃ (v0 : (c : Dev Cert.FfnESIdeal.nD) → Buf (Elt Ideal) ((c.tc : Thread Cert.FfnESIdeal.nD Cert.FfnESIdeal.τ).loc Cert.FfnESIdeal.main_v5)),
      θ_run (Cert.FfnESIdeal.defs (F := Ideal)) (onTc (τ := Cert.FfnESIdeal.τ) (Cert.FfnESIdeal.main (F := Ideal))) ⟨m, fun _ => 0, g⟩ (fun r => ∀ c : Dev Cert.FfnESIdeal.nD,
          r.2.mem ((c.tc : Thread Cert.FfnESIdeal.nD Cert.FfnESIdeal.τ).loc Cert.FfnESIdeal.main_v5) = v0 c
          ∧ r.2.mem ((c.tc : Thread Cert.FfnESIdeal.nD Cert.FfnESIdeal.τ).loc Cert.FfnESIdeal.main_arg0) = m ((c.tc : Thread Cert.FfnESIdeal.nD Cert.FfnESIdeal.τ).loc Cert.FfnESIdeal.main_arg0)
          ∧ r.2.mem ((c.tc : Thread Cert.FfnESIdeal.nD Cert.FfnESIdeal.τ).loc Cert.FfnESIdeal.main_arg1) = m ((c.tc : Thread Cert.FfnESIdeal.nD Cert.FfnESIdeal.τ).loc Cert.FfnESIdeal.main_arg1)
          ∧ r.2.mem ((c.tc : Thread Cert.FfnESIdeal.nD Cert.FfnESIdeal.τ).loc Cert.FfnESIdeal.main_arg2) = m ((c.tc : Thread Cert.FfnESIdeal.nD Cert.FfnESIdeal.τ).loc Cert.FfnESIdeal.main_arg2)
          ∧ r.2.mem ((c.tc : Thread Cert.FfnESIdeal.nD Cert.FfnESIdeal.τ).loc Cert.FfnESIdeal.main_arg3) = m ((c.tc : Thread Cert.FfnESIdeal.nD Cert.FfnESIdeal.τ).loc Cert.FfnESIdeal.main_arg3)
          ∧ r.2.mem ((c.tc : Thread Cert.FfnESIdeal.nD Cert.FfnESIdeal.τ).loc Cert.FfnESIdeal.main_arg4) = m ((c.tc : Thread Cert.FfnESIdeal.nD Cert.FfnESIdeal.τ).loc Cert.FfnESIdeal.main_arg4)
          ∧ r.2.mem ((c.tc : Thread Cert.FfnESIdeal.nD Cert.FfnESIdeal.τ).loc Cert.FfnESIdeal.main_arg5) = m ((c.tc : Thread Cert.FfnESIdeal.nD Cert.FfnESIdeal.τ).loc Cert.FfnESIdeal.main_arg5))
      ∧ θ_run (Cert.FfnESRefIdeal.defs (F := Ideal)) (onTc (τ := Cert.FfnESRefIdeal.τ) (Cert.FfnESRefIdeal.main (F := Ideal))) ⟨m', fun _ => 0, g'⟩ (fun r => ∀ c : Dev Cert.FfnESRefIdeal.nD,
          r.2.mem ((c.tc : Thread Cert.FfnESRefIdeal.nD Cert.FfnESRefIdeal.τ).loc Cert.FfnESRefIdeal.main_v18) = v0 c
          ∧ r.2.mem ((c.tc : Thread Cert.FfnESRefIdeal.nD Cert.FfnESRefIdeal.τ).loc Cert.FfnESRefIdeal.main_arg0) = m' ((c.tc : Thread Cert.FfnESRefIdeal.nD Cert.FfnESRefIdeal.τ).loc Cert.FfnESRefIdeal.main_arg0)
          ∧ r.2.mem ((c.tc : Thread Cert.FfnESRefIdeal.nD Cert.FfnESRefIdeal.τ).loc Cert.FfnESRefIdeal.main_arg1) = m' ((c.tc : Thread Cert.FfnESRefIdeal.nD Cert.FfnESRefIdeal.τ).loc Cert.FfnESRefIdeal.main_arg1)
          ∧ r.2.mem ((c.tc : Thread Cert.FfnESRefIdeal.nD Cert.FfnESRefIdeal.τ).loc Cert.FfnESRefIdeal.main_arg2) = m' ((c.tc : Thread Cert.FfnESRefIdeal.nD Cert.FfnESRefIdeal.τ).loc Cert.FfnESRefIdeal.main_arg2)
          ∧ r.2.mem ((c.tc : Thread Cert.FfnESRefIdeal.nD Cert.FfnESRefIdeal.τ).loc Cert.FfnESRefIdeal.main_arg3) = m' ((c.tc : Thread Cert.FfnESRefIdeal.nD Cert.FfnESRefIdeal.τ).loc Cert.FfnESRefIdeal.main_arg3)
          ∧ r.2.mem ((c.tc : Thread Cert.FfnESRefIdeal.nD Cert.FfnESRefIdeal.τ).loc Cert.FfnESRefIdeal.main_arg4) = m' ((c.tc : Thread Cert.FfnESRefIdeal.nD Cert.FfnESRefIdeal.τ).loc Cert.FfnESRefIdeal.main_arg4)
          ∧ r.2.mem ((c.tc : Thread Cert.FfnESRefIdeal.nD Cert.FfnESRefIdeal.τ).loc Cert.FfnESRefIdeal.main_arg5) = m' ((c.tc : Thread Cert.FfnESRefIdeal.nD Cert.FfnESRefIdeal.τ).loc Cert.FfnESRefIdeal.main_arg5))

def preserves_Post_PostIdeal : Prop :=
  True

def algebraic_PostIdeal_PostRefIdeal_pre_finite_heads [hPostIdeal : Cert.PostIdeal.Facts] [hPostRefIdeal : Cert.PostRefIdeal.Facts] [hPre_finite_heads : Cert.Pre_finite_heads.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_finite_heads m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)) →
    ∃ (v0 : (c : Dev Cert.PostIdeal.nD) → Buf (Elt Ideal) ((c.tc : Thread Cert.PostIdeal.nD Cert.PostIdeal.τ).loc Cert.PostIdeal.main_v15)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v15) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v43) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7))

def preserves_PostS_PostSIdeal : Prop :=
  True

def algebraic_PostSIdeal_PostSRefIdeal_pre_finite_heads_sample [hPostSIdeal : Cert.PostSIdeal.Facts] [hPostSRefIdeal : Cert.PostSRefIdeal.Facts] [hPre_finite_heads_sample : Cert.Pre_finite_heads_sample.Facts] : Prop :=
  ∀ (m : (ℓ : Loc Cert.PostSIdeal.nD Cert.PostSIdeal.τ Cert.PostSIdeal.sig) → Buf (Elt Ideal) ℓ) (g : Dev Cert.PostSIdeal.nD → PrngReg)
    (m' : (ℓ : Loc Cert.PostSRefIdeal.nD Cert.PostSRefIdeal.τ Cert.PostSRefIdeal.sig) → Buf (Elt Ideal) ℓ) (g' : Dev Cert.PostSRefIdeal.nD → PrngReg), Pre_PostSIdeal_finite_heads_sample m →
    (∀ c : Dev Cert.PostSIdeal.nD,
      m' ((c.tc : Thread Cert.PostSRefIdeal.nD Cert.PostSRefIdeal.τ).loc Cert.PostSRefIdeal.main_arg0) = m ((c.tc : Thread Cert.PostSIdeal.nD Cert.PostSIdeal.τ).loc Cert.PostSIdeal.main_arg0)
      ∧ m' ((c.tc : Thread Cert.PostSRefIdeal.nD Cert.PostSRefIdeal.τ).loc Cert.PostSRefIdeal.main_arg1) = m ((c.tc : Thread Cert.PostSIdeal.nD Cert.PostSIdeal.τ).loc Cert.PostSIdeal.main_arg1)
      ∧ m' ((c.tc : Thread Cert.PostSRefIdeal.nD Cert.PostSRefIdeal.τ).loc Cert.PostSRefIdeal.main_arg2) = m ((c.tc : Thread Cert.PostSIdeal.nD Cert.PostSIdeal.τ).loc Cert.PostSIdeal.main_arg2)
      ∧ m' ((c.tc : Thread Cert.PostSRefIdeal.nD Cert.PostSRefIdeal.τ).loc Cert.PostSRefIdeal.main_arg3) = m ((c.tc : Thread Cert.PostSIdeal.nD Cert.PostSIdeal.τ).loc Cert.PostSIdeal.main_arg3)
      ∧ m' ((c.tc : Thread Cert.PostSRefIdeal.nD Cert.PostSRefIdeal.τ).loc Cert.PostSRefIdeal.main_arg4) = m ((c.tc : Thread Cert.PostSIdeal.nD Cert.PostSIdeal.τ).loc Cert.PostSIdeal.main_arg4)
      ∧ m' ((c.tc : Thread Cert.PostSRefIdeal.nD Cert.PostSRefIdeal.τ).loc Cert.PostSRefIdeal.main_arg5) = m ((c.tc : Thread Cert.PostSIdeal.nD Cert.PostSIdeal.τ).loc Cert.PostSIdeal.main_arg5)
      ∧ m' ((c.tc : Thread Cert.PostSRefIdeal.nD Cert.PostSRefIdeal.τ).loc Cert.PostSRefIdeal.main_arg6) = m ((c.tc : Thread Cert.PostSIdeal.nD Cert.PostSIdeal.τ).loc Cert.PostSIdeal.main_arg6)
      ∧ m' ((c.tc : Thread Cert.PostSRefIdeal.nD Cert.PostSRefIdeal.τ).loc Cert.PostSRefIdeal.main_arg7) = m ((c.tc : Thread Cert.PostSIdeal.nD Cert.PostSIdeal.τ).loc Cert.PostSIdeal.main_arg7)) →
    ∃ (v0 : (c : Dev Cert.PostSIdeal.nD) → Buf (Elt Ideal) ((c.tc : Thread Cert.PostSIdeal.nD Cert.PostSIdeal.τ).loc Cert.PostSIdeal.main_v15)),
      θ_run (Cert.PostSIdeal.defs (F := Ideal)) (onTc (τ := Cert.PostSIdeal.τ) (Cert.PostSIdeal.main (F := Ideal))) ⟨m, fun _ => 0, g⟩ (fun r => ∀ c : Dev Cert.PostSIdeal.nD,
          r.2.mem ((c.tc : Thread Cert.PostSIdeal.nD Cert.PostSIdeal.τ).loc Cert.PostSIdeal.main_v15) = v0 c
          ∧ r.2.mem ((c.tc : Thread Cert.PostSIdeal.nD Cert.PostSIdeal.τ).loc Cert.PostSIdeal.main_arg0) = m ((c.tc : Thread Cert.PostSIdeal.nD Cert.PostSIdeal.τ).loc Cert.PostSIdeal.main_arg0)
          ∧ r.2.mem ((c.tc : Thread Cert.PostSIdeal.nD Cert.PostSIdeal.τ).loc Cert.PostSIdeal.main_arg1) = m ((c.tc : Thread Cert.PostSIdeal.nD Cert.PostSIdeal.τ).loc Cert.PostSIdeal.main_arg1)
          ∧ r.2.mem ((c.tc : Thread Cert.PostSIdeal.nD Cert.PostSIdeal.τ).loc Cert.PostSIdeal.main_arg2) = m ((c.tc : Thread Cert.PostSIdeal.nD Cert.PostSIdeal.τ).loc Cert.PostSIdeal.main_arg2)
          ∧ r.2.mem ((c.tc : Thread Cert.PostSIdeal.nD Cert.PostSIdeal.τ).loc Cert.PostSIdeal.main_arg3) = m ((c.tc : Thread Cert.PostSIdeal.nD Cert.PostSIdeal.τ).loc Cert.PostSIdeal.main_arg3)
          ∧ r.2.mem ((c.tc : Thread Cert.PostSIdeal.nD Cert.PostSIdeal.τ).loc Cert.PostSIdeal.main_arg4) = m ((c.tc : Thread Cert.PostSIdeal.nD Cert.PostSIdeal.τ).loc Cert.PostSIdeal.main_arg4)
          ∧ r.2.mem ((c.tc : Thread Cert.PostSIdeal.nD Cert.PostSIdeal.τ).loc Cert.PostSIdeal.main_arg5) = m ((c.tc : Thread Cert.PostSIdeal.nD Cert.PostSIdeal.τ).loc Cert.PostSIdeal.main_arg5)
          ∧ r.2.mem ((c.tc : Thread Cert.PostSIdeal.nD Cert.PostSIdeal.τ).loc Cert.PostSIdeal.main_arg6) = m ((c.tc : Thread Cert.PostSIdeal.nD Cert.PostSIdeal.τ).loc Cert.PostSIdeal.main_arg6)
          ∧ r.2.mem ((c.tc : Thread Cert.PostSIdeal.nD Cert.PostSIdeal.τ).loc Cert.PostSIdeal.main_arg7) = m ((c.tc : Thread Cert.PostSIdeal.nD Cert.PostSIdeal.τ).loc Cert.PostSIdeal.main_arg7))
      ∧ θ_run (Cert.PostSRefIdeal.defs (F := Ideal)) (onTc (τ := Cert.PostSRefIdeal.τ) (Cert.PostSRefIdeal.main (F := Ideal))) ⟨m', fun _ => 0, g'⟩ (fun r => ∀ c : Dev Cert.PostSRefIdeal.nD,
          r.2.mem ((c.tc : Thread Cert.PostSRefIdeal.nD Cert.PostSRefIdeal.τ).loc Cert.PostSRefIdeal.main_v43) = v0 c
          ∧ r.2.mem ((c.tc : Thread Cert.PostSRefIdeal.nD Cert.PostSRefIdeal.τ).loc Cert.PostSRefIdeal.main_arg0) = m' ((c.tc : Thread Cert.PostSRefIdeal.nD Cert.PostSRefIdeal.τ).loc Cert.PostSRefIdeal.main_arg0)
          ∧ r.2.mem ((c.tc : Thread Cert.PostSRefIdeal.nD Cert.PostSRefIdeal.τ).loc Cert.PostSRefIdeal.main_arg1) = m' ((c.tc : Thread Cert.PostSRefIdeal.nD Cert.PostSRefIdeal.τ).loc Cert.PostSRefIdeal.main_arg1)
          ∧ r.2.mem ((c.tc : Thread Cert.PostSRefIdeal.nD Cert.PostSRefIdeal.τ).loc Cert.PostSRefIdeal.main_arg2) = m' ((c.tc : Thread Cert.PostSRefIdeal.nD Cert.PostSRefIdeal.τ).loc Cert.PostSRefIdeal.main_arg2)
          ∧ r.2.mem ((c.tc : Thread Cert.PostSRefIdeal.nD Cert.PostSRefIdeal.τ).loc Cert.PostSRefIdeal.main_arg3) = m' ((c.tc : Thread Cert.PostSRefIdeal.nD Cert.PostSRefIdeal.τ).loc Cert.PostSRefIdeal.main_arg3)
          ∧ r.2.mem ((c.tc : Thread Cert.PostSRefIdeal.nD Cert.PostSRefIdeal.τ).loc Cert.PostSRefIdeal.main_arg4) = m' ((c.tc : Thread Cert.PostSRefIdeal.nD Cert.PostSRefIdeal.τ).loc Cert.PostSRefIdeal.main_arg4)
          ∧ r.2.mem ((c.tc : Thread Cert.PostSRefIdeal.nD Cert.PostSRefIdeal.τ).loc Cert.PostSRefIdeal.main_arg5) = m' ((c.tc : Thread Cert.PostSRefIdeal.nD Cert.PostSRefIdeal.τ).loc Cert.PostSRefIdeal.main_arg5)
          ∧ r.2.mem ((c.tc : Thread Cert.PostSRefIdeal.nD Cert.PostSRefIdeal.τ).loc Cert.PostSRefIdeal.main_arg6) = m' ((c.tc : Thread Cert.PostSRefIdeal.nD Cert.PostSRefIdeal.τ).loc Cert.PostSRefIdeal.main_arg6)
          ∧ r.2.mem ((c.tc : Thread Cert.PostSRefIdeal.nD Cert.PostSRefIdeal.τ).loc Cert.PostSRefIdeal.main_arg7) = m' ((c.tc : Thread Cert.PostSRefIdeal.nD Cert.PostSRefIdeal.τ).loc Cert.PostSRefIdeal.main_arg7))

def preserves_Prep_PrepIdeal : Prop :=
  True

def algebraic_PrepIdeal_PrepRefIdeal_pre_finite_prep [hPrepIdeal : Cert.PrepIdeal.Facts] [hPrepRefIdeal : Cert.PrepRefIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_prep m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)
      ∧ m' ((c.tc : Thread Cert.PrepRefIdeal.nD Cert.PrepRefIdeal.τ).loc Cert.PrepRefIdeal.main_arg11) = m ((c.tc : Thread Cert.PrepIdeal.nD Cert.PrepIdeal.τ).loc Cert.PrepIdeal.main_arg11)
      ∧ m' ((c.tc : Thread Cert.PrepRefIdeal.nD Cert.PrepRefIdeal.τ).loc Cert.PrepRefIdeal.main_arg12) = m ((c.tc : Thread Cert.PrepIdeal.nD Cert.PrepIdeal.τ).loc Cert.PrepIdeal.main_arg12)
      ∧ m' ((c.tc : Thread Cert.PrepRefIdeal.nD Cert.PrepRefIdeal.τ).loc Cert.PrepRefIdeal.main_arg13) = m ((c.tc : Thread Cert.PrepIdeal.nD Cert.PrepIdeal.τ).loc Cert.PrepIdeal.main_arg13)
      ∧ m' ((c.tc : Thread Cert.PrepRefIdeal.nD Cert.PrepRefIdeal.τ).loc Cert.PrepRefIdeal.main_arg14) = m ((c.tc : Thread Cert.PrepIdeal.nD Cert.PrepIdeal.τ).loc Cert.PrepIdeal.main_arg14)
      ∧ m' ((c.tc : Thread Cert.PrepRefIdeal.nD Cert.PrepRefIdeal.τ).loc Cert.PrepRefIdeal.main_arg15) = m ((c.tc : Thread Cert.PrepIdeal.nD Cert.PrepIdeal.τ).loc Cert.PrepIdeal.main_arg15)) →
    ∃ (v0 : (c : Dev Cert.PrepIdeal.nD) → Buf (Elt Ideal) ((c.tc : Thread Cert.PrepIdeal.nD Cert.PrepIdeal.τ).loc Cert.PrepIdeal.main_v33_0)) (v1 : (c : Dev Cert.PrepIdeal.nD) → Buf (Elt Ideal) ((c.tc : Thread Cert.PrepIdeal.nD Cert.PrepIdeal.τ).loc Cert.PrepIdeal.main_v33_1)) (v2 : (c : Dev Cert.PrepIdeal.nD) → Buf (Elt Ideal) ((c.tc : Thread Cert.PrepIdeal.nD Cert.PrepIdeal.τ).loc Cert.PrepIdeal.main_v33_2)) (v3 : (c : Dev Cert.PrepIdeal.nD) → Buf (Elt Ideal) ((c.tc : Thread Cert.PrepIdeal.nD Cert.PrepIdeal.τ).loc Cert.PrepIdeal.main_v33_3)) (v4 : (c : Dev Cert.PrepIdeal.nD) → Buf (Elt Ideal) ((c.tc : Thread Cert.PrepIdeal.nD Cert.PrepIdeal.τ).loc Cert.PrepIdeal.main_v33_4)) (v5 : (c : Dev Cert.PrepIdeal.nD) → Buf (Elt Ideal) ((c.tc : Thread Cert.PrepIdeal.nD Cert.PrepIdeal.τ).loc Cert.PrepIdeal.main_v33_5)) (v6 : (c : Dev Cert.PrepIdeal.nD) → Buf (Elt Ideal) ((c.tc : Thread Cert.PrepIdeal.nD Cert.PrepIdeal.τ).loc Cert.PrepIdeal.main_v33_6)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v33_0) = v0 c
          ∧ r.2.mem ((c.tc : Thread Cert.PrepIdeal.nD Cert.PrepIdeal.τ).loc Cert.PrepIdeal.main_v33_1) = v1 c
          ∧ r.2.mem ((c.tc : Thread Cert.PrepIdeal.nD Cert.PrepIdeal.τ).loc Cert.PrepIdeal.main_v33_2) = v2 c
          ∧ r.2.mem ((c.tc : Thread Cert.PrepIdeal.nD Cert.PrepIdeal.τ).loc Cert.PrepIdeal.main_v33_3) = v3 c
          ∧ r.2.mem ((c.tc : Thread Cert.PrepIdeal.nD Cert.PrepIdeal.τ).loc Cert.PrepIdeal.main_v33_4) = v4 c
          ∧ r.2.mem ((c.tc : Thread Cert.PrepIdeal.nD Cert.PrepIdeal.τ).loc Cert.PrepIdeal.main_v33_5) = v5 c
          ∧ r.2.mem ((c.tc : Thread Cert.PrepIdeal.nD Cert.PrepIdeal.τ).loc Cert.PrepIdeal.main_v33_6) = v6 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
          ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
          ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14)
          ∧ r.2.mem ((c.tc : Thread Cert.PrepIdeal.nD Cert.PrepIdeal.τ).loc Cert.PrepIdeal.main_arg15) = m ((c.tc : Thread Cert.PrepIdeal.nD Cert.PrepIdeal.τ).loc Cert.PrepIdeal.main_arg15))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v6) = v0 c
          ∧ r.2.mem ((c.tc : Thread Cert.PrepRefIdeal.nD Cert.PrepRefIdeal.τ).loc Cert.PrepRefIdeal.main_v78) = v1 c
          ∧ r.2.mem ((c.tc : Thread Cert.PrepRefIdeal.nD Cert.PrepRefIdeal.τ).loc Cert.PrepRefIdeal.main_v87) = v2 c
          ∧ r.2.mem ((c.tc : Thread Cert.PrepRefIdeal.nD Cert.PrepRefIdeal.τ).loc Cert.PrepRefIdeal.main_v18) = v3 c
          ∧ r.2.mem ((c.tc : Thread Cert.PrepRefIdeal.nD Cert.PrepRefIdeal.τ).loc Cert.PrepRefIdeal.main_v88) = v4 c
          ∧ r.2.mem ((c.tc : Thread Cert.PrepRefIdeal.nD Cert.PrepRefIdeal.τ).loc Cert.PrepRefIdeal.main_v89) = v5 c
          ∧ r.2.mem ((c.tc : Thread Cert.PrepRefIdeal.nD Cert.PrepRefIdeal.τ).loc Cert.PrepRefIdeal.main_v62) = v6 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10)
          ∧ r.2.mem ((c.tc : Thread Cert.PrepRefIdeal.nD Cert.PrepRefIdeal.τ).loc Cert.PrepRefIdeal.main_arg11) = m' ((c.tc : Thread Cert.PrepRefIdeal.nD Cert.PrepRefIdeal.τ).loc Cert.PrepRefIdeal.main_arg11)
          ∧ r.2.mem ((c.tc : Thread Cert.PrepRefIdeal.nD Cert.PrepRefIdeal.τ).loc Cert.PrepRefIdeal.main_arg12) = m' ((c.tc : Thread Cert.PrepRefIdeal.nD Cert.PrepRefIdeal.τ).loc Cert.PrepRefIdeal.main_arg12)
          ∧ r.2.mem ((c.tc : Thread Cert.PrepRefIdeal.nD Cert.PrepRefIdeal.τ).loc Cert.PrepRefIdeal.main_arg13) = m' ((c.tc : Thread Cert.PrepRefIdeal.nD Cert.PrepRefIdeal.τ).loc Cert.PrepRefIdeal.main_arg13)
          ∧ r.2.mem ((c.tc : Thread Cert.PrepRefIdeal.nD Cert.PrepRefIdeal.τ).loc Cert.PrepRefIdeal.main_arg14) = m' ((c.tc : Thread Cert.PrepRefIdeal.nD Cert.PrepRefIdeal.τ).loc Cert.PrepRefIdeal.main_arg14)
          ∧ r.2.mem ((c.tc : Thread Cert.PrepRefIdeal.nD Cert.PrepRefIdeal.τ).loc Cert.PrepRefIdeal.main_arg15) = m' ((c.tc : Thread Cert.PrepRefIdeal.nD Cert.PrepRefIdeal.τ).loc Cert.PrepRefIdeal.main_arg15))

def Claim : Prop :=
  ∃ (hSwa : Cert.Swa.Facts) (hSwaIdeal : Cert.SwaIdeal.Facts) (hSwaRefIdeal : Cert.SwaRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hOdd : Cert.Odd.Facts) (hOddIdeal : Cert.OddIdeal.Facts) (hOddRefIdeal : Cert.OddRefIdeal.Facts) (hOut : Cert.Out.Facts) (hOutIdeal : Cert.OutIdeal.Facts) (hOutRefIdeal : Cert.OutRefIdeal.Facts) (hFfnS : Cert.FfnS.Facts) (hFfnSIdeal : Cert.FfnSIdeal.Facts) (hFfnSRefIdeal : Cert.FfnSRefIdeal.Facts) (hProjS : Cert.ProjS.Facts) (hProjSIdeal : Cert.ProjSIdeal.Facts) (hProjSRefIdeal : Cert.ProjSRefIdeal.Facts) (hOddS : Cert.OddS.Facts) (hOddSIdeal : Cert.OddSIdeal.Facts) (hOddSRefIdeal : Cert.OddSRefIdeal.Facts) (hOutS : Cert.OutS.Facts) (hOutSIdeal : Cert.OutSIdeal.Facts) (hOutSRefIdeal : Cert.OutSRefIdeal.Facts) (hFfnE : Cert.FfnE.Facts) (hFfnEIdeal : Cert.FfnEIdeal.Facts) (hFfnERefIdeal : Cert.FfnERefIdeal.Facts) (hFfnES : Cert.FfnES.Facts) (hFfnESIdeal : Cert.FfnESIdeal.Facts) (hFfnESRefIdeal : Cert.FfnESRefIdeal.Facts) (hPost : Cert.Post.Facts) (hPostIdeal : Cert.PostIdeal.Facts) (hPostRefIdeal : Cert.PostRefIdeal.Facts) (hPostS : Cert.PostS.Facts) (hPostSIdeal : Cert.PostSIdeal.Facts) (hPostSRefIdeal : Cert.PostSRefIdeal.Facts) (hPrep : Cert.Prep.Facts) (hPrepIdeal : Cert.PrepIdeal.Facts) (hPrepRefIdeal : Cert.PrepRefIdeal.Facts) (hPre_bias_above_mask : Cert.Pre_bias_above_mask.Facts) (hPre_finite_heads : Cert.Pre_finite_heads.Facts) (hPre_finite_heads_sample : Cert.Pre_finite_heads_sample.Facts) (hPre_finite_prep : Cert.Pre_finite_prep.Facts),
    quiescent_Swa (hSwa := hSwa)
    ∧ quiescent_SwaIdeal (hSwaIdeal := hSwaIdeal)
    ∧ quiescent_SwaIdeal_pre_bias_above_mask (hSwaIdeal := hSwaIdeal) (hPre_bias_above_mask := hPre_bias_above_mask)
    ∧ quiescent_SwaRefIdeal (hSwaRefIdeal := hSwaRefIdeal)
    ∧ quiescent_SwaRefIdeal_pre_bias_above_mask (hSwaRefIdeal := hSwaRefIdeal) (hPre_bias_above_mask := hPre_bias_above_mask)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Odd (hOdd := hOdd)
    ∧ quiescent_OddIdeal (hOddIdeal := hOddIdeal)
    ∧ quiescent_OddRefIdeal (hOddRefIdeal := hOddRefIdeal)
    ∧ quiescent_Out (hOut := hOut)
    ∧ quiescent_OutIdeal (hOutIdeal := hOutIdeal)
    ∧ quiescent_OutRefIdeal (hOutRefIdeal := hOutRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_OddS (hOddS := hOddS)
    ∧ quiescent_OddSIdeal (hOddSIdeal := hOddSIdeal)
    ∧ quiescent_OddSRefIdeal (hOddSRefIdeal := hOddSRefIdeal)
    ∧ quiescent_OutS (hOutS := hOutS)
    ∧ quiescent_OutSIdeal (hOutSIdeal := hOutSIdeal)
    ∧ quiescent_OutSRefIdeal (hOutSRefIdeal := hOutSRefIdeal)
    ∧ quiescent_FfnE (hFfnE := hFfnE)
    ∧ quiescent_FfnEIdeal (hFfnEIdeal := hFfnEIdeal)
    ∧ quiescent_FfnERefIdeal (hFfnERefIdeal := hFfnERefIdeal)
    ∧ quiescent_FfnES (hFfnES := hFfnES)
    ∧ quiescent_FfnESIdeal (hFfnESIdeal := hFfnESIdeal)
    ∧ quiescent_FfnESRefIdeal (hFfnESRefIdeal := hFfnESRefIdeal)
    ∧ quiescent_Post (hPost := hPost)
    ∧ quiescent_PostIdeal (hPostIdeal := hPostIdeal)
    ∧ quiescent_PostIdeal_pre_finite_heads (hPostIdeal := hPostIdeal) (hPre_finite_heads := hPre_finite_heads)
    ∧ quiescent_PostRefIdeal (hPostRefIdeal := hPostRefIdeal)
    ∧ quiescent_PostRefIdeal_pre_finite_heads (hPostRefIdeal := hPostRefIdeal) (hPre_finite_heads := hPre_finite_heads)
    ∧ quiescent_PostS (hPostS := hPostS)
    ∧ quiescent_PostSIdeal (hPostSIdeal := hPostSIdeal)
    ∧ quiescent_PostSIdeal_pre_finite_heads_sample (hPostSIdeal := hPostSIdeal) (hPre_finite_heads_sample := hPre_finite_heads_sample)
    ∧ quiescent_PostSRefIdeal (hPostSRefIdeal := hPostSRefIdeal)
    ∧ quiescent_PostSRefIdeal_pre_finite_heads_sample (hPostSRefIdeal := hPostSRefIdeal) (hPre_finite_heads_sample := hPre_finite_heads_sample)
    ∧ quiescent_Prep (hPrep := hPrep)
    ∧ quiescent_PrepIdeal (hPrepIdeal := hPrepIdeal)
    ∧ quiescent_PrepIdeal_pre_finite_prep (hPrepIdeal := hPrepIdeal) (hPre_finite_prep := hPre_finite_prep)
    ∧ quiescent_PrepRefIdeal (hPrepRefIdeal := hPrepRefIdeal)
    ∧ quiescent_PrepRefIdeal_pre_finite_prep (hPrepRefIdeal := hPrepRefIdeal) (hPre_finite_prep := hPre_finite_prep)
    ∧ preserves_Swa_SwaIdeal
    ∧ algebraic_SwaIdeal_SwaRefIdeal_pre_bias_above_mask (hSwaIdeal := hSwaIdeal) (hSwaRefIdeal := hSwaRefIdeal) (hPre_bias_above_mask := hPre_bias_above_mask)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Odd_OddIdeal
    ∧ algebraic_OddIdeal_OddRefIdeal (hOddIdeal := hOddIdeal) (hOddRefIdeal := hOddRefIdeal)
    ∧ preserves_Out_OutIdeal
    ∧ algebraic_OutIdeal_OutRefIdeal (hOutIdeal := hOutIdeal) (hOutRefIdeal := hOutRefIdeal)
    ∧ preserves_FfnS_FfnSIdeal
    ∧ algebraic_FfnSIdeal_FfnSRefIdeal (hFfnSIdeal := hFfnSIdeal) (hFfnSRefIdeal := hFfnSRefIdeal)
    ∧ preserves_ProjS_ProjSIdeal
    ∧ algebraic_ProjSIdeal_ProjSRefIdeal (hProjSIdeal := hProjSIdeal) (hProjSRefIdeal := hProjSRefIdeal)
    ∧ preserves_OddS_OddSIdeal
    ∧ algebraic_OddSIdeal_OddSRefIdeal (hOddSIdeal := hOddSIdeal) (hOddSRefIdeal := hOddSRefIdeal)
    ∧ preserves_OutS_OutSIdeal
    ∧ algebraic_OutSIdeal_OutSRefIdeal (hOutSIdeal := hOutSIdeal) (hOutSRefIdeal := hOutSRefIdeal)
    ∧ preserves_FfnE_FfnEIdeal
    ∧ algebraic_FfnEIdeal_FfnERefIdeal (hFfnEIdeal := hFfnEIdeal) (hFfnERefIdeal := hFfnERefIdeal)
    ∧ preserves_FfnES_FfnESIdeal
    ∧ algebraic_FfnESIdeal_FfnESRefIdeal (hFfnESIdeal := hFfnESIdeal) (hFfnESRefIdeal := hFfnESRefIdeal)
    ∧ preserves_Post_PostIdeal
    ∧ algebraic_PostIdeal_PostRefIdeal_pre_finite_heads (hPostIdeal := hPostIdeal) (hPostRefIdeal := hPostRefIdeal) (hPre_finite_heads := hPre_finite_heads)
    ∧ preserves_PostS_PostSIdeal
    ∧ algebraic_PostSIdeal_PostSRefIdeal_pre_finite_heads_sample (hPostSIdeal := hPostSIdeal) (hPostSRefIdeal := hPostSRefIdeal) (hPre_finite_heads_sample := hPre_finite_heads_sample)
    ∧ preserves_Prep_PrepIdeal
    ∧ algebraic_PrepIdeal_PrepRefIdeal_pre_finite_prep (hPrepIdeal := hPrepIdeal) (hPrepRefIdeal := hPrepRefIdeal) (hPre_finite_prep := hPre_finite_prep)
-- ==== Pre_bias_above_mask.lean ====
abbrev S2x8192x512 : Shape := ⟨3, ![2, 8192, 512]⟩
abbrev S2x8192x256 : Shape := ⟨3, ![2, 8192, 256]⟩
abbrev S1x8 : Shape := ⟨2, ![1, 8]⟩
abbrev S32x12 : Shape := ⟨2, ![32, 12]⟩
abbrev S_ : Shape := ⟨0, ![]⟩

class Facts : Prop where
  bcast_S_S32x12 : S_.BroadcastsInDim S32x12 (![] : Fin 0 → Fin S32x12.rank)

variable [Facts]

def fn {F : FTy → Type} [FloatOps F] (main_arg0 : FVec F S2x8192x512 .f32) (main_arg1 : FVec F S2x8192x256 .f32) (main_arg2 : FVec F S1x8 .f32) (main_arg3 : FVec F S32x12 .f32) : IVec S32x12 1 :=
  let main_cst : FVec F S_ .f32 := constant S_ .f32 0xF0C9F2CA#32
  let main_v0 : FVec F S32x12 .f32 := broadcastInDim S32x12 ![] bcast_S_S32x12 main_cst
  let main_v1 : IVec S32x12 1 := cmpf .ogt main_arg3 main_v0
  main_v1
-- ==== Pre_finite_heads.lean ====
abbrev S16384x512 : Shape := ⟨2, ![16384, 512]⟩
abbrev S1x8x64 : Shape := ⟨3, ![1, 8, 64]⟩
abbrev S1x512 : Shape := ⟨2, ![1, 512]⟩
abbrev S_ : Shape := ⟨0, ![]⟩

class Facts : Prop where
  bcast_S_S16384x512 : S_.BroadcastsInDim S16384x512 (![] : Fin 0 → Fin S16384x512.rank)
  shapeCasts_S1x8x64_S1x512 : S1x8x64.ShapeCasts S1x512
  bcast_S1x512_S16384x512_0_1 : S1x512.BroadcastsInDim S16384x512 (![0, 1] : Fin 2 → Fin S16384x512.rank)

variable [Facts]

def fn {F : FTy → Type} [FloatOps F] (main_arg0 : FVec F S16384x512 .f32) (main_arg1 : FVec F S16384x512 .f32) (main_arg2 : FVec F S16384x512 .f32) (main_arg3 : FVec F S16384x512 .f32) (main_arg4 : FVec F S16384x512 .f32) (main_arg5 : FVec F S1x8x64 .f32) (main_arg6 : FVec F S1x512 .f32) (main_arg7 : FVec F S1x512 .f32) : IVec S16384x512 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := mulf main_arg1 main_arg2
  let main_v4 : FVec F S1x512 .f32 := shapeCast S1x512 main_arg5 shapeCasts_S1x8x64_S1x512
  let main_v5 : FVec F S16384x512 .f32 := broadcastInDim S16384x512 ![0, 1] bcast_S1x512_S16384x512_0_1 main_v4
  let main_v6 : FVec F S16384x512 .f32 := mulf main_v3 main_v5
  let main_v7 : FVec F S16384x512 .f32 := Host.absf main_v6
  let main_cst_0 : FVec F S_ .f32 := constant S_ .f32 0x7F800000#32
  let main_v8 : FVec F S16384x512 .f32 := broadcastInDim S16384x512 ![] bcast_S_S16384x512 main_cst_0
  let main_v9 : IVec S16384x512 1 := cmpf .olt main_v7 main_v8
  let main_v10 : IVec S16384x512 1 := andi main_v2 main_v9
  main_v10
-- ==== Pre_finite_heads_sample.lean ====
abbrev S512x512 : Shape := ⟨2, ![512, 512]⟩
abbrev S1x8x64 : Shape := ⟨3, ![1, 8, 64]⟩
abbrev S1x512 : Shape := ⟨2, ![1, 512]⟩
abbrev S_ : Shape := ⟨0, ![]⟩

class Facts : Prop where
  bcast_S_S512x512 : S_.BroadcastsInDim S512x512 (![] : Fin 0 → Fin S512x512.rank)
  shapeCasts_S1x8x64_S1x512 : S1x8x64.ShapeCasts S1x512
  bcast_S1x512_S512x512_0_1 : S1x512.BroadcastsInDim S512x512 (![0, 1] : Fin 2 → Fin S512x512.rank)

variable [Facts]

def fn {F : FTy → Type} [FloatOps F] (main_arg0 : FVec F S512x512 .f32) (main_arg1 : FVec F S512x512 .f32) (main_arg2 : FVec F S512x512 .f32) (main_arg3 : FVec F S512x512 .f32) (main_arg4 : FVec F S512x512 .f32) (main_arg5 : FVec F S1x8x64 .f32) (main_arg6 : FVec F S1x512 .f32) (main_arg7 : FVec F S1x512 .f32) : IVec S512x512 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_v3 : FVec F S512x512 .f32 := mulf main_arg1 main_arg2
  let main_v4 : FVec F S1x512 .f32 := shapeCast S1x512 main_arg5 shapeCasts_S1x8x64_S1x512
  let main_v5 : FVec F S512x512 .f32 := broadcastInDim S512x512 ![0, 1] bcast_S1x512_S512x512_0_1 main_v4
  let main_v6 : FVec F S512x512 .f32 := mulf main_v3 main_v5
  let main_v7 : FVec F S512x512 .f32 := Host.absf main_v6
  let main_cst_0 : FVec F S_ .f32 := constant S_ .f32 0x7F800000#32
  let main_v8 : FVec F S512x512 .f32 := broadcastInDim S512x512 ![] bcast_S_S512x512 main_cst_0
  let main_v9 : IVec S512x512 1 := cmpf .olt main_v7 main_v8
  let main_v10 : IVec S512x512 1 := andi main_v2 main_v9
  main_v10
-- ==== Pre_finite_prep.lean ====
abbrev S16384x512 : Shape := ⟨2, ![16384, 512]⟩
abbrev S16384x256 : Shape := ⟨2, ![16384, 256]⟩
abbrev S1x1696 : Shape := ⟨2, ![1, 1696]⟩
abbrev S1x512 : Shape := ⟨2, ![1, 512]⟩
abbrev S1x32x512 : Shape := ⟨3, ![1, 32, 512]⟩
abbrev S1x96x512 : Shape := ⟨3, ![1, 96, 512]⟩
abbrev S1696 : Shape := ⟨1, ![1696]⟩
abbrev S16384x32 : Shape := ⟨2, ![16384, 32]⟩
abbrev S32 : Shape := ⟨1, ![32]⟩
abbrev S1x32 : Shape := ⟨2, ![1, 32]⟩
abbrev S512 : Shape := ⟨1, ![512]⟩
abbrev S96x512 : Shape := ⟨2, ![96, 512]⟩
abbrev S32x512 : Shape := ⟨2, ![32, 512]⟩
abbrev S_ : Shape := ⟨0, ![]⟩
abbrev S16384x32x1 : Shape := ⟨3, ![16384, 32, 1]⟩
abbrev S16384x1x512 : Shape := ⟨3, ![16384, 1, 512]⟩
abbrev S16384x32x512 : Shape := ⟨3, ![16384, 32, 512]⟩

class Facts : Prop where
  shapeCasts_S1x1696_S1696 : S1x1696.ShapeCasts S1696
  slices_S16384x256_S16384x32_0_32 : S16384x256.Slices ![0, 32] S16384x32
  slices_S1696_S32_1568 : S1696.Slices ![1568] S32
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  slices_S1696_S512_512 : S1696.Slices ![512] S512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  shapeCasts_S1x512_S512 : S1x512.ShapeCasts S512
  shapeCasts_S1x96x512_S96x512 : S1x96x512.ShapeCasts S96x512
  shapeCasts_S1x32x512_S32x512 : S1x32x512.ShapeCasts S32x512
  bcast_S_S32x512 : S_.BroadcastsInDim S32x512 (![] : Fin 0 → Fin S32x512.rank)
  slices_S96x512_S32x512_0_0 : S96x512.Slices ![0, 0] S32x512
  slices_S96x512_S32x512_32_0 : S96x512.Slices ![32, 0] S32x512
  slices_S96x512_S32x512_64_0 : S96x512.Slices ![64, 0] S32x512
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  bcast_S_S16384x512 : S_.BroadcastsInDim S16384x512 (![] : Fin 0 → Fin S16384x512.rank)
  bcast_S16384x512_S16384x1x512_0_2 : S16384x512.BroadcastsInDim S16384x1x512 (![0, 2] : Fin 2 → Fin S16384x1x512.rank)
  bcast_S16384x32x1_S16384x32x512_0_1_2 : S16384x32x1.BroadcastsInDim S16384x32x512 (![0, 1, 2] : Fin 3 → Fin S16384x32x512.rank)
  bcast_S16384x1x512_S16384x32x512_0_1_2 : S16384x1x512.BroadcastsInDim S16384x32x512 (![0, 1, 2] : Fin 3 → Fin S16384x32x512.rank)
  bcast_S32x512_S1x32x512_1_2 : S32x512.BroadcastsInDim S1x32x512 (![1, 2] : Fin 2 → Fin S1x32x512.rank)
  bcast_S1x32x512_S16384x32x512_0_1_2 : S1x32x512.BroadcastsInDim S16384x32x512 (![0, 1, 2] : Fin 3 → Fin S16384x32x512.rank)

variable [Facts]

def fn_part2 {F : FTy → Type} [FloatOps F] (main_v9 : FVec F S16384x32 .f32) (main_v19 : FVec F S16384x512 .f32) (main_v39 : IVec S32x512 1) (main_v41 : FVec F S32x512 .f32) (main_v42 : FVec F S32x512 .f32) : IVec S16384x32x512 1 :=
  let main_v43 : IVec S32x512 1 := cmpf .olt main_v41 main_v42
  let main_v44 : IVec S32x512 1 := andi main_v39 main_v43
  let main_v45 : FVec F S16384x32 .f32 := Host.absf main_v9
  let main_cst_4 : FVec F S_ .f32 := constant S_ .f32 0x7F800000#32
  let main_v46 : FVec F S16384x32 .f32 := broadcastInDim S16384x32 ![] bcast_S_S16384x32 main_cst_4
  let main_v47 : IVec S16384x32 1 := cmpf .olt main_v45 main_v46
  let main_v48 : IVec S16384x32x1 1 := broadcastInDim S16384x32x1 ![0, 1] bcast_S16384x32_S16384x32x1_0_1 main_v47
  let main_v49 : FVec F S16384x512 .f32 := Host.absf main_v19
  let main_cst_5 : FVec F S_ .f32 := constant S_ .f32 0x7F800000#32
  let main_v50 : FVec F S16384x512 .f32 := broadcastInDim S16384x512 ![] bcast_S_S16384x512 main_cst_5
  let main_v51 : IVec S16384x512 1 := cmpf .olt main_v49 main_v50
  let main_v52 : IVec S16384x1x512 1 := broadcastInDim S16384x1x512 ![0, 2] bcast_S16384x512_S16384x1x512_0_2 main_v51
  let main_v53 : IVec S16384x32x512 1 := broadcastInDim S16384x32x512 ![0, 1, 2] bcast_S16384x32x1_S16384x32x512_0_1_2 main_v48
  let main_v54 : IVec S16384x32x512 1 := broadcastInDim S16384x32x512 ![0, 1, 2] bcast_S16384x1x512_S16384x32x512_0_1_2 main_v52
  let main_v55 : IVec S16384x32x512 1 := andi main_v53 main_v54
  let main_v56 : IVec S1x32x512 1 := broadcastInDim S1x32x512 ![1, 2] bcast_S32x512_S1x32x512_1_2 main_v44
  let main_v57 : IVec S16384x32x512 1 := broadcastInDim S16384x32x512 ![0, 1, 2] bcast_S1x32x512_S16384x32x512_0_1_2 main_v56
  let main_v58 : IVec S16384x32x512 1 := andi main_v55 main_v57
  main_v58

def fn_part1 {F : FTy → Type} [FloatOps F] (main_arg12 : FVec F S1x32x512 .f32) (main_v9 : FVec F S16384x32 .f32) (main_v19 : FVec F S16384x512 .f32) (main_v20 : FVec F S96x512 .f32) (main_v22 : FVec F S32x512 .f32) (main_cst : FVec F S_ .f32) : IVec S16384x32x512 1 :=
  let main_v23 : FVec F S32x512 .f32 := broadcastInDim S32x512 ![] bcast_S_S32x512 main_cst
  let main_v24 : IVec S32x512 1 := cmpf .olt main_v22 main_v23
  let main_v25 : FVec F S32x512 .f32 := shapeCast S32x512 main_arg12 shapeCasts_S1x32x512_S32x512
  let main_v26 : FVec F S32x512 .f32 := Host.absf main_v25
  let main_cst_0 : FVec F S_ .f32 := constant S_ .f32 0x7F800000#32
  let main_v27 : FVec F S32x512 .f32 := broadcastInDim S32x512 ![] bcast_S_S32x512 main_cst_0
  let main_v28 : IVec S32x512 1 := cmpf .olt main_v26 main_v27
  let main_v29 : IVec S32x512 1 := andi main_v24 main_v28
  let main_v30 : FVec F S32x512 .f32 := (extractStridedSlice S32x512 ![0, 0] · slices_S96x512_S32x512_0_0) main_v20
  let main_v31 : FVec F S32x512 .f32 := Host.absf main_v30
  let main_cst_1 : FVec F S_ .f32 := constant S_ .f32 0x7F800000#32
  let main_v32 : FVec F S32x512 .f32 := broadcastInDim S32x512 ![] bcast_S_S32x512 main_cst_1
  let main_v33 : IVec S32x512 1 := cmpf .olt main_v31 main_v32
  let main_v34 : IVec S32x512 1 := andi main_v29 main_v33
  let main_v35 : FVec F S32x512 .f32 := (extractStridedSlice S32x512 ![32, 0] · slices_S96x512_S32x512_32_0) main_v20
  let main_v36 : FVec F S32x512 .f32 := Host.absf main_v35
  let main_cst_2 : FVec F S_ .f32 := constant S_ .f32 0x7F800000#32
  let main_v37 : FVec F S32x512 .f32 := broadcastInDim S32x512 ![] bcast_S_S32x512 main_cst_2
  let main_v38 : IVec S32x512 1 := cmpf .olt main_v36 main_v37
  let main_v39 : IVec S32x512 1 := andi main_v34 main_v38
  let main_v40 : FVec F S32x512 .f32 := (extractStridedSlice S32x512 ![64, 0] · slices_S96x512_S32x512_64_0) main_v20
  let main_v41 : FVec F S32x512 .f32 := Host.absf main_v40
  let main_cst_3 : FVec F S_ .f32 := constant S_ .f32 0x7F800000#32
  let main_v42 : FVec F S32x512 .f32 := broadcastInDim S32x512 ![] bcast_S_S32x512 main_cst_3
  fn_part2 (F := F) main_v9 main_v19 main_v39 main_v41 main_v42

def fn {F : FTy → Type} [FloatOps F] (main_arg0 : FVec F S16384x512 .f32) (main_arg1 : FVec F S16384x512 .f32) (main_arg2 : FVec F S16384x512 .f32) (main_arg3 : FVec F S16384x256 .f32) (main_arg4 : FVec F S16384x512 .f32) (main_arg5 : FVec F S16384x512 .f32) (main_arg6 : FVec F S16384x512 .f32) (main_arg7 : FVec F S16384x256 .f32) (main_arg8 : FVec F S1x1696 .f32) (main_arg9 : FVec F S1x512 .f32) (main_arg10 : FVec F S1x32x512 .f32) (main_arg11 : FVec F S1x512 .f32) (main_arg12 : FVec F S1x32x512 .f32) (main_arg13 : FVec F S1x96x512 .f32) (main_arg14 : FVec F S1x512 .f32) (main_arg15 : FVec F S1x512 .f32) : IVec S16384x32x512 1 :=
  let main_v0 : FVec F S1696 .f32 := shapeCast S1696 main_arg8 shapeCasts_S1x1696_S1696
  let main_v1 : FVec F S16384x32 .f32 := (extractStridedSlice S16384x32 ![0, 32] · slices_S16384x256_S16384x32_0_32) main_arg3
  let main_v2 : FVec F S16384x32 .f32 := (extractStridedSlice S16384x32 ![0, 32] · slices_S16384x256_S16384x32_0_32) main_arg7
  let main_v3 : FVec F S16384x32 .f32 := (extractStridedSlice S16384x32 ![0, 32] · slices_S16384x256_S16384x32_0_32) main_arg3
  let main_v4 : FVec F S16384x32 .f32 := subf main_v2 main_v3
  let main_v5 : FVec F S32 .f32 := (extractStridedSlice S32 ![1568] · slices_S1696_S32_1568) main_v0
  let main_v6 : FVec F S1x32 .f32 := broadcastInDim S1x32 ![1] bcast_S32_S1x32_1 main_v5
  let main_v7 : FVec F S16384x32 .f32 := broadcastInDim S16384x32 ![0, 1] bcast_S1x32_S16384x32_0_1 main_v6
  let main_v8 : FVec F S16384x32 .f32 := mulf main_v4 main_v7
  let main_v9 : FVec F S16384x32 .f32 := addf main_v1 main_v8
  let main_v10 : FVec F S16384x512 .f32 := subf main_arg5 main_arg1
  let main_v11 : FVec F S512 .f32 := (extractStridedSlice S512 ![512] · slices_S1696_S512_512) main_v0
  let main_v12 : FVec F S1x512 .f32 := broadcastInDim S1x512 ![1] bcast_S512_S1x512_1 main_v11
  let main_v13 : FVec F S16384x512 .f32 := broadcastInDim S16384x512 ![0, 1] bcast_S1x512_S16384x512_0_1 main_v12
  let main_v14 : FVec F S16384x512 .f32 := mulf main_v10 main_v13
  let main_v15 : FVec F S16384x512 .f32 := addf main_arg1 main_v14
  let main_v16 : FVec F S512 .f32 := shapeCast S512 main_arg14 shapeCasts_S1x512_S512
  let main_v17 : FVec F S1x512 .f32 := broadcastInDim S1x512 ![1] bcast_S512_S1x512_1 main_v16
  let main_v18 : FVec F S16384x512 .f32 := broadcastInDim S16384x512 ![0, 1] bcast_S1x512_S16384x512_0_1 main_v17
  let main_v19 : FVec F S16384x512 .f32 := mulf main_v15 main_v18
  let main_v20 : FVec F S96x512 .f32 := shapeCast S96x512 main_arg13 shapeCasts_S1x96x512_S96x512
  let main_v21 : FVec F S32x512 .f32 := shapeCast S32x512 main_arg10 shapeCasts_S1x32x512_S32x512
  let main_v22 : FVec F S32x512 .f32 := Host.absf main_v21
  let main_cst : FVec F S_ .f32 := constant S_ .f32 0x7F800000#32
  fn_part1 (F := F) main_arg12 main_v9 main_v19 main_v20 main_v22 main_cst
-- ==== Swa.lean ====
abbrev S2x8192x512 : Shape := ⟨3, ![2, 8192, 512]⟩
abbrev S2x8192x256 : Shape := ⟨3, ![2, 8192, 256]⟩
abbrev S1x8 : Shape := ⟨2, ![1, 8]⟩
abbrev S32x12 : Shape := ⟨2, ![32, 12]⟩
abbrev S8 : Shape := ⟨1, ![8]⟩
abbrev S32x8 : Shape := ⟨2, ![32, 8]⟩
abbrev S639 : Shape := ⟨1, ![639]⟩
abbrev S_ : Shape := ⟨0, ![]⟩
abbrev S639x1 : Shape := ⟨2, ![639, 1]⟩
abbrev S639x8 : Shape := ⟨2, ![639, 8]⟩
abbrev S8x639 : Shape := ⟨2, ![8, 639]⟩
abbrev S1x8x1x639 : Shape := ⟨4, ![1, 8, 1, 639]⟩
abbrev S1x8x257x639 : Shape := ⟨4, ![1, 8, 257, 639]⟩
abbrev S8x164223 : Shape := ⟨2, ![8, 164223]⟩
abbrev S8x163840 : Shape := ⟨2, ![8, 163840]⟩
abbrev S8x256x640 : Shape := ⟨3, ![8, 256, 640]⟩
abbrev S8x256x384 : Shape := ⟨3, ![8, 256, 384]⟩
abbrev S1x256x512 : Shape := ⟨3, ![1, 256, 512]⟩
abbrev S1x128x128 : Shape := ⟨3, ![1, 128, 128]⟩
abbrev S1x256x128 : Shape := ⟨3, ![1, 256, 128]⟩
abbrev S256x512 : Shape := ⟨2, ![256, 512]⟩
abbrev S128x128 : Shape := ⟨2, ![128, 128]⟩
abbrev S256x128 : Shape := ⟨2, ![256, 128]⟩
abbrev S384x128 : Shape := ⟨2, ![384, 128]⟩
abbrev S256x384 : Shape := ⟨2, ![256, 384]⟩
abbrev S256x64 : Shape := ⟨2, ![256, 64]⟩
abbrev S1x256x384 : Shape := ⟨3, ![1, 256, 384]⟩
abbrev S1 : Shape := ⟨1, ![1]⟩
abbrev S256 : Shape := ⟨1, ![256]⟩
abbrev S256x1 : Shape := ⟨2, ![256, 1]⟩

abbrev nBuf : Space → Nat
  | .hbm => 73
  | .vmem => 13
  | .smem => 1
  | _ => 0

abbrev bufTy : (tb : Table) → Fin (tcTables nBuf tb) → BufTy
  | .hbm, ⟨0, _⟩ => ⟨S2x8192x512, .f32⟩
  | .hbm, ⟨1, _⟩ => ⟨S2x8192x256, .f32⟩
  | .hbm, ⟨2, _⟩ => ⟨S1x8, .f32⟩
  | .hbm, ⟨3, _⟩ => ⟨S32x12, .f32⟩
  | .hbm, ⟨4, _⟩ => ⟨S2x8192x256, .bf16⟩
  | .hbm, ⟨5, _⟩ => ⟨S8, .f32⟩
  | .hbm, ⟨6, _⟩ => ⟨S32x8, .f32⟩
  | .hbm, ⟨7, _⟩ => ⟨S639, .i32⟩
  | .hbm, ⟨8, _⟩ => ⟨S_, .i32⟩
  | .hbm, ⟨9, _⟩ => ⟨S639, .i32⟩
  | .hbm, ⟨10, _⟩ => ⟨S639, .i32⟩
  | .hbm, ⟨11, _⟩ => ⟨S_, .i32⟩
  | .hbm, ⟨12, _⟩ => ⟨S639, .i32⟩
  | .hbm, ⟨13, _⟩ => ⟨S639, .i32⟩
  | .hbm, ⟨14, _⟩ => ⟨S_, .i32⟩
  | .hbm, ⟨15, _⟩ => ⟨S639, .i32⟩
  | .hbm, ⟨16, _⟩ => ⟨S639, .i1⟩
  | .hbm, ⟨17, _⟩ => ⟨S_, .i32⟩
  | .hbm, ⟨18, _⟩ => ⟨S639, .i32⟩
  | .hbm, ⟨19, _⟩ => ⟨S639, .i1⟩
  | .hbm, ⟨20, _⟩ => ⟨S639, .i1⟩
  | .hbm, ⟨21, _⟩ => ⟨S_, .i32⟩
  | .hbm, ⟨22, _⟩ => ⟨S639, .i32⟩
  | .hbm, ⟨23, _⟩ => ⟨S639, .i32⟩
  | .hbm, ⟨24, _⟩ => ⟨S_, .i32⟩
  | .hbm, ⟨25, _⟩ => ⟨S639, .i32⟩
  | .hbm, ⟨26, _⟩ => ⟨S639, .i32⟩
  | .hbm, ⟨27, _⟩ => ⟨S639, .f32⟩
  | .hbm, ⟨28, _⟩ => ⟨S_, .f32⟩
  | .hbm, ⟨29, _⟩ => ⟨S639, .f32⟩
  | .hbm, ⟨30, _⟩ => ⟨S639, .f32⟩
  | .hbm, ⟨31, _⟩ => ⟨S639, .f32⟩
  | .hbm, ⟨32, _⟩ => ⟨S_, .f32⟩
  | .hbm, ⟨33, _⟩ => ⟨S639, .f32⟩
  | .hbm, ⟨34, _⟩ => ⟨S639, .f32⟩
  | .hbm, ⟨35, _⟩ => ⟨S_, .f32⟩
  | .hbm, ⟨36, _⟩ => ⟨S639, .f32⟩
  | .hbm, ⟨37, _⟩ => ⟨S639, .f32⟩
  | .hbm, ⟨38, _⟩ => ⟨S639, .i32⟩
  | .hbm, ⟨39, _⟩ => ⟨S_, .i32⟩
  | .hbm, ⟨40, _⟩ => ⟨S639, .i32⟩
  | .hbm, ⟨41, _⟩ => ⟨S639, .i32⟩
  | .hbm, ⟨42, _⟩ => ⟨S_, .i32⟩
  | .hbm, ⟨43, _⟩ => ⟨S639, .i32⟩
  | .hbm, ⟨44, _⟩ => ⟨S639, .i32⟩
  | .hbm, ⟨45, _⟩ => ⟨S_, .i32⟩
  | .hbm, ⟨46, _⟩ => ⟨S639, .i32⟩
  | .hbm, ⟨47, _⟩ => ⟨S639, .i1⟩
  | .hbm, ⟨48, _⟩ => ⟨S639, .i32⟩
  | .hbm, ⟨49, _⟩ => ⟨S_, .i32⟩
  | .hbm, ⟨50, _⟩ => ⟨S639, .i32⟩
  | .hbm, ⟨51, _⟩ => ⟨S639, .i1⟩
  | .hbm, ⟨52, _⟩ => ⟨S_, .i32⟩
  | .hbm, ⟨53, _⟩ => ⟨S639, .i32⟩
  | .hbm, ⟨54, _⟩ => ⟨S639, .i32⟩
  | .hbm, ⟨55, _⟩ => ⟨S639, .i32⟩
  | .hbm, ⟨56, _⟩ => ⟨S639x1, .i32⟩
  | .hbm, ⟨57, _⟩ => ⟨S639x8, .f32⟩
  | .hbm, ⟨58, _⟩ => ⟨S8x639, .f32⟩
  | .hbm, ⟨59, _⟩ => ⟨S_, .f32⟩
  | .hbm, ⟨60, _⟩ => ⟨S_, .f32⟩
  | .hbm, ⟨61, _⟩ => ⟨S8x639, .i1⟩
  | .hbm, ⟨62, _⟩ => ⟨S8x639, .f32⟩
  | .hbm, ⟨63, _⟩ => ⟨S8x639, .f32⟩
  | .hbm, ⟨64, _⟩ => ⟨S8x639, .f32⟩
  | .hbm, ⟨65, _⟩ => ⟨S1x8x1x639, .f32⟩
  | .hbm, ⟨66, _⟩ => ⟨S1x8x257x639, .f32⟩
  | .hbm, ⟨67, _⟩ => ⟨S8x164223, .f32⟩
  | .hbm, ⟨68, _⟩ => ⟨S8x163840, .f32⟩
  | .hbm, ⟨69, _⟩ => ⟨S8x256x640, .f32⟩
  | .hbm, ⟨70, _⟩ => ⟨S8x256x384, .f32⟩
  | .hbm, ⟨71, _⟩ => ⟨S8x256x384, .f32⟩
  | .hbm, ⟨72, _⟩ => ⟨S2x8192x512, .f32⟩
  | .local _ .vmem, ⟨0, _⟩ => ⟨S1x256x512, .f32⟩
  | .local _ .vmem, ⟨1, _⟩ => ⟨S1x256x512, .f32⟩
  | .local _ .vmem, ⟨2, _⟩ => ⟨S1x128x128, .bf16⟩
  | .local _ .vmem, ⟨3, _⟩ => ⟨S1x128x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x256x128, .bf16⟩
  | .local _ .vmem, ⟨9, _⟩ => ⟨S1x256x128, .bf16⟩
  | .local _ .vmem, ⟨10, _⟩ => ⟨S8x256x384, .f32⟩
  | .local _ .vmem, ⟨11, _⟩ => ⟨S1x256x512, .f32⟩
  | .local _ .vmem, ⟨12, _⟩ => ⟨S1x256x512, .f32⟩
  | .local _ .smem, ⟨0, _⟩ => ⟨S8, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_7 : Ref sig .tc := ⟨.hbm, 39, rfl⟩
abbrev main_v26 : Ref sig .tc := ⟨.hbm, 40, rfl⟩
abbrev main_v27 : Ref sig .tc := ⟨.hbm, 41, rfl⟩
abbrev main_c_8 : Ref sig .tc := ⟨.hbm, 42, rfl⟩
abbrev main_v28 : Ref sig .tc := ⟨.hbm, 43, rfl⟩
abbrev main_v29 : Ref sig .tc := ⟨.hbm, 44, rfl⟩
abbrev main_c_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_10 : Ref sig .tc := ⟨.hbm, 49, rfl⟩
abbrev main_v33 : Ref sig .tc := ⟨.hbm, 50, rfl⟩
abbrev main_v34 : Ref sig .tc := ⟨.hbm, 51, rfl⟩
abbrev main_c_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x256x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SwaRefIdeal.lean ====
abbrev S2x8192x512 : Shape := ⟨3, ![2, 8192, 512]⟩
abbrev S2x8192x256 : Shape := ⟨3, ![2, 8192, 256]⟩
abbrev S1x8 : Shape := ⟨2, ![1, 8]⟩
abbrev S32x12 : Shape := ⟨2, ![32, 12]⟩
abbrev S2x8192x2x4x64 : Shape := ⟨5, ![2, 8192, 2, 4, 64]⟩
abbrev S2x8192x2x2x64 : Shape := ⟨5, ![2, 8192, 2, 2, 64]⟩
abbrev S2x8192x1x2x64 : Shape := ⟨5, ![2, 8192, 1, 2, 64]⟩
abbrev S2x8192x2x64 : Shape := ⟨4, ![2, 8192, 2, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S2x2x8192x8192x4 : Shape := ⟨5, ![2, 2, 8192, 8192, 4]⟩
abbrev S2x2x4x8192x8192 : Shape := ⟨5, ![2, 2, 4, 8192, 8192]⟩
abbrev S32x8 : Shape := ⟨2, ![32, 8]⟩
abbrev S8192x8192x1 : Shape := ⟨3, ![8192, 8192, 1]⟩
abbrev S8192x8192x8 : Shape := ⟨3, ![8192, 8192, 8]⟩
abbrev S8x8192x8192 : Shape := ⟨3, ![8, 8192, 8192]⟩
abbrev S2x4x8192x8192 : Shape := ⟨4, ![2, 4, 8192, 8192]⟩
abbrev S1x2x4x8192x8192 : Shape := ⟨5, ![1, 2, 4, 8192, 8192]⟩
abbrev S8 : Shape := ⟨1, ![8]⟩
abbrev S2x4x1x1 : Shape := ⟨4, ![2, 4, 1, 1]⟩
abbrev S2x2x4x8192 : Shape := ⟨4, ![2, 2, 4, 8192]⟩
abbrev S2x2x4x8192x1 : Shape := ⟨5, ![2, 2, 4, 8192, 1]⟩
abbrev S1x2x4x1x1 : Shape := ⟨5, ![1, 2, 4, 1, 1]⟩
abbrev S2x2x64x4x8192 : Shape := ⟨5, ![2, 2, 64, 4, 8192]⟩

abbrev nBuf : Space → Nat
  | .hbm => 108
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x256, .f32⟩
  | .hbm, ⟨2, _⟩ => ⟨S1x8, .f32⟩
  | .hbm, ⟨3, _⟩ => ⟨S32x12, .f32⟩
  | .hbm, ⟨4, _⟩ => ⟨S2x8192x2x4x64, .f32⟩
  | .hbm, ⟨5, _⟩ => ⟨S2x8192x2x2x64, .f32⟩
  | .hbm, ⟨6, _⟩ => ⟨S2x8192x1x2x64, .f32⟩
  | .hbm, ⟨7, _⟩ => ⟨S2x8192x2x64, .f32⟩
  | .hbm, ⟨8, _⟩ => ⟨S2x8192x1x2x64, .f32⟩
  | .hbm, ⟨9, _⟩ => ⟨S2x8192x2x64, .f32⟩
  | .hbm, ⟨10, _⟩ => ⟨S8192, .i32⟩
  | .hbm, ⟨11, _⟩ => ⟨S8192x1, .i32⟩
  | .hbm, ⟨12, _⟩ => ⟨S1x8192, .i32⟩
  | .hbm, ⟨13, _⟩ => ⟨S8192x8192, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S8192x8192, .i32⟩
  | .hbm, ⟨18, _⟩ => ⟨S8192x8192, .i1⟩
  | .hbm, ⟨19, _⟩ => ⟨S_, .i32⟩
  | .hbm, ⟨20, _⟩ => ⟨S8192x8192, .i32⟩
  | .hbm, ⟨21, _⟩ => ⟨S8192x8192, .i1⟩
  | .hbm, ⟨22, _⟩ => ⟨S8192x8192, .i1⟩
  | .hbm, ⟨23, _⟩ => ⟨S2x2x8192x8192x4, .f32⟩
  | .hbm, ⟨24, _⟩ => ⟨S2x2x4x8192x8192, .f32⟩
  | .hbm, ⟨25, _⟩ => ⟨S_, .f32⟩
  | .hbm, ⟨26, _⟩ => ⟨S2x2x4x8192x8192, .f32⟩
  | .hbm, ⟨27, _⟩ => ⟨S2x2x4x8192x8192, .f32⟩
  | .hbm, ⟨28, _⟩ => ⟨S32x8, .f32⟩
  | .hbm, ⟨29, _⟩ => ⟨S_, .i32⟩
  | .hbm, ⟨30, _⟩ => ⟨S8192x8192, .i32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .i32⟩
  | .hbm, ⟨47, _⟩ => ⟨S_, .i32⟩
  | .hbm, ⟨48, _⟩ => ⟨S8192x8192, .i32⟩
  | .hbm, ⟨49, _⟩ => ⟨S8192x8192, .i32⟩
  | .hbm, ⟨50, _⟩ => ⟨S_, .i32⟩
  | .hbm, ⟨51, _⟩ => ⟨S8192x8192, .i32⟩
  | .hbm, ⟨52, _⟩ => ⟨S8192x8192, .i32⟩
  | .hbm, ⟨53, _⟩ => ⟨S_, .i32⟩
  | .hbm, ⟨54, _⟩ => ⟨S8192x8192, .i32⟩
  | .hbm, ⟨55, _⟩ => ⟨S8192x8192, .i1⟩
  | .hbm, ⟨56, _⟩ => ⟨S8192x8192, .i32⟩
  | .hbm, ⟨57, _⟩ => ⟨S_, .i32⟩
  | .hbm, ⟨58, _⟩ => ⟨S8192x8192, .i32⟩
  | .hbm, ⟨59, _⟩ => ⟨S8192x8192, .i1⟩
  | .hbm, ⟨60, _⟩ => ⟨S_, .i32⟩
  | .hbm, ⟨61, _⟩ => ⟨S8192x8192, .i32⟩
  | .hbm, ⟨62, _⟩ => ⟨S8192x8192, .i32⟩
  | .hbm, ⟨63, _⟩ => ⟨S8192x8192, .i32⟩
  | .hbm, ⟨64, _⟩ => ⟨S8192x8192x1, .i32⟩
  | .hbm, ⟨65, _⟩ => ⟨S8192x8192x8, .f32⟩
  | .hbm, ⟨66, _⟩ => ⟨S8x8192x8192, .f32⟩
  | .hbm, ⟨67, _⟩ => ⟨S2x4x8192x8192, .f32⟩
  | .hbm, ⟨68, _⟩ => ⟨S1x2x4x8192x8192, .f32⟩
  | .hbm, ⟨69, _⟩ => ⟨S2x2x4x8192x8192, .f32⟩
  | .hbm, ⟨70, _⟩ => ⟨S2x2x4x8192x8192, .f32⟩
  | .hbm, ⟨71, _⟩ => ⟨S_, .f32⟩
  | .hbm, ⟨72, _⟩ => ⟨S_, .f32⟩
  | .hbm, ⟨73, _⟩ => ⟨S2x2x4x8192x8192, .i1⟩
  | .hbm, ⟨74, _⟩ => ⟨S2x2x4x8192x8192, .f32⟩
  | .hbm, ⟨75, _⟩ => ⟨S2x2x4x8192x8192, .f32⟩
  | .hbm, ⟨76, _⟩ => ⟨S8, .f32⟩
  | .hbm, ⟨77, _⟩ => ⟨S2x4x1x1, .f32⟩
  | .hbm, ⟨78, _⟩ => ⟨S_, .f32⟩
  | .hbm, ⟨79, _⟩ => ⟨S2x2x4x8192, .f32⟩
  | .hbm, ⟨80, _⟩ => ⟨S2x2x4x8192x1, .f32⟩
  | .hbm, ⟨81, _⟩ => ⟨S1x2x4x1x1, .f32⟩
  | .hbm, ⟨82, _⟩ => ⟨S2x2x4x8192x1, .f32⟩
  | .hbm, ⟨83, _⟩ => ⟨S2x2x4x8192x1, .f32⟩
  | .hbm, ⟨84, _⟩ => ⟨S2x2x4x8192x8192, .f32⟩
  | .hbm, ⟨85, _⟩ => ⟨S2x2x4x8192x8192, .f32⟩
  | .hbm, ⟨86, _⟩ => ⟨S2x2x4x8192x8192, .f32⟩
  | .hbm, ⟨87, _⟩ => ⟨S_, .f32⟩
  | .hbm, ⟨88, _⟩ => ⟨S_, .f32⟩
  | .hbm, ⟨89, _⟩ => ⟨S2x2x4x8192x8192, .i1⟩
  | .hbm, ⟨90, _⟩ => ⟨S2x2x4x8192x8192, .f32⟩
  | .hbm, ⟨91, _⟩ => ⟨S2x2x4x8192x8192, .f32⟩
  | .hbm, ⟨92, _⟩ => ⟨S_, .f32⟩
  | .hbm, ⟨93, _⟩ => ⟨S2x2x4x8192, .f32⟩
  | .hbm, ⟨94, _⟩ => ⟨S2x2x4x8192x1, .f32⟩
  | .hbm, ⟨95, _⟩ => ⟨S1x2x4x1x1, .f32⟩
  | .hbm, ⟨96, _⟩ => ⟨S2x2x4x8192x1, .f32⟩
  | .hbm, ⟨97, _⟩ => ⟨S2x2x4x8192x1, .f32⟩
  | .hbm, ⟨98, _⟩ => ⟨S2x2x4x8192x1, .f32⟩
  | .hbm, ⟨99, _⟩ => ⟨S2x2x4x8192x1, .f32⟩
  | .hbm, ⟨100, _⟩ => ⟨S_, .f32⟩
  | .hbm, ⟨101, _⟩ => ⟨S2x2x4x8192x1, .f32⟩
  | .hbm, ⟨102, _⟩ => ⟨S2x2x4x8192x1, .f32⟩
  | .hbm, ⟨103, _⟩ => ⟨S2x2x4x8192x8192, .f32⟩
  | .hbm, ⟨104, _⟩ => ⟨S2x2x4x8192x8192, .f32⟩
  | .hbm, ⟨105, _⟩ => ⟨S2x2x64x4x8192, .f32⟩
  | .hbm, ⟨106, _⟩ => ⟨S2x8192x2x4x64, .f32⟩
  | .hbm, ⟨107, _⟩ => ⟨S2x8192x512, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_c_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_9 : Ref sig .tc := ⟨.hbm, 57, rfl⟩
abbrev main_v42 : Ref sig .tc := ⟨.hbm, 58, rfl⟩
abbrev main_v43 : Ref sig .tc := ⟨.hbm, 59, rfl⟩
abbrev main_c_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Proj.lean ====
abbrev S2x8192x1024 : Shape := ⟨3, ![2, 8192, 1024]⟩
abbrev S1024 : Shape := ⟨1, ![1024]⟩
abbrev S1x1024x2840 : Shape := ⟨3, ![1, 1024, 2840]⟩
abbrev S16384x1024 : Shape := ⟨2, ![16384, 1024]⟩
abbrev S1024x2840 : Shape := ⟨2, ![1024, 2840]⟩
abbrev S1024x512 : Shape := ⟨2, ![1024, 512]⟩
abbrev S1024x256 : Shape := ⟨2, ![1024, 256]⟩
abbrev S1024x24 : Shape := ⟨2, ![1024, 24]⟩
abbrev S1024x1024 : Shape := ⟨2, ![1024, 1024]⟩
abbrev S_ : Shape := ⟨0, ![]⟩
abbrev S1024x128 : Shape := ⟨2, ![1024, 128]⟩
abbrev S1024x2944 : Shape := ⟨2, ![1024, 2944]⟩
abbrev S1x1024 : Shape := ⟨2, ![1, 1024]⟩
abbrev S16384x512 : Shape := ⟨2, ![16384, 512]⟩
abbrev S16384x256 : Shape := ⟨2, ![16384, 256]⟩
abbrev S16384x128 : Shape := ⟨2, ![16384, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 26
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1x1024x2840, .f32⟩
  | .hbm, ⟨3, _⟩ => ⟨S16384x1024, .f32⟩
  | .hbm, ⟨4, _⟩ => ⟨S1024x2840, .f32⟩
  | .hbm, ⟨5, _⟩ => ⟨S1024x512, .f32⟩
  | .hbm, ⟨6, _⟩ => ⟨S1024x512, .f32⟩
  | .hbm, ⟨7, _⟩ => ⟨S1024x256, .f32⟩
  | .hbm, ⟨8, _⟩ => ⟨S1024x24, .f32⟩
  | .hbm, ⟨9, _⟩ => ⟨S1024x512, .f32⟩
  | .hbm, ⟨10, _⟩ => ⟨S1024x1024, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x2944, .f32⟩
  | .hbm, ⟨15, _⟩ => ⟨S1024x2944, .bf16⟩
  | .hbm, ⟨16, _⟩ => ⟨S1x1024, .f32⟩
  | .hbm, ⟨17, _⟩ => ⟨S16384x512, .f32⟩
  | .hbm, ⟨18, _⟩ => ⟨S16384x512, .f32⟩
  | .hbm, ⟨19, _⟩ => ⟨S16384x512, .bf16⟩
  | .hbm, ⟨20, _⟩ => ⟨S16384x256, .f32⟩
  | .hbm, ⟨21, _⟩ => ⟨S16384x256, .bf16⟩
  | .hbm, ⟨22, _⟩ => ⟨S16384x512, .f32⟩
  | .hbm, ⟨23, _⟩ => ⟨S16384x1024, .f32⟩
  | .hbm, ⟨24, _⟩ => ⟨S16384x1024, .bf16⟩
  | .hbm, ⟨25, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x256, .f32⟩
  | .local _ .vmem, ⟨11, _⟩ => ⟨S512x256, .f32⟩
  | .local _ .vmem, ⟨12, _⟩ => ⟨S512x256, .bf16⟩
  | .local _ .vmem, ⟨13, _⟩ => ⟨S512x256, .bf16⟩
  | .local _ .vmem, ⟨14, _⟩ => ⟨S512x512, .f32⟩
  | .local _ .vmem, ⟨15, _⟩ => ⟨S512x512, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev main_v12_6 : Ref sig .tc := ⟨.hbm, 23, rfl⟩
abbrev main_v12_7 : Ref sig .tc := ⟨.hbm, 24, rfl⟩
abbrev main_v12_8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjIdeal.lean ====
abbrev S2x8192x1024 : Shape := ⟨3, ![2, 8192, 1024]⟩
abbrev S1024 : Shape := ⟨1, ![1024]⟩
abbrev S1x1024x2840 : Shape := ⟨3, ![1, 1024, 2840]⟩
abbrev S16384x1024 : Shape := ⟨2, ![16384, 1024]⟩
abbrev S1024x2840 : Shape := ⟨2, ![1024, 2840]⟩
abbrev S1024x512 : Shape := ⟨2, ![1024, 512]⟩
abbrev S1024x256 : Shape := ⟨2, ![1024, 256]⟩
abbrev S1024x24 : Shape := ⟨2, ![1024, 24]⟩
abbrev S1024x1024 : Shape := ⟨2, ![1024, 1024]⟩
abbrev S_ : Shape := ⟨0, ![]⟩
abbrev S1024x128 : Shape := ⟨2, ![1024, 128]⟩
abbrev S1024x2944 : Shape := ⟨2, ![1024, 2944]⟩
abbrev S1x1024 : Shape := ⟨2, ![1, 1024]⟩
abbrev S16384x512 : Shape := ⟨2, ![16384, 512]⟩
abbrev S16384x256 : Shape := ⟨2, ![16384, 256]⟩
abbrev S16384x128 : Shape := ⟨2, ![16384, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 26
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1x1024x2840, .f32⟩
  | .hbm, ⟨3, _⟩ => ⟨S16384x1024, .f32⟩
  | .hbm, ⟨4, _⟩ => ⟨S1024x2840, .f32⟩
  | .hbm, ⟨5, _⟩ => ⟨S1024x512, .f32⟩
  | .hbm, ⟨6, _⟩ => ⟨S1024x512, .f32⟩
  | .hbm, ⟨7, _⟩ => ⟨S1024x256, .f32⟩
  | .hbm, ⟨8, _⟩ => ⟨S1024x24, .f32⟩
  | .hbm, ⟨9, _⟩ => ⟨S1024x512, .f32⟩
  | .hbm, ⟨10, _⟩ => ⟨S1024x1024, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x2944, .f32⟩
  | .hbm, ⟨15, _⟩ => ⟨S1024x2944, .bf16⟩
  | .hbm, ⟨16, _⟩ => ⟨S1x1024, .f32⟩
  | .hbm, ⟨17, _⟩ => ⟨S16384x512, .f32⟩
  | .hbm, ⟨18, _⟩ => ⟨S16384x512, .f32⟩
  | .hbm, ⟨19, _⟩ => ⟨S16384x512, .bf16⟩
  | .hbm, ⟨20, _⟩ => ⟨S16384x256, .f32⟩
  | .hbm, ⟨21, _⟩ => ⟨S16384x256, .bf16⟩
  | .hbm, ⟨22, _⟩ => ⟨S16384x512, .f32⟩
  | .hbm, ⟨23, _⟩ => ⟨S16384x1024, .f32⟩
  | .hbm, ⟨24, _⟩ => ⟨S16384x1024, .bf16⟩
  | .hbm, ⟨25, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x256, .f32⟩
  | .local _ .vmem, ⟨11, _⟩ => ⟨S512x256, .f32⟩
  | .local _ .vmem, ⟨12, _⟩ => ⟨S512x256, .bf16⟩
  | .local _ .vmem, ⟨13, _⟩ => ⟨S512x256, .bf16⟩
  | .local _ .vmem, ⟨14, _⟩ => ⟨S512x512, .f32⟩
  | .local _ .vmem, ⟨15, _⟩ => ⟨S512x512, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev main_v12_6 : Ref sig .tc := ⟨.hbm, 23, rfl⟩
abbrev main_v12_7 : Ref sig .tc := ⟨.hbm, 24, rfl⟩
abbrev main_v12_8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S2x8192x1024 : Shape := ⟨3, ![2, 8192, 1024]⟩
abbrev S1024 : Shape := ⟨1, ![1024]⟩
abbrev S1x1024x2840 : Shape := ⟨3, ![1, 1024, 2840]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2840 : Shape := ⟨2, ![1024, 2840]⟩
abbrev S2x8192x2840 : Shape := ⟨3, ![2, 8192, 2840]⟩
abbrev S16384x2840 : Shape := ⟨2, ![16384, 2840]⟩
abbrev S16384x512 : Shape := ⟨2, ![16384, 512]⟩
abbrev S16384x256 : Shape := ⟨2, ![16384, 256]⟩
abbrev S16384x24 : Shape := ⟨2, ![16384, 24]⟩
abbrev S16384x1024 : Shape := ⟨2, ![16384, 1024]⟩
abbrev S16384x128 : Shape := ⟨2, ![16384, 128]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1x1024x2840, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S1024x2840, .f32⟩
  | .hbm, ⟨20, _⟩ => ⟨S2x8192x2840, .f32⟩
  | .hbm, ⟨21, _⟩ => ⟨S16384x2840, .f32⟩
  | .hbm, ⟨22, _⟩ => ⟨S16384x512, .f32⟩
  | .hbm, ⟨23, _⟩ => ⟨S16384x512, .f32⟩
  | .hbm, ⟨24, _⟩ => ⟨S16384x256, .f32⟩
  | .hbm, ⟨25, _⟩ => ⟨S16384x24, .f32⟩
  | .hbm, ⟨26, _⟩ => ⟨S16384x512, .f32⟩
  | .hbm, ⟨27, _⟩ => ⟨S16384x1024, .f32⟩
  | .hbm, ⟨28, _⟩ => ⟨S16384x512, .bf16⟩
  | .hbm, ⟨29, _⟩ => ⟨S16384x256, .bf16⟩
  | .hbm, ⟨30, _⟩ => ⟨S16384x1024, .bf16⟩
  | .hbm, ⟨31, _⟩ => ⟨S_, .i32⟩
  | .hbm, ⟨32, _⟩ => ⟨S_, .f32⟩
  | .hbm, ⟨33, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Odd.lean ====
abbrev S2x8192x1024 : Shape := ⟨3, ![2, 8192, 1024]⟩
abbrev S1024 : Shape := ⟨1, ![1024]⟩
abbrev S1x1024x2464 : Shape := ⟨3, ![1, 1024, 2464]⟩
abbrev S16384x1024 : Shape := ⟨2, ![16384, 1024]⟩
abbrev S1024x2464 : Shape := ⟨2, ![1024, 2464]⟩
abbrev S_ : Shape := ⟨0, ![]⟩
abbrev S1024x2560 : Shape := ⟨2, ![1024, 2560]⟩
abbrev S1x1024 : Shape := ⟨2, ![1, 1024]⟩
abbrev S16384x512 : Shape := ⟨2, ![16384, 512]⟩
abbrev S16384x256 : Shape := ⟨2, ![16384, 256]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩

abbrev nBuf : Space → Nat
  | .hbm => 17
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1x1024x2464, .f32⟩
  | .hbm, ⟨3, _⟩ => ⟨S16384x1024, .f32⟩
  | .hbm, ⟨4, _⟩ => ⟨S1024x2464, .f32⟩
  | .hbm, ⟨5, _⟩ => ⟨S_, .i32⟩
  | .hbm, ⟨6, _⟩ => ⟨S_, .f32⟩
  | .hbm, ⟨7, _⟩ => ⟨S1024x2560, .f32⟩
  | .hbm, ⟨8, _⟩ => ⟨S1024x2560, .bf16⟩
  | .hbm, ⟨9, _⟩ => ⟨S1x1024, .f32⟩
  | .hbm, ⟨10, _⟩ => ⟨S16384x512, .f32⟩
  | .hbm, ⟨11, _⟩ => ⟨S16384x256, .f32⟩
  | .hbm, ⟨12, _⟩ => ⟨S16384x256, .bf16⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x256, .bf16⟩
  | .local _ .vmem, ⟨9, _⟩ => ⟨S512x256, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x256, .f32⟩
  | .local _ .vmem, ⟨17, _⟩ => ⟨S512x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OddIdeal.lean ====
abbrev S2x8192x1024 : Shape := ⟨3, ![2, 8192, 1024]⟩
abbrev S1024 : Shape := ⟨1, ![1024]⟩
abbrev S1x1024x2464 : Shape := ⟨3, ![1, 1024, 2464]⟩
abbrev S16384x1024 : Shape := ⟨2, ![16384, 1024]⟩
abbrev S1024x2464 : Shape := ⟨2, ![1024, 2464]⟩
abbrev S_ : Shape := ⟨0, ![]⟩
abbrev S1024x2560 : Shape := ⟨2, ![1024, 2560]⟩
abbrev S1x1024 : Shape := ⟨2, ![1, 1024]⟩
abbrev S16384x512 : Shape := ⟨2, ![16384, 512]⟩
abbrev S16384x256 : Shape := ⟨2, ![16384, 256]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩

abbrev nBuf : Space → Nat
  | .hbm => 17
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1x1024x2464, .f32⟩
  | .hbm, ⟨3, _⟩ => ⟨S16384x1024, .f32⟩
  | .hbm, ⟨4, _⟩ => ⟨S1024x2464, .f32⟩
  | .hbm, ⟨5, _⟩ => ⟨S_, .i32⟩
  | .hbm, ⟨6, _⟩ => ⟨S_, .f32⟩
  | .hbm, ⟨7, _⟩ => ⟨S1024x2560, .f32⟩
  | .hbm, ⟨8, _⟩ => ⟨S1024x2560, .bf16⟩
  | .hbm, ⟨9, _⟩ => ⟨S1x1024, .f32⟩
  | .hbm, ⟨10, _⟩ => ⟨S16384x512, .f32⟩
  | .hbm, ⟨11, _⟩ => ⟨S16384x256, .f32⟩
  | .hbm, ⟨12, _⟩ => ⟨S16384x256, .bf16⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S16384x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .bf16⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x256, .bf16⟩
  | .local _ .vmem, ⟨9, _⟩ => ⟨S512x256, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x256, .f32⟩
  | .local _ .vmem, ⟨17, _⟩ => ⟨S512x256, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OddRefIdeal.lean ====
abbrev S2x8192x1024 : Shape := ⟨3, ![2, 8192, 1024]⟩
abbrev S1024 : Shape := ⟨1, ![1024]⟩
abbrev S1x1024x2464 : Shape := ⟨3, ![1, 1024, 2464]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2464 : Shape := ⟨2, ![1024, 2464]⟩
abbrev S2x8192x2464 : Shape := ⟨3, ![2, 8192, 2464]⟩
abbrev S16384x2464 : Shape := ⟨2, ![16384, 2464]⟩
abbrev S16384x256 : Shape := ⟨2, ![16384, 256]⟩
abbrev S16384x512 : Shape := ⟨2, ![16384, 512]⟩
abbrev S16384x160 : Shape := ⟨2, ![16384, 160]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1x1024x2464, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S1024x2464, .f32⟩
  | .hbm, ⟨20, _⟩ => ⟨S2x8192x2464, .f32⟩
  | .hbm, ⟨21, _⟩ => ⟨S16384x2464, .f32⟩
  | .hbm, ⟨22, _⟩ => ⟨S16384x256, .f32⟩
  | .hbm, ⟨23, _⟩ => ⟨S16384x512, .f32⟩
  | .hbm, ⟨24, _⟩ => ⟨S16384x256, .bf16⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x160, .f32⟩
  | .hbm, ⟨29, _⟩ => ⟨S_, .i32⟩
  | .hbm, ⟨30, _⟩ => ⟨S_, .f32⟩
  | .hbm, ⟨31, _⟩ => ⟨S16384x256, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Out.lean ====
abbrev S16384x1024 : Shape := ⟨2, ![16384, 1024]⟩
abbrev S16384x512 : Shape := ⟨2, ![16384, 512]⟩
abbrev S1x1024x1024 : Shape := ⟨3, ![1, 1024, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1x1024x1024, .f32⟩
  | .hbm, ⟨4, _⟩ => ⟨S1024x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutIdeal.lean ====
abbrev S16384x1024 : Shape := ⟨2, ![16384, 1024]⟩
abbrev S16384x512 : Shape := ⟨2, ![16384, 512]⟩
abbrev S1x1024x1024 : Shape := ⟨3, ![1, 1024, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1x1024x1024, .f32⟩
  | .hbm, ⟨4, _⟩ => ⟨S1024x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S16384x1024 : Shape := ⟨2, ![16384, 1024]⟩
abbrev S16384x512 : Shape := ⟨2, ![16384, 512]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S1x1024x1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== FfnS.lean ====
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 12
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSRefIdeal.lean ====
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x2816 : Shape := ⟨2, ![512, 2816]⟩

abbrev nBuf : Space → Nat
  | .hbm => 52
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S1x1024, .f32⟩
  | .hbm, ⟨20, _⟩ => ⟨S512x1024, .f32⟩
  | .hbm, ⟨21, _⟩ => ⟨S512x1024, .f32⟩
  | .hbm, ⟨22, _⟩ => ⟨S512x2816, .f32⟩
  | .hbm, ⟨23, _⟩ => ⟨S512x2816, .f32⟩
  | .hbm, ⟨24, _⟩ => ⟨S512x2816, .f32⟩
  | .hbm, ⟨25, _⟩ => ⟨S_, .f32⟩
  | .hbm, ⟨26, _⟩ => ⟨S512x2816, .f32⟩
  | .hbm, ⟨27, _⟩ => ⟨S512x2816, .f32⟩
  | .hbm, ⟨28, _⟩ => ⟨S_, .f32⟩
  | .hbm, ⟨29, _⟩ => ⟨S512x2816, .f32⟩
  | .hbm, ⟨30, _⟩ => ⟨S512x2816, .f32⟩
  | .hbm, ⟨31, _⟩ => ⟨S512x2816, .f32⟩
  | .hbm, ⟨32, _⟩ => ⟨S512x2816, .f32⟩
  | .hbm, ⟨33, _⟩ => ⟨S512x2816, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512, .f32⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S_, .f32⟩
  | .hbm, ⟨44, _⟩ => ⟨S512x1, .f32⟩
  | .hbm, ⟨45, _⟩ => ⟨S512x1, .f32⟩
  | .hbm, ⟨46, _⟩ => ⟨S512x1, .f32⟩
  | .hbm, ⟨47, _⟩ => ⟨S512x1024, .f32⟩
  | .hbm, ⟨48, _⟩ => ⟨S512x1024, .f32⟩
  | .hbm, ⟨49, _⟩ => ⟨S1x1024, .f32⟩
  | .hbm, ⟨50, _⟩ => ⟨S512x1024, .f32⟩
  | .hbm, ⟨51, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== ProjS.lean ====
abbrev S128x4x1024 : Shape := ⟨3, ![128, 4, 1024]⟩
abbrev S1024 : Shape := ⟨1, ![1024]⟩
abbrev S1x1024x2840 : Shape := ⟨3, ![1, 1024, 2840]⟩
abbrev S512x1024 : Shape := ⟨2, ![512, 1024]⟩
abbrev S1024x2840 : Shape := ⟨2, ![1024, 2840]⟩
abbrev S1024x512 : Shape := ⟨2, ![1024, 512]⟩
abbrev S1024x256 : Shape := ⟨2, ![1024, 256]⟩
abbrev S1024x24 : Shape := ⟨2, ![1024, 24]⟩
abbrev S1024x1024 : Shape := ⟨2, ![1024, 1024]⟩
abbrev S_ : Shape := ⟨0, ![]⟩
abbrev S1024x128 : Shape := ⟨2, ![1024, 128]⟩
abbrev S1024x2944 : Shape := ⟨2, ![1024, 2944]⟩
abbrev S1x1024 : Shape := ⟨2, ![1, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 26
  | .vmem => 12
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1x1024x2840, .f32⟩
  | .hbm, ⟨3, _⟩ => ⟨S512x1024, .f32⟩
  | .hbm, ⟨4, _⟩ => ⟨S1024x2840, .f32⟩
  | .hbm, ⟨5, _⟩ => ⟨S1024x512, .f32⟩
  | .hbm, ⟨6, _⟩ => ⟨S1024x512, .f32⟩
  | .hbm, ⟨7, _⟩ => ⟨S1024x256, .f32⟩
  | .hbm, ⟨8, _⟩ => ⟨S1024x24, .f32⟩
  | .hbm, ⟨9, _⟩ => ⟨S1024x512, .f32⟩
  | .hbm, ⟨10, _⟩ => ⟨S1024x1024, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x2944, .f32⟩
  | .hbm, ⟨15, _⟩ => ⟨S1024x2944, .bf16⟩
  | .hbm, ⟨16, _⟩ => ⟨S1x1024, .f32⟩
  | .hbm, ⟨17, _⟩ => ⟨S512x512, .f32⟩
  | .hbm, ⟨18, _⟩ => ⟨S512x512, .f32⟩
  | .hbm, ⟨19, _⟩ => ⟨S512x512, .bf16⟩
  | .hbm, ⟨20, _⟩ => ⟨S512x256, .f32⟩
  | .hbm, ⟨21, _⟩ => ⟨S512x256, .bf16⟩
  | .hbm, ⟨22, _⟩ => ⟨S512x512, .f32⟩
  | .hbm, ⟨23, _⟩ => ⟨S512x1024, .f32⟩
  | .hbm, ⟨24, _⟩ => ⟨S512x1024, .bf16⟩
  | .hbm, ⟨25, _⟩ => ⟨S512x128, .f32⟩
  | .local _ .vmem, ⟨0, _⟩ => ⟨S512x1024, .f32⟩
  | .local _ .vmem, ⟨1, _⟩ => ⟨S1x1024, .f32⟩
  | .local _ .vmem, ⟨2, _⟩ => ⟨S1024x2944, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x256, .f32⟩
  | .local _ .vmem, ⟨7, _⟩ => ⟨S512x256, .bf16⟩
  | .local _ .vmem, ⟨8, _⟩ => ⟨S512x512, .f32⟩
  | .local _ .vmem, ⟨9, _⟩ => ⟨S512x1024, .f32⟩
  | .local _ .vmem, ⟨10, _⟩ => ⟨S512x1024, .bf16⟩
  | .local _ .vmem, ⟨11, _⟩ => ⟨S512x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev main_v12_6 : Ref sig .tc := ⟨.hbm, 23, rfl⟩
abbrev main_v12_7 : Ref sig .tc := ⟨.hbm, 24, rfl⟩
abbrev main_v12_8 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== ProjSRefIdeal.lean ====
abbrev S128x4x1024 : Shape := ⟨3, ![128, 4, 1024]⟩
abbrev S1024 : Shape := ⟨1, ![1024]⟩
abbrev S1x1024x2840 : Shape := ⟨3, ![1, 1024, 2840]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x2840 : Shape := ⟨2, ![1024, 2840]⟩
abbrev S128x4x2840 : Shape := ⟨3, ![128, 4, 2840]⟩
abbrev S512x2840 : Shape := ⟨2, ![512, 2840]⟩
abbrev S512x512 : Shape := ⟨2, ![512, 512]⟩
abbrev S512x256 : Shape := ⟨2, ![512, 256]⟩
abbrev S512x24 : Shape := ⟨2, ![512, 24]⟩
abbrev S512x1024 : Shape := ⟨2, ![512, 1024]⟩
abbrev S512x128 : Shape := ⟨2, ![512, 128]⟩

abbrev nBuf : Space → Nat
  | .hbm => 34
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1x1024x2840, .f32⟩
  | .hbm, ⟨3, _⟩ => ⟨S128x4x1024, .f32⟩
  | .hbm, ⟨4, _⟩ => ⟨S_, .f32⟩
  | .hbm, ⟨5, _⟩ => ⟨S128x4, .f32⟩
  | .hbm, ⟨6, _⟩ => ⟨S128x4x1, .f32⟩
  | .hbm, ⟨7, _⟩ => ⟨S_, .f32⟩
  | .hbm, ⟨8, _⟩ => ⟨S128x4x1, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S128x4x1, .f32⟩
  | .hbm, ⟨14, _⟩ => ⟨S128x4x1024, .f32⟩
  | .hbm, ⟨15, _⟩ => ⟨S128x4x1024, .f32⟩
  | .hbm, ⟨16, _⟩ => ⟨S1x1x1024, .f32⟩
  | .hbm, ⟨17, _⟩ => ⟨S128x4x1024, .f32⟩
  | .hbm, ⟨18, _⟩ => ⟨S128x4x1024, .f32⟩
  | .hbm, ⟨19, _⟩ => ⟨S1024x2840, .f32⟩
  | .hbm, ⟨20, _⟩ => ⟨S128x4x2840, .f32⟩
  | .hbm, ⟨21, _⟩ => ⟨S512x2840, .f32⟩
  | .hbm, ⟨22, _⟩ => ⟨S512x512, .f32⟩
  | .hbm, ⟨23, _⟩ => ⟨S512x512, .f32⟩
  | .hbm, ⟨24, _⟩ => ⟨S512x256, .f32⟩
  | .hbm, ⟨25, _⟩ => ⟨S512x24, .f32⟩
  | .hbm, ⟨26, _⟩ => ⟨S512x512, .f32⟩
  | .hbm, ⟨27, _⟩ => ⟨S512x1024, .f32⟩
  | .hbm, ⟨28, _⟩ => ⟨S512x512, .bf16⟩
  | .hbm, ⟨29, _⟩ => ⟨S512x256, .bf16⟩
  | .hbm, ⟨30, _⟩ => ⟨S512x1024, .bf16⟩
  | .hbm, ⟨31, _⟩ => ⟨S_, .i32⟩
  | .hbm, ⟨32, _⟩ => ⟨S_, .f32⟩
  | .hbm, ⟨33, _⟩ => ⟨S512x128, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_call0_v0 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== OddS.lean ====
abbrev S128x4x1024 : Shape := ⟨3, ![128, 4, 1024]⟩
abbrev S1024 : Shape := ⟨1, ![1024]⟩
abbrev S1x1024x2464 : Shape := ⟨3, ![1, 1024, 2464]⟩
abbrev S512x1024 : Shape := ⟨2, ![512, 1024]⟩
abbrev S1024x2464 : Shape := ⟨2, ![1024, 2464]⟩
abbrev S_ : Shape := ⟨0, ![]⟩
abbrev S1024x2560 : Shape := ⟨2, ![1024, 2560]⟩
abbrev S1x1024 : Shape := ⟨2, ![1, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩

abbrev nBuf : Space → Nat
  | .hbm => 17
  | .vmem => 10
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1x1024x2464, .f32⟩
  | .hbm, ⟨3, _⟩ => ⟨S512x1024, .f32⟩
  | .hbm, ⟨4, _⟩ => ⟨S1024x2464, .f32⟩
  | .hbm, ⟨5, _⟩ => ⟨S_, .i32⟩
  | .hbm, ⟨6, _⟩ => ⟨S_, .f32⟩
  | .hbm, ⟨7, _⟩ => ⟨S1024x2560, .f32⟩
  | .hbm, ⟨8, _⟩ => ⟨S1024x2560, .bf16⟩
  | .hbm, ⟨9, _⟩ => ⟨S1x1024, .f32⟩
  | .hbm, ⟨10, _⟩ => ⟨S512x512, .f32⟩
  | .hbm, ⟨11, _⟩ => ⟨S512x256, .f32⟩
  | .hbm, ⟨12, _⟩ => ⟨S512x256, .bf16⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x256, .f32⟩
  | .local _ .vmem, ⟨0, _⟩ => ⟨S512x1024, .f32⟩
  | .local _ .vmem, ⟨1, _⟩ => ⟨S1x1024, .f32⟩
  | .local _ .vmem, ⟨2, _⟩ => ⟨S1024x2560, .bf16⟩
  | .local _ .vmem, ⟨3, _⟩ => ⟨S512x512, .f32⟩
  | .local _ .vmem, ⟨4, _⟩ => ⟨S512x256, .f32⟩
  | .local _ .vmem, ⟨5, _⟩ => ⟨S512x256, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x256, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v5_6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== OddSRefIdeal.lean ====
abbrev S128x4x1024 : Shape := ⟨3, ![128, 4, 1024]⟩
abbrev S1024 : Shape := ⟨1, ![1024]⟩
abbrev S1x1024x2464 : Shape := ⟨3, ![1, 1024, 2464]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1024x2464 : Shape := ⟨2, ![1024, 2464]⟩
abbrev S128x4x2464 : Shape := ⟨3, ![128, 4, 2464]⟩
abbrev S512x2464 : Shape := ⟨2, ![512, 2464]⟩
abbrev S512x256 : Shape := ⟨2, ![512, 256]⟩
abbrev S512x512 : Shape := ⟨2, ![512, 512]⟩
abbrev S512x160 : Shape := ⟨2, ![512, 160]⟩

abbrev nBuf : Space → Nat
  | .hbm => 32
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1x1024x2464, .f32⟩
  | .hbm, ⟨3, _⟩ => ⟨S128x4x1024, .f32⟩
  | .hbm, ⟨4, _⟩ => ⟨S_, .f32⟩
  | .hbm, ⟨5, _⟩ => ⟨S128x4, .f32⟩
  | .hbm, ⟨6, _⟩ => ⟨S128x4x1, .f32⟩
  | .hbm, ⟨7, _⟩ => ⟨S_, .f32⟩
  | .hbm, ⟨8, _⟩ => ⟨S128x4x1, .f32⟩
  | .hbm, ⟨9, _⟩ => ⟨S128x4x1, .f32⟩
  | .hbm, ⟨10, _⟩ => ⟨S_, .f32⟩
  | .hbm, ⟨11, _⟩ => ⟨S128x4x1, .f32⟩
  | .hbm, ⟨12, _⟩ => ⟨S128x4x1, .f32⟩
  | .hbm, ⟨13, _⟩ => ⟨S128x4x1, .f32⟩
  | .hbm, ⟨14, _⟩ => ⟨S128x4x1024, .f32⟩
  | .hbm, ⟨15, _⟩ => ⟨S128x4x1024, .f32⟩
  | .hbm, ⟨16, _⟩ => ⟨S1x1x1024, .f32⟩
  | .hbm, ⟨17, _⟩ => ⟨S128x4x1024, .f32⟩
  | .hbm, ⟨18, _⟩ => ⟨S128x4x1024, .f32⟩
  | .hbm, ⟨19, _⟩ => ⟨S1024x2464, .f32⟩
  | .hbm, ⟨20, _⟩ => ⟨S128x4x2464, .f32⟩
  | .hbm, ⟨21, _⟩ => ⟨S512x2464, .f32⟩
  | .hbm, ⟨22, _⟩ => ⟨S512x256, .f32⟩
  | .hbm, ⟨23, _⟩ => ⟨S512x512, .f32⟩
  | .hbm, ⟨24, _⟩ => ⟨S512x256, .bf16⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S512x160, .f32⟩
  | .hbm, ⟨29, _⟩ => ⟨S_, .i32⟩
  | .hbm, ⟨30, _⟩ => ⟨S_, .f32⟩
  | .hbm, ⟨31, _⟩ => ⟨S512x256, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== OutS.lean ====
abbrev S512x1024 : Shape := ⟨2, ![512, 1024]⟩
abbrev S512x512 : Shape := ⟨2, ![512, 512]⟩
abbrev S1x1024x1024 : Shape := ⟨3, ![1, 1024, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S1x1024x1024, .f32⟩
  | .hbm, ⟨4, _⟩ => ⟨S1024x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S512x1024, .f32⟩
  | .local _ .vmem, ⟨0, _⟩ => ⟨S512x1024, .f32⟩
  | .local _ .vmem, ⟨1, _⟩ => ⟨S512x512, .f32⟩
  | .local _ .vmem, ⟨2, _⟩ => ⟨S512x512, .f32⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== OutSRefIdeal.lean ====
abbrev S512x1024 : Shape := ⟨2, ![512, 1024]⟩
abbrev S512x512 : Shape := ⟨2, ![512, 512]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .f32⟩
  | .hbm, ⟨2, _⟩ => ⟨S512x512, .f32⟩
  | .hbm, ⟨3, _⟩ => ⟨S1x1024x1024, .f32⟩
  | .hbm, ⟨4, _⟩ => ⟨S512x1024, .f32⟩
  | .hbm, ⟨5, _⟩ => ⟨S1024x1024, .f32⟩
  | .hbm, ⟨6, _⟩ => ⟨S512x1024, .f32⟩
  | .hbm, ⟨7, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== FfnE.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnEIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnERefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== FfnES.lean ====
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 12
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnESRefIdeal.lean ====
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x2816 : Shape := ⟨2, ![512, 2816]⟩

abbrev nBuf : Space → Nat
  | .hbm => 36
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S1x1024, .f32⟩
  | .hbm, ⟨20, _⟩ => ⟨S512x1024, .f32⟩
  | .hbm, ⟨21, _⟩ => ⟨S512x1024, .f32⟩
  | .hbm, ⟨22, _⟩ => ⟨S512x2816, .f32⟩
  | .hbm, ⟨23, _⟩ => ⟨S512x2816, .f32⟩
  | .hbm, ⟨24, _⟩ => ⟨S512x2816, .f32⟩
  | .hbm, ⟨25, _⟩ => ⟨S_, .f32⟩
  | .hbm, ⟨26, _⟩ => ⟨S512x2816, .f32⟩
  | .hbm, ⟨27, _⟩ => ⟨S512x2816, .f32⟩
  | .hbm, ⟨28, _⟩ => ⟨S_, .f32⟩
  | .hbm, ⟨29, _⟩ => ⟨S512x2816, .f32⟩
  | .hbm, ⟨30, _⟩ => ⟨S512x2816, .f32⟩
  | .hbm, ⟨31, _⟩ => ⟨S512x2816, .f32⟩
  | .hbm, ⟨32, _⟩ => ⟨S512x2816, .f32⟩
  | .hbm, ⟨33, _⟩ => ⟨S512x2816, .f32⟩
  | .hbm, ⟨34, _⟩ => ⟨S512x1024, .f32⟩
  | .hbm, ⟨35, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Post.lean ====
abbrev S16384x512 : Shape := ⟨2, ![16384, 512]⟩
abbrev S1x8x64 : Shape := ⟨3, ![1, 8, 64]⟩
abbrev S1x512 : Shape := ⟨2, ![1, 512]⟩
abbrev S512 : Shape := ⟨1, ![512]⟩
abbrev S_ : Shape := ⟨0, ![]⟩
abbrev S512x1 : Shape := ⟨2, ![512, 1]⟩
abbrev S512x512 : Shape := ⟨2, ![512, 512]⟩
abbrev S8x64 : Shape := ⟨2, ![8, 64]⟩

abbrev nBuf : Space → Nat
  | .hbm => 41
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S1x8x64, .f32⟩
  | .hbm, ⟨6, _⟩ => ⟨S1x512, .f32⟩
  | .hbm, ⟨7, _⟩ => ⟨S1x512, .f32⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S1x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .f32⟩
  | .hbm, ⟨33, _⟩ => ⟨S512x512, .bf16⟩
  | .hbm, ⟨34, _⟩ => ⟨S8x64, .f32⟩
  | .hbm, ⟨35, _⟩ => ⟨S512, .f32⟩
  | .hbm, ⟨36, _⟩ => ⟨S512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S512x512, .f32⟩
  | .local _ .vmem, ⟨15, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostIdeal.lean ====
abbrev S16384x512 : Shape := ⟨2, ![16384, 512]⟩
abbrev S1x8x64 : Shape := ⟨3, ![1, 8, 64]⟩
abbrev S1x512 : Shape := ⟨2, ![1, 512]⟩
abbrev S512 : Shape := ⟨1, ![512]⟩
abbrev S_ : Shape := ⟨0, ![]⟩
abbrev S512x1 : Shape := ⟨2, ![512, 1]⟩
abbrev S512x512 : Shape := ⟨2, ![512, 512]⟩
abbrev S8x64 : Shape := ⟨2, ![8, 64]⟩

abbrev nBuf : Space → Nat
  | .hbm => 41
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S1x8x64, .f32⟩
  | .hbm, ⟨6, _⟩ => ⟨S1x512, .f32⟩
  | .hbm, ⟨7, _⟩ => ⟨S1x512, .f32⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S1x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .f32⟩
  | .hbm, ⟨33, _⟩ => ⟨S512x512, .bf16⟩
  | .hbm, ⟨34, _⟩ => ⟨S8x64, .f32⟩
  | .hbm, ⟨35, _⟩ => ⟨S512, .f32⟩
  | .hbm, ⟨36, _⟩ => ⟨S512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S512x512, .f32⟩
  | .local _ .vmem, ⟨15, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostRefIdeal.lean ====
abbrev S16384x512 : Shape := ⟨2, ![16384, 512]⟩
abbrev S1x8x64 : Shape := ⟨3, ![1, 8, 64]⟩
abbrev S1x512 : Shape := ⟨2, ![1, 512]⟩
abbrev S16384x8x64 : Shape := ⟨3, ![16384, 8, 64]⟩
abbrev S_ : Shape := ⟨0, ![]⟩
abbrev S16384x8 : Shape := ⟨2, ![16384, 8]⟩
abbrev S16384x8x1 : Shape := ⟨3, ![16384, 8, 1]⟩
abbrev S512 : Shape := ⟨1, ![512]⟩
abbrev S8x64 : Shape := ⟨2, ![8, 64]⟩

abbrev nBuf : Space → Nat
  | .hbm => 58
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S1x8x64, .f32⟩
  | .hbm, ⟨6, _⟩ => ⟨S1x512, .f32⟩
  | .hbm, ⟨7, _⟩ => ⟨S1x512, .f32⟩
  | .hbm, ⟨8, _⟩ => ⟨S16384x8x64, .f32⟩
  | .hbm, ⟨9, _⟩ => ⟨S16384x8x64, .f32⟩
  | .hbm, ⟨10, _⟩ => ⟨S16384x8x64, .f32⟩
  | .hbm, ⟨11, _⟩ => ⟨S16384x8x64, .f32⟩
  | .hbm, ⟨12, _⟩ => ⟨S_, .f32⟩
  | .hbm, ⟨13, _⟩ => ⟨S16384x8, .f32⟩
  | .hbm, ⟨14, _⟩ => ⟨S16384x8x1, .f32⟩
  | .hbm, ⟨15, _⟩ => ⟨S_, .f32⟩
  | .hbm, ⟨16, _⟩ => ⟨S16384x8x1, .f32⟩
  | .hbm, ⟨17, _⟩ => ⟨S16384x8x1, .f32⟩
  | .hbm, ⟨18, _⟩ => ⟨S16384x8x64, .f32⟩
  | .hbm, ⟨19, _⟩ => ⟨S16384x8x64, .f32⟩
  | .hbm, ⟨20, _⟩ => ⟨S16384x8x64, .f32⟩
  | .hbm, ⟨21, _⟩ => ⟨S_, .f32⟩
  | .hbm, ⟨22, _⟩ => ⟨S16384x8, .f32⟩
  | .hbm, ⟨23, _⟩ => ⟨S16384x8x1, .f32⟩
  | .hbm, ⟨24, _⟩ => ⟨S_, .f32⟩
  | .hbm, ⟨25, _⟩ => ⟨S16384x8x1, .f32⟩
  | .hbm, ⟨26, _⟩ => ⟨S16384x8x1, .f32⟩
  | .hbm, ⟨27, _⟩ => ⟨S16384x8x64, .f32⟩
  | .hbm, ⟨28, _⟩ => ⟨S16384x8x64, .f32⟩
  | .hbm, ⟨29, _⟩ => ⟨S_, .f32⟩
  | .hbm, ⟨30, _⟩ => ⟨S16384x8x1, .f32⟩
  | .hbm, ⟨31, _⟩ => ⟨S16384x8x1, .f32⟩
  | .hbm, ⟨32, _⟩ => ⟨S16384x8x1, .f32⟩
  | .hbm, ⟨33, _⟩ => ⟨S16384x8x64, .f32⟩
  | .hbm, ⟨34, _⟩ => ⟨S16384x8x64, .f32⟩
  | .hbm, ⟨35, _⟩ => ⟨S512, .f32⟩
  | .hbm, ⟨36, _⟩ => ⟨S8x64, .f32⟩
  | .hbm, ⟨37, _⟩ => ⟨S1x8x64, .f32⟩
  | .hbm, ⟨38, _⟩ => ⟨S16384x8x64, .f32⟩
  | .hbm, ⟨39, _⟩ => ⟨S16384x8x64, .f32⟩
  | .hbm, ⟨40, _⟩ => ⟨S512, .f32⟩
  | .hbm, ⟨41, _⟩ => ⟨S8x64, .f32⟩
  | .hbm, ⟨42, _⟩ => ⟨S1x8x64, .f32⟩
  | .hbm, ⟨43, _⟩ => ⟨S16384x8x64, .f32⟩
  | .hbm, ⟨44, _⟩ => ⟨S16384x8x64, .f32⟩
  | .hbm, ⟨45, _⟩ => ⟨S16384x8x64, .f32⟩
  | .hbm, ⟨46, _⟩ => ⟨S8x64, .f32⟩
  | .hbm, ⟨47, _⟩ => ⟨S1x8x64, .f32⟩
  | .hbm, ⟨48, _⟩ => ⟨S16384x8x64, .f32⟩
  | .hbm, ⟨49, _⟩ => ⟨S16384x8x64, .f32⟩
  | .hbm, ⟨50, _⟩ => ⟨S_, .f32⟩
  | .hbm, ⟨51, _⟩ => ⟨S16384x8, .f32⟩
  | .hbm, ⟨52, _⟩ => ⟨S16384x8x1, .f32⟩
  | .hbm, ⟨53, _⟩ => ⟨S16384x8x64, .f32⟩
  | .hbm, ⟨54, _⟩ => ⟨S16384x8x64, .f32⟩
  | .hbm, ⟨55, _⟩ => ⟨S16384x8x64, .f32⟩
  | .hbm, ⟨56, _⟩ => ⟨S16384x512, .f32⟩
  | .hbm, ⟨57, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== PostS.lean ====
abbrev S512x512 : Shape := ⟨2, ![512, 512]⟩
abbrev S1x8x64 : Shape := ⟨3, ![1, 8, 64]⟩
abbrev S1x512 : Shape := ⟨2, ![1, 512]⟩
abbrev S512 : Shape := ⟨1, ![512]⟩
abbrev S_ : Shape := ⟨0, ![]⟩
abbrev S512x1 : Shape := ⟨2, ![512, 1]⟩
abbrev S8x64 : Shape := ⟨2, ![8, 64]⟩

abbrev nBuf : Space → Nat
  | .hbm => 41
  | .vmem => 10
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S1x8x64, .f32⟩
  | .hbm, ⟨6, _⟩ => ⟨S1x512, .f32⟩
  | .hbm, ⟨7, _⟩ => ⟨S1x512, .f32⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S1x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S512x512, .f32⟩
  | .hbm, ⟨33, _⟩ => ⟨S512x512, .bf16⟩
  | .hbm, ⟨34, _⟩ => ⟨S8x64, .f32⟩
  | .hbm, ⟨35, _⟩ => ⟨S512, .f32⟩
  | .hbm, ⟨36, _⟩ => ⟨S512, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== PostSRefIdeal.lean ====
abbrev S512x512 : Shape := ⟨2, ![512, 512]⟩
abbrev S1x8x64 : Shape := ⟨3, ![1, 8, 64]⟩
abbrev S1x512 : Shape := ⟨2, ![1, 512]⟩
abbrev S512x8x64 : Shape := ⟨3, ![512, 8, 64]⟩
abbrev S_ : Shape := ⟨0, ![]⟩
abbrev S512x8 : Shape := ⟨2, ![512, 8]⟩
abbrev S512x8x1 : Shape := ⟨3, ![512, 8, 1]⟩
abbrev S512 : Shape := ⟨1, ![512]⟩
abbrev S8x64 : Shape := ⟨2, ![8, 64]⟩

abbrev nBuf : Space → Nat
  | .hbm => 58
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S1x8x64, .f32⟩
  | .hbm, ⟨6, _⟩ => ⟨S1x512, .f32⟩
  | .hbm, ⟨7, _⟩ => ⟨S1x512, .f32⟩
  | .hbm, ⟨8, _⟩ => ⟨S512x8x64, .f32⟩
  | .hbm, ⟨9, _⟩ => ⟨S512x8x64, .f32⟩
  | .hbm, ⟨10, _⟩ => ⟨S512x8x64, .f32⟩
  | .hbm, ⟨11, _⟩ => ⟨S512x8x64, .f32⟩
  | .hbm, ⟨12, _⟩ => ⟨S_, .f32⟩
  | .hbm, ⟨13, _⟩ => ⟨S512x8, .f32⟩
  | .hbm, ⟨14, _⟩ => ⟨S512x8x1, .f32⟩
  | .hbm, ⟨15, _⟩ => ⟨S_, .f32⟩
  | .hbm, ⟨16, _⟩ => ⟨S512x8x1, .f32⟩
  | .hbm, ⟨17, _⟩ => ⟨S512x8x1, .f32⟩
  | .hbm, ⟨18, _⟩ => ⟨S512x8x64, .f32⟩
  | .hbm, ⟨19, _⟩ => ⟨S512x8x64, .f32⟩
  | .hbm, ⟨20, _⟩ => ⟨S512x8x64, .f32⟩
  | .hbm, ⟨21, _⟩ => ⟨S_, .f32⟩
  | .hbm, ⟨22, _⟩ => ⟨S512x8, .f32⟩
  | .hbm, ⟨23, _⟩ => ⟨S512x8x1, .f32⟩
  | .hbm, ⟨24, _⟩ => ⟨S_, .f32⟩
  | .hbm, ⟨25, _⟩ => ⟨S512x8x1, .f32⟩
  | .hbm, ⟨26, _⟩ => ⟨S512x8x1, .f32⟩
  | .hbm, ⟨27, _⟩ => ⟨S512x8x64, .f32⟩
  | .hbm, ⟨28, _⟩ => ⟨S512x8x64, .f32⟩
  | .hbm, ⟨29, _⟩ => ⟨S_, .f32⟩
  | .hbm, ⟨30, _⟩ => ⟨S512x8x1, .f32⟩
  | .hbm, ⟨31, _⟩ => ⟨S512x8x1, .f32⟩
  | .hbm, ⟨32, _⟩ => ⟨S512x8x1, .f32⟩
  | .hbm, ⟨33, _⟩ => ⟨S512x8x64, .f32⟩
  | .hbm, ⟨34, _⟩ => ⟨S512x8x64, .f32⟩
  | .hbm, ⟨35, _⟩ => ⟨S512, .f32⟩
  | .hbm, ⟨36, _⟩ => ⟨S8x64, .f32⟩
  | .hbm, ⟨37, _⟩ => ⟨S1x8x64, .f32⟩
  | .hbm, ⟨38, _⟩ => ⟨S512x8x64, .f32⟩
  | .hbm, ⟨39, _⟩ => ⟨S512x8x64, .f32⟩
  | .hbm, ⟨40, _⟩ => ⟨S512, .f32⟩
  | .hbm, ⟨41, _⟩ => ⟨S8x64, .f32⟩
  | .hbm, ⟨42, _⟩ => ⟨S1x8x64, .f32⟩
  | .hbm, ⟨43, _⟩ => ⟨S512x8x64, .f32⟩
  | .hbm, ⟨44, _⟩ => ⟨S512x8x64, .f32⟩
  | .hbm, ⟨45, _⟩ => ⟨S512x8x64, .f32⟩
  | .hbm, ⟨46, _⟩ => ⟨S8x64, .f32⟩
  | .hbm, ⟨47, _⟩ => ⟨S1x8x64, .f32⟩
  | .hbm, ⟨48, _⟩ => ⟨S512x8x64, .f32⟩
  | .hbm, ⟨49, _⟩ => ⟨S512x8x64, .f32⟩
  | .hbm, ⟨50, _⟩ => ⟨S_, .f32⟩
  | .hbm, ⟨51, _⟩ => ⟨S512x8, .f32⟩
  | .hbm, ⟨52, _⟩ => ⟨S512x8x1, .f32⟩
  | .hbm, ⟨53, _⟩ => ⟨S512x8x64, .f32⟩
  | .hbm, ⟨54, _⟩ => ⟨S512x8x64, .f32⟩
  | .hbm, ⟨55, _⟩ => ⟨S512x8x64, .f32⟩
  | .hbm, ⟨56, _⟩ => ⟨S512x512, .f32⟩
  | .hbm, ⟨57, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Prep.lean ====
abbrev S16384x512 : Shape := ⟨2, ![16384, 512]⟩
abbrev S16384x256 : Shape := ⟨2, ![16384, 256]⟩
abbrev S1x1696 : Shape := ⟨2, ![1, 1696]⟩
abbrev S1x512 : Shape := ⟨2, ![1, 512]⟩
abbrev S1x32x512 : Shape := ⟨3, ![1, 32, 512]⟩
abbrev S1x96x512 : Shape := ⟨3, ![1, 96, 512]⟩
abbrev S512 : Shape := ⟨1, ![512]⟩
abbrev S_ : Shape := ⟨0, ![]⟩
abbrev S512x1 : Shape := ⟨2, ![512, 1]⟩
abbrev S512x512 : Shape := ⟨2, ![512, 512]⟩
abbrev S1696 : Shape := ⟨1, ![1696]⟩
abbrev S160 : Shape := ⟨1, ![160]⟩
abbrev S256 : Shape := ⟨1, ![256]⟩
abbrev S32x512 : Shape := ⟨2, ![32, 512]⟩
abbrev S256x512 : Shape := ⟨2, ![256, 512]⟩
abbrev S96x512 : Shape := ⟨2, ![96, 512]⟩
abbrev S1x256 : Shape := ⟨2, ![1, 256]⟩
abbrev S512x256 : Shape := ⟨2, ![512, 256]⟩

abbrev nBuf : Space → Nat
  | .hbm => 81
  | .vmem => 42
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x256, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x256, .f32⟩
  | .hbm, ⟨8, _⟩ => ⟨S1x1696, .f32⟩
  | .hbm, ⟨9, _⟩ => ⟨S1x512, .f32⟩
  | .hbm, ⟨10, _⟩ => ⟨S1x32x512, .f32⟩
  | .hbm, ⟨11, _⟩ => ⟨S1x512, .f32⟩
  | .hbm, ⟨12, _⟩ => ⟨S1x32x512, .f32⟩
  | .hbm, ⟨13, _⟩ => ⟨S1x96x512, .f32⟩
  | .hbm, ⟨14, _⟩ => ⟨S1x512, .f32⟩
  | .hbm, ⟨15, _⟩ => ⟨S1x512, .f32⟩
  | .hbm, ⟨16, _⟩ => ⟨S512, .i32⟩
  | .hbm, ⟨17, _⟩ => ⟨S_, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S1x512, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S512x512, .f32⟩
  | .hbm, ⟨41, _⟩ => ⟨S512x512, .bf16⟩
  | .hbm, ⟨42, _⟩ => ⟨S1696, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S160, .f32⟩
  | .hbm, ⟨47, _⟩ => ⟨S_, .i32⟩
  | .hbm, ⟨48, _⟩ => ⟨S_, .f32⟩
  | .hbm, ⟨49, _⟩ => ⟨S256, .f32⟩
  | .hbm, ⟨50, _⟩ => ⟨S512, .f32⟩
  | .hbm, ⟨51, _⟩ => ⟨S32x512, .f32⟩
  | .hbm, ⟨52, _⟩ => ⟨S_, .i32⟩
  | .hbm, ⟨53, _⟩ => ⟨S_, .f32⟩
  | .hbm, ⟨54, _⟩ => ⟨S256x512, .f32⟩
  | .hbm, ⟨55, _⟩ => ⟨S512, .f32⟩
  | .hbm, ⟨56, _⟩ => ⟨S32x512, .f32⟩
  | .hbm, ⟨57, _⟩ => ⟨S_, .i32⟩
  | .hbm, ⟨58, _⟩ => ⟨S_, .f32⟩
  | .hbm, ⟨59, _⟩ => ⟨S256x512, .f32⟩
  | .hbm, ⟨60, _⟩ => ⟨S96x512, .f32⟩
  | .hbm, ⟨61, _⟩ => ⟨S_, .i32⟩
  | .hbm, ⟨62, _⟩ => ⟨S_, .f32⟩
  | .hbm, ⟨63, _⟩ => ⟨S256x512, .f32⟩
  | .hbm, ⟨64, _⟩ => ⟨S512, .f32⟩
  | .hbm, ⟨65, _⟩ => ⟨S512, .f32⟩
  | .hbm, ⟨66, _⟩ => ⟨S1x512, .f32⟩
  | .hbm, ⟨67, _⟩ => ⟨S1x512, .f32⟩
  | .hbm, ⟨68, _⟩ => ⟨S1x512, .f32⟩
  | .hbm, ⟨69, _⟩ => ⟨S1x256, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S16384x512, .f32⟩
  | .hbm, ⟨79, _⟩ => ⟨S16384x512, .f32⟩
  | .hbm, ⟨80, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x256, .f32⟩
  | .local _ .vmem, ⟨15, _⟩ => ⟨S512x256, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x256, .f32⟩
  | .local _ .vmem, ⟨20, _⟩ => ⟨S1x512, .f32⟩
  | .local _ .vmem, ⟨21, _⟩ => ⟨S256x512, .f32⟩
  | .local _ .vmem, ⟨22, _⟩ => ⟨S1x512, .f32⟩
  | .local _ .vmem, ⟨23, _⟩ => ⟨S256x512, .f32⟩
  | .local _ .vmem, ⟨24, _⟩ => ⟨S256x512, .f32⟩
  | .local _ .vmem, ⟨25, _⟩ => ⟨S1x512, .f32⟩
  | .local _ .vmem, ⟨26, _⟩ => ⟨S1x512, .f32⟩
  | .local _ .vmem, ⟨27, _⟩ => ⟨S512x512, .bf16⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | .local _ .vmem, ⟨38, _⟩ => ⟨S512x512, .f32⟩
  | .local _ .vmem, ⟨39, _⟩ => ⟨S512x512, .f32⟩
  | .local _ .vmem, ⟨40, _⟩ => ⟨S512x512, .f32⟩
  | .local _ .vmem, ⟨41, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_c_0 : Ref sig .tc := ⟨.hbm, 47, rfl⟩
abbrev main_call1_v0 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_c_1 : Ref sig .tc := ⟨.hbm, 52, rfl⟩
abbrev main_call2_v0 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_c_2 : Ref sig .tc := ⟨.hbm, 57, rfl⟩
abbrev main_call3_v0 : Ref sig .tc := ⟨.hbm, 58, rfl⟩
abbrev main_v20 : Ref sig .tc := ⟨.hbm, 59, rfl⟩
abbrev main_v21 : Ref sig .tc := ⟨.hbm, 60, rfl⟩
abbrev main_c_3 : Ref sig .tc := ⟨.hbm, 61, rfl⟩
abbrev main_call4_v0 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33_0 : Ref sig .tc := ⟨.hbm, 74, rfl⟩
abbrev main_v33_1 : Ref sig .tc := ⟨.hbm, 75, rfl⟩
abbrev main_v33_2 : Ref sig .tc := ⟨.hbm, 76, rfl⟩
abbrev main_v33_3 : Ref sig .tc := ⟨.hbm, 77, rfl⟩
abbrev main_v33_4 : Ref sig .tc := ⟨.hbm, 78, rfl⟩
abbrev main_v33_5 : Ref sig .tc := ⟨.hbm, 79, rfl⟩
abbrev main_v33_6 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg26_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem26_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S512x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== PrepRefIdeal.lean ====
abbrev S16384x512 : Shape := ⟨2, ![16384, 512]⟩
abbrev S16384x256 : Shape := ⟨2, ![16384, 256]⟩
abbrev S1x1696 : Shape := ⟨2, ![1, 1696]⟩
abbrev S1x512 : Shape := ⟨2, ![1, 512]⟩
abbrev S1x32x512 : Shape := ⟨3, ![1, 32, 512]⟩
abbrev S1x96x512 : Shape := ⟨3, ![1, 96, 512]⟩
abbrev S1696 : Shape := ⟨1, ![1696]⟩
abbrev S512 : Shape := ⟨1, ![512]⟩
abbrev S16384x160 : Shape := ⟨2, ![16384, 160]⟩
abbrev S160 : Shape := ⟨1, ![160]⟩
abbrev S1x160 : Shape := ⟨2, ![1, 160]⟩
abbrev S16384x32 : Shape := ⟨2, ![16384, 32]⟩
abbrev S16384x96 : Shape := ⟨2, ![16384, 96]⟩
abbrev S32x512 : Shape := ⟨2, ![32, 512]⟩
abbrev S_ : Shape := ⟨0, ![]⟩
abbrev S96x512 : Shape := ⟨2, ![96, 512]⟩
abbrev S16384x8x64 : Shape := ⟨3, ![16384, 8, 64]⟩
abbrev S16384x8 : Shape := ⟨2, ![16384, 8]⟩
abbrev S16384x8x1 : Shape := ⟨3, ![16384, 8, 1]⟩

abbrev nBuf : Space → Nat
  | .hbm => 128
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x256, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x256, .f32⟩
  | .hbm, ⟨8, _⟩ => ⟨S1x1696, .f32⟩
  | .hbm, ⟨9, _⟩ => ⟨S1x512, .f32⟩
  | .hbm, ⟨10, _⟩ => ⟨S1x32x512, .f32⟩
  | .hbm, ⟨11, _⟩ => ⟨S1x512, .f32⟩
  | .hbm, ⟨12, _⟩ => ⟨S1x32x512, .f32⟩
  | .hbm, ⟨13, _⟩ => ⟨S1x96x512, .f32⟩
  | .hbm, ⟨14, _⟩ => ⟨S1x512, .f32⟩
  | .hbm, ⟨15, _⟩ => ⟨S1x512, .f32⟩
  | .hbm, ⟨16, _⟩ => ⟨S1696, .f32⟩
  | .hbm, ⟨17, _⟩ => ⟨S16384x512, .f32⟩
  | .hbm, ⟨18, _⟩ => ⟨S512, .f32⟩
  | .hbm, ⟨19, _⟩ => ⟨S1x512, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S512, .f32⟩
  | .hbm, ⟨25, _⟩ => ⟨S1x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S512, .f32⟩
  | .hbm, ⟨31, _⟩ => ⟨S1x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x160, .f32⟩
  | .hbm, ⟨36, _⟩ => ⟨S16384x160, .f32⟩
  | .hbm, ⟨37, _⟩ => ⟨S16384x160, .f32⟩
  | .hbm, ⟨38, _⟩ => ⟨S16384x160, .f32⟩
  | .hbm, ⟨39, _⟩ => ⟨S160, .f32⟩
  | .hbm, ⟨40, _⟩ => ⟨S1x160, .f32⟩
  | .hbm, ⟨41, _⟩ => ⟨S16384x160, .f32⟩
  | .hbm, ⟨42, _⟩ => ⟨S16384x160, .f32⟩
  | .hbm, ⟨43, _⟩ => ⟨S16384x160, .f32⟩
  | .hbm, ⟨44, _⟩ => ⟨S16384x32, .f32⟩
  | .hbm, ⟨45, _⟩ => ⟨S16384x32, .f32⟩
  | .hbm, ⟨46, _⟩ => ⟨S16384x96, .f32⟩
  | .hbm, ⟨47, _⟩ => ⟨S512, .f32⟩
  | .hbm, ⟨48, _⟩ => ⟨S16384x32, .f32⟩
  | .hbm, ⟨49, _⟩ => ⟨S32x512, .f32⟩
  | .hbm, ⟨50, _⟩ => ⟨S16384x512, .f32⟩
  | .hbm, ⟨51, _⟩ => ⟨S1x512, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x512, .i1⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S_, .f32⟩
  | .hbm, ⟨71, _⟩ => ⟨S16384x512, .f32⟩
  | .hbm, ⟨72, _⟩ => ⟨S16384x512, .f32⟩
  | .hbm, ⟨73, _⟩ => ⟨S512, .f32⟩
  | .hbm, ⟨74, _⟩ => ⟨S32x512, .f32⟩
  | .hbm, ⟨75, _⟩ => ⟨S16384x512, .f32⟩
  | .hbm, ⟨76, _⟩ => ⟨S1x512, .f32⟩
  | .hbm, ⟨77, _⟩ => ⟨S16384x512, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S_, .f32⟩
  | .hbm, ⟨82, _⟩ => ⟨S16384x512, .f32⟩
  | .hbm, ⟨83, _⟩ => ⟨S16384x512, .f32⟩
  | .hbm, ⟨84, _⟩ => ⟨S_, .f32⟩
  | .hbm, ⟨85, _⟩ => ⟨S16384x512, .f32⟩
  | .hbm, ⟨86, _⟩ => ⟨S16384x512, .f32⟩
  | .hbm, ⟨87, _⟩ => ⟨S16384x96, .f32⟩
  | .hbm, ⟨88, _⟩ => ⟨S16384x96, .f32⟩
  | .hbm, ⟨89, _⟩ => ⟨S_, .f32⟩
  | .hbm, ⟨90, _⟩ => ⟨S16384x96, .f32⟩
  | .hbm, ⟨91, _⟩ => ⟨S16384x96, .f32⟩
  | .hbm, ⟨92, _⟩ => ⟨S_, .f32⟩
  | .hbm, ⟨93, _⟩ => ⟨S16384x96, .f32⟩
  | .hbm, ⟨94, _⟩ => ⟨S16384x96, .f32⟩
  | .hbm, ⟨95, _⟩ => ⟨S96x512, .f32⟩
  | .hbm, ⟨96, _⟩ => ⟨S16384x512, .f32⟩
  | .hbm, ⟨97, _⟩ => ⟨S512, .f32⟩
  | .hbm, ⟨98, _⟩ => ⟨S1x512, .f32⟩
  | .hbm, ⟨99, _⟩ => ⟨S16384x512, .f32⟩
  | .hbm, ⟨100, _⟩ => ⟨S16384x512, .f32⟩
  | .hbm, ⟨101, _⟩ => ⟨S16384x8x64, .f32⟩
  | .hbm, ⟨102, _⟩ => ⟨S16384x8x64, .f32⟩
  | .hbm, ⟨103, _⟩ => ⟨S_, .f32⟩
  | .hbm, ⟨104, _⟩ => ⟨S16384x8, .f32⟩
  | .hbm, ⟨105, _⟩ => ⟨S16384x8x1, .f32⟩
  | .hbm, ⟨106, _⟩ => ⟨S16384x8x1, .f32⟩
  | .hbm, ⟨107, _⟩ => ⟨S_, .f32⟩
  | .hbm, ⟨108, _⟩ => ⟨S16384x8x1, .f32⟩
  | .hbm, ⟨109, _⟩ => ⟨S16384x8x1, .f32⟩
  | .hbm, ⟨110, _⟩ => ⟨S16384x8x64, .f32⟩
  | .hbm, ⟨111, _⟩ => ⟨S16384x8x64, .f32⟩
  | .hbm, ⟨112, _⟩ => ⟨S16384x512, .f32⟩
  | .hbm, ⟨113, _⟩ => ⟨S16384x512, .f32⟩
  | .hbm, ⟨114, _⟩ => ⟨S16384x512, .f32⟩
  | .hbm, ⟨115, _⟩ => ⟨S_, .f32⟩
  | .hbm, ⟨116, _⟩ => ⟨S16384x512, .f32⟩
  | .hbm, ⟨117, _⟩ => ⟨S16384x512, .f32⟩
  | .hbm, ⟨118, _⟩ => ⟨S512, .f32⟩
  | .hbm, ⟨119, _⟩ => ⟨S1x512, .f32⟩
  | .hbm, ⟨120, _⟩ => ⟨S16384x512, .f32⟩
  | .hbm, ⟨121, _⟩ => ⟨S16384x512, .f32⟩
  | .hbm, ⟨122, _⟩ => ⟨S_, .f32⟩
  | .hbm, ⟨123, _⟩ => ⟨S16384x512, .f32⟩
  | .hbm, ⟨124, _⟩ => ⟨S16384x512, .f32⟩
  | .hbm, ⟨125, _⟩ => ⟨S16384x512, .f32⟩
  | .hbm, ⟨126, _⟩ => ⟨S16384x512, .f32⟩
  | .hbm, ⟨127, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_v8 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_v39 : Ref sig .tc := ⟨.hbm, 68, rfl⟩
abbrev main_v40 : Ref sig .tc := ⟨.hbm, 69, rfl⟩
abbrev main_cst : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_0 : Ref sig .tc := ⟨.hbm, 81, rfl⟩
abbrev main_v51 : Ref sig .tc := ⟨.hbm, 82, rfl⟩
abbrev main_v52 : Ref sig .tc := ⟨.hbm, 83, rfl⟩
abbrev main_cst_1 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_2 : Ref sig .tc := ⟨.hbm, 89, rfl⟩
abbrev main_v57 : Ref sig .tc := ⟨.hbm, 90, rfl⟩
abbrev main_v58 : Ref sig .tc := ⟨.hbm, 91, rfl⟩
abbrev main_cst_3 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_4 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_5 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_6 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_7 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩

abbrev nD : Nat := 1
abbrev τ : Topo := Topo.v7x

variable {F : FTy → Type} [FloatOps F]
-- ==== Proof.Swa.TableGather.lean ====
module

public import proofs.«01_k».proof.Proof.Gen.SwaIdeal.Launch
public import Idealize.ShloMosaic.Lib.Pointwise

@[expose] public section

noncomputable section
open Idealize.ShloMosaic Idealize.ShloMosaic.TcCoe Idealize.SL.Sem

namespace Cert.SwaIdeal.Hand
open Cert.SwaIdeal Cert.SwaIdeal.Gen

/-- Rows of the table taken by a list of positions: entry `(a, e)` is the table's entry of column `e` in the row
    the list names, clamped to the table. -/
theorem rows_taken {α : Type} (x : S32x8.Idx → α) (idx : IVec S639x1 32) (a : Fin 639) (e : Fin 8) :
    Host.gather gather_S32x8_S639x1_S639x8_1_0_n_n_0_1_18 x idx (ix2 a e)
      = x (ix2 ⟨min (idx (ix2 a 0)).toInt.toNat 31, by omega⟩ e) := by
  unfold Host.gather
  congr 1
  funext b
  refine Fin.ext ?_
  show GatherDims.start _ (ix2 a e) idx b + GatherDims.batchCoord _ (ix2 a e) b + GatherDims.offCoord _ (ix2 a e) b = _
  rw [GatherDims.batchCoord_eq_zero _ _ _ List.not_mem_nil]
  match b with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S32x8.rank) ∈ gather_S32x8_S639x1_S639x8_1_0_n_n_0_1_18.startIndexMap from List.mem_singleton.mpr rfl)]
    have hs : ∀ k, GatherDims.siIdx gather_S32x8_S639x1_S639x8_1_0_n_n_0_1_18 (ix2 a e) k = ix2 a 0 := by
      intro k
      funext i; refine Fin.ext ?_
      match i with
      | ⟨0, _⟩ => rfl
      | ⟨1, _⟩ => simp [GatherDims.siIdx, gather_S32x8_S639x1_S639x8_1_0_n_n_0_1_18]; omega
    rw [hs]
    rfl
  | ⟨1, _⟩ =>
    unfold GatherDims.start
    rw [dif_neg (by simp [gather_S32x8_S639x1_S639x8_1_0_n_n_0_1_18])]
    simp only [Nat.zero_add]
    rfl

end Cert.SwaIdeal.Hand

end
-- ==== Proof.Swa.Bucket.lean ====
module

public import Idealize.ShloMosaic.Lib.Pointwise

/-! The row of the relative-position table that a distance selects, as a function of the distance alone. -/

@[expose] public section

noncomputable section
open Idealize.ShloMosaic

namespace Cert.Swa

/-- The distance, cut off at zero. -/
def near (d : BitVec 32) : BitVec 32 := IntOp.maxsi d 0#32

/-- The bucket of a distance: itself below 16, logarithmic from there on. -/
def bucket (d : BitVec 32) : BitVec 32 :=
  Scalar.select (IntOp.cmpi CmpIPredicate.slt (near d) 16#32) (near d)
    (IntOp.minsi
      (IntOp.addi (16#32)
        (FloatOps.fptosi (F := Ideal) (φ := .f32) 32
          ((Ideal.div (Ideal.log (Ideal.div (FloatOps.sitofp (F := Ideal) FTy.f32 (IntOp.maxsi (near d) 1#32)) (Ideal.ofBits FTy.f32 0x41800000#32)))
            (Ideal.ofBits FTy.f32 0x40051592#32) * Ideal.ofBits FTy.f32 0x41800000#32 : EReal))))
      31#32)

/-- The bucket as a position from the front. -/
def position (d : BitVec 32) : BitVec 32 :=
  Scalar.select (IntOp.cmpi CmpIPredicate.slt (bucket d) 0#32) (IntOp.addi (bucket d) 32#32) (bucket d)

/-- The table's row for a distance. -/
def row (d : BitVec 32) : Fin 32 := ⟨min (position d).toInt.toNat 31, by omega⟩

/-- A distance inside the window of 128 keys. -/
def within (d : BitVec 32) : BitVec 1 := IntOp.andi (IntOp.cmpi CmpIPredicate.sge d 0#32) (IntOp.cmpi CmpIPredicate.slt d 128#32)

end Cert.Swa

end
-- ==== Proof.Swa.TableAt.lean ====
module

public import proofs.«01_k».proof.Proof.Gen.SwaIdeal.Frame
public import proofs.«01_k».proof.Proof.Swa.TableGather
public import proofs.«01_k».proof.Proof.Swa.Bucket
public import Idealize.ShloMosaic.Lib.Pipeline.ValueKit
public import Idealize.ShloMosaic.Lib.Pointwise
public import Idealize.ShloMosaic.Lib.Claim

@[expose] public section

set_option maxRecDepth 16384

noncomputable section
open Idealize.ShloMosaic Idealize.ShloMosaic.TcCoe Idealize.SL.Sem

namespace Cert.SwaIdeal.Hand
open Cert.SwaIdeal Cert.SwaIdeal.Gen

variable (m : (ℓ : Loc nD τ sig) → Buf (Elt Ideal) ℓ)

def distances : IVec S639 32 :=
  addi (subi (iotaInDim S639 32 0) (broadcastInDim S639 ![] bcast_S_S639 (constantI S_ 32 383#32)))
    (broadcastInDim S639 ![] bcast_S_S639 (constantI S_ 32 128#32))

def nears : IVec S639 32 := maxsi distances (broadcastInDim S639 ![] bcast_S_S639 (constantI S_ 32 0#32))

def buckets : IVec S639 32 :=
  select (cmpi CmpIPredicate.slt nears (broadcastInDim S639 ![] bcast_S_S639 (constantI S_ 32 16#32))) nears
    (minsi
      (addi (broadcastInDim S639 ![] bcast_S_S639 (constantI S_ 32 16#32))
        (fptosi 32
          (mulf
            (Host.divf
              (Host.log
                (Host.divf
                  (sitofp (F := Ideal) FTy.f32 (maxsi nears (broadcastInDim S639 ![] bcast_S_S639 (constantI S_ 32 1#32))))
                  (broadcastInDim S639 ![] bcast_S_S639 (constant S_ FTy.f32 1098907648#32))))
              (broadcastInDim S639 ![] bcast_S_S639 (constant S_ FTy.f32 1074075026#32)))
            (broadcastInDim S639 ![] bcast_S_S639 (constant S_ FTy.f32 1098907648#32)))))
      (broadcastInDim S639 ![] bcast_S_S639 (constantI S_ 32 31#32)))

def positions : IVec S639x1 32 :=
  broadcastInDim S639x1 ![0] bcast_S639_S639x1_0
    (select (cmpi .slt buckets (broadcastInDim S639 ![] bcast_S_S639 (constantI S_ 32 0#32)))
      (addi buckets (broadcastInDim S639 ![] bcast_S_S639 (constantI S_ 32 32#32))) buckets)

def taken (x3 : FVec Ideal S32x12 .f32) : FVec Ideal S639x8 .f32 :=
  Host.gather gather_S32x8_S639x1_S639x8_1_0_n_n_0_1_18 (extractStridedSlice S32x8 ![0, 0] x3 slices_S32x12_S32x8_0_0) positions

def inside : IVec S639 1 :=
  andi (cmpi .sge distances (broadcastInDim S639 ![] bcast_S_S639 (constantI S_ 32 0#32)))
    (cmpi .sle distances (broadcastInDim S639 ![] bcast_S_S639 (constantI S_ 32 127#32)))

def profile (x3 : FVec Ideal S32x12 .f32) : FVec Ideal S8x639 .f32 :=
  select (broadcastInDim S8x639 ![1] bcast_S639_S8x639_1 inside) (transpose S8x639 [1, 0] (taken x3) transposes_S639x8_S8x639_1_0)
    (broadcastInDim S8x639 ![] bcast_S_S8x639 (constant S_ .f32 0xF149F2CA#32))

def table (x3 : FVec Ideal S32x12 .f32) : FVec Ideal S8x256x384 .f32 :=
  Host.reverse [1] (extractStridedSlice S8x256x384 ![0, 0, 0] (shapeCast S8x256x640 (extractStridedSlice S8x163840 ![0, 0]
    (shapeCast S8x164223 (broadcastInDim S1x8x257x639 ![0, 1, 2, 3] bcast_S1x8x1x639_S1x8x257x639_0_1_2_3
      (shapeCast S1x8x1x639 (Host.reverse [1] (profile x3)) shapeCasts_S8x639_S1x8x1x639)) shapeCasts_S1x8x257x639_S8x164223)
      slices_S8x164223_S8x163840_0_0) shapeCasts_S8x163840_S8x256x640) slices_S8x256x640_S8x256x384_0_0_0)

set_option maxHeartbeats 1000000 in
theorem bias (c : Dev nD) : V m c main_v49 = table (m ((c.tc : Thread nD τ).loc main_arg3)) := by
  unfold V
  simp only [hostOps0, hostOps0_1, hostOps0_2, hostOps0_3, hostOps0_4, List.flatten_cons, List.flatten_nil, List.cons_append, List.nil_append, List.append_nil]
  after_results
  rfl

theorem table_at (x3 : FVec Ideal S32x12 .f32) (h : Fin 8) (r : Fin 256) (c : Fin 384) :
    (table x3 (ix3 h r c) : EReal) = profile x3 (ix2 h ⟨383 + r - c, by omega⟩) := by
  pointwise [table]
  simp only [List.mem_singleton, if_true, Fin.reduceEq, if_false, Fin.rev_rev]
  refine congrArg (fun i => profile x3 (ix2 h i)) (Fin.ext ?_)
  simp [Fin.rev]
  omega

theorem profile_at (x3 : FVec Ideal S32x12 .f32) (h : Fin 8) (i : Fin 639) :
    (profile x3 (ix2 h i) : EReal) = Scalar.select (inside (ix1 i)) (taken x3 (ix2 i h)) (Ideal.ofBits .f32 0xF149F2CA#32) := by
  pointwise [profile]

theorem inside_at (i : Fin 639) (d : BitVec 32) (hd : distances (ix1 i) = d) :
    inside (ix1 i) = IntOp.andi (IntOp.cmpi .sge d 0#32) (IntOp.cmpi .sle d 127#32) := by
  subst hd
  pointwise [inside]

theorem taken_at (x3 : FVec Ideal S32x12 .f32) (h : Fin 8) (i : Fin 639) (d : BitVec 32) (hd : distances (ix1 i) = d) :
    (taken x3 (ix2 i h) : EReal) = x3 (ix2 (Cert.Swa.row d) ⟨h, by omega⟩) := by
  have hp : positions (ix2 i 0) = Cert.Swa.position d := by
    subst hd
    pointwise [positions, buckets, nears]
    rfl
  have hc : ∀ r : Fin 32, (extractStridedSlice S32x8 ![0, 0] x3 slices_S32x12_S32x8_0_0 : FVec Ideal S32x8 .f32) (ix2 r h) = x3 (ix2 r ⟨h, by omega⟩) := by
    intro r
    pointwise
  unfold taken
  rw [rows_taken, hc]
  refine congrArg (fun r => x3 (ix2 r _)) (Fin.ext ?_)
  show min (BitVec.toInt (positions (ix2 i 0))).toNat 31 = _
  rw [hp]
  rfl

end Cert.SwaIdeal.Hand

end
-- ==== Proof.Swa.Sink.lean ====
module

public import Idealize.ShloMosaic.Lib.Pointwise

/-! Softmax with a sink over a masked row, as a function of the row; a row over one set of keys equals the row over
    another when the kept keys correspond. -/

@[expose] public section

noncomputable section

open Idealize.ShloMosaic

namespace Cert.Swa

/-- The row's maximum: masked-out entries count as the mask's value, and the sink's logit is among them. -/
def sinkTop {n : ℕ} (msk : Fin n → BitVec 1) (s : Fin n → EReal) (sink : EReal) : EReal :=
  max (Finset.univ.fold max (Ideal.ofBits .f32 0xFF800000#32) fun c => Scalar.select (msk c) (s c) (Ideal.ofBits .f32 0xF149F2CA#32)) sink

/-- An unnormalised weight: zero where masked out. -/
def sinkWeight {n : ℕ} (msk : Fin n → BitVec 1) (s : Fin n → EReal) (sink : EReal) (c : Fin n) : EReal :=
  Scalar.select (msk c) (Ideal.exp (Scalar.select (msk c) (s c) (Ideal.ofBits .f32 0xF149F2CA#32) - sinkTop msk s sink)) 0

/-- The normaliser, kept off zero. -/
def sinkNorm {n : ℕ} (msk : Fin n → BitVec 1) (s : Fin n → EReal) (sink : EReal) : EReal :=
  max ((∑ c, sinkWeight msk s sink c) + Ideal.exp (sink - sinkTop msk s sink)) (Ideal.ofBits .f32 0x0DA24260#32)

/-- The weighted sum of the values. -/
def sinkSum {n : ℕ} (msk : Fin n → BitVec 1) (s : Fin n → EReal) (sink : EReal) (v : Fin n → EReal) : EReal :=
  ∑ c, Ideal.div (sinkWeight msk s sink c) (sinkNorm msk s sink) * v c

section Match
variable {n m : ℕ} {mk : Fin n → BitVec 1} {mr : Fin m → BitVec 1} {sk vk : Fin n → EReal} {sr vr : Fin m → EReal}
  (f : Fin n → Fin m) (g : Fin m → Fin n)

/-- Two sums over kept entries agree when the kept entries correspond. -/
theorem sum_kept (hf : ∀ c, mk c = 1#1 → mr (f c) = 1#1 ∧ g (f c) = c) (hg : ∀ k, mr k = 1#1 → mk (g k) = 1#1 ∧ f (g k) = k)
    (F : Fin n → EReal) (G : Fin m → EReal) (hF : ∀ c, mk c ≠ 1#1 → F c = 0) (hG : ∀ k, mr k ≠ 1#1 → G k = 0)
    (h : ∀ c, mk c = 1#1 → F c = G (f c)) : ∑ c, F c = ∑ k, G k := by
  rw [← Finset.sum_filter_of_ne (s := Finset.univ) (p := fun c => mk c = 1#1) (fun c _ h0 => by_contra fun hc => h0 (hF c hc)),
    ← Finset.sum_filter_of_ne (s := Finset.univ) (p := fun k => mr k = 1#1) (fun k _ h0 => by_contra fun hc => h0 (hG k hc))]
  refine Finset.sum_nbij' f g ?_ ?_ ?_ ?_ ?_
  · intro c hc; simp only [Finset.mem_filter, Finset.mem_univ, true_and] at hc ⊢; exact (hf c hc).1
  · intro k hk; simp only [Finset.mem_filter, Finset.mem_univ, true_and] at hk ⊢; exact (hg k hk).1
  · intro c hc; simp only [Finset.mem_filter, Finset.mem_univ, true_and] at hc; exact (hf c hc).2
  · intro k hk; simp only [Finset.mem_filter, Finset.mem_univ, true_and] at hk; exact (hg k hk).2
  · intro c hc; simp only [Finset.mem_filter, Finset.mem_univ, true_and] at hc; exact h c hc

theorem select_kept (c : BitVec 1) (hc : c = 1#1) (a b : EReal) : Scalar.select c a b = a := by subst hc; rfl
theorem select_masked (c : BitVec 1) (hc : c ≠ 1#1) (a b : EReal) : Scalar.select c a b = b := by
  have : c = 0#1 := by
    revert hc; revert c; decide
  subst this; rfl

/-- The maxima agree: each row has a masked-out entry, and the kept ones correspond. -/
theorem sinkTop_eq (sink : EReal) (hf : ∀ c, mk c = 1#1 → mr (f c) = 1#1 ∧ g (f c) = c)
    (hg : ∀ k, mr k = 1#1 → mk (g k) = 1#1 ∧ f (g k) = k) (hs : ∀ c, mk c = 1#1 → sk c = sr (f c))
    (hk : ∃ c, mk c ≠ 1#1) (hr : ∃ k, mr k ≠ 1#1) : sinkTop mk sk sink = sinkTop mr sr sink := by
  unfold sinkTop
  refine congrArg (fun x => max x sink) (eq_of_forall_ge_iff fun x => ?_)
  rw [Finset.fold_max_le, Finset.fold_max_le]
  refine and_congr_right fun _ => ⟨fun h k _ => ?_, fun h c _ => ?_⟩
  · by_cases hmk : mr k = 1#1
    · rw [select_kept _ hmk]
      have := h (g k) (Finset.mem_univ _)
      rwa [select_kept _ (hg k hmk).1, hs _ (hg k hmk).1, (hg k hmk).2] at this
    · obtain ⟨c, hc⟩ := hk
      rw [select_masked _ hmk]
      have := h c (Finset.mem_univ _)
      rwa [select_masked _ hc] at this
  · by_cases hmk : mk c = 1#1
    · rw [select_kept _ hmk, hs c hmk]
      have := h (f c) (Finset.mem_univ _)
      rwa [select_kept _ (hf c hmk).1] at this
    · obtain ⟨k, hk'⟩ := hr
      rw [select_masked _ hmk]
      have := h k (Finset.mem_univ _)
      rwa [select_masked _ hk'] at this

theorem tiny_pos : (0 : EReal) < Ideal.ofBits .f32 0x0DA24260#32 := by
  simp [Ideal.ofBits, Ideal.ieee, -EReal.coe_mul]

theorem div_zero_norm {y : EReal} (hy : 0 < y) : Ideal.div 0 y = 0 := by
  unfold Ideal.div
  rw [if_neg hy.ne', zero_mul]

/-- The rows' results agree when the kept entries correspond. -/
theorem sinkSum_eq (sink : EReal) (hf : ∀ c, mk c = 1#1 → mr (f c) = 1#1 ∧ g (f c) = c)
    (hg : ∀ k, mr k = 1#1 → mk (g k) = 1#1 ∧ f (g k) = k) (hs : ∀ c, mk c = 1#1 → sk c = sr (f c))
    (hv : ∀ c, mk c = 1#1 → vk c = vr (f c)) (hk : ∃ c, mk c ≠ 1#1) (hr : ∃ k, mr k ≠ 1#1) :
    sinkSum mk sk sink vk = sinkSum mr sr sink vr := by
  have ht := sinkTop_eq (mk := mk) (mr := mr) (sk := sk) (sr := sr) f g sink hf hg hs hk hr
  have hw : ∀ c, mk c = 1#1 → sinkWeight mk sk sink c = sinkWeight mr sr sink (f c) := fun c hc => by
    unfold sinkWeight
    rw [select_kept _ hc, select_kept _ hc, select_kept _ (hf c hc).1, select_kept _ (hf c hc).1, hs c hc, ht]
  have hwk : ∀ c, mk c ≠ 1#1 → sinkWeight mk sk sink c = 0 := fun c hc => by unfold sinkWeight; rw [select_masked _ hc]
  have hwr : ∀ k, mr k ≠ 1#1 → sinkWeight mr sr sink k = 0 := fun c hc => by unfold sinkWeight; rw [select_masked _ hc]
  have hn : sinkNorm mk sk sink = sinkNorm mr sr sink := by
    unfold sinkNorm
    rw [sum_kept f g hf hg _ _ hwk hwr hw, ht]
  have hp : 0 < sinkNorm mr sr sink := lt_of_lt_of_le tiny_pos (le_max_right _ _)
  unfold sinkSum
  rw [hn]
  refine sum_kept f g hf hg _ _ (fun c hc => ?_) (fun k hk => ?_) (fun c hc => ?_)
  · rw [hwk c hc, div_zero_norm hp, zero_mul]
  · rw [hwr k hk, div_zero_norm hp, zero_mul]
  · rw [hw c hc, hv c hc]

end Match

end Cert.Swa

end
-- ==== Proof.Swa.Core.lean ====
module

public import proofs.«01_k».proof.Proof.Gen.SwaIdeal.Skeleton
public import Idealize.ShloMosaic.Lib.Pointwise
public import proofs.«01_k».proof.Proof.Swa.Sink

/-! The windowed attention of one head, as the kernel's body computes it, named once: all eight heads of the
    printed body are this text at their own column offsets. -/

@[expose] public section

set_option maxRecDepth 16384

noncomputable section

open Idealize.ShloMosaic Idealize.ShloMosaic.TcCoe Idealize.SL.Sem

namespace Cert.SwaIdeal.Hand
open Cert.SwaIdeal Cert.SwaIdeal.Gen

variable {F : FTy → Type} [FloatOps F]

/-- The 64 query columns from `o`, in lanes 0–63 of 128. -/
def placeLow (o : Fin 2 → ℕ) (ho : S256x512.Slices o S256x64) (q : FVec F S256x512 .f32) : FVec F S256x128 .bf16 :=
  truncf .bf16 (concatenate S256x128 1 [⟨S256x64, extractStridedSlice S256x64 o q ho⟩,
    ⟨S256x64, broadcast S256x64 (Scalar.ofBits .f32 0x00000000#32 : F .f32)⟩] concatenates_S256x64_S256x64_S256x128_d1) bitsLt_bf16_f32

/-- The 64 query columns from `o`, in lanes 64–127 of 128. -/
def placeHigh (o : Fin 2 → ℕ) (ho : S256x512.Slices o S256x64) (q : FVec F S256x512 .f32) : FVec F S256x128 .bf16 :=
  truncf .bf16 (concatenate S256x128 1 [⟨S256x64, broadcast S256x64 (Scalar.ofBits .f32 0x00000000#32 : F .f32)⟩,
    ⟨S256x64, extractStridedSlice S256x64 o q ho⟩] concatenates_S256x64_S256x64_S256x128_d1) bitsLt_bf16_f32

/-- Which of the 384 columns a row attends to: the table's entry is not the mask's value and the key exists. -/
def keep (ok : IVec S256x384 1) (b : Vec F S1x256x384 .f32) : IVec S256x384 1 :=
  andi (cmpf .ogt (shapeCast S256x384 b shapeCasts_S1x256x384_S256x384) (broadcast S256x384 (Scalar.ofBits .f32 0xF0C9F2CA#32 : F .f32))) ok

/-- The masked scores. -/
def scores (qz : FVec F S256x128 .bf16) (kc : FVec F S384x128 .bf16) (ok : IVec S256x384 1) (b : Vec F S1x256x384 .f32) : FVec F S256x384 .f32 :=
  select (keep ok b) (addf (matmul dot_S256x128_S384x128_S256x384_1_1_0_0_n_n none qz kc (constant S256x384 .f32 0x00000000#32))
    (shapeCast S256x384 b shapeCasts_S1x256x384_S256x384)) (broadcast S256x384 (Scalar.ofBits .f32 0xF149F2CA#32 : F .f32))

/-- The row maximum, the sink's logit among it. -/
def top (sm : FVec F S256x384 .f32) (sink : Elt F .f32) : FVec F S256x1 .f32 :=
  maximumf (shapeCast S256x1 (multiReduction .maximumf [1] S256 sm 0xFF800000#32 reduces_S256x384_S256 (.inl rfl) rfl) shapeCasts_S256_S256x1)
    (broadcast S256x1 sink)

/-- The unnormalised weights. -/
def weights (msk : IVec S256x384 1) (sm : FVec F S256x384 .f32) (t : FVec F S256x1 .f32) : FVec F S256x384 .f32 :=
  select msk (exp (subf sm (broadcastTo S256x384 t broadcasts_S256x1_S256x384))) (broadcast S256x384 (Scalar.ofBits .f32 0x00000000#32 : F .f32))

/-- The normaliser, kept off zero. -/
def norm (p : FVec F S256x384 .f32) (t : FVec F S256x1 .f32) (sink : Elt F .f32) : FVec F S256x1 .f32 :=
  maximumf (addf (shapeCast S256x1 (multiReduction .add [1] S256 p 0x00000000#32 reduces_S256x384_S256 (.inl rfl) rfl) shapeCasts_S256_S256x1)
    (exp (subf (broadcast S256x1 sink) t))) (broadcast S256x1 (Scalar.ofBits .f32 0x0DA24260#32 : F .f32))

/-- The head's result over all 128 value lanes. -/
def attend (qz : FVec F S256x128 .bf16) (kc vc : FVec F S384x128 .bf16) (ok : IVec S256x384 1) (b : Vec F S1x256x384 .f32) (sink : Elt F .f32) :
    FVec F S256x128 .f32 :=
  matmul dot_S256x384_S384x128_S256x128_1_0_0_1_n_n none
    (truncf .bf16 (divf (weights (keep ok b) (scores qz kc ok b) (top (scores qz kc ok b) sink))
      (broadcastTo S256x384 (norm (weights (keep ok b) (scores qz kc ok b) (top (scores qz kc ok b) sink))
        (top (scores qz kc ok b) sink) sink) broadcasts_S256x1_S256x384)) bitsLt_bf16_f32)
    vc (constant S256x128 .f32 0x00000000#32)

/-- A head of the first key group. -/
def headLow (o : Fin 2 → ℕ) (ho : S256x512.Slices o S256x64) (q : FVec F S256x512 .f32) (kc vc : FVec F S384x128 .bf16) (ok : IVec S256x384 1)
    (b : Vec F S1x256x384 .f32) (sink : Elt F .f32) : FVec F S256x64 .f32 :=
  extractStridedSlice S256x64 ![0, 0] (attend (placeLow o ho q) kc vc ok b sink) slices_S256x128_o0_0_S256x64

/-- A head of the second key group. -/
def headHigh (o : Fin 2 → ℕ) (ho : S256x512.Slices o S256x64) (q : FVec F S256x512 .f32) (kc vc : FVec F S384x128 .bf16) (ok : IVec S256x384 1)
    (b : Vec F S1x256x384 .f32) (sink : Elt F .f32) : FVec F S256x64 .f32 :=
  extractStridedSlice S256x64 ![0, 64] (attend (placeHigh o ho q) kc vc ok b sink) slices_S256x128_o0_64_S256x64

theorem attend_apply (qz : FVec Ideal S256x128 .bf16) (kc vc : FVec Ideal S384x128 .bf16) (ok : IVec S256x384 1) (b : Vec Ideal S1x256x384 .f32)
    (sink : Elt Ideal .f32) (r : Fin 256) (d : Fin 128) :
    attend (F := Ideal) qz kc vc ok b sink (ix2 r d)
      = Cert.Swa.sinkSum (fun c : Fin 384 => IntOp.andi (BitVec.ofBool (decide (Ideal.ofBits .f32 0xF0C9F2CA#32 < b (ix3 0 r c)))) (ok (ix2 r c)))
          (fun c => ∑ l : Fin 128, qz (ix2 r l) * kc (ix2 c l) + b (ix3 0 r c)) sink (fun c => vc (ix2 c d)) := by
  pointwise [attend, weights, norm, top, scores, keep]
  rfl

theorem low_sum (n : ℕ) (hn : n + 64 ≤ 512) (ho : S256x512.Slices ![0, n] S256x64) (q : FVec Ideal S256x512 .f32) (kc : FVec Ideal S384x128 .bf16) (r : Fin 256) (c : Fin 384) :
    (∑ l : Fin 128, placeLow (F := Ideal) ![0, n] ho q (ix2 r l) * kc (ix2 c l) : EReal)
      = ∑ l : Fin 64, q (ix2 r ⟨n + l, by omega⟩) * kc (ix2 c ⟨l, by omega⟩) := by
  pointwise [placeLow]
  simp only [zero_mul, Finset.sum_const_zero, add_zero]

theorem high_sum (n : ℕ) (hn : n + 64 ≤ 512) (ho : S256x512.Slices ![0, n] S256x64) (q : FVec Ideal S256x512 .f32) (kc : FVec Ideal S384x128 .bf16) (r : Fin 256) (c : Fin 384) :
    (∑ l : Fin 128, placeHigh (F := Ideal) ![0, n] ho q (ix2 r l) * kc (ix2 c l) : EReal)
      = ∑ l : Fin 64, q (ix2 r ⟨n + l, by omega⟩) * kc (ix2 c ⟨64 + l, by omega⟩) := by
  pointwise [placeHigh]
  simp only [zero_mul, Finset.sum_const_zero, zero_add]

end Cert.SwaIdeal.Hand

end
-- ==== Proof.Swa.Heads.lean ====
module

public import proofs.«01_k».proof.Proof.Swa.Core

/-! The kernel body's block as eight heads side by side, and one entry of it. -/

@[expose] public section

set_option maxRecDepth 16384

noncomputable section

open Idealize.ShloMosaic Idealize.ShloMosaic.TcCoe Idealize.SL.Sem

namespace Cert.SwaIdeal.Hand
open Cert.SwaIdeal Cert.SwaIdeal.Gen

section
variable {F : FTy → Type} [FloatOps F]
variable (i : grid0.Coords) (x1 : Vec F S1x256x512 .f32) (x2 : Vec F S1x128x128 .bf16) (x3 : Vec F S1x256x128 .bf16)
  (q : FVec F S256x512 .f32) (kc vc : FVec F S384x128 .bf16) (ok : IVec S256x384 1) (b : Vec F S1x256x384 .f32) (s : Elt F .f32)

theorem head0 : k0_pay9 vc s (k0_pay7 x1 x2 x3 b) (k0_pay8 i b) (FloatOps.ofBits .f32 0xF149F2CA#32)
    = headLow ![0, 0] slices_S256x512_o0_0_S256x64 (k0_pay2 x1) (k0_pay3 x2 x3) vc (k0_pay5 i) b s := rfl

theorem head1 : k0_pay15 vc s (k0_pay11 ok b) (k0_pay13 q kc ok b s) (k0_pay14 q kc ok b s) (FloatOps.ofBits .f32 0#32)
    = headLow ![0, 64] slices_S256x512_o0_64_S256x64 q kc vc ok b s := rfl

theorem head2 : k0_pay23 vc (k0_pay20 q kc ok b s) (k0_pay21 q kc ok b s) k0_pay22
    = headLow ![0, 128] slices_S256x512_o0_128_S256x64 q kc vc ok b s := rfl

theorem head3 : k0_pay24 q kc vc ok b s = headLow ![0, 192] slices_S256x512_o0_192_S256x64 q kc vc ok b s := rfl

theorem head4 : k0_pay26 kc vc ok (k0_pay25 q) b s = headHigh ![0, 256] slices_S256x512_o0_256_S256x64 q kc vc ok b s := rfl

theorem head5 : k0_pay29 vc ok (k0_pay27 b) s (k0_pay28 q kc b) = headHigh ![0, 320] slices_S256x512_o0_320_S256x64 q kc vc ok b s := rfl

theorem head6 : k0_pay35 vc s (k0_pay31 ok b) (k0_pay32 q kc ok b) (k0_pay33 q kc ok b) (k0_pay34 s)
    = headHigh ![0, 384] slices_S256x512_o0_384_S256x64 q kc vc ok b s := rfl

/-- Eight heads side by side. -/
def sideBySide (h0 h1 h2 h3 h4 h5 h6 h7 : FVec F S256x64 .f32) : FVec F S1x256x512 .f32 :=
  shapeCast S1x256x512 (concatenate S256x512 1 [⟨S256x64, h0⟩, ⟨S256x64, h1⟩, ⟨S256x64, h2⟩, ⟨S256x64, h3⟩, ⟨S256x64, h4⟩, ⟨S256x64, h5⟩,
    ⟨S256x64, h6⟩, ⟨S256x64, h7⟩] concatenates_S256x64_S256x64_S256x64_S256x64_S256x64_S256x64_S256x64_S256x64_S256x512_d1) shapeCasts_S256x512_S1x256x512

theorem head7 (h0 h1 h2 h3 h4 h5 h6 : FVec F S256x64 .f32) :
    k0_pay1 vc h0 h1 h2 h3 h4 h5 h6 (k0_pay39 q kc ok b s) (k0_pay40 q kc ok b s) (k0_pay41 q kc ok b s) (k0_pay42 s)
      = sideBySide h0 h1 h2 h3 h4 h5 h6 (headHigh ![0, 448] slices_S256x512_o0_448_S256x64 q kc vc ok b s) := rfl
end

/-- One entry of a head, as a sum over the block's 384 keys. -/
def headAt (q : FVec Ideal S256x512 .f32) (kc vc : FVec Ideal S384x128 .bf16) (ok : IVec S256x384 1) (b : Fin 256 → Fin 384 → EReal)
    (sink : EReal) (g : Fin 2) (h : Fin 4) (r : Fin 256) (d : Fin 64) : EReal :=
  Cert.Swa.sinkSum (fun c : Fin 384 => IntOp.andi (BitVec.ofBool (decide (Ideal.ofBits .f32 0xF0C9F2CA#32 < b r c))) (ok (ix2 r c)))
    (fun c => ∑ l : Fin 64, q (ix2 r ⟨256 * g + 64 * h + l, by omega⟩) * kc (ix2 c ⟨64 * g + l, by omega⟩) + b r c) sink
    (fun c => vc (ix2 c ⟨64 * g + d, by omega⟩))

section
variable (q : FVec Ideal S256x512 .f32) (kc vc : FVec Ideal S384x128 .bf16) (ok : IVec S256x384 1) (b : Vec Ideal S1x256x384 .f32) (s : Elt Ideal .f32)

theorem headLow_at (h : Fin 4) (o : Fin 2 → ℕ) (e : o = ![0, 64 * (h : ℕ)]) (ho : S256x512.Slices o S256x64) (r : Fin 256) (d : Fin 64) :
    (headLow (F := Ideal) o ho q kc vc ok b s (ix2 r d) : EReal) = headAt q kc vc ok (fun r c => b (ix3 0 r c)) s 0 h r d := by
  subst e
  have h1 : (headLow (F := Ideal) ![0, 64 * (h : ℕ)] ho q kc vc ok b s (ix2 r d) : EReal)
      = attend (F := Ideal) (placeLow ![0, 64 * (h : ℕ)] ho q) kc vc ok b s (ix2 r ⟨d, by omega⟩) := by
    pointwise [headLow]
  rw [h1, attend_apply]
  unfold headAt
  simp only [low_sum _ (show 64 * (h : ℕ) + 64 ≤ 512 by omega)]
  simp only [Fin.val_zero, Nat.mul_zero, Nat.zero_add]

theorem headHigh_at (h : Fin 4) (o : Fin 2 → ℕ) (e : o = ![0, 256 + 64 * (h : ℕ)]) (ho : S256x512.Slices o S256x64) (r : Fin 256) (d : Fin 64) :
    (headHigh (F := Ideal) o ho q kc vc ok b s (ix2 r d) : EReal) = headAt q kc vc ok (fun r c => b (ix3 0 r c)) s 1 h r d := by
  subst e
  have h1 : (headHigh (F := Ideal) ![0, 256 + 64 * (h : ℕ)] ho q kc vc ok b s (ix2 r d) : EReal)
      = attend (F := Ideal) (placeHigh ![0, 256 + 64 * (h : ℕ)] ho q) kc vc ok b s (ix2 r ⟨64 + d, by omega⟩) := by
    pointwise [headHigh]
  rw [h1, attend_apply]
  unfold headAt
  simp only [high_sum _ (show 256 + 64 * (h : ℕ) + 64 ≤ 512 by omega)]
  simp only [Fin.val_one, Nat.mul_one]
end

/-- One entry of the eight heads side by side is the entry of the head its column lies in. -/
theorem sideBySide_at (H : Fin 8 → FVec Ideal S256x64 .f32) (r : Fin 256) (h : Fin 8) (d : Fin 64) :
    (sideBySide (F := Ideal) (H 0) (H 1) (H 2) (H 3) (H 4) (H 5) (H 6) (H 7) (ix3 0 r ⟨64 * h + d, by omega⟩) : EReal) = H h (ix2 r d) := by
  have hd := d.isLt
  have hh := h.isLt
  have key : ∀ (k : Fin 8) (p : Fin 64), (h : ℕ) = k → (p : ℕ) = d → (H k (ix2 r p) : EReal) = H h (ix2 r d) := by
    intro k p hk hp
    rw [Fin.ext hk, Fin.ext hp]
  pointwise [sideBySide]
  repeat' split
  all_goals exact key _ _ (by first | omega | (simp only [Fin.isValue]; omega) | (simp; omega)) (by first | omega | (simp only []; omega))

end Cert.SwaIdeal.Hand
end
-- ==== Proof.Swa.Blocks.lean ====
module

public import proofs.«01_k».proof.Proof.Gen.SwaIdeal.Frame
public import proofs.«01_k».proof.Proof.Swa.TableAt
public import proofs.«01_k».proof.Proof.Swa.Heads
public import Idealize.ShloMosaic.Lib.Pipeline.ValueKit
public import Idealize.ShloMosaic.Lib.Claim

/-! What each window of the launch holds at a grid point, in terms of the arrays the program is given. -/

@[expose] public section

set_option maxRecDepth 16384

noncomputable section
open Idealize.ShloMosaic Idealize.ShloMosaic.TcCoe Idealize.SL.Sem
open Idealize.ShloMosaic.Pipeline (Dat)

namespace Cert.SwaIdeal.Hand
open Cert.SwaIdeal Cert.SwaIdeal.Gen

variable (m : (ℓ : Loc nD τ sig) → Buf (Elt Ideal) ℓ)

/-- The blocks each window takes at a grid point. -/
theorem idx : ∀ t : Fin cfg0.N, win0_0.index t = ![0] ∧ win0_1.index t = ![t.val / 32, t.val % 32, 0]
    ∧ win0_2.index t = ![t.val / 32, 2 * (t.val % 32) - 1, 0] ∧ win0_3.index t = ![t.val / 32, t.val % 32, 0]
    ∧ win0_4.index t = ![t.val / 32, 2 * (t.val % 32) - 1, 1] ∧ win0_5.index t = ![t.val / 32, t.val % 32, 1]
    ∧ win0_6.index t = ![0, 0, 0] ∧ win0_7.index t = ![t.val / 32, t.val % 32, 0] :=
  (by decide +kernel : ∀ t : Fin grid0.N, _)

/-- The second grid coordinate of a grid point. -/
theorem coord : ∀ t : Fin cfg0.N, (grid0.coords t 1).val = t.val % 32 := (by decide +kernel : ∀ t : Fin grid0.N, _)

theorem count (t : Fin cfg0.N) : t.val < 64 := t.isLt

theorem sinks (c : Dev nD) : V m c main_v1 = shapeCast S8 (m ((c.tc : Thread nD τ).loc main_arg2)) shapeCasts_S1x8_S8 := by
  unfold V
  simp only [hostOps0, hostOps0_1, hostOps0_2, hostOps0_3, hostOps0_4, List.flatten_cons, List.flatten_nil, List.cons_append, List.nil_append, List.append_nil]
  after_results
  try rfl

theorem keys (c : Dev nD) : V m c main_v0 = (truncf .bf16 (m ((c.tc : Thread nD τ).loc main_arg1) : FVec Ideal S2x8192x256 .f32) bitsLt_bf16_f32 : FVec Ideal S2x8192x256 .bf16) := by
  unfold V
  simp only [hostOps0, hostOps0_1, hostOps0_2, hostOps0_3, hostOps0_4, List.flatten_cons, List.flatten_nil, List.cons_append, List.nil_append, List.append_nil]
  after_results
  try rfl

theorem queries (c : Dev nD) : V m c main_arg0 = m ((c.tc : Thread nD τ).loc main_arg0) := by
  unfold V
  simp only [hostOps0, hostOps0_1, hostOps0_2, hostOps0_3, hostOps0_4, List.flatten_cons, List.flatten_nil, List.cons_append, List.nil_append, List.append_nil]
  after_results
  try rfl

theorem block1 (c : Dev nD) (t : Fin cfg0.N) (r : Fin 256) (e : Fin 512) :
    ((iblk m c 1 t : Vec Ideal S1x256x512 .f32) (ix3 0 r e) : EReal)
      = (m ((c.tc : Thread nD τ).loc main_arg0) : FVec Ideal S2x8192x512 .f32)
          (ix3 ⟨t.val / 32, by have := count t; omega⟩ ⟨256 * (t.val % 32) + r, by have := count t; omega⟩ e) := by
  blk_point [iblk, queries, idx t]

theorem block2 (c : Dev nD) (t : Fin cfg0.N) (k : Fin 128) (l : Fin 128) :
    ((iblk m c 2 t : Vec Ideal S1x128x128 .bf16) (ix3 0 k l) : EReal)
      = (m ((c.tc : Thread nD τ).loc main_arg1) : FVec Ideal S2x8192x256 .f32)
          (ix3 ⟨t.val / 32, by have := count t; omega⟩ ⟨128 * (2 * (t.val % 32) - 1) + k, by have := count t; omega⟩ ⟨l, by omega⟩) := by
  blk_point [iblk, keys, idx t]

theorem block3 (c : Dev nD) (t : Fin cfg0.N) (k : Fin 256) (l : Fin 128) :
    ((iblk m c 3 t : Vec Ideal S1x256x128 .bf16) (ix3 0 k l) : EReal)
      = (m ((c.tc : Thread nD τ).loc main_arg1) : FVec Ideal S2x8192x256 .f32)
          (ix3 ⟨t.val / 32, by have := count t; omega⟩ ⟨256 * (t.val % 32) + k, by have := count t; omega⟩ ⟨l, by omega⟩) := by
  blk_point [iblk, keys, idx t]

theorem block4 (c : Dev nD) (t : Fin cfg0.N) (k : Fin 128) (l : Fin 128) :
    ((iblk m c 4 t : Vec Ideal S1x128x128 .bf16) (ix3 0 k l) : EReal)
      = (m ((c.tc : Thread nD τ).loc main_arg1) : FVec Ideal S2x8192x256 .f32)
          (ix3 ⟨t.val / 32, by have := count t; omega⟩ ⟨128 * (2 * (t.val % 32) - 1) + k, by have := count t; omega⟩ ⟨128 + l, by omega⟩) := by
  blk_point [iblk, keys, idx t]

theorem block5 (c : Dev nD) (t : Fin cfg0.N) (k : Fin 256) (l : Fin 128) :
    ((iblk m c 5 t : Vec Ideal S1x256x128 .bf16) (ix3 0 k l) : EReal)
      = (m ((c.tc : Thread nD τ).loc main_arg1) : FVec Ideal S2x8192x256 .f32)
          (ix3 ⟨t.val / 32, by have := count t; omega⟩ ⟨256 * (t.val % 32) + k, by have := count t; omega⟩ ⟨128 + l, by omega⟩) := by
  blk_point [iblk, keys, idx t]

theorem block6 (c : Dev nD) (t : Fin cfg0.N) (h : Fin 8) (r : Fin 256) (k : Fin 384) :
    ((iblk m c 6 t : Vec Ideal S8x256x384 .f32) (ix3 h r k) : EReal)
      = table (m ((c.tc : Thread nD τ).loc main_arg3)) (ix3 h r k) := by
  have hb := bias m c
  generalize table (m ((c.tc : Thread nD τ).loc main_arg3)) = y at hb ⊢
  blk_point [iblk, hb, idx t]

theorem block0 (c : Dev nD) (t : Fin cfg0.N) (h : Fin 8) :
    ((iblk m c 0 t : Vec Ideal S8 .f32) (ix1 h) : EReal)
      = (m ((c.tc : Thread nD τ).loc main_arg2) : FVec Ideal S1x8 .f32) (ix2 0 h) := by
  have hs : (shapeCast S8 (m ((c.tc : Thread nD τ).loc main_arg2) : FVec Ideal S1x8 .f32) shapeCasts_S1x8_S8 : FVec Ideal S8 .f32) (ix1 h)
      = (m ((c.tc : Thread nD τ).loc main_arg2) : FVec Ideal S1x8 .f32) (ix2 0 h) := by pointwise
  rw [← hs]
  blk_point [iblk, sinks, idx t]

end Cert.SwaIdeal.Hand

end
-- ==== Proof.Swa.Mask.lean ====
module

public import proofs.«01_k».proof.Proof.Swa.Bucket
public import proofs.«01_k».proof.Proof.Swa.Sink

/-! Distances as integers, and the bounds of the window in terms of them. -/

@[expose] public section

noncomputable section
open Idealize.ShloMosaic

namespace Cert.Swa

theorem ofInt_minus (x y : ℤ) : BitVec.ofInt 32 x - BitVec.ofInt 32 y = BitVec.ofInt 32 (x - y) := by
  have h : BitVec.ofInt 32 x = BitVec.ofInt 32 (x - y) + BitVec.ofInt 32 y := by rw [← BitVec.ofInt_add]; congr 1; omega
  rw [h, BitVec.add_sub_cancel]

theorem ofNat_int (i : ℕ) : BitVec.ofNat 32 i = BitVec.ofInt 32 i := by simp

theorem distance_eq (a b : ℕ) : IntOp.subi (BitVec.ofNat 32 a) (BitVec.ofNat 32 b) = BitVec.ofInt 32 ((a : ℤ) - b) := by
  rw [ofNat_int, ofNat_int]
  exact ofInt_minus _ _

theorem shifted_eq (i : ℕ) : IntOp.addi (IntOp.subi (BitVec.ofNat 32 i) 383#32) 128#32 = BitVec.ofInt 32 ((i : ℤ) - 255) := by
  have h1 : (383#32 : BitVec 32) = BitVec.ofInt 32 383 := by decide
  have h2 : (128#32 : BitVec 32) = BitVec.ofInt 32 128 := by decide
  rw [h1, h2, ofNat_int]
  show BitVec.ofInt 32 i - BitVec.ofInt 32 383 + BitVec.ofInt 32 128 = _
  rw [ofInt_minus, ← BitVec.ofInt_add]
  congr 1
  omega

theorem toInt_small (x : ℤ) (h0 : -10000 ≤ x) (h1 : x ≤ 10000) : (BitVec.ofInt 32 x).toInt = x := by
  rw [BitVec.toInt_ofInt]
  apply Int.bmod_eq_of_le <;> omega

theorem one_and (a b : BitVec 1) : IntOp.andi a b = 1#1 ↔ a = 1#1 ∧ b = 1#1 := by revert a b; decide
theorem one_or (a b : BitVec 1) : IntOp.ori a b = 1#1 ↔ a = 1#1 ∨ b = 1#1 := by revert a b; decide
theorem one_ofBool (p : Bool) : BitVec.ofBool p = 1#1 ↔ p = true := by revert p; decide

theorem within_iff (x : ℤ) (h0 : -10000 ≤ x) (h1 : x ≤ 10000) : within (BitVec.ofInt 32 x) = 1#1 ↔ 0 ≤ x ∧ x < 128 := by
  unfold within
  rw [one_and]
  simp only [IntOp.cmpi, one_ofBool, BitVec.sle, BitVec.slt, decide_eq_true_eq, toInt_small x h0 h1]
  have e1 : (0#32 : BitVec 32).toInt = 0 := by decide
  have e2 : (128#32 : BitVec 32).toInt = 128 := by decide
  rw [e1, e2]

theorem inside_iff (x : ℤ) (h0 : -10000 ≤ x) (h1 : x ≤ 10000) :
    IntOp.andi (IntOp.cmpi .sge (BitVec.ofInt 32 x) 0#32) (IntOp.cmpi .sle (BitVec.ofInt 32 x) 127#32) = 1#1 ↔ 0 ≤ x ∧ x < 128 := by
  rw [one_and]
  simp only [IntOp.cmpi, one_ofBool, BitVec.sle, BitVec.slt, decide_eq_true_eq, toInt_small x h0 h1]
  have e1 : (0#32 : BitVec 32).toInt = 0 := by decide
  have e2 : (127#32 : BitVec 32).toInt = 127 := by decide
  rw [e1, e2]
  omega

/-- A key of the block exists: it is not in the 128 rows before the array's first. -/
theorem exists_iff (c j : ℕ) (hc : c < 10000) (hj : j < 10000) :
    IntOp.ori (IntOp.cmpi .sge (BitVec.ofNat 32 c) 128#32) (IntOp.cmpi .sgt (BitVec.ofNat 32 j) 0#32) = 1#1 ↔ 128 ≤ c ∨ 0 < j := by
  have h2 := ofNat_int c
  have h3 := ofNat_int j
  rw [one_or, h2, h3]
  simp only [IntOp.cmpi, one_ofBool, BitVec.sle, BitVec.slt, decide_eq_true_eq, toInt_small (c : ℤ) (by omega) (by omega),
    toInt_small (j : ℤ) (by omega) (by omega)]
  have e1 : (0#32 : BitVec 32).toInt = 0 := by decide
  have e2 : (128#32 : BitVec 32).toInt = 128 := by decide
  rw [e1, e2]
  omega

/-- The mask's value lies below the threshold the kernel tests against. -/
theorem mask_below : ¬ (Ideal.ofBits .f32 0xF0C9F2CA#32 < Ideal.ofBits .f32 0xF149F2CA#32) := by
  simp [Ideal.ofBits, Ideal.ieee, -EReal.coe_mul]
  norm_num

/-- A table entry is kept exactly where the window holds, when the table's own entries lie above the threshold. -/
theorem kept_iff (p : BitVec 1) (x : EReal) (hx : Ideal.ofBits .f32 0xF0C9F2CA#32 < x) :
    BitVec.ofBool (decide (Ideal.ofBits .f32 0xF0C9F2CA#32 < Scalar.select p x (Ideal.ofBits .f32 0xF149F2CA#32))) = 1#1 ↔ p = 1#1 := by
  rw [one_ofBool, decide_eq_true_eq]
  by_cases hp : p = 1#1
  · rw [select_kept p hp]; exact ⟨fun _ => hp, fun _ => hx⟩
  · rw [select_masked p hp]; exact ⟨fun h => absurd h mask_below, fun h => absurd h hp⟩

/-- A factor of one eighth taken out of a sum of products. -/
theorem eighth_out {n : ℕ} (q k : Fin n → EReal) :
    ∑ l, q l * Ideal.ofBits .f32 0x3E000000#32 * k l = (∑ l, k l * q l) * Ideal.ofBits .f32 0x3E000000#32 := by
  have h0 : (0 : EReal) ≤ Ideal.ofBits .f32 0x3E000000#32 := by
    simp [Ideal.ofBits, Ideal.ieee, -EReal.coe_mul]
  have h1 : Ideal.ofBits .f32 0x3E000000#32 ≠ ⊤ := by
    simp [Ideal.ofBits, Ideal.ieee, -EReal.coe_mul]
  have h2 : ∀ s : Finset (Fin n), ∑ l ∈ s, q l * Ideal.ofBits .f32 0x3E000000#32 * k l = (∑ l ∈ s, k l * q l) * Ideal.ofBits .f32 0x3E000000#32 := by
    intro s
    induction s using Finset.cons_induction with
    | empty => simp
    | cons a s ha ih =>
      rw [Finset.sum_cons, Finset.sum_cons, ih, EReal.right_distrib_of_nonneg_of_ne_top h0 h1]
      congr 1
      rw [mul_assoc, mul_comm (Ideal.ofBits .f32 0x3E000000#32), ← mul_assoc, mul_comm (q a)]
  exact h2 _

end Cert.Swa

end
-- ==== Proof.Swa.RefGather.lean ====
module

public import proofs.«01_k».proof.Proof.Gen.SwaRefIdeal.Run
public import Idealize.ShloMosaic.Lib.Pointwise

@[expose] public section

noncomputable section
open Idealize.ShloMosaic Idealize.ShloMosaic.TcCoe Idealize.SL.Sem

namespace Cert.SwaRefIdeal.Hand
open Cert.SwaRefIdeal Cert.SwaRefIdeal.Gen

/-- Rows of the table taken by a square of positions: entry `(t, s, e)` is the table's entry of column `e` in the
    row the square names at `(t, s)`, clamped to the table. -/
theorem rows_taken {α : Type} (x : S32x8.Idx → α) (idx : IVec S8192x8192x1 32) (t s : Fin 8192) (e : Fin 8) :
    Host.gather gather_S32x8_S8192x8192x1_S8192x8192x8_2_0_n_n_0_2_18 x idx (ix3 t s e)
      = x (ix2 ⟨min (idx (ix3 t s 0)).toInt.toNat 31, by omega⟩ e) := by
  unfold Host.gather
  congr 1
  funext b
  refine Fin.ext ?_
  show GatherDims.start _ (ix3 t s e) idx b + GatherDims.batchCoord _ (ix3 t s e) b + GatherDims.offCoord _ (ix3 t s e) b = _
  rw [GatherDims.batchCoord_eq_zero _ _ _ List.not_mem_nil]
  match b with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin S32x8.rank) ∈ gather_S32x8_S8192x8192x1_S8192x8192x8_2_0_n_n_0_2_18.startIndexMap from List.mem_singleton.mpr rfl)]
    have hs : ∀ k, GatherDims.siIdx gather_S32x8_S8192x8192x1_S8192x8192x8_2_0_n_n_0_2_18 (ix3 t s e) k = ix3 t s 0 := by
      intro k
      funext i; refine Fin.ext ?_
      match i with
      | ⟨0, _⟩ => rfl
      | ⟨1, _⟩ => rfl
      | ⟨2, _⟩ => simp [GatherDims.siIdx, gather_S32x8_S8192x8192x1_S8192x8192x8_2_0_n_n_0_2_18]; omega
    rw [hs]
    rfl
  | ⟨1, _⟩ =>
    unfold GatherDims.start
    rw [dif_neg (by simp [gather_S32x8_S8192x8192x1_S8192x8192x8_2_0_n_n_0_2_18])]
    simp only [Nat.zero_add]
    rfl

end Cert.SwaRefIdeal.Hand

end
-- ==== Proof.Swa.RefAt.lean ====
module

public import proofs.«01_k».proof.Proof.Gen.SwaRefIdeal.Read
public import proofs.«01_k».proof.Proof.Swa.Sink
public import proofs.«01_k».proof.Proof.Swa.Bucket
public import proofs.«01_k».proof.Proof.Swa.RefGather
public import Idealize.ShloMosaic.Lib.Pointwise

@[expose] public section

set_option maxRecDepth 16384

noncomputable section
open Idealize.ShloMosaic Idealize.ShloMosaic.TcCoe Idealize.SL.Sem

namespace Cert.SwaRefIdeal.Hand
open Cert.SwaRefIdeal Cert.SwaRefIdeal.Gen

/-- The bias of a query and a key: the table's entry in the row their distance selects. -/
theorem table_at (x3 : FVec Ideal S32x12 .f32) (t s : Fin 8192) (h : Fin 8) :
    (Read.val_main_v48 (F := Ideal) x3 : FVec Ideal S8192x8192x8 .f32) (ix3 t s h)
      = x3 (ix2 (Cert.Swa.row (IntOp.subi (BitVec.ofNat 32 t) (BitVec.ofNat 32 s))) ⟨h, by omega⟩) := by
  have hp : (Read.val_main_v47 (F := Ideal) : IVec S8192x8192x1 32) (ix3 t s 0)
      = Cert.Swa.position (IntOp.subi (BitVec.ofNat 32 t) (BitVec.ofNat 32 s)) := by
    pointwise [Read.val_main_v22, Read.val_main_v23, Read.val_main_c_2, Read.val_main_v24, Read.val_main_v25, Read.val_main_v26, Read.val_main_cst_3, Read.val_main_v27, Read.val_main_v28, Read.val_main_v29, Read.val_main_cst_4, Read.val_main_v30, Read.val_main_v31, Read.val_main_cst_5, Read.val_main_v32, Read.val_main_v33, Read.val_main_v34, Read.val_main_c_6, Read.val_main_v35, Read.val_main_v36, Read.val_main_c_7, Read.val_main_v37, Read.val_main_v38, Read.val_main_c_8, Read.val_main_v39, Read.val_main_v40, Read.val_main_v41, Read.val_main_c_9, Read.val_main_v42, Read.val_main_v43, Read.val_main_c_10, Read.val_main_v44, Read.val_main_v45, Read.val_main_v46, Read.val_main_v47, Read.val_main_v6, Read.val_main_v7, Read.val_main_v8, Read.val_main_v9, Read.val_main_v10, Read.val_main_v11, Read.val_main_c_1]
    rfl
  have hc : ∀ r : Fin 32, (Read.val_main_v21 (F := Ideal) x3 : FVec Ideal S32x8 .f32) (ix2 r h) = x3 (ix2 r ⟨h, by omega⟩) := by
    intro r
    pointwise [Read.val_main_v21]
  unfold Read.val_main_v48
  rw [rows_taken, hc]
  refine congrArg (fun r => x3 (ix2 r _)) (Fin.ext ?_)
  show min (BitVec.toInt ((Read.val_main_v47 (F := Ideal) : IVec S8192x8192x1 32) (ix3 t s 0))).toNat 31 = _
  rw [hp]
  rfl

section
variable (x0 : FVec Ideal S2x8192x512 .f32) (x1 : FVec Ideal S2x8192x256 .f32) (x2 : FVec Ideal S1x8 .f32) (x3 : FVec Ideal S32x12 .f32)
  (b g : Fin 2) (h : Fin 4) (t : Fin 8192)

/-- Which keys a query attends to. -/
def msk (t s : Fin 8192) : BitVec 1 := Cert.Swa.within (IntOp.subi (BitVec.ofNat 32 t) (BitVec.ofNat 32 s))

/-- The score of a key. -/
def score (s : Fin 8192) : EReal :=
  (∑ l : Fin 64, x1 (ix3 b s ⟨g * 64 + l, by omega⟩) * x0 (ix3 b t ⟨g * 256 + h * 64 + l, by omega⟩)) * Ideal.ofBits .f32 0x3E000000#32
    + x3 (ix2 (Cert.Swa.row (IntOp.subi (BitVec.ofNat 32 t) (BitVec.ofNat 32 s))) ⟨g * 4 + h, by omega⟩)

theorem score_at (s : Fin 8192) :
    (Read.val_main_v54 (F := Ideal) x0 x1 x3 : FVec Ideal S2x2x4x8192x8192 .f32) (ix5 b g h t s)
      = Scalar.select (msk t s) (score x0 x1 x3 b g h t s) (Ideal.ofBits .f32 0xF149F2CA#32) := by
  pointwise [Read.val_main_v49, Read.val_main_v50, Read.val_main_v51, Read.val_main_v52, Read.val_main_v53, Read.val_main_cst_11, Read.val_main_call1_v0, Read.val_main_call1_v1, Read.val_main_call1_v2, Read.val_main_v54, Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_c, Read.val_main_v12, Read.val_main_v13, Read.val_main_c_0, Read.val_main_v14, Read.val_main_v15, Read.val_main_v16, Read.val_main_v17, Read.val_main_v18, Read.val_main_cst, Read.val_main_v19, Read.val_main_v20]
  rw [table_at]
  rfl

/-- The sink's logit. -/
abbrev sink : EReal := x2 (ix2 0 ⟨g * 4 + h, by omega⟩)

theorem max_at : (Read.val_main_v57 (F := Ideal) x0 x1 x3 : FVec Ideal S2x2x4x8192 .f32) (ix4 b g h t)
      = Finset.univ.fold max (Ideal.ofBits .f32 0xFF800000#32) (fun s => Scalar.select (msk t s) (score x0 x1 x3 b g h t s) (Ideal.ofBits .f32 0xF149F2CA#32)) := by
  pointwise [Read.val_main_v57, Read.val_main_cst_12]
  simp only [score_at]

theorem top_at :
    (Read.val_main_v61 (F := Ideal) x0 x1 x2 x3 : FVec Ideal S2x2x4x8192x1 .f32) (ix5 b g h t 0)
      = Cert.Swa.sinkTop (msk t) (score x0 x1 x3 b g h t) (sink x2 g h) := by
  have ha : (Read.val_main_v58 (F := Ideal) x0 x1 x3 : FVec Ideal S2x2x4x8192x1 .f32) (ix5 b g h t 0)
      = (Read.val_main_v57 (F := Ideal) x0 x1 x3 : FVec Ideal S2x2x4x8192 .f32) (ix4 b g h t) := by
    pointwise [Read.val_main_v58]
  have hb : (Read.val_main_v60 (F := Ideal) x2 : FVec Ideal S2x2x4x8192x1 .f32) (ix5 b g h t 0) = sink x2 g h := by
    pointwise [Read.val_main_v60, Read.val_main_v59, Read.val_main_v55, Read.val_main_v56]
  have hmax : ∀ a b : EReal, FloatOps.maximumf (F := Ideal) (φ := .f32) a b = max a b := fun _ _ => rfl
  rw [Read.val_main_v61_apply, ha, hb, max_at, hmax]
  unfold Cert.Swa.sinkTop
  exact congrArg₂ max rfl rfl

theorem weight_at (s : Fin 8192) :
    (Read.val_main_v65 (F := Ideal) x0 x1 x2 x3 : FVec Ideal S2x2x4x8192x8192 .f32) (ix5 b g h t s)
      = Cert.Swa.sinkWeight (msk t) (score x0 x1 x3 b g h t) (sink x2 g h) s := by
  pointwise [Read.val_main_v62, Read.val_main_v63, Read.val_main_v64, Read.val_main_cst_13, Read.val_main_call2_v0, Read.val_main_call2_v1, Read.val_main_call2_v2, Read.val_main_v65, Read.val_main_v7, Read.val_main_v8, Read.val_main_v9, Read.val_main_v10, Read.val_main_v11, Read.val_main_c, Read.val_main_v12, Read.val_main_v13, Read.val_main_c_0, Read.val_main_v14, Read.val_main_v15, Read.val_main_v16, Read.val_main_v6]
  rw [top_at, score_at]
  unfold Cert.Swa.sinkWeight
  congr 1
  exact Ideal.ofBits_zero_f32

theorem norm_at :
    (Read.val_main_v74 (F := Ideal) x0 x1 x2 x3 : FVec Ideal S2x2x4x8192x1 .f32) (ix5 b g h t 0)
      = Cert.Swa.sinkNorm (msk t) (score x0 x1 x3 b g h t) (sink x2 g h) := by
  have hm : (Read.val_main_v66 (F := Ideal) x0 x1 x2 x3 : FVec Ideal S2x2x4x8192 .f32) (ix4 b g h t)
      = ∑ s, Cert.Swa.sinkWeight (msk t) (score x0 x1 x3 b g h t) (sink x2 g h) s := by
    pointwise [Read.val_main_v66, Read.val_main_cst_14]
    simp only [weight_at]
  pointwise [Read.val_main_v67, Read.val_main_v68, Read.val_main_v69, Read.val_main_v70, Read.val_main_v71, Read.val_main_v72, Read.val_main_cst_15, Read.val_main_v73, Read.val_main_v74, Read.val_main_v55, Read.val_main_v56]
  rw [hm, top_at]
  rfl

end

/-- The reference's result. -/
theorem out_at (x0 : FVec Ideal S2x8192x512 .f32) (x1 : FVec Ideal S2x8192x256 .f32) (x2 : FVec Ideal S1x8 .f32) (x3 : FVec Ideal S32x12 .f32)
    (b : Fin 2) (t : Fin 8192) (g : Fin 2) (h : Fin 4) (d : Fin 64) :
    (Read.val_main_v79 (F := Ideal) x0 x1 x2 x3 : FVec Ideal S2x8192x512 .f32) (ix3 b t ⟨256 * g + 64 * h + d, by omega⟩)
      = Cert.Swa.sinkSum (msk t) (score x0 x1 x3 b g h t) (sink x2 g h) (fun s => x1 (ix3 b s ⟨128 + g * 64 + d, by omega⟩)) := by
  have hv : ∀ s, (Read.val_main_v76 (F := Ideal) x0 x1 x2 x3 : FVec Ideal S2x2x4x8192x8192 .f32) (ix5 b g h t s)
      = Ideal.div (Cert.Swa.sinkWeight (msk t) (score x0 x1 x3 b g h t) (sink x2 g h) s) (Cert.Swa.sinkNorm (msk t) (score x0 x1 x3 b g h t) (sink x2 g h)) := by
    intro s
    pointwise [Read.val_main_v75, Read.val_main_v76]
    rw [weight_at, norm_at]
  have e1 : (⟨(256 * (g : ℕ) + 64 * h + d) / 256, by omega⟩ : Fin 2) = g := Fin.ext (by simp only []; omega)
  have e2 : (⟨(256 * (g : ℕ) + 64 * h + d) / 64 % 4, by omega⟩ : Fin 4) = h := Fin.ext (by simp only []; omega)
  have e3 : (⟨128 + (256 * (g : ℕ) + 64 * h + d) / 256 * 64 + (256 * (g : ℕ) + 64 * h + d) % 64, by omega⟩ : Fin 256) = ⟨128 + g * 64 + d, by omega⟩ :=
    Fin.ext (by simp only []; omega)
  pointwise [Read.val_main_v77, Read.val_main_v78, Read.val_main_v79, Read.val_main_v0, Read.val_main_v1, Read.val_main_v2, Read.val_main_v3, Read.val_main_v4, Read.val_main_v5]
  simp only [e1, e2, e3, hv]
  exact Finset.sum_congr rfl fun s _ => mul_comm _ _

end Cert.SwaRefIdeal.Hand

end
-- ==== Proof.Swa.Entry.lean ====
module

public import proofs.«01_k».proof.Proof.Swa.Blocks
public import proofs.«01_k».proof.Proof.Swa.Mask
public import proofs.«01_k».proof.Proof.Swa.RefAt

/-! One entry of the kernel's block against one entry of the reference: the 384 keys of the block hold the 128 keys
    of the window, and outside the window both give weight zero. -/

@[expose] public section

set_option maxRecDepth 16384

noncomputable section
open Idealize.ShloMosaic Idealize.ShloMosaic.TcCoe Idealize.SL.Sem

namespace Cert.SwaIdeal.Hand
open Cert.SwaIdeal Cert.SwaIdeal.Gen

theorem scaled_at (x : Vec Ideal S1x256x512 .f32) (r : Fin 256) (e : Fin 512) :
    (k0_pay2 (F := Ideal) x (ix2 r e) : EReal) = x (ix3 0 r e) * Ideal.ofBits .f32 0x3E000000#32 := by
  pointwise [k0_pay2]

theorem joined_at (x : Vec Ideal S1x128x128 .bf16) (y : Vec Ideal S1x256x128 .bf16) (c : Fin 384) (l : Fin 128) :
    (k0_pay3 (F := Ideal) x y (ix2 c l) : EReal) = if h : c.val < 128 then x (ix3 0 ⟨c, h⟩ l) else y (ix3 0 ⟨c - 128, by omega⟩ l) := by
  pointwise [k0_pay3]

theorem joined_at' (x : Vec Ideal S1x128x128 .bf16) (y : Vec Ideal S1x256x128 .bf16) (c : Fin 384) (l : Fin 128) :
    (k0_pay4 (F := Ideal) x y (ix2 c l) : EReal) = if h : c.val < 128 then x (ix3 0 ⟨c, h⟩ l) else y (ix3 0 ⟨c - 128, by omega⟩ l) := by
  pointwise [k0_pay4]

theorem present_at (i : grid0.Coords) (r : Fin 256) (c : Fin 384) :
    k0_pay5 i (ix2 r c) = IntOp.ori (IntOp.cmpi .sge (BitVec.ofNat 32 c) 128#32) (IntOp.cmpi .sgt (BitVec.ofNat 32 (i 1).val) 0#32) := by
  pointwise [k0_pay5]
  rfl

theorem distances_at (i : Fin 639) : distances (ix1 i) = BitVec.ofInt 32 ((i : ℤ) - 255) := by
  rw [← Cert.Swa.shifted_eq]
  pointwise [distances]

/-- The bias table's entry: the table's row for the distance inside the window, the mask's value outside. -/
theorem table_entry (x3 : FVec Ideal S32x12 .f32) (h : Fin 8) (r : Fin 256) (c : Fin 384) :
    ∃ p : BitVec 1, (p = 1#1 ↔ (c : ℤ) ≤ r + 128 ∧ (r : ℤ) < c)
      ∧ (table x3 (ix3 h r c) : EReal)
        = Scalar.select p (x3 (ix2 (Cert.Swa.row (BitVec.ofInt 32 ((r : ℤ) + 128 - c))) ⟨h, by omega⟩)) (Ideal.ofBits .f32 0xF149F2CA#32) := by
  have hd : distances (ix1 ⟨383 + r - c, by omega⟩) = BitVec.ofInt 32 ((r : ℤ) + 128 - c) := by
    rw [distances_at]
    congr 1
    show ((383 + (r : ℕ) - (c : ℕ) : ℕ) : ℤ) - 255 = _
    omega
  refine ⟨inside (ix1 ⟨383 + r - c, by omega⟩), ?_, ?_⟩
  · rw [inside_at _ _ hd, Cert.Swa.inside_iff _ (by omega) (by omega)]
    omega
  · rw [table_at, profile_at, taken_at _ _ _ _ hd]

variable (m : (ℓ : Loc nD τ sig) → Buf (Elt Ideal) ℓ)

/-- The joined keys of a grid point: column `c` of the 384 is the array's key `256 j + c − 128`. -/
theorem keys_at (c : Dev nD) (t : Fin cfg0.N) (k : Fin 384) (l : Fin 128) (hk : 128 ≤ k.val ∨ 0 < t.val % 32) :
    (k0_pay3 (F := Ideal) (iblk m c 2 t) (iblk m c 3 t) (ix2 k l) : EReal)
      = (m ((c.tc : Thread nD τ).loc main_arg1) : FVec Ideal S2x8192x256 .f32)
          (ix3 ⟨t.val / 32, by have := count t; omega⟩ ⟨256 * (t.val % 32) + k - 128, by have := count t; omega⟩ ⟨l, by omega⟩) := by
  rw [joined_at]
  split
  · rw [block2]; congr 1; congr 1; apply Fin.ext; show _ = _; simp only []; omega
  · rw [block3]; congr 1; congr 1; apply Fin.ext; show _ = _; simp only []; omega

/-- The joined values, likewise. -/
theorem values_at (c : Dev nD) (t : Fin cfg0.N) (k : Fin 384) (l : Fin 128) (hk : 128 ≤ k.val ∨ 0 < t.val % 32) :
    (k0_pay4 (F := Ideal) (iblk m c 4 t) (iblk m c 5 t) (ix2 k l) : EReal)
      = (m ((c.tc : Thread nD τ).loc main_arg1) : FVec Ideal S2x8192x256 .f32)
          (ix3 ⟨t.val / 32, by have := count t; omega⟩ ⟨256 * (t.val % 32) + k - 128, by have := count t; omega⟩ ⟨128 + l, by omega⟩) := by
  rw [joined_at']
  split
  · rw [block4]; congr 1; congr 1; apply Fin.ext; show _ = _; simp only []; omega
  · rw [block5]; congr 1; congr 1; apply Fin.ext; show _ = _; simp only []; omega

/-- One entry of a head at a grid point is the reference's sum over all keys. -/
theorem entry (c : Dev nD) (t : Fin cfg0.N) (g : Fin 2) (h : Fin 4) (r : Fin 256) (d : Fin 64)
    (hb : ∀ i, Ideal.ofBits .f32 0xF0C9F2CA#32 < (m ((c.tc : Thread nD τ).loc main_arg3) : FVec Ideal S32x12 .f32) i) :
    headAt (k0_pay2 (F := Ideal) (iblk m c 1 t)) (k0_pay3 (F := Ideal) (iblk m c 2 t) (iblk m c 3 t)) (k0_pay4 (F := Ideal) (iblk m c 4 t) (iblk m c 5 t))
        (k0_pay5 (grid0.coords t)) (fun r k => (iblk m c 6 t : Vec Ideal S8x256x384 .f32) (ix3 ⟨4 * g + h, by omega⟩ r k))
        ((iblk m c 0 t : Vec Ideal S8 .f32) (ix1 ⟨4 * g + h, by omega⟩)) g h r d
      = Cert.Swa.sinkSum (Cert.SwaRefIdeal.Hand.msk ⟨256 * (t.val % 32) + r, by omega⟩)
          (Cert.SwaRefIdeal.Hand.score (m ((c.tc : Thread nD τ).loc main_arg0)) (m ((c.tc : Thread nD τ).loc main_arg1)) (m ((c.tc : Thread nD τ).loc main_arg3))
            ⟨t.val / 32, by have := count t; omega⟩ g h ⟨256 * (t.val % 32) + r, by omega⟩)
          (Cert.SwaRefIdeal.Hand.sink (m ((c.tc : Thread nD τ).loc main_arg2)) g h)
          (fun s => (m ((c.tc : Thread nD τ).loc main_arg1) : FVec Ideal S2x8192x256 .f32) (ix3 ⟨t.val / 32, by have := count t; omega⟩ s ⟨128 + g * 64 + d, by omega⟩)) := by
  have ht := count t
  have hsink : ((iblk m c 0 t : Vec Ideal S8 .f32) (ix1 ⟨4 * g + h, by omega⟩) : EReal)
      = Cert.SwaRefIdeal.Hand.sink (m ((c.tc : Thread nD τ).loc main_arg2)) g h := by
    rw [block0]
    refine congrArg (fun x => (m ((c.tc : Thread nD τ).loc main_arg2) : FVec Ideal S1x8 .f32) (ix2 0 x)) (Fin.ext ?_)
    show 4 * (g : ℕ) + h = g * 4 + h
    omega
  have hmk : ∀ k : Fin 384, IntOp.andi (BitVec.ofBool (decide (Ideal.ofBits .f32 0xF0C9F2CA#32 <
        (iblk m c 6 t : Vec Ideal S8x256x384 .f32) (ix3 ⟨4 * g + h, by omega⟩ r k)))) (k0_pay5 (grid0.coords t) (ix2 r k)) = 1#1
      ↔ ((k : ℤ) ≤ r + 128 ∧ (r : ℤ) < k) ∧ (128 ≤ k.val ∨ 0 < t.val % 32) := by
    intro k
    obtain ⟨p, hp, he⟩ := table_entry (m ((c.tc : Thread nD τ).loc main_arg3)) ⟨4 * g + h, by omega⟩ r k
    rw [Cert.Swa.one_and, block6, he, Cert.Swa.kept_iff _ _ (hb _), hp, present_at, coord, Cert.Swa.exists_iff _ _ (by omega) (by omega)]
  have hmr : ∀ s : Fin 8192, Cert.SwaRefIdeal.Hand.msk ⟨256 * (t.val % 32) + r, by omega⟩ s = 1#1
      ↔ (s : ℕ) ≤ 256 * (t.val % 32) + r ∧ 256 * (t.val % 32) + r < s + 128 := by
    intro s
    unfold Cert.SwaRefIdeal.Hand.msk
    rw [Cert.Swa.distance_eq, Cert.Swa.within_iff _ (by simp only []; omega) (by simp only []; omega)]
    simp only []
    omega
  unfold headAt
  rw [hsink]
  refine Cert.Swa.sinkSum_eq (fun k => ⟨(256 * (t.val % 32) + k - 128) % 8192, Nat.mod_lt _ (by norm_num)⟩)
    (fun s => ⟨(s + 128 - 256 * (t.val % 32)) % 384, Nat.mod_lt _ (by norm_num)⟩) _ ?_ ?_ ?_ ?_ ?_ ?_
  · intro k hk
    rw [hmk] at hk
    rw [hmr]
    refine ⟨by simp only []; omega, Fin.ext ?_⟩
    simp only []
    omega
  · intro s hs
    rw [hmr] at hs
    rw [hmk]
    refine ⟨by simp only []; omega, Fin.ext ?_⟩
    simp only []
    omega
  · intro k hk
    rw [hmk] at hk
    obtain ⟨p, hp, he⟩ := table_entry (m ((c.tc : Thread nD τ).loc main_arg3)) ⟨4 * g + h, by omega⟩ r k
    have es : (⟨256 * (t.val % 32) + k - 128, by omega⟩ : Fin 8192) = ⟨(256 * (t.val % 32) + k - 128) % 8192, Nat.mod_lt _ (by norm_num)⟩ :=
      Fin.ext (by simp only []; omega)
    have hks : ∀ l : Fin 64, (k0_pay3 (F := Ideal) (iblk m c 2 t) (iblk m c 3 t) (ix2 k ⟨64 * g + l, by omega⟩) : EReal)
        = (m ((c.tc : Thread nD τ).loc main_arg1) : FVec Ideal S2x8192x256 .f32)
          (ix3 ⟨t.val / 32, by omega⟩ ⟨(256 * (t.val % 32) + k - 128) % 8192, Nat.mod_lt _ (by norm_num)⟩ ⟨g * 64 + l, by omega⟩) := by
      intro l
      have el : (⟨64 * g + l, by omega⟩ : Fin 256) = ⟨g * 64 + l, by omega⟩ := Fin.ext (by simp only []; omega)
      rw [keys_at m c t k _ hk.2, es, el]
    have hqs : ∀ l : Fin 64, (k0_pay2 (F := Ideal) (iblk m c 1 t) (ix2 r ⟨256 * g + 64 * h + l, by omega⟩) : EReal)
        = @HMul.hMul EReal EReal EReal _ ((m ((c.tc : Thread nD τ).loc main_arg0) : FVec Ideal S2x8192x512 .f32)
          (ix3 ⟨t.val / 32, by omega⟩ ⟨256 * (t.val % 32) + r, by omega⟩ ⟨g * 256 + h * 64 + l, by omega⟩)) (Ideal.ofBits .f32 0x3E000000#32) := by
      intro l
      have el : (⟨256 * g + 64 * h + l, by omega⟩ : Fin 512) = ⟨g * 256 + h * 64 + l, by omega⟩ := Fin.ext (by simp only []; omega)
      rw [scaled_at, block1, el]
    have hsc : (∑ l : Fin 64, (k0_pay2 (F := Ideal) (iblk m c 1 t) (ix2 r ⟨256 * g + 64 * h + l, by omega⟩) : EReal)
          * k0_pay3 (F := Ideal) (iblk m c 2 t) (iblk m c 3 t) (ix2 k ⟨64 * g + l, by omega⟩) : EReal) = _ :=
      (Finset.sum_congr rfl fun l _ => congrArg₂ (fun a b : EReal => a * b) (hqs l) (hks l)).trans (Cert.Swa.eighth_out _ _)
    have hbias : ((iblk m c 6 t : Vec Ideal S8x256x384 .f32) (ix3 ⟨4 * g + h, by omega⟩ r k) : EReal)
        = (m ((c.tc : Thread nD τ).loc main_arg3) : FVec Ideal S32x12 .f32)
          (ix2 (Cert.Swa.row (IntOp.subi (BitVec.ofNat 32 (256 * (t.val % 32) + r)) (BitVec.ofNat 32 ((256 * (t.val % 32) + k - 128) % 8192)))) ⟨g * 4 + h, by omega⟩) := by
      have ed : (r : ℤ) + 128 - k = ((256 * (t.val % 32) + r : ℕ) : ℤ) - (((256 * (t.val % 32) + k - 128) % 8192 : ℕ) : ℤ) := by omega
      have el : (⟨4 * g + h, by omega⟩ : Fin 12) = ⟨g * 4 + h, by omega⟩ := Fin.ext (by simp only []; omega)
      rw [block6, he, Cert.Swa.select_kept _ (hp.2 hk.1), Cert.Swa.distance_eq, ed, el]
    exact congrArg₂ (fun a b : EReal => a + b) hsc hbias
  · intro k hk
    rw [hmk] at hk
    have es : (⟨256 * (t.val % 32) + k - 128, by omega⟩ : Fin 8192) = ⟨(256 * (t.val % 32) + k - 128) % 8192, Nat.mod_lt _ (by norm_num)⟩ :=
      Fin.ext (by simp only []; omega)
    have el : (⟨128 + (64 * g + d), by omega⟩ : Fin 256) = ⟨128 + g * 64 + d, by omega⟩ := Fin.ext (by simp only []; omega)
    have hv := values_at m c t k ⟨64 * g + d, by omega⟩ hk.2
    rw [es, el] at hv
    exact hv
  · exact ⟨0, fun h0 => by rw [hmk] at h0; have := h0.1.2; simp only [Fin.val_zero] at this; omega⟩
  · refine ⟨⟨(256 * (t.val % 32) + r + 1) % 8192, Nat.mod_lt _ (by norm_num)⟩, fun h0 => ?_⟩
    rw [hmr] at h0
    simp only [] at h0
    omega

end Cert.SwaIdeal.Hand

end
-- ==== Proof.Swa.Value.lean ====
module

public import proofs.«01_k».proof.Proof.Swa.Entry

/-! The result array after the run is the reference's result. -/

@[expose] public section

set_option maxRecDepth 16384

noncomputable section
open Idealize.ShloMosaic Idealize.ShloMosaic.TcCoe Idealize.SL.Sem
open Idealize.ShloMosaic.Pipeline (Dat)

namespace Cert.SwaIdeal.Hand
open Cert.SwaIdeal Cert.SwaIdeal.Gen

variable (m : (ℓ : Loc nD τ sig) → Buf (Elt Ideal) ℓ)

/-- The reference's result on the kernel's arguments. -/
abbrev expected (c : Dev nD) : FVec Ideal S2x8192x512 .f32 :=
  Cert.SwaRefIdeal.Read.val_main_v79 (F := Ideal) (m ((c.tc : Thread nD τ).loc main_arg0)) (m ((c.tc : Thread nD τ).loc main_arg1))
    (m ((c.tc : Thread nD τ).loc main_arg2)) (m ((c.tc : Thread nD τ).loc main_arg3))

/-- One of the eight sinks as the body reads it. -/
theorem sink_read (x : Vec Ideal S8 .f32) (n : ℕ) (hn : n < 8) (hi : ∀ a, (![n] : Fin 1 → ℕ) a + (![1] : Fin 1 → ℕ) a ≤ S8.size a) (y : Shape.Idx ⟨1, ![1]⟩) :
    (View.ld x (Rect.unit ![n] ![1] hi) y : EReal) = x (ix1 ⟨n, hn⟩) := by
  idx_vars y
  pointwise

/-- One of the eight bias tables as the body reads it. -/
theorem table_read (x : Vec Ideal S8x256x384 .f32) (n : ℕ) (hn : n < 8) (hi : ∀ a, (![n, 0, 0] : Fin 3 → ℕ) a + (![1, 256, 384] : Fin 3 → ℕ) a ≤ S8x256x384.size a) (r : Fin 256) (k : Fin 384) :
    (View.ld x (Rect.unit ![n, 0, 0] ![1, 256, 384] hi) (ix3 0 r k) : EReal) = x (ix3 ⟨n, hn⟩ r k) := by
  pointwise

section
variable (c : Dev nD) (t : Fin cfg0.N) (hb : ∀ i, Ideal.ofBits .f32 0xF0C9F2CA#32 < (m ((c.tc : Thread nD τ).loc main_arg3) : FVec Ideal S32x12 .f32) i)
  (h : Fin 4) (n : ℕ)

/-- Where an entry of the block lies in the result. -/
abbrev place (g : Fin 2) (h : Fin 4) (r : Fin 256) (d : Fin 64) : S2x8192x512.Idx :=
  ix3 ⟨t.val / 32, by have := count t; omega⟩ ⟨256 * (t.val % 32) + r, by have := count t; omega⟩ ⟨256 * g + 64 * h + d, by omega⟩

include hb

theorem entry' (g : Fin 2) (r : Fin 256) (d : Fin 64) (B : Fin 256 → Fin 384 → EReal) (s : EReal)
    (hB : ∀ r k, B r k = (iblk m c 6 t : Vec Ideal S8x256x384 .f32) (ix3 ⟨4 * g + h, by omega⟩ r k))
    (hs : s = (iblk m c 0 t : Vec Ideal S8 .f32) (ix1 ⟨4 * g + h, by omega⟩)) :
    headAt (k0_pay2 (F := Ideal) (iblk m c 1 t)) (k0_pay3 (F := Ideal) (iblk m c 2 t) (iblk m c 3 t)) (k0_pay4 (F := Ideal) (iblk m c 4 t) (iblk m c 5 t))
        (k0_pay5 (grid0.coords t)) B s g h r d = expected m c (place t g h r d) := by
  obtain rfl : B = fun r k => (iblk m c 6 t : Vec Ideal S8x256x384 .f32) (ix3 ⟨4 * g + h, by omega⟩ r k) := by
    funext r k; exact hB r k
  rw [hs, entry m c t g h r d hb]
  exact (Cert.SwaRefIdeal.Hand.out_at _ _ _ _ _ _ g h d).symm

theorem low_entry (hn : 4 * (0 : Fin 2).val + h.val = n) (o : Fin 2 → ℕ) (e : o = ![0, 64 * (h : ℕ)]) (ho : S256x512.Slices o S256x64)
    (B : Vec Ideal S1x256x384 .f32) (s : Elt Ideal .f32)
    (hB : ∀ (r : Fin 256) (k : Fin 384), (B (ix3 0 r k) : EReal) = (iblk m c 6 t : Vec Ideal S8x256x384 .f32) (ix3 ⟨n, by omega⟩ r k))
    (hs : (s : EReal) = (iblk m c 0 t : Vec Ideal S8 .f32) (ix1 ⟨n, by omega⟩)) (r : Fin 256) (d : Fin 64) :
    (headLow (F := Ideal) o ho (k0_pay2 (iblk m c 1 t)) (k0_pay3 (iblk m c 2 t) (iblk m c 3 t)) (k0_pay4 (iblk m c 4 t) (iblk m c 5 t))
        (k0_pay5 (grid0.coords t)) B s (ix2 r d) : EReal) = expected m c (place t 0 h r d) := by
  subst hn
  rw [headLow_at _ _ _ _ _ _ h o e]
  exact entry' m c t hb h 0 r d _ _ hB hs

theorem high_entry (hn : 4 * (1 : Fin 2).val + h.val = n) (o : Fin 2 → ℕ) (e : o = ![0, 256 + 64 * (h : ℕ)]) (ho : S256x512.Slices o S256x64)
    (B : Vec Ideal S1x256x384 .f32) (s : Elt Ideal .f32)
    (hB : ∀ (r : Fin 256) (k : Fin 384), (B (ix3 0 r k) : EReal) = (iblk m c 6 t : Vec Ideal S8x256x384 .f32) (ix3 ⟨n, by have := h.isLt; simp only [Fin.val_one] at hn; omega⟩ r k))
    (hs : (s : EReal) = (iblk m c 0 t : Vec Ideal S8 .f32) (ix1 ⟨n, by have := h.isLt; simp only [Fin.val_one] at hn; omega⟩)) (r : Fin 256) (d : Fin 64) :
    (headHigh (F := Ideal) o ho (k0_pay2 (iblk m c 1 t)) (k0_pay3 (iblk m c 2 t) (iblk m c 3 t)) (k0_pay4 (iblk m c 4 t) (iblk m c 5 t))
        (k0_pay5 (grid0.coords t)) B s (ix2 r d) : EReal) = expected m c (place t 1 h r d) := by
  subst hn
  rw [headHigh_at _ _ _ _ _ _ h o e]
  exact entry' m c t hb h 1 r d _ _ hB hs
end

/-- Eight heads side by side, each of them known entry by entry. -/
theorem sideBySide_entries (h0 h1 h2 h3 h4 h5 h6 h7 : FVec Ideal S256x64 .f32) (E : Fin 2 → Fin 4 → Fin 256 → Fin 64 → EReal)
    (e0 : ∀ r d, h0 (ix2 r d) = E 0 0 r d) (e1 : ∀ r d, h1 (ix2 r d) = E 0 1 r d) (e2 : ∀ r d, h2 (ix2 r d) = E 0 2 r d)
    (e3 : ∀ r d, h3 (ix2 r d) = E 0 3 r d) (e4 : ∀ r d, h4 (ix2 r d) = E 1 0 r d) (e5 : ∀ r d, h5 (ix2 r d) = E 1 1 r d)
    (e6 : ∀ r d, h6 (ix2 r d) = E 1 2 r d) (e7 : ∀ r d, h7 (ix2 r d) = E 1 3 r d) (r : Fin 256) (e : Fin 512) :
    (sideBySide (F := Ideal) h0 h1 h2 h3 h4 h5 h6 h7 (ix3 0 r e) : EReal) = E ⟨e / 256, by omega⟩ ⟨e / 64 % 4, by omega⟩ r ⟨e % 64, by omega⟩ := by
  have hk := sideBySide_at ![h0, h1, h2, h3, h4, h5, h6, h7] r ⟨e / 64, by omega⟩ ⟨e % 64, by omega⟩
  have he : (⟨64 * (e.val / 64) + e.val % 64, by omega⟩ : Fin 512) = e := Fin.ext (by simp only []; omega)
  have hd : ∀ k : Fin 8, ∀ d, ((![h0, h1, h2, h3, h4, h5, h6, h7] : Fin 8 → FVec Ideal S256x64 .f32) k (ix2 r d) : EReal)
      = E ⟨k / 4, by omega⟩ ⟨k % 4, by omega⟩ r d := by
    intro k d
    fin_cases k
    · exact e0 r d
    · exact e1 r d
    · exact e2 r d
    · exact e3 r d
    · exact e4 r d
    · exact e5 r d
    · exact e6 r d
    · exact e7 r d
  rw [hd] at hk
  have hq : (⟨e.val / 64 / 4, by omega⟩ : Fin 2) = ⟨e.val / 256, by omega⟩ := Fin.ext (by simp only []; omega)
  rw [show (ix3 0 r e : S1x256x512.Idx) = ix3 0 r ⟨64 * (e.val / 64) + e.val % 64, by omega⟩ from by rw [he], ← hq]
  exact hk

/-- The result array after the run. -/
theorem final (c : Dev nD) (hb : ∀ i, Ideal.ofBits .f32 0xF0C9F2CA#32 < (m ((c.tc : Thread nD τ).loc main_arg3) : FVec Ideal S32x12 .f32) i) :
    (dats m 0 c).arrAt 7 (cfgs 0).N = expected m c := by
  refine (dats m 0 c).arrAt_eq_of_covers 7 _ (by decide +kernel) fun t _ y => ?_
  have ht := count t
  blk_simp
  rw [after0_7]; unfold outsAt0; frame_out
  idx_vars y
  obtain rfl : y0 = 0 := Subsingleton.elim _ _
  rw [head0, head1, head2, head3, head4, head5, head6, head7]
  refine (sideBySide_entries _ _ _ _ _ _ _ _ (fun g h r d => expected m c (place t g h r d)) ?_ ?_ ?_ ?_ ?_ ?_ ?_ ?_ y1 y2).trans ?_
  · intro r d; exact low_entry m c t hb 0 0 (by decide) _ (by decide) _ _ _ (fun r k => table_read _ _ (by omega) _ _ _) (sink_read _ _ (by omega) _ _) r d
  · intro r d; exact low_entry m c t hb 1 1 (by decide) _ (by decide) _ _ _ (fun r k => table_read _ _ (by omega) _ _ _) (sink_read _ _ (by omega) _ _) r d
  · intro r d; exact low_entry m c t hb 2 2 (by decide) _ (by decide) _ _ _ (fun r k => table_read _ _ (by omega) _ _ _) (sink_read _ _ (by omega) _ _) r d
  · intro r d; exact low_entry m c t hb 3 3 (by decide) _ (by decide) _ _ _ (fun r k => table_read _ _ (by omega) _ _ _) (sink_read _ _ (by omega) _ _) r d
  · intro r d; exact high_entry m c t hb 0 4 (by decide) _ (by decide) _ _ _ (fun r k => table_read _ _ (by omega) _ _ _) (sink_read _ _ (by omega) _ _) r d
  · intro r d; exact high_entry m c t hb 1 5 (by decide) _ (by decide) _ _ _ (fun r k => table_read _ _ (by omega) _ _ _) (sink_read _ _ (by omega) _ _) r d
  · intro r d; exact high_entry m c t hb 2 6 (by decide) _ (by decide) _ _ _ (fun r k => table_read _ _ (by omega) _ _ _) (sink_read _ _ (by omega) _ _) r d
  · intro r d; exact high_entry m c t hb 3 7 (by decide) _ (by decide) _ _ _ (fun r k => table_read _ _ (by omega) _ _ _) (sink_read _ _ (by omega) _ _) r d
  · generalize expected m c = X
    have ey : y2 = ⟨256 * (y2.val / 256) + 64 * (y2.val / 64 % 4) + y2.val % 64, by omega⟩ := Fin.ext (by simp only []; omega)
    show X (ix3 _ _ ⟨256 * (y2.val / 256) + 64 * (y2.val / 64 % 4) + y2.val % 64, by omega⟩) = _
    rw [← ey]
    blk_point [idx t]

end Cert.SwaIdeal.Hand

end
-- ==== Proof.Swa.Claims.lean ====
module

public import proofs.«01_k».proof.Defs
public import proofs.«01_k».proof.Proof.Swa.Value
public import proofs.«01_k».proof.Proof.Gen.Swa.Frame
public import proofs.«01_k».proof.Proof.Gen.SwaIdeal.Value
public import proofs.«01_k».proof.Proof.Gen.SwaRefIdeal.Run
public import proofs.«01_k».proof.Proof.Gen.SwaRefIdeal.Read
public import Idealize.ShloMosaic.Lib.Claim
public import Idealize.ShloMosaic.Adequacy
public import Idealize.ShloMosaic.Init

/-! The claims about the windowed attention: the two programs run and leave their arguments, and their results are equal. -/

@[expose] public section

set_option maxRecDepth 16384

noncomputable section
open Idealize.ShloMosaic Idealize.ShloMosaic.TcCoe Idealize.SL.Sem

namespace Cert.Proof.Swa

/-- The side condition the precondition's function takes: its scalar bound spreads over the bias array. -/
instance pre_facts : Cert.Pre_bias_above_mask.Facts := ⟨by decide⟩

/-- The precondition says of every entry of the bias array that it lies above the mask's half. -/
theorem bias_above [Cert.Pre_bias_above_mask.Facts] (b : FVec Ideal (⟨2, ![32, 12]⟩ : Shape) .f32) (q : FVec Ideal (⟨3, ![2, 8192, 512]⟩ : Shape) .f32)
    (kv : FVec Ideal (⟨3, ![2, 8192, 256]⟩ : Shape) .f32) (s : FVec Ideal (⟨2, ![1, 8]⟩ : Shape) .f32)
    (h : Cert.Pre_bias_above_mask.fn (F := Ideal) q kv s b = fun _ => 1#1) (i) : Ideal.ofBits .f32 0xF0C9F2CA#32 < b i := by
  have h1 := congrFun h i
  unfold Cert.Pre_bias_above_mask.fn at h1
  idx_vars i
  pointwise at h1
  by_contra hn
  simp [hn] at h1

/-- The reference runs and leaves its arguments. -/
theorem frame_ref (m : (ℓ : Loc Cert.SwaRefIdeal.nD Cert.SwaRefIdeal.τ Cert.SwaRefIdeal.sig) → Buf (Elt Ideal) ℓ) (g : Dev Cert.SwaRefIdeal.nD → PrngReg) :
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0) :=
  θ_run_mono (Cert.SwaRefIdeal.Value.run m g) fun r h => ⟨fun c => (h c).2, sem_eq_zero_of_no_sems (by decide) r.2⟩

/-- Over exact arithmetic the kernel's result is the reference's. -/
theorem algebraic [hSwaIdeal : Cert.SwaIdeal.Facts] [hSwaRefIdeal : Cert.SwaRefIdeal.Facts] [hPre : Cert.Pre_bias_above_mask.Facts] :
    Cert.algebraic_SwaIdeal_SwaRefIdeal_pre_bias_above_mask := by
  intro m g m' g' hpre hagree
  refine ⟨fun c => Cert.SwaIdeal.Hand.expected m c, ?_, ?_⟩
  · exact θ_run_mono (Cert.SwaIdeal.Value.run_blocks m g)
      fun r h c => ⟨(h c).1.trans (Cert.SwaIdeal.Hand.final m c fun i => bias_above _ _ _ _ (hpre c) i), (h c).2⟩
  · refine θ_run_mono (Cert.SwaRefIdeal.Value.run m' g') fun r h c => ⟨(h c).1.trans ?_, (h c).2⟩
    obtain ⟨h0, h1, h2, h3⟩ := hagree c
    rw [Cert.SwaRefIdeal.Read.val_main_v79_eq, h0, h1, h2, h3]

end Cert.Proof.Swa

end
-- ==== Proof.Norm.lean ====
module

public import Idealize.ShloMosaic.Lib.Pointwise

/-! Root-mean-square normalization of a row of 1024 entries, scaled entry by entry. -/

@[expose] public section

noncomputable section
open Idealize.ShloMosaic

namespace Cert.Norm

/-- One entry of a normalized row `x` scaled by `g`. -/
def rms (x g : Fin 1024 → EReal) (k : Fin 1024) : EReal :=
  x k * Ideal.rsqrt (Ideal.div (∑ j, x j * x j) (Ideal.ofBits FTy.f32 0x44800000#32) + Ideal.ofBits FTy.f32 0x358637BD#32) * g k

end Cert.Norm

end
-- ==== Proof.Ffn.Pay.lean ====
module

public import proofs.«01_k».proof.Proof.Gen.FfnIdeal.Skeleton
public import Idealize.ShloMosaic.Lib.Pointwise
public import proofs.«01_k».proof.Proof.Norm

/-! Entries of what the kernel's body stores. -/

@[expose] public section

set_option maxRecDepth 16384

noncomputable section
open Idealize.ShloMosaic Idealize.ShloMosaic.TcCoe Idealize.SL.Sem
open Idealize.ShloMosaic.Pipeline (Dat)

namespace Cert.FfnIdeal.Hand
open Cert.FfnIdeal Cert.FfnIdeal.Gen

/-- The gated unit: `a · logistic a · b`. -/
def act (a b : EReal) : EReal := a * Ideal.logistic a * b

/-- An entry of the normalized block. -/
theorem pay1_at (x : Vec Ideal S512x1024 .f32) (g : Vec Ideal S1x1024 .f32) (r : Fin 512) (k : Fin 1024) :
    (k0_pay1 x g (ix2 r k) : EReal) = Norm.rms (fun j => x (ix2 r j)) (fun j => g (ix2 0 j)) k := by
  unfold Norm.rms
  pointwise [k0_pay1]

/-- The accumulator starts at zero. -/
theorem pay2_at (r : Fin 512) (k : Fin 1024) : (k0_pay2 (F := Ideal) (ix2 r k) : EReal) = 0 := by
  pointwise [k0_pay2]

/-- One half of the inner width added to the accumulator. -/
theorem pay3_at (h : Vec Ideal S512x1024 .bf16) (wg : Vec Ideal S1024x1408 .bf16) (wu : Vec Ideal S1024x1408 .bf16) (a : Vec Ideal S512x1024 .f32)
    (wd : Vec Ideal S1408x1024 .bf16) (r : Fin 512) (d : Fin 1024) :
    (k0_pay3 h wg wu a wd (ix2 r d) : EReal)
      = a (ix2 r d) + ∑ f : Fin 1408, act (∑ k : Fin 1024, (h (ix2 r k) : EReal) * wg (ix2 k f)) (∑ k : Fin 1024, (h (ix2 r k) : EReal) * wu (ix2 k f)) * wd (ix2 f d) := by
  unfold act
  pointwise [k0_pay3]

/-- The residual sum, normalized. -/
theorem pay4_at (x : Vec Ideal S512x1024 .f32) (a : Vec Ideal S512x1024 .f32) (g : Vec Ideal S1x1024 .f32) (r : Fin 512) (k : Fin 1024) :
    (k0_pay4 x a g (ix2 r k) : EReal) = Norm.rms (fun j => (x (ix2 r j) : EReal) + a (ix2 r j)) (fun j => g (ix2 0 j)) k := by
  unfold Norm.rms
  pointwise [k0_pay4]

end Cert.FfnIdeal.Hand

end
-- ==== Proof.Ffn.Blocks.lean ====
module

public import proofs.«01_k».proof.Proof.Gen.FfnIdeal.Frame
public import Idealize.ShloMosaic.Lib.Pipeline.ValueKit
public import Idealize.ShloMosaic.Lib.Claim

/-! What each window of the layer's launch holds at a grid point, in terms of the program's arguments. -/

@[expose] public section

set_option maxRecDepth 16384

noncomputable section
open Idealize.ShloMosaic Idealize.ShloMosaic.TcCoe Idealize.SL.Sem
open Idealize.ShloMosaic.Pipeline (Dat)

namespace Cert.FfnIdeal.Hand
open Cert.FfnIdeal Cert.FfnIdeal.Gen

variable (m : (ℓ : Loc nD τ sig) → Buf (Elt Ideal) ℓ)

/-- The blocks each window takes at a grid point. -/
theorem idx : ∀ t : Fin cfg0.N, win0_0.index t = ![t.val / 2, 0] ∧ win0_1.index t = ![0, 0] ∧ win0_2.index t = ![0, 0]
    ∧ win0_3.index t = ![0, t.val % 2] ∧ win0_4.index t = ![0, t.val % 2] ∧ win0_5.index t = ![t.val % 2, 0] ∧ win0_6.index t = ![t.val / 2, 0] :=
  (by decide +kernel : ∀ t : Fin grid0.N, _)

/-- The launch has 64 grid points. -/
theorem count (t : Fin cfg0.N) : t.val < 64 := t.isLt

/-- The gate weights the launch takes. -/
theorem gates (c : Dev nD) : V m c main_v0 = (truncf .bf16 (m ((c.tc : Thread nD τ).loc main_arg3) : FVec Ideal S1024x2816 .f32) bitsLt_bf16_f32 : FVec Ideal S1024x2816 .bf16) := by
  unfold V
  simp only [hostOps0, List.flatten_cons, List.flatten_nil, List.cons_append, List.nil_append, List.append_nil]
  after_results
  try rfl

/-- The up weights the launch takes. -/
theorem ups (c : Dev nD) : V m c main_v1 = (truncf .bf16 (m ((c.tc : Thread nD τ).loc main_arg4) : FVec Ideal S1024x2816 .f32) bitsLt_bf16_f32 : FVec Ideal S1024x2816 .bf16) := by
  unfold V
  simp only [hostOps0, List.flatten_cons, List.flatten_nil, List.cons_append, List.nil_append, List.append_nil]
  after_results
  try rfl

/-- The down weights the launch takes. -/
theorem downs (c : Dev nD) : V m c main_v2 = (truncf .bf16 (m ((c.tc : Thread nD τ).loc main_arg5) : FVec Ideal S2816x1024 .f32) bitsLt_bf16_f32 : FVec Ideal S2816x1024 .bf16) := by
  unfold V
  simp only [hostOps0, List.flatten_cons, List.flatten_nil, List.cons_append, List.nil_append, List.append_nil]
  after_results
  try rfl

/-- The layer's gains the launch takes. -/
theorem gains (c : Dev nD) : V m c main_v3 = shapeCast S1x1024 (m ((c.tc : Thread nD τ).loc main_arg1) : FVec Ideal S1024 .f32) shapeCasts_S1024_S1x1024 := by
  unfold V
  simp only [hostOps0, List.flatten_cons, List.flatten_nil, List.cons_append, List.nil_append, List.append_nil]
  after_results
  try rfl

/-- The last gains the launch takes. -/
theorem gains_final (c : Dev nD) : V m c main_v4 = shapeCast S1x1024 (m ((c.tc : Thread nD τ).loc main_arg2) : FVec Ideal S1024 .f32) shapeCasts_S1024_S1x1024 := by
  unfold V
  simp only [hostOps0, List.flatten_cons, List.flatten_nil, List.cons_append, List.nil_append, List.append_nil]
  after_results
  try rfl

/-- The rows the launch takes. -/
theorem rows (c : Dev nD) : V m c main_arg0 = m ((c.tc : Thread nD τ).loc main_arg0) := by
  unfold V
  simp only [hostOps0, List.flatten_cons, List.flatten_nil, List.cons_append, List.nil_append, List.append_nil]
  after_results
  try rfl

/-- A block of rows. -/
theorem block0 (c : Dev nD) (t : Fin cfg0.N) (r : Fin 512) (k : Fin 1024) :
    ((iblk m c 0 t : Vec Ideal S512x1024 .f32) (ix2 r k) : EReal)
      = (m ((c.tc : Thread nD τ).loc main_arg0) : FVec Ideal S16384x1024 .f32) (ix2 ⟨512 * (t.val / 2) + r.val, by have := count t; omega⟩ k) := by
  have ht := count t
  have hb := rows m c
  generalize m ((c.tc : Thread nD τ).loc main_arg0) = y at hb ⊢
  blk_point [iblk, hb, idx t]

/-- Window 1 holds its gains. -/
theorem block1 (c : Dev nD) (t : Fin cfg0.N) (k : Fin 1024) :
    ((iblk m c 1 t : Vec Ideal S1x1024 .f32) (ix2 0 k) : EReal)
      = (m ((c.tc : Thread nD τ).loc main_arg1) : FVec Ideal S1024 .f32) (ix1 k) := by
  have hs : (shapeCast S1x1024 (m ((c.tc : Thread nD τ).loc main_arg1) : FVec Ideal S1024 .f32) shapeCasts_S1024_S1x1024 : FVec Ideal S1x1024 .f32) (ix2 0 k)
      = (m ((c.tc : Thread nD τ).loc main_arg1) : FVec Ideal S1024 .f32) (ix1 k) := by pointwise
  rw [← hs]
  blk_point [iblk, gains, idx t]

/-- Window 2 holds its gains. -/
theorem block2 (c : Dev nD) (t : Fin cfg0.N) (k : Fin 1024) :
    ((iblk m c 2 t : Vec Ideal S1x1024 .f32) (ix2 0 k) : EReal)
      = (m ((c.tc : Thread nD τ).loc main_arg2) : FVec Ideal S1024 .f32) (ix1 k) := by
  have hs : (shapeCast S1x1024 (m ((c.tc : Thread nD τ).loc main_arg2) : FVec Ideal S1024 .f32) shapeCasts_S1024_S1x1024 : FVec Ideal S1x1024 .f32) (ix2 0 k)
      = (m ((c.tc : Thread nD τ).loc main_arg2) : FVec Ideal S1024 .f32) (ix1 k) := by pointwise
  rw [← hs]
  blk_point [iblk, gains_final, idx t]

/-- Window 3 holds one half of its weight's columns. -/
theorem block3 (c : Dev nD) (t : Fin cfg0.N) (k : Fin 1024) (f : Fin 1408) :
    ((iblk m c 3 t : Vec Ideal S1024x1408 .bf16) (ix2 k f) : EReal)
      = (m ((c.tc : Thread nD τ).loc main_arg3) : FVec Ideal S1024x2816 .f32) (ix2 k ⟨1408 * (t.val % 2) + f.val, by omega⟩) := by
  have ht := count t
  refine Eq.trans ?_ (show (truncf .bf16 (m ((c.tc : Thread nD τ).loc main_arg3) : FVec Ideal S1024x2816 .f32) bitsLt_bf16_f32 : FVec Ideal S1024x2816 .bf16) (ix2 k ⟨1408 * (t.val % 2) + f.val, by omega⟩) = _ from rfl)
  have hb := gates m c
  generalize (truncf .bf16 (m ((c.tc : Thread nD τ).loc main_arg3) : FVec Ideal S1024x2816 .f32) bitsLt_bf16_f32 : FVec Ideal S1024x2816 .bf16) = y at hb ⊢
  blk_point [iblk, hb, idx t]

/-- Window 4 holds one half of its weight's columns. -/
theorem block4 (c : Dev nD) (t : Fin cfg0.N) (k : Fin 1024) (f : Fin 1408) :
    ((iblk m c 4 t : Vec Ideal S1024x1408 .bf16) (ix2 k f) : EReal)
      = (m ((c.tc : Thread nD τ).loc main_arg4) : FVec Ideal S1024x2816 .f32) (ix2 k ⟨1408 * (t.val % 2) + f.val, by omega⟩) := by
  have ht := count t
  refine Eq.trans ?_ (show (truncf .bf16 (m ((c.tc : Thread nD τ).loc main_arg4) : FVec Ideal S1024x2816 .f32) bitsLt_bf16_f32 : FVec Ideal S1024x2816 .bf16) (ix2 k ⟨1408 * (t.val % 2) + f.val, by omega⟩) = _ from rfl)
  have hb := ups m c
  generalize (truncf .bf16 (m ((c.tc : Thread nD τ).loc main_arg4) : FVec Ideal S1024x2816 .f32) bitsLt_bf16_f32 : FVec Ideal S1024x2816 .bf16) = y at hb ⊢
  blk_point [iblk, hb, idx t]

/-- Window 5 holds one half of its weight's rows. -/
theorem block5 (c : Dev nD) (t : Fin cfg0.N) (f : Fin 1408) (d : Fin 1024) :
    ((iblk m c 5 t : Vec Ideal S1408x1024 .bf16) (ix2 f d) : EReal)
      = (m ((c.tc : Thread nD τ).loc main_arg5) : FVec Ideal S2816x1024 .f32) (ix2 ⟨1408 * (t.val % 2) + f.val, by omega⟩ d) := by
  have ht := count t
  refine Eq.trans ?_ (show (truncf .bf16 (m ((c.tc : Thread nD τ).loc main_arg5) : FVec Ideal S2816x1024 .f32) bitsLt_bf16_f32 : FVec Ideal S2816x1024 .bf16) (ix2 ⟨1408 * (t.val % 2) + f.val, by omega⟩ d) = _ from rfl)
  have hb := downs m c
  generalize (truncf .bf16 (m ((c.tc : Thread nD τ).loc main_arg5) : FVec Ideal S2816x1024 .f32) bitsLt_bf16_f32 : FVec Ideal S2816x1024 .bf16) = y at hb ⊢
  blk_point [iblk, hb, idx t]

end Cert.FfnIdeal.Hand

end
-- ==== Proof.Ffn.RefAt.lean ====
module

public import proofs.«01_k».proof.Proof.Gen.FfnRefIdeal.Read
public import Idealize.ShloMosaic.Lib.Pointwise
public import proofs.«01_k».proof.Proof.Norm
public import proofs.«01_k».proof.Proof.Ffn.Pay

/-! An entry of the reference's result. -/

@[expose] public section

set_option maxRecDepth 16384

noncomputable section
open Idealize.ShloMosaic Idealize.ShloMosaic.TcCoe Idealize.SL.Sem
open Idealize.ShloMosaic.Pipeline (Dat)

namespace Cert.FfnRefIdeal.Hand
open Cert.FfnRefIdeal Cert.FfnRefIdeal.Gen Cert.FfnRefIdeal.Read

variable (x : FVec Ideal S16384x1024 .f32) (g gf : FVec Ideal S1024 .f32) (wg wu : FVec Ideal S1024x2816 .f32) (wd : FVec Ideal S2816x1024 .f32)

/-- The word of one is one. -/
theorem one_word : Ideal.ofBits FTy.f32 0x3F800000#32 = 1 := by
  first | exact Ideal.ofBits_one_f32 | (simp [Ideal.ofBits]; done) | (unfold Ideal.ofBits; norm_num)

/-- An entry of the normalized input. -/
theorem v12_at (n : Fin 16384) (k : Fin 1024) :
    (val_main_v12 (F := Ideal) x g (ix2 n k) : EReal) = Norm.rms (fun j => x (ix2 n j)) (fun j => g (ix1 j)) k := by
  unfold Norm.rms
  pointwise [val_main_v12, val_main_v9, val_main_v11, val_main_v10, val_main_v8, val_main_v7, val_main_v6, val_main_v5,
    val_main_cst_1, val_main_v4, val_main_v3, val_main_cst_0, val_main_v2, val_main_v1, val_main_cst, val_main_v0]

theorem v13_at (n : Fin 16384) (f : Fin 2816) :
    (val_main_v13 (F := Ideal) x g wg (ix2 n f) : EReal) = ∑ k, (val_main_v12 (F := Ideal) x g (ix2 n k) : EReal) * wg (ix2 k f) := by
  pointwise [val_main_v13]

theorem v15_at (n : Fin 16384) (f : Fin 2816) :
    (val_main_v15 (F := Ideal) x g wu (ix2 n f) : EReal) = ∑ k, (val_main_v12 (F := Ideal) x g (ix2 n k) : EReal) * wu (ix2 k f) := by
  pointwise [val_main_v15]

/-- An entry of the gated product. -/
theorem v16_at (n : Fin 16384) (f : Fin 2816) :
    (val_main_v16 (F := Ideal) x g wg wu (ix2 n f) : EReal)
      = Cert.FfnIdeal.Hand.act (val_main_v13 (F := Ideal) x g wg (ix2 n f)) (val_main_v15 (F := Ideal) x g wu (ix2 n f)) := by
  unfold Cert.FfnIdeal.Hand.act Ideal.logistic
  rw [← one_word]
  pointwise [val_main_v16, val_main_v14, val_main_call0_v5, val_main_call0_v4, val_main_call0_v3, val_main_call0_v2, val_main_call0_v1, val_main_call0_v0, val_main_call0_cst, val_main_call0_cst_0]

/-- An entry of the down projection. -/
theorem v17_at (n : Fin 16384) (d : Fin 1024) :
    (val_main_v17 (F := Ideal) x g wg wu wd (ix2 n d) : EReal) = ∑ f, (val_main_v16 (F := Ideal) x g wg wu (ix2 n f) : EReal) * wd (ix2 f d) := by
  pointwise [val_main_v17]

/-- Row `n`'s normalized input times column `f` of a weight. -/
def up (n : Fin 16384) (w : FVec Ideal S1024x2816 .f32) (f : Fin 2816) : EReal :=
  ∑ k, Norm.rms (fun j => x (ix2 n j)) (fun j => g (ix1 j)) k * w (ix2 k f)

/-- The term of inner column `f` in entry `(n, d)` of the down projection. -/
def term (n : Fin 16384) (d : Fin 1024) (f : Fin 2816) : EReal :=
  Cert.FfnIdeal.Hand.act (up x g n wg f) (up x g n wu f) * wd (ix2 f d)

theorem v17_sum (n : Fin 16384) (d : Fin 1024) :
    (val_main_v17 (F := Ideal) x g wg wu wd (ix2 n d) : EReal) = ∑ f, term x g wg wu wd n d f := by
  rw [v17_at]
  refine Finset.sum_congr rfl fun f _ => ?_
  rw [v16_at, v13_at, v15_at]
  unfold term up
  simp only [v12_at]

/-- An entry of the result. -/
theorem v31_at (n : Fin 16384) (d : Fin 1024) :
    (val_main_v31 (F := Ideal) x g gf wg wu wd (ix2 n d) : EReal)
      = Norm.rms (fun j => (x (ix2 n j) : EReal) + ∑ f, term x g wg wu wd n j f) (fun j => gf (ix1 j)) d := by
  simp only [← v17_sum]
  unfold Norm.rms
  pointwise [val_main_v31, val_main_v30, val_main_v29, val_main_v28, val_main_v27, val_main_v26, val_main_v25, val_main_v24, val_main_v23, val_main_v22,
    val_main_v21, val_main_v20, val_main_v19, val_main_v18, val_main_cst_2, val_main_cst_3, val_main_cst_4]

end Cert.FfnRefIdeal.Hand

end
-- ==== Proof.Ffn.Steps.lean ====
module

public import proofs.«01_k».proof.Proof.Ffn.Pay
public import proofs.«01_k».proof.Proof.Ffn.Blocks
public import proofs.«01_k».proof.Proof.Ffn.RefAt

/-! The layer's result array after the run is the reference's result. -/

@[expose] public section

set_option maxRecDepth 16384

noncomputable section
open Idealize.ShloMosaic Idealize.ShloMosaic.TcCoe Idealize.SL.Sem
open Idealize.ShloMosaic.Pipeline (Dat)

namespace Cert.FfnIdeal.Hand
open Cert.FfnIdeal Cert.FfnIdeal.Gen

variable (m : (ℓ : Loc nD τ sig) → Buf (Elt Ideal) ℓ)

/-- After an even point the carried block is the normalized block of rows. -/
theorem carried_h (c : Dev nD) (t : Fin cfg0.N) (h0 : t.val % 2 = 0) (r : Fin 512) (k : Fin 1024) :
    ((outsAt0 m c t.val t.isLt).2.1 (ix2 r k) : EReal) = k0_pay1 (iblk m c 0 t : Vec Ideal S512x1024 .f32) (iblk m c 1 t : Vec Ideal S1x1024 .f32) (ix2 r k) := by
  rw [outsAt0_A m c t h0 (by omega)]
  dsimp only
  unfold sout0_A_0
  frame_out

/-- After an even point the accumulator is the first half's sum. -/
theorem carried_acc (c : Dev nD) (t : Fin cfg0.N) (h0 : t.val % 2 = 0) (r : Fin 512) (k : Fin 1024) :
    ((outsAt0 m c t.val t.isLt).2.2 (ix2 r k) : EReal)
      = k0_pay3 (k0_pay1 (iblk m c 0 t : Vec Ideal S512x1024 .f32) (iblk m c 1 t : Vec Ideal S1x1024 .f32)) (iblk m c 3 t : Vec Ideal S1024x1408 .bf16) (iblk m c 4 t : Vec Ideal S1024x1408 .bf16) (k0_pay2 (F := Ideal)) (iblk m c 5 t : Vec Ideal S1408x1024 .bf16) (ix2 r k) := by
  rw [outsAt0_A m c t h0 (by omega)]
  dsimp only
  unfold sout0_A_1
  frame_out

/-- After an odd point the output block is the residual sum, normalized. -/
theorem output_at (c : Dev nD) (t : Fin cfg0.N) (h1 : t.val % 2 = 1) (r : Fin 512) (k : Fin 1024) (hs : Vec Ideal S512x1024 .bf16) (acc : Vec Ideal S512x1024 .f32)
    (e0 : (outsAt0 m c (t.val - 1) (Nat.lt_of_le_of_lt (Nat.sub_le _ _) t.isLt)).2.1 = hs)
    (e1 : (outsAt0 m c (t.val - 1) (Nat.lt_of_le_of_lt (Nat.sub_le _ _) t.isLt)).2.2 = acc) :
    ((outsAt0 m c t.val t.isLt).1 (ix2 r k) : EReal)
      = k0_pay4 (iblk m c 0 t : Vec Ideal S512x1024 .f32) (k0_pay3 hs (iblk m c 3 t : Vec Ideal S1024x1408 .bf16) (iblk m c 4 t : Vec Ideal S1024x1408 .bf16) acc (iblk m c 5 t : Vec Ideal S1408x1024 .bf16)) (iblk m c 2 t : Vec Ideal S1x1024 .f32) (ix2 r k) := by
  rw [outsAt0_B m c t (by omega) h1]
  dsimp only
  rw [e0, e1]
  unfold out0_B_6
  frame_out
  have u0 : View.read (Elt Ideal) (View.whole cc0_scratch0) ((Memref.isWhole_whole cc0_scratch0).unread hs) = hs := (Memref.isWhole_whole cc0_scratch0).read_unread hs
  have u1 : View.read (Elt Ideal) (View.whole cc0_scratch1) ((Memref.isWhole_whole cc0_scratch1).unread acc) = acc := (Memref.isWhole_whole cc0_scratch1).read_unread acc
  exact congrArg₂ (fun a b => (k0_pay4 (iblk m c 0 t : Vec Ideal S512x1024 .f32) (k0_pay3 a (iblk m c 3 t : Vec Ideal S1024x1408 .bf16) (iblk m c 4 t : Vec Ideal S1024x1408 .bf16) b (iblk m c 5 t : Vec Ideal S1408x1024 .bf16)) (iblk m c 2 t : Vec Ideal S1x1024 .f32) (ix2 r k) : EReal)) u0 u1

end Cert.FfnIdeal.Hand

end
-- ==== Proof.Ffn.Value.lean ====
module

public import proofs.«01_k».proof.Proof.Ffn.Steps

/-! The layer's result array after the run is the reference's result. -/

@[expose] public section

set_option maxRecDepth 16384

noncomputable section
open Idealize.ShloMosaic Idealize.ShloMosaic.TcCoe Idealize.SL.Sem
open Idealize.ShloMosaic.Pipeline (Dat)

namespace Cert.FfnIdeal.Hand
open Cert.FfnIdeal Cert.FfnIdeal.Gen

variable (m : (ℓ : Loc nD τ sig) → Buf (Elt Ideal) ℓ)

/-- The row of the arrays that row `r` of point `t`'s block is. -/
abbrev row (t : Fin cfg0.N) (r : Fin 512) : Fin 16384 := ⟨512 * (t.val / 2) + r.val, by have := count t; omega⟩

/-- The term of inner column `f` in the down projection, over the program's arguments. -/
abbrev want (c : Dev nD) (n : Fin 16384) (d : Fin 1024) (f : Fin 2816) : EReal :=
  Cert.FfnRefIdeal.Hand.term (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) n d f

/-- A row of the normalized block, in terms of the arguments. -/
theorem norm_at (c : Dev nD) (t : Fin cfg0.N) (r : Fin 512) (k : Fin 1024) :
    (k0_pay1 (iblk m c 0 t : Vec Ideal S512x1024 .f32) (iblk m c 1 t : Vec Ideal S1x1024 .f32) (ix2 r k) : EReal)
      = Norm.rms (fun j => (m ((c.tc : Thread nD τ).loc main_arg0) : FVec Ideal S16384x1024 .f32) (ix2 (row t r) j))
          (fun j => (m ((c.tc : Thread nD τ).loc main_arg1) : FVec Ideal S1024 .f32) (ix1 j)) k := by
  rw [pay1_at]
  simp only [block0, block1]

/-- One half's sum at a point, over a carried block that holds the point's normalized rows. -/
theorem half_at (c : Dev nD) (t : Fin cfg0.N) (h : Vec Ideal S512x1024 .bf16) (acc : Vec Ideal S512x1024 .f32) (r : Fin 512) (d : Fin 1024)
    (hh : ∀ k, (h (ix2 r k) : EReal) = Norm.rms (fun j => (m ((c.tc : Thread nD τ).loc main_arg0) : FVec Ideal S16384x1024 .f32) (ix2 (row t r) j))
          (fun j => (m ((c.tc : Thread nD τ).loc main_arg1) : FVec Ideal S1024 .f32) (ix1 j)) k) :
    (k0_pay3 h (iblk m c 3 t : Vec Ideal S1024x1408 .bf16) (iblk m c 4 t : Vec Ideal S1024x1408 .bf16) acc (iblk m c 5 t : Vec Ideal S1408x1024 .bf16) (ix2 r d) : EReal)
      = acc (ix2 r d) + ∑ f : Fin 1408, want m c (row t r) d ⟨1408 * (t.val % 2) + f.val, by omega⟩ := by
  rw [pay3_at]
  refine congrArg (fun z : EReal => (acc (ix2 r d) : EReal) + z) (Finset.sum_congr rfl fun f _ => ?_)
  unfold want Cert.FfnRefIdeal.Hand.term Cert.FfnRefIdeal.Hand.up
  simp only [hh, block3, block4, block5]

/-- The point before. -/
abbrev prev (t : Fin cfg0.N) : Fin cfg0.N := ⟨t.val - 1, Nat.lt_of_le_of_lt (Nat.sub_le _ _) t.isLt⟩

/-- What an odd point writes, in terms of the arguments. -/
theorem written (c : Dev nD) (t : Fin cfg0.N) (h1 : t.val % 2 = 1) (r : Fin 512) (d : Fin 1024) :
    ((outsAt0 m c t.val t.isLt).1 (ix2 r d) : EReal)
      = Norm.rms (fun j => @HAdd.hAdd EReal EReal EReal _ ((m ((c.tc : Thread nD τ).loc main_arg0) : FVec Ideal S16384x1024 .f32) (ix2 (row t r) j)) (∑ f, want m c (row t r) j f))
          (fun j => (m ((c.tc : Thread nD τ).loc main_arg2) : FVec Ideal S1024 .f32) (ix1 j)) d := by
  have hp : (prev t).val % 2 = 0 := by show (t.val - 1) % 2 = 0; omega
  have hrow : row (prev t) r = row t r := Fin.ext (by show 512 * ((t.val - 1) / 2) + r.val = 512 * (t.val / 2) + r.val; omega)
  rw [output_at m c t h1 r d _ _ rfl rfl, pay4_at]
  have hh : ∀ k, ((outsAt0 m c (prev t).val (prev t).isLt).2.1 (ix2 r k) : EReal) = Norm.rms (fun j => (m ((c.tc : Thread nD τ).loc main_arg0) : FVec Ideal S16384x1024 .f32) (ix2 (row t r) j))
          (fun j => (m ((c.tc : Thread nD τ).loc main_arg1) : FVec Ideal S1024 .f32) (ix1 j)) k := fun k => by
    rw [carried_h m c (prev t) hp r k, norm_at, hrow]
  have ha : ∀ d, ((outsAt0 m c (prev t).val (prev t).isLt).2.2 (ix2 r d) : EReal) = ∑ f : Fin 1408, want m c (row t r) d ⟨f.val, by omega⟩ := fun d => by
    rw [carried_acc m c (prev t) hp r d, half_at m c (prev t) _ _ r d (norm_at m c (prev t) r), pay2_at, zero_add, hrow]
    exact Finset.sum_congr rfl fun f _ => congrArg (want m c (row t r) d) (Fin.ext (by show 1408 * ((t.val - 1) % 2) + f.val = f.val; omega))
  have hs : ∀ d, ((k0_pay3 (outsAt0 m c (prev t).val (prev t).isLt).2.1 (iblk m c 3 t : Vec Ideal S1024x1408 .bf16) (iblk m c 4 t : Vec Ideal S1024x1408 .bf16) (outsAt0 m c (prev t).val (prev t).isLt).2.2 (iblk m c 5 t : Vec Ideal S1408x1024 .bf16)) (ix2 r d) : EReal)
      = ∑ f, want m c (row t r) d f := fun d => by
    rw [half_at m c t _ _ r d hh, ha, Fin.sum_univ_two_halves 1408 1408 rfl (want m c (row t r) d)]
    refine congrArg (fun z : EReal => (∑ f : Fin 1408, want m c (row t r) d ⟨f.val, by omega⟩) + z) ?_
    exact Finset.sum_congr rfl fun f _ => congrArg (want m c (row t r) d) (Fin.ext (by show 1408 * (t.val % 2) + f.val = 1408 + f.val; omega))
  simp only [hs, block0, block2]

/-- The result is written back at odd points only. -/
theorem flush_odd : ∀ t : Fin cfg0.N, win0_6.flush t = true → t.val % 2 = 1 :=
  (by decide +kernel : ∀ t : Fin grid0.N, _)

/-- The result array after the run. -/
theorem final6 (c : Dev nD) : (dats m 0 c).arrAt 6 (cfgs 0).N = Cert.FfnRefIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  have ht := count t
  have h1 : t.val % 2 = 1 := flush_odd t hf
  blk_simp
  rw [after0_6]
  idx_vars y
  refine (written m c t h1 y0 y1).trans ?_
  refine (Cert.FfnRefIdeal.Hand.v31_at _ _ _ _ _ _ (row t y0) y1).symm.trans ?_
  generalize Cert.FfnRefIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = X
  blk_point [idx t]

end Cert.FfnIdeal.Hand

end
-- ==== Proof.Ffn.Claims.lean ====
module

public import proofs.«01_k».proof.Proof.Ffn.Value
public import proofs.«01_k».proof.Proof.Gen.FfnRefIdeal.Run
public import proofs.«01_k».proof.Proof.Gen.FfnIdeal.Value
public import proofs.«01_k».proof.Defs

/-! The claims about the feed-forward layer: the reference runs and leaves its arguments, and the two programs' results are equal. -/

@[expose] public section

set_option maxRecDepth 16384

noncomputable section
open Idealize.ShloMosaic Idealize.ShloMosaic.TcCoe Idealize.SL.Sem
open Idealize.ShloMosaic.Pipeline (Dat)

namespace Cert.Proof.Ffn
open Cert.FfnIdeal

/-- The reference runs and leaves its arguments. -/
theorem frame_ref (m : (ℓ : Loc Cert.FfnRefIdeal.nD Cert.FfnRefIdeal.τ Cert.FfnRefIdeal.sig) → Buf (Elt Ideal) ℓ) (g : Dev Cert.FfnRefIdeal.nD → PrngReg) :
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0) :=
  θ_run_mono (Cert.FfnRefIdeal.Value.run m g) fun r h => ⟨fun c => (h c).2, sem_eq_zero_of_no_sems (by decide) r.2⟩

/-- Over exact arithmetic the kernel's results are the reference's. -/
theorem algebraic [hFfnIdeal : Cert.FfnIdeal.Facts] [hFfnRefIdeal : Cert.FfnRefIdeal.Facts] : Cert.algebraic_FfnIdeal_FfnRefIdeal := by
  intro m g m' g' hpre hagree
  refine ⟨fun c => Cert.FfnRefIdeal.Read.val_main_v31 (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)), ?_, ?_⟩
  · exact θ_run_mono (Cert.FfnIdeal.Value.run_blocks m g) fun r h c =>
      ⟨(h c).1.trans (Cert.FfnIdeal.Hand.final6 m c), (h c).2⟩
  · refine θ_run_mono (Cert.FfnRefIdeal.Value.run m' g') fun r h c =>
      ⟨(h c).1.trans ?_, (h c).2⟩
    all_goals obtain ⟨h0, h1, h2, h3, h4, h5⟩ := hagree c
    · rw [Cert.FfnRefIdeal.Read.val_main_v31_eq, h0, h1, h2, h3, h4, h5]

end Cert.Proof.Ffn

end
-- ==== Proof.Proj.Pay.lean ====
module

public import proofs.«01_k».proof.Proof.Gen.ProjIdeal.Skeleton
public import Idealize.ShloMosaic.Lib.Pointwise
public import proofs.«01_k».proof.Proof.Norm

/-! Entries of what the kernel's body stores: a normalized row times a column of the weights. -/

@[expose] public section

set_option maxRecDepth 16384

noncomputable section
open Idealize.ShloMosaic Idealize.ShloMosaic.TcCoe Idealize.SL.Sem
open Idealize.ShloMosaic.Pipeline (Dat)

namespace Cert.ProjIdeal.Hand
open Cert.ProjIdeal Cert.ProjIdeal.Gen

/-- An entry of the normalized block. -/
theorem pay6_at (x : Vec Ideal S512x1024 .f32) (g : Vec Ideal S1x1024 .f32) (r : Fin 512) (k : Fin 1024) :
    (k0_pay6 x g (ix2 r k) : EReal) = Norm.rms (fun j => x (ix2 r j)) (fun j => g (ix2 0 j)) k := by
  unfold Norm.rms
  pointwise [k0_pay6]

/-- An entry of a product of the normalized block and 512 columns of weights. -/
theorem pay7_at (x : Vec Ideal S512x1024 .f32) (g : Vec Ideal S1x1024 .f32) (w : Vec Ideal S1024x512 .bf16) (r : Fin 512) (d : Fin 512) :
    (k0_pay7 x g w (ix2 r d) : EReal) = ∑ k, (k0_pay6 x g (ix2 r k) : EReal) * w (ix2 k d) := by
  pointwise [k0_pay7]

/-- An entry of a product of the normalized block and 512 columns of weights. -/
theorem pay8_at (x : Vec Ideal S512x1024 .f32) (g : Vec Ideal S1x1024 .f32) (w : Vec Ideal S1024x512 .bf16) (r : Fin 512) (d : Fin 512) :
    (k0_pay8 x g w (ix2 r d) : EReal) = ∑ k, (k0_pay6 x g (ix2 r k) : EReal) * w (ix2 k d) := by
  pointwise [k0_pay8]

/-- An entry of a product of the normalized block and 256 columns of weights. -/
theorem pay10_at (x : Vec Ideal S512x1024 .f32) (g : Vec Ideal S1x1024 .f32) (w : Vec Ideal S1024x256 .bf16) (r : Fin 512) (d : Fin 256) :
    (k0_pay10 x g w (ix2 r d) : EReal) = ∑ k, (k0_pay6 x g (ix2 r k) : EReal) * w (ix2 k d) := by
  pointwise [k0_pay10]

/-- An entry of a product of the normalized block and 512 columns of weights. -/
theorem pay2_at (h : FVec Ideal S512x1024 .bf16) (w : Vec Ideal S1024x512 .bf16) (r : Fin 512) (d : Fin 512) :
    (k0_pay2 h w (ix2 r d) : EReal) = ∑ k, (h (ix2 r k) : EReal) * w (ix2 k d) := by
  pointwise [k0_pay2]

/-- An entry of a product of the normalized block and 1024 columns of weights. -/
theorem pay3_at (h : FVec Ideal S512x1024 .bf16) (w : Vec Ideal S1024x1024 .bf16) (r : Fin 512) (d : Fin 1024) :
    (k0_pay3 h w (ix2 r d) : EReal) = ∑ k, (h (ix2 r k) : EReal) * w (ix2 k d) := by
  pointwise [k0_pay3]

/-- An entry of a product of the normalized block and 128 columns of weights. -/
theorem pay5_at (h : FVec Ideal S512x1024 .bf16) (w : Vec Ideal S1024x128 .bf16) (r : Fin 512) (d : Fin 128) :
    (k0_pay5 h w (ix2 r d) : EReal) = ∑ k, (h (ix2 r k) : EReal) * w (ix2 k d) := by
  pointwise [k0_pay5]

end Cert.ProjIdeal.Hand

end
-- ==== Proof.Proj.Blocks.lean ====
module

public import proofs.«01_k».proof.Proof.Gen.ProjIdeal.Frame
public import Idealize.ShloMosaic.Lib.Pipeline.ValueKit
public import Idealize.ShloMosaic.Lib.Claim

/-! What each window of the projection's launch holds at a grid point, in terms of the program's arguments. -/

@[expose] public section

set_option maxRecDepth 16384

noncomputable section
open Idealize.ShloMosaic Idealize.ShloMosaic.TcCoe Idealize.SL.Sem
open Idealize.ShloMosaic.Pipeline (Dat)

namespace Cert.ProjIdeal.Hand
open Cert.ProjIdeal Cert.ProjIdeal.Gen

variable (m : (ℓ : Loc nD τ sig) → Buf (Elt Ideal) ℓ)

/-- The blocks each window takes at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] :=
  (by decide +kernel : ∀ t : Fin grid0.N, _)

/-- The launch has 32 grid points. -/
theorem count (t : Fin cfg0.N) : t.val < 32 := t.isLt

/-- The gates' columns and 104 columns of zeros. -/
def padded (w : FVec Ideal S1x1024x2840 .f32) : FVec Ideal S1024x128 .f32 :=
  pad S1024x128 ![0, 0] ![0, 104] ![0, 0] (extractStridedSlice S1024x24 ![0, 1280] (shapeCast S1024x2840 w shapeCasts_S1x1024x2840_S1024x2840) slices_S1024x2840_S1024x24_0_1280) (sitofp .f32 (constantI S_ 32 0#32)) pads_S1024x24_S1024x128_000_01040 h_S_

/-- The packed weights: the query, key, window, differential columns side by side, the gates' columns last and padded. -/
def packed (w : FVec Ideal S1x1024x2840 .f32) : FVec Ideal S1024x2944 .bf16 :=
  truncf .bf16 (concatenate S1024x2944 1
    [⟨S1024x512, extractStridedSlice S1024x512 ![0, 0] (shapeCast S1024x2840 w shapeCasts_S1x1024x2840_S1024x2840) slices_S1024x2840_S1024x512_0_0⟩,
     ⟨S1024x512, extractStridedSlice S1024x512 ![0, 512] (shapeCast S1024x2840 w shapeCasts_S1x1024x2840_S1024x2840) slices_S1024x2840_S1024x512_0_512⟩,
     ⟨S1024x256, extractStridedSlice S1024x256 ![0, 1024] (shapeCast S1024x2840 w shapeCasts_S1x1024x2840_S1024x2840) slices_S1024x2840_S1024x256_0_1024⟩,
     ⟨S1024x512, extractStridedSlice S1024x512 ![0, 1304] (shapeCast S1024x2840 w shapeCasts_S1x1024x2840_S1024x2840) slices_S1024x2840_S1024x512_0_1304⟩,
     ⟨S1024x1024, extractStridedSlice S1024x1024 ![0, 1816] (shapeCast S1024x2840 w shapeCasts_S1x1024x2840_S1024x2840) slices_S1024x2840_S1024x1024_0_1816⟩,
     ⟨S1024x128, padded w⟩]
    concatenates_S1024x512_S1024x512_S1024x256_S1024x512_S1024x1024_S1024x128_S1024x2944_d1 : FVec Ideal S1024x2944 .f32) bitsLt_bf16_f32

theorem rows (c : Dev nD) : V m c main_v0 = shapeCast S16384x1024 (m ((c.tc : Thread nD τ).loc main_arg0)) shapeCasts_S2x8192x1024_S16384x1024 := by
  unfold V
  simp only [hostOps0, hostOps0_1, hostOps0_2, List.flatten_cons, List.flatten_nil, List.cons_append, List.nil_append, List.append_nil]
  after_results
  try rfl

theorem gains (c : Dev nD) : V m c main_v11 = shapeCast S1x1024 (m ((c.tc : Thread nD τ).loc main_arg1)) shapeCasts_S1024_S1x1024 := by
  unfold V
  simp only [hostOps0, hostOps0_1, hostOps0_2, List.flatten_cons, List.flatten_nil, List.cons_append, List.nil_append, List.append_nil]
  after_results
  try rfl

theorem weights (c : Dev nD) : V m c main_v10 = packed (m ((c.tc : Thread nD τ).loc main_arg2)) := by
  unfold V packed padded
  simp only [hostOps0, hostOps0_1, hostOps0_2, List.flatten_cons, List.flatten_nil, List.cons_append, List.nil_append, List.append_nil]
  after_results
  try rfl

theorem flat_at (x : FVec Ideal S2x8192x1024 .f32) (n : Fin 16384) (k : Fin 1024) :
    (shapeCast S16384x1024 x shapeCasts_S2x8192x1024_S16384x1024 (ix2 n k) : EReal) = x (ix3 ⟨n.val / 8192, by omega⟩ ⟨n.val % 8192, by omega⟩ k) := by
  pointwise

theorem block0 (c : Dev nD) (t : Fin cfg0.N) (r : Fin 512) (k : Fin 1024) :
    ((iblk m c 0 t : Vec Ideal S512x1024 .f32) (ix2 r k) : EReal)
      = (m ((c.tc : Thread nD τ).loc main_arg0) : FVec Ideal S2x8192x1024 .f32)
          (ix3 ⟨(512 * t.val + r.val) / 8192, by have := count t; omega⟩ ⟨(512 * t.val + r.val) % 8192, by omega⟩ k) := by
  refine Eq.trans ?_ (flat_at (m ((c.tc : Thread nD τ).loc main_arg0)) ⟨512 * t.val + r.val, by have := count t; omega⟩ k)
  have hb := rows m c
  generalize shapeCast S16384x1024 (m ((c.tc : Thread nD τ).loc main_arg0)) shapeCasts_S2x8192x1024_S16384x1024 = y at hb ⊢
  blk_point [iblk, hb, idx t]

theorem block1 (c : Dev nD) (t : Fin cfg0.N) (k : Fin 1024) :
    ((iblk m c 1 t : Vec Ideal S1x1024 .f32) (ix2 0 k) : EReal)
      = (m ((c.tc : Thread nD τ).loc main_arg1) : FVec Ideal S1024 .f32) (ix1 k) := by
  have hs : (shapeCast S1x1024 (m ((c.tc : Thread nD τ).loc main_arg1) : FVec Ideal S1024 .f32) shapeCasts_S1024_S1x1024 : FVec Ideal S1x1024 .f32) (ix2 0 k)
      = (m ((c.tc : Thread nD τ).loc main_arg1) : FVec Ideal S1024 .f32) (ix1 k) := by pointwise
  rw [← hs]
  blk_point [iblk, gains, idx t]

theorem block2 (c : Dev nD) (t : Fin cfg0.N) (k : Fin 1024) (d : Fin 2944) :
    ((iblk m c 2 t : Vec Ideal S1024x2944 .bf16) (ix2 k d) : EReal) = packed (m ((c.tc : Thread nD τ).loc main_arg2)) (ix2 k d) := by
  have hb := weights m c
  generalize packed (m ((c.tc : Thread nD τ).loc main_arg2)) = y at hb ⊢
  blk_point [iblk, hb, idx t]

variable (w : FVec Ideal S1x1024x2840 .f32)

theorem packed_q (k : Fin 1024) (d : Fin 512) : (packed w (ix2 k ⟨0 + d.val, by omega⟩) : EReal) = w (ix3 0 k ⟨0 + d.val, by omega⟩) := by
  pointwise [packed]

theorem packed_kv (k : Fin 1024) (d : Fin 512) : (packed w (ix2 k ⟨512 + d.val, by omega⟩) : EReal) = w (ix3 0 k ⟨512 + d.val, by omega⟩) := by
  pointwise [packed]

theorem packed_kvw (k : Fin 1024) (d : Fin 256) : (packed w (ix2 k ⟨1024 + d.val, by omega⟩) : EReal) = w (ix3 0 k ⟨1024 + d.val, by omega⟩) := by
  pointwise [packed]
  split_ifs <;> first | omega | (refine congrArg (fun z => w (ix3 0 k z)) (Fin.ext ?_); simp only []; omega)

theorem packed_dq (k : Fin 1024) (d : Fin 512) : (packed w (ix2 k ⟨1280 + d.val, by omega⟩) : EReal) = w (ix3 0 k ⟨1304 + d.val, by omega⟩) := by
  pointwise [packed]
  split_ifs <;> first | omega | (refine congrArg (fun z => w (ix3 0 k z)) (Fin.ext ?_); simp only []; omega)

theorem packed_dkv (k : Fin 1024) (d : Fin 1024) : (packed w (ix2 k ⟨1792 + d.val, by omega⟩) : EReal) = w (ix3 0 k ⟨1816 + d.val, by omega⟩) := by
  pointwise [packed]
  split_ifs <;> first | omega | (refine congrArg (fun z => w (ix3 0 k z)) (Fin.ext ?_); simp only []; omega)

theorem padded_at (k : Fin 1024) (d : Fin 128) :
    (padded w (ix2 k d) : EReal) = if h : d.val < 24 then w (ix3 0 k ⟨1280 + d.val, by omega⟩) else 0 := by
  split_ifs with h
  · pointwise [padded]
    rw [dif_pos h]
  · pointwise [padded]
    rw [dif_neg h]
    show (((0#32 : BitVec 32).toInt : ℝ) : EReal) = 0
    simp

theorem packed_gl (k : Fin 1024) (d : Fin 128) :
    (packed w (ix2 k ⟨2816 + d.val, by omega⟩) : EReal) = if h : d.val < 24 then w (ix3 0 k ⟨1280 + d.val, by omega⟩) else 0 := by
  rw [← padded_at]
  pointwise [packed]
  split_ifs <;> first | omega | (refine congrArg (fun z => padded w (ix2 k z)) (Fin.ext ?_); simp only []; omega)

end Cert.ProjIdeal.Hand

end
-- ==== Proof.Proj.RefAt.lean ====
module

public import proofs.«01_k».proof.Proof.Gen.ProjRefIdeal.Read
public import Idealize.ShloMosaic.Lib.Pointwise
public import proofs.«01_k».proof.Proof.Norm

/-! Entries of the reference's results. -/

@[expose] public section

set_option maxRecDepth 16384

noncomputable section
open Idealize.ShloMosaic Idealize.ShloMosaic.TcCoe Idealize.SL.Sem
open Idealize.ShloMosaic.Pipeline (Dat)

namespace Cert.ProjRefIdeal.Hand
open Cert.ProjRefIdeal Cert.ProjRefIdeal.Gen Cert.ProjRefIdeal.Read

variable (x : FVec Ideal S2x8192x1024 .f32) (g : FVec Ideal S1024 .f32) (w : FVec Ideal S1x1024x2840 .f32)

/-- An entry of the normalized input. -/
theorem v12_at (b : Fin 2) (t : Fin 8192) (k : Fin 1024) :
    (val_main_v12 (F := Ideal) x g (ix3 b t k) : EReal) = Norm.rms (fun j => x (ix3 b t j)) (fun j => g (ix1 j)) k := by
  unfold Norm.rms
  pointwise [val_main_v12, val_main_v9, val_main_v11, val_main_v10, val_main_v8, val_main_v7, val_main_v6, val_main_v5,
    val_main_cst_1, val_main_v4, val_main_v3, val_main_cst_0, val_main_v2, val_main_v1, val_main_cst, val_main_v0]

/-- An entry of the combined projection. -/
theorem v15_at (n : Fin 16384) (d : Fin 2840) :
    (val_main_v15 (F := Ideal) x g w (ix2 n d) : EReal) = ∑ k, (val_main_v12 (F := Ideal) x g (ix3 ⟨n.val / 8192, by omega⟩ ⟨n.val % 8192, by omega⟩ k) : EReal) * w (ix3 0 k d) := by
  pointwise [val_main_v15, val_main_v14, val_main_v13]

/-- Row `n` of the projection at column `d`, written out. -/
def entry (n : Fin 16384) (d : Fin 2840) : EReal :=
  ∑ k, Norm.rms (fun j => x (ix3 ⟨n.val / 8192, by omega⟩ ⟨n.val % 8192, by omega⟩ j)) (fun j => g (ix1 j)) k * w (ix3 0 k d)

theorem v15_entry (n : Fin 16384) (d : Fin 2840) : (val_main_v15 (F := Ideal) x g w (ix2 n d) : EReal) = entry x g w n d := by
  rw [v15_at]
  exact Finset.sum_congr rfl fun k _ => by rw [v12_at]

theorem v16_at (n : Fin 16384) (d : Fin 512) : (val_main_v16 (F := Ideal) x g w (ix2 n d) : EReal) = entry x g w n ⟨0 + d.val, by omega⟩ := by
  rw [← v15_entry]
  pointwise [val_main_v16]

theorem v17_at (n : Fin 16384) (d : Fin 512) : (val_main_v17 (F := Ideal) x g w (ix2 n d) : EReal) = entry x g w n ⟨512 + d.val, by omega⟩ := by
  rw [← v15_entry]
  pointwise [val_main_v17]

theorem v18_at (n : Fin 16384) (d : Fin 256) : (val_main_v18 (F := Ideal) x g w (ix2 n d) : EReal) = entry x g w n ⟨1024 + d.val, by omega⟩ := by
  rw [← v15_entry]
  pointwise [val_main_v18]

theorem v20_at (n : Fin 16384) (d : Fin 512) : (val_main_v20 (F := Ideal) x g w (ix2 n d) : EReal) = entry x g w n ⟨1304 + d.val, by omega⟩ := by
  rw [← v15_entry]
  pointwise [val_main_v20]

theorem v21_at (n : Fin 16384) (d : Fin 1024) : (val_main_v21 (F := Ideal) x g w (ix2 n d) : EReal) = entry x g w n ⟨1816 + d.val, by omega⟩ := by
  rw [← v15_entry]
  pointwise [val_main_v21]

theorem v22_at (n : Fin 16384) (d : Fin 512) : (val_main_v22 (F := Ideal) x g w (ix2 n d) : EReal) = entry x g w n ⟨512 + d.val, by omega⟩ := by
  rw [← v17_at]
  pointwise [val_main_v22]

theorem v23_at (n : Fin 16384) (d : Fin 256) : (val_main_v23 (F := Ideal) x g w (ix2 n d) : EReal) = entry x g w n ⟨1024 + d.val, by omega⟩ := by
  rw [← v18_at]
  pointwise [val_main_v23]

theorem v24_at (n : Fin 16384) (d : Fin 1024) : (val_main_v24 (F := Ideal) x g w (ix2 n d) : EReal) = entry x g w n ⟨1816 + d.val, by omega⟩ := by
  rw [← v21_at]
  pointwise [val_main_v24]

/-- The gates' columns, then zeros. -/
theorem v25_at (n : Fin 16384) (d : Fin 128) :
    (val_main_v25 (F := Ideal) x g w (ix2 n d) : EReal) = if h : d.val < 24 then entry x g w n ⟨1280 + d.val, by omega⟩ else 0 := by
  split_ifs with h
  · rw [← v15_entry]
    pointwise [val_main_v25, val_main_v19]
    rw [dif_pos h]
  · pointwise [val_main_v25, val_main_call0_v0, val_main_c]
    rw [dif_neg h]
    show (((0#32 : BitVec 32).toInt : ℝ) : EReal) = 0
    simp

end Cert.ProjRefIdeal.Hand

end
-- ==== Proof.Proj.Value.lean ====
module

public import proofs.«01_k».proof.Proof.Proj.Pay
public import proofs.«01_k».proof.Proof.Proj.Blocks
public import proofs.«01_k».proof.Proof.Proj.RefAt

/-! The projection's result arrays after the run are the reference's results. -/

@[expose] public section

set_option maxRecDepth 16384

noncomputable section
open Idealize.ShloMosaic Idealize.ShloMosaic.TcCoe Idealize.SL.Sem
open Idealize.ShloMosaic.Pipeline (Dat)

namespace Cert.ProjIdeal.Hand
open Cert.ProjIdeal Cert.ProjIdeal.Gen

variable (m : (ℓ : Loc nD τ sig) → Buf (Elt Ideal) ℓ)

/-- Row `512 t + r` of the projection at the weights' column `d`, over the program's arguments. -/
abbrev want (c : Dev nD) (t : Fin cfg0.N) (r : Fin 512) (d : Fin 2840) : EReal :=
  Cert.ProjRefIdeal.Hand.entry (m ((c.tc : Thread nD τ).loc main_arg0)) (m ((c.tc : Thread nD τ).loc main_arg1)) (m ((c.tc : Thread nD τ).loc main_arg2))
    ⟨512 * t.val + r.val, by have := count t; omega⟩ d

/-- A row of the block, normalized, is the reference's. -/
theorem norm_at (c : Dev nD) (t : Fin cfg0.N) (r : Fin 512) (k : Fin 1024) :
    (k0_pay6 (iblk m c 0 t : Vec Ideal S512x1024 .f32) (iblk m c 1 t : Vec Ideal S1x1024 .f32) (ix2 r k) : EReal)
      = Norm.rms (fun j => (m ((c.tc : Thread nD τ).loc main_arg0) : FVec Ideal S2x8192x1024 .f32) (ix3 ⟨(512 * t.val + r.val) / 8192, by have := count t; omega⟩ ⟨(512 * t.val + r.val) % 8192, by omega⟩ j))
          (fun j => (m ((c.tc : Thread nD τ).loc main_arg1) : FVec Ideal S1024 .f32) (ix1 j)) k := by
  rw [pay6_at]
  simp only [block0, block1]

/-- A normalized row times a column of the packed weights that is a column of the weights. -/
theorem sum_at (c : Dev nD) (t : Fin cfg0.N) (r : Fin 512) (d : Fin 2944) (e : Fin 2840)
    (h : ∀ k, (packed (m ((c.tc : Thread nD τ).loc main_arg2)) (ix2 k d) : EReal) = (m ((c.tc : Thread nD τ).loc main_arg2) : FVec Ideal S1x1024x2840 .f32) (ix3 0 k e)) :
    (∑ k : Fin 1024, (k0_pay6 (iblk m c 0 t : Vec Ideal S512x1024 .f32) (iblk m c 1 t : Vec Ideal S1x1024 .f32) (ix2 r k) : EReal)
      * (iblk m c 2 t : Vec Ideal S1024x2944 .bf16) (ix2 k d)) = want m c t r e := by
  unfold want Cert.ProjRefIdeal.Hand.entry
  refine Finset.sum_congr rfl fun k _ => ?_
  rw [norm_at, block2, h]

/-- The reads of the body's stores for window 3, as sums. -/
theorem read3 (x0 : Vec Ideal S512x1024 .f32) (x1 : Vec Ideal S1x1024 .f32) (x2 : Vec Ideal S1024x2944 .bf16) (r : Fin 512) (d : Fin 512) :
    (k0_pay7 x0 x1 (View.ld x2 r0_2) (ix2 r d) : EReal)
      = ∑ k : Fin 1024, (k0_pay6 x0 x1 (ix2 r k) : EReal) * x2 (ix2 k ⟨0 + d.val, by omega⟩) := by
  rw [pay7_at]
  refine Finset.sum_congr rfl fun k _ => ?_
  refine congrArg (fun z : EReal => (k0_pay6 x0 x1 (ix2 r k) : EReal) * z) ?_
  pointwise

/-- The reads of the body's stores for window 4, as sums. -/
theorem read4 (x0 : Vec Ideal S512x1024 .f32) (x1 : Vec Ideal S1x1024 .f32) (x2 : Vec Ideal S1024x2944 .bf16) (r : Fin 512) (d : Fin 512) :
    (k0_pay8 x0 x1 (View.ld x2 r0_4) (ix2 r d) : EReal)
      = ∑ k : Fin 1024, (k0_pay6 x0 x1 (ix2 r k) : EReal) * x2 (ix2 k ⟨512 + d.val, by omega⟩) := by
  rw [pay8_at]
  refine Finset.sum_congr rfl fun k _ => ?_
  refine congrArg (fun z : EReal => (k0_pay6 x0 x1 (ix2 r k) : EReal) * z) ?_
  pointwise

/-- The reads of the body's stores for window 6, as sums. -/
theorem read6 (x0 : Vec Ideal S512x1024 .f32) (x1 : Vec Ideal S1x1024 .f32) (x2 : Vec Ideal S1024x2944 .bf16) (r : Fin 512) (d : Fin 256) :
    (k0_pay10 x0 x1 (View.ld x2 r0_5) (ix2 r d) : EReal)
      = ∑ k : Fin 1024, (k0_pay6 x0 x1 (ix2 r k) : EReal) * x2 (ix2 k ⟨1024 + d.val, by omega⟩) := by
  rw [pay10_at]
  refine Finset.sum_congr rfl fun k _ => ?_
  refine congrArg (fun z : EReal => (k0_pay6 x0 x1 (ix2 r k) : EReal) * z) ?_
  pointwise

/-- The reads of the body's stores for window 8, as sums. -/
theorem read8 (x0 : Vec Ideal S512x1024 .f32) (x1 : Vec Ideal S1x1024 .f32) (x2 : Vec Ideal S1024x2944 .bf16) (r : Fin 512) (d : Fin 512) :
    (k0_pay2 (k0_pay11 x0 x1 x2) (View.ld x2 r0_7) (ix2 r d) : EReal)
      = ∑ k : Fin 1024, (k0_pay6 x0 x1 (ix2 r k) : EReal) * x2 (ix2 k ⟨1280 + d.val, by omega⟩) := by
  have e0 : View.ld x0 r0_0 = x0 := View.ld_unit_zero (by decide) _ _
  have e1 : View.ld x1 r0_1 = x1 := View.ld_unit_zero (by decide) _ _
  rw [k0_pay11, e0, e1, pay2_at]
  refine Finset.sum_congr rfl fun k _ => ?_
  refine congrArg (fun z : EReal => (k0_pay6 x0 x1 (ix2 r k) : EReal) * z) ?_
  pointwise

/-- The reads of the body's stores for window 9, as sums. -/
theorem read9 (x0 : Vec Ideal S512x1024 .f32) (x1 : Vec Ideal S1x1024 .f32) (x2 : Vec Ideal S1024x2944 .bf16) (r : Fin 512) (d : Fin 1024) :
    (k0_pay3 (k0_pay11 x0 x1 x2) (View.ld x2 r0_8) (ix2 r d) : EReal)
      = ∑ k : Fin 1024, (k0_pay6 x0 x1 (ix2 r k) : EReal) * x2 (ix2 k ⟨1792 + d.val, by omega⟩) := by
  have e0 : View.ld x0 r0_0 = x0 := View.ld_unit_zero (by decide) _ _
  have e1 : View.ld x1 r0_1 = x1 := View.ld_unit_zero (by decide) _ _
  rw [k0_pay11, e0, e1, pay3_at]
  refine Finset.sum_congr rfl fun k _ => ?_
  refine congrArg (fun z : EReal => (k0_pay6 x0 x1 (ix2 r k) : EReal) * z) ?_
  pointwise

/-- The gates' columns. -/
theorem read11 (x0 : Vec Ideal S512x1024 .f32) (x1 : Vec Ideal S1x1024 .f32) (x2 : Vec Ideal S1024x2944 .bf16) (r : Fin 512) (d : Fin 128) :
    (k0_pay5 (k0_pay11 x0 x1 x2) (View.ld x2 r0_9) (ix2 r d) : EReal)
      = ∑ k : Fin 1024, (k0_pay6 x0 x1 (ix2 r k) : EReal) * x2 (ix2 k ⟨2816 + d.val, by omega⟩) := by
  have e0 : View.ld x0 r0_0 = x0 := View.ld_unit_zero (by decide) _ _
  have e1 : View.ld x1 r0_1 = x1 := View.ld_unit_zero (by decide) _ _
  rw [k0_pay11, e0, e1, pay5_at]
  refine Finset.sum_congr rfl fun k _ => ?_
  refine congrArg (fun z : EReal => (k0_pay6 x0 x1 (ix2 r k) : EReal) * z) ?_
  pointwise

/-- Window 3's array after the run. -/
theorem final3 (c : Dev nD) : (dats m 0 c).arrAt 3 (cfgs 0).N = Cert.ProjRefIdeal.Read.val_main_v16 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht := count t
  blk_simp
  rw [after0_3]; unfold out0_3; frame_out
  idx_vars y
  refine (read3 (iblk m c 0 t) (iblk m c 1 t) (iblk m c 2 t) y0 y1).trans ((sum_at m c t y0 _ ⟨0 + y1.val, by omega⟩ (fun k => packed_q _ k y1)).trans ?_)
  refine (Cert.ProjRefIdeal.Hand.v16_at _ _ _ ⟨512 * t.val + y0.val, by omega⟩ y1).symm.trans ?_
  generalize Cert.ProjRefIdeal.Read.val_main_v16 (F := Ideal) (m ((c.tc : Thread nD τ).loc main_arg0)) (m ((c.tc : Thread nD τ).loc main_arg1)) (m ((c.tc : Thread nD τ).loc main_arg2)) = X
  blk_point [idx t]

/-- Window 4's array after the run. -/
theorem final4 (c : Dev nD) : (dats m 0 c).arrAt 4 (cfgs 0).N = Cert.ProjRefIdeal.Read.val_main_v17 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  have ht := count t
  blk_simp
  rw [after0_4]; unfold out0_4; frame_out
  idx_vars y
  refine (read4 (iblk m c 0 t) (iblk m c 1 t) (iblk m c 2 t) y0 y1).trans ((sum_at m c t y0 _ ⟨512 + y1.val, by omega⟩ (fun k => packed_kv _ k y1)).trans ?_)
  refine (Cert.ProjRefIdeal.Hand.v17_at _ _ _ ⟨512 * t.val + y0.val, by omega⟩ y1).symm.trans ?_
  generalize Cert.ProjRefIdeal.Read.val_main_v17 (F := Ideal) (m ((c.tc : Thread nD τ).loc main_arg0)) (m ((c.tc : Thread nD τ).loc main_arg1)) (m ((c.tc : Thread nD τ).loc main_arg2)) = X
  blk_point [idx t]

/-- Window 5's array after the run. -/
theorem final5 (c : Dev nD) : (dats m 0 c).arrAt 5 (cfgs 0).N = Cert.ProjRefIdeal.Read.val_main_v22 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  have ht := count t
  blk_simp
  rw [after0_5]; unfold out0_5; frame_out
  idx_vars y
  refine (read4 (iblk m c 0 t) (iblk m c 1 t) (iblk m c 2 t) y0 y1).trans ((sum_at m c t y0 _ ⟨512 + y1.val, by omega⟩ (fun k => packed_kv _ k y1)).trans ?_)
  refine (Cert.ProjRefIdeal.Hand.v22_at _ _ _ ⟨512 * t.val + y0.val, by omega⟩ y1).symm.trans ?_
  generalize Cert.ProjRefIdeal.Read.val_main_v22 (F := Ideal) (m ((c.tc : Thread nD τ).loc main_arg0)) (m ((c.tc : Thread nD τ).loc main_arg1)) (m ((c.tc : Thread nD τ).loc main_arg2)) = X
  blk_point [idx t]

/-- Window 6's array after the run. -/
theorem final6 (c : Dev nD) : (dats m 0 c).arrAt 6 (cfgs 0).N = Cert.ProjRefIdeal.Read.val_main_v18 (F := Ideal) (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  have ht := count t
  blk_simp
  rw [after0_6]; unfold out0_6; frame_out
  idx_vars y
  refine (read6 (iblk m c 0 t) (iblk m c 1 t) (iblk m c 2 t) y0 y1).trans ((sum_at m c t y0 _ ⟨1024 + y1.val, by omega⟩ (fun k => packed_kvw _ k y1)).trans ?_)
  refine (Cert.ProjRefIdeal.Hand.v18_at _ _ _ ⟨512 * t.val + y0.val, by omega⟩ y1).symm.trans ?_
  generalize Cert.ProjRefIdeal.Read.val_main_v18 (F := Ideal) (m ((c.tc : Thread nD τ).loc main_arg0)) (m ((c.tc : Thread nD τ).loc main_arg1)) (m ((c.tc : Thread nD τ).loc main_arg2)) = X
  blk_point [idx t]

/-- Window 7's array after the run. -/
theorem final7 (c : Dev nD) : (dats m 0 c).arrAt 7 (cfgs 0).N = Cert.ProjRefIdeal.Read.val_main_v23 (F := Ideal) (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  have ht := count t
  blk_simp
  rw [after0_7]; unfold out0_7; frame_out
  idx_vars y
  refine (read6 (iblk m c 0 t) (iblk m c 1 t) (iblk m c 2 t) y0 y1).trans ((sum_at m c t y0 _ ⟨1024 + y1.val, by omega⟩ (fun k => packed_kvw _ k y1)).trans ?_)
  refine (Cert.ProjRefIdeal.Hand.v23_at _ _ _ ⟨512 * t.val + y0.val, by omega⟩ y1).symm.trans ?_
  generalize Cert.ProjRefIdeal.Read.val_main_v23 (F := Ideal) (m ((c.tc : Thread nD τ).loc main_arg0)) (m ((c.tc : Thread nD τ).loc main_arg1)) (m ((c.tc : Thread nD τ).loc main_arg2)) = X
  blk_point [idx t]

/-- Window 8's array after the run. -/
theorem final8 (c : Dev nD) : (dats m 0 c).arrAt 8 (cfgs 0).N = Cert.ProjRefIdeal.Read.val_main_v20 (F := Ideal) (m ((c.tc : Thread nD τ).loc main_arg0)) (m ((c.tc : Thread nD τ).loc main_arg1)) (m ((c.tc : Thread nD τ).loc main_arg2)) := by
  refine (dats m 0 c).arrAt_eq_of_covers 8 _ (by decide +kernel) fun t _ y => ?_
  have ht := count t
  blk_simp
  rw [after0_8]; unfold out0_8; frame_out
  idx_vars y
  refine (read8 (iblk m c 0 t) (iblk m c 1 t) (iblk m c 2 t) y0 y1).trans ((sum_at m c t y0 _ ⟨1304 + y1.val, by omega⟩ (fun k => packed_dq _ k y1)).trans ?_)
  refine (Cert.ProjRefIdeal.Hand.v20_at _ _ _ ⟨512 * t.val + y0.val, by omega⟩ y1).symm.trans ?_
  generalize Cert.ProjRefIdeal.Read.val_main_v20 (F := Ideal) (m ((c.tc : Thread nD τ).loc main_arg0)) (m ((c.tc : Thread nD τ).loc main_arg1)) (m ((c.tc : Thread nD τ).loc main_arg2)) = X
  blk_point [idx t]

/-- Window 9's array after the run. -/
theorem final9 (c : Dev nD) : (dats m 0 c).arrAt 9 (cfgs 0).N = Cert.ProjRefIdeal.Read.val_main_v21 (F := Ideal) (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  have ht := count t
  blk_simp
  rw [after0_9]; unfold out0_9; frame_out
  idx_vars y
  refine (read9 (iblk m c 0 t) (iblk m c 1 t) (iblk m c 2 t) y0 y1).trans ((sum_at m c t y0 _ ⟨1816 + y1.val, by omega⟩ (fun k => packed_dkv _ k y1)).trans ?_)
  refine (Cert.ProjRefIdeal.Hand.v21_at _ _ _ ⟨512 * t.val + y0.val, by omega⟩ y1).symm.trans ?_
  generalize Cert.ProjRefIdeal.Read.val_main_v21 (F := Ideal) (m ((c.tc : Thread nD τ).loc main_arg0)) (m ((c.tc : Thread nD τ).loc main_arg1)) (m ((c.tc : Thread nD τ).loc main_arg2)) = X
  blk_point [idx t]

/-- Window 10's array after the run. -/
theorem final10 (c : Dev nD) : (dats m 0 c).arrAt 10 (cfgs 0).N = Cert.ProjRefIdeal.Read.val_main_v24 (F := Ideal) (m ((c.tc : Thread nD τ).loc main_arg0)) (m ((c.tc : Thread nD τ).loc main_arg1)) (m ((c.tc : Thread nD τ).loc main_arg2)) := by
  refine (dats m 0 c).arrAt_eq_of_covers 10 _ (by decide +kernel) fun t _ y => ?_
  have ht := count t
  blk_simp
  rw [after0_10]; unfold out0_10; frame_out
  idx_vars y
  refine (read9 (iblk m c 0 t) (iblk m c 1 t) (iblk m c 2 t) y0 y1).trans ((sum_at m c t y0 _ ⟨1816 + y1.val, by omega⟩ (fun k => packed_dkv _ k y1)).trans ?_)
  refine (Cert.ProjRefIdeal.Hand.v24_at _ _ _ ⟨512 * t.val + y0.val, by omega⟩ y1).symm.trans ?_
  generalize Cert.ProjRefIdeal.Read.val_main_v24 (F := Ideal) (m ((c.tc : Thread nD τ).loc main_arg0)) (m ((c.tc : Thread nD τ).loc main_arg1)) (m ((c.tc : Thread nD τ).loc main_arg2)) = X
  blk_point [idx t]

/-- Window 11's array after the run. -/
theorem final11 (c : Dev nD) : (dats m 0 c).arrAt 11 (cfgs 0).N = Cert.ProjRefIdeal.Read.val_main_v25 (F := Ideal) (m ((c.tc : Thread nD τ).loc main_arg0)) (m ((c.tc : Thread nD τ).loc main_arg1)) (m ((c.tc : Thread nD τ).loc main_arg2)) := by
  refine (dats m 0 c).arrAt_eq_of_covers 11 _ (by decide +kernel) fun t _ y => ?_
  have ht := count t
  blk_simp
  rw [after0_11]; unfold out0_11; frame_out
  idx_vars y
  refine (read11 (iblk m c 0 t) (iblk m c 1 t) (iblk m c 2 t) y0 y1).trans ?_
  refine Eq.trans ?_ ((Cert.ProjRefIdeal.Hand.v25_at (m ((c.tc : Thread nD τ).loc main_arg0)) (m ((c.tc : Thread nD τ).loc main_arg1)) (m ((c.tc : Thread nD τ).loc main_arg2)) ⟨512 * t.val + y0.val, by omega⟩ y1).symm.trans ?_)
  · split_ifs with h
    · exact sum_at m c t y0 _ ⟨1280 + y1.val, by omega⟩ (fun k => (packed_gl _ k y1).trans (dif_pos h))
    · refine Finset.sum_eq_zero fun k _ => ?_
      rw [block2, packed_gl, dif_neg h, mul_zero]
  · generalize Cert.ProjRefIdeal.Read.val_main_v25 (F := Ideal) (m ((c.tc : Thread nD τ).loc main_arg0)) (m ((c.tc : Thread nD τ).loc main_arg1)) (m ((c.tc : Thread nD τ).loc main_arg2)) = X
    blk_point [idx t]

end Cert.ProjIdeal.Hand

end
-- ==== Proof.Proj.Claims.lean ====
module

public import proofs.«01_k».proof.Proof.Proj.Value
public import proofs.«01_k».proof.Proof.Gen.ProjRefIdeal.Run
public import proofs.«01_k».proof.Proof.Gen.ProjIdeal.Value
public import proofs.«01_k».proof.Defs

/-! The claims about the projection: the reference runs and leaves its arguments, and the two programs' results are equal. -/

@[expose] public section

set_option maxRecDepth 16384

noncomputable section
open Idealize.ShloMosaic Idealize.ShloMosaic.TcCoe Idealize.SL.Sem
open Idealize.ShloMosaic.Pipeline (Dat)

namespace Cert.Proof.Proj
open Cert.ProjIdeal

/-- The reference runs and leaves its arguments. -/
theorem frame_ref (m : (ℓ : Loc Cert.ProjRefIdeal.nD Cert.ProjRefIdeal.τ Cert.ProjRefIdeal.sig) → Buf (Elt Ideal) ℓ) (g : Dev Cert.ProjRefIdeal.nD → PrngReg) :
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0) :=
  θ_run_mono (Cert.ProjRefIdeal.Value.run m g) fun r h => ⟨fun c => (h c).2.2.2.2.2.2.2.2.2, sem_eq_zero_of_no_sems (by decide) r.2⟩

/-- Over exact arithmetic the kernel's results are the reference's. -/
theorem algebraic [hProjIdeal : Cert.ProjIdeal.Facts] [hProjRefIdeal : Cert.ProjRefIdeal.Facts] : Cert.algebraic_ProjIdeal_ProjRefIdeal := by
  intro m g m' g' hpre hagree
  refine ⟨fun c => Cert.ProjRefIdeal.Read.val_main_v16 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjRefIdeal.Read.val_main_v17 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjRefIdeal.Read.val_main_v22 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjRefIdeal.Read.val_main_v18 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjRefIdeal.Read.val_main_v23 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjRefIdeal.Read.val_main_v20 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjRefIdeal.Read.val_main_v21 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjRefIdeal.Read.val_main_v24 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), fun c => Cert.ProjRefIdeal.Read.val_main_v25 (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)), ?_, ?_⟩
  · exact θ_run_mono (Cert.ProjIdeal.Value.run_blocks m g) fun r h c =>
      ⟨(h c).1.trans (Cert.ProjIdeal.Hand.final3 m c), (h c).2.1.trans (Cert.ProjIdeal.Hand.final4 m c), (h c).2.2.1.trans (Cert.ProjIdeal.Hand.final5 m c), (h c).2.2.2.1.trans (Cert.ProjIdeal.Hand.final6 m c), (h c).2.2.2.2.1.trans (Cert.ProjIdeal.Hand.final7 m c), (h c).2.2.2.2.2.1.trans (Cert.ProjIdeal.Hand.final8 m c), (h c).2.2.2.2.2.2.1.trans (Cert.ProjIdeal.Hand.final9 m c), (h c).2.2.2.2.2.2.2.1.trans (Cert.ProjIdeal.Hand.final10 m c), (h c).2.2.2.2.2.2.2.2.1.trans (Cert.ProjIdeal.Hand.final11 m c), (h c).2.2.2.2.2.2.2.2.2⟩
  · refine θ_run_mono (Cert.ProjRefIdeal.Value.run m' g') fun r h c =>
      ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩
    all_goals obtain ⟨h0, h1, h2⟩ := hagree c
    · rw [Cert.ProjRefIdeal.Read.val_main_v16_eq, h0, h1, h2]
    · rw [Cert.ProjRefIdeal.Read.val_main_v17_eq, h0, h1, h2]
    · rw [Cert.ProjRefIdeal.Read.val_main_v22_eq, h0, h1, h2]
    · rw [Cert.ProjRefIdeal.Read.val_main_v18_eq, h0, h1, h2]
    · rw [Cert.ProjRefIdeal.Read.val_main_v23_eq, h0, h1, h2]
    · rw [Cert.ProjRefIdeal.Read.val_main_v20_eq, h0, h1, h2]
    · rw [Cert.ProjRefIdeal.Read.val_main_v21_eq, h0, h1, h2]
    · rw [Cert.ProjRefIdeal.Read.val_main_v24_eq, h0, h1, h2]
    · rw [Cert.ProjRefIdeal.Read.val_main_v25_eq, h0, h1, h2]

end Cert.Proof.Proj

end
-- ==== Proof.Odd.Pay.lean ====
module

public import proofs.«01_k».proof.Proof.Gen.OddIdeal.Skeleton
public import Idealize.ShloMosaic.Lib.Pointwise
public import proofs.«01_k».proof.Proof.Norm

/-! Entries of what the kernel's body stores: a normalized row times a column of the weights. -/

@[expose] public section

set_option maxRecDepth 16384

noncomputable section
open Idealize.ShloMosaic Idealize.ShloMosaic.TcCoe Idealize.SL.Sem
open Idealize.ShloMosaic.Pipeline (Dat)

namespace Cert.OddIdeal.Hand
open Cert.OddIdeal Cert.OddIdeal.Gen

/-- An entry of the normalized block. -/
theorem pay4_at (x : Vec Ideal S512x1024 .f32) (g : Vec Ideal S1x1024 .f32) (r : Fin 512) (k : Fin 1024) :
    (k0_pay4 x g (ix2 r k) : EReal) = Norm.rms (fun j => x (ix2 r j)) (fun j => g (ix2 0 j)) k := by
  unfold Norm.rms
  pointwise [k0_pay4]

/-- An entry of a product of the normalized block and 512 columns of weights. -/
theorem pay5_at (x : Vec Ideal S512x1024 .f32) (g : Vec Ideal S1x1024 .f32) (w : Vec Ideal S1024x512 .bf16) (r : Fin 512) (d : Fin 512) :
    (k0_pay5 x g w (ix2 r d) : EReal) = ∑ k, (k0_pay4 x g (ix2 r k) : EReal) * w (ix2 k d) := by
  pointwise [k0_pay5]

/-- An entry of a product of the normalized block and 256 columns of weights. -/
theorem pay6_at (x : Vec Ideal S512x1024 .f32) (g : Vec Ideal S1x1024 .f32) (w : Vec Ideal S1024x256 .bf16) (r : Fin 512) (d : Fin 256) :
    (k0_pay6 x g w (ix2 r d) : EReal) = ∑ k, (k0_pay4 x g (ix2 r k) : EReal) * w (ix2 k d) := by
  pointwise [k0_pay6]

/-- An entry of a product of the normalized block and 512 columns of weights. -/
theorem pay8_at (x : Vec Ideal S512x1024 .f32) (g : Vec Ideal S1x1024 .f32) (w : Vec Ideal S1024x512 .bf16) (r : Fin 512) (d : Fin 512) :
    (k0_pay8 x g w (ix2 r d) : EReal) = ∑ k, (k0_pay4 x g (ix2 r k) : EReal) * w (ix2 k d) := by
  pointwise [k0_pay8]

/-- An entry of a product of the normalized block and 512 columns of weights. -/
theorem pay1_at (h : FVec Ideal S512x1024 .bf16) (w : Vec Ideal S1024x512 .bf16) (r : Fin 512) (d : Fin 512) :
    (k0_pay1 h w (ix2 r d) : EReal) = ∑ k, (h (ix2 r k) : EReal) * w (ix2 k d) := by
  pointwise [k0_pay1]

/-- An entry of a product of the normalized block and 512 columns of weights. -/
theorem pay2_at (h : FVec Ideal S512x1024 .bf16) (w : Vec Ideal S1024x512 .bf16) (r : Fin 512) (d : Fin 512) :
    (k0_pay2 h w (ix2 r d) : EReal) = ∑ k, (h (ix2 r k) : EReal) * w (ix2 k d) := by
  pointwise [k0_pay2]

/-- An entry of a product of the normalized block and 256 columns of weights. -/
theorem pay3_at (h : FVec Ideal S512x1024 .bf16) (w : Vec Ideal S1024x256 .bf16) (r : Fin 512) (d : Fin 256) :
    (k0_pay3 h w (ix2 r d) : EReal) = ∑ k, (h (ix2 r k) : EReal) * w (ix2 k d) := by
  pointwise [k0_pay3]

end Cert.OddIdeal.Hand

end
-- ==== Proof.Odd.Blocks.lean ====
module

public import proofs.«01_k».proof.Proof.Gen.OddIdeal.Frame
public import Idealize.ShloMosaic.Lib.Pipeline.ValueKit
public import Idealize.ShloMosaic.Lib.Claim

/-! What each window of the projection's launch holds at a grid point, in terms of the program's arguments. -/

@[expose] public section

set_option maxRecDepth 16384

noncomputable section
open Idealize.ShloMosaic Idealize.ShloMosaic.TcCoe Idealize.SL.Sem
open Idealize.ShloMosaic.Pipeline (Dat)

namespace Cert.OddIdeal.Hand
open Cert.OddIdeal Cert.OddIdeal.Gen

variable (m : (ℓ : Loc nD τ sig) → Buf (Elt Ideal) ℓ)

/-- The blocks each window takes at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

/-- The launch has 32 grid points. -/
theorem count (t : Fin cfg0.N) : t.val < 32 := t.isLt

/-- The weights and 96 columns of zeros. -/
def padded (w : FVec Ideal S1x1024x2464 .f32) : FVec Ideal S1024x2560 .f32 :=
  pad S1024x2560 ![0, 0] ![0, 96] ![0, 0] (shapeCast S1024x2464 w shapeCasts_S1x1024x2464_S1024x2464) (sitofp .f32 (constantI S_ 32 0#32)) pads_S1024x2464_S1024x2560_000_0960 h_S_

/-- The weights as the launch reads them. -/
def packed (w : FVec Ideal S1x1024x2464 .f32) : FVec Ideal S1024x2560 .bf16 :=
  truncf .bf16 (padded w) bitsLt_bf16_f32

/-- The rows the launch reads. -/
theorem rows (c : Dev nD) : V m c main_v0 = shapeCast S16384x1024 (m ((c.tc : Thread nD τ).loc main_arg0)) shapeCasts_S2x8192x1024_S16384x1024 := by
  unfold V
  simp only [hostOps0, hostOps0_1, hostOps0_2, List.flatten_cons, List.flatten_nil, List.cons_append, List.nil_append, List.append_nil]
  after_results
  try rfl

/-- The gains the launch reads. -/
theorem gains (c : Dev nD) : V m c main_v4 = shapeCast S1x1024 (m ((c.tc : Thread nD τ).loc main_arg1)) shapeCasts_S1024_S1x1024 := by
  unfold V
  simp only [hostOps0, hostOps0_1, hostOps0_2, List.flatten_cons, List.flatten_nil, List.cons_append, List.nil_append, List.append_nil]
  after_results
  try rfl

/-- The weights the launch reads. -/
theorem weights (c : Dev nD) : V m c main_v3 = packed (m ((c.tc : Thread nD τ).loc main_arg2)) := by
  unfold V packed padded
  simp only [hostOps0, hostOps0_1, hostOps0_2, List.flatten_cons, List.flatten_nil, List.cons_append, List.nil_append, List.append_nil]
  after_results
  try rfl

/-- An entry of the flattened input. -/
theorem flat_at (x : FVec Ideal S2x8192x1024 .f32) (n : Fin 16384) (k : Fin 1024) :
    (shapeCast S16384x1024 x shapeCasts_S2x8192x1024_S16384x1024 (ix2 n k) : EReal) = x (ix3 ⟨n.val / 8192, by omega⟩ ⟨n.val % 8192, by omega⟩ k) := by
  pointwise

/-- The block of rows at a grid point. -/
theorem block0 (c : Dev nD) (t : Fin cfg0.N) (r : Fin 512) (k : Fin 1024) :
    ((iblk m c 0 t : Vec Ideal S512x1024 .f32) (ix2 r k) : EReal)
      = (m ((c.tc : Thread nD τ).loc main_arg0) : FVec Ideal S2x8192x1024 .f32)
          (ix3 ⟨(512 * t.val + r.val) / 8192, by have := count t; omega⟩ ⟨(512 * t.val + r.val) % 8192, by omega⟩ k) := by
  refine Eq.trans ?_ (flat_at (m ((c.tc : Thread nD τ).loc main_arg0)) ⟨512 * t.val + r.val, by have := count t; omega⟩ k)
  have hb := rows m c
  generalize shapeCast S16384x1024 (m ((c.tc : Thread nD τ).loc main_arg0)) shapeCasts_S2x8192x1024_S16384x1024 = y at hb ⊢
  blk_point [iblk, hb, idx t]

/-- The gains at a grid point. -/
theorem block1 (c : Dev nD) (t : Fin cfg0.N) (k : Fin 1024) :
    ((iblk m c 1 t : Vec Ideal S1x1024 .f32) (ix2 0 k) : EReal)
      = (m ((c.tc : Thread nD τ).loc main_arg1) : FVec Ideal S1024 .f32) (ix1 k) := by
  have hs : (shapeCast S1x1024 (m ((c.tc : Thread nD τ).loc main_arg1) : FVec Ideal S1024 .f32) shapeCasts_S1024_S1x1024 : FVec Ideal S1x1024 .f32) (ix2 0 k)
      = (m ((c.tc : Thread nD τ).loc main_arg1) : FVec Ideal S1024 .f32) (ix1 k) := by pointwise
  rw [← hs]
  blk_point [iblk, gains, idx t]

/-- The weights at a grid point. -/
theorem block2 (c : Dev nD) (t : Fin cfg0.N) (k : Fin 1024) (d : Fin 2560) :
    ((iblk m c 2 t : Vec Ideal S1024x2560 .bf16) (ix2 k d) : EReal) = packed (m ((c.tc : Thread nD τ).loc main_arg2)) (ix2 k d) := by
  have hb := weights m c
  generalize packed (m ((c.tc : Thread nD τ).loc main_arg2)) = y at hb ⊢
  blk_point [iblk, hb, idx t]

variable (w : FVec Ideal S1x1024x2464 .f32)

/-- An entry of the padded weights: a column of the weights, or zero. -/
theorem packed_at (k : Fin 1024) (d : Fin 2560) :
    (packed w (ix2 k d) : EReal) = if h : d.val < 2464 then w (ix3 0 k ⟨d.val, h⟩) else 0 := by
  split_ifs with h
  · pointwise [packed, padded]
    rw [dif_pos h]
  · pointwise [packed, padded]
    rw [dif_neg h]
    show (((0#32 : BitVec 32).toInt : ℝ) : EReal) = 0
    simp

end Cert.OddIdeal.Hand

end
-- ==== Proof.Odd.RefAt.lean ====
module

public import proofs.«01_k».proof.Proof.Gen.OddRefIdeal.Read
public import Idealize.ShloMosaic.Lib.Pointwise
public import proofs.«01_k».proof.Proof.Norm

/-! Entries of the reference's results. -/

@[expose] public section

set_option maxRecDepth 16384

noncomputable section
open Idealize.ShloMosaic Idealize.ShloMosaic.TcCoe Idealize.SL.Sem
open Idealize.ShloMosaic.Pipeline (Dat)

namespace Cert.OddRefIdeal.Hand
open Cert.OddRefIdeal Cert.OddRefIdeal.Gen Cert.OddRefIdeal.Read

variable (x : FVec Ideal S2x8192x1024 .f32) (g : FVec Ideal S1024 .f32) (w : FVec Ideal S1x1024x2464 .f32)

/-- An entry of the normalized input. -/
theorem v12_at (b : Fin 2) (t : Fin 8192) (k : Fin 1024) :
    (val_main_v12 (F := Ideal) x g (ix3 b t k) : EReal) = Norm.rms (fun j => x (ix3 b t j)) (fun j => g (ix1 j)) k := by
  unfold Norm.rms
  pointwise [val_main_v12, val_main_v9, val_main_v11, val_main_v10, val_main_v8, val_main_v7, val_main_v6, val_main_v5,
    val_main_cst_1, val_main_v4, val_main_v3, val_main_cst_0, val_main_v2, val_main_v1, val_main_cst, val_main_v0]

/-- An entry of the combined projection. -/
theorem v15_at (n : Fin 16384) (d : Fin 2464) :
    (val_main_v15 (F := Ideal) x g w (ix2 n d) : EReal) = ∑ k, (val_main_v12 (F := Ideal) x g (ix3 ⟨n.val / 8192, by omega⟩ ⟨n.val % 8192, by omega⟩ k) : EReal) * w (ix3 0 k d) := by
  pointwise [val_main_v15, val_main_v14, val_main_v13]

/-- Row `n` of the projection at column `d`, written out. -/
def entry (n : Fin 16384) (d : Fin 2464) : EReal :=
  ∑ k, Norm.rms (fun j => x (ix3 ⟨n.val / 8192, by omega⟩ ⟨n.val % 8192, by omega⟩ j)) (fun j => g (ix1 j)) k * w (ix3 0 k d)

/-- An entry of the combined projection, as the written-out sum. -/
theorem v15_entry (n : Fin 16384) (d : Fin 2464) : (val_main_v15 (F := Ideal) x g w (ix2 n d) : EReal) = entry x g w n d := by
  rw [v15_at]
  exact Finset.sum_congr rfl fun k _ => by rw [v12_at]

/-- An entry of the reference's columns from 512 on. -/
theorem v16_at (n : Fin 16384) (d : Fin 256) : (val_main_v16 (F := Ideal) x g w (ix2 n d) : EReal) = entry x g w n ⟨512 + d.val, by omega⟩ := by
  rw [← v15_entry]
  pointwise [val_main_v16]

/-- An entry of the reference's columns from 0 on. -/
theorem v17_at (n : Fin 16384) (d : Fin 512) : (val_main_v17 (F := Ideal) x g w (ix2 n d) : EReal) = entry x g w n ⟨0 + d.val, by omega⟩ := by
  rw [← v15_entry]
  pointwise [val_main_v17]

/-- An entry of the reference's columns from 768 on. -/
theorem v19_at (n : Fin 16384) (d : Fin 512) : (val_main_v19 (F := Ideal) x g w (ix2 n d) : EReal) = entry x g w n ⟨768 + d.val, by omega⟩ := by
  rw [← v15_entry]
  pointwise [val_main_v19]

/-- An entry of the reference's columns from 1280 on. -/
theorem v20_at (n : Fin 16384) (d : Fin 512) : (val_main_v20 (F := Ideal) x g w (ix2 n d) : EReal) = entry x g w n ⟨1280 + d.val, by omega⟩ := by
  rw [← v15_entry]
  pointwise [val_main_v20]

/-- An entry of the reference's columns from 1792 on. -/
theorem v21_at (n : Fin 16384) (d : Fin 512) : (val_main_v21 (F := Ideal) x g w (ix2 n d) : EReal) = entry x g w n ⟨1792 + d.val, by omega⟩ := by
  rw [← v15_entry]
  pointwise [val_main_v21]

/-- An entry of the keys and values in the narrower format. -/
theorem v18_at (n : Fin 16384) (d : Fin 256) : (val_main_v18 (F := Ideal) x g w (ix2 n d) : EReal) = entry x g w n ⟨512 + d.val, by omega⟩ := by
  rw [← v16_at]
  pointwise [val_main_v18]

/-- The last columns, then zeros. -/
theorem v23_at (n : Fin 16384) (d : Fin 256) :
    (val_main_v23 (F := Ideal) x g w (ix2 n d) : EReal) = if h : d.val < 160 then entry x g w n ⟨2304 + d.val, by omega⟩ else 0 := by
  split_ifs with h
  · rw [← v15_entry]
    pointwise [val_main_v23, val_main_v22]
    rw [dif_pos h]
  · pointwise [val_main_v23, val_main_call0_v0, val_main_c]
    rw [dif_neg h]
    show (((0#32 : BitVec 32).toInt : ℝ) : EReal) = 0
    simp

end Cert.OddRefIdeal.Hand

end
-- ==== Proof.Odd.Value.lean ====
module

public import proofs.«01_k».proof.Proof.Odd.Pay
public import proofs.«01_k».proof.Proof.Odd.Blocks
public import proofs.«01_k».proof.Proof.Odd.RefAt

/-! The projection's result arrays after the run are the reference's results. -/

@[expose] public section

set_option maxRecDepth 16384

noncomputable section
open Idealize.ShloMosaic Idealize.ShloMosaic.TcCoe Idealize.SL.Sem
open Idealize.ShloMosaic.Pipeline (Dat)

namespace Cert.OddIdeal.Hand
open Cert.OddIdeal Cert.OddIdeal.Gen

variable (m : (ℓ : Loc nD τ sig) → Buf (Elt Ideal) ℓ)

/-- Row `512 t + r` of the projection at the weights' column `d`, over the program's arguments. -/
abbrev want (c : Dev nD) (t : Fin cfg0.N) (r : Fin 512) (d : Fin 2464) : EReal :=
  Cert.OddRefIdeal.Hand.entry (m ((c.tc : Thread nD τ).loc main_arg0)) (m ((c.tc : Thread nD τ).loc main_arg1)) (m ((c.tc : Thread nD τ).loc main_arg2))
    ⟨512 * t.val + r.val, by have := count t; omega⟩ d

/-- A row of the block, normalized, is the reference's. -/
theorem norm_at (c : Dev nD) (t : Fin cfg0.N) (r : Fin 512) (k : Fin 1024) :
    (k0_pay4 (iblk m c 0 t : Vec Ideal S512x1024 .f32) (iblk m c 1 t : Vec Ideal S1x1024 .f32) (ix2 r k) : EReal)
      = Norm.rms (fun j => (m ((c.tc : Thread nD τ).loc main_arg0) : FVec Ideal S2x8192x1024 .f32) (ix3 ⟨(512 * t.val + r.val) / 8192, by have := count t; omega⟩ ⟨(512 * t.val + r.val) % 8192, by omega⟩ j))
          (fun j => (m ((c.tc : Thread nD τ).loc main_arg1) : FVec Ideal S1024 .f32) (ix1 j)) k := by
  rw [pay4_at]
  simp only [block0, block1]

/-- A normalized row times a column of the weights. -/
theorem sum_at (c : Dev nD) (t : Fin cfg0.N) (r : Fin 512) (d : Fin 2560) (e : Fin 2464) (h : d.val = e.val) :
    (∑ k : Fin 1024, (k0_pay4 (iblk m c 0 t : Vec Ideal S512x1024 .f32) (iblk m c 1 t : Vec Ideal S1x1024 .f32) (ix2 r k) : EReal)
      * (iblk m c 2 t : Vec Ideal S1024x2560 .bf16) (ix2 k d)) = want m c t r e := by
  unfold want Cert.OddRefIdeal.Hand.entry
  refine Finset.sum_congr rfl fun k _ => ?_
  rw [norm_at, block2, packed_at, dif_pos (by omega)]
  exact congrArg (fun z => _ * (m ((c.tc : Thread nD τ).loc main_arg2) : FVec Ideal S1x1024x2464 .f32) (ix3 0 k z)) (Fin.ext h)

/-- The reads of the body's stores for window 3, as sums. -/
theorem read3 (x0 : Vec Ideal S512x1024 .f32) (x1 : Vec Ideal S1x1024 .f32) (x2 : Vec Ideal S1024x2560 .bf16) (r : Fin 512) (d : Fin 512) :
    (k0_pay5 x0 x1 (View.ld x2 r0_2) (ix2 r d) : EReal)
      = ∑ k : Fin 1024, (k0_pay4 x0 x1 (ix2 r k) : EReal) * x2 (ix2 k ⟨0 + d.val, by omega⟩) := by
  rw [pay5_at]
  refine Finset.sum_congr rfl fun k _ => ?_
  refine congrArg (fun z : EReal => (k0_pay4 x0 x1 (ix2 r k) : EReal) * z) ?_
  pointwise

/-- The reads of the body's stores for window 4, as sums. -/
theorem read4 (x0 : Vec Ideal S512x1024 .f32) (x1 : Vec Ideal S1x1024 .f32) (x2 : Vec Ideal S1024x2560 .bf16) (r : Fin 512) (d : Fin 256) :
    (k0_pay6 x0 x1 (View.ld x2 r0_4) (ix2 r d) : EReal)
      = ∑ k : Fin 1024, (k0_pay4 x0 x1 (ix2 r k) : EReal) * x2 (ix2 k ⟨512 + d.val, by omega⟩) := by
  rw [pay6_at]
  refine Finset.sum_congr rfl fun k _ => ?_
  refine congrArg (fun z : EReal => (k0_pay4 x0 x1 (ix2 r k) : EReal) * z) ?_
  pointwise

/-- The reads of the body's stores for window 6, as sums. -/
theorem read6 (x0 : Vec Ideal S512x1024 .f32) (x1 : Vec Ideal S1x1024 .f32) (x2 : Vec Ideal S1024x2560 .bf16) (r : Fin 512) (d : Fin 512) :
    (k0_pay8 x0 x1 (View.ld x2 r0_6) (ix2 r d) : EReal)
      = ∑ k : Fin 1024, (k0_pay4 x0 x1 (ix2 r k) : EReal) * x2 (ix2 k ⟨768 + d.val, by omega⟩) := by
  rw [pay8_at]
  refine Finset.sum_congr rfl fun k _ => ?_
  refine congrArg (fun z : EReal => (k0_pay4 x0 x1 (ix2 r k) : EReal) * z) ?_
  pointwise

/-- The reads of the body's stores for window 7, as sums. -/
theorem read7 (x0 : Vec Ideal S512x1024 .f32) (x1 : Vec Ideal S1x1024 .f32) (x2 : Vec Ideal S1024x2560 .bf16) (r : Fin 512) (d : Fin 512) :
    (k0_pay1 (k0_pay9 x0 x1 x2) (View.ld x2 r0_7) (ix2 r d) : EReal)
      = ∑ k : Fin 1024, (k0_pay4 x0 x1 (ix2 r k) : EReal) * x2 (ix2 k ⟨1280 + d.val, by omega⟩) := by
  have e0 : View.ld x0 r0_0 = x0 := View.ld_unit_zero (by decide) _ _
  have e1 : View.ld x1 r0_1 = x1 := View.ld_unit_zero (by decide) _ _
  rw [k0_pay9, e0, e1, pay1_at]
  refine Finset.sum_congr rfl fun k _ => ?_
  refine congrArg (fun z : EReal => (k0_pay4 x0 x1 (ix2 r k) : EReal) * z) ?_
  pointwise

/-- The reads of the body's stores for window 8, as sums. -/
theorem read8 (x0 : Vec Ideal S512x1024 .f32) (x1 : Vec Ideal S1x1024 .f32) (x2 : Vec Ideal S1024x2560 .bf16) (r : Fin 512) (d : Fin 512) :
    (k0_pay2 (k0_pay9 x0 x1 x2) (View.ld x2 r0_8) (ix2 r d) : EReal)
      = ∑ k : Fin 1024, (k0_pay4 x0 x1 (ix2 r k) : EReal) * x2 (ix2 k ⟨1792 + d.val, by omega⟩) := by
  have e0 : View.ld x0 r0_0 = x0 := View.ld_unit_zero (by decide) _ _
  have e1 : View.ld x1 r0_1 = x1 := View.ld_unit_zero (by decide) _ _
  rw [k0_pay9, e0, e1, pay2_at]
  refine Finset.sum_congr rfl fun k _ => ?_
  refine congrArg (fun z : EReal => (k0_pay4 x0 x1 (ix2 r k) : EReal) * z) ?_
  pointwise

/-- The reads of the body's stores for window 9, as sums. -/
theorem read9 (x0 : Vec Ideal S512x1024 .f32) (x1 : Vec Ideal S1x1024 .f32) (x2 : Vec Ideal S1024x2560 .bf16) (r : Fin 512) (d : Fin 256) :
    (k0_pay3 (k0_pay9 x0 x1 x2) (View.ld x2 r0_9) (ix2 r d) : EReal)
      = ∑ k : Fin 1024, (k0_pay4 x0 x1 (ix2 r k) : EReal) * x2 (ix2 k ⟨2304 + d.val, by omega⟩) := by
  have e0 : View.ld x0 r0_0 = x0 := View.ld_unit_zero (by decide) _ _
  have e1 : View.ld x1 r0_1 = x1 := View.ld_unit_zero (by decide) _ _
  rw [k0_pay9, e0, e1, pay3_at]
  refine Finset.sum_congr rfl fun k _ => ?_
  refine congrArg (fun z : EReal => (k0_pay4 x0 x1 (ix2 r k) : EReal) * z) ?_
  pointwise

/-- Window 3's array after the run. -/
theorem final3 (c : Dev nD) : (dats m 0 c).arrAt 3 (cfgs 0).N = Cert.OddRefIdeal.Read.val_main_v17 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht := count t
  blk_simp
  rw [after0_3]; unfold out0_3; frame_out
  idx_vars y
  refine (read3 (iblk m c 0 t) (iblk m c 1 t) (iblk m c 2 t) y0 y1).trans ((sum_at m c t y0 _ ⟨0 + y1.val, by omega⟩ rfl).trans ?_)
  refine (Cert.OddRefIdeal.Hand.v17_at _ _ _ ⟨512 * t.val + y0.val, by omega⟩ y1).symm.trans ?_
  generalize Cert.OddRefIdeal.Read.val_main_v17 (F := Ideal) (m ((c.tc : Thread nD τ).loc main_arg0)) (m ((c.tc : Thread nD τ).loc main_arg1)) (m ((c.tc : Thread nD τ).loc main_arg2)) = X
  blk_point [idx t]

/-- Window 4's array after the run. -/
theorem final4 (c : Dev nD) : (dats m 0 c).arrAt 4 (cfgs 0).N = Cert.OddRefIdeal.Read.val_main_v16 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  have ht := count t
  blk_simp
  rw [after0_4]; unfold out0_4; frame_out
  idx_vars y
  refine (read4 (iblk m c 0 t) (iblk m c 1 t) (iblk m c 2 t) y0 y1).trans ((sum_at m c t y0 _ ⟨512 + y1.val, by omega⟩ rfl).trans ?_)
  refine (Cert.OddRefIdeal.Hand.v16_at _ _ _ ⟨512 * t.val + y0.val, by omega⟩ y1).symm.trans ?_
  generalize Cert.OddRefIdeal.Read.val_main_v16 (F := Ideal) (m ((c.tc : Thread nD τ).loc main_arg0)) (m ((c.tc : Thread nD τ).loc main_arg1)) (m ((c.tc : Thread nD τ).loc main_arg2)) = X
  blk_point [idx t]

/-- Window 5's array after the run. -/
theorem final5 (c : Dev nD) : (dats m 0 c).arrAt 5 (cfgs 0).N = Cert.OddRefIdeal.Read.val_main_v18 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  have ht := count t
  blk_simp
  rw [after0_5]; unfold out0_5; frame_out
  idx_vars y
  refine (read4 (iblk m c 0 t) (iblk m c 1 t) (iblk m c 2 t) y0 y1).trans ((sum_at m c t y0 _ ⟨512 + y1.val, by omega⟩ rfl).trans ?_)
  refine (Cert.OddRefIdeal.Hand.v18_at _ _ _ ⟨512 * t.val + y0.val, by omega⟩ y1).symm.trans ?_
  generalize Cert.OddRefIdeal.Read.val_main_v18 (F := Ideal) (m ((c.tc : Thread nD τ).loc main_arg0)) (m ((c.tc : Thread nD τ).loc main_arg1)) (m ((c.tc : Thread nD τ).loc main_arg2)) = X
  blk_point [idx t]

/-- Window 6's array after the run. -/
theorem final6 (c : Dev nD) : (dats m 0 c).arrAt 6 (cfgs 0).N = Cert.OddRefIdeal.Read.val_main_v19 (F := Ideal) (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  have ht := count t
  blk_simp
  rw [after0_6]; unfold out0_6; frame_out
  idx_vars y
  refine (read6 (iblk m c 0 t) (iblk m c 1 t) (iblk m c 2 t) y0 y1).trans ((sum_at m c t y0 _ ⟨768 + y1.val, by omega⟩ rfl).trans ?_)
  refine (Cert.OddRefIdeal.Hand.v19_at _ _ _ ⟨512 * t.val + y0.val, by omega⟩ y1).symm.trans ?_
  generalize Cert.OddRefIdeal.Read.val_main_v19 (F := Ideal) (m ((c.tc : Thread nD τ).loc main_arg0)) (m ((c.tc : Thread nD τ).loc main_arg1)) (m ((c.tc : Thread nD τ).loc main_arg2)) = X
  blk_point [idx t]

/-- Window 7's array after the run. -/
theorem final7 (c : Dev nD) : (dats m 0 c).arrAt 7 (cfgs 0).N = Cert.OddRefIdeal.Read.val_main_v20 (F := Ideal) (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  have ht := count t
  blk_simp
  rw [after0_7]; unfold out0_7; frame_out
  idx_vars y
  refine (read7 (iblk m c 0 t) (iblk m c 1 t) (iblk m c 2 t) y0 y1).trans ((sum_at m c t y0 _ ⟨1280 + y1.val, by omega⟩ rfl).trans ?_)
  refine (Cert.OddRefIdeal.Hand.v20_at _ _ _ ⟨512 * t.val + y0.val, by omega⟩ y1).symm.trans ?_
  generalize Cert.OddRefIdeal.Read.val_main_v20 (F := Ideal) (m ((c.tc : Thread nD τ).loc main_arg0)) (m ((c.tc : Thread nD τ).loc main_arg1)) (m ((c.tc : Thread nD τ).loc main_arg2)) = X
  blk_point [idx t]

/-- Window 8's array after the run. -/
theorem final8 (c : Dev nD) : (dats m 0 c).arrAt 8 (cfgs 0).N = Cert.OddRefIdeal.Read.val_main_v21 (F := Ideal) (m ((c.tc : Thread nD τ).loc main_arg0)) (m ((c.tc : Thread nD τ).loc main_arg1)) (m ((c.tc : Thread nD τ).loc main_arg2)) := by
  refine (dats m 0 c).arrAt_eq_of_covers 8 _ (by decide +kernel) fun t _ y => ?_
  have ht := count t
  blk_simp
  rw [after0_8]; unfold out0_8; frame_out
  idx_vars y
  refine (read8 (iblk m c 0 t) (iblk m c 1 t) (iblk m c 2 t) y0 y1).trans ((sum_at m c t y0 _ ⟨1792 + y1.val, by omega⟩ rfl).trans ?_)
  refine (Cert.OddRefIdeal.Hand.v21_at _ _ _ ⟨512 * t.val + y0.val, by omega⟩ y1).symm.trans ?_
  generalize Cert.OddRefIdeal.Read.val_main_v21 (F := Ideal) (m ((c.tc : Thread nD τ).loc main_arg0)) (m ((c.tc : Thread nD τ).loc main_arg1)) (m ((c.tc : Thread nD τ).loc main_arg2)) = X
  blk_point [idx t]

/-- Window 9's array after the run. -/
theorem final9 (c : Dev nD) : (dats m 0 c).arrAt 9 (cfgs 0).N = Cert.OddRefIdeal.Read.val_main_v23 (F := Ideal) (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  have ht := count t
  blk_simp
  rw [after0_9]; unfold out0_9; frame_out
  idx_vars y
  refine (read9 (iblk m c 0 t) (iblk m c 1 t) (iblk m c 2 t) y0 y1).trans ?_
  refine Eq.trans ?_ ((Cert.OddRefIdeal.Hand.v23_at (m ((c.tc : Thread nD τ).loc main_arg0)) (m ((c.tc : Thread nD τ).loc main_arg1)) (m ((c.tc : Thread nD τ).loc main_arg2)) ⟨512 * t.val + y0.val, by omega⟩ y1).symm.trans ?_)
  · split_ifs with h
    · exact sum_at m c t y0 _ ⟨2304 + y1.val, by omega⟩ rfl
    · refine Finset.sum_eq_zero fun k _ => ?_
      rw [block2, packed_at, dif_neg (by simp only []; omega), mul_zero]
  · generalize Cert.OddRefIdeal.Read.val_main_v23 (F := Ideal) (m ((c.tc : Thread nD τ).loc main_arg0)) (m ((c.tc : Thread nD τ).loc main_arg1)) (m ((c.tc : Thread nD τ).loc main_arg2)) = X
    blk_point [idx t]

end Cert.OddIdeal.Hand

end
-- ==== Proof.Odd.Claims.lean ====
module

public import proofs.«01_k».proof.Proof.Odd.Value
public import proofs.«01_k».proof.Proof.Gen.OddRefIdeal.Run
public import proofs.«01_k».proof.Proof.Gen.OddIdeal.Value
public import proofs.«01_k».proof.Defs

/-! The claims about the odd layer's projection: the reference runs and leaves its arguments, and the two programs' results are equal. -/

@[expose] public section

set_option maxRecDepth 16384

noncomputable section
open Idealize.ShloMosaic Idealize.ShloMosaic.TcCoe Idealize.SL.Sem
open Idealize.ShloMosaic.Pipeline (Dat)

namespace Cert.Proof.Odd
open Cert.OddIdeal

/-- The reference runs and leaves its arguments. -/
theorem frame_ref (m : (ℓ : Loc Cert.OddRefIdeal.nD Cert.OddRefIdeal.τ Cert.OddRefIdeal.sig) → Buf (Elt Ideal) ℓ) (g : Dev Cert.OddRefIdeal.nD → PrngReg) :
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2))
      ∧ r.2.sem = fun _ => 0) :=
  θ_run_mono (Cert.OddRefIdeal.Value.run m g) fun r h => ⟨fun c => (h c).2.2.2.2.2.2.2, sem_eq_zero_of_no_sems (by decide) r.2⟩

/-- Over exact arithmetic the kernel's results are the reference's. -/
theorem algebraic [hOddIdeal : Cert.OddIdeal.Facts] [hOddRefIdeal : Cert.OddRefIdeal.Facts] : Cert.algebraic_OddIdeal_OddRefIdeal := by
  intro m g m' g' hpre hagree
  refine ⟨fun c => Cert.OddRefIdeal.Read.val_main_v17 (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)), fun c => Cert.OddRefIdeal.Read.val_main_v16 (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)), fun c => Cert.OddRefIdeal.Read.val_main_v18 (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)), fun c => Cert.OddRefIdeal.Read.val_main_v19 (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)), fun c => Cert.OddRefIdeal.Read.val_main_v20 (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)), fun c => Cert.OddRefIdeal.Read.val_main_v21 (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)), fun c => Cert.OddRefIdeal.Read.val_main_v23 (F := Ideal) (m ((c.tc : Thread Cert.OddIdeal.nD Cert.OddIdeal.τ).loc Cert.OddIdeal.main_arg0)) (m ((c.tc : Thread Cert.OddIdeal.nD Cert.OddIdeal.τ).loc Cert.OddIdeal.main_arg1)) (m ((c.tc : Thread Cert.OddIdeal.nD Cert.OddIdeal.τ).loc Cert.OddIdeal.main_arg2)), ?_, ?_⟩
  · exact θ_run_mono (Cert.OddIdeal.Value.run_blocks m g) fun r h c =>
      ⟨(h c).1.trans (Cert.OddIdeal.Hand.final3 m c), (h c).2.1.trans (Cert.OddIdeal.Hand.final4 m c), (h c).2.2.1.trans (Cert.OddIdeal.Hand.final5 m c), (h c).2.2.2.1.trans (Cert.OddIdeal.Hand.final6 m c), (h c).2.2.2.2.1.trans (Cert.OddIdeal.Hand.final7 m c), (h c).2.2.2.2.2.1.trans (Cert.OddIdeal.Hand.final8 m c), (h c).2.2.2.2.2.2.1.trans (Cert.OddIdeal.Hand.final9 m c), (h c).2.2.2.2.2.2.2⟩
  · refine θ_run_mono (Cert.OddRefIdeal.Value.run m' g') fun r h c =>
      ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    all_goals obtain ⟨h0, h1, h2⟩ := hagree c
    · rw [Cert.OddRefIdeal.Read.val_main_v17_eq, h0, h1, h2]
    · rw [Cert.OddRefIdeal.Read.val_main_v16_eq, h0, h1, h2]
    · rw [Cert.OddRefIdeal.Read.val_main_v18_eq, h0, h1, h2]
    · rw [Cert.OddRefIdeal.Read.val_main_v19_eq, h0, h1, h2]
    · rw [Cert.OddRefIdeal.Read.val_main_v20_eq, h0, h1, h2]
    · rw [Cert.OddRefIdeal.Read.val_main_v21_eq, h0, h1, h2]
    · rw [Cert.OddRefIdeal.Read.val_main_v23_eq, h0, h1, h2]

end Cert.Proof.Odd

end
-- ==== Proof.OutS.Pay.lean ====
module

public import proofs.«01_k».proof.Proof.Gen.OutSIdeal.Skeleton
public import Idealize.ShloMosaic.Lib.Pointwise

/-! An entry of what the kernel's body stores: the input plus two products. -/

@[expose] public section

set_option maxRecDepth 16384

noncomputable section
open Idealize.ShloMosaic Idealize.ShloMosaic.TcCoe Idealize.SL.Sem
open Idealize.ShloMosaic.Pipeline (Dat)

namespace Cert.OutSIdeal.Hand
open Cert.OutSIdeal Cert.OutSIdeal.Gen

/-- An entry of the block the body stores. -/
theorem pay1_at (a : Vec Ideal S512x512 .f32) (wa : Vec Ideal S512x1024 .bf16) (b : Vec Ideal S512x512 .f32) (wb : Vec Ideal S512x1024 .bf16) (x : Vec Ideal S512x1024 .f32) (r : Fin 512) (d : Fin 1024) :
    (k0_pay1 a wa b wb x (ix2 r d) : EReal)
      = x (ix2 r d) + ((∑ k : Fin 512, (a (ix2 r k) : EReal) * wa (ix2 k d)) + ∑ k : Fin 512, (b (ix2 r k) : EReal) * wb (ix2 k d)) := by
  pointwise [k0_pay1]

end Cert.OutSIdeal.Hand

end
-- ==== Proof.OutS.RefAt.lean ====
module

public import proofs.«01_k».proof.Proof.Gen.OutSRefIdeal.Read
public import Idealize.ShloMosaic.Lib.Pointwise
public import proofs.«01_k».proof.Proof.Norm

/-! Entries of the reference's result. -/

@[expose] public section

set_option maxRecDepth 16384

noncomputable section
open Idealize.ShloMosaic Idealize.ShloMosaic.TcCoe Idealize.SL.Sem
open Idealize.ShloMosaic.Pipeline (Dat)

namespace Cert.OutSRefIdeal.Hand
open Cert.OutSRefIdeal Cert.OutSRefIdeal.Gen Cert.OutSRefIdeal.Read

variable (x : FVec Ideal S512x1024 .f32) (a b : FVec Ideal S512x512 .f32) (w : FVec Ideal S1x1024x1024 .f32)

/-- An entry of the reference's result, with the sum over the joined columns. -/
theorem v3_at (n : Fin 512) (d : Fin 1024) :
    (val_main_v3 (F := Ideal) x a b w (ix2 n d) : EReal) = x (ix2 n d) + ∑ k, (val_main_v0 (F := Ideal) a b (ix2 n k) : EReal) * w (ix3 0 k d) := by
  pointwise [val_main_v3, val_main_v2, val_main_v1]

/-- The first half of the joined columns. -/
theorem left_at (n : Fin 512) (k : Fin 512) : (val_main_v0 (F := Ideal) a b (ix2 n ⟨k.val, by omega⟩) : EReal) = a (ix2 n k) := by
  pointwise [val_main_v0]

/-- The second half of the joined columns. -/
theorem right_at (n : Fin 512) (k : Fin 512) : (val_main_v0 (F := Ideal) a b (ix2 n ⟨512 + k.val, by omega⟩) : EReal) = b (ix2 n k) := by
  pointwise [val_main_v0]

/-- An entry of the reference's result, as two sums. -/
theorem split_at (n : Fin 512) (d : Fin 1024) :
    (val_main_v3 (F := Ideal) x a b w (ix2 n d) : EReal)
      = x (ix2 n d) + ((∑ k : Fin 512, (a (ix2 n k) : EReal) * w (ix3 0 ⟨k.val, by omega⟩ d)) + ∑ k : Fin 512, (b (ix2 n k) : EReal) * w (ix3 0 ⟨512 + k.val, by omega⟩ d)) := by
  rw [v3_at]
  refine congrArg (fun z : EReal => (x (ix2 n d) : EReal) + z) ?_
  rw [Fin.sum_univ_two_halves 512 512 (by decide)]
  refine congrArg₂ (fun p q : EReal => p + q) (Finset.sum_congr rfl fun k _ => ?_) (Finset.sum_congr rfl fun k _ => ?_)
  · rw [← left_at a b n k]
  · rw [← right_at a b n k]

end Cert.OutSRefIdeal.Hand

end
-- ==== Proof.OutS.Value.lean ====
module

public import proofs.«01_k».proof.Proof.OutS.Pay
public import proofs.«01_k».proof.Proof.OutS.RefAt
public import proofs.«01_k».proof.Proof.Gen.OutSIdeal.Frame
public import Idealize.ShloMosaic.Lib.Pipeline.ValueKit
public import Idealize.ShloMosaic.Lib.Claim

/-! The sample group's output projection's result array after the run is the reference's result. -/

@[expose] public section

set_option maxRecDepth 16384

noncomputable section
open Idealize.ShloMosaic Idealize.ShloMosaic.TcCoe Idealize.SL.Sem
open Idealize.ShloMosaic.Pipeline (Dat)

namespace Cert.OutSIdeal.Hand
open Cert.OutSIdeal Cert.OutSIdeal.Gen

variable (m : (ℓ : Loc nD τ sig) → Buf (Elt Ideal) ℓ)

/-- The blocks each window takes at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The launch has one grid point. -/
theorem count (t : Fin cfg0.N) : t.val < 1 := t.isLt

/-- The rows of the weights for the first operand. -/
def upper (w : FVec Ideal S1x1024x1024 .f32) : FVec Ideal S512x1024 .bf16 :=
  extractStridedSlice S512x1024 ![0, 0] (truncf .bf16 (shapeCast S1024x1024 w shapeCasts_S1x1024x1024_S1024x1024 : FVec Ideal S1024x1024 .f32) bitsLt_bf16_f32 : FVec Ideal S1024x1024 .bf16) slices_S1024x1024_S512x1024_0_0

/-- The rows of the weights for the second operand. -/
def lower (w : FVec Ideal S1x1024x1024 .f32) : FVec Ideal S512x1024 .bf16 :=
  extractStridedSlice S512x1024 ![512, 0] (truncf .bf16 (shapeCast S1024x1024 w shapeCasts_S1x1024x1024_S1024x1024 : FVec Ideal S1024x1024 .f32) bitsLt_bf16_f32 : FVec Ideal S1024x1024 .bf16) slices_S1024x1024_S512x1024_512_0

/-- The first half of the weights as the launch reads them. -/
theorem uppers (c : Dev nD) : V m c main_v2 = upper (m ((c.tc : Thread nD τ).loc main_arg3)) := by
  unfold V upper
  simp only [hostOps0, List.flatten_cons, List.flatten_nil, List.cons_append, List.nil_append, List.append_nil]
  after_results
  try rfl

/-- The second half of the weights as the launch reads them. -/
theorem lowers (c : Dev nD) : V m c main_v3 = lower (m ((c.tc : Thread nD τ).loc main_arg3)) := by
  unfold V lower
  simp only [hostOps0, List.flatten_cons, List.flatten_nil, List.cons_append, List.nil_append, List.append_nil]
  after_results
  try rfl

/-- An entry of the first half of the weights. -/
theorem upper_at (w : FVec Ideal S1x1024x1024 .f32) (k : Fin 512) (d : Fin 1024) : (upper w (ix2 k d) : EReal) = w (ix3 0 ⟨k.val, by omega⟩ d) := by
  pointwise [upper]

/-- An entry of the second half of the weights. -/
theorem lower_at (w : FVec Ideal S1x1024x1024 .f32) (k : Fin 512) (d : Fin 1024) : (lower w (ix2 k d) : EReal) = w (ix3 0 ⟨512 + k.val, by omega⟩ d) := by
  pointwise [lower]

/-- The block of operand 0 at a grid point. -/
theorem block0 (c : Dev nD) (t : Fin cfg0.N) (r : Fin 512) (k : Fin 1024) :
    ((iblk m c 0 t : Vec Ideal S512x1024 .f32) (ix2 r k) : EReal)
      = (m ((c.tc : Thread nD τ).loc main_arg0) : FVec Ideal S512x1024 .f32) (ix2 ⟨512 * t.val + r.val, by have := count t; omega⟩ k) := by
  have hb : V m c main_arg0 = m ((c.tc : Thread nD τ).loc main_arg0) := by
    unfold V
    simp only [hostOps0, List.flatten_cons, List.flatten_nil, List.cons_append, List.nil_append, List.append_nil]
    after_results
    try rfl
  generalize m ((c.tc : Thread nD τ).loc main_arg0) = y at hb ⊢
  blk_point [iblk, hb, idx t]

/-- The block of operand 1 at a grid point. -/
theorem block1 (c : Dev nD) (t : Fin cfg0.N) (r : Fin 512) (k : Fin 512) :
    ((iblk m c 1 t : Vec Ideal S512x512 .f32) (ix2 r k) : EReal)
      = (m ((c.tc : Thread nD τ).loc main_arg1) : FVec Ideal S512x512 .f32) (ix2 ⟨512 * t.val + r.val, by have := count t; omega⟩ k) := by
  have hb : V m c main_arg1 = m ((c.tc : Thread nD τ).loc main_arg1) := by
    unfold V
    simp only [hostOps0, List.flatten_cons, List.flatten_nil, List.cons_append, List.nil_append, List.append_nil]
    after_results
    try rfl
  generalize m ((c.tc : Thread nD τ).loc main_arg1) = y at hb ⊢
  blk_point [iblk, hb, idx t]

/-- The block of operand 2 at a grid point. -/
theorem block2 (c : Dev nD) (t : Fin cfg0.N) (r : Fin 512) (k : Fin 512) :
    ((iblk m c 2 t : Vec Ideal S512x512 .f32) (ix2 r k) : EReal)
      = (m ((c.tc : Thread nD τ).loc main_arg2) : FVec Ideal S512x512 .f32) (ix2 ⟨512 * t.val + r.val, by have := count t; omega⟩ k) := by
  have hb : V m c main_arg2 = m ((c.tc : Thread nD τ).loc main_arg2) := by
    unfold V
    simp only [hostOps0, List.flatten_cons, List.flatten_nil, List.cons_append, List.nil_append, List.append_nil]
    after_results
    try rfl
  generalize m ((c.tc : Thread nD τ).loc main_arg2) = y at hb ⊢
  blk_point [iblk, hb, idx t]

/-- The weights of operand 3 at a grid point. -/
theorem block3 (c : Dev nD) (t : Fin cfg0.N) (k : Fin 512) (d : Fin 1024) :
    ((iblk m c 3 t : Vec Ideal S512x1024 .bf16) (ix2 k d) : EReal) = upper (m ((c.tc : Thread nD τ).loc main_arg3)) (ix2 k d) := by
  have hb := uppers m c
  generalize upper (m ((c.tc : Thread nD τ).loc main_arg3)) = y at hb ⊢
  blk_point [iblk, hb, idx t]

/-- The weights of operand 4 at a grid point. -/
theorem block4 (c : Dev nD) (t : Fin cfg0.N) (k : Fin 512) (d : Fin 1024) :
    ((iblk m c 4 t : Vec Ideal S512x1024 .bf16) (ix2 k d) : EReal) = lower (m ((c.tc : Thread nD τ).loc main_arg3)) (ix2 k d) := by
  have hb := lowers m c
  generalize lower (m ((c.tc : Thread nD τ).loc main_arg3)) = y at hb ⊢
  blk_point [iblk, hb, idx t]

/-- The result array after the run. -/
theorem final5 (c : Dev nD) : (dats m 0 c).arrAt 5 (cfgs 0).N = Cert.OutSRefIdeal.Read.val_main_v3 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ y => ?_
  have ht := count t
  blk_simp
  rw [after0_5]; unfold out0_5; frame_out
  idx_vars y
  refine (pay1_at (iblk m c 1 t) (iblk m c 3 t) (iblk m c 2 t) (iblk m c 4 t) (iblk m c 0 t) y0 y1).trans ?_
  simp only [block0, block1, block2, block3, block4, upper_at, lower_at]
  refine (Cert.OutSRefIdeal.Hand.split_at (m ((c.tc : Thread nD τ).loc main_arg0)) (m ((c.tc : Thread nD τ).loc main_arg1)) (m ((c.tc : Thread nD τ).loc main_arg2)) (m ((c.tc : Thread nD τ).loc main_arg3)) ⟨512 * t.val + y0.val, by omega⟩ y1).symm.trans ?_
  generalize Cert.OutSRefIdeal.Read.val_main_v3 (F := Ideal) (m ((c.tc : Thread nD τ).loc main_arg0)) (m ((c.tc : Thread nD τ).loc main_arg1)) (m ((c.tc : Thread nD τ).loc main_arg2)) (m ((c.tc : Thread nD τ).loc main_arg3)) = X
  blk_point [idx t]

end Cert.OutSIdeal.Hand

end
-- ==== Proof.OutS.Claims.lean ====
module

public import proofs.«01_k».proof.Proof.OutS.Value
public import proofs.«01_k».proof.Proof.Gen.OutSRefIdeal.Run
public import proofs.«01_k».proof.Proof.Gen.OutSIdeal.Value
public import proofs.«01_k».proof.Defs

/-! The claims about the sample group's output projection: the reference runs and leaves its arguments, and the two programs' results are equal. -/

@[expose] public section

set_option maxRecDepth 16384

noncomputable section
open Idealize.ShloMosaic Idealize.ShloMosaic.TcCoe Idealize.SL.Sem
open Idealize.ShloMosaic.Pipeline (Dat)

namespace Cert.Proof.OutS
open Cert.OutSIdeal

/-- The reference runs and leaves its arguments. -/
theorem frame_ref (m : (ℓ : Loc Cert.OutSRefIdeal.nD Cert.OutSRefIdeal.τ Cert.OutSRefIdeal.sig) → Buf (Elt Ideal) ℓ) (g : Dev Cert.OutSRefIdeal.nD → PrngReg) :
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2)
      ∧ r.2.mem ((c.tc : Thread Cert.OutSRefIdeal.nD Cert.OutSRefIdeal.τ).loc Cert.OutSRefIdeal.main_arg3) = m ((c.tc : Thread Cert.OutSRefIdeal.nD Cert.OutSRefIdeal.τ).loc Cert.OutSRefIdeal.main_arg3))
      ∧ r.2.sem = fun _ => 0) :=
  θ_run_mono (Cert.OutSRefIdeal.Value.run m g) fun r h => ⟨fun c => (h c).2, sem_eq_zero_of_no_sems (by decide) r.2⟩

/-- Over exact arithmetic the kernel's results are the reference's. -/
theorem algebraic [hOutSIdeal : Cert.OutSIdeal.Facts] [hOutSRefIdeal : Cert.OutSRefIdeal.Facts] : Cert.algebraic_OutSIdeal_OutSRefIdeal := by
  intro m g m' g' hpre hagree
  refine ⟨fun c => Cert.OutSRefIdeal.Read.val_main_v3 (F := Ideal) (m ((c.tc : Thread Cert.OutSIdeal.nD Cert.OutSIdeal.τ).loc Cert.OutSIdeal.main_arg0)) (m ((c.tc : Thread Cert.OutSIdeal.nD Cert.OutSIdeal.τ).loc Cert.OutSIdeal.main_arg1)) (m ((c.tc : Thread Cert.OutSIdeal.nD Cert.OutSIdeal.τ).loc Cert.OutSIdeal.main_arg2)) (m ((c.tc : Thread Cert.OutSIdeal.nD Cert.OutSIdeal.τ).loc Cert.OutSIdeal.main_arg3)), ?_, ?_⟩
  · exact θ_run_mono (Cert.OutSIdeal.Value.run_blocks m g) fun r h c =>
      ⟨(h c).1.trans (Cert.OutSIdeal.Hand.final5 m c), (h c).2⟩
  · refine θ_run_mono (Cert.OutSRefIdeal.Value.run m' g') fun r h c =>
      ⟨(h c).1.trans ?_, (h c).2⟩
    all_goals obtain ⟨h0, h1, h2, h3⟩ := hagree c
    · rw [Cert.OutSRefIdeal.Read.val_main_v3_eq, h0, h1, h2, h3]

end Cert.Proof.OutS

end
-- ==== Proof.Out.Pay.lean ====
module

public import proofs.«01_k».proof.Proof.Gen.OutIdeal.Skeleton
public import Idealize.ShloMosaic.Lib.Pointwise

/-! An entry of what the kernel's body stores: the input plus two products. -/

@[expose] public section

set_option maxRecDepth 16384

noncomputable section
open Idealize.ShloMosaic Idealize.ShloMosaic.TcCoe Idealize.SL.Sem
open Idealize.ShloMosaic.Pipeline (Dat)

namespace Cert.OutIdeal.Hand
open Cert.OutIdeal Cert.OutIdeal.Gen

/-- An entry of the block the body stores. -/
theorem pay1_at (a : Vec Ideal S512x512 .f32) (wa : Vec Ideal S512x1024 .bf16) (b : Vec Ideal S512x512 .f32) (wb : Vec Ideal S512x1024 .bf16) (x : Vec Ideal S512x1024 .f32) (r : Fin 512) (d : Fin 1024) :
    (k0_pay1 a wa b wb x (ix2 r d) : EReal)
      = x (ix2 r d) + ((∑ k : Fin 512, (a (ix2 r k) : EReal) * wa (ix2 k d)) + ∑ k : Fin 512, (b (ix2 r k) : EReal) * wb (ix2 k d)) := by
  pointwise [k0_pay1]

end Cert.OutIdeal.Hand

end
-- ==== Proof.Out.RefAt.lean ====
module

public import proofs.«01_k».proof.Proof.Gen.OutRefIdeal.Read
public import Idealize.ShloMosaic.Lib.Pointwise
public import proofs.«01_k».proof.Proof.Norm

/-! Entries of the reference's result. -/

@[expose] public section

set_option maxRecDepth 16384

noncomputable section
open Idealize.ShloMosaic Idealize.ShloMosaic.TcCoe Idealize.SL.Sem
open Idealize.ShloMosaic.Pipeline (Dat)

namespace Cert.OutRefIdeal.Hand
open Cert.OutRefIdeal Cert.OutRefIdeal.Gen Cert.OutRefIdeal.Read

variable (x : FVec Ideal S16384x1024 .f32) (a b : FVec Ideal S16384x512 .f32) (w : FVec Ideal S1x1024x1024 .f32)

/-- An entry of the reference's result, with the sum over the joined columns. -/
theorem v3_at (n : Fin 16384) (d : Fin 1024) :
    (val_main_v3 (F := Ideal) x a b w (ix2 n d) : EReal) = x (ix2 n d) + ∑ k, (val_main_v0 (F := Ideal) a b (ix2 n k) : EReal) * w (ix3 0 k d) := by
  pointwise [val_main_v3, val_main_v2, val_main_v1]

/-- The first half of the joined columns. -/
theorem left_at (n : Fin 16384) (k : Fin 512) : (val_main_v0 (F := Ideal) a b (ix2 n ⟨k.val, by omega⟩) : EReal) = a (ix2 n k) := by
  pointwise [val_main_v0]

/-- The second half of the joined columns. -/
theorem right_at (n : Fin 16384) (k : Fin 512) : (val_main_v0 (F := Ideal) a b (ix2 n ⟨512 + k.val, by omega⟩) : EReal) = b (ix2 n k) := by
  pointwise [val_main_v0]

/-- An entry of the reference's result, as two sums. -/
theorem split_at (n : Fin 16384) (d : Fin 1024) :
    (val_main_v3 (F := Ideal) x a b w (ix2 n d) : EReal)
      = x (ix2 n d) + ((∑ k : Fin 512, (a (ix2 n k) : EReal) * w (ix3 0 ⟨k.val, by omega⟩ d)) + ∑ k : Fin 512, (b (ix2 n k) : EReal) * w (ix3 0 ⟨512 + k.val, by omega⟩ d)) := by
  rw [v3_at]
  refine congrArg (fun z : EReal => (x (ix2 n d) : EReal) + z) ?_
  rw [Fin.sum_univ_two_halves 512 512 (by decide)]
  refine congrArg₂ (fun p q : EReal => p + q) (Finset.sum_congr rfl fun k _ => ?_) (Finset.sum_congr rfl fun k _ => ?_)
  · rw [← left_at a b n k]
  · rw [← right_at a b n k]

end Cert.OutRefIdeal.Hand

end
-- ==== Proof.Out.Value.lean ====
module

public import proofs.«01_k».proof.Proof.Out.Pay
public import proofs.«01_k».proof.Proof.Out.RefAt
public import proofs.«01_k».proof.Proof.Gen.OutIdeal.Frame
public import Idealize.ShloMosaic.Lib.Pipeline.ValueKit
public import Idealize.ShloMosaic.Lib.Claim

/-! The output projection's result array after the run is the reference's result. -/

@[expose] public section

set_option maxRecDepth 16384

noncomputable section
open Idealize.ShloMosaic Idealize.ShloMosaic.TcCoe Idealize.SL.Sem
open Idealize.ShloMosaic.Pipeline (Dat)

namespace Cert.OutIdeal.Hand
open Cert.OutIdeal Cert.OutIdeal.Gen

variable (m : (ℓ : Loc nD τ sig) → Buf (Elt Ideal) ℓ)

/-- The blocks each window takes at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- The launch has 32 grid points. -/
theorem count (t : Fin cfg0.N) : t.val < 32 := t.isLt

/-- The rows of the weights for the first operand. -/
def upper (w : FVec Ideal S1x1024x1024 .f32) : FVec Ideal S512x1024 .bf16 :=
  extractStridedSlice S512x1024 ![0, 0] (truncf .bf16 (shapeCast S1024x1024 w shapeCasts_S1x1024x1024_S1024x1024 : FVec Ideal S1024x1024 .f32) bitsLt_bf16_f32 : FVec Ideal S1024x1024 .bf16) slices_S1024x1024_S512x1024_0_0

/-- The rows of the weights for the second operand. -/
def lower (w : FVec Ideal S1x1024x1024 .f32) : FVec Ideal S512x1024 .bf16 :=
  extractStridedSlice S512x1024 ![512, 0] (truncf .bf16 (shapeCast S1024x1024 w shapeCasts_S1x1024x1024_S1024x1024 : FVec Ideal S1024x1024 .f32) bitsLt_bf16_f32 : FVec Ideal S1024x1024 .bf16) slices_S1024x1024_S512x1024_512_0

/-- The first half of the weights as the launch reads them. -/
theorem uppers (c : Dev nD) : V m c main_v2 = upper (m ((c.tc : Thread nD τ).loc main_arg3)) := by
  unfold V upper
  simp only [hostOps0, List.flatten_cons, List.flatten_nil, List.cons_append, List.nil_append, List.append_nil]
  after_results
  try rfl

/-- The second half of the weights as the launch reads them. -/
theorem lowers (c : Dev nD) : V m c main_v3 = lower (m ((c.tc : Thread nD τ).loc main_arg3)) := by
  unfold V lower
  simp only [hostOps0, List.flatten_cons, List.flatten_nil, List.cons_append, List.nil_append, List.append_nil]
  after_results
  try rfl

/-- An entry of the first half of the weights. -/
theorem upper_at (w : FVec Ideal S1x1024x1024 .f32) (k : Fin 512) (d : Fin 1024) : (upper w (ix2 k d) : EReal) = w (ix3 0 ⟨k.val, by omega⟩ d) := by
  pointwise [upper]

/-- An entry of the second half of the weights. -/
theorem lower_at (w : FVec Ideal S1x1024x1024 .f32) (k : Fin 512) (d : Fin 1024) : (lower w (ix2 k d) : EReal) = w (ix3 0 ⟨512 + k.val, by omega⟩ d) := by
  pointwise [lower]

/-- The block of operand 0 at a grid point. -/
theorem block0 (c : Dev nD) (t : Fin cfg0.N) (r : Fin 512) (k : Fin 1024) :
    ((iblk m c 0 t : Vec Ideal S512x1024 .f32) (ix2 r k) : EReal)
      = (m ((c.tc : Thread nD τ).loc main_arg0) : FVec Ideal S16384x1024 .f32) (ix2 ⟨512 * t.val + r.val, by have := count t; omega⟩ k) := by
  have hb : V m c main_arg0 = m ((c.tc : Thread nD τ).loc main_arg0) := by
    unfold V
    simp only [hostOps0, List.flatten_cons, List.flatten_nil, List.cons_append, List.nil_append, List.append_nil]
    after_results
    try rfl
  generalize m ((c.tc : Thread nD τ).loc main_arg0) = y at hb ⊢
  blk_point [iblk, hb, idx t]

/-- The block of operand 1 at a grid point. -/
theorem block1 (c : Dev nD) (t : Fin cfg0.N) (r : Fin 512) (k : Fin 512) :
    ((iblk m c 1 t : Vec Ideal S512x512 .f32) (ix2 r k) : EReal)
      = (m ((c.tc : Thread nD τ).loc main_arg1) : FVec Ideal S16384x512 .f32) (ix2 ⟨512 * t.val + r.val, by have := count t; omega⟩ k) := by
  have hb : V m c main_arg1 = m ((c.tc : Thread nD τ).loc main_arg1) := by
    unfold V
    simp only [hostOps0, List.flatten_cons, List.flatten_nil, List.cons_append, List.nil_append, List.append_nil]
    after_results
    try rfl
  generalize m ((c.tc : Thread nD τ).loc main_arg1) = y at hb ⊢
  blk_point [iblk, hb, idx t]

/-- The block of operand 2 at a grid point. -/
theorem block2 (c : Dev nD) (t : Fin cfg0.N) (r : Fin 512) (k : Fin 512) :
    ((iblk m c 2 t : Vec Ideal S512x512 .f32) (ix2 r k) : EReal)
      = (m ((c.tc : Thread nD τ).loc main_arg2) : FVec Ideal S16384x512 .f32) (ix2 ⟨512 * t.val + r.val, by have := count t; omega⟩ k) := by
  have hb : V m c main_arg2 = m ((c.tc : Thread nD τ).loc main_arg2) := by
    unfold V
    simp only [hostOps0, List.flatten_cons, List.flatten_nil, List.cons_append, List.nil_append, List.append_nil]
    after_results
    try rfl
  generalize m ((c.tc : Thread nD τ).loc main_arg2) = y at hb ⊢
  blk_point [iblk, hb, idx t]

/-- The weights of operand 3 at a grid point. -/
theorem block3 (c : Dev nD) (t : Fin cfg0.N) (k : Fin 512) (d : Fin 1024) :
    ((iblk m c 3 t : Vec Ideal S512x1024 .bf16) (ix2 k d) : EReal) = upper (m ((c.tc : Thread nD τ).loc main_arg3)) (ix2 k d) := by
  have hb := uppers m c
  generalize upper (m ((c.tc : Thread nD τ).loc main_arg3)) = y at hb ⊢
  blk_point [iblk, hb, idx t]

/-- The weights of operand 4 at a grid point. -/
theorem block4 (c : Dev nD) (t : Fin cfg0.N) (k : Fin 512) (d : Fin 1024) :
    ((iblk m c 4 t : Vec Ideal S512x1024 .bf16) (ix2 k d) : EReal) = lower (m ((c.tc : Thread nD τ).loc main_arg3)) (ix2 k d) := by
  have hb := lowers m c
  generalize lower (m ((c.tc : Thread nD τ).loc main_arg3)) = y at hb ⊢
  blk_point [iblk, hb, idx t]

/-- The result array after the run. -/
theorem final5 (c : Dev nD) : (dats m 0 c).arrAt 5 (cfgs 0).N = Cert.OutRefIdeal.Read.val_main_v3 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ y => ?_
  have ht := count t
  blk_simp
  rw [after0_5]; unfold out0_5; frame_out
  idx_vars y
  refine (pay1_at (iblk m c 1 t) (iblk m c 3 t) (iblk m c 2 t) (iblk m c 4 t) (iblk m c 0 t) y0 y1).trans ?_
  simp only [block0, block1, block2, block3, block4, upper_at, lower_at]
  refine (Cert.OutRefIdeal.Hand.split_at (m ((c.tc : Thread nD τ).loc main_arg0)) (m ((c.tc : Thread nD τ).loc main_arg1)) (m ((c.tc : Thread nD τ).loc main_arg2)) (m ((c.tc : Thread nD τ).loc main_arg3)) ⟨512 * t.val + y0.val, by omega⟩ y1).symm.trans ?_
  generalize Cert.OutRefIdeal.Read.val_main_v3 (F := Ideal) (m ((c.tc : Thread nD τ).loc main_arg0)) (m ((c.tc : Thread nD τ).loc main_arg1)) (m ((c.tc : Thread nD τ).loc main_arg2)) (m ((c.tc : Thread nD τ).loc main_arg3)) = X
  blk_point [idx t]

end Cert.OutIdeal.Hand

end
-- ==== Proof.Out.Claims.lean ====
module

public import proofs.«01_k».proof.Proof.Out.Value
public import proofs.«01_k».proof.Proof.Gen.OutRefIdeal.Run
public import proofs.«01_k».proof.Proof.Gen.OutIdeal.Value
public import proofs.«01_k».proof.Defs

/-! The claims about the output projection: the reference runs and leaves its arguments, and the two programs' results are equal. -/

@[expose] public section

set_option maxRecDepth 16384

noncomputable section
open Idealize.ShloMosaic Idealize.ShloMosaic.TcCoe Idealize.SL.Sem
open Idealize.ShloMosaic.Pipeline (Dat)

namespace Cert.Proof.Out
open Cert.OutIdeal

/-- The reference runs and leaves its arguments. -/
theorem frame_ref (m : (ℓ : Loc Cert.OutRefIdeal.nD Cert.OutRefIdeal.τ Cert.OutRefIdeal.sig) → Buf (Elt Ideal) ℓ) (g : Dev Cert.OutRefIdeal.nD → PrngReg) :
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0) :=
  θ_run_mono (Cert.OutRefIdeal.Value.run m g) fun r h => ⟨fun c => (h c).2, sem_eq_zero_of_no_sems (by decide) r.2⟩

/-- Over exact arithmetic the kernel's results are the reference's. -/
theorem algebraic [hOutIdeal : Cert.OutIdeal.Facts] [hOutRefIdeal : Cert.OutRefIdeal.Facts] : Cert.algebraic_OutIdeal_OutRefIdeal := by
  intro m g m' g' hpre hagree
  refine ⟨fun c => Cert.OutRefIdeal.Read.val_main_v3 (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)), ?_, ?_⟩
  · exact θ_run_mono (Cert.OutIdeal.Value.run_blocks m g) fun r h c =>
      ⟨(h c).1.trans (Cert.OutIdeal.Hand.final5 m c), (h c).2⟩
  · refine θ_run_mono (Cert.OutRefIdeal.Value.run m' g') fun r h c =>
      ⟨(h c).1.trans ?_, (h c).2⟩
    all_goals obtain ⟨h0, h1, h2, h3⟩ := hagree c
    · rw [Cert.OutRefIdeal.Read.val_main_v3_eq, h0, h1, h2, h3]

end Cert.Proof.Out

end
-- ==== Proof.ProjS.Pay.lean ====
module

public import proofs.«01_k».proof.Proof.Gen.ProjSIdeal.Skeleton
public import Idealize.ShloMosaic.Lib.Pointwise
public import proofs.«01_k».proof.Proof.Norm

/-! Entries of what the kernel's body stores: a normalized row times a column of the weights. -/

@[expose] public section

set_option maxRecDepth 512

noncomputable section
open Idealize.ShloMosaic Idealize.ShloMosaic.TcCoe Idealize.SL.Sem
open Idealize.ShloMosaic.Pipeline (Dat)

namespace Cert.ProjSIdeal.Hand
open Cert.ProjSIdeal Cert.ProjSIdeal.Gen

/-- An entry of the normalized block. -/
theorem pay6_at (x : Vec Ideal S512x1024 .f32) (g : Vec Ideal S1x1024 .f32) (r : Fin 512) (k : Fin 1024) :
    (k0_pay6 x g (ix2 r k) : EReal) = Norm.rms (fun j => x (ix2 r j)) (fun j => g (ix2 0 j)) k := by
  unfold Norm.rms
  pointwise [k0_pay6]

/-- An entry of a product of the normalized block and 512 columns of weights. -/
theorem pay7_at (x : Vec Ideal S512x1024 .f32) (g : Vec Ideal S1x1024 .f32) (w : Vec Ideal S1024x512 .bf16) (r : Fin 512) (d : Fin 512) :
    (k0_pay7 x g w (ix2 r d) : EReal) = ∑ k, (k0_pay6 x g (ix2 r k) : EReal) * w (ix2 k d) := by
  pointwise [k0_pay7]

/-- An entry of a product of the normalized block and 512 columns of weights. -/
theorem pay8_at (x : Vec Ideal S512x1024 .f32) (g : Vec Ideal S1x1024 .f32) (w : Vec Ideal S1024x512 .bf16) (r : Fin 512) (d : Fin 512) :
    (k0_pay8 x g w (ix2 r d) : EReal) = ∑ k, (k0_pay6 x g (ix2 r k) : EReal) * w (ix2 k d) := by
  pointwise [k0_pay8]

/-- An entry of a product of the normalized block and 256 columns of weights. -/
theorem pay10_at (x : Vec Ideal S512x1024 .f32) (g : Vec Ideal S1x1024 .f32) (w : Vec Ideal S1024x256 .bf16) (r : Fin 512) (d : Fin 256) :
    (k0_pay10 x g w (ix2 r d) : EReal) = ∑ k, (k0_pay6 x g (ix2 r k) : EReal) * w (ix2 k d) := by
  pointwise [k0_pay10]

/-- An entry of a product of the normalized block and 512 columns of weights. -/
theorem pay2_at (h : FVec Ideal S512x1024 .bf16) (w : Vec Ideal S1024x512 .bf16) (r : Fin 512) (d : Fin 512) :
    (k0_pay2 h w (ix2 r d) : EReal) = ∑ k, (h (ix2 r k) : EReal) * w (ix2 k d) := by
  pointwise [k0_pay2]

/-- An entry of a product of the normalized block and 1024 columns of weights. -/
theorem pay3_at (h : FVec Ideal S512x1024 .bf16) (w : Vec Ideal S1024x1024 .bf16) (r : Fin 512) (d : Fin 1024) :
    (k0_pay3 h w (ix2 r d) : EReal) = ∑ k, (h (ix2 r k) : EReal) * w (ix2 k d) := by
  pointwise [k0_pay3]

/-- An entry of a product of the normalized block and 128 columns of weights. -/
theorem pay5_at (h : FVec Ideal S512x1024 .bf16) (w : Vec Ideal S1024x128 .bf16) (r : Fin 512) (d : Fin 128) :
    (k0_pay5 h w (ix2 r d) : EReal) = ∑ k, (h (ix2 r k) : EReal) * w (ix2 k d) := by
  pointwise [k0_pay5]

end Cert.ProjSIdeal.Hand

end
-- ==== Proof.ProjS.Blocks.lean ====
module

public import proofs.«01_k».proof.Proof.Gen.ProjSIdeal.Frame
public import Idealize.ShloMosaic.Lib.Pipeline.ValueKit
public import Idealize.ShloMosaic.Lib.Claim

/-! What each window of the projection's launch holds at a grid point, in terms of the program's arguments. -/

@[expose] public section

set_option maxRecDepth 512

noncomputable section
open Idealize.ShloMosaic Idealize.ShloMosaic.TcCoe Idealize.SL.Sem
open Idealize.ShloMosaic.Pipeline (Dat)

namespace Cert.ProjSIdeal.Hand
open Cert.ProjSIdeal Cert.ProjSIdeal.Gen

variable (m : (ℓ : Loc nD τ sig) → Buf (Elt Ideal) ℓ)

/-- The blocks each window takes at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] :=
  (by decide +kernel : ∀ t : Fin grid0.N, _)

/-- An entry of the gains as a row. -/
theorem gain_at (g : FVec Ideal S1024 .f32) (k : Fin 1024) :
    (shapeCast S1x1024 g shapeCasts_S1024_S1x1024 (ix2 0 k) : EReal) = g (ix1 k) := by
  pointwise

/-- The launch has one grid point. -/
theorem count (t : Fin cfg0.N) : t.val < 1 := t.isLt

/-- The gates' columns and 104 columns of zeros. -/
def padded (w : FVec Ideal S1x1024x2840 .f32) : FVec Ideal S1024x128 .f32 :=
  pad S1024x128 ![0, 0] ![0, 104] ![0, 0] (extractStridedSlice S1024x24 ![0, 1280] (shapeCast S1024x2840 w shapeCasts_S1x1024x2840_S1024x2840) slices_S1024x2840_S1024x24_0_1280) (sitofp .f32 (constantI S_ 32 0#32)) pads_S1024x24_S1024x128_000_01040 h_S_

/-- The packed weights: the query, key, window, differential columns side by side, the gates' columns last and padded. -/
def packed (w : FVec Ideal S1x1024x2840 .f32) : FVec Ideal S1024x2944 .bf16 :=
  truncf .bf16 (concatenate S1024x2944 1
    [⟨S1024x512, extractStridedSlice S1024x512 ![0, 0] (shapeCast S1024x2840 w shapeCasts_S1x1024x2840_S1024x2840) slices_S1024x2840_S1024x512_0_0⟩,
     ⟨S1024x512, extractStridedSlice S1024x512 ![0, 512] (shapeCast S1024x2840 w shapeCasts_S1x1024x2840_S1024x2840) slices_S1024x2840_S1024x512_0_512⟩,
     ⟨S1024x256, extractStridedSlice S1024x256 ![0, 1024] (shapeCast S1024x2840 w shapeCasts_S1x1024x2840_S1024x2840) slices_S1024x2840_S1024x256_0_1024⟩,
     ⟨S1024x512, extractStridedSlice S1024x512 ![0, 1304] (shapeCast S1024x2840 w shapeCasts_S1x1024x2840_S1024x2840) slices_S1024x2840_S1024x512_0_1304⟩,
     ⟨S1024x1024, extractStridedSlice S1024x1024 ![0, 1816] (shapeCast S1024x2840 w shapeCasts_S1x1024x2840_S1024x2840) slices_S1024x2840_S1024x1024_0_1816⟩,
     ⟨S1024x128, padded w⟩]
    concatenates_S1024x512_S1024x512_S1024x256_S1024x512_S1024x1024_S1024x128_S1024x2944_d1 : FVec Ideal S1024x2944 .f32) bitsLt_bf16_f32

theorem rows (c : Dev nD) : V m c main_v0 = shapeCast S512x1024 (m ((c.tc : Thread nD τ).loc main_arg0)) shapeCasts_S128x4x1024_S512x1024 := by
  unfold V
  simp only [hostOps0, hostOps0_1, hostOps0_2, List.flatten_cons, List.flatten_nil, List.cons_append, List.nil_append, List.append_nil]
  after_results
  try rfl

theorem gains (c : Dev nD) : V m c main_v11 = shapeCast S1x1024 (m ((c.tc : Thread nD τ).loc main_arg1)) shapeCasts_S1024_S1x1024 := by
  unfold V
  simp only [hostOps0, hostOps0_1, hostOps0_2, List.flatten_cons, List.flatten_nil, List.cons_append, List.nil_append, List.append_nil]
  after_results
  try rfl

theorem weights (c : Dev nD) : V m c main_v10 = packed (m ((c.tc : Thread nD τ).loc main_arg2)) := by
  unfold V packed padded
  simp only [hostOps0, hostOps0_1, hostOps0_2, List.flatten_cons, List.flatten_nil, List.cons_append, List.nil_append, List.append_nil]
  after_results
  try rfl

theorem flat_at (x : FVec Ideal S128x4x1024 .f32) (n : Fin 512) (k : Fin 1024) :
    (shapeCast S512x1024 x shapeCasts_S128x4x1024_S512x1024 (ix2 n k) : EReal) = x (ix3 ⟨n.val / 4, by omega⟩ ⟨n.val % 4, by omega⟩ k) := by
  pointwise

theorem block0 (c : Dev nD) (t : Fin cfg0.N) (r : Fin 512) (k : Fin 1024) :
    ((iblk m c 0 t : Vec Ideal S512x1024 .f32) (ix2 r k) : EReal)
      = (m ((c.tc : Thread nD τ).loc main_arg0) : FVec Ideal S128x4x1024 .f32)
          (ix3 ⟨(512 * t.val + r.val) / 4, by have := count t; omega⟩ ⟨(512 * t.val + r.val) % 4, by omega⟩ k) := by
  refine Eq.trans ?_ (flat_at (m ((c.tc : Thread nD τ).loc main_arg0)) ⟨512 * t.val + r.val, by have := count t; omega⟩ k)
  have hb := rows m c
  generalize shapeCast S512x1024 (m ((c.tc : Thread nD τ).loc main_arg0)) shapeCasts_S128x4x1024_S512x1024 = y at hb ⊢
  blk_point [iblk, hb, idx t]

theorem block1 (c : Dev nD) (t : Fin cfg0.N) (k : Fin 1024) :
    ((iblk m c 1 t : Vec Ideal S1x1024 .f32) (ix2 0 k) : EReal)
      = (m ((c.tc : Thread nD τ).loc main_arg1) : FVec Ideal S1024 .f32) (ix1 k) := by
  refine Eq.trans ?_ (gain_at (m ((c.tc : Thread nD τ).loc main_arg1)) k)
  have hb := gains m c
  generalize shapeCast S1x1024 (m ((c.tc : Thread nD τ).loc main_arg1) : FVec Ideal S1024 .f32) shapeCasts_S1024_S1x1024 = y at hb ⊢
  blk_point [iblk, hb, idx t]

theorem block2 (c : Dev nD) (t : Fin cfg0.N) (k : Fin 1024) (d : Fin 2944) :
    ((iblk m c 2 t : Vec Ideal S1024x2944 .bf16) (ix2 k d) : EReal) = packed (m ((c.tc : Thread nD τ).loc main_arg2)) (ix2 k d) := by
  have hb := weights m c
  generalize packed (m ((c.tc : Thread nD τ).loc main_arg2)) = y at hb ⊢
  blk_point [iblk, hb, idx t]

variable (w : FVec Ideal S1x1024x2840 .f32)

theorem packed_q (k : Fin 1024) (d : Fin 512) : (packed w (ix2 k ⟨0 + d.val, by omega⟩) : EReal) = w (ix3 0 k ⟨0 + d.val, by omega⟩) := by
  pointwise [packed]

theorem packed_kv (k : Fin 1024) (d : Fin 512) : (packed w (ix2 k ⟨512 + d.val, by omega⟩) : EReal) = w (ix3 0 k ⟨512 + d.val, by omega⟩) := by
  pointwise [packed]

theorem packed_kvw (k : Fin 1024) (d : Fin 256) : (packed w (ix2 k ⟨1024 + d.val, by omega⟩) : EReal) = w (ix3 0 k ⟨1024 + d.val, by omega⟩) := by
  pointwise [packed]
  split_ifs <;> first | omega | (refine congrArg (fun z => w (ix3 0 k z)) (Fin.ext ?_); simp only []; omega)

theorem packed_dq (k : Fin 1024) (d : Fin 512) : (packed w (ix2 k ⟨1280 + d.val, by omega⟩) : EReal) = w (ix3 0 k ⟨1304 + d.val, by omega⟩) := by
  pointwise [packed]
  split_ifs <;> first | omega | (refine congrArg (fun z => w (ix3 0 k z)) (Fin.ext ?_); simp only []; omega)

theorem packed_dkv (k : Fin 1024) (d : Fin 1024) : (packed w (ix2 k ⟨1792 + d.val, by omega⟩) : EReal) = w (ix3 0 k ⟨1816 + d.val, by omega⟩) := by
  pointwise [packed]
  split_ifs <;> first | omega | (refine congrArg (fun z => w (ix3 0 k z)) (Fin.ext ?_); simp only []; omega)

theorem padded_at (k : Fin 1024) (d : Fin 128) :
    (padded w (ix2 k d) : EReal) = if h : d.val < 24 then w (ix3 0 k ⟨1280 + d.val, by omega⟩) else 0 := by
  split_ifs with h
  · pointwise [padded]
    rw [dif_pos h]
  · pointwise [padded]
    rw [dif_neg h]
    show (((0#32 : BitVec 32).toInt : ℝ) : EReal) = 0
    simp

theorem packed_gl (k : Fin 1024) (d : Fin 128) :
    (packed w (ix2 k ⟨2816 + d.val, by omega⟩) : EReal) = if h : d.val < 24 then w (ix3 0 k ⟨1280 + d.val, by omega⟩) else 0 := by
  rw [← padded_at]
  pointwise [packed]
  split_ifs <;> first | omega | (refine congrArg (fun z => padded w (ix2 k z)) (Fin.ext ?_); simp only []; omega)

end Cert.ProjSIdeal.Hand

end
-- ==== Proof.ProjS.RefAt.lean ====
module

public import proofs.«01_k».proof.Proof.Gen.ProjSRefIdeal.Read
public import Idealize.ShloMosaic.Lib.Pointwise
public import proofs.«01_k».proof.Proof.Norm

/-! Entries of the reference's results. -/

@[expose] public section

set_option maxRecDepth 512

noncomputable section
open Idealize.ShloMosaic Idealize.ShloMosaic.TcCoe Idealize.SL.Sem
open Idealize.ShloMosaic.Pipeline (Dat)

namespace Cert.ProjSRefIdeal.Hand
open Cert.ProjSRefIdeal Cert.ProjSRefIdeal.Gen Cert.ProjSRefIdeal.Read

variable (x : FVec Ideal S128x4x1024 .f32) (g : FVec Ideal S1024 .f32) (w : FVec Ideal S1x1024x2840 .f32)

/-- An entry of the normalized input. -/
theorem v12_at (b : Fin 128) (t : Fin 4) (k : Fin 1024) :
    (val_main_v12 (F := Ideal) x g (ix3 b t k) : EReal) = Norm.rms (fun j => x (ix3 b t j)) (fun j => g (ix1 j)) k := by
  unfold Norm.rms
  pointwise [val_main_v12, val_main_v9, val_main_v11, val_main_v10, val_main_v8, val_main_v7, val_main_v6, val_main_v5,
    val_main_cst_1, val_main_v4, val_main_v3, val_main_cst_0, val_main_v2, val_main_v1, val_main_cst, val_main_v0]

/-- An entry of the combined projection. -/
theorem v15_at (n : Fin 512) (d : Fin 2840) :
    (val_main_v15 (F := Ideal) x g w (ix2 n d) : EReal) = ∑ k, (val_main_v12 (F := Ideal) x g (ix3 ⟨n.val / 4, by omega⟩ ⟨n.val % 4, by omega⟩ k) : EReal) * w (ix3 0 k d) := by
  pointwise [val_main_v15, val_main_v14, val_main_v13]

/-- Row `n` of the projection at column `d`, written out. -/
def entry (n : Fin 512) (d : Fin 2840) : EReal :=
  ∑ k, Norm.rms (fun j => x (ix3 ⟨n.val / 4, by omega⟩ ⟨n.val % 4, by omega⟩ j)) (fun j => g (ix1 j)) k * w (ix3 0 k d)

theorem v15_entry (n : Fin 512) (d : Fin 2840) : (val_main_v15 (F := Ideal) x g w (ix2 n d) : EReal) = entry x g w n d := by
  rw [v15_at]
  exact Finset.sum_congr rfl fun k _ => by rw [v12_at]

theorem v16_at (n : Fin 512) (d : Fin 512) : (val_main_v16 (F := Ideal) x g w (ix2 n d) : EReal) = entry x g w n ⟨0 + d.val, by omega⟩ := by
  rw [← v15_entry]
  pointwise [val_main_v16]

theorem v17_at (n : Fin 512) (d : Fin 512) : (val_main_v17 (F := Ideal) x g w (ix2 n d) : EReal) = entry x g w n ⟨512 + d.val, by omega⟩ := by
  rw [← v15_entry]
  pointwise [val_main_v17]

theorem v18_at (n : Fin 512) (d : Fin 256) : (val_main_v18 (F := Ideal) x g w (ix2 n d) : EReal) = entry x g w n ⟨1024 + d.val, by omega⟩ := by
  rw [← v15_entry]
  pointwise [val_main_v18]

theorem v20_at (n : Fin 512) (d : Fin 512) : (val_main_v20 (F := Ideal) x g w (ix2 n d) : EReal) = entry x g w n ⟨1304 + d.val, by omega⟩ := by
  rw [← v15_entry]
  pointwise [val_main_v20]

theorem v21_at (n : Fin 512) (d : Fin 1024) : (val_main_v21 (F := Ideal) x g w (ix2 n d) : EReal) = entry x g w n ⟨1816 + d.val, by omega⟩ := by
  rw [← v15_entry]
  pointwise [val_main_v21]

theorem v22_at (n : Fin 512) (d : Fin 512) : (val_main_v22 (F := Ideal) x g w (ix2 n d) : EReal) = entry x g w n ⟨512 + d.val, by omega⟩ := by
  rw [← v17_at]
  pointwise [val_main_v22]

theorem v23_at (n : Fin 512) (d : Fin 256) : (val_main_v23 (F := Ideal) x g w (ix2 n d) : EReal) = entry x g w n ⟨1024 + d.val, by omega⟩ := by
  rw [← v18_at]
  pointwise [val_main_v23]

theorem v24_at (n : Fin 512) (d : Fin 1024) : (val_main_v24 (F := Ideal) x g w (ix2 n d) : EReal) = entry x g w n ⟨1816 + d.val, by omega⟩ := by
  rw [← v21_at]
  pointwise [val_main_v24]

/-- The gates' columns, then zeros. -/
theorem v25_at (n : Fin 512) (d : Fin 128) :
    (val_main_v25 (F := Ideal) x g w (ix2 n d) : EReal) = if h : d.val < 24 then entry x g w n ⟨1280 + d.val, by omega⟩ else 0 := by
  split_ifs with h
  · rw [← v15_entry]
    pointwise [val_main_v25, val_main_v19]
    rw [dif_pos h]
  · pointwise [val_main_v25, val_main_call0_v0, val_main_c]
    rw [dif_neg h]
    show (((0#32 : BitVec 32).toInt : ℝ) : EReal) = 0
    simp

end Cert.ProjSRefIdeal.Hand

end
-- ==== Proof.ProjS.Value.lean ====
module

public import proofs.«01_k».proof.Proof.ProjS.Pay
public import proofs.«01_k».proof.Proof.ProjS.Blocks
public import proofs.«01_k».proof.Proof.ProjS.RefAt

/-! The projection's result arrays after the run are the reference's results. -/

@[expose] public section

set_option maxRecDepth 512

noncomputable section
open Idealize.ShloMosaic Idealize.ShloMosaic.TcCoe Idealize.SL.Sem
open Idealize.ShloMosaic.Pipeline (Dat)

namespace Cert.ProjSIdeal.Hand
open Cert.ProjSIdeal Cert.ProjSIdeal.Gen

variable (m : (ℓ : Loc nD τ sig) → Buf (Elt Ideal) ℓ)

/-- Row `512 t + r` of the projection at the weights' column `d`, over the program's arguments. -/
abbrev want (c : Dev nD) (t : Fin cfg0.N) (r : Fin 512) (d : Fin 2840) : EReal :=
  Cert.ProjSRefIdeal.Hand.entry (m ((c.tc : Thread nD τ).loc main_arg0)) (m ((c.tc : Thread nD τ).loc main_arg1)) (m ((c.tc : Thread nD τ).loc main_arg2))
    ⟨512 * t.val + r.val, by have := count t; omega⟩ d

/-- A row of the block, normalized, is the reference's. -/
theorem norm_at (c : Dev nD) (t : Fin cfg0.N) (r : Fin 512) (k : Fin 1024) :
    (k0_pay6 (iblk m c 0 t : Vec Ideal S512x1024 .f32) (iblk m c 1 t : Vec Ideal S1x1024 .f32) (ix2 r k) : EReal)
      = Norm.rms (fun j => (m ((c.tc : Thread nD τ).loc main_arg0) : FVec Ideal S128x4x1024 .f32) (ix3 ⟨(512 * t.val + r.val) / 4, by have := count t; omega⟩ ⟨(512 * t.val + r.val) % 4, by omega⟩ j))
          (fun j => (m ((c.tc : Thread nD τ).loc main_arg1) : FVec Ideal S1024 .f32) (ix1 j)) k := by
  rw [pay6_at]
  simp only [block0, block1]

/-- A normalized row times a column of the packed weights that is a column of the weights. -/
theorem sum_at (c : Dev nD) (t : Fin cfg0.N) (r : Fin 512) (d : Fin 2944) (e : Fin 2840)
    (h : ∀ k, (packed (m ((c.tc : Thread nD τ).loc main_arg2)) (ix2 k d) : EReal) = (m ((c.tc : Thread nD τ).loc main_arg2) : FVec Ideal S1x1024x2840 .f32) (ix3 0 k e)) :
    (∑ k : Fin 1024, (k0_pay6 (iblk m c 0 t : Vec Ideal S512x1024 .f32) (iblk m c 1 t : Vec Ideal S1x1024 .f32) (ix2 r k) : EReal)
      * (iblk m c 2 t : Vec Ideal S1024x2944 .bf16) (ix2 k d)) = want m c t r e := by
  unfold want Cert.ProjSRefIdeal.Hand.entry
  refine Finset.sum_congr rfl fun k _ => ?_
  rw [norm_at, block2, h]

/-- The reads of the body's stores for window 3, as sums. -/
theorem read3 (x0 : Vec Ideal S512x1024 .f32) (x1 : Vec Ideal S1x1024 .f32) (x2 : Vec Ideal S1024x2944 .bf16) (r : Fin 512) (d : Fin 512) :
    (k0_pay7 x0 x1 (View.ld x2 r0_2) (ix2 r d) : EReal)
      = ∑ k : Fin 1024, (k0_pay6 x0 x1 (ix2 r k) : EReal) * x2 (ix2 k ⟨0 + d.val, by omega⟩) := by
  rw [pay7_at]
  refine Finset.sum_congr rfl fun k _ => ?_
  refine congrArg (fun z : EReal => (k0_pay6 x0 x1 (ix2 r k) : EReal) * z) ?_
  pointwise

/-- The reads of the body's stores for window 4, as sums. -/
theorem read4 (x0 : Vec Ideal S512x1024 .f32) (x1 : Vec Ideal S1x1024 .f32) (x2 : Vec Ideal S1024x2944 .bf16) (r : Fin 512) (d : Fin 512) :
    (k0_pay8 x0 x1 (View.ld x2 r0_4) (ix2 r d) : EReal)
      = ∑ k : Fin 1024, (k0_pay6 x0 x1 (ix2 r k) : EReal) * x2 (ix2 k ⟨512 + d.val, by omega⟩) := by
  rw [pay8_at]
  refine Finset.sum_congr rfl fun k _ => ?_
  refine congrArg (fun z : EReal => (k0_pay6 x0 x1 (ix2 r k) : EReal) * z) ?_
  pointwise

/-- The reads of the body's stores for window 6, as sums. -/
theorem read6 (x0 : Vec Ideal S512x1024 .f32) (x1 : Vec Ideal S1x1024 .f32) (x2 : Vec Ideal S1024x2944 .bf16) (r : Fin 512) (d : Fin 256) :
    (k0_pay10 x0 x1 (View.ld x2 r0_5) (ix2 r d) : EReal)
      = ∑ k : Fin 1024, (k0_pay6 x0 x1 (ix2 r k) : EReal) * x2 (ix2 k ⟨1024 + d.val, by omega⟩) := by
  rw [pay10_at]
  refine Finset.sum_congr rfl fun k _ => ?_
  refine congrArg (fun z : EReal => (k0_pay6 x0 x1 (ix2 r k) : EReal) * z) ?_
  pointwise

/-- The reads of the body's stores for window 8, as sums. -/
theorem read8 (x0 : Vec Ideal S512x1024 .f32) (x1 : Vec Ideal S1x1024 .f32) (x2 : Vec Ideal S1024x2944 .bf16) (r : Fin 512) (d : Fin 512) :
    (k0_pay2 (k0_pay11 x0 x1 x2) (View.ld x2 r0_7) (ix2 r d) : EReal)
      = ∑ k : Fin 1024, (k0_pay6 x0 x1 (ix2 r k) : EReal) * x2 (ix2 k ⟨1280 + d.val, by omega⟩) := by
  have e0 : View.ld x0 r0_0 = x0 := View.ld_unit_zero (by decide) _ _
  have e1 : View.ld x1 r0_1 = x1 := View.ld_unit_zero (by decide) _ _
  rw [k0_pay11, e0, e1, pay2_at]
  refine Finset.sum_congr rfl fun k _ => ?_
  refine congrArg (fun z : EReal => (k0_pay6 x0 x1 (ix2 r k) : EReal) * z) ?_
  pointwise

/-- The reads of the body's stores for window 9, as sums. -/
theorem read9 (x0 : Vec Ideal S512x1024 .f32) (x1 : Vec Ideal S1x1024 .f32) (x2 : Vec Ideal S1024x2944 .bf16) (r : Fin 512) (d : Fin 1024) :
    (k0_pay3 (k0_pay11 x0 x1 x2) (View.ld x2 r0_8) (ix2 r d) : EReal)
      = ∑ k : Fin 1024, (k0_pay6 x0 x1 (ix2 r k) : EReal) * x2 (ix2 k ⟨1792 + d.val, by omega⟩) := by
  have e0 : View.ld x0 r0_0 = x0 := View.ld_unit_zero (by decide) _ _
  have e1 : View.ld x1 r0_1 = x1 := View.ld_unit_zero (by decide) _ _
  rw [k0_pay11, e0, e1, pay3_at]
  refine Finset.sum_congr rfl fun k _ => ?_
  refine congrArg (fun z : EReal => (k0_pay6 x0 x1 (ix2 r k) : EReal) * z) ?_
  pointwise

/-- The gates' columns. -/
theorem read11 (x0 : Vec Ideal S512x1024 .f32) (x1 : Vec Ideal S1x1024 .f32) (x2 : Vec Ideal S1024x2944 .bf16) (r : Fin 512) (d : Fin 128) :
    (k0_pay5 (k0_pay11 x0 x1 x2) (View.ld x2 r0_9) (ix2 r d) : EReal)
      = ∑ k : Fin 1024, (k0_pay6 x0 x1 (ix2 r k) : EReal) * x2 (ix2 k ⟨2816 + d.val, by omega⟩) := by
  have e0 : View.ld x0 r0_0 = x0 := View.ld_unit_zero (by decide) _ _
  have e1 : View.ld x1 r0_1 = x1 := View.ld_unit_zero (by decide) _ _
  rw [k0_pay11, e0, e1, pay5_at]
  refine Finset.sum_congr rfl fun k _ => ?_
  refine congrArg (fun z : EReal => (k0_pay6 x0 x1 (ix2 r k) : EReal) * z) ?_
  pointwise

/-- Window 3's array after the run. -/
theorem final3 (c : Dev nD) : (dats m 0 c).arrAt 3 (cfgs 0).N = Cert.ProjSRefIdeal.Read.val_main_v16 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht := count t
  blk_simp
  rw [after0_3]; unfold out0_3; frame_out
  idx_vars y
  refine (read3 (iblk m c 0 t) (iblk m c 1 t) (iblk m c 2 t) y0 y1).trans ((sum_at m c t y0 _ ⟨0 + y1.val, by omega⟩ (fun k => packed_q _ k y1)).trans ?_)
  refine (Cert.ProjSRefIdeal.Hand.v16_at _ _ _ ⟨512 * t.val + y0.val, by omega⟩ y1).symm.trans ?_
  generalize Cert.ProjSRefIdeal.Read.val_main_v16 (F := Ideal) (m ((c.tc : Thread nD τ).loc main_arg0)) (m ((c.tc : Thread nD τ).loc main_arg1)) (m ((c.tc : Thread nD τ).loc main_arg2)) = X
  blk_point [idx t]

/-- Window 4's array after the run. -/
theorem final4 (c : Dev nD) : (dats m 0 c).arrAt 4 (cfgs 0).N = Cert.ProjSRefIdeal.Read.val_main_v17 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  have ht := count t
  blk_simp
  rw [after0_4]; unfold out0_4; frame_out
  idx_vars y
  refine (read4 (iblk m c 0 t) (iblk m c 1 t) (iblk m c 2 t) y0 y1).trans ((sum_at m c t y0 _ ⟨512 + y1.val, by omega⟩ (fun k => packed_kv _ k y1)).trans ?_)
  refine (Cert.ProjSRefIdeal.Hand.v17_at _ _ _ ⟨512 * t.val + y0.val, by omega⟩ y1).symm.trans ?_
  generalize Cert.ProjSRefIdeal.Read.val_main_v17 (F := Ideal) (m ((c.tc : Thread nD τ).loc main_arg0)) (m ((c.tc : Thread nD τ).loc main_arg1)) (m ((c.tc : Thread nD τ).loc main_arg2)) = X
  blk_point [idx t]

/-- Window 5's array after the run. -/
theorem final5 (c : Dev nD) : (dats m 0 c).arrAt 5 (cfgs 0).N = Cert.ProjSRefIdeal.Read.val_main_v22 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  have ht := count t
  blk_simp
  rw [after0_5]; unfold out0_5; frame_out
  idx_vars y
  refine (read4 (iblk m c 0 t) (iblk m c 1 t) (iblk m c 2 t) y0 y1).trans ((sum_at m c t y0 _ ⟨512 + y1.val, by omega⟩ (fun k => packed_kv _ k y1)).trans ?_)
  refine (Cert.ProjSRefIdeal.Hand.v22_at _ _ _ ⟨512 * t.val + y0.val, by omega⟩ y1).symm.trans ?_
  generalize Cert.ProjSRefIdeal.Read.val_main_v22 (F := Ideal) (m ((c.tc : Thread nD τ).loc main_arg0)) (m ((c.tc : Thread nD τ).loc main_arg1)) (m ((c.tc : Thread nD τ).loc main_arg2)) = X
  blk_point [idx t]

/-- Window 6's array after the run. -/
theorem final6 (c : Dev nD) : (dats m 0 c).arrAt 6 (cfgs 0).N = Cert.ProjSRefIdeal.Read.val_main_v18 (F := Ideal) (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  have ht := count t
  blk_simp
  rw [after0_6]; unfold out0_6; frame_out
  idx_vars y
  refine (read6 (iblk m c 0 t) (iblk m c 1 t) (iblk m c 2 t) y0 y1).trans ((sum_at m c t y0 _ ⟨1024 + y1.val, by omega⟩ (fun k => packed_kvw _ k y1)).trans ?_)
  refine (Cert.ProjSRefIdeal.Hand.v18_at _ _ _ ⟨512 * t.val + y0.val, by omega⟩ y1).symm.trans ?_
  generalize Cert.ProjSRefIdeal.Read.val_main_v18 (F := Ideal) (m ((c.tc : Thread nD τ).loc main_arg0)) (m ((c.tc : Thread nD τ).loc main_arg1)) (m ((c.tc : Thread nD τ).loc main_arg2)) = X
  blk_point [idx t]

/-- Window 7's array after the run. -/
theorem final7 (c : Dev nD) : (dats m 0 c).arrAt 7 (cfgs 0).N = Cert.ProjSRefIdeal.Read.val_main_v23 (F := Ideal) (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  have ht := count t
  blk_simp
  rw [after0_7]; unfold out0_7; frame_out
  idx_vars y
  refine (read6 (iblk m c 0 t) (iblk m c 1 t) (iblk m c 2 t) y0 y1).trans ((sum_at m c t y0 _ ⟨1024 + y1.val, by omega⟩ (fun k => packed_kvw _ k y1)).trans ?_)
  refine (Cert.ProjSRefIdeal.Hand.v23_at _ _ _ ⟨512 * t.val + y0.val, by omega⟩ y1).symm.trans ?_
  generalize Cert.ProjSRefIdeal.Read.val_main_v23 (F := Ideal) (m ((c.tc : Thread nD τ).loc main_arg0)) (m ((c.tc : Thread nD τ).loc main_arg1)) (m ((c.tc : Thread nD τ).loc main_arg2)) = X
  blk_point [idx t]

/-- Window 8's array after the run. -/
theorem final8 (c : Dev nD) : (dats m 0 c).arrAt 8 (cfgs 0).N = Cert.ProjSRefIdeal.Read.val_main_v20 (F := Ideal) (m ((c.tc : Thread nD τ).loc main_arg0)) (m ((c.tc : Thread nD τ).loc main_arg1)) (m ((c.tc : Thread nD τ).loc main_arg2)) := by
  refine (dats m 0 c).arrAt_eq_of_covers 8 _ (by decide +kernel) fun t _ y => ?_
  have ht := count t
  blk_simp
  rw [after0_8]; unfold out0_8; frame_out
  idx_vars y
  refine (read8 (iblk m c 0 t) (iblk m c 1 t) (iblk m c 2 t) y0 y1).trans ((sum_at m c t y0 _ ⟨1304 + y1.val, by omega⟩ (fun k => packed_dq _ k y1)).trans ?_)
  refine (Cert.ProjSRefIdeal.Hand.v20_at _ _ _ ⟨512 * t.val + y0.val, by omega⟩ y1).symm.trans ?_
  generalize Cert.ProjSRefIdeal.Read.val_main_v20 (F := Ideal) (m ((c.tc : Thread nD τ).loc main_arg0)) (m ((c.tc : Thread nD τ).loc main_arg1)) (m ((c.tc : Thread nD τ).loc main_arg2)) = X
  blk_point [idx t]

/-- Window 9's array after the run. -/
theorem final9 (c : Dev nD) : (dats m 0 c).arrAt 9 (cfgs 0).N = Cert.ProjSRefIdeal.Read.val_main_v21 (F := Ideal) (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  have ht := count t
  blk_simp
  rw [after0_9]; unfold out0_9; frame_out
  idx_vars y
  refine (read9 (iblk m c 0 t) (iblk m c 1 t) (iblk m c 2 t) y0 y1).trans ((sum_at m c t y0 _ ⟨1816 + y1.val, by omega⟩ (fun k => packed_dkv _ k y1)).trans ?_)
  refine (Cert.ProjSRefIdeal.Hand.v21_at _ _ _ ⟨512 * t.val + y0.val, by omega⟩ y1).symm.trans ?_
  generalize Cert.ProjSRefIdeal.Read.val_main_v21 (F := Ideal) (m ((c.tc : Thread nD τ).loc main_arg0)) (m ((c.tc : Thread nD τ).loc main_arg1)) (m ((c.tc : Thread nD τ).loc main_arg2)) = X
  blk_point [idx t]

/-- Window 10's array after the run. -/
theorem final10 (c : Dev nD) : (dats m 0 c).arrAt 10 (cfgs 0).N = Cert.ProjSRefIdeal.Read.val_main_v24 (F := Ideal) (m ((c.tc : Thread nD τ).loc main_arg0)) (m ((c.tc : Thread nD τ).loc main_arg1)) (m ((c.tc : Thread nD τ).loc main_arg2)) := by
  refine (dats m 0 c).arrAt_eq_of_covers 10 _ (by decide +kernel) fun t _ y => ?_
  have ht := count t
  blk_simp
  rw [after0_10]; unfold out0_10; frame_out
  idx_vars y
  refine (read9 (iblk m c 0 t) (iblk m c 1 t) (iblk m c 2 t) y0 y1).trans ((sum_at m c t y0 _ ⟨1816 + y1.val, by omega⟩ (fun k => packed_dkv _ k y1)).trans ?_)
  refine (Cert.ProjSRefIdeal.Hand.v24_at _ _ _ ⟨512 * t.val + y0.val, by omega⟩ y1).symm.trans ?_
  generalize Cert.ProjSRefIdeal.Read.val_main_v24 (F := Ideal) (m ((c.tc : Thread nD τ).loc main_arg0)) (m ((c.tc : Thread nD τ).loc main_arg1)) (m ((c.tc : Thread nD τ).loc main_arg2)) = X
  blk_point [idx t]

/-- Window 11's array after the run. -/
theorem final11 (c : Dev nD) : (dats m 0 c).arrAt 11 (cfgs 0).N = Cert.ProjSRefIdeal.Read.val_main_v25 (F := Ideal) (m ((c.tc : Thread nD τ).loc main_arg0)) (m ((c.tc : Thread nD τ).loc main_arg1)) (m ((c.tc : Thread nD τ).loc main_arg2)) := by
  refine (dats m 0 c).arrAt_eq_of_covers 11 _ (by decide +kernel) fun t _ y => ?_
  have ht := count t
  blk_simp
  rw [after0_11]; unfold out0_11; frame_out
  idx_vars y
  refine (read11 (iblk m c 0 t) (iblk m c 1 t) (iblk m c 2 t) y0 y1).trans ?_
  refine Eq.trans ?_ ((Cert.ProjSRefIdeal.Hand.v25_at (m ((c.tc : Thread nD τ).loc main_arg0)) (m ((c.tc : Thread nD τ).loc main_arg1)) (m ((c.tc : Thread nD τ).loc main_arg2)) ⟨512 * t.val + y0.val, by omega⟩ y1).symm.trans ?_)
  · split_ifs with h
    · exact sum_at m c t y0 _ ⟨1280 + y1.val, by omega⟩ (fun k => (packed_gl _ k y1).trans (dif_pos h))
    · refine Finset.sum_eq_zero fun k _ => ?_
      rw [block2, packed_gl, dif_neg h, mul_zero]
  · generalize Cert.ProjSRefIdeal.Read.val_main_v25 (F := Ideal) (m ((c.tc : Thread nD τ).loc main_arg0)) (m ((c.tc : Thread nD τ).loc main_arg1)) (m ((c.tc : Thread nD τ).loc main_arg2)) = X
    blk_point [idx t]

end Cert.ProjSIdeal.Hand

end
-- ==== Proof.ProjS.Claims.lean ====
module

public import proofs.«01_k».proof.Proof.ProjS.Value
public import proofs.«01_k».proof.Proof.Gen.ProjSRefIdeal.Run
public import proofs.«01_k».proof.Proof.Gen.ProjSIdeal.Value
public import proofs.«01_k».proof.Defs

/-! The claims about the even layer's projection at the sample group's shape: the reference runs and leaves its arguments, and the two programs' results are equal. -/

@[expose] public section

set_option maxRecDepth 16384

noncomputable section
open Idealize.ShloMosaic Idealize.ShloMosaic.TcCoe Idealize.SL.Sem
open Idealize.ShloMosaic.Pipeline (Dat)

namespace Cert.Proof.ProjS
open Cert.ProjSIdeal

/-- The reference runs and leaves its arguments. -/
theorem frame_ref (m : (ℓ : Loc Cert.ProjSRefIdeal.nD Cert.ProjSRefIdeal.τ Cert.ProjSRefIdeal.sig) → Buf (Elt Ideal) ℓ) (g : Dev Cert.ProjSRefIdeal.nD → PrngReg) :
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0) :=
  θ_run_mono (Cert.ProjSRefIdeal.Value.run m g) fun r h => ⟨fun c => (h c).2.2.2.2.2.2.2.2.2, sem_eq_zero_of_no_sems (by decide) r.2⟩

/-- Over exact arithmetic the kernel's results are the reference's. -/
theorem algebraic [hProjSIdeal : Cert.ProjSIdeal.Facts] [hProjSRefIdeal : Cert.ProjSRefIdeal.Facts] : Cert.algebraic_ProjSIdeal_ProjSRefIdeal := by
  intro m g m' g' hpre hagree
  refine ⟨fun c => Cert.ProjSRefIdeal.Read.val_main_v16 (F := Ideal) (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)), fun c => Cert.ProjSRefIdeal.Read.val_main_v17 (F := Ideal) (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)), fun c => Cert.ProjSRefIdeal.Read.val_main_v22 (F := Ideal) (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)), fun c => Cert.ProjSRefIdeal.Read.val_main_v18 (F := Ideal) (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)), fun c => Cert.ProjSRefIdeal.Read.val_main_v23 (F := Ideal) (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)), fun c => Cert.ProjSRefIdeal.Read.val_main_v20 (F := Ideal) (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)), fun c => Cert.ProjSRefIdeal.Read.val_main_v21 (F := Ideal) (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)), fun c => Cert.ProjSRefIdeal.Read.val_main_v24 (F := Ideal) (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)), fun c => Cert.ProjSRefIdeal.Read.val_main_v25 (F := Ideal) (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg2)), ?_, ?_⟩
  · exact θ_run_mono (Cert.ProjSIdeal.Value.run_blocks m g) fun r h c =>
      ⟨(h c).1.trans (Cert.ProjSIdeal.Hand.final3 m c), (h c).2.1.trans (Cert.ProjSIdeal.Hand.final4 m c), (h c).2.2.1.trans (Cert.ProjSIdeal.Hand.final5 m c), (h c).2.2.2.1.trans (Cert.ProjSIdeal.Hand.final6 m c), (h c).2.2.2.2.1.trans (Cert.ProjSIdeal.Hand.final7 m c), (h c).2.2.2.2.2.1.trans (Cert.ProjSIdeal.Hand.final8 m c), (h c).2.2.2.2.2.2.1.trans (Cert.ProjSIdeal.Hand.final9 m c), (h c).2.2.2.2.2.2.2.1.trans (Cert.ProjSIdeal.Hand.final10 m c), (h c).2.2.2.2.2.2.2.2.1.trans (Cert.ProjSIdeal.Hand.final11 m c), (h c).2.2.2.2.2.2.2.2.2⟩
  · refine θ_run_mono (Cert.ProjSRefIdeal.Value.run m' g') fun r h c =>
      ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩
    all_goals obtain ⟨h0, h1, h2⟩ := hagree c
    · rw [Cert.ProjSRefIdeal.Read.val_main_v16_eq, h0, h1, h2]
    · rw [Cert.ProjSRefIdeal.Read.val_main_v17_eq, h0, h1, h2]
    · rw [Cert.ProjSRefIdeal.Read.val_main_v22_eq, h0, h1, h2]
    · rw [Cert.ProjSRefIdeal.Read.val_main_v18_eq, h0, h1, h2]
    · rw [Cert.ProjSRefIdeal.Read.val_main_v23_eq, h0, h1, h2]
    · rw [Cert.ProjSRefIdeal.Read.val_main_v20_eq, h0, h1, h2]
    · rw [Cert.ProjSRefIdeal.Read.val_main_v21_eq, h0, h1, h2]
    · rw [Cert.ProjSRefIdeal.Read.val_main_v24_eq, h0, h1, h2]
    · rw [Cert.ProjSRefIdeal.Read.val_main_v25_eq, h0, h1, h2]

end Cert.Proof.ProjS

end
-- ==== Proof.OddS.Pay.lean ====
module

public import proofs.«01_k».proof.Proof.Gen.OddSIdeal.Skeleton
public import Idealize.ShloMosaic.Lib.Pointwise
public import proofs.«01_k».proof.Proof.Norm

/-! Entries of what the kernel's body stores: a normalized row times a column of the weights. -/

@[expose] public section

set_option maxRecDepth 512

noncomputable section
open Idealize.ShloMosaic Idealize.ShloMosaic.TcCoe Idealize.SL.Sem
open Idealize.ShloMosaic.Pipeline (Dat)

namespace Cert.OddSIdeal.Hand
open Cert.OddSIdeal Cert.OddSIdeal.Gen

/-- An entry of the normalized block. -/
theorem pay4_at (x : Vec Ideal S512x1024 .f32) (g : Vec Ideal S1x1024 .f32) (r : Fin 512) (k : Fin 1024) :
    (k0_pay4 x g (ix2 r k) : EReal) = Norm.rms (fun j => x (ix2 r j)) (fun j => g (ix2 0 j)) k := by
  unfold Norm.rms
  pointwise [k0_pay4]

/-- An entry of a product of the normalized block and 512 columns of weights. -/
theorem pay5_at (x : Vec Ideal S512x1024 .f32) (g : Vec Ideal S1x1024 .f32) (w : Vec Ideal S1024x512 .bf16) (r : Fin 512) (d : Fin 512) :
    (k0_pay5 x g w (ix2 r d) : EReal) = ∑ k, (k0_pay4 x g (ix2 r k) : EReal) * w (ix2 k d) := by
  pointwise [k0_pay5]

/-- An entry of a product of the normalized block and 256 columns of weights. -/
theorem pay6_at (x : Vec Ideal S512x1024 .f32) (g : Vec Ideal S1x1024 .f32) (w : Vec Ideal S1024x256 .bf16) (r : Fin 512) (d : Fin 256) :
    (k0_pay6 x g w (ix2 r d) : EReal) = ∑ k, (k0_pay4 x g (ix2 r k) : EReal) * w (ix2 k d) := by
  pointwise [k0_pay6]

/-- An entry of a product of the normalized block and 512 columns of weights. -/
theorem pay8_at (x : Vec Ideal S512x1024 .f32) (g : Vec Ideal S1x1024 .f32) (w : Vec Ideal S1024x512 .bf16) (r : Fin 512) (d : Fin 512) :
    (k0_pay8 x g w (ix2 r d) : EReal) = ∑ k, (k0_pay4 x g (ix2 r k) : EReal) * w (ix2 k d) := by
  pointwise [k0_pay8]

/-- An entry of a product of the normalized block and 512 columns of weights. -/
theorem pay1_at (h : FVec Ideal S512x1024 .bf16) (w : Vec Ideal S1024x512 .bf16) (r : Fin 512) (d : Fin 512) :
    (k0_pay1 h w (ix2 r d) : EReal) = ∑ k, (h (ix2 r k) : EReal) * w (ix2 k d) := by
  pointwise [k0_pay1]

/-- An entry of a product of the normalized block and 512 columns of weights. -/
theorem pay2_at (h : FVec Ideal S512x1024 .bf16) (w : Vec Ideal S1024x512 .bf16) (r : Fin 512) (d : Fin 512) :
    (k0_pay2 h w (ix2 r d) : EReal) = ∑ k, (h (ix2 r k) : EReal) * w (ix2 k d) := by
  pointwise [k0_pay2]

/-- An entry of a product of the normalized block and 256 columns of weights. -/
theorem pay3_at (h : FVec Ideal S512x1024 .bf16) (w : Vec Ideal S1024x256 .bf16) (r : Fin 512) (d : Fin 256) :
    (k0_pay3 h w (ix2 r d) : EReal) = ∑ k, (h (ix2 r k) : EReal) * w (ix2 k d) := by
  pointwise [k0_pay3]

end Cert.OddSIdeal.Hand

end
-- ==== Proof.OddS.Blocks.lean ====
module

public import proofs.«01_k».proof.Proof.Gen.OddSIdeal.Frame
public import Idealize.ShloMosaic.Lib.Pipeline.ValueKit
public import Idealize.ShloMosaic.Lib.Claim

/-! What each window of the projection's launch holds at a grid point, in terms of the program's arguments. -/

@[expose] public section

set_option maxRecDepth 512

noncomputable section
open Idealize.ShloMosaic Idealize.ShloMosaic.TcCoe Idealize.SL.Sem
open Idealize.ShloMosaic.Pipeline (Dat)

namespace Cert.OddSIdeal.Hand
open Cert.OddSIdeal Cert.OddSIdeal.Gen

variable (m : (ℓ : Loc nD τ sig) → Buf (Elt Ideal) ℓ)

/-- The blocks each window takes at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

/-- An entry of the gains as a row. -/
theorem gain_at (g : FVec Ideal S1024 .f32) (k : Fin 1024) :
    (shapeCast S1x1024 g shapeCasts_S1024_S1x1024 (ix2 0 k) : EReal) = g (ix1 k) := by
  pointwise

/-- The launch has one grid point. -/
theorem count (t : Fin cfg0.N) : t.val < 1 := t.isLt

/-- The weights and 96 columns of zeros. -/
def padded (w : FVec Ideal S1x1024x2464 .f32) : FVec Ideal S1024x2560 .f32 :=
  pad S1024x2560 ![0, 0] ![0, 96] ![0, 0] (shapeCast S1024x2464 w shapeCasts_S1x1024x2464_S1024x2464) (sitofp .f32 (constantI S_ 32 0#32)) pads_S1024x2464_S1024x2560_000_0960 h_S_

/-- The weights as the launch reads them. -/
def packed (w : FVec Ideal S1x1024x2464 .f32) : FVec Ideal S1024x2560 .bf16 :=
  truncf .bf16 (padded w) bitsLt_bf16_f32

/-- The rows the launch reads. -/
theorem rows (c : Dev nD) : V m c main_v0 = shapeCast S512x1024 (m ((c.tc : Thread nD τ).loc main_arg0)) shapeCasts_S128x4x1024_S512x1024 := by
  unfold V
  simp only [hostOps0, hostOps0_1, hostOps0_2, List.flatten_cons, List.flatten_nil, List.cons_append, List.nil_append, List.append_nil]
  after_results
  try rfl

/-- The gains the launch reads. -/
theorem gains (c : Dev nD) : V m c main_v4 = shapeCast S1x1024 (m ((c.tc : Thread nD τ).loc main_arg1)) shapeCasts_S1024_S1x1024 := by
  unfold V
  simp only [hostOps0, hostOps0_1, hostOps0_2, List.flatten_cons, List.flatten_nil, List.cons_append, List.nil_append, List.append_nil]
  after_results
  try rfl

/-- The weights the launch reads. -/
theorem weights (c : Dev nD) : V m c main_v3 = packed (m ((c.tc : Thread nD τ).loc main_arg2)) := by
  unfold V packed padded
  simp only [hostOps0, hostOps0_1, hostOps0_2, List.flatten_cons, List.flatten_nil, List.cons_append, List.nil_append, List.append_nil]
  after_results
  try rfl

/-- An entry of the flattened input. -/
theorem flat_at (x : FVec Ideal S128x4x1024 .f32) (n : Fin 512) (k : Fin 1024) :
    (shapeCast S512x1024 x shapeCasts_S128x4x1024_S512x1024 (ix2 n k) : EReal) = x (ix3 ⟨n.val / 4, by omega⟩ ⟨n.val % 4, by omega⟩ k) := by
  pointwise

/-- The block of rows at a grid point. -/
theorem block0 (c : Dev nD) (t : Fin cfg0.N) (r : Fin 512) (k : Fin 1024) :
    ((iblk m c 0 t : Vec Ideal S512x1024 .f32) (ix2 r k) : EReal)
      = (m ((c.tc : Thread nD τ).loc main_arg0) : FVec Ideal S128x4x1024 .f32)
          (ix3 ⟨(512 * t.val + r.val) / 4, by have := count t; omega⟩ ⟨(512 * t.val + r.val) % 4, by omega⟩ k) := by
  refine Eq.trans ?_ (flat_at (m ((c.tc : Thread nD τ).loc main_arg0)) ⟨512 * t.val + r.val, by have := count t; omega⟩ k)
  have hb := rows m c
  generalize shapeCast S512x1024 (m ((c.tc : Thread nD τ).loc main_arg0)) shapeCasts_S128x4x1024_S512x1024 = y at hb ⊢
  blk_point [iblk, hb, idx t]

/-- The gains at a grid point. -/
theorem block1 (c : Dev nD) (t : Fin cfg0.N) (k : Fin 1024) :
    ((iblk m c 1 t : Vec Ideal S1x1024 .f32) (ix2 0 k) : EReal)
      = (m ((c.tc : Thread nD τ).loc main_arg1) : FVec Ideal S1024 .f32) (ix1 k) := by
  refine Eq.trans ?_ (gain_at (m ((c.tc : Thread nD τ).loc main_arg1)) k)
  have hb := gains m c
  generalize shapeCast S1x1024 (m ((c.tc : Thread nD τ).loc main_arg1) : FVec Ideal S1024 .f32) shapeCasts_S1024_S1x1024 = y at hb ⊢
  blk_point [iblk, hb, idx t]

/-- The weights at a grid point. -/
theorem block2 (c : Dev nD) (t : Fin cfg0.N) (k : Fin 1024) (d : Fin 2560) :
    ((iblk m c 2 t : Vec Ideal S1024x2560 .bf16) (ix2 k d) : EReal) = packed (m ((c.tc : Thread nD τ).loc main_arg2)) (ix2 k d) := by
  have hb := weights m c
  generalize packed (m ((c.tc : Thread nD τ).loc main_arg2)) = y at hb ⊢
  blk_point [iblk, hb, idx t]

variable (w : FVec Ideal S1x1024x2464 .f32)

/-- An entry of the padded weights: a column of the weights, or zero. -/
theorem packed_at (k : Fin 1024) (d : Fin 2560) :
    (packed w (ix2 k d) : EReal) = if h : d.val < 2464 then w (ix3 0 k ⟨d.val, h⟩) else 0 := by
  split_ifs with h
  · pointwise [packed, padded]
    rw [dif_pos h]
  · pointwise [packed, padded]
    rw [dif_neg h]
    show (((0#32 : BitVec 32).toInt : ℝ) : EReal) = 0
    simp

end Cert.OddSIdeal.Hand

end
-- ==== Proof.OddS.RefAt.lean ====
module

public import proofs.«01_k».proof.Proof.Gen.OddSRefIdeal.Read
public import Idealize.ShloMosaic.Lib.Pointwise
public import proofs.«01_k».proof.Proof.Norm

/-! Entries of the reference's results. -/

@[expose] public section

set_option maxRecDepth 512

noncomputable section
open Idealize.ShloMosaic Idealize.ShloMosaic.TcCoe Idealize.SL.Sem
open Idealize.ShloMosaic.Pipeline (Dat)

namespace Cert.OddSRefIdeal.Hand
open Cert.OddSRefIdeal Cert.OddSRefIdeal.Gen Cert.OddSRefIdeal.Read

variable (x : FVec Ideal S128x4x1024 .f32) (g : FVec Ideal S1024 .f32) (w : FVec Ideal S1x1024x2464 .f32)

/-- An entry of the normalized input. -/
theorem v12_at (b : Fin 128) (t : Fin 4) (k : Fin 1024) :
    (val_main_v12 (F := Ideal) x g (ix3 b t k) : EReal) = Norm.rms (fun j => x (ix3 b t j)) (fun j => g (ix1 j)) k := by
  unfold Norm.rms
  pointwise [val_main_v12, val_main_v9, val_main_v11, val_main_v10, val_main_v8, val_main_v7, val_main_v6, val_main_v5,
    val_main_cst_1, val_main_v4, val_main_v3, val_main_cst_0, val_main_v2, val_main_v1, val_main_cst, val_main_v0]

/-- An entry of the combined projection. -/
theorem v15_at (n : Fin 512) (d : Fin 2464) :
    (val_main_v15 (F := Ideal) x g w (ix2 n d) : EReal) = ∑ k, (val_main_v12 (F := Ideal) x g (ix3 ⟨n.val / 4, by omega⟩ ⟨n.val % 4, by omega⟩ k) : EReal) * w (ix3 0 k d) := by
  pointwise [val_main_v15, val_main_v14, val_main_v13]

/-- Row `n` of the projection at column `d`, written out. -/
def entry (n : Fin 512) (d : Fin 2464) : EReal :=
  ∑ k, Norm.rms (fun j => x (ix3 ⟨n.val / 4, by omega⟩ ⟨n.val % 4, by omega⟩ j)) (fun j => g (ix1 j)) k * w (ix3 0 k d)

/-- An entry of the combined projection, as the written-out sum. -/
theorem v15_entry (n : Fin 512) (d : Fin 2464) : (val_main_v15 (F := Ideal) x g w (ix2 n d) : EReal) = entry x g w n d := by
  rw [v15_at]
  exact Finset.sum_congr rfl fun k _ => by rw [v12_at]

/-- An entry of the reference's columns from 512 on. -/
theorem v16_at (n : Fin 512) (d : Fin 256) : (val_main_v16 (F := Ideal) x g w (ix2 n d) : EReal) = entry x g w n ⟨512 + d.val, by omega⟩ := by
  rw [← v15_entry]
  pointwise [val_main_v16]

/-- An entry of the reference's columns from 0 on. -/
theorem v17_at (n : Fin 512) (d : Fin 512) : (val_main_v17 (F := Ideal) x g w (ix2 n d) : EReal) = entry x g w n ⟨0 + d.val, by omega⟩ := by
  rw [← v15_entry]
  pointwise [val_main_v17]

/-- An entry of the reference's columns from 768 on. -/
theorem v19_at (n : Fin 512) (d : Fin 512) : (val_main_v19 (F := Ideal) x g w (ix2 n d) : EReal) = entry x g w n ⟨768 + d.val, by omega⟩ := by
  rw [← v15_entry]
  pointwise [val_main_v19]

/-- An entry of the reference's columns from 1280 on. -/
theorem v20_at (n : Fin 512) (d : Fin 512) : (val_main_v20 (F := Ideal) x g w (ix2 n d) : EReal) = entry x g w n ⟨1280 + d.val, by omega⟩ := by
  rw [← v15_entry]
  pointwise [val_main_v20]

/-- An entry of the reference's columns from 1792 on. -/
theorem v21_at (n : Fin 512) (d : Fin 512) : (val_main_v21 (F := Ideal) x g w (ix2 n d) : EReal) = entry x g w n ⟨1792 + d.val, by omega⟩ := by
  rw [← v15_entry]
  pointwise [val_main_v21]

/-- An entry of the keys and values in the narrower format. -/
theorem v18_at (n : Fin 512) (d : Fin 256) : (val_main_v18 (F := Ideal) x g w (ix2 n d) : EReal) = entry x g w n ⟨512 + d.val, by omega⟩ := by
  rw [← v16_at]
  pointwise [val_main_v18]

/-- The last columns, then zeros. -/
theorem v23_at (n : Fin 512) (d : Fin 256) :
    (val_main_v23 (F := Ideal) x g w (ix2 n d) : EReal) = if h : d.val < 160 then entry x g w n ⟨2304 + d.val, by omega⟩ else 0 := by
  split_ifs with h
  · rw [← v15_entry]
    pointwise [val_main_v23, val_main_v22]
    rw [dif_pos h]
  · pointwise [val_main_v23, val_main_call0_v0, val_main_c]
    rw [dif_neg h]
    show (((0#32 : BitVec 32).toInt : ℝ) : EReal) = 0
    simp

end Cert.OddSRefIdeal.Hand

end
-- ==== Proof.OddS.Value.lean ====
module

public import proofs.«01_k».proof.Proof.OddS.Pay
public import proofs.«01_k».proof.Proof.OddS.Blocks
public import proofs.«01_k».proof.Proof.OddS.RefAt

/-! The projection's result arrays after the run are the reference's results. -/

@[expose] public section

set_option maxRecDepth 512

noncomputable section
open Idealize.ShloMosaic Idealize.ShloMosaic.TcCoe Idealize.SL.Sem
open Idealize.ShloMosaic.Pipeline (Dat)

namespace Cert.OddSIdeal.Hand
open Cert.OddSIdeal Cert.OddSIdeal.Gen

variable (m : (ℓ : Loc nD τ sig) → Buf (Elt Ideal) ℓ)

/-- Row `512 t + r` of the projection at the weights' column `d`, over the program's arguments. -/
abbrev want (c : Dev nD) (t : Fin cfg0.N) (r : Fin 512) (d : Fin 2464) : EReal :=
  Cert.OddSRefIdeal.Hand.entry (m ((c.tc : Thread nD τ).loc main_arg0)) (m ((c.tc : Thread nD τ).loc main_arg1)) (m ((c.tc : Thread nD τ).loc main_arg2))
    ⟨512 * t.val + r.val, by have := count t; omega⟩ d

/-- A row of the block, normalized, is the reference's. -/
theorem norm_at (c : Dev nD) (t : Fin cfg0.N) (r : Fin 512) (k : Fin 1024) :
    (k0_pay4 (iblk m c 0 t : Vec Ideal S512x1024 .f32) (iblk m c 1 t : Vec Ideal S1x1024 .f32) (ix2 r k) : EReal)
      = Norm.rms (fun j => (m ((c.tc : Thread nD τ).loc main_arg0) : FVec Ideal S128x4x1024 .f32) (ix3 ⟨(512 * t.val + r.val) / 4, by have := count t; omega⟩ ⟨(512 * t.val + r.val) % 4, by omega⟩ j))
          (fun j => (m ((c.tc : Thread nD τ).loc main_arg1) : FVec Ideal S1024 .f32) (ix1 j)) k := by
  rw [pay4_at]
  simp only [block0, block1]

/-- A normalized row times a column of the weights. -/
theorem sum_at (c : Dev nD) (t : Fin cfg0.N) (r : Fin 512) (d : Fin 2560) (e : Fin 2464) (h : d.val = e.val) :
    (∑ k : Fin 1024, (k0_pay4 (iblk m c 0 t : Vec Ideal S512x1024 .f32) (iblk m c 1 t : Vec Ideal S1x1024 .f32) (ix2 r k) : EReal)
      * (iblk m c 2 t : Vec Ideal S1024x2560 .bf16) (ix2 k d)) = want m c t r e := by
  unfold want Cert.OddSRefIdeal.Hand.entry
  refine Finset.sum_congr rfl fun k _ => ?_
  rw [norm_at, block2, packed_at, dif_pos (by omega)]
  exact congrArg (fun z => _ * (m ((c.tc : Thread nD τ).loc main_arg2) : FVec Ideal S1x1024x2464 .f32) (ix3 0 k z)) (Fin.ext h)

/-- The reads of the body's stores for window 3, as sums. -/
theorem read3 (x0 : Vec Ideal S512x1024 .f32) (x1 : Vec Ideal S1x1024 .f32) (x2 : Vec Ideal S1024x2560 .bf16) (r : Fin 512) (d : Fin 512) :
    (k0_pay5 x0 x1 (View.ld x2 r0_2) (ix2 r d) : EReal)
      = ∑ k : Fin 1024, (k0_pay4 x0 x1 (ix2 r k) : EReal) * x2 (ix2 k ⟨0 + d.val, by omega⟩) := by
  rw [pay5_at]
  refine Finset.sum_congr rfl fun k _ => ?_
  refine congrArg (fun z : EReal => (k0_pay4 x0 x1 (ix2 r k) : EReal) * z) ?_
  pointwise

/-- The reads of the body's stores for window 4, as sums. -/
theorem read4 (x0 : Vec Ideal S512x1024 .f32) (x1 : Vec Ideal S1x1024 .f32) (x2 : Vec Ideal S1024x2560 .bf16) (r : Fin 512) (d : Fin 256) :
    (k0_pay6 x0 x1 (View.ld x2 r0_4) (ix2 r d) : EReal)
      = ∑ k : Fin 1024, (k0_pay4 x0 x1 (ix2 r k) : EReal) * x2 (ix2 k ⟨512 + d.val, by omega⟩) := by
  rw [pay6_at]
  refine Finset.sum_congr rfl fun k _ => ?_
  refine congrArg (fun z : EReal => (k0_pay4 x0 x1 (ix2 r k) : EReal) * z) ?_
  pointwise

/-- The reads of the body's stores for window 6, as sums. -/
theorem read6 (x0 : Vec Ideal S512x1024 .f32) (x1 : Vec Ideal S1x1024 .f32) (x2 : Vec Ideal S1024x2560 .bf16) (r : Fin 512) (d : Fin 512) :
    (k0_pay8 x0 x1 (View.ld x2 r0_6) (ix2 r d) : EReal)
      = ∑ k : Fin 1024, (k0_pay4 x0 x1 (ix2 r k) : EReal) * x2 (ix2 k ⟨768 + d.val, by omega⟩) := by
  rw [pay8_at]
  refine Finset.sum_congr rfl fun k _ => ?_
  refine congrArg (fun z : EReal => (k0_pay4 x0 x1 (ix2 r k) : EReal) * z) ?_
  pointwise

/-- The reads of the body's stores for window 7, as sums. -/
theorem read7 (x0 : Vec Ideal S512x1024 .f32) (x1 : Vec Ideal S1x1024 .f32) (x2 : Vec Ideal S1024x2560 .bf16) (r : Fin 512) (d : Fin 512) :
    (k0_pay1 (k0_pay9 x0 x1 x2) (View.ld x2 r0_7) (ix2 r d) : EReal)
      = ∑ k : Fin 1024, (k0_pay4 x0 x1 (ix2 r k) : EReal) * x2 (ix2 k ⟨1280 + d.val, by omega⟩) := by
  have e0 : View.ld x0 r0_0 = x0 := View.ld_unit_zero (by decide) _ _
  have e1 : View.ld x1 r0_1 = x1 := View.ld_unit_zero (by decide) _ _
  rw [k0_pay9, e0, e1, pay1_at]
  refine Finset.sum_congr rfl fun k _ => ?_
  refine congrArg (fun z : EReal => (k0_pay4 x0 x1 (ix2 r k) : EReal) * z) ?_
  pointwise

/-- The reads of the body's stores for window 8, as sums. -/
theorem read8 (x0 : Vec Ideal S512x1024 .f32) (x1 : Vec Ideal S1x1024 .f32) (x2 : Vec Ideal S1024x2560 .bf16) (r : Fin 512) (d : Fin 512) :
    (k0_pay2 (k0_pay9 x0 x1 x2) (View.ld x2 r0_8) (ix2 r d) : EReal)
      = ∑ k : Fin 1024, (k0_pay4 x0 x1 (ix2 r k) : EReal) * x2 (ix2 k ⟨1792 + d.val, by omega⟩) := by
  have e0 : View.ld x0 r0_0 = x0 := View.ld_unit_zero (by decide) _ _
  have e1 : View.ld x1 r0_1 = x1 := View.ld_unit_zero (by decide) _ _
  rw [k0_pay9, e0, e1, pay2_at]
  refine Finset.sum_congr rfl fun k _ => ?_
  refine congrArg (fun z : EReal => (k0_pay4 x0 x1 (ix2 r k) : EReal) * z) ?_
  pointwise

/-- The reads of the body's stores for window 9, as sums. -/
theorem read9 (x0 : Vec Ideal S512x1024 .f32) (x1 : Vec Ideal S1x1024 .f32) (x2 : Vec Ideal S1024x2560 .bf16) (r : Fin 512) (d : Fin 256) :
    (k0_pay3 (k0_pay9 x0 x1 x2) (View.ld x2 r0_9) (ix2 r d) : EReal)
      = ∑ k : Fin 1024, (k0_pay4 x0 x1 (ix2 r k) : EReal) * x2 (ix2 k ⟨2304 + d.val, by omega⟩) := by
  have e0 : View.ld x0 r0_0 = x0 := View.ld_unit_zero (by decide) _ _
  have e1 : View.ld x1 r0_1 = x1 := View.ld_unit_zero (by decide) _ _
  rw [k0_pay9, e0, e1, pay3_at]
  refine Finset.sum_congr rfl fun k _ => ?_
  refine congrArg (fun z : EReal => (k0_pay4 x0 x1 (ix2 r k) : EReal) * z) ?_
  pointwise

/-- Window 3's array after the run. -/
theorem final3 (c : Dev nD) : (dats m 0 c).arrAt 3 (cfgs 0).N = Cert.OddSRefIdeal.Read.val_main_v17 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht := count t
  blk_simp
  rw [after0_3]; unfold out0_3; frame_out
  idx_vars y
  refine (read3 (iblk m c 0 t) (iblk m c 1 t) (iblk m c 2 t) y0 y1).trans ((sum_at m c t y0 _ ⟨0 + y1.val, by omega⟩ rfl).trans ?_)
  refine (Cert.OddSRefIdeal.Hand.v17_at _ _ _ ⟨512 * t.val + y0.val, by omega⟩ y1).symm.trans ?_
  generalize Cert.OddSRefIdeal.Read.val_main_v17 (F := Ideal) (m ((c.tc : Thread nD τ).loc main_arg0)) (m ((c.tc : Thread nD τ).loc main_arg1)) (m ((c.tc : Thread nD τ).loc main_arg2)) = X
  blk_point [idx t]

/-- Window 4's array after the run. -/
theorem final4 (c : Dev nD) : (dats m 0 c).arrAt 4 (cfgs 0).N = Cert.OddSRefIdeal.Read.val_main_v16 (F := Ideal) (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  have ht := count t
  blk_simp
  rw [after0_4]; unfold out0_4; frame_out
  idx_vars y
  refine (read4 (iblk m c 0 t) (iblk m c 1 t) (iblk m c 2 t) y0 y1).trans ((sum_at m c t y0 _ ⟨512 + y1.val, by omega⟩ rfl).trans ?_)
  refine (Cert.OddSRefIdeal.Hand.v16_at _ _ _ ⟨512 * t.val + y0.val, by omega⟩ y1).symm.trans ?_
  generalize Cert.OddSRefIdeal.Read.val_main_v16 (F := Ideal) (m ((c.tc : Thread nD τ).loc main_arg0)) (m ((c.tc : Thread nD τ).loc main_arg1)) (m ((c.tc : Thread nD τ).loc main_arg2)) = X
  blk_point [idx t]

/-- Window 5's array after the run. -/
theorem final5 (c : Dev nD) : (dats m 0 c).arrAt 5 (cfgs 0).N = Cert.OddSRefIdeal.Read.val_main_v18 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t _ y => ?_
  have ht := count t
  blk_simp
  rw [after0_5]; unfold out0_5; frame_out
  idx_vars y
  refine (read4 (iblk m c 0 t) (iblk m c 1 t) (iblk m c 2 t) y0 y1).trans ((sum_at m c t y0 _ ⟨512 + y1.val, by omega⟩ rfl).trans ?_)
  refine (Cert.OddSRefIdeal.Hand.v18_at _ _ _ ⟨512 * t.val + y0.val, by omega⟩ y1).symm.trans ?_
  generalize Cert.OddSRefIdeal.Read.val_main_v18 (F := Ideal) (m ((c.tc : Thread nD τ).loc main_arg0)) (m ((c.tc : Thread nD τ).loc main_arg1)) (m ((c.tc : Thread nD τ).loc main_arg2)) = X
  blk_point [idx t]

/-- Window 6's array after the run. -/
theorem final6 (c : Dev nD) : (dats m 0 c).arrAt 6 (cfgs 0).N = Cert.OddSRefIdeal.Read.val_main_v19 (F := Ideal) (m ((c.tc : Thread nD τ).loc main_arg0)) (m ((c.tc : Thread nD τ).loc main_arg1)) (m ((c.tc : Thread nD τ).loc main_arg2)) := by
  refine (dats m 0 c).arrAt_eq_of_covers 6 _ (by decide +kernel) fun t _ y => ?_
  have ht := count t
  blk_simp
  rw [after0_6]; unfold out0_6; frame_out
  idx_vars y
  refine (read6 (iblk m c 0 t) (iblk m c 1 t) (iblk m c 2 t) y0 y1).trans ((sum_at m c t y0 _ ⟨768 + y1.val, by omega⟩ rfl).trans ?_)
  refine (Cert.OddSRefIdeal.Hand.v19_at _ _ _ ⟨512 * t.val + y0.val, by omega⟩ y1).symm.trans ?_
  generalize Cert.OddSRefIdeal.Read.val_main_v19 (F := Ideal) (m ((c.tc : Thread nD τ).loc main_arg0)) (m ((c.tc : Thread nD τ).loc main_arg1)) (m ((c.tc : Thread nD τ).loc main_arg2)) = X
  blk_point [idx t]

/-- Window 7's array after the run. -/
theorem final7 (c : Dev nD) : (dats m 0 c).arrAt 7 (cfgs 0).N = Cert.OddSRefIdeal.Read.val_main_v20 (F := Ideal) (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  have ht := count t
  blk_simp
  rw [after0_7]; unfold out0_7; frame_out
  idx_vars y
  refine (read7 (iblk m c 0 t) (iblk m c 1 t) (iblk m c 2 t) y0 y1).trans ((sum_at m c t y0 _ ⟨1280 + y1.val, by omega⟩ rfl).trans ?_)
  refine (Cert.OddSRefIdeal.Hand.v20_at _ _ _ ⟨512 * t.val + y0.val, by omega⟩ y1).symm.trans ?_
  generalize Cert.OddSRefIdeal.Read.val_main_v20 (F := Ideal) (m ((c.tc : Thread nD τ).loc main_arg0)) (m ((c.tc : Thread nD τ).loc main_arg1)) (m ((c.tc : Thread nD τ).loc main_arg2)) = X
  blk_point [idx t]

/-- Window 8's array after the run. -/
theorem final8 (c : Dev nD) : (dats m 0 c).arrAt 8 (cfgs 0).N = Cert.OddSRefIdeal.Read.val_main_v21 (F := Ideal) (m ((c.tc : Thread nD τ).loc main_arg0)) (m ((c.tc : Thread nD τ).loc main_arg1)) (m ((c.tc : Thread nD τ).loc main_arg2)) := by
  refine (dats m 0 c).arrAt_eq_of_covers 8 _ (by decide +kernel) fun t _ y => ?_
  have ht := count t
  blk_simp
  rw [after0_8]; unfold out0_8; frame_out
  idx_vars y
  refine (read8 (iblk m c 0 t) (iblk m c 1 t) (iblk m c 2 t) y0 y1).trans ((sum_at m c t y0 _ ⟨1792 + y1.val, by omega⟩ rfl).trans ?_)
  refine (Cert.OddSRefIdeal.Hand.v21_at _ _ _ ⟨512 * t.val + y0.val, by omega⟩ y1).symm.trans ?_
  generalize Cert.OddSRefIdeal.Read.val_main_v21 (F := Ideal) (m ((c.tc : Thread nD τ).loc main_arg0)) (m ((c.tc : Thread nD τ).loc main_arg1)) (m ((c.tc : Thread nD τ).loc main_arg2)) = X
  blk_point [idx t]

/-- Window 9's array after the run. -/
theorem final9 (c : Dev nD) : (dats m 0 c).arrAt 9 (cfgs 0).N = Cert.OddSRefIdeal.Read.val_main_v23 (F := Ideal) (m ((c.tc : Thread nD τ).loc main_arg0)) (m ((c.tc : Thread nD τ).loc main_arg1)) (m ((c.tc : Thread nD τ).loc main_arg2)) := by
  refine (dats m 0 c).arrAt_eq_of_covers 9 _ (by decide +kernel) fun t _ y => ?_
  have ht := count t
  blk_simp
  rw [after0_9]; unfold out0_9; frame_out
  idx_vars y
  refine (read9 (iblk m c 0 t) (iblk m c 1 t) (iblk m c 2 t) y0 y1).trans ?_
  refine Eq.trans ?_ ((Cert.OddSRefIdeal.Hand.v23_at (m ((c.tc : Thread nD τ).loc main_arg0)) (m ((c.tc : Thread nD τ).loc main_arg1)) (m ((c.tc : Thread nD τ).loc main_arg2)) ⟨512 * t.val + y0.val, by omega⟩ y1).symm.trans ?_)
  · split_ifs with h
    · exact sum_at m c t y0 _ ⟨2304 + y1.val, by omega⟩ rfl
    · refine Finset.sum_eq_zero fun k _ => ?_
      rw [block2, packed_at, dif_neg (by simp only []; omega), mul_zero]
  · generalize Cert.OddSRefIdeal.Read.val_main_v23 (F := Ideal) (m ((c.tc : Thread nD τ).loc main_arg0)) (m ((c.tc : Thread nD τ).loc main_arg1)) (m ((c.tc : Thread nD τ).loc main_arg2)) = X
    blk_point [idx t]

end Cert.OddSIdeal.Hand

end
-- ==== Proof.OddS.Claims.lean ====
module

public import proofs.«01_k».proof.Proof.OddS.Value
public import proofs.«01_k».proof.Proof.Gen.OddSRefIdeal.Run
public import proofs.«01_k».proof.Proof.Gen.OddSIdeal.Value
public import proofs.«01_k».proof.Defs

/-! The claims about the odd layer's projection at the sample group's shape: the reference runs and leaves its arguments, and the two programs' results are equal. -/

@[expose] public section

set_option maxRecDepth 16384

noncomputable section
open Idealize.ShloMosaic Idealize.ShloMosaic.TcCoe Idealize.SL.Sem
open Idealize.ShloMosaic.Pipeline (Dat)

namespace Cert.Proof.OddS
open Cert.OddSIdeal

/-- The reference runs and leaves its arguments. -/
theorem frame_ref (m : (ℓ : Loc Cert.OddSRefIdeal.nD Cert.OddSRefIdeal.τ Cert.OddSRefIdeal.sig) → Buf (Elt Ideal) ℓ) (g : Dev Cert.OddSRefIdeal.nD → PrngReg) :
    θ_run (Cert.OddSRefIdeal.defs (F := Ideal)) (onTc (τ := Cert.OddSRefIdeal.τ) (Cert.OddSRefIdeal.main (F := Ideal))) ⟨m, fun _ => 0, g⟩ (fun r => (∀ c : Dev Cert.OddSRefIdeal.nD,
      r.2.mem ((c.tc : Thread Cert.OddSRefIdeal.nD Cert.OddSRefIdeal.τ).loc Cert.OddSRefIdeal.main_arg0) = m ((c.tc : Thread Cert.OddSRefIdeal.nD Cert.OddSRefIdeal.τ).loc Cert.OddSRefIdeal.main_arg0)
      ∧ r.2.mem ((c.tc : Thread Cert.OddSRefIdeal.nD Cert.OddSRefIdeal.τ).loc Cert.OddSRefIdeal.main_arg1) = m ((c.tc : Thread Cert.OddSRefIdeal.nD Cert.OddSRefIdeal.τ).loc Cert.OddSRefIdeal.main_arg1)
      ∧ r.2.mem ((c.tc : Thread Cert.OddSRefIdeal.nD Cert.OddSRefIdeal.τ).loc Cert.OddSRefIdeal.main_arg2) = m ((c.tc : Thread Cert.OddSRefIdeal.nD Cert.OddSRefIdeal.τ).loc Cert.OddSRefIdeal.main_arg2))
      ∧ r.2.sem = fun _ => 0) :=
  θ_run_mono (Cert.OddSRefIdeal.Value.run m g) fun r h => ⟨fun c => (h c).2.2.2.2.2.2.2, sem_eq_zero_of_no_sems (by decide) r.2⟩

/-- Over exact arithmetic the kernel's results are the reference's. -/
theorem algebraic [hOddSIdeal : Cert.OddSIdeal.Facts] [hOddSRefIdeal : Cert.OddSRefIdeal.Facts] : Cert.algebraic_OddSIdeal_OddSRefIdeal := by
  intro m g m' g' hpre hagree
  refine ⟨fun c => Cert.OddSRefIdeal.Read.val_main_v17 (F := Ideal) (m ((c.tc : Thread Cert.OddSIdeal.nD Cert.OddSIdeal.τ).loc Cert.OddSIdeal.main_arg0)) (m ((c.tc : Thread Cert.OddSIdeal.nD Cert.OddSIdeal.τ).loc Cert.OddSIdeal.main_arg1)) (m ((c.tc : Thread Cert.OddSIdeal.nD Cert.OddSIdeal.τ).loc Cert.OddSIdeal.main_arg2)), fun c => Cert.OddSRefIdeal.Read.val_main_v16 (F := Ideal) (m ((c.tc : Thread Cert.OddSIdeal.nD Cert.OddSIdeal.τ).loc Cert.OddSIdeal.main_arg0)) (m ((c.tc : Thread Cert.OddSIdeal.nD Cert.OddSIdeal.τ).loc Cert.OddSIdeal.main_arg1)) (m ((c.tc : Thread Cert.OddSIdeal.nD Cert.OddSIdeal.τ).loc Cert.OddSIdeal.main_arg2)), fun c => Cert.OddSRefIdeal.Read.val_main_v18 (F := Ideal) (m ((c.tc : Thread Cert.OddSIdeal.nD Cert.OddSIdeal.τ).loc Cert.OddSIdeal.main_arg0)) (m ((c.tc : Thread Cert.OddSIdeal.nD Cert.OddSIdeal.τ).loc Cert.OddSIdeal.main_arg1)) (m ((c.tc : Thread Cert.OddSIdeal.nD Cert.OddSIdeal.τ).loc Cert.OddSIdeal.main_arg2)), fun c => Cert.OddSRefIdeal.Read.val_main_v19 (F := Ideal) (m ((c.tc : Thread Cert.OddSIdeal.nD Cert.OddSIdeal.τ).loc Cert.OddSIdeal.main_arg0)) (m ((c.tc : Thread Cert.OddSIdeal.nD Cert.OddSIdeal.τ).loc Cert.OddSIdeal.main_arg1)) (m ((c.tc : Thread Cert.OddSIdeal.nD Cert.OddSIdeal.τ).loc Cert.OddSIdeal.main_arg2)), fun c => Cert.OddSRefIdeal.Read.val_main_v20 (F := Ideal) (m ((c.tc : Thread Cert.OddSIdeal.nD Cert.OddSIdeal.τ).loc Cert.OddSIdeal.main_arg0)) (m ((c.tc : Thread Cert.OddSIdeal.nD Cert.OddSIdeal.τ).loc Cert.OddSIdeal.main_arg1)) (m ((c.tc : Thread Cert.OddSIdeal.nD Cert.OddSIdeal.τ).loc Cert.OddSIdeal.main_arg2)), fun c => Cert.OddSRefIdeal.Read.val_main_v21 (F := Ideal) (m ((c.tc : Thread Cert.OddSIdeal.nD Cert.OddSIdeal.τ).loc Cert.OddSIdeal.main_arg0)) (m ((c.tc : Thread Cert.OddSIdeal.nD Cert.OddSIdeal.τ).loc Cert.OddSIdeal.main_arg1)) (m ((c.tc : Thread Cert.OddSIdeal.nD Cert.OddSIdeal.τ).loc Cert.OddSIdeal.main_arg2)), fun c => Cert.OddSRefIdeal.Read.val_main_v23 (F := Ideal) (m ((c.tc : Thread Cert.OddSIdeal.nD Cert.OddSIdeal.τ).loc Cert.OddSIdeal.main_arg0)) (m ((c.tc : Thread Cert.OddSIdeal.nD Cert.OddSIdeal.τ).loc Cert.OddSIdeal.main_arg1)) (m ((c.tc : Thread Cert.OddSIdeal.nD Cert.OddSIdeal.τ).loc Cert.OddSIdeal.main_arg2)), ?_, ?_⟩
  · exact θ_run_mono (Cert.OddSIdeal.Value.run_blocks m g) fun r h c =>
      ⟨(h c).1.trans (Cert.OddSIdeal.Hand.final3 m c), (h c).2.1.trans (Cert.OddSIdeal.Hand.final4 m c), (h c).2.2.1.trans (Cert.OddSIdeal.Hand.final5 m c), (h c).2.2.2.1.trans (Cert.OddSIdeal.Hand.final6 m c), (h c).2.2.2.2.1.trans (Cert.OddSIdeal.Hand.final7 m c), (h c).2.2.2.2.2.1.trans (Cert.OddSIdeal.Hand.final8 m c), (h c).2.2.2.2.2.2.1.trans (Cert.OddSIdeal.Hand.final9 m c), (h c).2.2.2.2.2.2.2⟩
  · refine θ_run_mono (Cert.OddSRefIdeal.Value.run m' g') fun r h c =>
      ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    all_goals obtain ⟨h0, h1, h2⟩ := hagree c
    · rw [Cert.OddSRefIdeal.Read.val_main_v17_eq, h0, h1, h2]
    · rw [Cert.OddSRefIdeal.Read.val_main_v16_eq, h0, h1, h2]
    · rw [Cert.OddSRefIdeal.Read.val_main_v18_eq, h0, h1, h2]
    · rw [Cert.OddSRefIdeal.Read.val_main_v19_eq, h0, h1, h2]
    · rw [Cert.OddSRefIdeal.Read.val_main_v20_eq, h0, h1, h2]
    · rw [Cert.OddSRefIdeal.Read.val_main_v21_eq, h0, h1, h2]
    · rw [Cert.OddSRefIdeal.Read.val_main_v23_eq, h0, h1, h2]

end Cert.Proof.OddS

end
-- ==== Proof.FfnE.Pay.lean ====
module

public import proofs.«01_k».proof.Proof.Gen.FfnEIdeal.Skeleton
public import Idealize.ShloMosaic.Lib.Pointwise
public import proofs.«01_k».proof.Proof.Norm

/-! Entries of what the kernel's body stores. -/

@[expose] public section

set_option maxRecDepth 16384

noncomputable section
open Idealize.ShloMosaic Idealize.ShloMosaic.TcCoe Idealize.SL.Sem
open Idealize.ShloMosaic.Pipeline (Dat)

namespace Cert.FfnEIdeal.Hand
open Cert.FfnEIdeal Cert.FfnEIdeal.Gen

/-- The gated unit: `a · logistic a · b`. -/
def act (a b : EReal) : EReal := a * Ideal.logistic a * b

/-- An entry of the normalized block. -/
theorem pay1_at (x : Vec Ideal S512x1024 .f32) (g : Vec Ideal S1x1024 .f32) (r : Fin 512) (k : Fin 1024) :
    (k0_pay1 x g (ix2 r k) : EReal) = Norm.rms (fun j => x (ix2 r j)) (fun j => g (ix2 0 j)) k := by
  unfold Norm.rms
  pointwise [k0_pay1]

/-- The accumulator starts at zero. -/
theorem pay2_at (r : Fin 512) (k : Fin 1024) : (k0_pay2 (F := Ideal) (ix2 r k) : EReal) = 0 := by
  pointwise [k0_pay2]

/-- One half of the inner width added to the accumulator. -/
theorem pay3_at (h : Vec Ideal S512x1024 .bf16) (wg : Vec Ideal S1024x1408 .bf16) (wu : Vec Ideal S1024x1408 .bf16) (a : Vec Ideal S512x1024 .f32)
    (wd : Vec Ideal S1408x1024 .bf16) (r : Fin 512) (d : Fin 1024) :
    (k0_pay3 h wg wu a wd (ix2 r d) : EReal)
      = a (ix2 r d) + ∑ f : Fin 1408, act (∑ k : Fin 1024, (h (ix2 r k) : EReal) * wg (ix2 k f)) (∑ k : Fin 1024, (h (ix2 r k) : EReal) * wu (ix2 k f)) * wd (ix2 f d) := by
  unfold act
  pointwise [k0_pay3]

/-- The residual sum. -/
theorem pay4_at (x : Vec Ideal S512x1024 .f32) (a : Vec Ideal S512x1024 .f32) (r : Fin 512) (k : Fin 1024) :
    (k0_pay4 x a (ix2 r k) : EReal) = (x (ix2 r k) : EReal) + a (ix2 r k) := by
  pointwise [k0_pay4]

end Cert.FfnEIdeal.Hand

end
-- ==== Proof.FfnE.Blocks.lean ====
module

public import proofs.«01_k».proof.Proof.Gen.FfnEIdeal.Frame
public import Idealize.ShloMosaic.Lib.Pipeline.ValueKit
public import Idealize.ShloMosaic.Lib.Claim

/-! What each window of the layer's launch holds at a grid point, in terms of the program's arguments. -/

@[expose] public section

set_option maxRecDepth 16384

noncomputable section
open Idealize.ShloMosaic Idealize.ShloMosaic.TcCoe Idealize.SL.Sem
open Idealize.ShloMosaic.Pipeline (Dat)

namespace Cert.FfnEIdeal.Hand
open Cert.FfnEIdeal Cert.FfnEIdeal.Gen

variable (m : (ℓ : Loc nD τ sig) → Buf (Elt Ideal) ℓ)

/-- The blocks each window takes at a grid point. -/
theorem idx : ∀ t : Fin cfg0.N, win0_0.index t = ![t.val / 2, 0] ∧ win0_1.index t = ![0, 0] ∧ win0_2.index t = ![0, 0]
    ∧ win0_3.index t = ![0, t.val % 2] ∧ win0_4.index t = ![0, t.val % 2] ∧ win0_5.index t = ![t.val % 2, 0] ∧ win0_6.index t = ![t.val / 2, 0] :=
  (by decide +kernel : ∀ t : Fin grid0.N, _)

/-- The launch has 64 grid points. -/
theorem count (t : Fin cfg0.N) : t.val < 64 := t.isLt

/-- The gate weights the launch takes. -/
theorem gates (c : Dev nD) : V m c main_v0 = (truncf .bf16 (m ((c.tc : Thread nD τ).loc main_arg3) : FVec Ideal S1024x2816 .f32) bitsLt_bf16_f32 : FVec Ideal S1024x2816 .bf16) := by
  unfold V
  simp only [hostOps0, List.flatten_cons, List.flatten_nil, List.cons_append, List.nil_append, List.append_nil]
  after_results
  try rfl

/-- The up weights the launch takes. -/
theorem ups (c : Dev nD) : V m c main_v1 = (truncf .bf16 (m ((c.tc : Thread nD τ).loc main_arg4) : FVec Ideal S1024x2816 .f32) bitsLt_bf16_f32 : FVec Ideal S1024x2816 .bf16) := by
  unfold V
  simp only [hostOps0, List.flatten_cons, List.flatten_nil, List.cons_append, List.nil_append, List.append_nil]
  after_results
  try rfl

/-- The down weights the launch takes. -/
theorem downs (c : Dev nD) : V m c main_v2 = (truncf .bf16 (m ((c.tc : Thread nD τ).loc main_arg5) : FVec Ideal S2816x1024 .f32) bitsLt_bf16_f32 : FVec Ideal S2816x1024 .bf16) := by
  unfold V
  simp only [hostOps0, List.flatten_cons, List.flatten_nil, List.cons_append, List.nil_append, List.append_nil]
  after_results
  try rfl

/-- The layer's gains the launch takes. -/
theorem gains (c : Dev nD) : V m c main_v3 = shapeCast S1x1024 (m ((c.tc : Thread nD τ).loc main_arg1) : FVec Ideal S1024 .f32) shapeCasts_S1024_S1x1024 := by
  unfold V
  simp only [hostOps0, List.flatten_cons, List.flatten_nil, List.cons_append, List.nil_append, List.append_nil]
  after_results
  try rfl

/-- The rows the launch takes. -/
theorem rows (c : Dev nD) : V m c main_arg0 = m ((c.tc : Thread nD τ).loc main_arg0) := by
  unfold V
  simp only [hostOps0, List.flatten_cons, List.flatten_nil, List.cons_append, List.nil_append, List.append_nil]
  after_results
  try rfl

/-- A block of rows. -/
theorem block0 (c : Dev nD) (t : Fin cfg0.N) (r : Fin 512) (k : Fin 1024) :
    ((iblk m c 0 t : Vec Ideal S512x1024 .f32) (ix2 r k) : EReal)
      = (m ((c.tc : Thread nD τ).loc main_arg0) : FVec Ideal S16384x1024 .f32) (ix2 ⟨512 * (t.val / 2) + r.val, by have := count t; omega⟩ k) := by
  have ht := count t
  have hb := rows m c
  generalize m ((c.tc : Thread nD τ).loc main_arg0) = y at hb ⊢
  blk_point [iblk, hb, idx t]

/-- Window 1 holds its gains. -/
theorem block1 (c : Dev nD) (t : Fin cfg0.N) (k : Fin 1024) :
    ((iblk m c 1 t : Vec Ideal S1x1024 .f32) (ix2 0 k) : EReal)
      = (m ((c.tc : Thread nD τ).loc main_arg1) : FVec Ideal S1024 .f32) (ix1 k) := by
  have hs : (shapeCast S1x1024 (m ((c.tc : Thread nD τ).loc main_arg1) : FVec Ideal S1024 .f32) shapeCasts_S1024_S1x1024 : FVec Ideal S1x1024 .f32) (ix2 0 k)
      = (m ((c.tc : Thread nD τ).loc main_arg1) : FVec Ideal S1024 .f32) (ix1 k) := by pointwise
  rw [← hs]
  blk_point [iblk, gains, idx t]

/-- Window 3 holds one half of its weight's columns. -/
theorem block3 (c : Dev nD) (t : Fin cfg0.N) (k : Fin 1024) (f : Fin 1408) :
    ((iblk m c 3 t : Vec Ideal S1024x1408 .bf16) (ix2 k f) : EReal)
      = (m ((c.tc : Thread nD τ).loc main_arg3) : FVec Ideal S1024x2816 .f32) (ix2 k ⟨1408 * (t.val % 2) + f.val, by omega⟩) := by
  have ht := count t
  refine Eq.trans ?_ (show (truncf .bf16 (m ((c.tc : Thread nD τ).loc main_arg3) : FVec Ideal S1024x2816 .f32) bitsLt_bf16_f32 : FVec Ideal S1024x2816 .bf16) (ix2 k ⟨1408 * (t.val % 2) + f.val, by omega⟩) = _ from rfl)
  have hb := gates m c
  generalize (truncf .bf16 (m ((c.tc : Thread nD τ).loc main_arg3) : FVec Ideal S1024x2816 .f32) bitsLt_bf16_f32 : FVec Ideal S1024x2816 .bf16) = y at hb ⊢
  blk_point [iblk, hb, idx t]

/-- Window 4 holds one half of its weight's columns. -/
theorem block4 (c : Dev nD) (t : Fin cfg0.N) (k : Fin 1024) (f : Fin 1408) :
    ((iblk m c 4 t : Vec Ideal S1024x1408 .bf16) (ix2 k f) : EReal)
      = (m ((c.tc : Thread nD τ).loc main_arg4) : FVec Ideal S1024x2816 .f32) (ix2 k ⟨1408 * (t.val % 2) + f.val, by omega⟩) := by
  have ht := count t
  refine Eq.trans ?_ (show (truncf .bf16 (m ((c.tc : Thread nD τ).loc main_arg4) : FVec Ideal S1024x2816 .f32) bitsLt_bf16_f32 : FVec Ideal S1024x2816 .bf16) (ix2 k ⟨1408 * (t.val % 2) + f.val, by omega⟩) = _ from rfl)
  have hb := ups m c
  generalize (truncf .bf16 (m ((c.tc : Thread nD τ).loc main_arg4) : FVec Ideal S1024x2816 .f32) bitsLt_bf16_f32 : FVec Ideal S1024x2816 .bf16) = y at hb ⊢
  blk_point [iblk, hb, idx t]

/-- Window 5 holds one half of its weight's rows. -/
theorem block5 (c : Dev nD) (t : Fin cfg0.N) (f : Fin 1408) (d : Fin 1024) :
    ((iblk m c 5 t : Vec Ideal S1408x1024 .bf16) (ix2 f d) : EReal)
      = (m ((c.tc : Thread nD τ).loc main_arg5) : FVec Ideal S2816x1024 .f32) (ix2 ⟨1408 * (t.val % 2) + f.val, by omega⟩ d) := by
  have ht := count t
  refine Eq.trans ?_ (show (truncf .bf16 (m ((c.tc : Thread nD τ).loc main_arg5) : FVec Ideal S2816x1024 .f32) bitsLt_bf16_f32 : FVec Ideal S2816x1024 .bf16) (ix2 ⟨1408 * (t.val % 2) + f.val, by omega⟩ d) = _ from rfl)
  have hb := downs m c
  generalize (truncf .bf16 (m ((c.tc : Thread nD τ).loc main_arg5) : FVec Ideal S2816x1024 .f32) bitsLt_bf16_f32 : FVec Ideal S2816x1024 .bf16) = y at hb ⊢
  blk_point [iblk, hb, idx t]

end Cert.FfnEIdeal.Hand

end
-- ==== Proof.FfnE.RefAt.lean ====
module

public import proofs.«01_k».proof.Proof.Gen.FfnERefIdeal.Read
public import Idealize.ShloMosaic.Lib.Pointwise
public import proofs.«01_k».proof.Proof.Norm
public import proofs.«01_k».proof.Proof.FfnE.Pay

/-! An entry of the reference's result. -/

@[expose] public section

set_option maxRecDepth 16384

noncomputable section
open Idealize.ShloMosaic Idealize.ShloMosaic.TcCoe Idealize.SL.Sem
open Idealize.ShloMosaic.Pipeline (Dat)

namespace Cert.FfnERefIdeal.Hand
open Cert.FfnERefIdeal Cert.FfnERefIdeal.Gen Cert.FfnERefIdeal.Read

variable (x : FVec Ideal S16384x1024 .f32) (g : FVec Ideal S1024 .f32) (wg wu : FVec Ideal S1024x2816 .f32) (wd : FVec Ideal S2816x1024 .f32)

/-- The word of one is one. -/
theorem one_word : Ideal.ofBits FTy.f32 0x3F800000#32 = 1 := by
  first | exact Ideal.ofBits_one_f32 | (simp [Ideal.ofBits]; done) | (unfold Ideal.ofBits; norm_num)

/-- An entry of the normalized input. -/
theorem v12_at (n : Fin 16384) (k : Fin 1024) :
    (val_main_v12 (F := Ideal) x g (ix2 n k) : EReal) = Norm.rms (fun j => x (ix2 n j)) (fun j => g (ix1 j)) k := by
  unfold Norm.rms
  pointwise [val_main_v12, val_main_v9, val_main_v11, val_main_v10, val_main_v8, val_main_v7, val_main_v6, val_main_v5,
    val_main_cst_1, val_main_v4, val_main_v3, val_main_cst_0, val_main_v2, val_main_v1, val_main_cst, val_main_v0]

theorem v13_at (n : Fin 16384) (f : Fin 2816) :
    (val_main_v13 (F := Ideal) x g wg (ix2 n f) : EReal) = ∑ k, (val_main_v12 (F := Ideal) x g (ix2 n k) : EReal) * wg (ix2 k f) := by
  pointwise [val_main_v13]

theorem v15_at (n : Fin 16384) (f : Fin 2816) :
    (val_main_v15 (F := Ideal) x g wu (ix2 n f) : EReal) = ∑ k, (val_main_v12 (F := Ideal) x g (ix2 n k) : EReal) * wu (ix2 k f) := by
  pointwise [val_main_v15]

/-- An entry of the gated product. -/
theorem v16_at (n : Fin 16384) (f : Fin 2816) :
    (val_main_v16 (F := Ideal) x g wg wu (ix2 n f) : EReal)
      = Cert.FfnEIdeal.Hand.act (val_main_v13 (F := Ideal) x g wg (ix2 n f)) (val_main_v15 (F := Ideal) x g wu (ix2 n f)) := by
  unfold Cert.FfnEIdeal.Hand.act Ideal.logistic
  rw [← one_word]
  pointwise [val_main_v16, val_main_v14, val_main_call0_v5, val_main_call0_v4, val_main_call0_v3, val_main_call0_v2, val_main_call0_v1, val_main_call0_v0, val_main_call0_cst, val_main_call0_cst_0]

/-- An entry of the down projection. -/
theorem v17_at (n : Fin 16384) (d : Fin 1024) :
    (val_main_v17 (F := Ideal) x g wg wu wd (ix2 n d) : EReal) = ∑ f, (val_main_v16 (F := Ideal) x g wg wu (ix2 n f) : EReal) * wd (ix2 f d) := by
  pointwise [val_main_v17]

/-- Row `n`'s normalized input times column `f` of a weight. -/
def up (n : Fin 16384) (w : FVec Ideal S1024x2816 .f32) (f : Fin 2816) : EReal :=
  ∑ k, Norm.rms (fun j => x (ix2 n j)) (fun j => g (ix1 j)) k * w (ix2 k f)

/-- The term of inner column `f` in entry `(n, d)` of the down projection. -/
def term (n : Fin 16384) (d : Fin 1024) (f : Fin 2816) : EReal :=
  Cert.FfnEIdeal.Hand.act (up x g n wg f) (up x g n wu f) * wd (ix2 f d)

theorem v17_sum (n : Fin 16384) (d : Fin 1024) :
    (val_main_v17 (F := Ideal) x g wg wu wd (ix2 n d) : EReal) = ∑ f, term x g wg wu wd n d f := by
  rw [v17_at]
  refine Finset.sum_congr rfl fun f _ => ?_
  rw [v16_at, v13_at, v15_at]
  unfold term up
  simp only [v12_at]

/-- An entry of the result. -/
theorem v18_at (n : Fin 16384) (d : Fin 1024) :
    (val_main_v18 (F := Ideal) x g wg wu wd (ix2 n d) : EReal)
      = (x (ix2 n d) : EReal) + ∑ f, term x g wg wu wd n d f := by
  simp only [← v17_sum]
  pointwise [val_main_v18]

end Cert.FfnERefIdeal.Hand

end
-- ==== Proof.FfnE.Steps.lean ====
module

public import proofs.«01_k».proof.Proof.FfnE.Pay
public import proofs.«01_k».proof.Proof.FfnE.Blocks
public import proofs.«01_k».proof.Proof.FfnE.RefAt

/-! The layer's result array after the run is the reference's result. -/

@[expose] public section

set_option maxRecDepth 16384

noncomputable section
open Idealize.ShloMosaic Idealize.ShloMosaic.TcCoe Idealize.SL.Sem
open Idealize.ShloMosaic.Pipeline (Dat)

namespace Cert.FfnEIdeal.Hand
open Cert.FfnEIdeal Cert.FfnEIdeal.Gen

variable (m : (ℓ : Loc nD τ sig) → Buf (Elt Ideal) ℓ)

/-- After an even point the carried block is the normalized block of rows. -/
theorem carried_h (c : Dev nD) (t : Fin cfg0.N) (h0 : t.val % 2 = 0) (r : Fin 512) (k : Fin 1024) :
    ((outsAt0 m c t.val t.isLt).2.1 (ix2 r k) : EReal) = k0_pay1 (iblk m c 0 t : Vec Ideal S512x1024 .f32) (iblk m c 1 t : Vec Ideal S1x1024 .f32) (ix2 r k) := by
  rw [outsAt0_A m c t h0 (by omega)]
  dsimp only
  unfold sout0_A_0
  frame_out

/-- After an even point the accumulator is the first half's sum. -/
theorem carried_acc (c : Dev nD) (t : Fin cfg0.N) (h0 : t.val % 2 = 0) (r : Fin 512) (k : Fin 1024) :
    ((outsAt0 m c t.val t.isLt).2.2 (ix2 r k) : EReal)
      = k0_pay3 (k0_pay1 (iblk m c 0 t : Vec Ideal S512x1024 .f32) (iblk m c 1 t : Vec Ideal S1x1024 .f32)) (iblk m c 3 t : Vec Ideal S1024x1408 .bf16) (iblk m c 4 t : Vec Ideal S1024x1408 .bf16) (k0_pay2 (F := Ideal)) (iblk m c 5 t : Vec Ideal S1408x1024 .bf16) (ix2 r k) := by
  rw [outsAt0_A m c t h0 (by omega)]
  dsimp only
  unfold sout0_A_1
  frame_out

/-- After an odd point the output block is the residual sum. -/
theorem output_at (c : Dev nD) (t : Fin cfg0.N) (h1 : t.val % 2 = 1) (r : Fin 512) (k : Fin 1024) (hs : Vec Ideal S512x1024 .bf16) (acc : Vec Ideal S512x1024 .f32)
    (e0 : (outsAt0 m c (t.val - 1) (Nat.lt_of_le_of_lt (Nat.sub_le _ _) t.isLt)).2.1 = hs)
    (e1 : (outsAt0 m c (t.val - 1) (Nat.lt_of_le_of_lt (Nat.sub_le _ _) t.isLt)).2.2 = acc) :
    ((outsAt0 m c t.val t.isLt).1 (ix2 r k) : EReal)
      = k0_pay4 (iblk m c 0 t : Vec Ideal S512x1024 .f32) (k0_pay3 hs (iblk m c 3 t : Vec Ideal S1024x1408 .bf16) (iblk m c 4 t : Vec Ideal S1024x1408 .bf16) acc (iblk m c 5 t : Vec Ideal S1408x1024 .bf16)) (ix2 r k) := by
  rw [outsAt0_B m c t (by omega) h1]
  dsimp only
  rw [e0, e1]
  unfold out0_B_6
  frame_out
  have u0 : View.read (Elt Ideal) (View.whole cc0_scratch0) ((Memref.isWhole_whole cc0_scratch0).unread hs) = hs := (Memref.isWhole_whole cc0_scratch0).read_unread hs
  have u1 : View.read (Elt Ideal) (View.whole cc0_scratch1) ((Memref.isWhole_whole cc0_scratch1).unread acc) = acc := (Memref.isWhole_whole cc0_scratch1).read_unread acc
  exact congrArg₂ (fun a b => (k0_pay4 (iblk m c 0 t : Vec Ideal S512x1024 .f32) (k0_pay3 a (iblk m c 3 t : Vec Ideal S1024x1408 .bf16) (iblk m c 4 t : Vec Ideal S1024x1408 .bf16) b (iblk m c 5 t : Vec Ideal S1408x1024 .bf16)) (ix2 r k) : EReal)) u0 u1

end Cert.FfnEIdeal.Hand

end
-- ==== Proof.FfnE.Value.lean ====
module

public import proofs.«01_k».proof.Proof.FfnE.Steps

/-! The layer's result array after the run is the reference's result. -/

@[expose] public section

set_option maxRecDepth 16384

noncomputable section
open Idealize.ShloMosaic Idealize.ShloMosaic.TcCoe Idealize.SL.Sem
open Idealize.ShloMosaic.Pipeline (Dat)

namespace Cert.FfnEIdeal.Hand
open Cert.FfnEIdeal Cert.FfnEIdeal.Gen

variable (m : (ℓ : Loc nD τ sig) → Buf (Elt Ideal) ℓ)

/-- The row of the arrays that row `r` of point `t`'s block is. -/
abbrev row (t : Fin cfg0.N) (r : Fin 512) : Fin 16384 := ⟨512 * (t.val / 2) + r.val, by have := count t; omega⟩

/-- The term of inner column `f` in the down projection, over the program's arguments. -/
abbrev want (c : Dev nD) (n : Fin 16384) (d : Fin 1024) (f : Fin 2816) : EReal :=
  Cert.FfnERefIdeal.Hand.term (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) n d f

/-- A row of the normalized block, in terms of the arguments. -/
theorem norm_at (c : Dev nD) (t : Fin cfg0.N) (r : Fin 512) (k : Fin 1024) :
    (k0_pay1 (iblk m c 0 t : Vec Ideal S512x1024 .f32) (iblk m c 1 t : Vec Ideal S1x1024 .f32) (ix2 r k) : EReal)
      = Norm.rms (fun j => (m ((c.tc : Thread nD τ).loc main_arg0) : FVec Ideal S16384x1024 .f32) (ix2 (row t r) j))
          (fun j => (m ((c.tc : Thread nD τ).loc main_arg1) : FVec Ideal S1024 .f32) (ix1 j)) k := by
  rw [pay1_at]
  simp only [block0, block1]

/-- One half's sum at a point, over a carried block that holds the point's normalized rows. -/
theorem half_at (c : Dev nD) (t : Fin cfg0.N) (h : Vec Ideal S512x1024 .bf16) (acc : Vec Ideal S512x1024 .f32) (r : Fin 512) (d : Fin 1024)
    (hh : ∀ k, (h (ix2 r k) : EReal) = Norm.rms (fun j => (m ((c.tc : Thread nD τ).loc main_arg0) : FVec Ideal S16384x1024 .f32) (ix2 (row t r) j))
          (fun j => (m ((c.tc : Thread nD τ).loc main_arg1) : FVec Ideal S1024 .f32) (ix1 j)) k) :
    (k0_pay3 h (iblk m c 3 t : Vec Ideal S1024x1408 .bf16) (iblk m c 4 t : Vec Ideal S1024x1408 .bf16) acc (iblk m c 5 t : Vec Ideal S1408x1024 .bf16) (ix2 r d) : EReal)
      = acc (ix2 r d) + ∑ f : Fin 1408, want m c (row t r) d ⟨1408 * (t.val % 2) + f.val, by omega⟩ := by
  rw [pay3_at]
  refine congrArg (fun z : EReal => (acc (ix2 r d) : EReal) + z) (Finset.sum_congr rfl fun f _ => ?_)
  unfold want Cert.FfnERefIdeal.Hand.term Cert.FfnERefIdeal.Hand.up
  simp only [hh, block3, block4, block5]

/-- The point before. -/
abbrev prev (t : Fin cfg0.N) : Fin cfg0.N := ⟨t.val - 1, Nat.lt_of_le_of_lt (Nat.sub_le _ _) t.isLt⟩

/-- What an odd point writes, in terms of the arguments. -/
theorem written (c : Dev nD) (t : Fin cfg0.N) (h1 : t.val % 2 = 1) (r : Fin 512) (d : Fin 1024) :
    ((outsAt0 m c t.val t.isLt).1 (ix2 r d) : EReal)
      = @HAdd.hAdd EReal EReal EReal _ ((m ((c.tc : Thread nD τ).loc main_arg0) : FVec Ideal S16384x1024 .f32) (ix2 (row t r) d)) (∑ f, want m c (row t r) d f) := by
  have hp : (prev t).val % 2 = 0 := by show (t.val - 1) % 2 = 0; omega
  have hrow : row (prev t) r = row t r := Fin.ext (by show 512 * ((t.val - 1) / 2) + r.val = 512 * (t.val / 2) + r.val; omega)
  rw [output_at m c t h1 r d _ _ rfl rfl, pay4_at]
  have hh : ∀ k, ((outsAt0 m c (prev t).val (prev t).isLt).2.1 (ix2 r k) : EReal) = Norm.rms (fun j => (m ((c.tc : Thread nD τ).loc main_arg0) : FVec Ideal S16384x1024 .f32) (ix2 (row t r) j))
          (fun j => (m ((c.tc : Thread nD τ).loc main_arg1) : FVec Ideal S1024 .f32) (ix1 j)) k := fun k => by
    rw [carried_h m c (prev t) hp r k, norm_at, hrow]
  have ha : ∀ d, ((outsAt0 m c (prev t).val (prev t).isLt).2.2 (ix2 r d) : EReal) = ∑ f : Fin 1408, want m c (row t r) d ⟨f.val, by omega⟩ := fun d => by
    rw [carried_acc m c (prev t) hp r d, half_at m c (prev t) _ _ r d (norm_at m c (prev t) r), pay2_at, zero_add, hrow]
    exact Finset.sum_congr rfl fun f _ => congrArg (want m c (row t r) d) (Fin.ext (by show 1408 * ((t.val - 1) % 2) + f.val = f.val; omega))
  have hs : ∀ d, ((k0_pay3 (outsAt0 m c (prev t).val (prev t).isLt).2.1 (iblk m c 3 t : Vec Ideal S1024x1408 .bf16) (iblk m c 4 t : Vec Ideal S1024x1408 .bf16) (outsAt0 m c (prev t).val (prev t).isLt).2.2 (iblk m c 5 t : Vec Ideal S1408x1024 .bf16)) (ix2 r d) : EReal)
      = ∑ f, want m c (row t r) d f := fun d => by
    rw [half_at m c t _ _ r d hh, ha, Fin.sum_univ_two_halves 1408 1408 rfl (want m c (row t r) d)]
    refine congrArg (fun z : EReal => (∑ f : Fin 1408, want m c (row t r) d ⟨f.val, by omega⟩) + z) ?_
    exact Finset.sum_congr rfl fun f _ => congrArg (want m c (row t r) d) (Fin.ext (by show 1408 * (t.val % 2) + f.val = 1408 + f.val; omega))
  simp only [hs, block0]

/-- The result is written back at odd points only. -/
theorem flush_odd : ∀ t : Fin cfg0.N, win0_6.flush t = true → t.val % 2 = 1 :=
  (by decide +kernel : ∀ t : Fin grid0.N, _)

/-- The result array after the run. -/
theorem final6 (c : Dev nD) : (dats m 0 c).arrAt 6 (cfgs 0).N = Cert.FfnERefIdeal.Read.val_main_v18 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  have ht := count t
  have h1 : t.val % 2 = 1 := flush_odd t hf
  blk_simp
  rw [after0_6]
  idx_vars y
  refine (written m c t h1 y0 y1).trans ?_
  refine (Cert.FfnERefIdeal.Hand.v18_at _ _ _ _ _ (row t y0) y1).symm.trans ?_
  generalize Cert.FfnERefIdeal.Read.val_main_v18 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) = X
  blk_point [idx t]

end Cert.FfnEIdeal.Hand

end
-- ==== Proof.FfnE.Claims.lean ====
module

public import proofs.«01_k».proof.Proof.FfnE.Value
public import proofs.«01_k».proof.Proof.Gen.FfnERefIdeal.Run
public import proofs.«01_k».proof.Proof.Gen.FfnEIdeal.Value
public import proofs.«01_k».proof.Defs

/-! The claims about the even layer's feed-forward block: the reference runs and leaves its arguments, and the two programs' results are equal. -/

@[expose] public section

set_option maxRecDepth 16384

noncomputable section
open Idealize.ShloMosaic Idealize.ShloMosaic.TcCoe Idealize.SL.Sem
open Idealize.ShloMosaic.Pipeline (Dat)

namespace Cert.Proof.FfnE
open Cert.FfnEIdeal

/-- The reference runs and leaves its arguments. -/
theorem frame_ref (m : (ℓ : Loc Cert.FfnERefIdeal.nD Cert.FfnERefIdeal.τ Cert.FfnERefIdeal.sig) → Buf (Elt Ideal) ℓ) (g : Dev Cert.FfnERefIdeal.nD → PrngReg) :
    θ_run (Cert.FfnERefIdeal.defs (F := Ideal)) (onTc (τ := Cert.FfnERefIdeal.τ) (Cert.FfnERefIdeal.main (F := Ideal))) ⟨m, fun _ => 0, g⟩ (fun r => (∀ c : Dev Cert.FfnERefIdeal.nD,
      r.2.mem ((c.tc : Thread Cert.FfnERefIdeal.nD Cert.FfnERefIdeal.τ).loc Cert.FfnERefIdeal.main_arg0) = m ((c.tc : Thread Cert.FfnERefIdeal.nD Cert.FfnERefIdeal.τ).loc Cert.FfnERefIdeal.main_arg0)
      ∧ r.2.mem ((c.tc : Thread Cert.FfnERefIdeal.nD Cert.FfnERefIdeal.τ).loc Cert.FfnERefIdeal.main_arg1) = m ((c.tc : Thread Cert.FfnERefIdeal.nD Cert.FfnERefIdeal.τ).loc Cert.FfnERefIdeal.main_arg1)
      ∧ r.2.mem ((c.tc : Thread Cert.FfnERefIdeal.nD Cert.FfnERefIdeal.τ).loc Cert.FfnERefIdeal.main_arg2) = m ((c.tc : Thread Cert.FfnERefIdeal.nD Cert.FfnERefIdeal.τ).loc Cert.FfnERefIdeal.main_arg2)
      ∧ r.2.mem ((c.tc : Thread Cert.FfnERefIdeal.nD Cert.FfnERefIdeal.τ).loc Cert.FfnERefIdeal.main_arg3) = m ((c.tc : Thread Cert.FfnERefIdeal.nD Cert.FfnERefIdeal.τ).loc Cert.FfnERefIdeal.main_arg3)
      ∧ r.2.mem ((c.tc : Thread Cert.FfnERefIdeal.nD Cert.FfnERefIdeal.τ).loc Cert.FfnERefIdeal.main_arg4) = m ((c.tc : Thread Cert.FfnERefIdeal.nD Cert.FfnERefIdeal.τ).loc Cert.FfnERefIdeal.main_arg4)
      ∧ r.2.mem ((c.tc : Thread Cert.FfnERefIdeal.nD Cert.FfnERefIdeal.τ).loc Cert.FfnERefIdeal.main_arg5) = m ((c.tc : Thread Cert.FfnERefIdeal.nD Cert.FfnERefIdeal.τ).loc Cert.FfnERefIdeal.main_arg5))
      ∧ r.2.sem = fun _ => 0) :=
  θ_run_mono (Cert.FfnERefIdeal.Value.run m g) fun r h => ⟨fun c => (h c).2, sem_eq_zero_of_no_sems (by decide) r.2⟩

/-- Over exact arithmetic the kernel's results are the reference's. -/
theorem algebraic [hFfnEIdeal : Cert.FfnEIdeal.Facts] [hFfnERefIdeal : Cert.FfnERefIdeal.Facts] : Cert.algebraic_FfnEIdeal_FfnERefIdeal := by
  intro m g m' g' hpre hagree
  refine ⟨fun c => Cert.FfnERefIdeal.Read.val_main_v18 (F := Ideal) (m ((c.tc : Thread Cert.FfnEIdeal.nD Cert.FfnEIdeal.τ).loc Cert.FfnEIdeal.main_arg0)) (m ((c.tc : Thread Cert.FfnEIdeal.nD Cert.FfnEIdeal.τ).loc Cert.FfnEIdeal.main_arg1)) (m ((c.tc : Thread Cert.FfnEIdeal.nD Cert.FfnEIdeal.τ).loc Cert.FfnEIdeal.main_arg3)) (m ((c.tc : Thread Cert.FfnEIdeal.nD Cert.FfnEIdeal.τ).loc Cert.FfnEIdeal.main_arg4)) (m ((c.tc : Thread Cert.FfnEIdeal.nD Cert.FfnEIdeal.τ).loc Cert.FfnEIdeal.main_arg5)), ?_, ?_⟩
  · exact θ_run_mono (Cert.FfnEIdeal.Value.run_blocks m g) fun r h c =>
      ⟨(h c).1.trans (Cert.FfnEIdeal.Hand.final6 m c), (h c).2⟩
  · refine θ_run_mono (Cert.FfnERefIdeal.Value.run m' g') fun r h c =>
      ⟨(h c).1.trans ?_, (h c).2⟩
    all_goals obtain ⟨h0, h1, h2, h3, h4, h5⟩ := hagree c
    · rw [Cert.FfnERefIdeal.Read.val_main_v18_eq, h0, h1, h3, h4, h5]

end Cert.Proof.FfnE

end
-- ==== Proof.FfnES.Pay.lean ====
module

public import proofs.«01_k».proof.Proof.Gen.FfnESIdeal.Skeleton
public import Idealize.ShloMosaic.Lib.Pointwise
public import proofs.«01_k».proof.Proof.Norm

/-! Entries of what the kernel's body stores. -/

@[expose] public section

set_option maxRecDepth 512

noncomputable section
open Idealize.ShloMosaic Idealize.ShloMosaic.TcCoe Idealize.SL.Sem
open Idealize.ShloMosaic.Pipeline (Dat)

namespace Cert.FfnESIdeal.Hand
open Cert.FfnESIdeal Cert.FfnESIdeal.Gen

/-- The gated unit: `a · logistic a · b`. -/
def act (a b : EReal) : EReal := a * Ideal.logistic a * b

/-- An entry of the normalized block. -/
theorem pay1_at (x : Vec Ideal S512x1024 .f32) (g : Vec Ideal S1x1024 .f32) (r : Fin 512) (k : Fin 1024) :
    (k0_pay1 x g (ix2 r k) : EReal) = Norm.rms (fun j => x (ix2 r j)) (fun j => g (ix2 0 j)) k := by
  unfold Norm.rms
  pointwise [k0_pay1]

/-- The accumulator starts at zero. -/
theorem pay2_at (r : Fin 512) (k : Fin 1024) : (k0_pay2 (F := Ideal) (ix2 r k) : EReal) = 0 := by
  pointwise [k0_pay2]

/-- One half of the inner width added to the accumulator. -/
theorem pay3_at (h : Vec Ideal S512x1024 .bf16) (wg : Vec Ideal S1024x1408 .bf16) (wu : Vec Ideal S1024x1408 .bf16) (a : Vec Ideal S512x1024 .f32)
    (wd : Vec Ideal S1408x1024 .bf16) (r : Fin 512) (d : Fin 1024) :
    (k0_pay3 h wg wu a wd (ix2 r d) : EReal)
      = a (ix2 r d) + ∑ f : Fin 1408, act (∑ k : Fin 1024, (h (ix2 r k) : EReal) * wg (ix2 k f)) (∑ k : Fin 1024, (h (ix2 r k) : EReal) * wu (ix2 k f)) * wd (ix2 f d) := by
  unfold act
  pointwise [k0_pay3]

/-- The residual sum. -/
theorem pay4_at (x : Vec Ideal S512x1024 .f32) (a : Vec Ideal S512x1024 .f32) (r : Fin 512) (k : Fin 1024) :
    (k0_pay4 x a (ix2 r k) : EReal) = (x (ix2 r k) : EReal) + a (ix2 r k) := by
  pointwise [k0_pay4]

end Cert.FfnESIdeal.Hand

end
-- ==== Proof.FfnES.Blocks.lean ====
module

public import proofs.«01_k».proof.Proof.Gen.FfnESIdeal.Frame
public import Idealize.ShloMosaic.Lib.Pipeline.ValueKit
public import Idealize.ShloMosaic.Lib.Claim

/-! What each window of the layer's launch holds at a grid point, in terms of the program's arguments. -/

@[expose] public section

set_option maxRecDepth 512

noncomputable section
open Idealize.ShloMosaic Idealize.ShloMosaic.TcCoe Idealize.SL.Sem
open Idealize.ShloMosaic.Pipeline (Dat)

namespace Cert.FfnESIdeal.Hand
open Cert.FfnESIdeal Cert.FfnESIdeal.Gen

variable (m : (ℓ : Loc nD τ sig) → Buf (Elt Ideal) ℓ)

/-- The blocks each window takes at a grid point. -/
theorem idx : ∀ t : Fin cfg0.N, win0_0.index t = ![t.val / 2, 0] ∧ win0_1.index t = ![0, 0] ∧ win0_2.index t = ![0, 0]
    ∧ win0_3.index t = ![0, t.val % 2] ∧ win0_4.index t = ![0, t.val % 2] ∧ win0_5.index t = ![t.val % 2, 0] ∧ win0_6.index t = ![t.val / 2, 0] :=
  (by decide +kernel : ∀ t : Fin grid0.N, _)

/-- An entry of the gains as a row. -/
theorem gain_at (g : FVec Ideal S1024 .f32) (k : Fin 1024) :
    (shapeCast S1x1024 g shapeCasts_S1024_S1x1024 (ix2 0 k) : EReal) = g (ix1 k) := by
  pointwise

/-- The launch has two grid points. -/
theorem count (t : Fin cfg0.N) : t.val < 2 := t.isLt

/-- The gate weights the launch takes. -/
theorem gates (c : Dev nD) : V m c main_v0 = (truncf .bf16 (m ((c.tc : Thread nD τ).loc main_arg3) : FVec Ideal S1024x2816 .f32) bitsLt_bf16_f32 : FVec Ideal S1024x2816 .bf16) := by
  unfold V
  simp only [hostOps0, List.flatten_cons, List.flatten_nil, List.cons_append, List.nil_append, List.append_nil]
  after_results
  try rfl

/-- The up weights the launch takes. -/
theorem ups (c : Dev nD) : V m c main_v1 = (truncf .bf16 (m ((c.tc : Thread nD τ).loc main_arg4) : FVec Ideal S1024x2816 .f32) bitsLt_bf16_f32 : FVec Ideal S1024x2816 .bf16) := by
  unfold V
  simp only [hostOps0, List.flatten_cons, List.flatten_nil, List.cons_append, List.nil_append, List.append_nil]
  after_results
  try rfl

/-- The down weights the launch takes. -/
theorem downs (c : Dev nD) : V m c main_v2 = (truncf .bf16 (m ((c.tc : Thread nD τ).loc main_arg5) : FVec Ideal S2816x1024 .f32) bitsLt_bf16_f32 : FVec Ideal S2816x1024 .bf16) := by
  unfold V
  simp only [hostOps0, List.flatten_cons, List.flatten_nil, List.cons_append, List.nil_append, List.append_nil]
  after_results
  try rfl

/-- The layer's gains the launch takes. -/
theorem gains (c : Dev nD) : V m c main_v3 = shapeCast S1x1024 (m ((c.tc : Thread nD τ).loc main_arg1) : FVec Ideal S1024 .f32) shapeCasts_S1024_S1x1024 := by
  unfold V
  simp only [hostOps0, List.flatten_cons, List.flatten_nil, List.cons_append, List.nil_append, List.append_nil]
  after_results
  try rfl

/-- The rows the launch takes. -/
theorem rows (c : Dev nD) : V m c main_arg0 = m ((c.tc : Thread nD τ).loc main_arg0) := by
  unfold V
  simp only [hostOps0, List.flatten_cons, List.flatten_nil, List.cons_append, List.nil_append, List.append_nil]
  after_results
  try rfl

/-- A block of rows. -/
theorem block0 (c : Dev nD) (t : Fin cfg0.N) (r : Fin 512) (k : Fin 1024) :
    ((iblk m c 0 t : Vec Ideal S512x1024 .f32) (ix2 r k) : EReal)
      = (m ((c.tc : Thread nD τ).loc main_arg0) : FVec Ideal S512x1024 .f32) (ix2 ⟨512 * (t.val / 2) + r.val, by have := count t; omega⟩ k) := by
  have ht := count t
  have hb := rows m c
  generalize m ((c.tc : Thread nD τ).loc main_arg0) = y at hb ⊢
  blk_point [iblk, hb, idx t]

/-- Window 1 holds its gains. -/
theorem block1 (c : Dev nD) (t : Fin cfg0.N) (k : Fin 1024) :
    ((iblk m c 1 t : Vec Ideal S1x1024 .f32) (ix2 0 k) : EReal)
      = (m ((c.tc : Thread nD τ).loc main_arg1) : FVec Ideal S1024 .f32) (ix1 k) := by
  refine Eq.trans ?_ (gain_at (m ((c.tc : Thread nD τ).loc main_arg1)) k)
  have hb := gains m c
  generalize shapeCast S1x1024 (m ((c.tc : Thread nD τ).loc main_arg1) : FVec Ideal S1024 .f32) shapeCasts_S1024_S1x1024 = y at hb ⊢
  blk_point [iblk, hb, idx t]

/-- Window 3 holds one half of its weight's columns. -/
theorem block3 (c : Dev nD) (t : Fin cfg0.N) (k : Fin 1024) (f : Fin 1408) :
    ((iblk m c 3 t : Vec Ideal S1024x1408 .bf16) (ix2 k f) : EReal)
      = (m ((c.tc : Thread nD τ).loc main_arg3) : FVec Ideal S1024x2816 .f32) (ix2 k ⟨1408 * (t.val % 2) + f.val, by omega⟩) := by
  have ht := count t
  refine Eq.trans ?_ (show (truncf .bf16 (m ((c.tc : Thread nD τ).loc main_arg3) : FVec Ideal S1024x2816 .f32) bitsLt_bf16_f32 : FVec Ideal S1024x2816 .bf16) (ix2 k ⟨1408 * (t.val % 2) + f.val, by omega⟩) = _ from rfl)
  have hb := gates m c
  generalize (truncf .bf16 (m ((c.tc : Thread nD τ).loc main_arg3) : FVec Ideal S1024x2816 .f32) bitsLt_bf16_f32 : FVec Ideal S1024x2816 .bf16) = y at hb ⊢
  blk_point [iblk, hb, idx t]

/-- Window 4 holds one half of its weight's columns. -/
theorem block4 (c : Dev nD) (t : Fin cfg0.N) (k : Fin 1024) (f : Fin 1408) :
    ((iblk m c 4 t : Vec Ideal S1024x1408 .bf16) (ix2 k f) : EReal)
      = (m ((c.tc : Thread nD τ).loc main_arg4) : FVec Ideal S1024x2816 .f32) (ix2 k ⟨1408 * (t.val % 2) + f.val, by omega⟩) := by
  have ht := count t
  refine Eq.trans ?_ (show (truncf .bf16 (m ((c.tc : Thread nD τ).loc main_arg4) : FVec Ideal S1024x2816 .f32) bitsLt_bf16_f32 : FVec Ideal S1024x2816 .bf16) (ix2 k ⟨1408 * (t.val % 2) + f.val, by omega⟩) = _ from rfl)
  have hb := ups m c
  generalize (truncf .bf16 (m ((c.tc : Thread nD τ).loc main_arg4) : FVec Ideal S1024x2816 .f32) bitsLt_bf16_f32 : FVec Ideal S1024x2816 .bf16) = y at hb ⊢
  blk_point [iblk, hb, idx t]

/-- Window 5 holds one half of its weight's rows. -/
theorem block5 (c : Dev nD) (t : Fin cfg0.N) (f : Fin 1408) (d : Fin 1024) :
    ((iblk m c 5 t : Vec Ideal S1408x1024 .bf16) (ix2 f d) : EReal)
      = (m ((c.tc : Thread nD τ).loc main_arg5) : FVec Ideal S2816x1024 .f32) (ix2 ⟨1408 * (t.val % 2) + f.val, by omega⟩ d) := by
  have ht := count t
  refine Eq.trans ?_ (show (truncf .bf16 (m ((c.tc : Thread nD τ).loc main_arg5) : FVec Ideal S2816x1024 .f32) bitsLt_bf16_f32 : FVec Ideal S2816x1024 .bf16) (ix2 ⟨1408 * (t.val % 2) + f.val, by omega⟩ d) = _ from rfl)
  have hb := downs m c
  generalize (truncf .bf16 (m ((c.tc : Thread nD τ).loc main_arg5) : FVec Ideal S2816x1024 .f32) bitsLt_bf16_f32 : FVec Ideal S2816x1024 .bf16) = y at hb ⊢
  blk_point [iblk, hb, idx t]

end Cert.FfnESIdeal.Hand

end
-- ==== Proof.FfnES.RefAt.lean ====
module

public import proofs.«01_k».proof.Proof.Gen.FfnESRefIdeal.Read
public import Idealize.ShloMosaic.Lib.Pointwise
public import proofs.«01_k».proof.Proof.Norm
public import proofs.«01_k».proof.Proof.FfnES.Pay

/-! An entry of the reference's result. -/

@[expose] public section

set_option maxRecDepth 512

noncomputable section
open Idealize.ShloMosaic Idealize.ShloMosaic.TcCoe Idealize.SL.Sem
open Idealize.ShloMosaic.Pipeline (Dat)

namespace Cert.FfnESRefIdeal.Hand
open Cert.FfnESRefIdeal Cert.FfnESRefIdeal.Gen Cert.FfnESRefIdeal.Read

variable (x : FVec Ideal S512x1024 .f32) (g : FVec Ideal S1024 .f32) (wg wu : FVec Ideal S1024x2816 .f32) (wd : FVec Ideal S2816x1024 .f32)

/-- The word of one is one. -/
theorem one_word : Ideal.ofBits FTy.f32 0x3F800000#32 = 1 := by
  first | exact Ideal.ofBits_one_f32 | (simp [Ideal.ofBits]; done) | (unfold Ideal.ofBits; norm_num)

/-- An entry of the normalized input. -/
theorem v12_at (n : Fin 512) (k : Fin 1024) :
    (val_main_v12 (F := Ideal) x g (ix2 n k) : EReal) = Norm.rms (fun j => x (ix2 n j)) (fun j => g (ix1 j)) k := by
  unfold Norm.rms
  pointwise [val_main_v12, val_main_v9, val_main_v11, val_main_v10, val_main_v8, val_main_v7, val_main_v6, val_main_v5,
    val_main_cst_1, val_main_v4, val_main_v3, val_main_cst_0, val_main_v2, val_main_v1, val_main_cst, val_main_v0]

theorem v13_at (n : Fin 512) (f : Fin 2816) :
    (val_main_v13 (F := Ideal) x g wg (ix2 n f) : EReal) = ∑ k, (val_main_v12 (F := Ideal) x g (ix2 n k) : EReal) * wg (ix2 k f) := by
  pointwise [val_main_v13]

theorem v15_at (n : Fin 512) (f : Fin 2816) :
    (val_main_v15 (F := Ideal) x g wu (ix2 n f) : EReal) = ∑ k, (val_main_v12 (F := Ideal) x g (ix2 n k) : EReal) * wu (ix2 k f) := by
  pointwise [val_main_v15]

/-- An entry of the gated product. -/
theorem v16_at (n : Fin 512) (f : Fin 2816) :
    (val_main_v16 (F := Ideal) x g wg wu (ix2 n f) : EReal)
      = Cert.FfnESIdeal.Hand.act (val_main_v13 (F := Ideal) x g wg (ix2 n f)) (val_main_v15 (F := Ideal) x g wu (ix2 n f)) := by
  unfold Cert.FfnESIdeal.Hand.act Ideal.logistic
  rw [← one_word]
  pointwise [val_main_v16, val_main_v14, val_main_call0_v5, val_main_call0_v4, val_main_call0_v3, val_main_call0_v2, val_main_call0_v1, val_main_call0_v0, val_main_call0_cst, val_main_call0_cst_0]

/-- An entry of the down projection. -/
theorem v17_at (n : Fin 512) (d : Fin 1024) :
    (val_main_v17 (F := Ideal) x g wg wu wd (ix2 n d) : EReal) = ∑ f, (val_main_v16 (F := Ideal) x g wg wu (ix2 n f) : EReal) * wd (ix2 f d) := by
  pointwise [val_main_v17]

/-- Row `n`'s normalized input times column `f` of a weight. -/
def up (n : Fin 512) (w : FVec Ideal S1024x2816 .f32) (f : Fin 2816) : EReal :=
  ∑ k, Norm.rms (fun j => x (ix2 n j)) (fun j => g (ix1 j)) k * w (ix2 k f)

/-- The term of inner column `f` in entry `(n, d)` of the down projection. -/
def term (n : Fin 512) (d : Fin 1024) (f : Fin 2816) : EReal :=
  Cert.FfnESIdeal.Hand.act (up x g n wg f) (up x g n wu f) * wd (ix2 f d)

theorem v17_sum (n : Fin 512) (d : Fin 1024) :
    (val_main_v17 (F := Ideal) x g wg wu wd (ix2 n d) : EReal) = ∑ f, term x g wg wu wd n d f := by
  rw [v17_at]
  refine Finset.sum_congr rfl fun f _ => ?_
  rw [v16_at, v13_at, v15_at]
  unfold term up
  simp only [v12_at]

/-- An entry of the result. -/
theorem v18_at (n : Fin 512) (d : Fin 1024) :
    (val_main_v18 (F := Ideal) x g wg wu wd (ix2 n d) : EReal)
      = (x (ix2 n d) : EReal) + ∑ f, term x g wg wu wd n d f := by
  simp only [← v17_sum]
  pointwise [val_main_v18]

end Cert.FfnESRefIdeal.Hand

end
-- ==== Proof.FfnES.Steps.lean ====
module

public import proofs.«01_k».proof.Proof.FfnES.Pay
public import proofs.«01_k».proof.Proof.FfnES.Blocks
public import proofs.«01_k».proof.Proof.FfnES.RefAt

/-! The layer's result array after the run is the reference's result. -/

@[expose] public section

set_option maxRecDepth 512

noncomputable section
open Idealize.ShloMosaic Idealize.ShloMosaic.TcCoe Idealize.SL.Sem
open Idealize.ShloMosaic.Pipeline (Dat)

namespace Cert.FfnESIdeal.Hand
open Cert.FfnESIdeal Cert.FfnESIdeal.Gen

variable (m : (ℓ : Loc nD τ sig) → Buf (Elt Ideal) ℓ)

/-- After an even point the carried block is the normalized block of rows. -/
theorem carried_h (c : Dev nD) (t : Fin cfg0.N) (h0 : t.val % 2 = 0) (r : Fin 512) (k : Fin 1024) :
    ((outsAt0 m c t.val t.isLt).2.1 (ix2 r k) : EReal) = k0_pay1 (iblk m c 0 t : Vec Ideal S512x1024 .f32) (iblk m c 1 t : Vec Ideal S1x1024 .f32) (ix2 r k) := by
  rw [outsAt0_A m c t h0 (by omega)]
  dsimp only
  unfold sout0_A_0
  frame_out

/-- After an even point the accumulator is the first half's sum. -/
theorem carried_acc (c : Dev nD) (t : Fin cfg0.N) (h0 : t.val % 2 = 0) (r : Fin 512) (k : Fin 1024) :
    ((outsAt0 m c t.val t.isLt).2.2 (ix2 r k) : EReal)
      = k0_pay3 (k0_pay1 (iblk m c 0 t : Vec Ideal S512x1024 .f32) (iblk m c 1 t : Vec Ideal S1x1024 .f32)) (iblk m c 3 t : Vec Ideal S1024x1408 .bf16) (iblk m c 4 t : Vec Ideal S1024x1408 .bf16) (k0_pay2 (F := Ideal)) (iblk m c 5 t : Vec Ideal S1408x1024 .bf16) (ix2 r k) := by
  rw [outsAt0_A m c t h0 (by omega)]
  dsimp only
  unfold sout0_A_1
  frame_out

/-- After an odd point the output block is the residual sum. -/
theorem output_at (c : Dev nD) (t : Fin cfg0.N) (h1 : t.val % 2 = 1) (r : Fin 512) (k : Fin 1024) (hs : Vec Ideal S512x1024 .bf16) (acc : Vec Ideal S512x1024 .f32)
    (e0 : (outsAt0 m c (t.val - 1) (Nat.lt_of_le_of_lt (Nat.sub_le _ _) t.isLt)).2.1 = hs)
    (e1 : (outsAt0 m c (t.val - 1) (Nat.lt_of_le_of_lt (Nat.sub_le _ _) t.isLt)).2.2 = acc) :
    ((outsAt0 m c t.val t.isLt).1 (ix2 r k) : EReal)
      = k0_pay4 (iblk m c 0 t : Vec Ideal S512x1024 .f32) (k0_pay3 hs (iblk m c 3 t : Vec Ideal S1024x1408 .bf16) (iblk m c 4 t : Vec Ideal S1024x1408 .bf16) acc (iblk m c 5 t : Vec Ideal S1408x1024 .bf16)) (ix2 r k) := by
  rw [outsAt0_B m c t (by omega) h1]
  dsimp only
  rw [e0, e1]
  unfold out0_B_6
  frame_out
  have u0 : View.read (Elt Ideal) (View.whole cc0_scratch0) ((Memref.isWhole_whole cc0_scratch0).unread hs) = hs := (Memref.isWhole_whole cc0_scratch0).read_unread hs
  have u1 : View.read (Elt Ideal) (View.whole cc0_scratch1) ((Memref.isWhole_whole cc0_scratch1).unread acc) = acc := (Memref.isWhole_whole cc0_scratch1).read_unread acc
  exact congrArg₂ (fun a b => (k0_pay4 (iblk m c 0 t : Vec Ideal S512x1024 .f32) (k0_pay3 a (iblk m c 3 t : Vec Ideal S1024x1408 .bf16) (iblk m c 4 t : Vec Ideal S1024x1408 .bf16) b (iblk m c 5 t : Vec Ideal S1408x1024 .bf16)) (ix2 r k) : EReal)) u0 u1

end Cert.FfnESIdeal.Hand

end
-- ==== Proof.FfnES.Value.lean ====
module

public import proofs.«01_k».proof.Proof.FfnES.Steps

/-! The layer's result array after the run is the reference's result. -/

@[expose] public section

set_option maxRecDepth 512

noncomputable section
open Idealize.ShloMosaic Idealize.ShloMosaic.TcCoe Idealize.SL.Sem
open Idealize.ShloMosaic.Pipeline (Dat)

namespace Cert.FfnESIdeal.Hand
open Cert.FfnESIdeal Cert.FfnESIdeal.Gen

variable (m : (ℓ : Loc nD τ sig) → Buf (Elt Ideal) ℓ)

/-- The row of the arrays that row `r` of point `t`'s block is. -/
abbrev row (t : Fin cfg0.N) (r : Fin 512) : Fin 512 := ⟨512 * (t.val / 2) + r.val, by have := count t; omega⟩

/-- The term of inner column `f` in the down projection, over the program's arguments. -/
abbrev want (c : Dev nD) (n : Fin 512) (d : Fin 1024) (f : Fin 2816) : EReal :=
  Cert.FfnESRefIdeal.Hand.term (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) n d f

/-- A row of the normalized block, in terms of the arguments. -/
theorem norm_at (c : Dev nD) (t : Fin cfg0.N) (r : Fin 512) (k : Fin 1024) :
    (k0_pay1 (iblk m c 0 t : Vec Ideal S512x1024 .f32) (iblk m c 1 t : Vec Ideal S1x1024 .f32) (ix2 r k) : EReal)
      = Norm.rms (fun j => (m ((c.tc : Thread nD τ).loc main_arg0) : FVec Ideal S512x1024 .f32) (ix2 (row t r) j))
          (fun j => (m ((c.tc : Thread nD τ).loc main_arg1) : FVec Ideal S1024 .f32) (ix1 j)) k := by
  rw [pay1_at]
  simp only [block0, block1]

/-- One half's sum at a point, over a carried block that holds the point's normalized rows. -/
theorem half_at (c : Dev nD) (t : Fin cfg0.N) (h : Vec Ideal S512x1024 .bf16) (acc : Vec Ideal S512x1024 .f32) (r : Fin 512) (d : Fin 1024)
    (hh : ∀ k, (h (ix2 r k) : EReal) = Norm.rms (fun j => (m ((c.tc : Thread nD τ).loc main_arg0) : FVec Ideal S512x1024 .f32) (ix2 (row t r) j))
          (fun j => (m ((c.tc : Thread nD τ).loc main_arg1) : FVec Ideal S1024 .f32) (ix1 j)) k) :
    (k0_pay3 h (iblk m c 3 t : Vec Ideal S1024x1408 .bf16) (iblk m c 4 t : Vec Ideal S1024x1408 .bf16) acc (iblk m c 5 t : Vec Ideal S1408x1024 .bf16) (ix2 r d) : EReal)
      = acc (ix2 r d) + ∑ f : Fin 1408, want m c (row t r) d ⟨1408 * (t.val % 2) + f.val, by omega⟩ := by
  rw [pay3_at]
  refine congrArg (fun z : EReal => (acc (ix2 r d) : EReal) + z) (Finset.sum_congr rfl fun f _ => ?_)
  unfold want Cert.FfnESRefIdeal.Hand.term Cert.FfnESRefIdeal.Hand.up
  simp only [hh, block3, block4, block5]

/-- The point before. -/
abbrev prev (t : Fin cfg0.N) : Fin cfg0.N := ⟨t.val - 1, Nat.lt_of_le_of_lt (Nat.sub_le _ _) t.isLt⟩

/-- What an odd point writes, in terms of the arguments. -/
theorem written (c : Dev nD) (t : Fin cfg0.N) (h1 : t.val % 2 = 1) (r : Fin 512) (d : Fin 1024) :
    ((outsAt0 m c t.val t.isLt).1 (ix2 r d) : EReal)
      = @HAdd.hAdd EReal EReal EReal _ ((m ((c.tc : Thread nD τ).loc main_arg0) : FVec Ideal S512x1024 .f32) (ix2 (row t r) d)) (∑ f, want m c (row t r) d f) := by
  have hp : (prev t).val % 2 = 0 := by show (t.val - 1) % 2 = 0; omega
  have hrow : row (prev t) r = row t r := Fin.ext (by show 512 * ((t.val - 1) / 2) + r.val = 512 * (t.val / 2) + r.val; omega)
  rw [output_at m c t h1 r d _ _ rfl rfl, pay4_at]
  have hh : ∀ k, ((outsAt0 m c (prev t).val (prev t).isLt).2.1 (ix2 r k) : EReal) = Norm.rms (fun j => (m ((c.tc : Thread nD τ).loc main_arg0) : FVec Ideal S512x1024 .f32) (ix2 (row t r) j))
          (fun j => (m ((c.tc : Thread nD τ).loc main_arg1) : FVec Ideal S1024 .f32) (ix1 j)) k := fun k => by
    rw [carried_h m c (prev t) hp r k, norm_at, hrow]
  have ha : ∀ d, ((outsAt0 m c (prev t).val (prev t).isLt).2.2 (ix2 r d) : EReal) = ∑ f : Fin 1408, want m c (row t r) d ⟨f.val, by omega⟩ := fun d => by
    rw [carried_acc m c (prev t) hp r d, half_at m c (prev t) _ _ r d (norm_at m c (prev t) r), pay2_at, zero_add, hrow]
    exact Finset.sum_congr rfl fun f _ => congrArg (want m c (row t r) d) (Fin.ext (by show 1408 * ((t.val - 1) % 2) + f.val = f.val; omega))
  have hs : ∀ d, ((k0_pay3 (outsAt0 m c (prev t).val (prev t).isLt).2.1 (iblk m c 3 t : Vec Ideal S1024x1408 .bf16) (iblk m c 4 t : Vec Ideal S1024x1408 .bf16) (outsAt0 m c (prev t).val (prev t).isLt).2.2 (iblk m c 5 t : Vec Ideal S1408x1024 .bf16)) (ix2 r d) : EReal)
      = ∑ f, want m c (row t r) d f := fun d => by
    rw [half_at m c t _ _ r d hh, ha, Fin.sum_univ_two_halves 1408 1408 rfl (want m c (row t r) d)]
    refine congrArg (fun z : EReal => (∑ f : Fin 1408, want m c (row t r) d ⟨f.val, by omega⟩) + z) ?_
    exact Finset.sum_congr rfl fun f _ => congrArg (want m c (row t r) d) (Fin.ext (by show 1408 * (t.val % 2) + f.val = 1408 + f.val; omega))
  simp only [hs, block0]

/-- The result is written back at odd points only. -/
theorem flush_odd : ∀ t : Fin cfg0.N, win0_6.flush t = true → t.val % 2 = 1 :=
  (by decide +kernel : ∀ t : Fin grid0.N, _)

/-- The result array after the run. -/
theorem final6 (c : Dev nD) : (dats m 0 c).arrAt 6 (cfgs 0).N = Cert.FfnESRefIdeal.Read.val_main_v18 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  have ht := count t
  have h1 : t.val % 2 = 1 := flush_odd t hf
  blk_simp
  rw [after0_6]
  idx_vars y
  refine (written m c t h1 y0 y1).trans ?_
  refine (Cert.FfnESRefIdeal.Hand.v18_at _ _ _ _ _ (row t y0) y1).symm.trans ?_
  generalize Cert.FfnESRefIdeal.Read.val_main_v18 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) = X
  blk_point [idx t]

end Cert.FfnESIdeal.Hand

end
-- ==== Proof.FfnES.Claims.lean ====
module

public import proofs.«01_k».proof.Proof.FfnES.Value
public import proofs.«01_k».proof.Proof.Gen.FfnESRefIdeal.Run
public import proofs.«01_k».proof.Proof.Gen.FfnESIdeal.Value
public import proofs.«01_k».proof.Defs

/-! The claims about the even layer's feed-forward block at the sample group's shape: the reference runs and leaves its arguments, and the two programs' results are equal. -/

@[expose] public section

set_option maxRecDepth 16384

noncomputable section
open Idealize.ShloMosaic Idealize.ShloMosaic.TcCoe Idealize.SL.Sem
open Idealize.ShloMosaic.Pipeline (Dat)

namespace Cert.Proof.FfnES
open Cert.FfnESIdeal

/-- The reference runs and leaves its arguments. -/
theorem frame_ref (m : (ℓ : Loc Cert.FfnESRefIdeal.nD Cert.FfnESRefIdeal.τ Cert.FfnESRefIdeal.sig) → Buf (Elt Ideal) ℓ) (g : Dev Cert.FfnESRefIdeal.nD → PrngReg) :
    θ_run (Cert.FfnESRefIdeal.defs (F := Ideal)) (onTc (τ := Cert.FfnESRefIdeal.τ) (Cert.FfnESRefIdeal.main (F := Ideal))) ⟨m, fun _ => 0, g⟩ (fun r => (∀ c : Dev Cert.FfnESRefIdeal.nD,
      r.2.mem ((c.tc : Thread Cert.FfnESRefIdeal.nD Cert.FfnESRefIdeal.τ).loc Cert.FfnESRefIdeal.main_arg0) = m ((c.tc : Thread Cert.FfnESRefIdeal.nD Cert.FfnESRefIdeal.τ).loc Cert.FfnESRefIdeal.main_arg0)
      ∧ r.2.mem ((c.tc : Thread Cert.FfnESRefIdeal.nD Cert.FfnESRefIdeal.τ).loc Cert.FfnESRefIdeal.main_arg1) = m ((c.tc : Thread Cert.FfnESRefIdeal.nD Cert.FfnESRefIdeal.τ).loc Cert.FfnESRefIdeal.main_arg1)
      ∧ r.2.mem ((c.tc : Thread Cert.FfnESRefIdeal.nD Cert.FfnESRefIdeal.τ).loc Cert.FfnESRefIdeal.main_arg2) = m ((c.tc : Thread Cert.FfnESRefIdeal.nD Cert.FfnESRefIdeal.τ).loc Cert.FfnESRefIdeal.main_arg2)
      ∧ r.2.mem ((c.tc : Thread Cert.FfnESRefIdeal.nD Cert.FfnESRefIdeal.τ).loc Cert.FfnESRefIdeal.main_arg3) = m ((c.tc : Thread Cert.FfnESRefIdeal.nD Cert.FfnESRefIdeal.τ).loc Cert.FfnESRefIdeal.main_arg3)
      ∧ r.2.mem ((c.tc : Thread Cert.FfnESRefIdeal.nD Cert.FfnESRefIdeal.τ).loc Cert.FfnESRefIdeal.main_arg4) = m ((c.tc : Thread Cert.FfnESRefIdeal.nD Cert.FfnESRefIdeal.τ).loc Cert.FfnESRefIdeal.main_arg4)
      ∧ r.2.mem ((c.tc : Thread Cert.FfnESRefIdeal.nD Cert.FfnESRefIdeal.τ).loc Cert.FfnESRefIdeal.main_arg5) = m ((c.tc : Thread Cert.FfnESRefIdeal.nD Cert.FfnESRefIdeal.τ).loc Cert.FfnESRefIdeal.main_arg5))
      ∧ r.2.sem = fun _ => 0) :=
  θ_run_mono (Cert.FfnESRefIdeal.Value.run m g) fun r h => ⟨fun c => (h c).2, sem_eq_zero_of_no_sems (by decide) r.2⟩

/-- Over exact arithmetic the kernel's results are the reference's. -/
theorem algebraic [hFfnESIdeal : Cert.FfnESIdeal.Facts] [hFfnESRefIdeal : Cert.FfnESRefIdeal.Facts] : Cert.algebraic_FfnESIdeal_FfnESRefIdeal := by
  intro m g m' g' hpre hagree
  refine ⟨fun c => Cert.FfnESRefIdeal.Read.val_main_v18 (F := Ideal) (m ((c.tc : Thread Cert.FfnESIdeal.nD Cert.FfnESIdeal.τ).loc Cert.FfnESIdeal.main_arg0)) (m ((c.tc : Thread Cert.FfnESIdeal.nD Cert.FfnESIdeal.τ).loc Cert.FfnESIdeal.main_arg1)) (m ((c.tc : Thread Cert.FfnESIdeal.nD Cert.FfnESIdeal.τ).loc Cert.FfnESIdeal.main_arg3)) (m ((c.tc : Thread Cert.FfnESIdeal.nD Cert.FfnESIdeal.τ).loc Cert.FfnESIdeal.main_arg4)) (m ((c.tc : Thread Cert.FfnESIdeal.nD Cert.FfnESIdeal.τ).loc Cert.FfnESIdeal.main_arg5)), ?_, ?_⟩
  · exact θ_run_mono (Cert.FfnESIdeal.Value.run_blocks m g) fun r h c =>
      ⟨(h c).1.trans (Cert.FfnESIdeal.Hand.final6 m c), (h c).2⟩
  · refine θ_run_mono (Cert.FfnESRefIdeal.Value.run m' g') fun r h c =>
      ⟨(h c).1.trans ?_, (h c).2⟩
    all_goals obtain ⟨h0, h1, h2, h3, h4, h5⟩ := hagree c
    · rw [Cert.FfnESRefIdeal.Read.val_main_v18_eq, h0, h1, h3, h4, h5]

end Cert.Proof.FfnES

end
-- ==== Proof.Post.Pay.lean ====
module

public import proofs.«01_k».proof.Proof.Gen.PostIdeal.Skeleton
public import Idealize.ShloMosaic.Lib.Pointwise

/-! An entry of what the kernel's body stores, over the sums as the body takes them. -/

@[expose] public section

set_option maxRecDepth 16384

noncomputable section
open Idealize.ShloMosaic Idealize.ShloMosaic.TcCoe Idealize.SL.Sem
open Idealize.ShloMosaic.Pipeline (Dat)

namespace Cert.PostIdeal.Hand
open Cert.PostIdeal Cert.PostIdeal.Gen

/-- The sum of a row against a column of the matrix of heads, the row taken as a rounded part and what the rounding leaves. -/
def split (h : Fin 512 → Fin 512 → EReal) (x : Fin 512 → EReal) (d : Fin 512) : EReal :=
  (∑ j, x j * h j d) + ∑ j, (x j - x j) * h j d

/-- A row less its heads' means. -/
def centred (h : Fin 512 → Fin 512 → EReal) (y : Fin 512 → EReal) (d : Fin 512) : EReal :=
  y d - split h y d * Ideal.ofBits .f32 0x3C800000#32

/-- A row with each head normalized, scaled by `w` and shifted by `b`. -/
def normed (h : Fin 512 → Fin 512 → EReal) (y w b : Fin 512 → EReal) (d : Fin 512) : EReal :=
  centred h y d * Ideal.rsqrt (split h (fun j => centred h y j * centred h y j) d * Ideal.ofBits .f32 0x3C800000#32
    + Ideal.ofBits .f32 0x3A27C5AC#32) * w d + b d

/-- An entry of the normalized block. -/
theorem pay2_at (y : Vec Ideal S512x512 .f32) (h : Vec Ideal S512x512 .bf16) (w b : Vec Ideal S1x512 .f32) (r d : Fin 512) :
    (k0_pay2 y h h w b (ix2 r d) : EReal)
      = normed (fun j e => h (ix2 j e)) (fun j => y (ix2 r j)) (fun j => w (ix2 0 j)) (fun j => b (ix2 0 j)) d := by
  unfold normed centred split
  pointwise [k0_pay2]

/-- An entry of the block the body stores. -/
theorem pay1_at (n : FVec Ideal S512x512 .f32) (x k : Vec Ideal S512x512 .f32) (c : Vec Ideal S1x512 .f32) (h : Vec Ideal S512x512 .bf16)
    (v g : Vec Ideal S512x512 .f32) (r d : Fin 512) :
    (k0_pay1 n x k c h v g (ix2 r d) : EReal)
      = (n (ix2 r d) + split (fun j e => h (ix2 j e)) (fun j => (x (ix2 r j) : EReal) * k (ix2 r j) * c (ix2 0 j)) d * v (ix2 r d)) * g (ix2 r d) := by
  unfold split
  pointwise [k0_pay1]

end Cert.PostIdeal.Hand

end
-- ==== Proof.Post.RefAt.lean ====
module

public import proofs.«01_k».proof.Proof.Gen.PostRefIdeal.Read
public import Idealize.ShloMosaic.Lib.Pointwise

/-! Entries of the reference's result. -/

@[expose] public section

set_option maxRecDepth 16384

noncomputable section
open Idealize.ShloMosaic Idealize.ShloMosaic.TcCoe Idealize.SL.Sem
open Idealize.ShloMosaic.Pipeline (Dat)

namespace Cert.PostRefIdeal.Hand
open Cert.PostRefIdeal Cert.PostRefIdeal.Gen Cert.PostRefIdeal.Read

variable (x0 x1 x2 x3 x4 : FVec Ideal S16384x512 .f32) (x5 : FVec Ideal S1x8x64 .f32) (x6 x7 : FVec Ideal S1x512 .f32)

/-- The column of entry `k` of head `h`. -/
abbrev col (h : Fin 8) (k : Fin 64) : Fin 512 := ⟨h.val * 64 + k.val, by omega⟩

/-- The mean of a head. -/
def mean (y : Fin 512 → EReal) (h : Fin 8) : EReal := Ideal.div (∑ k, y (col h k)) (Ideal.ofBits .f32 0x42800000#32)

/-- An entry of a head less the head's mean. -/
def dev (y : Fin 512 → EReal) (h : Fin 8) (k : Fin 64) : EReal := y (col h k) - mean y h

/-- The mean of the squares of a head's entries less its mean. -/
def var (y : Fin 512 → EReal) (h : Fin 8) : EReal := Ideal.div (∑ k, dev y h k * dev y h k) (Ideal.ofBits .f32 0x42800000#32)

/-- An entry of the array of heads. -/
theorem heads_at (n : Fin 16384) (h : Fin 8) (k : Fin 64) : (val_main_v0 (F := Ideal) x0 (ix3 n h k) : EReal) = x0 (ix2 n (col h k)) := by
  pointwise [val_main_v0]

/-- The mean, as the reference takes it. -/
theorem mean_at (n : Fin 16384) (h : Fin 8) : (val_main_v7 (F := Ideal) x0 (ix3 n h 0) : EReal) = mean (fun j => x0 (ix2 n j)) h := by
  unfold mean
  simp only [← heads_at x0]
  pointwise [val_main_v7, val_main_v6, val_main_v5, val_main_v4, val_main_cst, val_main_cst_0]

/-- An entry less the mean, as the reference takes it. -/
theorem dev_at (n : Fin 16384) (h : Fin 8) (k : Fin 64) : (val_main_v9 (F := Ideal) x0 (ix3 n h k) : EReal) = dev (fun j => x0 (ix2 n j)) h k := by
  unfold dev
  rw [← mean_at]
  show _ = (x0 (ix2 n (col h k)) : EReal) - _
  rw [← heads_at x0]
  pointwise [val_main_v9, val_main_v8]

/-- The variance, as the reference takes it. -/
theorem var_at (n : Fin 16384) (h : Fin 8) : (val_main_v14 (F := Ideal) x0 (ix3 n h 0) : EReal) = var (fun j => x0 (ix2 n j)) h := by
  unfold var
  simp only [← dev_at]
  pointwise [val_main_v14, val_main_v13, val_main_v12, val_main_v11, val_main_v10, val_main_cst_1, val_main_cst_2]

/-- A normalized entry of a head. -/
theorem norm_at (n : Fin 16384) (h : Fin 8) (k : Fin 64) :
    (val_main_v31 (F := Ideal) x0 x6 x7 (ix3 n h k) : EReal)
      = dev (fun j => x0 (ix2 n j)) h k * Ideal.rsqrt (var (fun j => x0 (ix2 n j)) h + Ideal.ofBits .f32 0x3A27C5AC#32) * x6 (ix2 0 (col h k)) + x7 (ix2 0 (col h k)) := by
  rw [← dev_at, ← var_at]
  pointwise [val_main_v31, val_main_v30, val_main_v29, val_main_v28, val_main_v27, val_main_v26, val_main_v25, val_main_v24, val_main_v23, val_main_v22, val_main_v21, val_main_v20, val_main_v19,
    val_main_v18, val_main_v17, val_main_cst_3, val_main_v16, val_main_v15, val_main_v9, val_main_v8]

/-- The bonus term's sum over a head. -/
theorem bonus_at (n : Fin 16384) (h : Fin 8) :
    (val_main_v37 (F := Ideal) x1 x2 x5 (ix2 n h) : EReal) = ∑ k : Fin 64, (x1 (ix2 n (col h k)) : EReal) * x2 (ix2 n (col h k)) * x5 (ix3 0 h k) := by
  pointwise [val_main_v37, val_main_v36, val_main_v35, val_main_v34, val_main_v33, val_main_v32, val_main_v1, val_main_v2, val_main_cst_4]

/-- An entry of the reference's result. -/
theorem out_at (n : Fin 16384) (h : Fin 8) (k : Fin 64) :
    (val_main_v43 (F := Ideal) x0 x1 x2 x3 x4 x5 x6 x7 (ix2 n (col h k)) : EReal)
      = (dev (fun j => x0 (ix2 n j)) h k * Ideal.rsqrt (var (fun j => x0 (ix2 n j)) h + Ideal.ofBits .f32 0x3A27C5AC#32) * x6 (ix2 0 (col h k)) + x7 (ix2 0 (col h k))
        + (∑ e : Fin 64, (x1 (ix2 n (col h e)) : EReal) * x2 (ix2 n (col h e)) * x5 (ix3 0 h e)) * x3 (ix2 n (col h k))) * x4 (ix2 n (col h k)) := by
  rw [← norm_at, ← bonus_at]
  have hc : (val_main_v42 (F := Ideal) x0 x1 x2 x3 x5 x6 x7 (ix2 n (col h k)) : EReal) = val_main_v41 (F := Ideal) x0 x1 x2 x3 x5 x6 x7 (ix3 n h k) := by
    unfold val_main_v42
    generalize val_main_v41 (F := Ideal) x0 x1 x2 x3 x5 x6 x7 = z
    have e1 : (⟨(h.val * 64 + k.val) / 64, by omega⟩ : Fin 8) = h := Fin.ext (by simp only []; omega)
    have e2 : (⟨(h.val * 64 + k.val) % 64, by omega⟩ : Fin 64) = k := Fin.ext (by simp only []; omega)
    pointwise
    rw [e1, e2]
  have he : (val_main_v43 (F := Ideal) x0 x1 x2 x3 x4 x5 x6 x7 (ix2 n (col h k)) : EReal) = (val_main_v42 (F := Ideal) x0 x1 x2 x3 x5 x6 x7 (ix2 n (col h k)) : EReal) * x4 (ix2 n (col h k)) := rfl
  rw [he, hc]
  pointwise [val_main_v41, val_main_v40, val_main_v39, val_main_v38, val_main_v3]

end Cert.PostRefIdeal.Hand

end
-- ==== Proof.Post.Sums.lean ====
module

public import proofs.«01_k».proof.Proof.Post.Pay
public import proofs.«01_k».proof.Proof.Post.RefAt

/-! For finite entries the body's sums over the matrix of heads are sums over a head. -/

@[expose] public section

set_option maxRecDepth 16384

noncomputable section
open Idealize.ShloMosaic

namespace Cert.Post
open Cert.PostIdeal.Hand Cert.PostRefIdeal.Hand

/-- A number that is a real. -/
def IsReal (x : EReal) : Prop := ∃ a : ℝ, x = (a : EReal)

/-- The difference of two reals is a real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two reals is a real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The sum of two reals is a real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A finite sum of reals is a real. -/
theorem IsReal.sum {n : ℕ} {f : Fin n → EReal} (hf : ∀ i, IsReal (f i)) : IsReal (∑ i, f i) := by
  have h : ∀ s : Finset (Fin n), IsReal (∑ i ∈ s, f i) := by
    intro s
    induction s using Finset.cons_induction with
    | empty => exact ⟨0, by simp⟩
    | cons a s ha ih => rw [Finset.sum_cons]; exact (hf a).add ih
  exact h _

/-- A number whose absolute value lies below infinity is a real. -/
theorem IsReal.of_ne {x : EReal} (h1 : x ≠ ⊤) (h2 : x ≠ ⊥) : IsReal x := ⟨x.toReal, (EReal.coe_toReal h1 h2).symm⟩

/-- A real less itself is zero. -/
theorem IsReal.sub_self {x : EReal} (hx : IsReal x) : x - x = 0 := by
  obtain ⟨a, rfl⟩ := hx
  rw [← EReal.coe_sub, _root_.sub_self, EReal.coe_zero]

/-- Whether two columns are of one head. -/
def same (j d : Fin 512) : EReal := if j.val / 64 = d.val / 64 then 1 else 0

/-- A sum over the columns of one head. -/
theorem sum_same (x : Fin 512 → EReal) (h : Fin 8) (k : Fin 64) : ∑ j, x j * same j (col h k) = ∑ e, x (col h e) := by
  have hz : ∀ j : Fin 512, x j * same j (col h k) = if j.val / 64 = h.val then x j else 0 := by
    intro j
    have : (col h k).val / 64 = h.val := by show (h.val * 64 + k.val) / 64 = _; omega
    unfold same
    rw [this]
    split_ifs
    · exact mul_one _
    · exact mul_zero _
  rw [Finset.sum_congr rfl fun j _ => hz j, ← Finset.sum_filter]
  refine (Finset.sum_bij' (fun (e : Fin 64) _ => col h e) (fun (j : Fin 512) _ => (⟨j.val % 64, by omega⟩ : Fin 64)) ?_ ?_ ?_ ?_ ?_).symm
  · intro e _
    refine Finset.mem_filter.mpr ⟨Finset.mem_univ _, ?_⟩
    show (h.val * 64 + e.val) / 64 = _
    omega
  · intro j _
    exact Finset.mem_univ _
  · intro e _
    refine Fin.ext ?_
    show (h.val * 64 + e.val) % 64 = _
    omega
  · intro j hj
    have := (Finset.mem_filter.mp hj).2
    refine Fin.ext ?_
    show h.val * 64 + j.val % 64 = _
    omega
  · intro e _
    rfl

/-- The body's sum of a real row is the sum over the head. -/
theorem split_eq (x : Fin 512 → EReal) (hx : ∀ j, IsReal (x j)) (h : Fin 8) (k : Fin 64) : split same x (col h k) = ∑ e, x (col h e) := by
  unfold split
  have hz : ∑ j, (x j - x j) * same j (col h k) = 0 := Finset.sum_eq_zero fun j _ => by rw [(hx j).sub_self, zero_mul]
  rw [hz, add_zero, sum_same]

/-- A sixty-fourth part, taken by a product or by a quotient. -/
theorem part_eq (x : EReal) : x * Ideal.ofBits .f32 0x3C800000#32 = Ideal.div x (Ideal.ofBits .f32 0x42800000#32) := by
  have h1 : Ideal.ofBits .f32 0x3C800000#32 = ((1 / 64 : ℝ) : EReal) := by
    simp [Ideal.ofBits, Ideal.ieee, -EReal.coe_mul]
    norm_num
  have h2 : Ideal.ofBits .f32 0x42800000#32 = ((64 : ℝ) : EReal) := by
    simp [Ideal.ofBits, Ideal.ieee, -EReal.coe_mul]
    norm_num
  rw [h1, h2, Ideal.div_coe (by norm_num)]

/-- The mean of a real head is a real. -/
theorem mean_real (y : Fin 512 → EReal) (hy : ∀ j, IsReal (y j)) (h : Fin 8) : IsReal (mean y h) := by
  unfold mean
  rw [← part_eq]
  refine (IsReal.sum fun k => hy _).mul (IsReal.of_ne ?_ ?_)
  · simp [Ideal.ofBits, Ideal.ieee, -EReal.coe_mul]
  · simp [Ideal.ofBits, Ideal.ieee, -EReal.coe_mul]

/-- An entry less the mean is a real. -/
theorem dev_real (y : Fin 512 → EReal) (hy : ∀ j, IsReal (y j)) (h : Fin 8) (k : Fin 64) : IsReal (dev y h k) :=
  (hy _).sub (mean_real y hy h)

/-- The body's row less the means is the reference's. -/
theorem centred_eq (y : Fin 512 → EReal) (hy : ∀ j, IsReal (y j)) (h : Fin 8) (k : Fin 64) : centred same y (col h k) = dev y h k := by
  unfold centred dev mean
  rw [split_eq y hy, part_eq]

/-- Every column is an entry of a head. -/
theorem col_of (j : Fin 512) : ∃ h k, j = col h k :=
  ⟨⟨j.val / 64, by omega⟩, ⟨j.val % 64, by omega⟩, Fin.ext (by show j.val = j.val / 64 * 64 + j.val % 64; omega)⟩

/-- The body's normalized row is the reference's. -/
theorem normed_eq (y w b : Fin 512 → EReal) (hy : ∀ j, IsReal (y j)) (h : Fin 8) (k : Fin 64) :
    normed same y w b (col h k) = dev y h k * Ideal.rsqrt (var y h + Ideal.ofBits .f32 0x3A27C5AC#32) * w (col h k) + b (col h k) := by
  have hf : ∀ j, IsReal (centred same y j * centred same y j) := fun j => by
    obtain ⟨h', k', rfl⟩ := col_of j
    rw [centred_eq y hy]
    exact (dev_real y hy h' k').mul (dev_real y hy h' k')
  unfold normed
  rw [split_eq _ hf, part_eq, centred_eq y hy]
  simp only [centred_eq y hy]
  rfl

end Cert.Post

end
-- ==== Proof.Post.Value.lean ====
module

public import proofs.«01_k».proof.Proof.Post.Sums
public import proofs.«01_k».proof.Proof.Gen.PostIdeal.Frame
public import Idealize.ShloMosaic.Lib.Pipeline.ValueKit
public import Idealize.ShloMosaic.Lib.Claim

/-! The result array of the RWKV-7 heads' normalization after the run is the reference's result. -/

@[expose] public section

set_option maxRecDepth 16384

noncomputable section
open Idealize.ShloMosaic Idealize.ShloMosaic.TcCoe Idealize.SL.Sem
open Idealize.ShloMosaic.Pipeline (Dat)

namespace Cert.PostIdeal.Hand
open Cert.PostIdeal Cert.PostIdeal.Gen
open Cert.Post (IsReal same)
open Cert.PostRefIdeal.Hand (col)

variable (m : (ℓ : Loc nD τ sig) → Buf (Elt Ideal) ℓ)

/-- The blocks each window takes at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The launch has 32 grid points. -/
theorem count (t : Fin cfg0.N) : t.val < 32 := t.isLt

/-- The columns' quotients by a head's width, rounded toward zero. -/
def quots : IVec S512 32 := Host.divsi (iotaInDim S512 32 0) (broadcastInDim S512 ![] bcast_S_S512 (constantI S_ 32 64#32))

/-- The head of each column: the quotient rounded down. -/
def headIds : IVec S512 32 :=
  select
    (andi
      (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi quots (broadcastInDim S512 ![] bcast_S_S512 (constantI S_ 32 1#32))) quots

/-- The matrix of heads: one where two columns are of one head, zero elsewhere. -/
def table : FVec Ideal S512x512 .bf16 :=
  truncf .bf16 (uitofp .f32 (cmpi .eq
    (broadcastInDim S512x512 ![0, 1] bcast_S512x1_S512x512_0_1 (broadcastInDim S512x1 ![0] bcast_S512_S512x1_0 headIds))
    (broadcastInDim S512x512 ![0, 1] bcast_S1x512_S512x512_0_1 (broadcastInDim S1x512 ![1] bcast_S512_S1x512_1 headIds))) : FVec Ideal S512x512 .f32) bitsLt_bf16_f32

/-- The head of a column is its quotient by a head's width. -/
theorem headIds_at : ∀ j : Fin 512, headIds (ix1 j) = BitVec.ofNat 32 (j.val / 64) := by decide +kernel

/-- An entry of the matrix of heads. -/
theorem table_at (j d : Fin 512) : (table (ix2 j d) : EReal) = same j d := by
  have hj := headIds_at j
  have hd := headIds_at d
  have he : (BitVec.ofNat 32 (j.val / 64) = BitVec.ofNat 32 (d.val / 64)) ↔ j.val / 64 = d.val / 64 := by
    constructor
    · intro h
      have := congrArg BitVec.toNat h
      simp only [BitVec.toNat_ofNat] at this
      omega
    · intro h
      rw [h]
  unfold table same
  generalize headIds = z at hj hd ⊢
  pointwise
  rw [hj, hd]
  by_cases h : j.val / 64 = d.val / 64
  · simp [h, FloatOps.uitofp, IntOp.cmpi]
  · simp [h, he, FloatOps.uitofp, IntOp.cmpi]

/-- The matrix of heads as the launch reads it. -/
theorem tables (c : Dev nD) : V m c main_v8 = table := by
  unfold V table headIds quots
  simp only [hostOps0, hostOps0_1, hostOps0_2, List.flatten_cons, List.flatten_nil, List.cons_append, List.nil_append, List.append_nil]
  after_results
  try rfl

/-- The block of operand 0 at a grid point. -/
theorem block0 (c : Dev nD) (t : Fin cfg0.N) (r d : Fin 512) :
    ((iblk m c 0 t : Vec Ideal S512x512 .f32) (ix2 r d) : EReal)
      = (m ((c.tc : Thread nD τ).loc main_arg0) : FVec Ideal S16384x512 .f32) (ix2 ⟨512 * t.val + r.val, by have := count t; omega⟩ d) := by
  have hb : V m c main_arg0 = m ((c.tc : Thread nD τ).loc main_arg0) := by
    unfold V
    simp only [hostOps0, hostOps0_1, hostOps0_2, List.flatten_cons, List.flatten_nil, List.cons_append, List.nil_append, List.append_nil]
    after_results
    try rfl
  generalize m ((c.tc : Thread nD τ).loc main_arg0) = y at hb ⊢
  blk_point [iblk, hb, idx t]

/-- The block of operand 1 at a grid point. -/
theorem block1 (c : Dev nD) (t : Fin cfg0.N) (r d : Fin 512) :
    ((iblk m c 1 t : Vec Ideal S512x512 .f32) (ix2 r d) : EReal)
      = (m ((c.tc : Thread nD τ).loc main_arg1) : FVec Ideal S16384x512 .f32) (ix2 ⟨512 * t.val + r.val, by have := count t; omega⟩ d) := by
  have hb : V m c main_arg1 = m ((c.tc : Thread nD τ).loc main_arg1) := by
    unfold V
    simp only [hostOps0, hostOps0_1, hostOps0_2, List.flatten_cons, List.flatten_nil, List.cons_append, List.nil_append, List.append_nil]
    after_results
    try rfl
  generalize m ((c.tc : Thread nD τ).loc main_arg1) = y at hb ⊢
  blk_point [iblk, hb, idx t]

/-- The block of operand 2 at a grid point. -/
theorem block2 (c : Dev nD) (t : Fin cfg0.N) (r d : Fin 512) :
    ((iblk m c 2 t : Vec Ideal S512x512 .f32) (ix2 r d) : EReal)
      = (m ((c.tc : Thread nD τ).loc main_arg2) : FVec Ideal S16384x512 .f32) (ix2 ⟨512 * t.val + r.val, by have := count t; omega⟩ d) := by
  have hb : V m c main_arg2 = m ((c.tc : Thread nD τ).loc main_arg2) := by
    unfold V
    simp only [hostOps0, hostOps0_1, hostOps0_2, List.flatten_cons, List.flatten_nil, List.cons_append, List.nil_append, List.append_nil]
    after_results
    try rfl
  generalize m ((c.tc : Thread nD τ).loc main_arg2) = y at hb ⊢
  blk_point [iblk, hb, idx t]

/-- The block of operand 3 at a grid point. -/
theorem block3 (c : Dev nD) (t : Fin cfg0.N) (r d : Fin 512) :
    ((iblk m c 3 t : Vec Ideal S512x512 .f32) (ix2 r d) : EReal)
      = (m ((c.tc : Thread nD τ).loc main_arg3) : FVec Ideal S16384x512 .f32) (ix2 ⟨512 * t.val + r.val, by have := count t; omega⟩ d) := by
  have hb : V m c main_arg3 = m ((c.tc : Thread nD τ).loc main_arg3) := by
    unfold V
    simp only [hostOps0, hostOps0_1, hostOps0_2, List.flatten_cons, List.flatten_nil, List.cons_append, List.nil_append, List.append_nil]
    after_results
    try rfl
  generalize m ((c.tc : Thread nD τ).loc main_arg3) = y at hb ⊢
  blk_point [iblk, hb, idx t]

/-- The block of operand 4 at a grid point. -/
theorem block4 (c : Dev nD) (t : Fin cfg0.N) (r d : Fin 512) :
    ((iblk m c 4 t : Vec Ideal S512x512 .f32) (ix2 r d) : EReal)
      = (m ((c.tc : Thread nD τ).loc main_arg4) : FVec Ideal S16384x512 .f32) (ix2 ⟨512 * t.val + r.val, by have := count t; omega⟩ d) := by
  have hb : V m c main_arg4 = m ((c.tc : Thread nD τ).loc main_arg4) := by
    unfold V
    simp only [hostOps0, hostOps0_1, hostOps0_2, List.flatten_cons, List.flatten_nil, List.cons_append, List.nil_append, List.append_nil]
    after_results
    try rfl
  generalize m ((c.tc : Thread nD τ).loc main_arg4) = y at hb ⊢
  blk_point [iblk, hb, idx t]

/-- The bonus weights as the launch reads them. -/
def bonuses (w : FVec Ideal S1x8x64 .f32) : FVec Ideal S1x512 .f32 :=
  shapeCast S1x512 (shapeCast S8x64 w shapeCasts_S1x8x64_S8x64 : FVec Ideal S8x64 .f32) shapeCasts_S8x64_S1x512

/-- A row as the launch reads it. -/
def rows (w : FVec Ideal S1x512 .f32) : FVec Ideal S1x512 .f32 :=
  shapeCast S1x512 (shapeCast S512 w shapeCasts_S1x512_S512 : FVec Ideal S512 .f32) shapeCasts_S512_S1x512

/-- An entry of the bonus weights. -/
theorem bonuses_at (w : FVec Ideal S1x8x64 .f32) (h : Fin 8) (k : Fin 64) : (bonuses w (ix2 0 (col h k)) : EReal) = w (ix3 0 h k) := by
  have e1 : (⟨(h.val * 64 + k.val) / 64, by omega⟩ : Fin 8) = h := Fin.ext (by simp only []; omega)
  have e2 : (⟨(h.val * 64 + k.val) % 64, by omega⟩ : Fin 64) = k := Fin.ext (by simp only []; omega)
  pointwise [bonuses]
  rw [e1, e2]

/-- An entry of a row. -/
theorem rows_at (w : FVec Ideal S1x512 .f32) (j : Fin 512) : (rows w (ix2 0 j) : EReal) = w (ix2 0 j) := by
  pointwise [rows]

/-- The bonus weights at a grid point. -/
theorem block5 (c : Dev nD) (t : Fin cfg0.N) (d : Fin 512) :
    ((iblk m c 5 t : Vec Ideal S1x512 .f32) (ix2 0 d) : EReal) = bonuses (m ((c.tc : Thread nD τ).loc main_arg5)) (ix2 0 d) := by
  have hb : V m c main_v12 = bonuses (m ((c.tc : Thread nD τ).loc main_arg5)) := by
    unfold V bonuses
    simp only [hostOps0, hostOps0_1, hostOps0_2, List.flatten_cons, List.flatten_nil, List.cons_append, List.nil_append, List.append_nil]
    after_results
    try rfl
  generalize bonuses (m ((c.tc : Thread nD τ).loc main_arg5)) = y at hb ⊢
  blk_point [iblk, hb, idx t]

/-- The scales at a grid point. -/
theorem block6 (c : Dev nD) (t : Fin cfg0.N) (d : Fin 512) :
    ((iblk m c 6 t : Vec Ideal S1x512 .f32) (ix2 0 d) : EReal) = rows (m ((c.tc : Thread nD τ).loc main_arg6)) (ix2 0 d) := by
  have hb : V m c main_v13 = rows (m ((c.tc : Thread nD τ).loc main_arg6)) := by
    unfold V rows
    simp only [hostOps0, hostOps0_1, hostOps0_2, List.flatten_cons, List.flatten_nil, List.cons_append, List.nil_append, List.append_nil]
    after_results
    try rfl
  generalize rows (m ((c.tc : Thread nD τ).loc main_arg6)) = y at hb ⊢
  blk_point [iblk, hb, idx t]

/-- The shifts at a grid point. -/
theorem block7 (c : Dev nD) (t : Fin cfg0.N) (d : Fin 512) :
    ((iblk m c 7 t : Vec Ideal S1x512 .f32) (ix2 0 d) : EReal) = rows (m ((c.tc : Thread nD τ).loc main_arg7)) (ix2 0 d) := by
  have hb : V m c main_v14 = rows (m ((c.tc : Thread nD τ).loc main_arg7)) := by
    unfold V rows
    simp only [hostOps0, hostOps0_1, hostOps0_2, List.flatten_cons, List.flatten_nil, List.cons_append, List.nil_append, List.append_nil]
    after_results
    try rfl
  generalize rows (m ((c.tc : Thread nD τ).loc main_arg7)) = y at hb ⊢
  blk_point [iblk, hb, idx t]

/-- The matrix of heads at a grid point. -/
theorem block8 (c : Dev nD) (t : Fin cfg0.N) (j d : Fin 512) :
    ((iblk m c 8 t : Vec Ideal S512x512 .bf16) (ix2 j d) : EReal) = same j d := by
  rw [← table_at]
  have hb := tables m c
  generalize table = y at hb ⊢
  blk_point [iblk, hb, idx t]

/-- The reference's result of the launch's arguments. -/
abbrev expected (c : Dev nD) : FVec Ideal S16384x512 .f32 :=
  Cert.PostRefIdeal.Read.val_main_v43 (F := Ideal) (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

/-- A summand of the bonus term. -/
def bonus (x1 x2 : FVec Ideal S16384x512 .f32) (x5 : FVec Ideal S1x8x64 .f32) (n : Fin 16384) (h : Fin 8) (k : Fin 64) : EReal :=
  (x1 (ix2 n (col h k)) : EReal) * x2 (ix2 n (col h k)) * x5 (ix3 0 h k)

/-- The result array after the run, where what the heads' sums add is real. -/
theorem final9 (c : Dev nD)
    (hy : ∀ n j, IsReal ((m ((c.tc : Thread nD τ).loc main_arg0) : FVec Ideal S16384x512 .f32) (ix2 n j)))
    (hb : ∀ n h k, IsReal (bonus (m ((c.tc : Thread nD τ).loc main_arg1)) (m ((c.tc : Thread nD τ).loc main_arg2)) (m ((c.tc : Thread nD τ).loc main_arg5)) n h k)) :
    (dats m 0 c).arrAt 9 (cfgs 0).N = expected m c := by
  refine (dats m 0 c).arrAt_eq_of_covers 9 _ (by decide +kernel) fun t _ y => ?_
  have ht := count t
  blk_simp
  rw [after0_9]; unfold out0_9; frame_out
  idx_vars y
  refine (pay1_at (k0_pay2 (iblk m c 0 t) (iblk m c 8 t) (iblk m c 8 t) (iblk m c 6 t) (iblk m c 7 t)) (iblk m c 1 t) (iblk m c 2 t) (iblk m c 5 t) (iblk m c 8 t) (iblk m c 3 t) (iblk m c 4 t) y0 y1).trans ?_
  rw [pay2_at]
  simp only [block0, block1, block2, block3, block4, block5, block6, block7, block8, rows_at]
  obtain ⟨h, k, rfl⟩ := Cert.Post.col_of y1
  rw [Cert.Post.normed_eq _ _ _ (fun j => hy _ j), Cert.Post.split_eq _ (fun j => by
    obtain ⟨h', k', rfl⟩ := Cert.Post.col_of j
    rw [bonuses_at]
    exact hb _ h' k')]
  simp only [bonuses_at]
  refine (Cert.PostRefIdeal.Hand.out_at (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) ⟨512 * t.val + y0.val, by omega⟩ h k).symm.trans ?_
  unfold expected
  generalize Cert.PostRefIdeal.Read.val_main_v43 (F := Ideal) (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) = X
  blk_point [idx t]

end Cert.PostIdeal.Hand

end
-- ==== Proof.Post.Claims.lean ====
module

public import proofs.«01_k».proof.Proof.Post.Value
public import proofs.«01_k».proof.Proof.Gen.PostRefIdeal.Run
public import proofs.«01_k».proof.Proof.Gen.PostIdeal.Value
public import proofs.«01_k».proof.Defs

/-! The claims about the RWKV-7 heads' normalization: the reference runs and leaves its arguments, and the two programs' results are equal. -/

@[expose] public section

set_option maxRecDepth 16384

noncomputable section
open Idealize.ShloMosaic Idealize.ShloMosaic.TcCoe Idealize.SL.Sem
open Idealize.ShloMosaic.Pipeline (Dat)

namespace Cert.Proof.Post
open Cert.PostIdeal
open Cert.Post (IsReal)
open Cert.PostRefIdeal.Hand (col)

/-- The side conditions the precondition's function takes. -/
instance pre_facts : Cert.Pre_finite_heads.Facts := ⟨by decide, by decide, by decide⟩

/-- A number whose absolute value lies below infinity is a real. -/
theorem real_of_lt (x : EReal) (h : max x (-x) < Ideal.ofBits .f32 0x7F800000#32) : IsReal x := by
  have hi : Ideal.ofBits .f32 0x7F800000#32 = ⊤ := by simp [Ideal.ofBits, Ideal.ieee]
  rw [hi, max_lt_iff] at h
  refine IsReal.of_ne h.1.ne ?_
  rintro rfl
  simp at h

/-- Two bits whose conjunction is one are both one. -/
theorem both_of_and (a b : Bool) (h : IntOp.andi (BitVec.ofBool a) (BitVec.ofBool b) = 1#1) : a = true ∧ b = true := by
  revert a b
  decide

/-- The precondition says that what the heads' sums add is real. -/
theorem reals [Cert.Pre_finite_heads.Facts] (x0 x1 x2 x3 x4 : FVec Ideal (⟨2, ![16384, 512]⟩ : Shape) .f32) (x5 : FVec Ideal (⟨3, ![1, 8, 64]⟩ : Shape) .f32)
    (x6 x7 : FVec Ideal (⟨2, ![1, 512]⟩ : Shape) .f32)
    (h : Cert.Pre_finite_heads.fn (F := Ideal) x0 x1 x2 x3 x4 x5 x6 x7 = fun _ => 1#1) (n : Fin 16384) (i : Fin 8) (k : Fin 64) :
    IsReal (x0 (ix2 n (col i k))) ∧ IsReal (Cert.PostIdeal.Hand.bonus x1 x2 x5 n i k) := by
  have h1 := congrFun h (ix2 n (col i k))
  unfold Cert.Pre_finite_heads.fn at h1
  pointwise at h1
  obtain ⟨ha, hb⟩ := both_of_and _ _ h1
  exact ⟨real_of_lt _ (of_decide_eq_true ha), real_of_lt _ (of_decide_eq_true hb)⟩

/-- The reference runs and leaves its arguments. -/
theorem frame_ref (m : (ℓ : Loc Cert.PostRefIdeal.nD Cert.PostRefIdeal.τ Cert.PostRefIdeal.sig) → Buf (Elt Ideal) ℓ) (g : Dev Cert.PostRefIdeal.nD → PrngReg) :
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7))
      ∧ r.2.sem = fun _ => 0) :=
  θ_run_mono (Cert.PostRefIdeal.Value.run m g) fun r h => ⟨fun c => (h c).2, sem_eq_zero_of_no_sems (by decide) r.2⟩

/-- Over exact arithmetic the kernel's result is the reference's, where what the heads' sums add is finite. -/
theorem algebraic [hPostIdeal : Cert.PostIdeal.Facts] [hPostRefIdeal : Cert.PostRefIdeal.Facts] [hPre : Cert.Pre_finite_heads.Facts] :
    Cert.algebraic_PostIdeal_PostRefIdeal_pre_finite_heads := by
  intro m g m' g' hpre hagree
  refine ⟨fun c => Cert.PostIdeal.Hand.expected m c, ?_, ?_⟩
  · refine θ_run_mono (Cert.PostIdeal.Value.run_blocks m g) fun r h c =>
      ⟨(h c).1.trans (Cert.PostIdeal.Hand.final9 m c (fun n j => ?_) fun n i k => (reals _ _ _ _ _ _ _ _ (hpre c) n i k).2), (h c).2⟩
    obtain ⟨i, k, rfl⟩ := Cert.Post.col_of j
    exact (reals _ _ _ _ _ _ _ _ (hpre c) n i k).1
  · refine θ_run_mono (Cert.PostRefIdeal.Value.run m' g') fun r h c =>
      ⟨(h c).1.trans ?_, (h c).2⟩
    obtain ⟨h0, h1, h2, h3, h4, h5, h6, h7⟩ := hagree c
    rw [Cert.PostRefIdeal.Read.val_main_v43_eq, h0, h1, h2, h3, h4, h5, h6, h7]

end Cert.Proof.Post

end
-- ==== Proof.PostS.Pay.lean ====
module

public import proofs.«01_k».proof.Proof.Gen.PostSIdeal.Skeleton
public import proofs.«01_k».proof.Proof.Post.Sums
public import Idealize.ShloMosaic.Lib.Pointwise

/-! An entry of what the kernel's body stores for the sample group, over the sums as the body takes them. -/

@[expose] public section

set_option maxRecDepth 16384

noncomputable section
open Idealize.ShloMosaic Idealize.ShloMosaic.TcCoe Idealize.SL.Sem
open Idealize.ShloMosaic.Pipeline (Dat)

namespace Cert.PostSIdeal.Hand
open Cert.PostSIdeal Cert.PostSIdeal.Gen
open Cert.PostIdeal.Hand (split centred normed)

/-- An entry of the normalized block. -/
theorem pay2_at (y : Vec Ideal S512x512 .f32) (h : Vec Ideal S512x512 .bf16) (w b : Vec Ideal S1x512 .f32) (r d : Fin 512) :
    (k0_pay2 y h h w b (ix2 r d) : EReal)
      = normed (fun j e => h (ix2 j e)) (fun j => y (ix2 r j)) (fun j => w (ix2 0 j)) (fun j => b (ix2 0 j)) d := by
  unfold normed centred split
  pointwise [k0_pay2]

/-- An entry of the block the body stores. -/
theorem pay1_at (n : FVec Ideal S512x512 .f32) (x k : Vec Ideal S512x512 .f32) (c : Vec Ideal S1x512 .f32) (h : Vec Ideal S512x512 .bf16)
    (v g : Vec Ideal S512x512 .f32) (r d : Fin 512) :
    (k0_pay1 n x k c h v g (ix2 r d) : EReal)
      = (n (ix2 r d) + split (fun j e => h (ix2 j e)) (fun j => (x (ix2 r j) : EReal) * k (ix2 r j) * c (ix2 0 j)) d * v (ix2 r d)) * g (ix2 r d) := by
  unfold split
  pointwise [k0_pay1]

end Cert.PostSIdeal.Hand

end
-- ==== Proof.PostS.RefAt.lean ====
module

public import proofs.«01_k».proof.Proof.Gen.PostSRefIdeal.Read
public import proofs.«01_k».proof.Proof.Post.RefAt
public import Idealize.ShloMosaic.Lib.Pointwise

/-! Entries of the reference's result for the sample group. -/

@[expose] public section

set_option maxRecDepth 16384

noncomputable section
open Idealize.ShloMosaic Idealize.ShloMosaic.TcCoe Idealize.SL.Sem
open Idealize.ShloMosaic.Pipeline (Dat)

namespace Cert.PostSRefIdeal.Hand
open Cert.PostSRefIdeal Cert.PostSRefIdeal.Gen Cert.PostSRefIdeal.Read
open Cert.PostRefIdeal.Hand (col mean dev var)

variable (x0 x1 x2 x3 x4 : FVec Ideal S512x512 .f32) (x5 : FVec Ideal S1x8x64 .f32) (x6 x7 : FVec Ideal S1x512 .f32)

/-- An entry of the array of heads. -/
theorem heads_at (n : Fin 512) (h : Fin 8) (k : Fin 64) : (val_main_v0 (F := Ideal) x0 (ix3 n h k) : EReal) = x0 (ix2 n (col h k)) := by
  pointwise [val_main_v0]

/-- The mean, as the reference takes it. -/
theorem mean_at (n : Fin 512) (h : Fin 8) : (val_main_v7 (F := Ideal) x0 (ix3 n h 0) : EReal) = mean (fun j => x0 (ix2 n j)) h := by
  unfold mean
  simp only [← heads_at x0]
  pointwise [val_main_v7, val_main_v6, val_main_v5, val_main_v4, val_main_cst, val_main_cst_0]

/-- An entry less the mean, as the reference takes it. -/
theorem dev_at (n : Fin 512) (h : Fin 8) (k : Fin 64) : (val_main_v9 (F := Ideal) x0 (ix3 n h k) : EReal) = dev (fun j => x0 (ix2 n j)) h k := by
  unfold dev
  rw [← mean_at]
  show _ = (x0 (ix2 n (col h k)) : EReal) - _
  rw [← heads_at x0]
  pointwise [val_main_v9, val_main_v8]

/-- The variance, as the reference takes it. -/
theorem var_at (n : Fin 512) (h : Fin 8) : (val_main_v14 (F := Ideal) x0 (ix3 n h 0) : EReal) = var (fun j => x0 (ix2 n j)) h := by
  unfold var
  simp only [← dev_at]
  pointwise [val_main_v14, val_main_v13, val_main_v12, val_main_v11, val_main_v10, val_main_cst_1, val_main_cst_2]

/-- A normalized entry of a head. -/
theorem norm_at (n : Fin 512) (h : Fin 8) (k : Fin 64) :
    (val_main_v31 (F := Ideal) x0 x6 x7 (ix3 n h k) : EReal)
      = dev (fun j => x0 (ix2 n j)) h k * Ideal.rsqrt (var (fun j => x0 (ix2 n j)) h + Ideal.ofBits .f32 0x3A27C5AC#32) * x6 (ix2 0 (col h k)) + x7 (ix2 0 (col h k)) := by
  rw [← dev_at, ← var_at]
  pointwise [val_main_v31, val_main_v30, val_main_v29, val_main_v28, val_main_v27, val_main_v26, val_main_v25, val_main_v24, val_main_v23, val_main_v22, val_main_v21, val_main_v20, val_main_v19,
    val_main_v18, val_main_v17, val_main_cst_3, val_main_v16, val_main_v15, val_main_v9, val_main_v8]

/-- The bonus term's sum over a head. -/
theorem bonus_at (n : Fin 512) (h : Fin 8) :
    (val_main_v37 (F := Ideal) x1 x2 x5 (ix2 n h) : EReal) = ∑ k : Fin 64, (x1 (ix2 n (col h k)) : EReal) * x2 (ix2 n (col h k)) * x5 (ix3 0 h k) := by
  pointwise [val_main_v37, val_main_v36, val_main_v35, val_main_v34, val_main_v33, val_main_v32, val_main_v1, val_main_v2, val_main_cst_4]

/-- An entry of the reference's result. -/
theorem out_at (n : Fin 512) (h : Fin 8) (k : Fin 64) :
    (val_main_v43 (F := Ideal) x0 x1 x2 x3 x4 x5 x6 x7 (ix2 n (col h k)) : EReal)
      = (dev (fun j => x0 (ix2 n j)) h k * Ideal.rsqrt (var (fun j => x0 (ix2 n j)) h + Ideal.ofBits .f32 0x3A27C5AC#32) * x6 (ix2 0 (col h k)) + x7 (ix2 0 (col h k))
        + (∑ e : Fin 64, (x1 (ix2 n (col h e)) : EReal) * x2 (ix2 n (col h e)) * x5 (ix3 0 h e)) * x3 (ix2 n (col h k))) * x4 (ix2 n (col h k)) := by
  rw [← norm_at, ← bonus_at]
  have hc : (val_main_v42 (F := Ideal) x0 x1 x2 x3 x5 x6 x7 (ix2 n (col h k)) : EReal) = val_main_v41 (F := Ideal) x0 x1 x2 x3 x5 x6 x7 (ix3 n h k) := by
    unfold val_main_v42
    generalize val_main_v41 (F := Ideal) x0 x1 x2 x3 x5 x6 x7 = z
    have e1 : (⟨(h.val * 64 + k.val) / 64, by omega⟩ : Fin 8) = h := Fin.ext (by simp only []; omega)
    have e2 : (⟨(h.val * 64 + k.val) % 64, by omega⟩ : Fin 64) = k := Fin.ext (by simp only []; omega)
    pointwise
    rw [e1, e2]
  have he : (val_main_v43 (F := Ideal) x0 x1 x2 x3 x4 x5 x6 x7 (ix2 n (col h k)) : EReal) = (val_main_v42 (F := Ideal) x0 x1 x2 x3 x5 x6 x7 (ix2 n (col h k)) : EReal) * x4 (ix2 n (col h k)) := rfl
  rw [he, hc]
  pointwise [val_main_v41, val_main_v40, val_main_v39, val_main_v38, val_main_v3]

end Cert.PostSRefIdeal.Hand

end
-- ==== Proof.PostS.Value.lean ====
module

public import proofs.«01_k».proof.Proof.PostS.Pay
public import proofs.«01_k».proof.Proof.PostS.RefAt
public import proofs.«01_k».proof.Proof.Gen.PostSIdeal.Frame
public import Idealize.ShloMosaic.Lib.Pipeline.ValueKit
public import Idealize.ShloMosaic.Lib.Claim

/-! For the sample group, the result array of the RWKV-7 heads' normalization after the run is the reference's result. -/

@[expose] public section

set_option maxRecDepth 16384

noncomputable section
open Idealize.ShloMosaic Idealize.ShloMosaic.TcCoe Idealize.SL.Sem
open Idealize.ShloMosaic.Pipeline (Dat)

namespace Cert.PostSIdeal.Hand
open Cert.PostSIdeal Cert.PostSIdeal.Gen
open Cert.Post (IsReal same)
open Cert.PostRefIdeal.Hand (col)

variable (m : (ℓ : Loc nD τ sig) → Buf (Elt Ideal) ℓ)

/-- The blocks each window takes at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The launch has one grid point. -/
theorem count (t : Fin cfg0.N) : t.val < 1 := t.isLt

/-- The columns' quotients by a head's width, rounded toward zero. -/
def quots : IVec S512 32 := Host.divsi (iotaInDim S512 32 0) (broadcastInDim S512 ![] bcast_S_S512 (constantI S_ 32 64#32))

/-- The head of each column: the quotient rounded down. -/
def headIds : IVec S512 32 :=
  select
    (andi
      (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi quots (broadcastInDim S512 ![] bcast_S_S512 (constantI S_ 32 1#32))) quots

/-- The matrix of heads: one where two columns are of one head, zero elsewhere. -/
def table : FVec Ideal S512x512 .bf16 :=
  truncf .bf16 (uitofp .f32 (cmpi .eq
    (broadcastInDim S512x512 ![0, 1] bcast_S512x1_S512x512_0_1 (broadcastInDim S512x1 ![0] bcast_S512_S512x1_0 headIds))
    (broadcastInDim S512x512 ![0, 1] bcast_S1x512_S512x512_0_1 (broadcastInDim S1x512 ![1] bcast_S512_S1x512_1 headIds))) : FVec Ideal S512x512 .f32) bitsLt_bf16_f32

/-- The head of a column is its quotient by a head's width. -/
theorem headIds_at : ∀ j : Fin 512, headIds (ix1 j) = BitVec.ofNat 32 (j.val / 64) := by decide +kernel

/-- An entry of the matrix of heads. -/
theorem table_at (j d : Fin 512) : (table (ix2 j d) : EReal) = same j d := by
  have hj := headIds_at j
  have hd := headIds_at d
  have he : (BitVec.ofNat 32 (j.val / 64) = BitVec.ofNat 32 (d.val / 64)) ↔ j.val / 64 = d.val / 64 := by
    constructor
    · intro h
      have := congrArg BitVec.toNat h
      simp only [BitVec.toNat_ofNat] at this
      omega
    · intro h
      rw [h]
  unfold table same
  generalize headIds = z at hj hd ⊢
  pointwise
  rw [hj, hd]
  by_cases h : j.val / 64 = d.val / 64
  · simp [h, FloatOps.uitofp, IntOp.cmpi]
  · simp [h, he, FloatOps.uitofp, IntOp.cmpi]

/-- The matrix of heads as the launch reads it. -/
theorem tables (c : Dev nD) : V m c main_v8 = table := by
  unfold V table headIds quots
  simp only [hostOps0, hostOps0_1, hostOps0_2, List.flatten_cons, List.flatten_nil, List.cons_append, List.nil_append, List.append_nil]
  after_results
  try rfl

/-- The block of operand 0 at a grid point. -/
theorem block0 (c : Dev nD) (t : Fin cfg0.N) (r d : Fin 512) :
    ((iblk m c 0 t : Vec Ideal S512x512 .f32) (ix2 r d) : EReal)
      = (m ((c.tc : Thread nD τ).loc main_arg0) : FVec Ideal S512x512 .f32) (ix2 ⟨512 * t.val + r.val, by have := count t; omega⟩ d) := by
  have hb : V m c main_arg0 = m ((c.tc : Thread nD τ).loc main_arg0) := by
    unfold V
    simp only [hostOps0, hostOps0_1, hostOps0_2, List.flatten_cons, List.flatten_nil, List.cons_append, List.nil_append, List.append_nil]
    after_results
    try rfl
  generalize m ((c.tc : Thread nD τ).loc main_arg0) = y at hb ⊢
  blk_point [iblk, hb, idx t]

/-- The block of operand 1 at a grid point. -/
theorem block1 (c : Dev nD) (t : Fin cfg0.N) (r d : Fin 512) :
    ((iblk m c 1 t : Vec Ideal S512x512 .f32) (ix2 r d) : EReal)
      = (m ((c.tc : Thread nD τ).loc main_arg1) : FVec Ideal S512x512 .f32) (ix2 ⟨512 * t.val + r.val, by have := count t; omega⟩ d) := by
  have hb : V m c main_arg1 = m ((c.tc : Thread nD τ).loc main_arg1) := by
    unfold V
    simp only [hostOps0, hostOps0_1, hostOps0_2, List.flatten_cons, List.flatten_nil, List.cons_append, List.nil_append, List.append_nil]
    after_results
    try rfl
  generalize m ((c.tc : Thread nD τ).loc main_arg1) = y at hb ⊢
  blk_point [iblk, hb, idx t]

/-- The block of operand 2 at a grid point. -/
theorem block2 (c : Dev nD) (t : Fin cfg0.N) (r d : Fin 512) :
    ((iblk m c 2 t : Vec Ideal S512x512 .f32) (ix2 r d) : EReal)
      = (m ((c.tc : Thread nD τ).loc main_arg2) : FVec Ideal S512x512 .f32) (ix2 ⟨512 * t.val + r.val, by have := count t; omega⟩ d) := by
  have hb : V m c main_arg2 = m ((c.tc : Thread nD τ).loc main_arg2) := by
    unfold V
    simp only [hostOps0, hostOps0_1, hostOps0_2, List.flatten_cons, List.flatten_nil, List.cons_append, List.nil_append, List.append_nil]
    after_results
    try rfl
  generalize m ((c.tc : Thread nD τ).loc main_arg2) = y at hb ⊢
  blk_point [iblk, hb, idx t]

/-- The block of operand 3 at a grid point. -/
theorem block3 (c : Dev nD) (t : Fin cfg0.N) (r d : Fin 512) :
    ((iblk m c 3 t : Vec Ideal S512x512 .f32) (ix2 r d) : EReal)
      = (m ((c.tc : Thread nD τ).loc main_arg3) : FVec Ideal S512x512 .f32) (ix2 ⟨512 * t.val + r.val, by have := count t; omega⟩ d) := by
  have hb : V m c main_arg3 = m ((c.tc : Thread nD τ).loc main_arg3) := by
    unfold V
    simp only [hostOps0, hostOps0_1, hostOps0_2, List.flatten_cons, List.flatten_nil, List.cons_append, List.nil_append, List.append_nil]
    after_results
    try rfl
  generalize m ((c.tc : Thread nD τ).loc main_arg3) = y at hb ⊢
  blk_point [iblk, hb, idx t]

/-- The block of operand 4 at a grid point. -/
theorem block4 (c : Dev nD) (t : Fin cfg0.N) (r d : Fin 512) :
    ((iblk m c 4 t : Vec Ideal S512x512 .f32) (ix2 r d) : EReal)
      = (m ((c.tc : Thread nD τ).loc main_arg4) : FVec Ideal S512x512 .f32) (ix2 ⟨512 * t.val + r.val, by have := count t; omega⟩ d) := by
  have hb : V m c main_arg4 = m ((c.tc : Thread nD τ).loc main_arg4) := by
    unfold V
    simp only [hostOps0, hostOps0_1, hostOps0_2, List.flatten_cons, List.flatten_nil, List.cons_append, List.nil_append, List.append_nil]
    after_results
    try rfl
  generalize m ((c.tc : Thread nD τ).loc main_arg4) = y at hb ⊢
  blk_point [iblk, hb, idx t]

/-- The bonus weights as the launch reads them. -/
def bonuses (w : FVec Ideal S1x8x64 .f32) : FVec Ideal S1x512 .f32 :=
  shapeCast S1x512 (shapeCast S8x64 w shapeCasts_S1x8x64_S8x64 : FVec Ideal S8x64 .f32) shapeCasts_S8x64_S1x512

/-- A row as the launch reads it. -/
def rows (w : FVec Ideal S1x512 .f32) : FVec Ideal S1x512 .f32 :=
  shapeCast S1x512 (shapeCast S512 w shapeCasts_S1x512_S512 : FVec Ideal S512 .f32) shapeCasts_S512_S1x512

/-- An entry of the bonus weights. -/
theorem bonuses_at (w : FVec Ideal S1x8x64 .f32) (h : Fin 8) (k : Fin 64) : (bonuses w (ix2 0 (col h k)) : EReal) = w (ix3 0 h k) := by
  have e1 : (⟨(h.val * 64 + k.val) / 64, by omega⟩ : Fin 8) = h := Fin.ext (by simp only []; omega)
  have e2 : (⟨(h.val * 64 + k.val) % 64, by omega⟩ : Fin 64) = k := Fin.ext (by simp only []; omega)
  pointwise [bonuses]
  rw [e1, e2]

/-- An entry of a row. -/
theorem rows_at (w : FVec Ideal S1x512 .f32) (j : Fin 512) : (rows w (ix2 0 j) : EReal) = w (ix2 0 j) := by
  pointwise [rows]

/-- The bonus weights at a grid point. -/
theorem block5 (c : Dev nD) (t : Fin cfg0.N) (d : Fin 512) :
    ((iblk m c 5 t : Vec Ideal S1x512 .f32) (ix2 0 d) : EReal) = bonuses (m ((c.tc : Thread nD τ).loc main_arg5)) (ix2 0 d) := by
  have hb : V m c main_v12 = bonuses (m ((c.tc : Thread nD τ).loc main_arg5)) := by
    unfold V bonuses
    simp only [hostOps0, hostOps0_1, hostOps0_2, List.flatten_cons, List.flatten_nil, List.cons_append, List.nil_append, List.append_nil]
    after_results
    try rfl
  generalize bonuses (m ((c.tc : Thread nD τ).loc main_arg5)) = y at hb ⊢
  blk_point [iblk, hb, idx t]

/-- The scales at a grid point. -/
theorem block6 (c : Dev nD) (t : Fin cfg0.N) (d : Fin 512) :
    ((iblk m c 6 t : Vec Ideal S1x512 .f32) (ix2 0 d) : EReal) = rows (m ((c.tc : Thread nD τ).loc main_arg6)) (ix2 0 d) := by
  have hb : V m c main_v13 = rows (m ((c.tc : Thread nD τ).loc main_arg6)) := by
    unfold V rows
    simp only [hostOps0, hostOps0_1, hostOps0_2, List.flatten_cons, List.flatten_nil, List.cons_append, List.nil_append, List.append_nil]
    after_results
    try rfl
  generalize rows (m ((c.tc : Thread nD τ).loc main_arg6)) = y at hb ⊢
  blk_point [iblk, hb, idx t]

/-- The shifts at a grid point. -/
theorem block7 (c : Dev nD) (t : Fin cfg0.N) (d : Fin 512) :
    ((iblk m c 7 t : Vec Ideal S1x512 .f32) (ix2 0 d) : EReal) = rows (m ((c.tc : Thread nD τ).loc main_arg7)) (ix2 0 d) := by
  have hb : V m c main_v14 = rows (m ((c.tc : Thread nD τ).loc main_arg7)) := by
    unfold V rows
    simp only [hostOps0, hostOps0_1, hostOps0_2, List.flatten_cons, List.flatten_nil, List.cons_append, List.nil_append, List.append_nil]
    after_results
    try rfl
  generalize rows (m ((c.tc : Thread nD τ).loc main_arg7)) = y at hb ⊢
  blk_point [iblk, hb, idx t]

/-- The matrix of heads at a grid point. -/
theorem block8 (c : Dev nD) (t : Fin cfg0.N) (j d : Fin 512) :
    ((iblk m c 8 t : Vec Ideal S512x512 .bf16) (ix2 j d) : EReal) = same j d := by
  rw [← table_at]
  have hb := tables m c
  generalize table = y at hb ⊢
  blk_point [iblk, hb, idx t]

/-- The reference's result of the launch's arguments. -/
abbrev expected (c : Dev nD) : FVec Ideal S512x512 .f32 :=
  Cert.PostSRefIdeal.Read.val_main_v43 (F := Ideal) (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

/-- A summand of the bonus term. -/
def bonus (x1 x2 : FVec Ideal S512x512 .f32) (x5 : FVec Ideal S1x8x64 .f32) (n : Fin 512) (h : Fin 8) (k : Fin 64) : EReal :=
  (x1 (ix2 n (col h k)) : EReal) * x2 (ix2 n (col h k)) * x5 (ix3 0 h k)

/-- The result array after the run, where what the heads' sums add is real. -/
theorem final9 (c : Dev nD)
    (hy : ∀ n j, IsReal ((m ((c.tc : Thread nD τ).loc main_arg0) : FVec Ideal S512x512 .f32) (ix2 n j)))
    (hb : ∀ n h k, IsReal (bonus (m ((c.tc : Thread nD τ).loc main_arg1)) (m ((c.tc : Thread nD τ).loc main_arg2)) (m ((c.tc : Thread nD τ).loc main_arg5)) n h k)) :
    (dats m 0 c).arrAt 9 (cfgs 0).N = expected m c := by
  refine (dats m 0 c).arrAt_eq_of_covers 9 _ (by decide +kernel) fun t _ y => ?_
  have ht := count t
  blk_simp
  rw [after0_9]; unfold out0_9; frame_out
  idx_vars y
  refine (pay1_at (k0_pay2 (iblk m c 0 t) (iblk m c 8 t) (iblk m c 8 t) (iblk m c 6 t) (iblk m c 7 t)) (iblk m c 1 t) (iblk m c 2 t) (iblk m c 5 t) (iblk m c 8 t) (iblk m c 3 t) (iblk m c 4 t) y0 y1).trans ?_
  rw [pay2_at]
  simp only [block0, block1, block2, block3, block4, block5, block6, block7, block8, rows_at]
  obtain ⟨h, k, rfl⟩ := Cert.Post.col_of y1
  rw [Cert.Post.normed_eq _ _ _ (fun j => hy _ j), Cert.Post.split_eq _ (fun j => by
    obtain ⟨h', k', rfl⟩ := Cert.Post.col_of j
    rw [bonuses_at]
    exact hb _ h' k')]
  simp only [bonuses_at]
  refine (Cert.PostSRefIdeal.Hand.out_at (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) ⟨512 * t.val + y0.val, by omega⟩ h k).symm.trans ?_
  unfold expected
  generalize Cert.PostSRefIdeal.Read.val_main_v43 (F := Ideal) (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) = X
  blk_point [idx t]

end Cert.PostSIdeal.Hand

end
-- ==== Proof.PostS.Claims.lean ====
module

public import proofs.«01_k».proof.Proof.PostS.Value
public import proofs.«01_k».proof.Proof.Gen.PostSRefIdeal.Run
public import proofs.«01_k».proof.Proof.Gen.PostSIdeal.Value
public import proofs.«01_k».proof.Defs

/-! For the sample group, the claims about the RWKV-7 heads' normalization: the reference runs and leaves its arguments, and the two programs' results are equal. -/

@[expose] public section

set_option maxRecDepth 16384

noncomputable section
open Idealize.ShloMosaic Idealize.ShloMosaic.TcCoe Idealize.SL.Sem
open Idealize.ShloMosaic.Pipeline (Dat)

namespace Cert.Proof.PostS
open Cert.PostSIdeal
open Cert.Post (IsReal)
open Cert.PostRefIdeal.Hand (col)

/-- The side conditions the precondition's function takes. -/
instance pre_facts : Cert.Pre_finite_heads_sample.Facts := ⟨by decide, by decide, by decide⟩

/-- A number whose absolute value lies below infinity is a real. -/
theorem real_of_lt (x : EReal) (h : max x (-x) < Ideal.ofBits .f32 0x7F800000#32) : IsReal x := by
  have hi : Ideal.ofBits .f32 0x7F800000#32 = ⊤ := by simp [Ideal.ofBits, Ideal.ieee]
  rw [hi, max_lt_iff] at h
  refine IsReal.of_ne h.1.ne ?_
  rintro rfl
  simp at h

/-- Two bits whose conjunction is one are both one. -/
theorem both_of_and (a b : Bool) (h : IntOp.andi (BitVec.ofBool a) (BitVec.ofBool b) = 1#1) : a = true ∧ b = true := by
  revert a b
  decide

/-- The precondition says that what the heads' sums add is real. -/
theorem reals [Cert.Pre_finite_heads_sample.Facts] (x0 x1 x2 x3 x4 : FVec Ideal (⟨2, ![512, 512]⟩ : Shape) .f32) (x5 : FVec Ideal (⟨3, ![1, 8, 64]⟩ : Shape) .f32)
    (x6 x7 : FVec Ideal (⟨2, ![1, 512]⟩ : Shape) .f32)
    (h : Cert.Pre_finite_heads_sample.fn (F := Ideal) x0 x1 x2 x3 x4 x5 x6 x7 = fun _ => 1#1) (n : Fin 512) (i : Fin 8) (k : Fin 64) :
    IsReal (x0 (ix2 n (col i k))) ∧ IsReal (Cert.PostSIdeal.Hand.bonus x1 x2 x5 n i k) := by
  have h1 := congrFun h (ix2 n (col i k))
  unfold Cert.Pre_finite_heads_sample.fn at h1
  pointwise at h1
  obtain ⟨ha, hb⟩ := both_of_and _ _ h1
  exact ⟨real_of_lt _ (of_decide_eq_true ha), real_of_lt _ (of_decide_eq_true hb)⟩

/-- The reference runs and leaves its arguments. -/
theorem frame_ref (m : (ℓ : Loc Cert.PostSRefIdeal.nD Cert.PostSRefIdeal.τ Cert.PostSRefIdeal.sig) → Buf (Elt Ideal) ℓ) (g : Dev Cert.PostSRefIdeal.nD → PrngReg) :
    θ_run (Cert.PostSRefIdeal.defs (F := Ideal)) (onTc (τ := Cert.PostSRefIdeal.τ) (Cert.PostSRefIdeal.main (F := Ideal))) ⟨m, fun _ => 0, g⟩ (fun r => (∀ c : Dev Cert.PostSRefIdeal.nD,
      r.2.mem ((c.tc : Thread Cert.PostSRefIdeal.nD Cert.PostSRefIdeal.τ).loc Cert.PostSRefIdeal.main_arg0) = m ((c.tc : Thread Cert.PostSRefIdeal.nD Cert.PostSRefIdeal.τ).loc Cert.PostSRefIdeal.main_arg0)
      ∧ r.2.mem ((c.tc : Thread Cert.PostSRefIdeal.nD Cert.PostSRefIdeal.τ).loc Cert.PostSRefIdeal.main_arg1) = m ((c.tc : Thread Cert.PostSRefIdeal.nD Cert.PostSRefIdeal.τ).loc Cert.PostSRefIdeal.main_arg1)
      ∧ r.2.mem ((c.tc : Thread Cert.PostSRefIdeal.nD Cert.PostSRefIdeal.τ).loc Cert.PostSRefIdeal.main_arg2) = m ((c.tc : Thread Cert.PostSRefIdeal.nD Cert.PostSRefIdeal.τ).loc Cert.PostSRefIdeal.main_arg2)
      ∧ r.2.mem ((c.tc : Thread Cert.PostSRefIdeal.nD Cert.PostSRefIdeal.τ).loc Cert.PostSRefIdeal.main_arg3) = m ((c.tc : Thread Cert.PostSRefIdeal.nD Cert.PostSRefIdeal.τ).loc Cert.PostSRefIdeal.main_arg3)
      ∧ r.2.mem ((c.tc : Thread Cert.PostSRefIdeal.nD Cert.PostSRefIdeal.τ).loc Cert.PostSRefIdeal.main_arg4) = m ((c.tc : Thread Cert.PostSRefIdeal.nD Cert.PostSRefIdeal.τ).loc Cert.PostSRefIdeal.main_arg4)
      ∧ r.2.mem ((c.tc : Thread Cert.PostSRefIdeal.nD Cert.PostSRefIdeal.τ).loc Cert.PostSRefIdeal.main_arg5) = m ((c.tc : Thread Cert.PostSRefIdeal.nD Cert.PostSRefIdeal.τ).loc Cert.PostSRefIdeal.main_arg5)
      ∧ r.2.mem ((c.tc : Thread Cert.PostSRefIdeal.nD Cert.PostSRefIdeal.τ).loc Cert.PostSRefIdeal.main_arg6) = m ((c.tc : Thread Cert.PostSRefIdeal.nD Cert.PostSRefIdeal.τ).loc Cert.PostSRefIdeal.main_arg6)
      ∧ r.2.mem ((c.tc : Thread Cert.PostSRefIdeal.nD Cert.PostSRefIdeal.τ).loc Cert.PostSRefIdeal.main_arg7) = m ((c.tc : Thread Cert.PostSRefIdeal.nD Cert.PostSRefIdeal.τ).loc Cert.PostSRefIdeal.main_arg7))
      ∧ r.2.sem = fun _ => 0) :=
  θ_run_mono (Cert.PostSRefIdeal.Value.run m g) fun r h => ⟨fun c => (h c).2, sem_eq_zero_of_no_sems (by decide) r.2⟩

/-- Over exact arithmetic the kernel's result is the reference's, where what the heads' sums add is finite. -/
theorem algebraic [hPostSIdeal : Cert.PostSIdeal.Facts] [hPostSRefIdeal : Cert.PostSRefIdeal.Facts] [hPre : Cert.Pre_finite_heads_sample.Facts] :
    Cert.algebraic_PostSIdeal_PostSRefIdeal_pre_finite_heads_sample := by
  intro m g m' g' hpre hagree
  refine ⟨fun c => Cert.PostSIdeal.Hand.expected m c, ?_, ?_⟩
  · refine θ_run_mono (Cert.PostSIdeal.Value.run_blocks m g) fun r h c =>
      ⟨(h c).1.trans (Cert.PostSIdeal.Hand.final9 m c (fun n j => ?_) fun n i k => (reals _ _ _ _ _ _ _ _ (hpre c) n i k).2), (h c).2⟩
    obtain ⟨i, k, rfl⟩ := Cert.Post.col_of j
    exact (reals _ _ _ _ _ _ _ _ (hpre c) n i k).1
  · refine θ_run_mono (Cert.PostSRefIdeal.Value.run m' g') fun r h c =>
      ⟨(h c).1.trans ?_, (h c).2⟩
    obtain ⟨h0, h1, h2, h3, h4, h5, h6, h7⟩ := hagree c
    rw [Cert.PostSRefIdeal.Read.val_main_v43_eq, h0, h1, h2, h3, h4, h5, h6, h7]

end Cert.Proof.PostS

end
-- ==== Proof.Prep.Rows.lean ====
module

public import proofs.«01_k».proof.Proof.Post.Sums

/-! The arithmetic of the RWKV-7 preparation on rows, and when its split products are plain products. -/

@[expose] public section

set_option maxRecDepth 16384

noncomputable section
open Idealize.ShloMosaic Idealize.ShloMosaic.TcCoe Idealize.SL.Sem
open Idealize.ShloMosaic.Pipeline (Dat)

namespace Cert.PrepRows
open Cert.Post (IsReal same)
open Cert.PostIdeal.Hand (split)
open Cert.PostRefIdeal.Hand (col)

/-- The bits of one. -/
theorem one_bits : Ideal.ofBits .f32 0x3F800000#32 = 1 := by
  have h : Ideal.ofBits .f32 0x3F800000#32 = ((1 : ℝ) : EReal) := by
    simp [Ideal.ofBits, Ideal.ieee, -EReal.coe_mul]
    norm_num
  rw [h, EReal.coe_one]

/-- Zero less a number is its negation. -/
theorem zero_less (x : EReal) : 0 - x = -x := by rw [sub_eq_add_neg, zero_add]

/-- A row's entry moved toward the one before it. -/
def mix (u p a : EReal) : EReal := u + (p - u) * a

/-- The logarithm of the decay of a channel. -/
def dec (t : EReal) : EReal :=
  -Ideal.exp (-(max (-t) 0 + Ideal.log (1 + Ideal.exp (-(max (-t) (- -t))))) - Ideal.ofBits .f32 0x3F000000#32)

/-- The product of a row and a column as three products of rounded parts and of what the rounding leaves. -/
def split3 (x w : Fin 256 → EReal) : EReal := (∑ j, x j * w j) + ((∑ j, (x j - x j) * w j) + ∑ j, x j * (w j - w j))

/-- The entry at `j` of a column of weights that begins at `a` in a column of zeros. -/
def pads (a n : ℕ) (w : Fin n → EReal) (j : Fin 256) : EReal := if h : a ≤ j.val ∧ j.val - a < n then w ⟨j.val - a, h.2⟩ else 0

/-- The split product with a padded column is the product with the column. -/
theorem split3_eq (a n : ℕ) (hn : a + n ≤ 256) (x : Fin 256 → EReal) (w : Fin n → EReal)
    (hx : ∀ e : Fin n, IsReal (x ⟨a + e.val, by omega⟩)) (hw : ∀ e, IsReal (w e)) :
    split3 x (pads a n w) = ∑ e : Fin n, x ⟨a + e.val, by omega⟩ * w e := by
  have h1 : ∀ j, (x j - x j) * pads a n w j = 0 := by
    intro j
    unfold pads
    split_ifs with h
    · have hj : j = ⟨a + (⟨j.val - a, h.2⟩ : Fin n).val, by omega⟩ := Fin.ext (by simp only []; omega)
      have := hx ⟨j.val - a, h.2⟩
      rw [← hj] at this
      rw [this.sub_self, zero_mul]
    · exact mul_zero _
  have h2 : ∀ j, x j * (pads a n w j - pads a n w j) = 0 := by
    intro j
    unfold pads
    split_ifs with h
    · rw [(hw _).sub_self, mul_zero]
    · rw [sub_zero, mul_zero]
  unfold split3
  rw [Finset.sum_eq_zero fun j _ => h1 j, Finset.sum_eq_zero fun j _ => h2 j, add_zero, add_zero]
  have hz : ∀ j : Fin 256, x j * pads a n w j = if a ≤ j.val ∧ j.val - a < n then x j * pads a n w j else 0 := by
    intro j
    split_ifs with h
    · rfl
    · unfold pads
      rw [dif_neg h, mul_zero]
  rw [Finset.sum_congr rfl fun j _ => hz j, ← Finset.sum_filter]
  refine Finset.sum_bij' (fun (j : Fin 256) hj => (⟨j.val - a, (Finset.mem_filter.mp hj).2.2⟩ : Fin n)) (fun (e : Fin n) _ => (⟨a + e.val, by omega⟩ : Fin 256)) ?_ ?_ ?_ ?_ ?_
  · intro j _
    exact Finset.mem_univ _
  · intro e _
    refine Finset.mem_filter.mpr ⟨Finset.mem_univ _, ?_⟩
    simp only []
    omega
  · intro j hj
    have := (Finset.mem_filter.mp hj).2
    refine Fin.ext ?_
    simp only []
    omega
  · intro e _
    refine Fin.ext ?_
    simp only []
    omega
  · intro j hj
    have h := (Finset.mem_filter.mp hj).2
    have hj' : (⟨a + (j.val - a), by omega⟩ : Fin 256) = j := Fin.ext (by simp only []; omega)
    show x j * pads a n w j = x ⟨a + (j.val - a), _⟩ * w ⟨j.val - a, _⟩
    rw [hj']
    unfold pads
    rw [dif_pos h]

/-- A hyperbolic tangent is a real. -/
theorem tanh_real (x : EReal) : IsReal (Ideal.tanh x) := by
  induction x using EReal.rec with
  | bot => exact ⟨-1, by show (-1 : EReal) = _; rw [EReal.coe_neg, EReal.coe_one]⟩
  | coe r => exact ⟨Real.tanh r, rfl⟩
  | top => exact ⟨1, by show (1 : EReal) = _; rw [EReal.coe_one]⟩

/-- A value of the logistic function is a real. -/
theorem logistic_real (x : EReal) : IsReal (Ideal.logistic x) := by
  induction x using EReal.rec with
  | bot =>
    refine ⟨0, ?_⟩
    have h : (1 + Ideal.exp (-⊥) : EReal) = ⊤ := by
      rw [EReal.neg_bot]
      show (1 + ⊤ : EReal) = ⊤
      exact EReal.add_top_of_ne_bot (by decide)
    unfold Ideal.logistic
    rw [h]
    simp [Ideal.div]
  | coe r =>
    refine ⟨(1 + Real.exp (-r))⁻¹, ?_⟩
    have h : (1 + Ideal.exp (-(r : EReal)) : EReal) = ((1 + Real.exp (-r) : ℝ) : EReal) := by
      rw [← EReal.coe_neg]
      show (1 + ((Real.exp (-r) : ℝ) : EReal) : EReal) = _
      rw [EReal.coe_add, EReal.coe_one]
    unfold Ideal.logistic
    rw [h, Ideal.div_coe (by positivity), one_mul]
    simp
  | top =>
    refine ⟨1, ?_⟩
    have h : (1 + Ideal.exp (-⊤) : EReal) = ((1 : ℝ) : EReal) := by
      rw [EReal.neg_top]
      show (1 + 0 : EReal) = _
      rw [add_zero, EReal.coe_one]
    unfold Ideal.logistic
    rw [h, Ideal.div_coe (by norm_num)]
    simp

/-- A key over the norm of its head, the head's sum taken as the body takes it. -/
def unit (h : Fin 512 → Fin 512 → EReal) (y : Fin 512 → EReal) (d : Fin 512) : EReal :=
  Ideal.div (y d) (max (Ideal.sqrt (split h (fun j => y j * y j) d)) (Ideal.ofBits .f32 0x2B8CBCCC#32))

/-- For real keys the head's sum is the sum of the head's squares. -/
theorem unit_eq (y : Fin 512 → EReal) (hy : ∀ j, IsReal (y j)) (h : Fin 8) (k : Fin 64) :
    unit same y (col h k) = Ideal.div (y (col h k)) (max (Ideal.sqrt (∑ e, y (col h e) * y (col h e))) (Ideal.ofBits .f32 0x2B8CBCCC#32)) := by
  unfold unit
  rw [Cert.Post.split_eq _ fun j => (hy j).mul (hy j)]

end Cert.PrepRows

end
-- ==== Proof.Prep.Pay.lean ====
module

public import proofs.«01_k».proof.Proof.Prep.Rows
public import proofs.«01_k».proof.Proof.Gen.PrepIdeal.Skeleton

/-! Entries of what the preparation's body computes. -/

@[expose] public section

set_option maxRecDepth 16384

noncomputable section
open Idealize.ShloMosaic Idealize.ShloMosaic.TcCoe Idealize.SL.Sem
open Idealize.ShloMosaic.Pipeline (Dat)

namespace Cert.PrepIdeal.Hand
open Cert.PrepIdeal Cert.PrepIdeal.Gen Cert.PrepRows
open Cert.PostIdeal.Hand (split)

/-- An entry of the mixed receptances. -/
theorem pay5_at (u p : Vec Ideal S512x512 .f32) (a : Vec Ideal S1x512 .f32) (r d : Fin 512) :
    (k0_pay5 u p a (ix2 r d) : EReal) = mix (u (ix2 r d)) (p (ix2 r d)) (a (ix2 0 d)) := by
  unfold mix
  pointwise [k0_pay5]

/-- An entry of the mixed keys. -/
theorem pay6_at (u p : Vec Ideal S512x512 .f32) (a : Vec Ideal S1x512 .f32) (r d : Fin 512) :
    (k0_pay6 u p a (ix2 r d) : EReal) = mix (u (ix2 r d)) (p (ix2 r d)) (a (ix2 0 d)) := by
  unfold mix
  pointwise [k0_pay6]

/-- An entry of the mixed values. -/
theorem pay7_at (u p : Vec Ideal S512x512 .f32) (a : Vec Ideal S1x512 .f32) (r d : Fin 512) :
    (k0_pay7 u p a (ix2 r d) : EReal) = mix (u (ix2 r d)) (p (ix2 r d)) (a (ix2 0 d)) := by
  unfold mix
  pointwise [k0_pay7]

/-- An entry of the mixed low-rank channels. -/
theorem pay8_at (u p : Vec Ideal S512x256 .f32) (a : Vec Ideal S1x256 .f32) (r : Fin 512) (d : Fin 256) :
    (k0_pay8 u p a (ix2 r d) : EReal) = mix (u (ix2 r d)) (p (ix2 r d)) (a (ix2 0 d)) := by
  unfold mix
  pointwise [k0_pay8]

/-- An entry of the decays' logarithms. -/
theorem decay_at (l : FVec Ideal S512x256 .f32) (w0 : Vec Ideal S1x512 .f32) (w2 : Vec Ideal S256x512 .f32) (r d : Fin 512) :
    (k0_pay1 (k0_pay9 l w0 w2) (ix2 r d) : EReal)
      = dec (w0 (ix2 0 d) + split3 (fun j => Ideal.tanh (l (ix2 r j))) (fun j => w2 (ix2 j d))) := by
  unfold dec split3
  simp only [← one_bits]
  pointwise [k0_pay1, k0_pay9]
  simp only [zero_less]
  rfl

/-- An entry of the removal rates. -/
theorem rate_at (l : FVec Ideal S512x256 .f32) (a0 : Vec Ideal S1x512 .f32) (a2 : Vec Ideal S256x512 .f32) (r d : Fin 512) :
    (k0_pay16 (k0_pay10 a0) (k0_pay11 l) (k0_pay12 l) (k0_pay13 a2) (k0_pay14 a2) (k0_pay15 a2) (ix2 r d) : EReal)
      = Ideal.logistic (a0 (ix2 0 d) + split3 (fun j => l (ix2 r j)) (fun j => a2 (ix2 j d))) := by
  unfold split3
  pointwise [k0_pay16, k0_pay10, k0_pay11, k0_pay12, k0_pay13, k0_pay14, k0_pay15]

/-- An entry of the gates. -/
theorem gate_at (l : FVec Ideal S512x256 .f32) (g2 : Vec Ideal S256x512 .f32) (r d : Fin 512) :
    (k0_pay17 l g2 (ix2 r d) : EReal) = split3 (fun j => Ideal.logistic (l (ix2 r j))) (fun j => g2 (ix2 j d)) := by
  unfold split3
  pointwise [k0_pay17]

/-- An entry of the keys over the norms of their heads. -/
theorem unit_at (k : FVec Ideal S512x512 .f32) (w : Vec Ideal S1x512 .f32) (h : Vec Ideal S512x512 .bf16) (r d : Fin 512) :
    (k0_pay18 k w h (ix2 r d) : EReal) = unit (fun j e => h (ix2 j e)) (fun j => (k (ix2 r j) : EReal) * w (ix2 0 j)) d := by
  unfold unit split
  pointwise [k0_pay18]

/-- An entry of the keys the recurrence takes. -/
theorem pay2_at (k a : FVec Ideal S512x512 .f32) (w : Vec Ideal S1x512 .f32) (r d : Fin 512) :
    (k0_pay2 k a w (ix2 r d) : EReal) = (k (ix2 r d) : EReal) * (1 + ((a (ix2 r d) : EReal) - 1) * w (ix2 0 d)) := by
  simp only [← one_bits]
  pointwise [k0_pay2]

/-- An entry of the keys the recurrence removes by. -/
theorem pay3_at (k : FVec Ideal S512x512 .f32) (r d : Fin 512) : (k0_pay3 k (ix2 r d) : EReal) = -(k (ix2 r d) : EReal) := by
  pointwise [k0_pay3]
  exact zero_less _

/-- An entry of the keys the recurrence adds by. -/
theorem pay4_at (a k : FVec Ideal S512x512 .f32) (r d : Fin 512) : (k0_pay4 a k (ix2 r d) : EReal) = (k (ix2 r d) : EReal) * a (ix2 r d) := by
  pointwise [k0_pay4]

end Cert.PrepIdeal.Hand

end
-- ==== Proof.Prep.Body.lean ====
module

public import proofs.«01_k».proof.Proof.Gen.PrepIdeal.Launch
public import proofs.«01_k».proof.Proof.Gen.PrepIdeal.Skeleton
public import proofs.«01_k».proof.Proof.Gen.PrepIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! What the RWKV-7 preparation's body leaves at a grid point, and what the launch reads there. -/

@[expose] public section

set_option maxRecDepth 16384

noncomputable section

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`):
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`):
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`):
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`):
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`):
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`):
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`):
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`):
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`):
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`):
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`):
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`):
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`):
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`):
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`):
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`):
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`):
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1620000 in
/-- THE FRAME from a frame run: for any proof data whose arrays are the region-entry contents (`hA`), a run to
    `FramePost` read at the argument arrays — a staged input by the library's
    `Dat.arrAt_in`, an array no window stages by the post's second clause, each then by `V_…` — is the frame
    claim's post (`Cert.frame_PrepIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

abbrev r0_0 : Rect S512x512 := Rect.unit (s := S512x512) ![0, 0] S512x512.size inb_S512x512_S512x512_0_0
abbrev r0_1 : Rect S1x512 := Rect.unit (s := S1x512) ![0, 0] S1x512.size inb_S1x512_S1x512_0_0
abbrev r0_2 : Rect S512x256 := Rect.unit (s := S512x256) ![0, 0] S512x256.size inb_S512x256_S512x256_0_0
abbrev r0_3 : Rect S1x256 := Rect.unit (s := S1x256) ![0, 0] S1x256.size inb_S1x256_S1x256_0_0
abbrev r0_4 : Rect S256x512 := Rect.unit (s := S256x512) ![0, 0] S256x512.size inb_S256x512_S256x512_0_0

def k0_pay19 (x0 : Vec F S512x512 .f32) (x1 : Vec F S512x512 .f32) (x2 : Vec F S512x512 .f32) (x3 : Vec F S512x256 .f32) (x4 : Vec F S512x512 .f32) (x5 : Vec F S512x512 .f32) (x6 : Vec F S512x512 .f32) (x7 : Vec F S512x256 .f32) (x8 : Vec F S1x512 .f32) (x9 : Vec F S1x512 .f32) (x10 : Vec F S1x512 .f32) (x11 : Vec F S1x256 .f32) (x12 : Vec F S1x512 .f32) (x13 : Vec F S256x512 .f32) (x14 : Vec F S1x512 .f32) (x15 : Vec F S256x512 .f32) (x16 : Vec F S256x512 .f32) (x17 : Vec F S1x512 .f32) (x18 : Vec F S1x512 .f32) (x19 : Vec F S512x512 .bf16) : FVec F S512x512 .f32 :=
  k0_pay6 (View.ld x1 r0_0) (View.ld x5 r0_0) (View.ld x9 r0_1) -- `v15`
def k0_pay20 (x0 : Vec F S512x512 .f32) (x1 : Vec F S512x512 .f32) (x2 : Vec F S512x512 .f32) (x3 : Vec F S512x256 .f32) (x4 : Vec F S512x512 .f32) (x5 : Vec F S512x512 .f32) (x6 : Vec F S512x512 .f32) (x7 : Vec F S512x256 .f32) (x8 : Vec F S1x512 .f32) (x9 : Vec F S1x512 .f32) (x10 : Vec F S1x512 .f32) (x11 : Vec F S1x256 .f32) (x12 : Vec F S1x512 .f32) (x13 : Vec F S256x512 .f32) (x14 : Vec F S1x512 .f32) (x15 : Vec F S256x512 .f32) (x16 : Vec F S256x512 .f32) (x17 : Vec F S1x512 .f32) (x18 : Vec F S1x512 .f32) (x19 : Vec F S512x512 .bf16) : FVec F S512x256 .f32 :=
  k0_pay8 (View.ld x3 r0_2) (View.ld x7 r0_2) (View.ld x11 r0_3) -- `v31`
def k0_pay21 (x0 : Vec F S512x512 .f32) (x1 : Vec F S512x512 .f32) (x2 : Vec F S512x512 .f32) (x3 : Vec F S512x256 .f32) (x4 : Vec F S512x512 .f32) (x5 : Vec F S512x512 .f32) (x6 : Vec F S512x512 .f32) (x7 : Vec F S512x256 .f32) (x8 : Vec F S1x512 .f32) (x9 : Vec F S1x512 .f32) (x10 : Vec F S1x512 .f32) (x11 : Vec F S1x256 .f32) (x12 : Vec F S1x512 .f32) (x13 : Vec F S256x512 .f32) (x14 : Vec F S1x512 .f32) (x15 : Vec F S256x512 .f32) (x16 : Vec F S256x512 .f32) (x17 : Vec F S1x512 .f32) (x18 : Vec F S1x512 .f32) (x19 : Vec F S512x512 .bf16) : FVec F S512x512 .f32 :=
  k0_pay16 (k0_pay10 (View.ld x14 r0_1)) (k0_pay11 (k0_pay20 x0 x1 x2 x3 x4 x5 x6 x7 x8 x9 x10 x11 x12 x13 x14 x15 x16 x17 x18 x19)) (k0_pay12 (k0_pay20 x0 x1 x2 x3 x4 x5 x6 x7 x8 x9 x10 x11 x12 x13 x14 x15 x16 x17 x18 x19)) (k0_pay13 (View.ld x15 r0_4)) (k0_pay14 (View.ld x15 r0_4)) (k0_pay15 (View.ld x15 r0_4)) -- `v87`
def k0_pay22 (x0 : Vec F S512x512 .f32) (x1 : Vec F S512x512 .f32) (x2 : Vec F S512x512 .f32) (x3 : Vec F S512x256 .f32) (x4 : Vec F S512x512 .f32) (x5 : Vec F S512x512 .f32) (x6 : Vec F S512x512 .f32) (x7 : Vec F S512x256 .f32) (x8 : Vec F S1x512 .f32) (x9 : Vec F S1x512 .f32) (x10 : Vec F S1x512 .f32) (x11 : Vec F S1x256 .f32) (x12 : Vec F S1x512 .f32) (x13 : Vec F S256x512 .f32) (x14 : Vec F S1x512 .f32) (x15 : Vec F S256x512 .f32) (x16 : Vec F S256x512 .f32) (x17 : Vec F S1x512 .f32) (x18 : Vec F S1x512 .f32) (x19 : Vec F S512x512 .bf16) : FVec F S512x512 .f32 :=
  k0_pay18 (k0_pay19 x0 x1 x2 x3 x4 x5 x6 x7 x8 x9 x10 x11 x12 x13 x14 x15 x16 x17 x18 x19) (View.ld x17 r0_1) (View.ld x19 r0_0) -- `v121`

/-- Window 20's staging buffer after the body, from the input windows' blocks: its 1 store as pieces, LAST
    FIRST. -/
def out0_20 (x0 : Vec F S512x512 .f32) (x1 : Vec F S512x512 .f32) (x2 : Vec F S512x512 .f32) (x3 : Vec F S512x256 .f32) (x4 : Vec F S512x512 .f32) (x5 : Vec F S512x512 .f32) (x6 : Vec F S512x512 .f32) (x7 : Vec F S512x256 .f32) (x8 : Vec F S1x512 .f32) (x9 : Vec F S1x512 .f32) (x10 : Vec F S1x512 .f32) (x11 : Vec F S1x256 .f32) (x12 : Vec F S1x512 .f32) (x13 : Vec F S256x512 .f32) (x14 : Vec F S1x512 .f32) (x15 : Vec F S256x512 .f32) (x16 : Vec F S256x512 .f32) (x17 : Vec F S1x512 .f32) (x18 : Vec F S1x512 .f32) (x19 : Vec F S512x512 .bf16) : Vec F S512x512 .f32 :=
  View.canon [⟨r0_0, k0_pay5 (View.ld x0 r0_0) (View.ld x4 r0_0) (View.ld x8 r0_1)⟩]

/-- Its stores tile the buffer (checked by evaluation), so they cover it. -/
theorem cover0_20 (p0 : Vec F S512x512 .f32) (y : S512x512.Idx) :
    ∃ pc ∈ ([⟨r0_0, p0⟩] : List (View.Piece (Elt F) S512x512 .f32)), y ∈ pc.1.set :=
  View.cover_of_tiled [⟨r0_0, p0⟩] S512x512.size (by rfl) y

/-- Window 21's staging buffer after the body, from the input windows' blocks: its 1 store as pieces, LAST
    FIRST. -/
def out0_21 (x0 : Vec F S512x512 .f32) (x1 : Vec F S512x512 .f32) (x2 : Vec F S512x512 .f32) (x3 : Vec F S512x256 .f32) (x4 : Vec F S512x512 .f32) (x5 : Vec F S512x512 .f32) (x6 : Vec F S512x512 .f32) (x7 : Vec F S512x256 .f32) (x8 : Vec F S1x512 .f32) (x9 : Vec F S1x512 .f32) (x10 : Vec F S1x512 .f32) (x11 : Vec F S1x256 .f32) (x12 : Vec F S1x512 .f32) (x13 : Vec F S256x512 .f32) (x14 : Vec F S1x512 .f32) (x15 : Vec F S256x512 .f32) (x16 : Vec F S256x512 .f32) (x17 : Vec F S1x512 .f32) (x18 : Vec F S1x512 .f32) (x19 : Vec F S512x512 .bf16) : Vec F S512x512 .f32 :=
  View.canon [⟨r0_0, k0_pay1 (k0_pay9 (k0_pay20 x0 x1 x2 x3 x4 x5 x6 x7 x8 x9 x10 x11 x12 x13 x14 x15 x16 x17 x18 x19) (View.ld x12 r0_1) (View.ld x13 r0_4))⟩]

/-- Its stores tile the buffer (checked by evaluation), so they cover it. -/
theorem cover0_21 (p0 : Vec F S512x512 .f32) (y : S512x512.Idx) :
    ∃ pc ∈ ([⟨r0_0, p0⟩] : List (View.Piece (Elt F) S512x512 .f32)), y ∈ pc.1.set :=
  View.cover_of_tiled [⟨r0_0, p0⟩] S512x512.size (by rfl) y

/-- Window 22's staging buffer after the body, from the input windows' blocks: its 1 store as pieces, LAST
    FIRST. -/
def out0_22 (x0 : Vec F S512x512 .f32) (x1 : Vec F S512x512 .f32) (x2 : Vec F S512x512 .f32) (x3 : Vec F S512x256 .f32) (x4 : Vec F S512x512 .f32) (x5 : Vec F S512x512 .f32) (x6 : Vec F S512x512 .f32) (x7 : Vec F S512x256 .f32) (x8 : Vec F S1x512 .f32) (x9 : Vec F S1x512 .f32) (x10 : Vec F S1x512 .f32) (x11 : Vec F S1x256 .f32) (x12 : Vec F S1x512 .f32) (x13 : Vec F S256x512 .f32) (x14 : Vec F S1x512 .f32) (x15 : Vec F S256x512 .f32) (x16 : Vec F S256x512 .f32) (x17 : Vec F S1x512 .f32) (x18 : Vec F S1x512 .f32) (x19 : Vec F S512x512 .bf16) : Vec F S512x512 .f32 :=
  View.canon [⟨r0_0, k0_pay2 (k0_pay19 x0 x1 x2 x3 x4 x5 x6 x7 x8 x9 x10 x11 x12 x13 x14 x15 x16 x17 x18 x19) (k0_pay21 x0 x1 x2 x3 x4 x5 x6 x7 x8 x9 x10 x11 x12 x13 x14 x15 x16 x17 x18 x19) (View.ld x18 r0_1)⟩]

/-- Its stores tile the buffer (checked by evaluation), so they cover it. -/
theorem cover0_22 (p0 : Vec F S512x512 .f32) (y : S512x512.Idx) :
    ∃ pc ∈ ([⟨r0_0, p0⟩] : List (View.Piece (Elt F) S512x512 .f32)), y ∈ pc.1.set :=
  View.cover_of_tiled [⟨r0_0, p0⟩] S512x512.size (by rfl) y

/-- Window 23's staging buffer after the body, from the input windows' blocks: its 1 store as pieces, LAST
    FIRST. -/
def out0_23 (x0 : Vec F S512x512 .f32) (x1 : Vec F S512x512 .f32) (x2 : Vec F S512x512 .f32) (x3 : Vec F S512x256 .f32) (x4 : Vec F S512x512 .f32) (x5 : Vec F S512x512 .f32) (x6 : Vec F S512x512 .f32) (x7 : Vec F S512x256 .f32) (x8 : Vec F S1x512 .f32) (x9 : Vec F S1x512 .f32) (x10 : Vec F S1x512 .f32) (x11 : Vec F S1x256 .f32) (x12 : Vec F S1x512 .f32) (x13 : Vec F S256x512 .f32) (x14 : Vec F S1x512 .f32) (x15 : Vec F S256x512 .f32) (x16 : Vec F S256x512 .f32) (x17 : Vec F S1x512 .f32) (x18 : Vec F S1x512 .f32) (x19 : Vec F S512x512 .bf16) : Vec F S512x512 .f32 :=
  View.canon [⟨r0_0, k0_pay7 (View.ld x2 r0_0) (View.ld x6 r0_0) (View.ld x10 r0_1)⟩]

/-- Its stores tile the buffer (checked by evaluation), so they cover it. -/
theorem cover0_23 (p0 : Vec F S512x512 .f32) (y : S512x512.Idx) :
    ∃ pc ∈ ([⟨r0_0, p0⟩] : List (View.Piece (Elt F) S512x512 .f32)), y ∈ pc.1.set :=
  View.cover_of_tiled [⟨r0_0, p0⟩] S512x512.size (by rfl) y

/-- Window 24's staging buffer after the body, from the input windows' blocks: its 1 store as pieces, LAST
    FIRST. -/
def out0_24 (x0 : Vec F S512x512 .f32) (x1 : Vec F S512x512 .f32) (x2 : Vec F S512x512 .f32) (x3 : Vec F S512x256 .f32) (x4 : Vec F S512x512 .f32) (x5 : Vec F S512x512 .f32) (x6 : Vec F S512x512 .f32) (x7 : Vec F S512x256 .f32) (x8 : Vec F S1x512 .f32) (x9 : Vec F S1x512 .f32) (x10 : Vec F S1x512 .f32) (x11 : Vec F S1x256 .f32) (x12 : Vec F S1x512 .f32) (x13 : Vec F S256x512 .f32) (x14 : Vec F S1x512 .f32) (x15 : Vec F S256x512 .f32) (x16 : Vec F S256x512 .f32) (x17 : Vec F S1x512 .f32) (x18 : Vec F S1x512 .f32) (x19 : Vec F S512x512 .bf16) : Vec F S512x512 .f32 :=
  View.canon [⟨r0_0, k0_pay3 (k0_pay22 x0 x1 x2 x3 x4 x5 x6 x7 x8 x9 x10 x11 x12 x13 x14 x15 x16 x17 x18 x19)⟩]

/-- Its stores tile the buffer (checked by evaluation), so they cover it. -/
theorem cover0_24 (p0 : Vec F S512x512 .f32) (y : S512x512.Idx) :
    ∃ pc ∈ ([⟨r0_0, p0⟩] : List (View.Piece (Elt F) S512x512 .f32)), y ∈ pc.1.set :=
  View.cover_of_tiled [⟨r0_0, p0⟩] S512x512.size (by rfl) y

/-- Window 25's staging buffer after the body, from the input windows' blocks: its 1 store as pieces, LAST
    FIRST. -/
def out0_25 (x0 : Vec F S512x512 .f32) (x1 : Vec F S512x512 .f32) (x2 : Vec F S512x512 .f32) (x3 : Vec F S512x256 .f32) (x4 : Vec F S512x512 .f32) (x5 : Vec F S512x512 .f32) (x6 : Vec F S512x512 .f32) (x7 : Vec F S512x256 .f32) (x8 : Vec F S1x512 .f32) (x9 : Vec F S1x512 .f32) (x10 : Vec F S1x512 .f32) (x11 : Vec F S1x256 .f32) (x12 : Vec F S1x512 .f32) (x13 : Vec F S256x512 .f32) (x14 : Vec F S1x512 .f32) (x15 : Vec F S256x512 .f32) (x16 : Vec F S256x512 .f32) (x17 : Vec F S1x512 .f32) (x18 : Vec F S1x512 .f32) (x19 : Vec F S512x512 .bf16) : Vec F S512x512 .f32 :=
  View.canon [⟨r0_0, k0_pay4 (k0_pay21 x0 x1 x2 x3 x4 x5 x6 x7 x8 x9 x10 x11 x12 x13 x14 x15 x16 x17 x18 x19) (k0_pay22 x0 x1 x2 x3 x4 x5 x6 x7 x8 x9 x10 x11 x12 x13 x14 x15 x16 x17 x18 x19)⟩]

/-- Its stores tile the buffer (checked by evaluation), so they cover it. -/
theorem cover0_25 (p0 : Vec F S512x512 .f32) (y : S512x512.Idx) :
    ∃ pc ∈ ([⟨r0_0, p0⟩] : List (View.Piece (Elt F) S512x512 .f32)), y ∈ pc.1.set :=
  View.cover_of_tiled [⟨r0_0, p0⟩] S512x512.size (by rfl) y

/-- Window 26's staging buffer after the body, from the input windows' blocks: its 1 store as pieces, LAST
    FIRST. -/
def out0_26 (x0 : Vec F S512x512 .f32) (x1 : Vec F S512x512 .f32) (x2 : Vec F S512x512 .f32) (x3 : Vec F S512x256 .f32) (x4 : Vec F S512x512 .f32) (x5 : Vec F S512x512 .f32) (x6 : Vec F S512x512 .f32) (x7 : Vec F S512x256 .f32) (x8 : Vec F S1x512 .f32) (x9 : Vec F S1x512 .f32) (x10 : Vec F S1x512 .f32) (x11 : Vec F S1x256 .f32) (x12 : Vec F S1x512 .f32) (x13 : Vec F S256x512 .f32) (x14 : Vec F S1x512 .f32) (x15 : Vec F S256x512 .f32) (x16 : Vec F S256x512 .f32) (x17 : Vec F S1x512 .f32) (x18 : Vec F S1x512 .f32) (x19 : Vec F S512x512 .bf16) : Vec F S512x512 .f32 :=
  View.canon [⟨r0_0, k0_pay17 (k0_pay20 x0 x1 x2 x3 x4 x5 x6 x7 x8 x9 x10 x11 x12 x13 x14 x15 x16 x17 x18 x19) (View.ld x16 r0_4)⟩]

/-- Its stores tile the buffer (checked by evaluation), so they cover it. -/
theorem cover0_26 (p0 : Vec F S512x512 .f32) (y : S512x512.Idx) :
    ∃ pc ∈ ([⟨r0_0, p0⟩] : List (View.Piece (Elt F) S512x512 .f32)), y ∈ pc.1.set :=
  View.cover_of_tiled [⟨r0_0, p0⟩] S512x512.size (by rfl) y

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x256 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x256 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x512 .f32) (harg13 : arg13.IsWhole) (arg14 : Memref sig .tc .vmem S256x512 .f32) (harg14 : arg14.IsWhole) (arg15 : Memref sig .tc .vmem S1x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S512x512 .bf16) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole)
    (x0 : Vec F S512x512 .f32) (x1 : Vec F S512x512 .f32) (x2 : Vec F S512x512 .f32) (x3 : Vec F S512x256 .f32) (x4 : Vec F S512x512 .f32) (x5 : Vec F S512x512 .f32) (x6 : Vec F S512x512 .f32) (x7 : Vec F S512x256 .f32) (x8 : Vec F S1x512 .f32) (x9 : Vec F S1x512 .f32) (x10 : Vec F S1x512 .f32) (x11 : Vec F S1x256 .f32) (x12 : Vec F S1x512 .f32) (x13 : Vec F S256x512 .f32) (x14 : Vec F S1x512 .f32) (x15 : Vec F S256x512 .f32) (x16 : Vec F S256x512 .f32) (x17 : Vec F S1x512 .f32) (x18 : Vec F S1x512 .f32) (x19 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (out0_20 x0 x1 x2 x3 x4 x5 x6 x7 x8 x9 x10 x11 x12 x13 x14 x15 x16 x17 x18 x19) ∗ owns (c : Thread nD τ) arg22 fullShare (out0_21 x0 x1 x2 x3 x4 x5 x6 x7 x8 x9 x10 x11 x12 x13 x14 x15 x16 x17 x18 x19) ∗ owns (c : Thread nD τ) arg23 fullShare (out0_22 x0 x1 x2 x3 x4 x5 x6 x7 x8 x9 x10 x11 x12 x13 x14 x15 x16 x17 x18 x19) ∗ owns (c : Thread nD τ) arg24 fullShare (out0_23 x0 x1 x2 x3 x4 x5 x6 x7 x8 x9 x10 x11 x12 x13 x14 x15 x16 x17 x18 x19) ∗ owns (c : Thread nD τ) arg25 fullShare (out0_24 x0 x1 x2 x3 x4 x5 x6 x7 x8 x9 x10 x11 x12 x13 x14 x15 x16 x17 x18 x19) ∗ owns (c : Thread nD τ) arg26 fullShare (out0_25 x0 x1 x2 x3 x4 x5 x6 x7 x8 x9 x10 x11 x12 x13 x14 x15 x16 x17 x18 x19) ∗ owns (c : Thread nD τ) arg27 fullShare (out0_26 x0 x1 x2 x3 x4 x5 x6 x7 x8 x9 x10 x11 x12 x13 x14 x15 x16 x17 x18 x19)) -∗ K ⟨⟩))
      ⊢ wp frame (wpE (defs₀ (F := F)) Variants.none c none) E (cc0_rwkv_prep i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_rwkv_prep_eq_skeleton]; unfold cc0_rwkv_prep_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0 hf1 hf2 hf3 hf4 hf5 hf6 hf7 hf8 hf9 hf10 hf11 hf12 hf13 hf14 hf15 hf16 hf17 hf18 hf19
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  iexists _; isplitr
  swap; · iexact H26
  ipureintro
  refine (View.read_writes_eq_canon _ _ _ (cover0_26 _)).trans ?_
  rfl

/-- The proof data of the one pipeline on core `c`: the arrays as the region finds them (`V`); after the body at
    point `t` each input's buffer at its block and each output's at `out0_W` of the input blocks; the invariant the
    class's; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)
    | ⟨_ + 27, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

end Cert.PrepIdeal.Gen

end
-- ==== Proof.Prep.Blocks.lean ====
module

public import proofs.«01_k».proof.Proof.Prep.Pay
public import proofs.«01_k».proof.Proof.Prep.Body
public import Idealize.ShloMosaic.Lib.Pipeline.ValueKit
public import Idealize.ShloMosaic.Lib.Claim

/-! The blocks the RWKV-7 preparation's launch reads, by entry. -/

@[expose] public section

set_option maxRecDepth 16384

noncomputable section
open Idealize.ShloMosaic Idealize.ShloMosaic.TcCoe Idealize.SL.Sem
open Idealize.ShloMosaic.Pipeline (Dat)

namespace Cert.PrepIdeal.Hand
open Cert.PrepIdeal Cert.PrepIdeal.Gen Cert.PrepRows
open Cert.Post (IsReal same)

variable (m : (ℓ : Loc nD τ sig) → Buf (Elt Ideal) ℓ)

/-- The blocks of rows each window takes at a grid point. -/
theorem idx_rows : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- The tables the windows take whole at a grid point. -/
theorem idx_tables : ∀ t : Fin cfg0.N, win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] :=
  (by decide +kernel : ∀ t : Fin grid0.N, _)

/-- The blocks of rows each result's window takes at a grid point. -/
theorem idx_results : ∀ t : Fin cfg0.N, win0_20.index t = ![t.val, 0] ∧ win0_21.index t = ![t.val, 0] ∧ win0_22.index t = ![t.val, 0] ∧ win0_23.index t = ![t.val, 0] ∧ win0_24.index t = ![t.val, 0] ∧ win0_25.index t = ![t.val, 0] ∧ win0_26.index t = ![t.val, 0] :=
  (by decide +kernel : ∀ t : Fin grid0.N, _)

/-- The blocks each window takes at a grid point. -/
theorem idx (t : Fin cfg0.N) : (win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0]) ∧ (win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0]) ∧
    win0_20.index t = ![t.val, 0] ∧ win0_21.index t = ![t.val, 0] ∧ win0_22.index t = ![t.val, 0] ∧ win0_23.index t = ![t.val, 0] ∧ win0_24.index t = ![t.val, 0] ∧ win0_25.index t = ![t.val, 0] ∧ win0_26.index t = ![t.val, 0] :=
  ⟨idx_rows t, idx_tables t, idx_results t⟩

/-- The launch has 32 grid points. -/
theorem count (t : Fin cfg0.N) : t.val < 32 := t.isLt

/-- The array's row of a block's row. -/
abbrev row (t : Fin cfg0.N) (r : Fin 512) : Fin 16384 := ⟨512 * t.val + r.val, by have := count t; omega⟩

/-- Argument 0 of the launch. -/
def arg0 (c : Dev nD) : FVec Ideal S16384x512 .f32 := m ((c.tc : Thread nD τ).loc main_arg0)

/-- Argument 1 of the launch. -/
def arg1 (c : Dev nD) : FVec Ideal S16384x512 .f32 := m ((c.tc : Thread nD τ).loc main_arg1)

/-- Argument 2 of the launch. -/
def arg2 (c : Dev nD) : FVec Ideal S16384x512 .f32 := m ((c.tc : Thread nD τ).loc main_arg2)

/-- Argument 3 of the launch. -/
def arg3 (c : Dev nD) : FVec Ideal S16384x256 .f32 := m ((c.tc : Thread nD τ).loc main_arg3)

/-- Argument 4 of the launch. -/
def arg4 (c : Dev nD) : FVec Ideal S16384x512 .f32 := m ((c.tc : Thread nD τ).loc main_arg4)

/-- Argument 5 of the launch. -/
def arg5 (c : Dev nD) : FVec Ideal S16384x512 .f32 := m ((c.tc : Thread nD τ).loc main_arg5)

/-- Argument 6 of the launch. -/
def arg6 (c : Dev nD) : FVec Ideal S16384x512 .f32 := m ((c.tc : Thread nD τ).loc main_arg6)

/-- Argument 7 of the launch. -/
def arg7 (c : Dev nD) : FVec Ideal S16384x256 .f32 := m ((c.tc : Thread nD τ).loc main_arg7)

/-- Argument 8 of the launch. -/
def arg8 (c : Dev nD) : FVec Ideal S1x1696 .f32 := m ((c.tc : Thread nD τ).loc main_arg8)

/-- Argument 9 of the launch. -/
def arg9 (c : Dev nD) : FVec Ideal S1x512 .f32 := m ((c.tc : Thread nD τ).loc main_arg9)

/-- Argument 10 of the launch. -/
def arg10 (c : Dev nD) : FVec Ideal S1x32x512 .f32 := m ((c.tc : Thread nD τ).loc main_arg10)

/-- Argument 11 of the launch. -/
def arg11 (c : Dev nD) : FVec Ideal S1x512 .f32 := m ((c.tc : Thread nD τ).loc main_arg11)

/-- Argument 12 of the launch. -/
def arg12 (c : Dev nD) : FVec Ideal S1x32x512 .f32 := m ((c.tc : Thread nD τ).loc main_arg12)

/-- Argument 13 of the launch. -/
def arg13 (c : Dev nD) : FVec Ideal S1x96x512 .f32 := m ((c.tc : Thread nD τ).loc main_arg13)

/-- Argument 14 of the launch. -/
def arg14 (c : Dev nD) : FVec Ideal S1x512 .f32 := m ((c.tc : Thread nD τ).loc main_arg14)

/-- Argument 15 of the launch. -/
def arg15 (c : Dev nD) : FVec Ideal S1x512 .f32 := m ((c.tc : Thread nD τ).loc main_arg15)

/-- The columns' quotients by a head's width, rounded toward zero. -/
def quots : IVec S512 32 := Host.divsi (iotaInDim S512 32 0) (broadcastInDim S512 ![] bcast_S_S512 (constantI S_ 32 64#32))

/-- The head of each column: the quotient rounded down. -/
def headIds : IVec S512 32 :=
  select
    (andi
      (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi quots (broadcastInDim S512 ![] bcast_S_S512 (constantI S_ 32 1#32))) quots

/-- The matrix of heads: one where two columns are of one head, zero elsewhere. -/
def table : FVec Ideal S512x512 .bf16 :=
  truncf .bf16 (uitofp .f32 (cmpi .eq
    (broadcastInDim S512x512 ![0, 1] bcast_S512x1_S512x512_0_1 (broadcastInDim S512x1 ![0] bcast_S512_S512x1_0 headIds))
    (broadcastInDim S512x512 ![0, 1] bcast_S1x512_S512x512_0_1 (broadcastInDim S1x512 ![1] bcast_S512_S1x512_1 headIds))) : FVec Ideal S512x512 .f32) bitsLt_bf16_f32

/-- The head of a column is its quotient by a head's width. -/
theorem headIds_at : ∀ j : Fin 512, headIds (ix1 j) = BitVec.ofNat 32 (j.val / 64) := by decide +kernel

/-- An entry of the matrix of heads. -/
theorem table_at (j d : Fin 512) : (table (ix2 j d) : EReal) = same j d := by
  have hj := headIds_at j
  have hd := headIds_at d
  have he : (BitVec.ofNat 32 (j.val / 64) = BitVec.ofNat 32 (d.val / 64)) ↔ j.val / 64 = d.val / 64 := by
    constructor
    · intro h
      have := congrArg BitVec.toNat h
      simp only [BitVec.toNat_ofNat] at this
      omega
    · intro h
      rw [h]
  unfold table same
  generalize headIds = z at hj hd ⊢
  pointwise
  rw [hj, hd]
  by_cases h : j.val / 64 = d.val / 64
  · simp [h, FloatOps.uitofp, IntOp.cmpi]
  · simp [h, he, FloatOps.uitofp, IntOp.cmpi]

/-- The matrix of heads as the launch reads it. -/
theorem tables (c : Dev nD) : V m c main_v8 = table := by
  unfold V table headIds quots
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  after_results
  try rfl

/-- The block of operand 0 at a grid point. -/
theorem block0 (c : Dev nD) (t : Fin cfg0.N) (r : Fin 512) (d : Fin 512) :
    ((iblk m c 0 t : Vec Ideal S512x512 .f32) (ix2 r d) : EReal) = arg0 m c (ix2 (row t r) d) := by
  have hb : V m c main_arg0 = arg0 m c := by
    unfold V arg0
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  unfold row
  generalize arg0 m c = y at hb ⊢
  blk_point [iblk, hb, idx t]

/-- The block of operand 1 at a grid point. -/
theorem block1 (c : Dev nD) (t : Fin cfg0.N) (r : Fin 512) (d : Fin 512) :
    ((iblk m c 1 t : Vec Ideal S512x512 .f32) (ix2 r d) : EReal) = arg1 m c (ix2 (row t r) d) := by
  have hb : V m c main_arg1 = arg1 m c := by
    unfold V arg1
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  unfold row
  generalize arg1 m c = y at hb ⊢
  blk_point [iblk, hb, idx t]

/-- The block of operand 2 at a grid point. -/
theorem block2 (c : Dev nD) (t : Fin cfg0.N) (r : Fin 512) (d : Fin 512) :
    ((iblk m c 2 t : Vec Ideal S512x512 .f32) (ix2 r d) : EReal) = arg2 m c (ix2 (row t r) d) := by
  have hb : V m c main_arg2 = arg2 m c := by
    unfold V arg2
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  unfold row
  generalize arg2 m c = y at hb ⊢
  blk_point [iblk, hb, idx t]

/-- The block of operand 4 at a grid point. -/
theorem block4 (c : Dev nD) (t : Fin cfg0.N) (r : Fin 512) (d : Fin 512) :
    ((iblk m c 4 t : Vec Ideal S512x512 .f32) (ix2 r d) : EReal) = arg4 m c (ix2 (row t r) d) := by
  have hb : V m c main_arg4 = arg4 m c := by
    unfold V arg4
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  unfold row
  generalize arg4 m c = y at hb ⊢
  blk_point [iblk, hb, idx t]

/-- The block of operand 5 at a grid point. -/
theorem block5 (c : Dev nD) (t : Fin cfg0.N) (r : Fin 512) (d : Fin 512) :
    ((iblk m c 5 t : Vec Ideal S512x512 .f32) (ix2 r d) : EReal) = arg5 m c (ix2 (row t r) d) := by
  have hb : V m c main_arg5 = arg5 m c := by
    unfold V arg5
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  unfold row
  generalize arg5 m c = y at hb ⊢
  blk_point [iblk, hb, idx t]

/-- The block of operand 6 at a grid point. -/
theorem block6 (c : Dev nD) (t : Fin cfg0.N) (r : Fin 512) (d : Fin 512) :
    ((iblk m c 6 t : Vec Ideal S512x512 .f32) (ix2 r d) : EReal) = arg6 m c (ix2 (row t r) d) := by
  have hb : V m c main_arg6 = arg6 m c := by
    unfold V arg6
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  unfold row
  generalize arg6 m c = y at hb ⊢
  blk_point [iblk, hb, idx t]

/-- The block of operand 3 at a grid point. -/
theorem block3 (c : Dev nD) (t : Fin cfg0.N) (r : Fin 512) (d : Fin 256) :
    ((iblk m c 3 t : Vec Ideal S512x256 .f32) (ix2 r d) : EReal) = arg3 m c (ix2 (row t r) d) := by
  have hb : V m c main_arg3 = arg3 m c := by
    unfold V arg3
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  unfold row
  generalize arg3 m c = y at hb ⊢
  blk_point [iblk, hb, idx t]

/-- The block of operand 7 at a grid point. -/
theorem block7 (c : Dev nD) (t : Fin cfg0.N) (r : Fin 512) (d : Fin 256) :
    ((iblk m c 7 t : Vec Ideal S512x256 .f32) (ix2 r d) : EReal) = arg7 m c (ix2 (row t r) d) := by
  have hb : V m c main_arg7 = arg7 m c := by
    unfold V arg7
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  unfold row
  generalize arg7 m c = y at hb ⊢
  blk_point [iblk, hb, idx t]

/-- The weights of the mixed receptances as the launch reads them. -/
def musR (x : FVec Ideal S1x1696 .f32) : FVec Ideal S1x512 .f32 :=
  shapeCast S1x512 (extractStridedSlice S512 ![0] (shapeCast S1696 x shapeCasts_S1x1696_S1696 : FVec Ideal S1696 .f32) slices_S1696_S512_0 : FVec Ideal S512 .f32) shapeCasts_S512_S1x512

/-- An entry of the weights of the mixed receptances. -/
theorem musR_at (x : FVec Ideal S1x1696 .f32) (d : Fin 512) : (musR x (ix2 0 d) : EReal) = x (ix2 0 ⟨d.val, by omega⟩) := by
  pointwise [musR]

/-- The weights of the mixed keys as the launch reads them. -/
def musK (x : FVec Ideal S1x1696 .f32) : FVec Ideal S1x512 .f32 :=
  shapeCast S1x512 (extractStridedSlice S512 ![512] (shapeCast S1696 x shapeCasts_S1x1696_S1696 : FVec Ideal S1696 .f32) slices_S1696_S512_512 : FVec Ideal S512 .f32) shapeCasts_S512_S1x512

/-- An entry of the weights of the mixed keys. -/
theorem musK_at (x : FVec Ideal S1x1696 .f32) (d : Fin 512) : (musK x (ix2 0 d) : EReal) = x (ix2 0 ⟨512 + d.val, by omega⟩) := by
  pointwise [musK]

/-- The weights of the mixed values as the launch reads them. -/
def musV (x : FVec Ideal S1x1696 .f32) : FVec Ideal S1x512 .f32 :=
  shapeCast S1x512 (extractStridedSlice S512 ![1024] (shapeCast S1696 x shapeCasts_S1x1696_S1696 : FVec Ideal S1696 .f32) slices_S1696_S512_1024 : FVec Ideal S512 .f32) shapeCasts_S512_S1x512

/-- An entry of the weights of the mixed values. -/
theorem musV_at (x : FVec Ideal S1x1696 .f32) (d : Fin 512) : (musV x (ix2 0 d) : EReal) = x (ix2 0 ⟨1024 + d.val, by omega⟩) := by
  pointwise [musV]

/-- The weights of the mixed low-rank channels as the launch reads them. -/
def musL (x : FVec Ideal S1x1696 .f32) : FVec Ideal S1x256 .f32 :=
  shapeCast S1x256 (pad S256 ![0] ![96] ![0] (extractStridedSlice S160 ![1536] (shapeCast S1696 x shapeCasts_S1x1696_S1696 : FVec Ideal S1696 .f32) slices_S1696_S160_1536 : FVec Ideal S160 .f32)
    (sitofp .f32 (constantI S_ 32 0#32)) pads_S160_S256_0960 h_S_ : FVec Ideal S256 .f32) shapeCasts_S256_S1x256

/-- An entry of the weights of the mixed low-rank channels. -/
theorem musL_at (x : FVec Ideal S1x1696 .f32) (j : Fin 160) : (musL x (ix2 0 ⟨j.val, by omega⟩) : EReal) = x (ix2 0 ⟨1536 + j.val, by omega⟩) := by
  pointwise [musL]

/-- A row as the launch reads it. -/
def rows (w : FVec Ideal S1x512 .f32) : FVec Ideal S1x512 .f32 :=
  shapeCast S1x512 (shapeCast S512 w shapeCasts_S1x512_S512 : FVec Ideal S512 .f32) shapeCasts_S512_S1x512

/-- An entry of a row. -/
theorem rows_at (w : FVec Ideal S1x512 .f32) (j : Fin 512) : (rows w (ix2 0 j) : EReal) = w (ix2 0 j) := by
  pointwise [rows]

/-- The low-rank weights of the decays as the launch reads them. -/
def lowW (w : FVec Ideal S1x32x512 .f32) : FVec Ideal S256x512 .f32 :=
  pad S256x512 ![0, 0] ![224, 0] ![0, 0] (shapeCast S32x512 w shapeCasts_S1x32x512_S32x512 : FVec Ideal S32x512 .f32)
    (sitofp .f32 (constantI S_ 32 0#32)) pads_S32x512_S256x512_02240_000 h_S_

/-- An entry of the low-rank weights of the decays. -/
theorem lowW_at (w : FVec Ideal S1x32x512 .f32) (j : Fin 256) (d : Fin 512) : (lowW w (ix2 j d) : EReal) = pads 0 32 (fun e => w (ix3 0 e d)) j := by
  have hz : (((0#32 : BitVec 32).toInt : ℝ) : EReal) = 0 := by simp
  unfold pads
  split_ifs with h
  · pointwise [lowW]
    rw [dif_pos (by omega)]
  · pointwise [lowW]
    rw [dif_neg (by omega)]
    exact hz

/-- The low-rank weights of the removal rates as the launch reads them. -/
def lowA (w : FVec Ideal S1x32x512 .f32) : FVec Ideal S256x512 .f32 :=
  pad S256x512 ![32, 0] ![192, 0] ![0, 0] (shapeCast S32x512 w shapeCasts_S1x32x512_S32x512 : FVec Ideal S32x512 .f32)
    (sitofp .f32 (constantI S_ 32 0#32)) pads_S32x512_S256x512_321920_000 h_S_

/-- An entry of the low-rank weights of the removal rates. -/
theorem lowA_at (w : FVec Ideal S1x32x512 .f32) (j : Fin 256) (d : Fin 512) : (lowA w (ix2 j d) : EReal) = pads 32 32 (fun e => w (ix3 0 e d)) j := by
  have hz : (((0#32 : BitVec 32).toInt : ℝ) : EReal) = 0 := by simp
  unfold pads
  split_ifs with h
  · pointwise [lowA]
    rw [dif_pos (by omega)]
  · pointwise [lowA]
    rw [dif_neg (by omega)]
    exact hz

/-- The low-rank weights of the gates as the launch reads them. -/
def lowG (w : FVec Ideal S1x96x512 .f32) : FVec Ideal S256x512 .f32 :=
  pad S256x512 ![64, 0] ![96, 0] ![0, 0] (shapeCast S96x512 w shapeCasts_S1x96x512_S96x512 : FVec Ideal S96x512 .f32)
    (sitofp .f32 (constantI S_ 32 0#32)) pads_S96x512_S256x512_64960_000 h_S_

/-- An entry of the low-rank weights of the gates. -/
theorem lowG_at (w : FVec Ideal S1x96x512 .f32) (j : Fin 256) (d : Fin 512) : (lowG w (ix2 j d) : EReal) = pads 64 96 (fun e => w (ix3 0 e d)) j := by
  have hz : (((0#32 : BitVec 32).toInt : ℝ) : EReal) = 0 := by simp
  unfold pads
  split_ifs with h
  · pointwise [lowG]
    rw [dif_pos (by omega)]
  · pointwise [lowG]
    rw [dif_neg (by omega)]
    exact hz

/-- The block of operand 8 at a grid point. -/
theorem block8 (c : Dev nD) (t : Fin cfg0.N) (d : Fin 512) :
    ((iblk m c 8 t : Vec Ideal S1x512 .f32) (ix2 0 d) : EReal) = musR (arg8 m c) (ix2 0 d) := by
  have hb : V m c main_v25 = musR (arg8 m c) := by
    unfold V musR arg8
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  generalize musR (arg8 m c) = y at hb ⊢
  blk_point [iblk, hb, idx t]

/-- The block of operand 9 at a grid point. -/
theorem block9 (c : Dev nD) (t : Fin cfg0.N) (d : Fin 512) :
    ((iblk m c 9 t : Vec Ideal S1x512 .f32) (ix2 0 d) : EReal) = musK (arg8 m c) (ix2 0 d) := by
  have hb : V m c main_v26 = musK (arg8 m c) := by
    unfold V musK arg8
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  generalize musK (arg8 m c) = y at hb ⊢
  blk_point [iblk, hb, idx t]

/-- The block of operand 10 at a grid point. -/
theorem block10 (c : Dev nD) (t : Fin cfg0.N) (d : Fin 512) :
    ((iblk m c 10 t : Vec Ideal S1x512 .f32) (ix2 0 d) : EReal) = musV (arg8 m c) (ix2 0 d) := by
  have hb : V m c main_v27 = musV (arg8 m c) := by
    unfold V musV arg8
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  generalize musV (arg8 m c) = y at hb ⊢
  blk_point [iblk, hb, idx t]

/-- The block of operand 11 at a grid point. -/
theorem block11 (c : Dev nD) (t : Fin cfg0.N) (d : Fin 256) :
    ((iblk m c 11 t : Vec Ideal S1x256 .f32) (ix2 0 d) : EReal) = musL (arg8 m c) (ix2 0 d) := by
  have hb : V m c main_v28 = musL (arg8 m c) := by
    unfold V musL arg8
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  generalize musL (arg8 m c) = y at hb ⊢
  blk_point [iblk, hb, idx t]

/-- The block of operand 12 at a grid point. -/
theorem block12 (c : Dev nD) (t : Fin cfg0.N) (d : Fin 512) :
    ((iblk m c 12 t : Vec Ideal S1x512 .f32) (ix2 0 d) : EReal) = rows (arg9 m c) (ix2 0 d) := by
  have hb : V m c main_v29 = rows (arg9 m c) := by
    unfold V rows arg9
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  generalize rows (arg9 m c) = y at hb ⊢
  blk_point [iblk, hb, idx t]

/-- The block of operand 14 at a grid point. -/
theorem block14 (c : Dev nD) (t : Fin cfg0.N) (d : Fin 512) :
    ((iblk m c 14 t : Vec Ideal S1x512 .f32) (ix2 0 d) : EReal) = rows (arg11 m c) (ix2 0 d) := by
  have hb : V m c main_v30 = rows (arg11 m c) := by
    unfold V rows arg11
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  generalize rows (arg11 m c) = y at hb ⊢
  blk_point [iblk, hb, idx t]

/-- The block of operand 17 at a grid point. -/
theorem block17 (c : Dev nD) (t : Fin cfg0.N) (d : Fin 512) :
    ((iblk m c 17 t : Vec Ideal S1x512 .f32) (ix2 0 d) : EReal) = rows (arg14 m c) (ix2 0 d) := by
  have hb : V m c main_v31 = rows (arg14 m c) := by
    unfold V rows arg14
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  generalize rows (arg14 m c) = y at hb ⊢
  blk_point [iblk, hb, idx t]

/-- The block of operand 18 at a grid point. -/
theorem block18 (c : Dev nD) (t : Fin cfg0.N) (d : Fin 512) :
    ((iblk m c 18 t : Vec Ideal S1x512 .f32) (ix2 0 d) : EReal) = rows (arg15 m c) (ix2 0 d) := by
  have hb : V m c main_v32 = rows (arg15 m c) := by
    unfold V rows arg15
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  generalize rows (arg15 m c) = y at hb ⊢
  blk_point [iblk, hb, idx t]

/-- The block of operand 13 at a grid point. -/
theorem block13 (c : Dev nD) (t : Fin cfg0.N) (j : Fin 256) (d : Fin 512) :
    ((iblk m c 13 t : Vec Ideal S256x512 .f32) (ix2 j d) : EReal) = lowW (arg10 m c) (ix2 j d) := by
  have hb : V m c main_v17 = lowW (arg10 m c) := by
    unfold V lowW arg10
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  generalize lowW (arg10 m c) = y at hb ⊢
  blk_point [iblk, hb, idx t]

/-- The block of operand 15 at a grid point. -/
theorem block15 (c : Dev nD) (t : Fin cfg0.N) (j : Fin 256) (d : Fin 512) :
    ((iblk m c 15 t : Vec Ideal S256x512 .f32) (ix2 j d) : EReal) = lowA (arg12 m c) (ix2 j d) := by
  have hb : V m c main_v20 = lowA (arg12 m c) := by
    unfold V lowA arg12
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  generalize lowA (arg12 m c) = y at hb ⊢
  blk_point [iblk, hb, idx t]

/-- The block of operand 16 at a grid point. -/
theorem block16 (c : Dev nD) (t : Fin cfg0.N) (j : Fin 256) (d : Fin 512) :
    ((iblk m c 16 t : Vec Ideal S256x512 .f32) (ix2 j d) : EReal) = lowG (arg13 m c) (ix2 j d) := by
  have hb : V m c main_v22 = lowG (arg13 m c) := by
    unfold V lowG arg13
    simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
    after_results
    try rfl
  generalize lowG (arg13 m c) = y at hb ⊢
  blk_point [iblk, hb, idx t]

/-- The matrix of heads at a grid point. -/
theorem block19 (c : Dev nD) (t : Fin cfg0.N) (j d : Fin 512) :
    ((iblk m c 19 t : Vec Ideal S512x512 .bf16) (ix2 j d) : EReal) = same j d := by
  rw [← table_at]
  have hb := tables m c
  generalize table = y at hb ⊢
  blk_point [iblk, hb, idx t]

end Cert.PrepIdeal.Hand

end
-- ==== Proof.Prep.RefAt.lean ====
module

public import proofs.«01_k».proof.Proof.Prep.Rows
public import proofs.«01_k».proof.Proof.Gen.PrepRefIdeal.Read

/-! Entries of the reference's results. -/

@[expose] public section

set_option maxRecDepth 16384

noncomputable section
open Idealize.ShloMosaic Idealize.ShloMosaic.TcCoe Idealize.SL.Sem
open Idealize.ShloMosaic.Pipeline (Dat)

namespace Cert.PrepRefIdeal.Hand
open Cert.PrepRefIdeal Cert.PrepRefIdeal.Gen Cert.PrepRefIdeal.Read Cert.PrepRows
open Cert.PostRefIdeal.Hand (col)

variable (x0 x1 x2 : FVec Ideal S16384x512 .f32) (x3 : FVec Ideal S16384x256 .f32) (x4 x5 x6 : FVec Ideal S16384x512 .f32) (x7 : FVec Ideal S16384x256 .f32)
  (x8 : FVec Ideal S1x1696 .f32) (x9 : FVec Ideal S1x512 .f32) (x10 : FVec Ideal S1x32x512 .f32) (x11 : FVec Ideal S1x512 .f32) (x12 : FVec Ideal S1x32x512 .f32)
  (x13 : FVec Ideal S1x96x512 .f32) (x14 x15 : FVec Ideal S1x512 .f32)

/-- A mixed low-rank channel. -/
def low (n : Fin 16384) (j : Fin 160) : EReal := mix (x3 (ix2 n ⟨j.val, by omega⟩)) (x7 (ix2 n ⟨j.val, by omega⟩)) (x8 (ix2 0 ⟨1536 + j.val, by omega⟩))

/-- A mixed key. -/
def key (n : Fin 16384) (d : Fin 512) : EReal := mix (x1 (ix2 n d)) (x5 (ix2 n d)) (x8 (ix2 0 ⟨512 + d.val, by omega⟩))

/-- An entry of the mixed receptances. -/
theorem v6_at (n : Fin 16384) (d : Fin 512) :
    (val_main_v6 (F := Ideal) x0 x4 x8 (ix2 n d) : EReal) = mix (x0 (ix2 n d)) (x4 (ix2 n d)) (x8 (ix2 0 ⟨d.val, by omega⟩)) := by
  unfold mix
  pointwise [val_main_v6, val_main_v5, val_main_v4, val_main_v3, val_main_v2, val_main_v1, val_main_v0]

/-- An entry of the mixed keys. -/
theorem v12_at (n : Fin 16384) (d : Fin 512) : (val_main_v12 (F := Ideal) x1 x5 x8 (ix2 n d) : EReal) = key x1 x5 x8 n d := by
  unfold key mix
  pointwise [val_main_v12, val_main_v11, val_main_v10, val_main_v9, val_main_v8, val_main_v7, val_main_v0]

/-- An entry of the mixed values. -/
theorem v18_at (n : Fin 16384) (d : Fin 512) :
    (val_main_v18 (F := Ideal) x2 x6 x8 (ix2 n d) : EReal) = mix (x2 (ix2 n d)) (x6 (ix2 n d)) (x8 (ix2 0 ⟨1024 + d.val, by omega⟩)) := by
  unfold mix
  pointwise [val_main_v18, val_main_v17, val_main_v16, val_main_v15, val_main_v14, val_main_v13, val_main_v0]

/-- An entry of the mixed low-rank channels. -/
theorem v27_at (n : Fin 16384) (j : Fin 160) : (val_main_v27 (F := Ideal) x3 x7 x8 (ix2 n j) : EReal) = low x3 x7 x8 n j := by
  unfold low mix
  pointwise [val_main_v27, val_main_v26, val_main_v25, val_main_v24, val_main_v23, val_main_v22, val_main_v21, val_main_v20, val_main_v19, val_main_v0]

/-- What the decay is taken of. -/
theorem v37_at (n : Fin 16384) (d : Fin 512) :
    (val_main_v37 (F := Ideal) x3 x7 x8 x9 x10 (ix2 n d) : EReal)
      = x9 (ix2 0 d) + ∑ e : Fin 32, Ideal.tanh (low x3 x7 x8 n ⟨e.val, by omega⟩) * x10 (ix3 0 e d) := by
  simp only [← v27_at]
  pointwise [val_main_v37, val_main_v36, val_main_v35, val_main_v34, val_main_v33, val_main_v32, val_main_v31, val_main_v28]

/-- An entry of the decays' logarithms. -/
theorem v78_at (n : Fin 16384) (d : Fin 512) :
    (val_main_v78 (F := Ideal) x3 x7 x8 x9 x10 (ix2 n d) : EReal)
      = dec (x9 (ix2 0 d) + ∑ e : Fin 32, Ideal.tanh (low x3 x7 x8 n ⟨e.val, by omega⟩) * x10 (ix3 0 e d)) := by
  rw [← v37_at]
  unfold dec
  pointwise [val_main_v78, val_main_v77, val_main_v42, val_main_v41, val_main_cst, val_main_v40, val_main_v39, val_main_call0_v11, val_main_call0_v10, val_main_call0_v9,
    val_main_call0_v8, val_main_call0_v7, val_main_call0_v6, val_main_call0_v5, val_main_call0_v4, val_main_call0_v3, val_main_call0_v2, val_main_call0_v1,
    val_main_call0_v0, val_main_call0_cst, val_main_v38]
  rw [if_neg (fun h => h rfl)]
  rfl

/-- An entry of the removal rates. -/
theorem v54_at (n : Fin 16384) (d : Fin 512) :
    (val_main_v54 (F := Ideal) x3 x7 x8 x11 x12 (ix2 n d) : EReal)
      = Ideal.logistic (x11 (ix2 0 d) + ∑ e : Fin 32, low x3 x7 x8 n ⟨32 + e.val, by omega⟩ * x12 (ix3 0 e d)) := by
  unfold Ideal.logistic
  simp only [← v27_at, ← one_bits]
  pointwise [val_main_v54, val_main_v53, val_main_v52, val_main_v51, val_main_v50, val_main_v49, val_main_v48, val_main_v47, val_main_v46, val_main_v45, val_main_v44, val_main_v43,
    val_main_v29, val_main_cst_0, val_main_cst_1]

/-- An entry of the gates. -/
theorem v62_at (n : Fin 16384) (d : Fin 512) :
    (val_main_v62 (F := Ideal) x3 x7 x8 x13 (ix2 n d) : EReal)
      = ∑ e : Fin 96, Ideal.logistic (low x3 x7 x8 n ⟨64 + e.val, by omega⟩) * x13 (ix3 0 e d) := by
  unfold Ideal.logistic
  simp only [← v27_at, ← one_bits]
  pointwise [val_main_v62, val_main_v61, val_main_v60, val_main_v59, val_main_v58, val_main_v57, val_main_v56, val_main_v55, val_main_v30, val_main_cst_2, val_main_cst_3]

/-- An entry of the keys by head, scaled. -/
theorem v67_at (n : Fin 16384) (h : Fin 8) (k : Fin 64) :
    (val_main_v67 (F := Ideal) x1 x5 x8 x14 (ix3 n h k) : EReal) = key x1 x5 x8 n (col h k) * x14 (ix2 0 (col h k)) := by
  rw [← v12_at]
  pointwise [val_main_v67, val_main_v66, val_main_v65, val_main_v64, val_main_v63]

/-- An entry of the keys over the norms of their heads. -/
theorem v76_at (n : Fin 16384) (h : Fin 8) (k : Fin 64) :
    (val_main_v76 (F := Ideal) x1 x5 x8 x14 (ix2 n (col h k)) : EReal)
      = Ideal.div (key x1 x5 x8 n (col h k) * x14 (ix2 0 (col h k)))
          (max (Ideal.sqrt (∑ e, key x1 x5 x8 n (col h e) * x14 (ix2 0 (col h e)) * (key x1 x5 x8 n (col h e) * x14 (ix2 0 (col h e))))) (Ideal.ofBits .f32 0x2B8CBCCC#32)) := by
  have hc : (val_main_v76 (F := Ideal) x1 x5 x8 x14 (ix2 n (col h k)) : EReal) = val_main_v75 (F := Ideal) x1 x5 x8 x14 (ix3 n h k) := by
    unfold val_main_v76
    generalize val_main_v75 (F := Ideal) x1 x5 x8 x14 = z
    have e1 : (⟨(h.val * 64 + k.val) / 64, by omega⟩ : Fin 8) = h := Fin.ext (by simp only []; omega)
    have e2 : (⟨(h.val * 64 + k.val) % 64, by omega⟩ : Fin 64) = k := Fin.ext (by simp only []; omega)
    pointwise
    rw [e1, e2]
  rw [hc]
  simp only [← v67_at]
  pointwise [val_main_v75, val_main_v74, val_main_v73, val_main_v72, val_main_v71, val_main_v70, val_main_v69, val_main_v68, val_main_cst_4, val_main_cst_5]

/-- An entry of the keys the recurrence takes. -/
theorem v87_at (n : Fin 16384) (d : Fin 512) :
    (val_main_v87 (F := Ideal) x1 x3 x5 x7 x8 x11 x12 x15 (ix2 n d) : EReal)
      = key x1 x5 x8 n d * (1 + ((val_main_v54 (F := Ideal) x3 x7 x8 x11 x12 (ix2 n d) : EReal) - 1) * x15 (ix2 0 d)) := by
  rw [← v12_at, ← one_bits]
  pointwise [val_main_v87, val_main_v86, val_main_v85, val_main_v84, val_main_v83, val_main_v82, val_main_v81, val_main_v80, val_main_v79, val_main_cst_6, val_main_cst_7]

/-- An entry of the keys the recurrence removes by. -/
theorem v88_at (n : Fin 16384) (d : Fin 512) :
    (val_main_v88 (F := Ideal) x1 x5 x8 x14 (ix2 n d) : EReal) = -(val_main_v76 (F := Ideal) x1 x5 x8 x14 (ix2 n d) : EReal) := by
  pointwise [val_main_v88]

/-- An entry of the keys the recurrence adds by. -/
theorem v89_at (n : Fin 16384) (d : Fin 512) :
    (val_main_v89 (F := Ideal) x1 x3 x5 x7 x8 x11 x12 x14 (ix2 n d) : EReal)
      = (val_main_v76 (F := Ideal) x1 x5 x8 x14 (ix2 n d) : EReal) * val_main_v54 (F := Ideal) x3 x7 x8 x11 x12 (ix2 n d) := rfl

end Cert.PrepRefIdeal.Hand

end
-- ==== Proof.Prep.Value.lean ====
module

public import proofs.«01_k».proof.Proof.Prep.Blocks
public import proofs.«01_k».proof.Proof.Prep.RefAt

/-! The result arrays of the RWKV-7 preparation after the run are the reference's results. -/

@[expose] public section

set_option maxRecDepth 16384

noncomputable section
open Idealize.ShloMosaic Idealize.ShloMosaic.TcCoe Idealize.SL.Sem
open Idealize.ShloMosaic.Pipeline (Dat)

namespace Cert.PrepIdeal.Hand
open Cert.PrepIdeal Cert.PrepIdeal.Gen Cert.PrepRows
open Cert.Post (IsReal same)
open Cert.PostRefIdeal.Hand (col)

variable (m : (ℓ : Loc nD τ sig) → Buf (Elt Ideal) ℓ)

/-- The preparation's values the kernel splits in two are real. -/
structure Real (c : Dev nD) : Prop where
  xa : ∀ n (e : Fin 32), IsReal (Cert.PrepRefIdeal.Hand.low (arg3 m c) (arg7 m c) (arg8 m c) n ⟨32 + e.val, by omega⟩)
  kk : ∀ n d, IsReal (Cert.PrepRefIdeal.Hand.key (arg1 m c) (arg5 m c) (arg8 m c) n d * (arg14 m c (ix2 0 d) : EReal))
  w2 : ∀ e d, IsReal (arg10 m c (ix3 0 e d))
  a2 : ∀ e d, IsReal (arg12 m c (ix3 0 e d))
  g2 : ∀ e d, IsReal (arg13 m c (ix3 0 e d))

/-- The body's mixed low-rank channels are the reference's. -/
theorem low_block (c : Dev nD) (t : Fin cfg0.N) (r : Fin 512) (j : Fin 160) :
    ((k0_pay8 (iblk m c 3 t) (iblk m c 7 t) (iblk m c 11 t) : FVec Ideal S512x256 .f32) (ix2 r ⟨j.val, by omega⟩) : EReal) = Cert.PrepRefIdeal.Hand.low (arg3 m c) (arg7 m c) (arg8 m c) (row t r) j := by
  refine (pay8_at (iblk m c 3 t) (iblk m c 7 t) (iblk m c 11 t) r ⟨j.val, by omega⟩).trans ?_
  rw [block3, block7, block11, musL_at]
  rfl

/-- The body's mixed keys are the reference's. -/
theorem key_block (c : Dev nD) (t : Fin cfg0.N) (r d : Fin 512) :
    ((k0_pay6 (iblk m c 1 t) (iblk m c 5 t) (iblk m c 9 t) : FVec Ideal S512x512 .f32) (ix2 r d) : EReal) = Cert.PrepRefIdeal.Hand.key (arg1 m c) (arg5 m c) (arg8 m c) (row t r) d := by
  refine (pay6_at (iblk m c 1 t) (iblk m c 5 t) (iblk m c 9 t) r d).trans ?_
  rw [block1, block5, block9, musK_at]
  rfl

/-- The body's removal rates are the reference's. -/
theorem rate_block (c : Dev nD) (hr : Real m c) (t : Fin cfg0.N) (r d : Fin 512) :
    ((k0_pay16 (k0_pay10 (iblk m c 14 t)) (k0_pay11 (k0_pay8 (iblk m c 3 t) (iblk m c 7 t) (iblk m c 11 t) : FVec Ideal S512x256 .f32)) (k0_pay12 (k0_pay8 (iblk m c 3 t) (iblk m c 7 t) (iblk m c 11 t) : FVec Ideal S512x256 .f32)) (k0_pay13 (iblk m c 15 t)) (k0_pay14 (iblk m c 15 t)) (k0_pay15 (iblk m c 15 t)) : FVec Ideal S512x512 .f32) (ix2 r d) : EReal) = Cert.PrepRefIdeal.Read.val_main_v54 (F := Ideal) (arg3 m c) (arg7 m c) (arg8 m c) (arg11 m c) (arg12 m c) (ix2 (row t r) d) := by
  refine (rate_at (k0_pay8 (iblk m c 3 t) (iblk m c 7 t) (iblk m c 11 t) : FVec Ideal S512x256 .f32) (iblk m c 14 t) (iblk m c 15 t) r d).trans ?_
  rw [Cert.PrepRefIdeal.Hand.v54_at, block14, rows_at]
  simp only [block15, lowA_at]
  have hl : ∀ e : Fin 32, ((k0_pay8 (iblk m c 3 t) (iblk m c 7 t) (iblk m c 11 t) : FVec Ideal S512x256 .f32) (ix2 r ⟨32 + e.val, by omega⟩) : EReal) = Cert.PrepRefIdeal.Hand.low (arg3 m c) (arg7 m c) (arg8 m c) (row t r) ⟨32 + e.val, by omega⟩ :=
    fun e => low_block m c t r ⟨32 + e.val, by omega⟩
  rw [split3_eq 32 32 (by omega) _ _ (fun e => by rw [hl]; exact hr.xa _ e) (fun e => hr.a2 e d)]
  simp only [hl]

/-- The body's keys over the norms of their heads are the reference's. -/
theorem unit_block (c : Dev nD) (hr : Real m c) (t : Fin cfg0.N) (r d : Fin 512) :
    ((k0_pay18 (k0_pay6 (iblk m c 1 t) (iblk m c 5 t) (iblk m c 9 t) : FVec Ideal S512x512 .f32) (iblk m c 17 t) (iblk m c 19 t) : FVec Ideal S512x512 .f32) (ix2 r d) : EReal) = Cert.PrepRefIdeal.Read.val_main_v76 (F := Ideal) (arg1 m c) (arg5 m c) (arg8 m c) (arg14 m c) (ix2 (row t r) d) := by
  refine (unit_at (k0_pay6 (iblk m c 1 t) (iblk m c 5 t) (iblk m c 9 t) : FVec Ideal S512x512 .f32) (iblk m c 17 t) (iblk m c 19 t) r d).trans ?_
  simp only [key_block, block17, block19, rows_at]
  obtain ⟨h, k, rfl⟩ := Cert.Post.col_of d
  rw [Cert.PrepRefIdeal.Hand.v76_at]
  exact unit_eq _ (fun j => hr.kk _ j) h k

/-- The receptances after the run. -/
theorem final20 (c : Dev nD) : (dats m 0 c).arrAt 20 (cfgs 0).N = Cert.PrepRefIdeal.Read.val_main_v6 (F := Ideal) (arg0 m c) (arg4 m c) (arg8 m c) := by
  refine (dats m 0 c).arrAt_eq_of_covers 20 _ (by decide +kernel) fun t _ y => ?_
  have ht := count t
  blk_simp
  rw [after0_20]; unfold out0_20; frame_out
  idx_vars y
  refine Eq.trans (b := (Cert.PrepRefIdeal.Read.val_main_v6 (F := Ideal) (arg0 m c) (arg4 m c) (arg8 m c) (ix2 (row t y0) y1) : EReal)) ?_ ?_
  · refine (pay5_at (iblk m c 0 t) (iblk m c 4 t) (iblk m c 8 t) y0 y1).trans ?_
    rw [Cert.PrepRefIdeal.Hand.v6_at, block0, block4, block8, musR_at]
  · unfold row
    generalize Cert.PrepRefIdeal.Read.val_main_v6 (F := Ideal) (arg0 m c) (arg4 m c) (arg8 m c) = X
    blk_point [idx t]

/-- The decays' logarithms after the run. -/
theorem final21 (c : Dev nD) (hr : Real m c) : (dats m 0 c).arrAt 21 (cfgs 0).N = Cert.PrepRefIdeal.Read.val_main_v78 (F := Ideal) (arg3 m c) (arg7 m c) (arg8 m c) (arg9 m c) (arg10 m c) := by
  refine (dats m 0 c).arrAt_eq_of_covers 21 _ (by decide +kernel) fun t _ y => ?_
  have ht := count t
  blk_simp
  rw [after0_21]; unfold out0_21 k0_pay20; frame_out
  idx_vars y
  refine Eq.trans (b := (Cert.PrepRefIdeal.Read.val_main_v78 (F := Ideal) (arg3 m c) (arg7 m c) (arg8 m c) (arg9 m c) (arg10 m c) (ix2 (row t y0) y1) : EReal)) ?_ ?_
  · refine (decay_at (k0_pay8 (iblk m c 3 t) (iblk m c 7 t) (iblk m c 11 t) : FVec Ideal S512x256 .f32) (iblk m c 12 t) (iblk m c 13 t) y0 y1).trans ?_
    rw [Cert.PrepRefIdeal.Hand.v78_at, block12, rows_at]
    simp only [block13, lowW_at]
    have hl : ∀ e : Fin 32, ((k0_pay8 (iblk m c 3 t) (iblk m c 7 t) (iblk m c 11 t) : FVec Ideal S512x256 .f32) (ix2 y0 ⟨0 + e.val, by omega⟩) : EReal) = Cert.PrepRefIdeal.Hand.low (arg3 m c) (arg7 m c) (arg8 m c) (row t y0) ⟨e.val, by omega⟩ := fun e => by
      refine Eq.trans ?_ (low_block m c t y0 ⟨e.val, by omega⟩)
      simp only [Nat.zero_add]
    rw [split3_eq 0 32 (by omega) _ _ (fun e => tanh_real _) (fun e => hr.w2 e y1)]
    simp only [hl]
  · unfold row
    generalize Cert.PrepRefIdeal.Read.val_main_v78 (F := Ideal) (arg3 m c) (arg7 m c) (arg8 m c) (arg9 m c) (arg10 m c) = X
    blk_point [idx t]

/-- The keys the recurrence takes, after the run. -/
theorem final22 (c : Dev nD) (hr : Real m c) : (dats m 0 c).arrAt 22 (cfgs 0).N = Cert.PrepRefIdeal.Read.val_main_v87 (F := Ideal) (arg1 m c) (arg3 m c) (arg5 m c) (arg7 m c) (arg8 m c) (arg11 m c) (arg12 m c) (arg15 m c) := by
  refine (dats m 0 c).arrAt_eq_of_covers 22 _ (by decide +kernel) fun t _ y => ?_
  have ht := count t
  blk_simp
  rw [after0_22]; unfold out0_22 k0_pay21 k0_pay20 k0_pay19; frame_out
  idx_vars y
  refine Eq.trans (b := (Cert.PrepRefIdeal.Read.val_main_v87 (F := Ideal) (arg1 m c) (arg3 m c) (arg5 m c) (arg7 m c) (arg8 m c) (arg11 m c) (arg12 m c) (arg15 m c) (ix2 (row t y0) y1) : EReal)) ?_ ?_
  · refine (pay2_at (k0_pay6 (iblk m c 1 t) (iblk m c 5 t) (iblk m c 9 t) : FVec Ideal S512x512 .f32) (k0_pay16 (k0_pay10 (iblk m c 14 t)) (k0_pay11 (k0_pay8 (iblk m c 3 t) (iblk m c 7 t) (iblk m c 11 t) : FVec Ideal S512x256 .f32)) (k0_pay12 (k0_pay8 (iblk m c 3 t) (iblk m c 7 t) (iblk m c 11 t) : FVec Ideal S512x256 .f32)) (k0_pay13 (iblk m c 15 t)) (k0_pay14 (iblk m c 15 t)) (k0_pay15 (iblk m c 15 t)) : FVec Ideal S512x512 .f32) (iblk m c 18 t) y0 y1).trans ?_
    rw [Cert.PrepRefIdeal.Hand.v87_at, key_block, rate_block m c hr, block18, rows_at]
  · unfold row
    generalize Cert.PrepRefIdeal.Read.val_main_v87 (F := Ideal) (arg1 m c) (arg3 m c) (arg5 m c) (arg7 m c) (arg8 m c) (arg11 m c) (arg12 m c) (arg15 m c) = X
    blk_point [idx t]

/-- The values after the run. -/
theorem final23 (c : Dev nD) : (dats m 0 c).arrAt 23 (cfgs 0).N = Cert.PrepRefIdeal.Read.val_main_v18 (F := Ideal) (arg2 m c) (arg6 m c) (arg8 m c) := by
  refine (dats m 0 c).arrAt_eq_of_covers 23 _ (by decide +kernel) fun t _ y => ?_
  have ht := count t
  blk_simp
  rw [after0_23]; unfold out0_23; frame_out
  idx_vars y
  refine Eq.trans (b := (Cert.PrepRefIdeal.Read.val_main_v18 (F := Ideal) (arg2 m c) (arg6 m c) (arg8 m c) (ix2 (row t y0) y1) : EReal)) ?_ ?_
  · refine (pay7_at (iblk m c 2 t) (iblk m c 6 t) (iblk m c 10 t) y0 y1).trans ?_
    rw [Cert.PrepRefIdeal.Hand.v18_at, block2, block6, block10, musV_at]
  · unfold row
    generalize Cert.PrepRefIdeal.Read.val_main_v18 (F := Ideal) (arg2 m c) (arg6 m c) (arg8 m c) = X
    blk_point [idx t]

/-- The keys the recurrence removes by, after the run. -/
theorem final24 (c : Dev nD) (hr : Real m c) : (dats m 0 c).arrAt 24 (cfgs 0).N = Cert.PrepRefIdeal.Read.val_main_v88 (F := Ideal) (arg1 m c) (arg5 m c) (arg8 m c) (arg14 m c) := by
  refine (dats m 0 c).arrAt_eq_of_covers 24 _ (by decide +kernel) fun t _ y => ?_
  have ht := count t
  blk_simp
  rw [after0_24]; unfold out0_24 k0_pay22 k0_pay19; frame_out
  idx_vars y
  refine Eq.trans (b := (Cert.PrepRefIdeal.Read.val_main_v88 (F := Ideal) (arg1 m c) (arg5 m c) (arg8 m c) (arg14 m c) (ix2 (row t y0) y1) : EReal)) ?_ ?_
  · refine (pay3_at (k0_pay18 (k0_pay6 (iblk m c 1 t) (iblk m c 5 t) (iblk m c 9 t) : FVec Ideal S512x512 .f32) (iblk m c 17 t) (iblk m c 19 t) : FVec Ideal S512x512 .f32) y0 y1).trans ?_
    rw [Cert.PrepRefIdeal.Hand.v88_at, unit_block m c hr]
  · unfold row
    generalize Cert.PrepRefIdeal.Read.val_main_v88 (F := Ideal) (arg1 m c) (arg5 m c) (arg8 m c) (arg14 m c) = X
    blk_point [idx t]

/-- The keys the recurrence adds by, after the run. -/
theorem final25 (c : Dev nD) (hr : Real m c) : (dats m 0 c).arrAt 25 (cfgs 0).N = Cert.PrepRefIdeal.Read.val_main_v89 (F := Ideal) (arg1 m c) (arg3 m c) (arg5 m c) (arg7 m c) (arg8 m c) (arg11 m c) (arg12 m c) (arg14 m c) := by
  refine (dats m 0 c).arrAt_eq_of_covers 25 _ (by decide +kernel) fun t _ y => ?_
  have ht := count t
  blk_simp
  rw [after0_25]; unfold out0_25 k0_pay22 k0_pay21 k0_pay20 k0_pay19; frame_out
  idx_vars y
  refine Eq.trans (b := (Cert.PrepRefIdeal.Read.val_main_v89 (F := Ideal) (arg1 m c) (arg3 m c) (arg5 m c) (arg7 m c) (arg8 m c) (arg11 m c) (arg12 m c) (arg14 m c) (ix2 (row t y0) y1) : EReal)) ?_ ?_
  · refine (pay4_at (k0_pay16 (k0_pay10 (iblk m c 14 t)) (k0_pay11 (k0_pay8 (iblk m c 3 t) (iblk m c 7 t) (iblk m c 11 t) : FVec Ideal S512x256 .f32)) (k0_pay12 (k0_pay8 (iblk m c 3 t) (iblk m c 7 t) (iblk m c 11 t) : FVec Ideal S512x256 .f32)) (k0_pay13 (iblk m c 15 t)) (k0_pay14 (iblk m c 15 t)) (k0_pay15 (iblk m c 15 t)) : FVec Ideal S512x512 .f32) (k0_pay18 (k0_pay6 (iblk m c 1 t) (iblk m c 5 t) (iblk m c 9 t) : FVec Ideal S512x512 .f32) (iblk m c 17 t) (iblk m c 19 t) : FVec Ideal S512x512 .f32) y0 y1).trans ?_
    rw [Cert.PrepRefIdeal.Hand.v89_at, unit_block m c hr, rate_block m c hr]
  · unfold row
    generalize Cert.PrepRefIdeal.Read.val_main_v89 (F := Ideal) (arg1 m c) (arg3 m c) (arg5 m c) (arg7 m c) (arg8 m c) (arg11 m c) (arg12 m c) (arg14 m c) = X
    blk_point [idx t]

/-- The gates after the run. -/
theorem final26 (c : Dev nD) (hr : Real m c) : (dats m 0 c).arrAt 26 (cfgs 0).N = Cert.PrepRefIdeal.Read.val_main_v62 (F := Ideal) (arg3 m c) (arg7 m c) (arg8 m c) (arg13 m c) := by
  refine (dats m 0 c).arrAt_eq_of_covers 26 _ (by decide +kernel) fun t _ y => ?_
  have ht := count t
  blk_simp
  rw [after0_26]; unfold out0_26 k0_pay20; frame_out
  idx_vars y
  refine Eq.trans (b := (Cert.PrepRefIdeal.Read.val_main_v62 (F := Ideal) (arg3 m c) (arg7 m c) (arg8 m c) (arg13 m c) (ix2 (row t y0) y1) : EReal)) ?_ ?_
  · refine (gate_at (k0_pay8 (iblk m c 3 t) (iblk m c 7 t) (iblk m c 11 t) : FVec Ideal S512x256 .f32) (iblk m c 16 t) y0 y1).trans ?_
    rw [Cert.PrepRefIdeal.Hand.v62_at]
    simp only [block16, lowG_at]
    have hl : ∀ e : Fin 96, ((k0_pay8 (iblk m c 3 t) (iblk m c 7 t) (iblk m c 11 t) : FVec Ideal S512x256 .f32) (ix2 y0 ⟨64 + e.val, by omega⟩) : EReal) = Cert.PrepRefIdeal.Hand.low (arg3 m c) (arg7 m c) (arg8 m c) (row t y0) ⟨64 + e.val, by omega⟩ :=
      fun e => low_block m c t y0 ⟨64 + e.val, by omega⟩
    rw [split3_eq 64 96 (by omega) _ _ (fun e => logistic_real _) (fun e => hr.g2 e y1)]
    simp only [hl]
  · unfold row
    generalize Cert.PrepRefIdeal.Read.val_main_v62 (F := Ideal) (arg3 m c) (arg7 m c) (arg8 m c) (arg13 m c) = X
    blk_point [idx t]

end Cert.PrepIdeal.Hand

end
-- ==== Proof.Prep.Frame.lean ====
module

public import proofs.«01_k».proof.Proof.Prep.Body

/-! The RWKV-7 preparation's launch runs and leaves its arguments. -/

@[expose] public section

set_option maxRecDepth 16384

noncomputable section

namespace Cert.PrepIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The run ends, the argument arrays are as launched and every counter is zero, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.PrepIdeal.Gen

end
-- ==== Proof.Prep.Run.lean ====
module

public import proofs.«01_k».proof.Proof.Prep.Frame
public import Idealize.ShloMosaic.Lib.Pipeline.Value

/-! The results and the arguments of the RWKV-7 preparation after a run. -/

@[expose] public section

noncomputable section

namespace Cert.PrepIdeal.Value

open Cert.PrepIdeal Cert.PrepIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v33_0) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v33_1) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v33_2) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v33_3) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v33_4) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v33_5) = (dats m 0 c).arrAt 25 cfg0.N :=
  (h c).1 25

/-- After the frame run, output window 26's array is `(dats m 0 c).arrAt 26 N`. -/
theorem post26 (r : PUnit × MemSt nD τ sig (Elt F)) (h : Pipeline.FramePost cfgs (dats m) 0 (V m) r) (c : Dev nD) :
    r.2.mem ((c : Thread nD τ).loc main_v33_6) = (dats m 0 c).arrAt 26 cfg0.N :=
  (h c).1 26

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the run every result is what the launch computes, and the arguments are as launched. -/
theorem run_blocks : θ_run defs (onTc (τ := τ) (main (F := F))) ⟨m, fun _ => 0, ρ⟩ fun r => ∀ c : Dev nD,
      r.2.mem ((c : Thread nD τ).loc main_v33_0) = (dats m 0 c).arrAt 20 cfg0.N
      ∧ r.2.mem ((c : Thread nD τ).loc main_v33_1) = (dats m 0 c).arrAt 21 cfg0.N
      ∧ r.2.mem ((c : Thread nD τ).loc main_v33_2) = (dats m 0 c).arrAt 22 cfg0.N
      ∧ r.2.mem ((c : Thread nD τ).loc main_v33_3) = (dats m 0 c).arrAt 23 cfg0.N
      ∧ r.2.mem ((c : Thread nD τ).loc main_v33_4) = (dats m 0 c).arrAt 24 cfg0.N
      ∧ r.2.mem ((c : Thread nD τ).loc main_v33_5) = (dats m 0 c).arrAt 25 cfg0.N
      ∧ r.2.mem ((c : Thread nD τ).loc main_v33_6) = (dats m 0 c).arrAt 26 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post20 m r h c,
      post21 m r h c,
      post22 m r h c,
      post23 m r h c,
      post24 m r h c,
      post25 m r h c,
      post26 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Cert.PrepIdeal.Value

end
-- ==== Proof.Prep.Claims.lean ====
module

public import proofs.«01_k».proof.Proof.Prep.Value
public import proofs.«01_k».proof.Proof.Gen.PrepRefIdeal.Run
public import proofs.«01_k».proof.Proof.Prep.Run
public import proofs.«01_k».proof.Defs

/-! The claims about the RWKV-7 preparation: the reference runs and leaves its arguments, and the two programs' results are equal. -/

@[expose] public section

set_option maxRecDepth 16384

noncomputable section
open Idealize.ShloMosaic Idealize.ShloMosaic.TcCoe Idealize.SL.Sem
open Idealize.ShloMosaic.Pipeline (Dat)

namespace Cert.Proof.Prep
open Cert.PrepIdeal
open Cert.Post (IsReal)

/-- The side conditions the precondition's function takes. -/
instance pre_facts : Cert.Pre_finite_prep.Facts := ⟨by decide, by decide, by decide, by decide, by decide, by decide, by decide, by decide, by decide, by decide, by decide, by decide, by decide, by decide, by decide, by decide, by decide, by decide, by decide, by decide, by decide, by decide, by decide⟩

/-- A number whose absolute value lies below infinity is a real. -/
theorem real_of_lt (x : EReal) (h : max x (-x) < Ideal.ofBits .f32 0x7F800000#32) : IsReal x := by
  have hi : Ideal.ofBits .f32 0x7F800000#32 = ⊤ := by simp [Ideal.ofBits, Ideal.ieee]
  rw [hi, max_lt_iff] at h
  refine IsReal.of_ne h.1.ne ?_
  rintro rfl
  simp at h

/-- Seven bits whose conjunction is one are all one. -/
theorem seven_of_and (a b c d e f g : Bool)
    (h : IntOp.andi (IntOp.andi (BitVec.ofBool a) (BitVec.ofBool b)) (IntOp.andi (IntOp.andi (IntOp.andi (IntOp.andi (BitVec.ofBool c) (BitVec.ofBool d)) (BitVec.ofBool e))
      (BitVec.ofBool f)) (BitVec.ofBool g)) = 1#1) :
    a = true ∧ b = true ∧ c = true ∧ d = true ∧ e = true ∧ f = true ∧ g = true := by
  cases a <;> cases b <;> cases c <;> cases d <;> cases e <;> cases f <;> cases g <;>
    first | exact ⟨rfl, rfl, rfl, rfl, rfl, rfl, rfl⟩ | exact absurd h (by decide)

/-- What the precondition says of one row, one rank and one column. -/
theorem entries [Cert.Pre_finite_prep.Facts] (x0 : FVec Ideal Cert.Pre_finite_prep.S16384x512 .f32) (x1 : FVec Ideal Cert.Pre_finite_prep.S16384x512 .f32) (x2 : FVec Ideal Cert.Pre_finite_prep.S16384x512 .f32) (x3 : FVec Ideal Cert.Pre_finite_prep.S16384x256 .f32) (x4 : FVec Ideal Cert.Pre_finite_prep.S16384x512 .f32) (x5 : FVec Ideal Cert.Pre_finite_prep.S16384x512 .f32) (x6 : FVec Ideal Cert.Pre_finite_prep.S16384x512 .f32) (x7 : FVec Ideal Cert.Pre_finite_prep.S16384x256 .f32) (x8 : FVec Ideal Cert.Pre_finite_prep.S1x1696 .f32) (x9 : FVec Ideal Cert.Pre_finite_prep.S1x512 .f32) (x10 : FVec Ideal Cert.Pre_finite_prep.S1x32x512 .f32) (x11 : FVec Ideal Cert.Pre_finite_prep.S1x512 .f32) (x12 : FVec Ideal Cert.Pre_finite_prep.S1x32x512 .f32) (x13 : FVec Ideal Cert.Pre_finite_prep.S1x96x512 .f32) (x14 : FVec Ideal Cert.Pre_finite_prep.S1x512 .f32) (x15 : FVec Ideal Cert.Pre_finite_prep.S1x512 .f32)
    (h : Cert.Pre_finite_prep.fn (F := Ideal) x0 x1 x2 x3 x4 x5 x6 x7 x8 x9 x10 x11 x12 x13 x14 x15 = fun _ => 1#1) (n : Fin 16384) (e : Fin 32) (d : Fin 512) :
    IsReal (Cert.PrepRefIdeal.Hand.low x3 x7 x8 n ⟨32 + e.val, by omega⟩) ∧ IsReal (Cert.PrepRefIdeal.Hand.key x1 x5 x8 n d * (x14 (ix2 0 d) : EReal))
      ∧ IsReal (x10 (ix3 0 e d)) ∧ IsReal (x12 (ix3 0 e d)) ∧ IsReal (x13 (ix3 0 ⟨e.val, by omega⟩ d)) ∧ IsReal (x13 (ix3 0 ⟨32 + e.val, by omega⟩ d))
      ∧ IsReal (x13 (ix3 0 ⟨64 + e.val, by omega⟩ d)) := by
  have h1 := congrFun h (ix3 n e d)
  unfold Cert.Pre_finite_prep.fn Cert.Pre_finite_prep.fn_part1 Cert.Pre_finite_prep.fn_part2 at h1
  pointwise at h1
  obtain ⟨ha, hb, hc, hd, he, hf, hg⟩ := seven_of_and _ _ _ _ _ _ _ h1
  have hi : (⟨1536 + (32 + e.val), by omega⟩ : Fin 1696) = ⟨1568 + e.val, by omega⟩ := Fin.ext (by simp only []; omega)
  have ha' := real_of_lt _ (of_decide_eq_true ha)
  rw [← hi] at ha'
  exact ⟨ha', real_of_lt _ (of_decide_eq_true hb), real_of_lt _ (of_decide_eq_true hc), real_of_lt _ (of_decide_eq_true hd),
    real_of_lt _ (of_decide_eq_true he), real_of_lt _ (of_decide_eq_true hf), real_of_lt _ (of_decide_eq_true hg)⟩

/-- The precondition says that what the kernel splits in two is real. -/
theorem reals [Cert.Pre_finite_prep.Facts] (m : (ℓ : Loc nD τ sig) → Buf (Elt Ideal) ℓ) (c : Dev nD)
    (h : Cert.Pre_finite_prep.fn (F := Ideal) (Cert.PrepIdeal.Hand.arg0 m c) (Cert.PrepIdeal.Hand.arg1 m c) (Cert.PrepIdeal.Hand.arg2 m c) (Cert.PrepIdeal.Hand.arg3 m c) (Cert.PrepIdeal.Hand.arg4 m c) (Cert.PrepIdeal.Hand.arg5 m c) (Cert.PrepIdeal.Hand.arg6 m c) (Cert.PrepIdeal.Hand.arg7 m c) (Cert.PrepIdeal.Hand.arg8 m c) (Cert.PrepIdeal.Hand.arg9 m c) (Cert.PrepIdeal.Hand.arg10 m c) (Cert.PrepIdeal.Hand.arg11 m c) (Cert.PrepIdeal.Hand.arg12 m c) (Cert.PrepIdeal.Hand.arg13 m c) (Cert.PrepIdeal.Hand.arg14 m c) (Cert.PrepIdeal.Hand.arg15 m c) = fun _ => 1#1) : Cert.PrepIdeal.Hand.Real m c := by
  have he := entries _ _ _ _ _ _ _ _ _ _ _ _ _ _ _ _ h
  refine ⟨fun n e => (he n e 0).1, fun n d => (he n 0 d).2.1, fun e d => (he 0 e d).2.2.1, fun e d => (he 0 e d).2.2.2.1, fun e d => ?_⟩
  by_cases h1 : e.val < 32
  · exact (he 0 ⟨e.val, h1⟩ d).2.2.2.2.1
  · by_cases h2 : e.val < 64
    · have h3 := (he 0 ⟨e.val - 32, by omega⟩ d).2.2.2.2.2.1
      have h4 : (⟨32 + (e.val - 32), by omega⟩ : Fin 96) = e := Fin.ext (by simp only []; omega)
      simp only [h4] at h3
      exact h3
    · have h3 := (he 0 ⟨e.val - 64, by omega⟩ d).2.2.2.2.2.2
      have h4 : (⟨64 + (e.val - 64), by omega⟩ : Fin 96) = e := Fin.ext (by simp only []; omega)
      simp only [h4] at h3
      exact h3

/-- The reference runs and leaves its arguments. -/
theorem frame_ref (m : (ℓ : Loc Cert.PrepRefIdeal.nD Cert.PrepRefIdeal.τ Cert.PrepRefIdeal.sig) → Buf (Elt Ideal) ℓ) (g : Dev Cert.PrepRefIdeal.nD → PrngReg) :
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12)
      ∧ r.2.mem ((c.tc : Thread Cert.PrepRefIdeal.nD Cert.PrepRefIdeal.τ).loc Cert.PrepRefIdeal.main_arg13) = m ((c.tc : Thread Cert.PrepRefIdeal.nD Cert.PrepRefIdeal.τ).loc Cert.PrepRefIdeal.main_arg13)
      ∧ r.2.mem ((c.tc : Thread Cert.PrepRefIdeal.nD Cert.PrepRefIdeal.τ).loc Cert.PrepRefIdeal.main_arg14) = m ((c.tc : Thread Cert.PrepRefIdeal.nD Cert.PrepRefIdeal.τ).loc Cert.PrepRefIdeal.main_arg14)
      ∧ r.2.mem ((c.tc : Thread Cert.PrepRefIdeal.nD Cert.PrepRefIdeal.τ).loc Cert.PrepRefIdeal.main_arg15) = m ((c.tc : Thread Cert.PrepRefIdeal.nD Cert.PrepRefIdeal.τ).loc Cert.PrepRefIdeal.main_arg15))
      ∧ r.2.sem = fun _ => 0) :=
  θ_run_mono (Cert.PrepRefIdeal.Value.run m g) fun r h => ⟨fun c => (h c).2.2.2.2.2.2.2, sem_eq_zero_of_no_sems (by decide) r.2⟩

set_option maxHeartbeats 4000000 in
/-- Over exact arithmetic the kernel's results are the reference's, where what the kernel splits in two is finite. -/
theorem algebraic [hPrepIdeal : Cert.PrepIdeal.Facts] [hPrepRefIdeal : Cert.PrepRefIdeal.Facts] [hPre : Cert.Pre_finite_prep.Facts] :
    Cert.algebraic_PrepIdeal_PrepRefIdeal_pre_finite_prep := by
  intro m g m' g' hpre hagree
  refine ⟨fun c => Cert.PrepRefIdeal.Read.val_main_v6 (F := Ideal) (Cert.PrepIdeal.Hand.arg0 m c) (Cert.PrepIdeal.Hand.arg4 m c) (Cert.PrepIdeal.Hand.arg8 m c), fun c => Cert.PrepRefIdeal.Read.val_main_v78 (F := Ideal) (Cert.PrepIdeal.Hand.arg3 m c) (Cert.PrepIdeal.Hand.arg7 m c) (Cert.PrepIdeal.Hand.arg8 m c) (Cert.PrepIdeal.Hand.arg9 m c) (Cert.PrepIdeal.Hand.arg10 m c), fun c => Cert.PrepRefIdeal.Read.val_main_v87 (F := Ideal) (Cert.PrepIdeal.Hand.arg1 m c) (Cert.PrepIdeal.Hand.arg3 m c) (Cert.PrepIdeal.Hand.arg5 m c) (Cert.PrepIdeal.Hand.arg7 m c) (Cert.PrepIdeal.Hand.arg8 m c) (Cert.PrepIdeal.Hand.arg11 m c) (Cert.PrepIdeal.Hand.arg12 m c) (Cert.PrepIdeal.Hand.arg15 m c), fun c => Cert.PrepRefIdeal.Read.val_main_v18 (F := Ideal) (Cert.PrepIdeal.Hand.arg2 m c) (Cert.PrepIdeal.Hand.arg6 m c) (Cert.PrepIdeal.Hand.arg8 m c), fun c => Cert.PrepRefIdeal.Read.val_main_v88 (F := Ideal) (Cert.PrepIdeal.Hand.arg1 m c) (Cert.PrepIdeal.Hand.arg5 m c) (Cert.PrepIdeal.Hand.arg8 m c) (Cert.PrepIdeal.Hand.arg14 m c), fun c => Cert.PrepRefIdeal.Read.val_main_v89 (F := Ideal) (Cert.PrepIdeal.Hand.arg1 m c) (Cert.PrepIdeal.Hand.arg3 m c) (Cert.PrepIdeal.Hand.arg5 m c) (Cert.PrepIdeal.Hand.arg7 m c) (Cert.PrepIdeal.Hand.arg8 m c) (Cert.PrepIdeal.Hand.arg11 m c) (Cert.PrepIdeal.Hand.arg12 m c) (Cert.PrepIdeal.Hand.arg14 m c), fun c => Cert.PrepRefIdeal.Read.val_main_v62 (F := Ideal) (Cert.PrepIdeal.Hand.arg3 m c) (Cert.PrepIdeal.Hand.arg7 m c) (Cert.PrepIdeal.Hand.arg8 m c) (Cert.PrepIdeal.Hand.arg13 m c), ?_, ?_⟩
  · refine θ_run_mono (Cert.PrepIdeal.Value.run_blocks m g) fun r h c => ?_
    have hr : Cert.PrepIdeal.Hand.Real m c := reals m c (hpre c)
    exact ⟨(h c).1.trans (Cert.PrepIdeal.Hand.final20 m c), (h c).2.1.trans (Cert.PrepIdeal.Hand.final21 m c hr), (h c).2.2.1.trans (Cert.PrepIdeal.Hand.final22 m c hr), (h c).2.2.2.1.trans (Cert.PrepIdeal.Hand.final23 m c), (h c).2.2.2.2.1.trans (Cert.PrepIdeal.Hand.final24 m c hr), (h c).2.2.2.2.2.1.trans (Cert.PrepIdeal.Hand.final25 m c hr), (h c).2.2.2.2.2.2.1.trans (Cert.PrepIdeal.Hand.final26 m c hr), (h c).2.2.2.2.2.2.2⟩
  · refine θ_run_mono (Cert.PrepRefIdeal.Value.run m' g') fun r h c =>
      ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    all_goals obtain ⟨h0, h1, h2, h3, h4, h5, h6, h7, h8, h9, h10, h11, h12, h13, h14, h15⟩ := hagree c
    · rw [Cert.PrepRefIdeal.Read.val_main_v6_eq, h0, h4, h8]
      rfl
    · rw [Cert.PrepRefIdeal.Read.val_main_v78_eq, h3, h7, h8, h9, h10]
      rfl
    · rw [Cert.PrepRefIdeal.Read.val_main_v87_eq, h1, h3, h5, h7, h8, h11, h12, h15]
      rfl
    · rw [Cert.PrepRefIdeal.Read.val_main_v18_eq, h2, h6, h8]
      rfl
    · rw [Cert.PrepRefIdeal.Read.val_main_v88_eq, h1, h5, h8, h14]
      rfl
    · rw [Cert.PrepRefIdeal.Read.val_main_v89_eq, h1, h3, h5, h7, h8, h11, h12, h14]
      rfl
    · rw [Cert.PrepRefIdeal.Read.val_main_v62_eq, h3, h7, h8, h13]
      rfl

end Cert.Proof.Prep

end
-- ==== Proof.FfnS.Pay.lean ====
module

public import proofs.«01_k».proof.Proof.Gen.FfnSIdeal.Skeleton
public import Idealize.ShloMosaic.Lib.Pointwise
public import proofs.«01_k».proof.Proof.Norm

/-! Entries of what the kernel's body stores. -/

@[expose] public section

set_option maxRecDepth 512

noncomputable section
open Idealize.ShloMosaic Idealize.ShloMosaic.TcCoe Idealize.SL.Sem
open Idealize.ShloMosaic.Pipeline (Dat)

namespace Cert.FfnSIdeal.Hand
open Cert.FfnSIdeal Cert.FfnSIdeal.Gen

/-- The gated unit: `a · logistic a · b`. -/
def act (a b : EReal) : EReal := a * Ideal.logistic a * b

/-- An entry of the normalized block. -/
theorem pay1_at (x : Vec Ideal S512x1024 .f32) (g : Vec Ideal S1x1024 .f32) (r : Fin 512) (k : Fin 1024) :
    (k0_pay1 x g (ix2 r k) : EReal) = Norm.rms (fun j => x (ix2 r j)) (fun j => g (ix2 0 j)) k := by
  unfold Norm.rms
  pointwise [k0_pay1]

/-- The accumulator starts at zero. -/
theorem pay2_at (r : Fin 512) (k : Fin 1024) : (k0_pay2 (F := Ideal) (ix2 r k) : EReal) = 0 := by
  pointwise [k0_pay2]

/-- One half of the inner width added to the accumulator. -/
theorem pay3_at (h : Vec Ideal S512x1024 .bf16) (wg : Vec Ideal S1024x1408 .bf16) (wu : Vec Ideal S1024x1408 .bf16) (a : Vec Ideal S512x1024 .f32)
    (wd : Vec Ideal S1408x1024 .bf16) (r : Fin 512) (d : Fin 1024) :
    (k0_pay3 h wg wu a wd (ix2 r d) : EReal)
      = a (ix2 r d) + ∑ f : Fin 1408, act (∑ k : Fin 1024, (h (ix2 r k) : EReal) * wg (ix2 k f)) (∑ k : Fin 1024, (h (ix2 r k) : EReal) * wu (ix2 k f)) * wd (ix2 f d) := by
  unfold act
  pointwise [k0_pay3]

/-- The residual sum, normalized. -/
theorem pay4_at (x : Vec Ideal S512x1024 .f32) (a : Vec Ideal S512x1024 .f32) (g : Vec Ideal S1x1024 .f32) (r : Fin 512) (k : Fin 1024) :
    (k0_pay4 x a g (ix2 r k) : EReal) = Norm.rms (fun j => (x (ix2 r j) : EReal) + a (ix2 r j)) (fun j => g (ix2 0 j)) k := by
  unfold Norm.rms
  pointwise [k0_pay4]

end Cert.FfnSIdeal.Hand

end
-- ==== Proof.FfnS.Blocks.lean ====
module

public import proofs.«01_k».proof.Proof.Gen.FfnSIdeal.Frame
public import Idealize.ShloMosaic.Lib.Pipeline.ValueKit
public import Idealize.ShloMosaic.Lib.Claim

/-! What each window of the layer's launch holds at a grid point, in terms of the program's arguments. -/

@[expose] public section

set_option maxRecDepth 512

noncomputable section
open Idealize.ShloMosaic Idealize.ShloMosaic.TcCoe Idealize.SL.Sem
open Idealize.ShloMosaic.Pipeline (Dat)

namespace Cert.FfnSIdeal.Hand
open Cert.FfnSIdeal Cert.FfnSIdeal.Gen

variable (m : (ℓ : Loc nD τ sig) → Buf (Elt Ideal) ℓ)

/-- The blocks each window takes at a grid point. -/
theorem idx : ∀ t : Fin cfg0.N, win0_0.index t = ![t.val / 2, 0] ∧ win0_1.index t = ![0, 0] ∧ win0_2.index t = ![0, 0]
    ∧ win0_3.index t = ![0, t.val % 2] ∧ win0_4.index t = ![0, t.val % 2] ∧ win0_5.index t = ![t.val % 2, 0] ∧ win0_6.index t = ![t.val / 2, 0] :=
  (by decide +kernel : ∀ t : Fin grid0.N, _)

/-- An entry of the gains as a row. -/
theorem gain_at (g : FVec Ideal S1024 .f32) (k : Fin 1024) :
    (shapeCast S1x1024 g shapeCasts_S1024_S1x1024 (ix2 0 k) : EReal) = g (ix1 k) := by
  pointwise

/-- The launch has two grid points. -/
theorem count (t : Fin cfg0.N) : t.val < 2 := t.isLt

/-- The gate weights the launch takes. -/
theorem gates (c : Dev nD) : V m c main_v0 = (truncf .bf16 (m ((c.tc : Thread nD τ).loc main_arg3) : FVec Ideal S1024x2816 .f32) bitsLt_bf16_f32 : FVec Ideal S1024x2816 .bf16) := by
  unfold V
  simp only [hostOps0, List.flatten_cons, List.flatten_nil, List.cons_append, List.nil_append, List.append_nil]
  after_results
  try rfl

/-- The up weights the launch takes. -/
theorem ups (c : Dev nD) : V m c main_v1 = (truncf .bf16 (m ((c.tc : Thread nD τ).loc main_arg4) : FVec Ideal S1024x2816 .f32) bitsLt_bf16_f32 : FVec Ideal S1024x2816 .bf16) := by
  unfold V
  simp only [hostOps0, List.flatten_cons, List.flatten_nil, List.cons_append, List.nil_append, List.append_nil]
  after_results
  try rfl

/-- The down weights the launch takes. -/
theorem downs (c : Dev nD) : V m c main_v2 = (truncf .bf16 (m ((c.tc : Thread nD τ).loc main_arg5) : FVec Ideal S2816x1024 .f32) bitsLt_bf16_f32 : FVec Ideal S2816x1024 .bf16) := by
  unfold V
  simp only [hostOps0, List.flatten_cons, List.flatten_nil, List.cons_append, List.nil_append, List.append_nil]
  after_results
  try rfl

/-- The layer's gains the launch takes. -/
theorem gains (c : Dev nD) : V m c main_v3 = shapeCast S1x1024 (m ((c.tc : Thread nD τ).loc main_arg1) : FVec Ideal S1024 .f32) shapeCasts_S1024_S1x1024 := by
  unfold V
  simp only [hostOps0, List.flatten_cons, List.flatten_nil, List.cons_append, List.nil_append, List.append_nil]
  after_results
  try rfl

/-- The last gains the launch takes. -/
theorem gains_final (c : Dev nD) : V m c main_v4 = shapeCast S1x1024 (m ((c.tc : Thread nD τ).loc main_arg2) : FVec Ideal S1024 .f32) shapeCasts_S1024_S1x1024 := by
  unfold V
  simp only [hostOps0, List.flatten_cons, List.flatten_nil, List.cons_append, List.nil_append, List.append_nil]
  after_results
  try rfl

/-- The rows the launch takes. -/
theorem rows (c : Dev nD) : V m c main_arg0 = m ((c.tc : Thread nD τ).loc main_arg0) := by
  unfold V
  simp only [hostOps0, List.flatten_cons, List.flatten_nil, List.cons_append, List.nil_append, List.append_nil]
  after_results
  try rfl

/-- A block of rows. -/
theorem block0 (c : Dev nD) (t : Fin cfg0.N) (r : Fin 512) (k : Fin 1024) :
    ((iblk m c 0 t : Vec Ideal S512x1024 .f32) (ix2 r k) : EReal)
      = (m ((c.tc : Thread nD τ).loc main_arg0) : FVec Ideal S512x1024 .f32) (ix2 ⟨512 * (t.val / 2) + r.val, by have := count t; omega⟩ k) := by
  have ht := count t
  have hb := rows m c
  generalize m ((c.tc : Thread nD τ).loc main_arg0) = y at hb ⊢
  blk_point [iblk, hb, idx t]

/-- Window 1 holds its gains. -/
theorem block1 (c : Dev nD) (t : Fin cfg0.N) (k : Fin 1024) :
    ((iblk m c 1 t : Vec Ideal S1x1024 .f32) (ix2 0 k) : EReal)
      = (m ((c.tc : Thread nD τ).loc main_arg1) : FVec Ideal S1024 .f32) (ix1 k) := by
  refine Eq.trans ?_ (gain_at (m ((c.tc : Thread nD τ).loc main_arg1)) k)
  have hb := gains m c
  generalize shapeCast S1x1024 (m ((c.tc : Thread nD τ).loc main_arg1) : FVec Ideal S1024 .f32) shapeCasts_S1024_S1x1024 = y at hb ⊢
  blk_point [iblk, hb, idx t]

/-- Window 2 holds its gains. -/
theorem block2 (c : Dev nD) (t : Fin cfg0.N) (k : Fin 1024) :
    ((iblk m c 2 t : Vec Ideal S1x1024 .f32) (ix2 0 k) : EReal)
      = (m ((c.tc : Thread nD τ).loc main_arg2) : FVec Ideal S1024 .f32) (ix1 k) := by
  refine Eq.trans ?_ (gain_at (m ((c.tc : Thread nD τ).loc main_arg2)) k)
  have hb := gains_final m c
  generalize shapeCast S1x1024 (m ((c.tc : Thread nD τ).loc main_arg2) : FVec Ideal S1024 .f32) shapeCasts_S1024_S1x1024 = y at hb ⊢
  blk_point [iblk, hb, idx t]

/-- Window 3 holds one half of its weight's columns. -/
theorem block3 (c : Dev nD) (t : Fin cfg0.N) (k : Fin 1024) (f : Fin 1408) :
    ((iblk m c 3 t : Vec Ideal S1024x1408 .bf16) (ix2 k f) : EReal)
      = (m ((c.tc : Thread nD τ).loc main_arg3) : FVec Ideal S1024x2816 .f32) (ix2 k ⟨1408 * (t.val % 2) + f.val, by omega⟩) := by
  have ht := count t
  refine Eq.trans ?_ (show (truncf .bf16 (m ((c.tc : Thread nD τ).loc main_arg3) : FVec Ideal S1024x2816 .f32) bitsLt_bf16_f32 : FVec Ideal S1024x2816 .bf16) (ix2 k ⟨1408 * (t.val % 2) + f.val, by omega⟩) = _ from rfl)
  have hb := gates m c
  generalize (truncf .bf16 (m ((c.tc : Thread nD τ).loc main_arg3) : FVec Ideal S1024x2816 .f32) bitsLt_bf16_f32 : FVec Ideal S1024x2816 .bf16) = y at hb ⊢
  blk_point [iblk, hb, idx t]

/-- Window 4 holds one half of its weight's columns. -/
theorem block4 (c : Dev nD) (t : Fin cfg0.N) (k : Fin 1024) (f : Fin 1408) :
    ((iblk m c 4 t : Vec Ideal S1024x1408 .bf16) (ix2 k f) : EReal)
      = (m ((c.tc : Thread nD τ).loc main_arg4) : FVec Ideal S1024x2816 .f32) (ix2 k ⟨1408 * (t.val % 2) + f.val, by omega⟩) := by
  have ht := count t
  refine Eq.trans ?_ (show (truncf .bf16 (m ((c.tc : Thread nD τ).loc main_arg4) : FVec Ideal S1024x2816 .f32) bitsLt_bf16_f32 : FVec Ideal S1024x2816 .bf16) (ix2 k ⟨1408 * (t.val % 2) + f.val, by omega⟩) = _ from rfl)
  have hb := ups m c
  generalize (truncf .bf16 (m ((c.tc : Thread nD τ).loc main_arg4) : FVec Ideal S1024x2816 .f32) bitsLt_bf16_f32 : FVec Ideal S1024x2816 .bf16) = y at hb ⊢
  blk_point [iblk, hb, idx t]

/-- Window 5 holds one half of its weight's rows. -/
theorem block5 (c : Dev nD) (t : Fin cfg0.N) (f : Fin 1408) (d : Fin 1024) :
    ((iblk m c 5 t : Vec Ideal S1408x1024 .bf16) (ix2 f d) : EReal)
      = (m ((c.tc : Thread nD τ).loc main_arg5) : FVec Ideal S2816x1024 .f32) (ix2 ⟨1408 * (t.val % 2) + f.val, by omega⟩ d) := by
  have ht := count t
  refine Eq.trans ?_ (show (truncf .bf16 (m ((c.tc : Thread nD τ).loc main_arg5) : FVec Ideal S2816x1024 .f32) bitsLt_bf16_f32 : FVec Ideal S2816x1024 .bf16) (ix2 ⟨1408 * (t.val % 2) + f.val, by omega⟩ d) = _ from rfl)
  have hb := downs m c
  generalize (truncf .bf16 (m ((c.tc : Thread nD τ).loc main_arg5) : FVec Ideal S2816x1024 .f32) bitsLt_bf16_f32 : FVec Ideal S2816x1024 .bf16) = y at hb ⊢
  blk_point [iblk, hb, idx t]

end Cert.FfnSIdeal.Hand

end
-- ==== Proof.FfnS.RefAt.lean ====
module

public import proofs.«01_k».proof.Proof.Gen.FfnSRefIdeal.Read
public import Idealize.ShloMosaic.Lib.Pointwise
public import proofs.«01_k».proof.Proof.Norm
public import proofs.«01_k».proof.Proof.FfnS.Pay

/-! An entry of the reference's result. -/

@[expose] public section

set_option maxRecDepth 512

noncomputable section
open Idealize.ShloMosaic Idealize.ShloMosaic.TcCoe Idealize.SL.Sem
open Idealize.ShloMosaic.Pipeline (Dat)

namespace Cert.FfnSRefIdeal.Hand
open Cert.FfnSRefIdeal Cert.FfnSRefIdeal.Gen Cert.FfnSRefIdeal.Read

variable (x : FVec Ideal S512x1024 .f32) (g gf : FVec Ideal S1024 .f32) (wg wu : FVec Ideal S1024x2816 .f32) (wd : FVec Ideal S2816x1024 .f32)

/-- The word of one is one. -/
theorem one_word : Ideal.ofBits FTy.f32 0x3F800000#32 = 1 := by
  first | exact Ideal.ofBits_one_f32 | (simp [Ideal.ofBits]; done) | (unfold Ideal.ofBits; norm_num)

/-- An entry of the normalized input. -/
theorem v12_at (n : Fin 512) (k : Fin 1024) :
    (val_main_v12 (F := Ideal) x g (ix2 n k) : EReal) = Norm.rms (fun j => x (ix2 n j)) (fun j => g (ix1 j)) k := by
  unfold Norm.rms
  pointwise [val_main_v12, val_main_v9, val_main_v11, val_main_v10, val_main_v8, val_main_v7, val_main_v6, val_main_v5,
    val_main_cst_1, val_main_v4, val_main_v3, val_main_cst_0, val_main_v2, val_main_v1, val_main_cst, val_main_v0]

theorem v13_at (n : Fin 512) (f : Fin 2816) :
    (val_main_v13 (F := Ideal) x g wg (ix2 n f) : EReal) = ∑ k, (val_main_v12 (F := Ideal) x g (ix2 n k) : EReal) * wg (ix2 k f) := by
  pointwise [val_main_v13]

theorem v15_at (n : Fin 512) (f : Fin 2816) :
    (val_main_v15 (F := Ideal) x g wu (ix2 n f) : EReal) = ∑ k, (val_main_v12 (F := Ideal) x g (ix2 n k) : EReal) * wu (ix2 k f) := by
  pointwise [val_main_v15]

/-- An entry of the gated product. -/
theorem v16_at (n : Fin 512) (f : Fin 2816) :
    (val_main_v16 (F := Ideal) x g wg wu (ix2 n f) : EReal)
      = Cert.FfnSIdeal.Hand.act (val_main_v13 (F := Ideal) x g wg (ix2 n f)) (val_main_v15 (F := Ideal) x g wu (ix2 n f)) := by
  unfold Cert.FfnSIdeal.Hand.act Ideal.logistic
  rw [← one_word]
  pointwise [val_main_v16, val_main_v14, val_main_call0_v5, val_main_call0_v4, val_main_call0_v3, val_main_call0_v2, val_main_call0_v1, val_main_call0_v0, val_main_call0_cst, val_main_call0_cst_0]

/-- An entry of the down projection. -/
theorem v17_at (n : Fin 512) (d : Fin 1024) :
    (val_main_v17 (F := Ideal) x g wg wu wd (ix2 n d) : EReal) = ∑ f, (val_main_v16 (F := Ideal) x g wg wu (ix2 n f) : EReal) * wd (ix2 f d) := by
  pointwise [val_main_v17]

/-- Row `n`'s normalized input times column `f` of a weight. -/
def up (n : Fin 512) (w : FVec Ideal S1024x2816 .f32) (f : Fin 2816) : EReal :=
  ∑ k, Norm.rms (fun j => x (ix2 n j)) (fun j => g (ix1 j)) k * w (ix2 k f)

/-- The term of inner column `f` in entry `(n, d)` of the down projection. -/
def term (n : Fin 512) (d : Fin 1024) (f : Fin 2816) : EReal :=
  Cert.FfnSIdeal.Hand.act (up x g n wg f) (up x g n wu f) * wd (ix2 f d)

theorem v17_sum (n : Fin 512) (d : Fin 1024) :
    (val_main_v17 (F := Ideal) x g wg wu wd (ix2 n d) : EReal) = ∑ f, term x g wg wu wd n d f := by
  rw [v17_at]
  refine Finset.sum_congr rfl fun f _ => ?_
  rw [v16_at, v13_at, v15_at]
  unfold term up
  simp only [v12_at]

/-- An entry of the result. -/
theorem v31_at (n : Fin 512) (d : Fin 1024) :
    (val_main_v31 (F := Ideal) x g gf wg wu wd (ix2 n d) : EReal)
      = Norm.rms (fun j => (x (ix2 n j) : EReal) + ∑ f, term x g wg wu wd n j f) (fun j => gf (ix1 j)) d := by
  simp only [← v17_sum]
  unfold Norm.rms
  pointwise [val_main_v31, val_main_v30, val_main_v29, val_main_v28, val_main_v27, val_main_v26, val_main_v25, val_main_v24, val_main_v23, val_main_v22,
    val_main_v21, val_main_v20, val_main_v19, val_main_v18, val_main_cst_2, val_main_cst_3, val_main_cst_4]

end Cert.FfnSRefIdeal.Hand

end
-- ==== Proof.FfnS.Steps.lean ====
module

public import proofs.«01_k».proof.Proof.FfnS.Pay
public import proofs.«01_k».proof.Proof.FfnS.Blocks
public import proofs.«01_k».proof.Proof.FfnS.RefAt

/-! The layer's result array after the run is the reference's result. -/

@[expose] public section

set_option maxRecDepth 512

noncomputable section
open Idealize.ShloMosaic Idealize.ShloMosaic.TcCoe Idealize.SL.Sem
open Idealize.ShloMosaic.Pipeline (Dat)

namespace Cert.FfnSIdeal.Hand
open Cert.FfnSIdeal Cert.FfnSIdeal.Gen

variable (m : (ℓ : Loc nD τ sig) → Buf (Elt Ideal) ℓ)

/-- After an even point the carried block is the normalized block of rows. -/
theorem carried_h (c : Dev nD) (t : Fin cfg0.N) (h0 : t.val % 2 = 0) (r : Fin 512) (k : Fin 1024) :
    ((outsAt0 m c t.val t.isLt).2.1 (ix2 r k) : EReal) = k0_pay1 (iblk m c 0 t : Vec Ideal S512x1024 .f32) (iblk m c 1 t : Vec Ideal S1x1024 .f32) (ix2 r k) := by
  rw [outsAt0_A m c t h0 (by omega)]
  dsimp only
  unfold sout0_A_0
  frame_out

/-- After an even point the accumulator is the first half's sum. -/
theorem carried_acc (c : Dev nD) (t : Fin cfg0.N) (h0 : t.val % 2 = 0) (r : Fin 512) (k : Fin 1024) :
    ((outsAt0 m c t.val t.isLt).2.2 (ix2 r k) : EReal)
      = k0_pay3 (k0_pay1 (iblk m c 0 t : Vec Ideal S512x1024 .f32) (iblk m c 1 t : Vec Ideal S1x1024 .f32)) (iblk m c 3 t : Vec Ideal S1024x1408 .bf16) (iblk m c 4 t : Vec Ideal S1024x1408 .bf16) (k0_pay2 (F := Ideal)) (iblk m c 5 t : Vec Ideal S1408x1024 .bf16) (ix2 r k) := by
  rw [outsAt0_A m c t h0 (by omega)]
  dsimp only
  unfold sout0_A_1
  frame_out

/-- After an odd point the output block is the residual sum, normalized. -/
theorem output_at (c : Dev nD) (t : Fin cfg0.N) (h1 : t.val % 2 = 1) (r : Fin 512) (k : Fin 1024) (hs : Vec Ideal S512x1024 .bf16) (acc : Vec Ideal S512x1024 .f32)
    (e0 : (outsAt0 m c (t.val - 1) (Nat.lt_of_le_of_lt (Nat.sub_le _ _) t.isLt)).2.1 = hs)
    (e1 : (outsAt0 m c (t.val - 1) (Nat.lt_of_le_of_lt (Nat.sub_le _ _) t.isLt)).2.2 = acc) :
    ((outsAt0 m c t.val t.isLt).1 (ix2 r k) : EReal)
      = k0_pay4 (iblk m c 0 t : Vec Ideal S512x1024 .f32) (k0_pay3 hs (iblk m c 3 t : Vec Ideal S1024x1408 .bf16) (iblk m c 4 t : Vec Ideal S1024x1408 .bf16) acc (iblk m c 5 t : Vec Ideal S1408x1024 .bf16)) (iblk m c 2 t : Vec Ideal S1x1024 .f32) (ix2 r k) := by
  rw [outsAt0_B m c t (by omega) h1]
  dsimp only
  rw [e0, e1]
  unfold out0_B_6
  frame_out
  have u0 : View.read (Elt Ideal) (View.whole cc0_scratch0) ((Memref.isWhole_whole cc0_scratch0).unread hs) = hs := (Memref.isWhole_whole cc0_scratch0).read_unread hs
  have u1 : View.read (Elt Ideal) (View.whole cc0_scratch1) ((Memref.isWhole_whole cc0_scratch1).unread acc) = acc := (Memref.isWhole_whole cc0_scratch1).read_unread acc
  exact congrArg₂ (fun a b => (k0_pay4 (iblk m c 0 t : Vec Ideal S512x1024 .f32) (k0_pay3 a (iblk m c 3 t : Vec Ideal S1024x1408 .bf16) (iblk m c 4 t : Vec Ideal S1024x1408 .bf16) b (iblk m c 5 t : Vec Ideal S1408x1024 .bf16)) (iblk m c 2 t : Vec Ideal S1x1024 .f32) (ix2 r k) : EReal)) u0 u1

end Cert.FfnSIdeal.Hand

end
-- ==== Proof.FfnS.Value.lean ====
module

public import proofs.«01_k».proof.Proof.FfnS.Steps

/-! The layer's result array after the run is the reference's result. -/

@[expose] public section

set_option maxRecDepth 512

noncomputable section
open Idealize.ShloMosaic Idealize.ShloMosaic.TcCoe Idealize.SL.Sem
open Idealize.ShloMosaic.Pipeline (Dat)

namespace Cert.FfnSIdeal.Hand
open Cert.FfnSIdeal Cert.FfnSIdeal.Gen

variable (m : (ℓ : Loc nD τ sig) → Buf (Elt Ideal) ℓ)

/-- The row of the arrays that row `r` of point `t`'s block is. -/
abbrev row (t : Fin cfg0.N) (r : Fin 512) : Fin 512 := ⟨512 * (t.val / 2) + r.val, by have := count t; omega⟩

/-- The term of inner column `f` in the down projection, over the program's arguments. -/
abbrev want (c : Dev nD) (n : Fin 512) (d : Fin 1024) (f : Fin 2816) : EReal :=
  Cert.FfnSRefIdeal.Hand.term (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) n d f

/-- A row of the normalized block, in terms of the arguments. -/
theorem norm_at (c : Dev nD) (t : Fin cfg0.N) (r : Fin 512) (k : Fin 1024) :
    (k0_pay1 (iblk m c 0 t : Vec Ideal S512x1024 .f32) (iblk m c 1 t : Vec Ideal S1x1024 .f32) (ix2 r k) : EReal)
      = Norm.rms (fun j => (m ((c.tc : Thread nD τ).loc main_arg0) : FVec Ideal S512x1024 .f32) (ix2 (row t r) j))
          (fun j => (m ((c.tc : Thread nD τ).loc main_arg1) : FVec Ideal S1024 .f32) (ix1 j)) k := by
  rw [pay1_at]
  simp only [block0, block1]

/-- One half's sum at a point, over a carried block that holds the point's normalized rows. -/
theorem half_at (c : Dev nD) (t : Fin cfg0.N) (h : Vec Ideal S512x1024 .bf16) (acc : Vec Ideal S512x1024 .f32) (r : Fin 512) (d : Fin 1024)
    (hh : ∀ k, (h (ix2 r k) : EReal) = Norm.rms (fun j => (m ((c.tc : Thread nD τ).loc main_arg0) : FVec Ideal S512x1024 .f32) (ix2 (row t r) j))
          (fun j => (m ((c.tc : Thread nD τ).loc main_arg1) : FVec Ideal S1024 .f32) (ix1 j)) k) :
    (k0_pay3 h (iblk m c 3 t : Vec Ideal S1024x1408 .bf16) (iblk m c 4 t : Vec Ideal S1024x1408 .bf16) acc (iblk m c 5 t : Vec Ideal S1408x1024 .bf16) (ix2 r d) : EReal)
      = acc (ix2 r d) + ∑ f : Fin 1408, want m c (row t r) d ⟨1408 * (t.val % 2) + f.val, by omega⟩ := by
  rw [pay3_at]
  refine congrArg (fun z : EReal => (acc (ix2 r d) : EReal) + z) (Finset.sum_congr rfl fun f _ => ?_)
  unfold want Cert.FfnSRefIdeal.Hand.term Cert.FfnSRefIdeal.Hand.up
  simp only [hh, block3, block4, block5]

/-- The point before. -/
abbrev prev (t : Fin cfg0.N) : Fin cfg0.N := ⟨t.val - 1, Nat.lt_of_le_of_lt (Nat.sub_le _ _) t.isLt⟩

/-- What an odd point writes, in terms of the arguments. -/
theorem written (c : Dev nD) (t : Fin cfg0.N) (h1 : t.val % 2 = 1) (r : Fin 512) (d : Fin 1024) :
    ((outsAt0 m c t.val t.isLt).1 (ix2 r d) : EReal)
      = Norm.rms (fun j => @HAdd.hAdd EReal EReal EReal _ ((m ((c.tc : Thread nD τ).loc main_arg0) : FVec Ideal S512x1024 .f32) (ix2 (row t r) j)) (∑ f, want m c (row t r) j f))
          (fun j => (m ((c.tc : Thread nD τ).loc main_arg2) : FVec Ideal S1024 .f32) (ix1 j)) d := by
  have hp : (prev t).val % 2 = 0 := by show (t.val - 1) % 2 = 0; omega
  have hrow : row (prev t) r = row t r := Fin.ext (by show 512 * ((t.val - 1) / 2) + r.val = 512 * (t.val / 2) + r.val; omega)
  rw [output_at m c t h1 r d _ _ rfl rfl, pay4_at]
  have hh : ∀ k, ((outsAt0 m c (prev t).val (prev t).isLt).2.1 (ix2 r k) : EReal) = Norm.rms (fun j => (m ((c.tc : Thread nD τ).loc main_arg0) : FVec Ideal S512x1024 .f32) (ix2 (row t r) j))
          (fun j => (m ((c.tc : Thread nD τ).loc main_arg1) : FVec Ideal S1024 .f32) (ix1 j)) k := fun k => by
    rw [carried_h m c (prev t) hp r k, norm_at, hrow]
  have ha : ∀ d, ((outsAt0 m c (prev t).val (prev t).isLt).2.2 (ix2 r d) : EReal) = ∑ f : Fin 1408, want m c (row t r) d ⟨f.val, by omega⟩ := fun d => by
    rw [carried_acc m c (prev t) hp r d, half_at m c (prev t) _ _ r d (norm_at m c (prev t) r), pay2_at, zero_add, hrow]
    exact Finset.sum_congr rfl fun f _ => congrArg (want m c (row t r) d) (Fin.ext (by show 1408 * ((t.val - 1) % 2) + f.val = f.val; omega))
  have hs : ∀ d, ((k0_pay3 (outsAt0 m c (prev t).val (prev t).isLt).2.1 (iblk m c 3 t : Vec Ideal S1024x1408 .bf16) (iblk m c 4 t : Vec Ideal S1024x1408 .bf16) (outsAt0 m c (prev t).val (prev t).isLt).2.2 (iblk m c 5 t : Vec Ideal S1408x1024 .bf16)) (ix2 r d) : EReal)
      = ∑ f, want m c (row t r) d f := fun d => by
    rw [half_at m c t _ _ r d hh, ha, Fin.sum_univ_two_halves 1408 1408 rfl (want m c (row t r) d)]
    refine congrArg (fun z : EReal => (∑ f : Fin 1408, want m c (row t r) d ⟨f.val, by omega⟩) + z) ?_
    exact Finset.sum_congr rfl fun f _ => congrArg (want m c (row t r) d) (Fin.ext (by show 1408 * (t.val % 2) + f.val = 1408 + f.val; omega))
  simp only [hs, block0, block2]

/-- The result is written back at odd points only. -/
theorem flush_odd : ∀ t : Fin cfg0.N, win0_6.flush t = true → t.val % 2 = 1 :=
  (by decide +kernel : ∀ t : Fin grid0.N, _)

/-- The result array after the run. -/
theorem final6 (c : Dev nD) : (dats m 0 c).arrAt 6 (cfgs 0).N = Cert.FfnSRefIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 6 _ (by decide +kernel) fun t hf y => ?_
  have ht := count t
  have h1 : t.val % 2 = 1 := flush_odd t hf
  blk_simp
  rw [after0_6]
  idx_vars y
  refine (written m c t h1 y0 y1).trans ?_
  refine (Cert.FfnSRefIdeal.Hand.v31_at _ _ _ _ _ _ (row t y0) y1).symm.trans ?_
  generalize Cert.FfnSRefIdeal.Read.val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = X
  blk_point [idx t]

end Cert.FfnSIdeal.Hand

end
-- ==== Proof.FfnS.Claims.lean ====
module

public import proofs.«01_k».proof.Proof.FfnS.Value
public import proofs.«01_k».proof.Proof.Gen.FfnSRefIdeal.Run
public import proofs.«01_k».proof.Proof.Gen.FfnSIdeal.Value
public import proofs.«01_k».proof.Defs

/-! The claims about the feed-forward layer at the sample group's shape: the reference runs and leaves its arguments, and the two programs' results are equal. -/

@[expose] public section

set_option maxRecDepth 16384

noncomputable section
open Idealize.ShloMosaic Idealize.ShloMosaic.TcCoe Idealize.SL.Sem
open Idealize.ShloMosaic.Pipeline (Dat)

namespace Cert.Proof.FfnS
open Cert.FfnSIdeal

/-- The reference runs and leaves its arguments. -/
theorem frame_ref (m : (ℓ : Loc Cert.FfnSRefIdeal.nD Cert.FfnSRefIdeal.τ Cert.FfnSRefIdeal.sig) → Buf (Elt Ideal) ℓ) (g : Dev Cert.FfnSRefIdeal.nD → PrngReg) :
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0) :=
  θ_run_mono (Cert.FfnSRefIdeal.Value.run m g) fun r h => ⟨fun c => (h c).2, sem_eq_zero_of_no_sems (by decide) r.2⟩

/-- Over exact arithmetic the kernel's results are the reference's. -/
theorem algebraic [hFfnSIdeal : Cert.FfnSIdeal.Facts] [hFfnSRefIdeal : Cert.FfnSRefIdeal.Facts] : Cert.algebraic_FfnSIdeal_FfnSRefIdeal := by
  intro m g m' g' hpre hagree
  refine ⟨fun c => Cert.FfnSRefIdeal.Read.val_main_v31 (F := Ideal) (m ((c.tc : Thread Cert.FfnSIdeal.nD Cert.FfnSIdeal.τ).loc Cert.FfnSIdeal.main_arg0)) (m ((c.tc : Thread Cert.FfnSIdeal.nD Cert.FfnSIdeal.τ).loc Cert.FfnSIdeal.main_arg1)) (m ((c.tc : Thread Cert.FfnSIdeal.nD Cert.FfnSIdeal.τ).loc Cert.FfnSIdeal.main_arg2)) (m ((c.tc : Thread Cert.FfnSIdeal.nD Cert.FfnSIdeal.τ).loc Cert.FfnSIdeal.main_arg3)) (m ((c.tc : Thread Cert.FfnSIdeal.nD Cert.FfnSIdeal.τ).loc Cert.FfnSIdeal.main_arg4)) (m ((c.tc : Thread Cert.FfnSIdeal.nD Cert.FfnSIdeal.τ).loc Cert.FfnSIdeal.main_arg5)), ?_, ?_⟩
  · exact θ_run_mono (Cert.FfnSIdeal.Value.run_blocks m g) fun r h c =>
      ⟨(h c).1.trans (Cert.FfnSIdeal.Hand.final6 m c), (h c).2⟩
  · refine θ_run_mono (Cert.FfnSRefIdeal.Value.run m' g') fun r h c =>
      ⟨(h c).1.trans ?_, (h c).2⟩
    all_goals obtain ⟨h0, h1, h2, h3, h4, h5⟩ := hagree c
    · rw [Cert.FfnSRefIdeal.Read.val_main_v31_eq, h0, h1, h2, h3, h4, h5]

end Cert.Proof.FfnS

end
-- ==== Proof.lean ====
module

public import proofs.«01_k».proof.Proof.Gen.ProjS.Frame
public import proofs.«01_k».proof.Proof.Gen.ProjS.Launch
public import proofs.«01_k».proof.Proof.Gen.ProjS.Points
public import proofs.«01_k».proof.Proof.Gen.ProjS.Skeleton
public import proofs.«01_k».proof.Proof.Gen.ProjSIdeal.Frame
public import proofs.«01_k».proof.Proof.Gen.ProjSIdeal.Launch
public import proofs.«01_k».proof.Proof.Gen.ProjSIdeal.Points
public import proofs.«01_k».proof.Proof.Gen.ProjSIdeal.Skeleton
public import proofs.«01_k».proof.Proof.Gen.ProjSIdeal.Value
public import proofs.«01_k».proof.Proof.Gen.ProjSRefIdeal.Run
public import proofs.«01_k».proof.Proof.Gen.ProjSRefIdeal.Read
public import proofs.«01_k».proof.Proof.Gen.OddS.Frame
public import proofs.«01_k».proof.Proof.Gen.OddS.Launch
public import proofs.«01_k».proof.Proof.Gen.OddS.Points
public import proofs.«01_k».proof.Proof.Gen.OddS.Skeleton
public import proofs.«01_k».proof.Proof.Gen.OddSIdeal.Frame
public import proofs.«01_k».proof.Proof.Gen.OddSIdeal.Launch
public import proofs.«01_k».proof.Proof.Gen.OddSIdeal.Points
public import proofs.«01_k».proof.Proof.Gen.OddSIdeal.Skeleton
public import proofs.«01_k».proof.Proof.Gen.OddSIdeal.Value
public import proofs.«01_k».proof.Proof.Gen.OddSRefIdeal.Run
public import proofs.«01_k».proof.Proof.Gen.OddSRefIdeal.Read
public import proofs.«01_k».proof.Proof.Gen.FfnE.Frame
public import proofs.«01_k».proof.Proof.Gen.FfnES.Frame
public import proofs.«01_k».proof.Proof.Gen.FfnS.Frame
public import proofs.«01_k».proof.Proof.Gen.FfnE.Launch
public import proofs.«01_k».proof.Proof.Gen.FfnES.Launch
public import proofs.«01_k».proof.Proof.Gen.FfnS.Launch
public import proofs.«01_k».proof.Proof.Gen.FfnE.Points
public import proofs.«01_k».proof.Proof.Gen.FfnES.Points
public import proofs.«01_k».proof.Proof.Gen.FfnS.Points
public import proofs.«01_k».proof.Proof.Gen.FfnE.Skeleton
public import proofs.«01_k».proof.Proof.Gen.FfnES.Skeleton
public import proofs.«01_k».proof.Proof.Gen.FfnS.Skeleton
public import proofs.«01_k».proof.Proof.Gen.FfnEIdeal.Frame
public import proofs.«01_k».proof.Proof.Gen.FfnESIdeal.Frame
public import proofs.«01_k».proof.Proof.Gen.FfnSIdeal.Frame
public import proofs.«01_k».proof.Proof.Gen.FfnEIdeal.Launch
public import proofs.«01_k».proof.Proof.Gen.FfnESIdeal.Launch
public import proofs.«01_k».proof.Proof.Gen.FfnSIdeal.Launch
public import proofs.«01_k».proof.Proof.Gen.FfnEIdeal.Points
public import proofs.«01_k».proof.Proof.Gen.FfnESIdeal.Points
public import proofs.«01_k».proof.Proof.Gen.FfnSIdeal.Points
public import proofs.«01_k».proof.Proof.Gen.FfnEIdeal.Skeleton
public import proofs.«01_k».proof.Proof.Gen.FfnESIdeal.Skeleton
public import proofs.«01_k».proof.Proof.Gen.FfnSIdeal.Skeleton
public import proofs.«01_k».proof.Proof.Gen.FfnEIdeal.Value
public import proofs.«01_k».proof.Proof.Gen.FfnESIdeal.Value
public import proofs.«01_k».proof.Proof.Gen.FfnSIdeal.Value
public import proofs.«01_k».proof.Proof.Gen.FfnERefIdeal.Run
public import proofs.«01_k».proof.Proof.Gen.FfnESRefIdeal.Run
public import proofs.«01_k».proof.Proof.Gen.FfnSRefIdeal.Run
public import proofs.«01_k».proof.Proof.Gen.FfnERefIdeal.Read
public import proofs.«01_k».proof.Proof.Gen.FfnESRefIdeal.Read
public import proofs.«01_k».proof.Proof.Gen.FfnSRefIdeal.Read
public import proofs.«01_k».proof.Proof.Gen.Odd.Frame
public import proofs.«01_k».proof.Proof.Gen.Odd.Launch
public import proofs.«01_k».proof.Proof.Gen.Odd.Points
public import proofs.«01_k».proof.Proof.Gen.Odd.Skeleton
public import proofs.«01_k».proof.Proof.Gen.OddIdeal.Frame
public import proofs.«01_k».proof.Proof.Gen.OddIdeal.Launch
public import proofs.«01_k».proof.Proof.Gen.OddIdeal.Points
public import proofs.«01_k».proof.Proof.Gen.OddIdeal.Skeleton
public import proofs.«01_k».proof.Proof.Gen.OddIdeal.Value
public import proofs.«01_k».proof.Proof.Gen.OddRefIdeal.Run
public import proofs.«01_k».proof.Proof.Gen.OddRefIdeal.Read
public import proofs.«01_k».proof.Proof.Gen.OutS.Frame
public import proofs.«01_k».proof.Proof.Gen.Out.Frame
public import proofs.«01_k».proof.Proof.Gen.OutS.Launch
public import proofs.«01_k».proof.Proof.Gen.Out.Launch
public import proofs.«01_k».proof.Proof.Gen.OutS.Points
public import proofs.«01_k».proof.Proof.Gen.Out.Points
public import proofs.«01_k».proof.Proof.Gen.OutS.Skeleton
public import proofs.«01_k».proof.Proof.Gen.Out.Skeleton
public import proofs.«01_k».proof.Proof.Gen.OutSIdeal.Frame
public import proofs.«01_k».proof.Proof.Gen.OutIdeal.Frame
public import proofs.«01_k».proof.Proof.Gen.OutSIdeal.Launch
public import proofs.«01_k».proof.Proof.Gen.OutIdeal.Launch
public import proofs.«01_k».proof.Proof.Gen.OutSIdeal.Points
public import proofs.«01_k».proof.Proof.Gen.OutIdeal.Points
public import proofs.«01_k».proof.Proof.Gen.OutSIdeal.Skeleton
public import proofs.«01_k».proof.Proof.Gen.OutIdeal.Skeleton
public import proofs.«01_k».proof.Proof.Gen.OutSIdeal.Value
public import proofs.«01_k».proof.Proof.Gen.OutIdeal.Value
public import proofs.«01_k».proof.Proof.Gen.OutSRefIdeal.Run
public import proofs.«01_k».proof.Proof.Gen.OutRefIdeal.Run
public import proofs.«01_k».proof.Proof.Gen.OutSRefIdeal.Read
public import proofs.«01_k».proof.Proof.Gen.OutRefIdeal.Read
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Pre_bias_above_mask
public import proofs.«01_k».proof.Proof.Gen.SwaIdeal.Value
public import proofs.«01_k».proof.Proof.Gen.FfnIdeal.Value
public import proofs.«01_k».proof.Proof.Gen.ProjIdeal.Value
public import proofs.«01_k».proof.Proof.Gen.SwaRefIdeal.Run
public import proofs.«01_k».proof.Proof.Gen.SwaRefIdeal.Read
public import proofs.«01_k».proof.Proof.Gen.FfnRefIdeal.Run
public import proofs.«01_k».proof.Proof.Gen.FfnRefIdeal.Read
public import proofs.«01_k».proof.Proof.Gen.ProjRefIdeal.Run
public import proofs.«01_k».proof.Proof.Gen.ProjRefIdeal.Read
public import proofs.«01_k».proof.Proof.Swa.Claims
public import proofs.«01_k».proof.Proof.Ffn.Claims
public import proofs.«01_k».proof.Proof.Proj.Claims
public import proofs.«01_k».proof.Proof.Odd.Claims
public import proofs.«01_k».proof.Proof.OutS.Claims
public import proofs.«01_k».proof.Proof.Out.Claims
public import proofs.«01_k».proof.Proof.ProjS.Claims
public import proofs.«01_k».proof.Proof.OddS.Claims
public import proofs.«01_k».proof.Proof.FfnE.Claims
public import proofs.«01_k».proof.Proof.FfnES.Claims
public import proofs.«01_k».proof.Proof.Gen.Post.Frame
public import proofs.«01_k».proof.Proof.Gen.Post.Launch
public import proofs.«01_k».proof.Proof.Gen.Post.Points
public import proofs.«01_k».proof.Proof.Gen.Post.Skeleton
public import proofs.«01_k».proof.Proof.Gen.PostIdeal.Frame
public import proofs.«01_k».proof.Proof.Gen.PostIdeal.Launch
public import proofs.«01_k».proof.Proof.Gen.PostIdeal.Points
public import proofs.«01_k».proof.Proof.Gen.PostIdeal.Skeleton
public import proofs.«01_k».proof.Proof.Gen.PostIdeal.Value
public import proofs.«01_k».proof.Proof.Gen.PostRefIdeal.Run
public import proofs.«01_k».proof.Proof.Gen.PostRefIdeal.Read
public import proofs.«01_k».proof.Proof.Post.Claims
public import proofs.«01_k».proof.Proof.Gen.PostS.Frame
public import proofs.«01_k».proof.Proof.Gen.PostS.Launch
public import proofs.«01_k».proof.Proof.Gen.PostS.Points
public import proofs.«01_k».proof.Proof.Gen.PostS.Skeleton
public import proofs.«01_k».proof.Proof.Gen.PostSIdeal.Frame
public import proofs.«01_k».proof.Proof.Gen.PostSIdeal.Launch
public import proofs.«01_k».proof.Proof.Gen.PostSIdeal.Points
public import proofs.«01_k».proof.Proof.Gen.PostSIdeal.Skeleton
public import proofs.«01_k».proof.Proof.Gen.PostSIdeal.Value
public import proofs.«01_k».proof.Proof.Gen.PostSRefIdeal.Run
public import proofs.«01_k».proof.Proof.Gen.PostSRefIdeal.Read
public import proofs.«01_k».proof.Proof.PostS.Claims
public import proofs.«01_k».proof.Proof.Gen.Prep.Launch
public import proofs.«01_k».proof.Proof.Gen.Prep.Points
public import proofs.«01_k».proof.Proof.Gen.Prep.Skeleton
public import proofs.«01_k».proof.Proof.Gen.PrepIdeal.Launch
public import proofs.«01_k».proof.Proof.Gen.PrepIdeal.Points
public import proofs.«01_k».proof.Proof.Gen.PrepIdeal.Skeleton
public import proofs.«01_k».proof.Proof.Gen.PrepRefIdeal.Run
public import proofs.«01_k».proof.Proof.Gen.PrepRefIdeal.Read
public import proofs.«01_k».proof.Proof.Prep.Claims
public import proofs.«01_k».proof.Proof.Prep.FrameBits
public import proofs.«01_k».proof.Proof.FfnS.Claims

/-! The certificate's claim, put together from the modules of each call. -/

@[expose] public section

noncomputable section

namespace Cert.Proof

open Idealize.ShloMosaic Idealize.SL.Sem

/-- Everything the certificate claims. -/
theorem claim : Cert.Claim :=
  ⟨Cert.Swa.Gen.facts, Cert.SwaIdeal.Gen.facts, Cert.SwaRefIdeal.Gen.facts, Cert.Ffn.Gen.facts, Cert.FfnIdeal.Gen.facts, Cert.FfnRefIdeal.Gen.facts,
    Cert.Proj.Gen.facts, Cert.ProjIdeal.Gen.facts, Cert.ProjRefIdeal.Gen.facts,
    Cert.Odd.Gen.facts, Cert.OddIdeal.Gen.facts, Cert.OddRefIdeal.Gen.facts, Cert.Out.Gen.facts, Cert.OutIdeal.Gen.facts, Cert.OutRefIdeal.Gen.facts,
    Cert.FfnS.Gen.facts, Cert.FfnSIdeal.Gen.facts, Cert.FfnSRefIdeal.Gen.facts,
    Cert.ProjS.Gen.facts, Cert.ProjSIdeal.Gen.facts, Cert.ProjSRefIdeal.Gen.facts,
    Cert.OddS.Gen.facts, Cert.OddSIdeal.Gen.facts, Cert.OddSRefIdeal.Gen.facts,
    Cert.OutS.Gen.facts, Cert.OutSIdeal.Gen.facts, Cert.OutSRefIdeal.Gen.facts,
    Cert.FfnE.Gen.facts, Cert.FfnEIdeal.Gen.facts, Cert.FfnERefIdeal.Gen.facts,
    Cert.FfnES.Gen.facts, Cert.FfnESIdeal.Gen.facts, Cert.FfnESRefIdeal.Gen.facts,
    Cert.Post.Gen.facts, Cert.PostIdeal.Gen.facts, Cert.PostRefIdeal.Gen.facts,
    Cert.PostS.Gen.facts, Cert.PostSIdeal.Gen.facts, Cert.PostSRefIdeal.Gen.facts,
    Cert.Prep.Gen.facts, Cert.PrepIdeal.Gen.facts, Cert.PrepRefIdeal.Gen.facts, Swa.pre_facts, Post.pre_facts, PostS.pre_facts, Prep.pre_facts,
    fun m g _ => Cert.Swa.Gen.frame m g, fun m g _ => Cert.SwaIdeal.Gen.frame m g, fun m g _ => Cert.SwaIdeal.Gen.frame m g,
    fun m g _ => Swa.frame_ref m g, fun m g _ => Swa.frame_ref m g,
    fun m g _ => Cert.Ffn.Gen.frame m g, fun m g _ => Cert.FfnIdeal.Gen.frame m g, fun m g _ => Ffn.frame_ref m g,
    fun m g _ => Cert.Proj.Gen.frame m g, fun m g _ => Cert.ProjIdeal.Gen.frame m g, fun m g _ => Proj.frame_ref m g,
    fun m g _ => Cert.Odd.Gen.frame m g, fun m g _ => Cert.OddIdeal.Gen.frame m g, fun m g _ => Odd.frame_ref m g,
    fun m g _ => Cert.Out.Gen.frame m g, fun m g _ => Cert.OutIdeal.Gen.frame m g, fun m g _ => Out.frame_ref m g,
    fun m g _ => Cert.FfnS.Gen.frame m g, fun m g _ => Cert.FfnSIdeal.Gen.frame m g, fun m g _ => FfnS.frame_ref m g,
    fun m g _ => Cert.ProjS.Gen.frame m g, fun m g _ => Cert.ProjSIdeal.Gen.frame m g, fun m g _ => ProjS.frame_ref m g,
    fun m g _ => Cert.OddS.Gen.frame m g, fun m g _ => Cert.OddSIdeal.Gen.frame m g, fun m g _ => OddS.frame_ref m g,
    fun m g _ => Cert.OutS.Gen.frame m g, fun m g _ => Cert.OutSIdeal.Gen.frame m g, fun m g _ => OutS.frame_ref m g,
    fun m g _ => Cert.FfnE.Gen.frame m g, fun m g _ => Cert.FfnEIdeal.Gen.frame m g, fun m g _ => FfnE.frame_ref m g,
    fun m g _ => Cert.FfnES.Gen.frame m g, fun m g _ => Cert.FfnESIdeal.Gen.frame m g, fun m g _ => FfnES.frame_ref m g,
    fun m g _ => Cert.Post.Gen.frame m g, fun m g _ => Cert.PostIdeal.Gen.frame m g, fun m g _ => Cert.PostIdeal.Gen.frame m g,
    fun m g _ => Post.frame_ref m g, fun m g _ => Post.frame_ref m g,
    fun m g _ => Cert.PostS.Gen.frame m g, fun m g _ => Cert.PostSIdeal.Gen.frame m g, fun m g _ => Cert.PostSIdeal.Gen.frame m g,
    fun m g _ => PostS.frame_ref m g, fun m g _ => PostS.frame_ref m g,
    fun m g _ => Cert.Prep.Gen.frame m g, fun m g _ => Cert.PrepIdeal.Gen.frame m g, fun m g _ => Cert.PrepIdeal.Gen.frame m g,
    fun m g _ => Prep.frame_ref m g, fun m g _ => Prep.frame_ref m g,
    trivial, Swa.algebraic, trivial, Ffn.algebraic, trivial, Proj.algebraic, trivial, Odd.algebraic, trivial, Out.algebraic,
    trivial, FfnS.algebraic, trivial, ProjS.algebraic, trivial, OddS.algebraic,
    trivial, OutS.algebraic, trivial, FfnE.algebraic, trivial, FfnES.algebraic, trivial, Post.algebraic, trivial, PostS.algebraic, trivial, Prep.algebraic⟩

end Cert.Proof

end
